-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite3 [hPre_finite3 : Cert.Pre_finite3.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite3.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite3 [hPre_finite3 : Cert.Pre_finite3.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite3.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite3 [hPre_finite3 : Cert.Pre_finite3.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite3.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite3 [hPre_finite3 : Cert.Pre_finite3.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite3.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_finite3 [hPre_finite3 : Cert.Pre_finite3.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_finite3.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_finite3 [hPre_finite3 : Cert.Pre_finite3.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_finite3.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite3 [hPre_finite3 : Cert.Pre_finite3.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite3.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite3 [hPre_finite3 : Cert.Pre_finite3.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite3.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Kernel7Ideal_finite7 [hPre_finite7 : Cert.Pre_finite7.Facts] (m : (ℓ : Loc Cert.Kernel7Ideal.nD Cert.Kernel7Ideal.τ Cert.Kernel7Ideal.sig) → Buf (Elt Ideal) ℓ) : Prop :=
  ∀ c : Dev Cert.Kernel7Ideal.nD,
    (Cert.Pre_finite7.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1)) (m ((c.tc : Thread Cert.Kernel7Ideal.nD Cert.Kernel7Ideal.τ).loc Cert.Kernel7Ideal.main_arg2)) (m ((c.tc : Thread Cert.Kernel7Ideal.nD Cert.Kernel7Ideal.τ).loc Cert.Kernel7Ideal.main_arg3)) (m ((c.tc : Thread Cert.Kernel7Ideal.nD Cert.Kernel7Ideal.τ).loc Cert.Kernel7Ideal.main_arg4)) (m ((c.tc : Thread Cert.Kernel7Ideal.nD Cert.Kernel7Ideal.τ).loc Cert.Kernel7Ideal.main_arg5)) (m ((c.tc : Thread Cert.Kernel7Ideal.nD Cert.Kernel7Ideal.τ).loc Cert.Kernel7Ideal.main_arg6)) (m ((c.tc : Thread Cert.Kernel7Ideal.nD Cert.Kernel7Ideal.τ).loc Cert.Kernel7Ideal.main_arg7)) (m ((c.tc : Thread Cert.Kernel7Ideal.nD Cert.Kernel7Ideal.τ).loc Cert.Kernel7Ideal.main_arg8))) = (fun _ => 1#1)

def Pre_Reference7Ideal (m : (ℓ : Loc Cert.Reference7Ideal.nD Cert.Reference7Ideal.τ Cert.Reference7Ideal.sig) → Buf (Elt Ideal) ℓ) : Prop :=
  True

def Pre_Reference7Ideal_finite7 [hPre_finite7 : Cert.Pre_finite7.Facts] (m : (ℓ : Loc Cert.Reference7Ideal.nD Cert.Reference7Ideal.τ Cert.Reference7Ideal.sig) → Buf (Elt Ideal) ℓ) : Prop :=
  ∀ c : Dev Cert.Reference7Ideal.nD,
    (Cert.Pre_finite7.fn (F := Ideal) (m ((c.tc : Thread Cert.Reference7Ideal.nD Cert.Reference7Ideal.τ).loc Cert.Reference7Ideal.main_arg0)) (m ((c.tc : Thread Cert.Reference7Ideal.nD Cert.Reference7Ideal.τ).loc Cert.Reference7Ideal.main_arg1)) (m ((c.tc : Thread Cert.Reference7Ideal.nD Cert.Reference7Ideal.τ).loc Cert.Reference7Ideal.main_arg2)) (m ((c.tc : Thread Cert.Reference7Ideal.nD Cert.Reference7Ideal.τ).loc Cert.Reference7Ideal.main_arg3)) (m ((c.tc : Thread Cert.Reference7Ideal.nD Cert.Reference7Ideal.τ).loc Cert.Reference7Ideal.main_arg4)) (m ((c.tc : Thread Cert.Reference7Ideal.nD Cert.Reference7Ideal.τ).loc Cert.Reference7Ideal.main_arg5)) (m ((c.tc : Thread Cert.Reference7Ideal.nD Cert.Reference7Ideal.τ).loc Cert.Reference7Ideal.main_arg6)) (m ((c.tc : Thread Cert.Reference7Ideal.nD Cert.Reference7Ideal.τ).loc Cert.Reference7Ideal.main_arg7)) (m ((c.tc : Thread Cert.Reference7Ideal.nD Cert.Reference7Ideal.τ).loc Cert.Reference7Ideal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_finite3 [hKernel3Ideal : Cert.Kernel3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite3 m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_finite3 [hReference3Ideal : Cert.Reference3Ideal.Facts] [hPre_finite3 : Cert.Pre_finite3.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite3 m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Kernel4Ideal_pre_finite3 [hKernel4Ideal : Cert.Kernel4Ideal.Facts] [hPre_finite3 : Cert.Pre_finite3.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite3 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Reference4Ideal_pre_finite3 [hReference4Ideal : Cert.Reference4Ideal.Facts] [hPre_finite3 : Cert.Pre_finite3.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite3 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_finite3 [hKernel5Ideal : Cert.Kernel5Ideal.Facts] [hPre_finite3 : Cert.Pre_finite3.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_finite3 m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_finite3 [hReference5Ideal : Cert.Reference5Ideal.Facts] [hPre_finite3 : Cert.Pre_finite3.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_finite3 m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite3 [hKernel6Ideal : Cert.Kernel6Ideal.Facts] [hPre_finite3 : Cert.Pre_finite3.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite3 m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite3 [hReference6Ideal : Cert.Reference6Ideal.Facts] [hPre_finite3 : Cert.Pre_finite3.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite3 m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5)
      ∧ r.2.mem ((c.tc : Thread Cert.Kernel7.nD Cert.Kernel7.τ).loc Cert.Kernel7.main_arg6) = m ((c.tc : Thread Cert.Kernel7.nD Cert.Kernel7.τ).loc Cert.Kernel7.main_arg6)
      ∧ r.2.mem ((c.tc : Thread Cert.Kernel7.nD Cert.Kernel7.τ).loc Cert.Kernel7.main_arg7) = m ((c.tc : Thread Cert.Kernel7.nD Cert.Kernel7.τ).loc Cert.Kernel7.main_arg7)
      ∧ r.2.mem ((c.tc : Thread Cert.Kernel7.nD Cert.Kernel7.τ).loc Cert.Kernel7.main_arg8) = m ((c.tc : Thread Cert.Kernel7.nD Cert.Kernel7.τ).loc Cert.Kernel7.main_arg8))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Kernel7Ideal_pre_finite7 [hKernel7Ideal : Cert.Kernel7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal_finite7 m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
      ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
      ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
      ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def quiescent_Reference7Ideal_pre_finite7 [hReference7Ideal : Cert.Reference7Ideal.Facts] [hPre_finite7 : Cert.Pre_finite7.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal_finite7 m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5)
      ∧ r.2.mem ((c.tc : Thread Cert.Reference7Ideal.nD Cert.Reference7Ideal.τ).loc Cert.Reference7Ideal.main_arg6) = m ((c.tc : Thread Cert.Reference7Ideal.nD Cert.Reference7Ideal.τ).loc Cert.Reference7Ideal.main_arg6)
      ∧ r.2.mem ((c.tc : Thread Cert.Reference7Ideal.nD Cert.Reference7Ideal.τ).loc Cert.Reference7Ideal.main_arg7) = m ((c.tc : Thread Cert.Reference7Ideal.nD Cert.Reference7Ideal.τ).loc Cert.Reference7Ideal.main_arg7)
      ∧ r.2.mem ((c.tc : Thread Cert.Reference7Ideal.nD Cert.Reference7Ideal.τ).loc Cert.Reference7Ideal.main_arg8) = m ((c.tc : Thread Cert.Reference7Ideal.nD Cert.Reference7Ideal.τ).loc Cert.Reference7Ideal.main_arg8))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite3 [hKernel3Ideal : Cert.Kernel3Ideal.Facts] [hReference3Ideal : Cert.Reference3Ideal.Facts] [hPre_finite3 : Cert.Pre_finite3.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite3 m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v12)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v12) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v46) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  IdealRules.named_const.Statement Cert.Kernel4Ideal.κ "root" .f32 0x413504F3#32 ((Real.sqrt 128 : ℝ) : EReal)

def algebraic_Kernel4Ideal_Reference4Ideal_pre_finite3 [hKernel4Ideal : Cert.Kernel4Ideal.Facts] [hReference4Ideal : Cert.Reference4Ideal.Facts] [hPre_finite3 : Cert.Pre_finite3.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite3 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v10)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v10) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v46) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  IdealRules.named_const.Statement Cert.Kernel5Ideal.κ "root" .f32 0x413504F3#32 ((Real.sqrt 128 : ℝ) : EReal)

def algebraic_Kernel5Ideal_Reference5Ideal_pre_finite3 [hKernel5Ideal : Cert.Kernel5Ideal.Facts] [hReference5Ideal : Cert.Reference5Ideal.Facts] [hPre_finite3 : Cert.Pre_finite3.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_finite3 m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v10)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v10) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v47) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  IdealRules.named_const.Statement Cert.Kernel6Ideal.κ "root" .f32 0x413504F3#32 ((Real.sqrt 128 : ℝ) : EReal)

def algebraic_Kernel6Ideal_Reference6Ideal_pre_finite3 [hKernel6Ideal : Cert.Kernel6Ideal.Facts] [hReference6Ideal : Cert.Reference6Ideal.Facts] [hPre_finite3 : Cert.Pre_finite3.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite3 m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v10)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v10) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v47) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  IdealRules.named_const.Statement Cert.Kernel7Ideal.κ "eps" .f32 0x38C9539C#32 ((26388279 * 274877906944⁻¹ : ℝ) : EReal)
  ∧ IdealRules.named_const.Statement Cert.Kernel7Ideal.κ "root" .f32 0x411CC471#32 ((Real.sqrt 96 : ℝ) : EReal)

def algebraic_Kernel7Ideal_Reference7Ideal_pre_finite7 [hKernel7Ideal : Cert.Kernel7Ideal.Facts] [hReference7Ideal : Cert.Reference7Ideal.Facts] [hPre_finite7 : Cert.Pre_finite7.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal_finite7 m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)
      ∧ m' ((c.tc : Thread Cert.Reference7Ideal.nD Cert.Reference7Ideal.τ).loc Cert.Reference7Ideal.main_arg6) = m ((c.tc : Thread Cert.Kernel7Ideal.nD Cert.Kernel7Ideal.τ).loc Cert.Kernel7Ideal.main_arg6)
      ∧ m' ((c.tc : Thread Cert.Reference7Ideal.nD Cert.Reference7Ideal.τ).loc Cert.Reference7Ideal.main_arg7) = m ((c.tc : Thread Cert.Kernel7Ideal.nD Cert.Kernel7Ideal.τ).loc Cert.Kernel7Ideal.main_arg7)
      ∧ m' ((c.tc : Thread Cert.Reference7Ideal.nD Cert.Reference7Ideal.τ).loc Cert.Reference7Ideal.main_arg8) = m ((c.tc : Thread Cert.Kernel7Ideal.nD Cert.Kernel7Ideal.τ).loc Cert.Kernel7Ideal.main_arg8)) →
    ∃ (v0 : (c : Dev Cert.Kernel7Ideal.nD) → Buf (Elt Ideal) ((c.tc : Thread Cert.Kernel7Ideal.nD Cert.Kernel7Ideal.τ).loc Cert.Kernel7Ideal.main_v80_0)) (v1 : (c : Dev Cert.Kernel7Ideal.nD) → Buf (Elt Ideal) ((c.tc : Thread Cert.Kernel7Ideal.nD Cert.Kernel7Ideal.τ).loc Cert.Kernel7Ideal.main_v80_1)) (v2 : (c : Dev Cert.Kernel7Ideal.nD) → Buf (Elt Ideal) ((c.tc : Thread Cert.Kernel7Ideal.nD Cert.Kernel7Ideal.τ).loc Cert.Kernel7Ideal.main_v80_2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v80_0) = v0 c
          ∧ r.2.mem ((c.tc : Thread Cert.Kernel7Ideal.nD Cert.Kernel7Ideal.τ).loc Cert.Kernel7Ideal.main_v80_1) = v1 c
          ∧ r.2.mem ((c.tc : Thread Cert.Kernel7Ideal.nD Cert.Kernel7Ideal.τ).loc Cert.Kernel7Ideal.main_v80_2) = v2 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5)
          ∧ r.2.mem ((c.tc : Thread Cert.Kernel7Ideal.nD Cert.Kernel7Ideal.τ).loc Cert.Kernel7Ideal.main_arg6) = m ((c.tc : Thread Cert.Kernel7Ideal.nD Cert.Kernel7Ideal.τ).loc Cert.Kernel7Ideal.main_arg6)
          ∧ r.2.mem ((c.tc : Thread Cert.Kernel7Ideal.nD Cert.Kernel7Ideal.τ).loc Cert.Kernel7Ideal.main_arg7) = m ((c.tc : Thread Cert.Kernel7Ideal.nD Cert.Kernel7Ideal.τ).loc Cert.Kernel7Ideal.main_arg7)
          ∧ r.2.mem ((c.tc : Thread Cert.Kernel7Ideal.nD Cert.Kernel7Ideal.τ).loc Cert.Kernel7Ideal.main_arg8) = m ((c.tc : Thread Cert.Kernel7Ideal.nD Cert.Kernel7Ideal.τ).loc Cert.Kernel7Ideal.main_arg8))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v102) = v0 c
          ∧ r.2.mem ((c.tc : Thread Cert.Reference7Ideal.nD Cert.Reference7Ideal.τ).loc Cert.Reference7Ideal.main_v149) = v1 c
          ∧ r.2.mem ((c.tc : Thread Cert.Reference7Ideal.nD Cert.Reference7Ideal.τ).loc Cert.Reference7Ideal.main_v153) = v2 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5)
          ∧ r.2.mem ((c.tc : Thread Cert.Reference7Ideal.nD Cert.Reference7Ideal.τ).loc Cert.Reference7Ideal.main_arg6) = m' ((c.tc : Thread Cert.Reference7Ideal.nD Cert.Reference7Ideal.τ).loc Cert.Reference7Ideal.main_arg6)
          ∧ r.2.mem ((c.tc : Thread Cert.Reference7Ideal.nD Cert.Reference7Ideal.τ).loc Cert.Reference7Ideal.main_arg7) = m' ((c.tc : Thread Cert.Reference7Ideal.nD Cert.Reference7Ideal.τ).loc Cert.Reference7Ideal.main_arg7)
          ∧ r.2.mem ((c.tc : Thread Cert.Reference7Ideal.nD Cert.Reference7Ideal.τ).loc Cert.Reference7Ideal.main_arg8) = m' ((c.tc : Thread Cert.Reference7Ideal.nD Cert.Reference7Ideal.τ).loc Cert.Reference7Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_finite3 : Cert.Pre_finite3.Facts) (hPre_finite7 : Cert.Pre_finite7.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Kernel3Ideal_pre_finite3 (hKernel3Ideal := hKernel3Ideal) (hPre_finite3 := hPre_finite3)
    ∧ quiescent_Reference3Ideal (hReference3Ideal := hReference3Ideal)
    ∧ quiescent_Reference3Ideal_pre_finite3 (hReference3Ideal := hReference3Ideal) (hPre_finite3 := hPre_finite3)
    ∧ quiescent_Kernel4 (hKernel4 := hKernel4)
    ∧ quiescent_Kernel4Ideal (hKernel4Ideal := hKernel4Ideal)
    ∧ quiescent_Kernel4Ideal_pre_finite3 (hKernel4Ideal := hKernel4Ideal) (hPre_finite3 := hPre_finite3)
    ∧ quiescent_Reference4Ideal (hReference4Ideal := hReference4Ideal)
    ∧ quiescent_Reference4Ideal_pre_finite3 (hReference4Ideal := hReference4Ideal) (hPre_finite3 := hPre_finite3)
    ∧ quiescent_Kernel5 (hKernel5 := hKernel5)
    ∧ quiescent_Kernel5Ideal (hKernel5Ideal := hKernel5Ideal)
    ∧ quiescent_Kernel5Ideal_pre_finite3 (hKernel5Ideal := hKernel5Ideal) (hPre_finite3 := hPre_finite3)
    ∧ quiescent_Reference5Ideal (hReference5Ideal := hReference5Ideal)
    ∧ quiescent_Reference5Ideal_pre_finite3 (hReference5Ideal := hReference5Ideal) (hPre_finite3 := hPre_finite3)
    ∧ quiescent_Kernel6 (hKernel6 := hKernel6)
    ∧ quiescent_Kernel6Ideal (hKernel6Ideal := hKernel6Ideal)
    ∧ quiescent_Kernel6Ideal_pre_finite3 (hKernel6Ideal := hKernel6Ideal) (hPre_finite3 := hPre_finite3)
    ∧ quiescent_Reference6Ideal (hReference6Ideal := hReference6Ideal)
    ∧ quiescent_Reference6Ideal_pre_finite3 (hReference6Ideal := hReference6Ideal) (hPre_finite3 := hPre_finite3)
    ∧ quiescent_Kernel7 (hKernel7 := hKernel7)
    ∧ quiescent_Kernel7Ideal (hKernel7Ideal := hKernel7Ideal)
    ∧ quiescent_Kernel7Ideal_pre_finite7 (hKernel7Ideal := hKernel7Ideal) (hPre_finite7 := hPre_finite7)
    ∧ quiescent_Reference7Ideal (hReference7Ideal := hReference7Ideal)
    ∧ quiescent_Reference7Ideal_pre_finite7 (hReference7Ideal := hReference7Ideal) (hPre_finite7 := hPre_finite7)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal_pre_finite3 (hKernel3Ideal := hKernel3Ideal) (hReference3Ideal := hReference3Ideal) (hPre_finite3 := hPre_finite3)
    ∧ preserves_Kernel4_Kernel4Ideal
    ∧ algebraic_Kernel4Ideal_Reference4Ideal_pre_finite3 (hKernel4Ideal := hKernel4Ideal) (hReference4Ideal := hReference4Ideal) (hPre_finite3 := hPre_finite3)
    ∧ preserves_Kernel5_Kernel5Ideal
    ∧ algebraic_Kernel5Ideal_Reference5Ideal_pre_finite3 (hKernel5Ideal := hKernel5Ideal) (hReference5Ideal := hReference5Ideal) (hPre_finite3 := hPre_finite3)
    ∧ preserves_Kernel6_Kernel6Ideal
    ∧ algebraic_Kernel6Ideal_Reference6Ideal_pre_finite3 (hKernel6Ideal := hKernel6Ideal) (hReference6Ideal := hReference6Ideal) (hPre_finite3 := hPre_finite3)
    ∧ preserves_Kernel7_Kernel7Ideal
    ∧ algebraic_Kernel7Ideal_Reference7Ideal_pre_finite7 (hKernel7Ideal := hKernel7Ideal) (hReference7Ideal := hReference7Ideal) (hPre_finite7 := hPre_finite7)
-- ==== Pre_finite.lean ====
abbrev S65536x2048 : Shape := ⟨2, ![65536, 2048]⟩
abbrev S256x1024x256 : Shape := ⟨3, ![256, 1024, 256]⟩
abbrev S_ : Shape := ⟨0, ![]⟩

class Facts : Prop where
  bitsLt_bf16_f32 : FTy.bits .bf16 < FTy.bits .f32
  bcast_S_S65536x2048 : S_.BroadcastsInDim S65536x2048 (![] : Fin 0 → Fin S65536x2048.rank)
  reducesTo_S65536x2048_S_d0_1 : S65536x2048.ReducesTo [0, 1] S_
  h_S_ : 0 < S_.numel

variable [Facts]

def fn {F : FTy → Type} [FloatOps F] (main_arg0 : FVec F S65536x2048 .bf16) (main_arg1 : FVec F S65536x2048 .bf16) (main_arg2 : FVec F S256x1024x256 .bf16) : IVec S_ 1 :=
  let main_v0 : FVec F S65536x2048 .f32 := (extf .f32 · bitsLt_bf16_f32) main_arg0
  let main_v1 : FVec F S65536x2048 .f32 := Host.absf main_v0
  let main_cst : FVec F S_ .f32 := constant S_ .f32 0x7F800000#32
  let main_v2 : FVec F S65536x2048 .f32 := broadcastInDim S65536x2048 ![] bcast_S_S65536x2048 main_cst
  let main_v3 : IVec S65536x2048 1 := cmpf .olt main_v1 main_v2
  let main_c : IVec S_ 1 := constantI S_ 1 1#1
  let main_v4 : IVec S_ 1 := (fun x v => Host.reduce IntOp.andi x v reducesTo_S65536x2048_S_d0_1 h_S_) main_v3 main_c
  let main_v5 : FVec F S65536x2048 .f32 := (extf .f32 · bitsLt_bf16_f32) main_arg1
  let main_v6 : FVec F S65536x2048 .f32 := Host.absf main_v5
  let main_cst_0 : FVec F S_ .f32 := constant S_ .f32 0x7F800000#32
  let main_v7 : FVec F S65536x2048 .f32 := broadcastInDim S65536x2048 ![] bcast_S_S65536x2048 main_cst_0
  let main_v8 : IVec S65536x2048 1 := cmpf .olt main_v6 main_v7
  let main_c_1 : IVec S_ 1 := constantI S_ 1 1#1
  let main_v9 : IVec S_ 1 := (fun x v => Host.reduce IntOp.andi x v reducesTo_S65536x2048_S_d0_1 h_S_) main_v8 main_c_1
  let main_v10 : IVec S_ 1 := andi main_v4 main_v9
  main_v10
-- ==== Pre_finite3.lean ====
abbrev S65536x1024 : Shape := ⟨2, ![65536, 1024]⟩
abbrev S1024 : Shape := ⟨1, ![1024]⟩
abbrev S1024x3072 : Shape := ⟨2, ![1024, 3072]⟩
abbrev S2x1024 : Shape := ⟨2, ![2, 1024]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bitsLt_bf16_f32 : FTy.bits .bf16 < FTy.bits .f32
  bcast_S_S1024x3072 : S_.BroadcastsInDim S1024x3072 (![] : Fin 0 → Fin S1024x3072.rank)
  reducesTo_S1024x3072_S_d0_1 : S1024x3072.ReducesTo [0, 1] S_

variable [Facts]

def fn {F : FTy → Type} [FloatOps F] (main_arg0 : FVec F S65536x1024 .f32) (main_arg1 : FVec F S1024 .f32) (main_arg2 : FVec F S1024x3072 .bf16) (main_arg3 : FVec F S2x1024 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x3072 .f32 := (extf .f32 · bitsLt_bf16_f32) main_arg2
  let main_v5 : FVec F S1024x3072 .f32 := Host.absf main_v4
  let main_cst_0 : FVec F S_ .f32 := constant S_ .f32 0x7F800000#32
  let main_v6 : FVec F S1024x3072 .f32 := broadcastInDim S1024x3072 ![] bcast_S_S1024x3072 main_cst_0
  let main_v7 : IVec S1024x3072 1 := cmpf .olt main_v5 main_v6
  let main_c_1 : IVec S_ 1 := constantI S_ 1 1#1
  let main_v8 : IVec S_ 1 := (fun x v => Host.reduce IntOp.andi x v reducesTo_S1024x3072_S_d0_1 h_S_) main_v7 main_c_1
  let main_v9 : IVec S_ 1 := andi main_v3 main_v8
  main_v9
-- ==== Pre_finite7.lean ====
abbrev S65536x1024 : Shape := ⟨2, ![65536, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S96 : Shape := ⟨1, ![96]⟩
abbrev S_ : Shape := ⟨0, ![]⟩

class Facts : Prop where
  bcast_S_S1024 : S_.BroadcastsInDim S1024 (![] : Fin 0 → Fin S1024.rank)
  reducesTo_S1024_S_d0 : S1024.ReducesTo [0] S_
  h_S_ : 0 < S_.numel
  bcast_S_S1024x672 : S_.BroadcastsInDim S1024x672 (![] : Fin 0 → Fin S1024x672.rank)
  reducesTo_S1024x672_S_d0_1 : S1024x672.ReducesTo [0, 1] S_
  bcast_S_S384 : S_.BroadcastsInDim S384 (![] : Fin 0 → Fin S384.rank)
  reducesTo_S384_S_d0 : S384.ReducesTo [0] S_
  bcast_S_S256 : S_.BroadcastsInDim S256 (![] : Fin 0 → Fin S256.rank)
  reducesTo_S256_S_d0 : S256.ReducesTo [0] S_
  bcast_S_S384x1536 : S_.BroadcastsInDim S384x1536 (![] : Fin 0 → Fin S384x1536.rank)
  reducesTo_S384x1536_S_d0_1 : S384x1536.ReducesTo [0, 1] S_
  bcast_S_S256x2048 : S_.BroadcastsInDim S256x2048 (![] : Fin 0 → Fin S256x2048.rank)
  reducesTo_S256x2048_S_d0_1 : S256x2048.ReducesTo [0, 1] S_

variable [Facts]

def fn_part1 {F : FTy → Type} [FloatOps F] (main_arg5 : FVec F S384x1536 .f32) (main_arg6 : FVec F S256x2048 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S384x1536 .f32 := Host.absf main_arg5
  let main_cst_6 : FVec F S_ .f32 := constant S_ .f32 0x7F800000#32
  let main_v20 : FVec F S384x1536 .f32 := broadcastInDim S384x1536 ![] bcast_S_S384x1536 main_cst_6
  let main_v21 : IVec S384x1536 1 := cmpf .olt main_v19 main_v20
  let main_c_7 : IVec S_ 1 := constantI S_ 1 1#1
  let main_v22 : IVec S_ 1 := (fun x v => Host.reduce IntOp.andi x v reducesTo_S384x1536_S_d0_1 h_S_) main_v21 main_c_7
  let main_v23 : IVec S_ 1 := andi main_v18 main_v22
  let main_v24 : FVec F S256x2048 .f32 := Host.absf main_arg6
  let main_cst_8 : FVec F S_ .f32 := constant S_ .f32 0x7F800000#32
  let main_v25 : FVec F S256x2048 .f32 := broadcastInDim S256x2048 ![] bcast_S_S256x2048 main_cst_8
  let main_v26 : IVec S256x2048 1 := cmpf .olt main_v24 main_v25
  let main_c_9 : IVec S_ 1 := constantI S_ 1 1#1
  let main_v27 : IVec S_ 1 := (fun x v => Host.reduce IntOp.andi x v reducesTo_S256x2048_S_d0_1 h_S_) main_v26 main_c_9
  let main_v28 : IVec S_ 1 := andi main_v23 main_v27
  main_v28

def fn {F : FTy → Type} [FloatOps F] (main_arg0 : FVec F S65536x1024 .f32) (main_arg1 : FVec F S1024 .f32) (main_arg2 : FVec F S1024x672 .f32) (main_arg3 : FVec F S384 .f32) (main_arg4 : FVec F S256 .f32) (main_arg5 : FVec F S384x1536 .f32) (main_arg6 : FVec F S256x2048 .f32) (main_arg7 : FVec F S96 .f32) (main_arg8 : FVec F S96 .f32) : IVec S_ 1 :=
  let main_v0 : FVec F S1024 .f32 := Host.absf main_arg1
  let main_cst : FVec F S_ .f32 := constant S_ .f32 0x7F800000#32
  let main_v1 : FVec F S1024 .f32 := broadcastInDim S1024 ![] bcast_S_S1024 main_cst
  let main_v2 : IVec S1024 1 := cmpf .olt main_v0 main_v1
  let main_c : IVec S_ 1 := constantI S_ 1 1#1
  let main_v3 : IVec S_ 1 := (fun x v => Host.reduce IntOp.andi x v reducesTo_S1024_S_d0 h_S_) main_v2 main_c
  let main_v4 : FVec F S1024x672 .f32 := Host.absf main_arg2
  let main_cst_0 : FVec F S_ .f32 := constant S_ .f32 0x7F800000#32
  let main_v5 : FVec F S1024x672 .f32 := broadcastInDim S1024x672 ![] bcast_S_S1024x672 main_cst_0
  let main_v6 : IVec S1024x672 1 := cmpf .olt main_v4 main_v5
  let main_c_1 : IVec S_ 1 := constantI S_ 1 1#1
  let main_v7 : IVec S_ 1 := (fun x v => Host.reduce IntOp.andi x v reducesTo_S1024x672_S_d0_1 h_S_) main_v6 main_c_1
  let main_v8 : IVec S_ 1 := andi main_v3 main_v7
  let main_v9 : FVec F S384 .f32 := Host.absf main_arg3
  let main_cst_2 : FVec F S_ .f32 := constant S_ .f32 0x7F800000#32
  let main_v10 : FVec F S384 .f32 := broadcastInDim S384 ![] bcast_S_S384 main_cst_2
  let main_v11 : IVec S384 1 := cmpf .olt main_v9 main_v10
  let main_c_3 : IVec S_ 1 := constantI S_ 1 1#1
  let main_v12 : IVec S_ 1 := (fun x v => Host.reduce IntOp.andi x v reducesTo_S384_S_d0 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_v13 main_v16
-- ==== Kernel.lean ====
abbrev S65536x2048 : Shape := ⟨2, ![65536, 2048]⟩
abbrev S256x1024x256 : Shape := ⟨3, ![256, 1024, 256]⟩
abbrev S16x4096x2048 : Shape := ⟨3, ![16, 4096, 2048]⟩
abbrev S16x16x1024x256 : Shape := ⟨4, ![16, 16, 1024, 256]⟩
abbrev S16x4096x1024 : Shape := ⟨3, ![16, 4096, 1024]⟩
abbrev S1x512x512 : Shape := ⟨3, ![1, 512, 512]⟩
abbrev S1x4096x512 : Shape := ⟨3, ![1, 4096, 512]⟩
abbrev S1x16x256x256 : Shape := ⟨4, ![1, 16, 256, 256]⟩
abbrev S1x512x256 : Shape := ⟨3, ![1, 512, 256]⟩
abbrev S1x512x128 : Shape := ⟨3, ![1, 512, 128]⟩
abbrev S512x128 : Shape := ⟨2, ![512, 128]⟩
abbrev S512x512 : Shape := ⟨2, ![512, 512]⟩
abbrev S1x512 : Shape := ⟨2, ![1, 512]⟩
abbrev S64x512 : Shape := ⟨2, ![64, 512]⟩
abbrev S512 : Shape := ⟨1, ![512]⟩
abbrev S1x1x64x256 : Shape := ⟨4, ![1, 1, 64, 256]⟩
abbrev S64x256 : Shape := ⟨2, ![64, 256]⟩
abbrev S256x512 : Shape := ⟨2, ![256, 512]⟩
abbrev S1x1x512 : Shape := ⟨3, ![1, 1, 512]⟩
abbrev S1 : Shape := ⟨1, ![1]⟩
abbrev S1x1x1 : Shape := ⟨3, ![1, 1, 1]⟩
abbrev S512x256 : Shape := ⟨2, ![512, 256]⟩

abbrev nBuf : Space → Nat
  | .hbm => 7
  | .vmem => 8
  | .smem => 0
  | _ => 0

abbrev bufTy : (tb : Table) → Fin (tcTables nBuf tb) → BufTy
  | .hbm, ⟨0, _⟩ => ⟨S65536x2048, .bf16⟩
  | .hbm, ⟨1, _⟩ => ⟨S65536x2048, .bf16⟩
  | .hbm, ⟨2, _⟩ => ⟨S256x1024x256, .bf16⟩
  | .hbm, ⟨3, _⟩ => ⟨S16x4096x2048, .bf16⟩
  | .hbm, ⟨4, _⟩ => ⟨S16x4096x2048, .bf16⟩
  | .hbm, ⟨5, _⟩ => ⟨S16x16x1024x256, .bf16⟩
  | .hbm, ⟨6, _⟩ => ⟨S16x4096x1024, .bf16⟩
  | .local _ .vmem, ⟨0, _⟩ => ⟨S1x512x512, .bf16⟩
  | .local _ .vmem, ⟨1, _⟩ => ⟨S1x512x512, .bf16⟩
  | .local _ .vmem, ⟨2, _⟩ => ⟨S1x4096x512, .bf16⟩
  | .local _ .vmem, ⟨3, _⟩ => ⟨S1x4096x512, .bf16⟩
  | .local _ .vmem, ⟨4, _⟩ => ⟨S1x16x256x256, .bf16⟩
  | .local _ .vmem, ⟨5, _⟩ => ⟨S1x16x256x256, .bf16⟩
  | .local _ .vmem, ⟨6, _⟩ => ⟨S1x512x256, .bf16⟩
  | .local _ .vmem, ⟨7, _⟩ => ⟨S1x512x256, .bf16⟩
  | _, _ => ⟨S65536x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨3, ![16, 4, 8], ![false, false, false]⟩

def k0_mult1 (i : grid0.Coords) : BitVec 32 :=
  let arg2 : BitVec 32 := BitVec.ofNat 32 (i 2).val
  let c512_i32 : BitVec 32 := 512#32
  let v22 : BitVec 32 := Scalar.muli arg2 c512_i32
  v22
def k0_off1 (i : grid0.Coords) : Fin 3 → Nat :=
  let c0_19 : Index := 0#32
  let arg2 : BitVec 32 := BitVec.ofNat 32 (i 2).val
  let c512_i32 : BitVec 32 := 512#32
  let v22 : BitVec 32 := Scalar.muli arg2 c512_i32
  let v23 : BitVec 32 := v22
  let v24 : Index := Scalar.indexCast v23
  let c0_20 : Index := 0#32
  ![0, v24.toNat, 0]
def k0_off2 (i : grid0.Coords) (c0_i32 : BitVec 32) : Fin 4 → Nat :=
  let c0_33 : Index := 0#32
  let arg2 : BitVec 32 := BitVec.ofNat 32 (i 2).val
  let c2_i32 : BitVec 32 := 2#32
  let v73 : BitVec 32 := Scalar.muli arg2 c2_i32
  let v74 : BitVec 32 := Scalar.addi v73 c0_i32
  let v75 : Index := Scalar.indexCast v74
  let c0_34 : Index := 0#32
  let c0_35 : Index := 0#32
  ![0, v75.toNat, 0, 0]
def k0_off3 (i : grid0.Coords) (c0_i32_45 : BitVec 32) : Fin 4 → Nat :=
  let c0_46 : Index := 0#32
  let arg2 : BitVec 32 := BitVec.ofNat 32 (i 2).val
  let c2_i32_44 : BitVec 32 := 2#32
  let v101 : BitVec 32 := Scalar.muli arg2 c2_i32_44
  let v102 : BitVec 32 := Scalar.addi v101 c0_i32_45
  let v103 : Index := Scalar.indexCast v102
  let c64 : Index := 64#32
  let c0_47 : Index := 0#32
  ![0, v103.toNat, 64, 0]
def k0_off4 (i : grid0.Coords) (c0_i32_58 : BitVec 32) : Fin 4 → Nat :=
  let c0_59 : Index := 0#32
  let arg2 : BitVec 32 := BitVec.ofNat 32 (i 2).val
  let c2_i32_57 : BitVec 32 := 2#32
  let v129 : BitVec 32 := Scalar.muli arg2 c2_i32_57
  let v130 : BitVec 32 := Scalar.addi v129 c0_i32_58
  let v131 : Index := Scalar.indexCast v130
  let c128_60 : Index := 128#32
  let c0_61 : Index := 0#32
  ![0, v131.toNat, 128, 0]
def k0_off5 (i : grid0.Coords) (c0_i32_72 : BitVec 32) : Fin 4 → Nat :=
  let c0_73 : Index := 0#32
  let arg2 : BitVec 32 := BitVec.ofNat 32 (i 2).val
  let c2_i32_71 : BitVec 32 := 2#32
  let v157 : BitVec 32 := Scalar.muli arg2 c2_i32_71
  let v158 : BitVec 32 := Scalar.addi v157 c0_i32_72
  let v159 : Index := Scalar.indexCast v158
  let c192 : Index := 192#32
  let c0_74 : Index := 0#32
  ![0, v159.toNat, 192, 0]
@[reducible] def k0_t1_loop (i : grid0.Coords) : Scf.Loop 32 :=
  let c0_i32_84 : BitVec 32 := 0#32
  let arg2 : BitVec 32 := BitVec.ofNat 32 (i 2).val
  let v183 : BitVec 32 := Scalar.subi arg2 c0_i32_84
  let c1_i32_85 : BitVec 32 := 1#32
  let v185 : BitVec 32 := Scalar.divsi v183 c1_i32_85
  let v186 : BitVec 32 := Scalar.muli v185 c1_i32_85
  let v187 : BitVec 32 := Scalar.addi c0_i32_84 v186
  let c1_i32_86 : BitVec 32 := 1#32
  ⟨c0_i32_84, v187, c1_i32_86⟩
def k0_mult2 (i : grid0.Coords) (k0_t1 : Fin (k0_t1_loop i).trips) : BitVec 32 :=
  let c0_i32_84 : BitVec 32 := 0#32
  let c1_i32_86 : BitVec 32 := 1#32
  let arg7 : BitVec 32 := Scf.iv c0_i32_84 c1_i32_86 k0_t1
  let c512_i32_94 : BitVec 32 := 512#32
  let v204 : BitVec 32 := Scalar.muli arg7 c512_i32_94
  v204
def k0_off6 (i : grid0.Coords) (k0_t1 : Fin (k0_t1_loop i).trips) : Fin 3 → Nat :=
  let c0_95 : Index := 0#32
  let c0_i32_84 : BitVec 32 := 0#32
  let c1_i32_86 : BitVec 32 := 1#32
  let arg7 : BitVec 32 := Scf.iv c0_i32_84 c1_i32_86 k0_t1
  let c512_i32_94 : BitVec 32 := 512#32
  let v204 : BitVec 32 := Scalar.muli arg7 c512_i32_94
  let v205 : BitVec 32 := v204
  let v206 : Index := Scalar.indexCast v205
  let c0_96 : Index := 0#32
  ![0, v206.toNat, 0]
def k0_off7 (i : grid0.Coords) (k0_t1 : Fin (k0_t1_loop i).trips) (c0_i32_102 : BitVec 32) : Fin 4 → Nat :=
  let c0_103 : Index := 0#32
  let c0_i32_84 : BitVec 32 := 0#32
  let c1_i32_86 : BitVec 32 := 1#32
  let arg7 : BitVec 32 := Scf.iv c0_i32_84 c1_i32_86 k0_t1
  let c2_i32_101 : BitVec 32 := 2#32
  let v229 : BitVec 32 := Scalar.muli arg7 c2_i32_101
  let v230 : BitVec 32 := Scalar.addi v229 c0_i32_102
  let v231 : Index := Scalar.indexCast v230
  let c0_104 : Index := 0#32
  let c0_105 : Index := 0#32
  ![0, v231.toNat, 0, 0]
def k0_off8 (i : grid0.Coords) (k0_t1 : Fin (k0_t1_loop i).trips) (c0_i32_116 : BitVec 32) : Fin 4 → Nat :=
  let c0_117 : Index := 0#32
  let c0_i32_84 : BitVec 32 := 0#32
  let c1_i32_86 : BitVec 32 := 1#32
  let arg7 : BitVec 32 := Scf.iv c0_i32_84 c1_i32_86 k0_t1
  let c2_i32_115 : BitVec 32 := 2#32
  let v252 : BitVec 32 := Scalar.muli arg7 c2_i32_115
  let v253 : BitVec 32 := Scalar.addi v252 c0_i32_116
  let v254 : Index := Scalar.indexCast v253
  let c64_118 : Index := 64#32
  let c0_119 : Index := 0#32
  ![0, v254.toNat, 64, 0]
def k0_off9 (i : grid0.Coords) (k0_t1 : Fin (k0_t1_loop i).trips) (c0_i32_130 : BitVec 32) : Fin 4 → Nat :=
  let c0_131 : Index := 0#32
  let c0_i32_84 : BitVec 32 := 0#32
  let c1_i32_86 : BitVec 32 := 1#32
  let arg7 : BitVec 32 := Scf.iv c0_i32_84 c1_i32_86 k0_t1
  let c2_i32_129 : BitVec 32 := 2#32
  let v275 : BitVec 32 := Scalar.muli arg7 c2_i32_129
  let v276 : BitVec 32 := Scalar.addi v275 c0_i32_130
  let v277 : Index := Scalar.indexCast v276
  let c128_132 : Index := 128#32
  let c0_133 : Index := 0#32
  ![0, v277.toNat, 128, 0]
def k0_off10 (i : grid0.Coords) (k0_t1 : Fin (k0_t1_loop i).trips) (c0_i32_144 : BitVec 32) : Fin 4 → Nat :=
  let c0_145 : Index := 0#32
  let c0_i32_84 : BitVec 32 := 0#32
  let c1_i32_86 : BitVec 32 := 1#32
  let arg7 : BitVec 32 := Scf.iv c0_i32_84 c1_i32_86 k0_t1
  let c2_i32_143 : BitVec 32 := 2#32
  let v298 : BitVec 32 := Scalar.muli arg7 c2_i32_143
  let v299 : BitVec 32 := Scalar.addi v298 c0_i32_144
  let v300 : Index := Scalar.indexCast v299
  let c192_146 : Index := 192#32
  let c0_147 : Index := 0#32
  ![0, v300.toNat, 192, 0]
@[reducible] def k0_t2_loop (i : grid0.Coords) : Scf.Loop 32 :=
  let c0_i32_84 : BitVec 32 := 0#32
  let arg2 : BitVec 32 := BitVec.ofNat 32 (i 2).val
  let v183 : BitVec 32 := Scalar.subi arg2 c0_i32_84
  let c1_i32_85 : BitVec 32 := 1#32
  let v185 : BitVec 32 := Scalar.divsi v183 c1_i32_85
  let v186 : BitVec 32 := Scalar.muli v185 c1_i32_85
  let v187 : BitVec 32 := Scalar.addi c0_i32_84 v186
  let v184 : BitVec 32 := Scalar.addi c0_i32_84 v183
  let c1_i32_87 : BitVec 32 := 1#32
  ⟨v187, v184, c1_i32_87⟩
def k0_mult3 (i : grid0.Coords) (k0_t2 : Fin (k0_t2_loop i).trips) : BitVec 32 :=
  let c0_i32_84 : BitVec 32 := 0#32
  let arg2 : BitVec 32 := BitVec.ofNat 32 (i 2).val
  let v183 : BitVec 32 := Scalar.subi arg2 c0_i32_84
  let c1_i32_85 : BitVec 32 := 1#32
  let v185 : BitVec 32 := Scalar.divsi v183 c1_i32_85
  let v186 : BitVec 32 := Scalar.muli v185 c1_i32_85
  let v187 : BitVec 32 := Scalar.addi c0_i32_84 v186
  let c1_i32_87 : BitVec 32 := 1#32
  let arg7 : BitVec 32 := Scf.iv v187 c1_i32_87 k0_t2
  let c512_i32_94 : BitVec 32 := 512#32
  let v204 : BitVec 32 := Scalar.muli arg7 c512_i32_94
  v204
def k0_off11 (i : grid0.Coords) (k0_t2 : Fin (k0_t2_loop i).trips) : Fin 3 → Nat :=
  let c0_95 : Index := 0#32
  let c0_i32_84 : BitVec 32 := 0#32
  let arg2 : BitVec 32 := BitVec.ofNat 32 (i 2).val
  let v183 : BitVec 32 := Scalar.subi arg2 c0_i32_84
  let c1_i32_85 : BitVec 32 := 1#32
  let v185 : BitVec 32 := Scalar.divsi v183 c1_i32_85
  let v186 : BitVec 32 := Scalar.muli v185 c1_i32_85
  let v187 : BitVec 32 := Scalar.addi c0_i32_84 v186
  let c1_i32_87 : BitVec 32 := 1#32
  let arg7 : BitVec 32 := Scf.iv v187 c1_i32_87 k0_t2
  let c512_i32_94 : BitVec 32 := 512#32
  let v204 : BitVec 32 := Scalar.muli arg7 c512_i32_94
  let v205 : BitVec 32 := v204
  let v206 : Index := Scalar.indexCast v205
  let c0_96 : Index := 0#32
  ![0, v206.toNat, 0]
def k0_off12 (i : grid0.Coords) (k0_t2 : Fin (k0_t2_loop i).trips) (c0_i32_102 : BitVec 32) : Fin 4 → Nat :=
  let c0_103 : Index := 0#32
  let c0_i32_84 : BitVec 32 := 0#32
  let arg2 : BitVec 32 := BitVec.ofNat 32 (i 2).val
  let v183 : BitVec 32 := Scalar.subi arg2 c0_i32_84
  let c1_i32_85 : BitVec 32 := 1#32
  let v185 : BitVec 32 := Scalar.divsi v183 c1_i32_85
  let v186 : BitVec 32 := Scalar.muli v185 c1_i32_85
  let v187 : BitVec 32 := Scalar.addi c0_i32_84 v186
  let c1_i32_87 : BitVec 32 := 1#32
  let arg7 : BitVec 32 := Scf.iv v187 c1_i32_87 k0_t2
  let c2_i32_101 : BitVec 32 := 2#32
  let v229 : BitVec 32 := Scalar.muli arg7 c2_i32_101
  let v230 : BitVec 32 := Scalar.addi v229 c0_i32_102
  let v231 : Index := Scalar.indexCast v230
  let c0_104 : Index := 0#32
  let c0_105 : Index := 0#32
  ![0, v231.toNat, 0, 0]
def k0_off13 (i : grid0.Coords) (k0_t2 : Fin (k0_t2_loop i).trips) (c0_i32_116 : BitVec 32) : Fin 4 → Nat :=
  let c0_117 : Index := 0#32
  let c0_i32_84 : BitVec 32 := 0#32
  let arg2 : BitVec 32 := BitVec.ofNat 32 (i 2).val
  let v183 : BitVec 32 := Scalar.subi arg2 c0_i32_84
  let c1_i32_85 : BitVec 32 := 1#32
  let v185 : BitVec 32 := Scalar.divsi v183 c1_i32_85
  let v186 : BitVec 32 := Scalar.muli v185 c1_i32_85
  let v187 : BitVec 32 := Scalar.addi c0_i32_84 v186
  let c1_i32_87 : BitVec 32 := 1#32
  let arg7 : BitVec 32 := Scf.iv v187 c1_i32_87 k0_t2
  let c2_i32_115 : BitVec 32 := 2#32
  let v252 : BitVec 32 := Scalar.muli arg7 c2_i32_115
  let v253 : BitVec 32 := Scalar.addi v252 c0_i32_116
  let v254 : Index := Scalar.indexCast v253
  let c64_118 : Index := 64#32
  let c0_119 : Index := 0#32
  ![0, v254.toNat, 64, 0]
def k0_off14 (i : grid0.Coords) (k0_t2 : Fin (k0_t2_loop i).trips) (c0_i32_130 : BitVec 32) : Fin 4 → Nat :=
  let c0_131 : Index := 0#32
  let c0_i32_84 : BitVec 32 := 0#32
  let arg2 : BitVec 32 := BitVec.ofNat 32 (i 2).val
  let v183 : BitVec 32 := Scalar.subi arg2 c0_i32_84
  let c1_i32_85 : BitVec 32 := 1#32
  let v185 : BitVec 32 := Scalar.divsi v183 c1_i32_85
  let v186 : BitVec 32 := Scalar.muli v185 c1_i32_85
  let v187 : BitVec 32 := Scalar.addi c0_i32_84 v186
  let c1_i32_87 : BitVec 32 := 1#32
  let arg7 : BitVec 32 := Scf.iv v187 c1_i32_87 k0_t2
  let c2_i32_129 : BitVec 32 := 2#32
  let v275 : BitVec 32 := Scalar.muli arg7 c2_i32_129
  let v276 : BitVec 32 := Scalar.addi v275 c0_i32_130
  let v277 : Index := Scalar.indexCast v276
  let c128_132 : Index := 128#32
  let c0_133 : Index := 0#32
  ![0, v277.toNat, 128, 0]
def k0_off15 (i : grid0.Coords) (k0_t2 : Fin (k0_t2_loop i).trips) (c0_i32_144 : BitVec 32) : Fin 4 → Nat :=
  let c0_145 : Index := 0#32
  let c0_i32_84 : BitVec 32 := 0#32
  let arg2 : BitVec 32 := BitVec.ofNat 32 (i 2).val
  let v183 : BitVec 32 := Scalar.subi arg2 c0_i32_84
  let c1_i32_85 : BitVec 32 := 1#32
  let v185 : BitVec 32 := Scalar.divsi v183 c1_i32_85
  let v186 : BitVec 32 := Scalar.muli v185 c1_i32_85
  let v187 : BitVec 32 := Scalar.addi c0_i32_84 v186
  let c1_i32_87 : BitVec 32 := 1#32
  let arg7 : BitVec 32 := Scf.iv v187 c1_i32_87 k0_t2
  let c2_i32_143 : BitVec 32 := 2#32
  let v298 : BitVec 32 := Scalar.muli arg7 c2_i32_143
  let v299 : BitVec 32 := Scalar.addi v298 c0_i32_144
  let v300 : Index := Scalar.indexCast v299
  let c192_146 : Index := 192#32
  let c0_147 : Index := 0#32
  ![0, v300.toNat, 192, 0]
@[reducible] def k0_t3_loop (i : grid0.Coords) : Scf.Loop 32 :=
  let c0_i32_94 : BitVec 32 := 0#32
  let arg2 : BitVec 32 := BitVec.ofNat 32 (i 2).val
  let v204 : BitVec 32 := Scalar.subi arg2 c0_i32_94
  let c1_i32_95 : BitVec 32 := 1#32
  let v206 : BitVec 32 := Scalar.divsi v204 c1_i32_95
  let v207 : BitVec 32 := Scalar.muli v206 c1_i32_95
  let v208 : BitVec 32 := Scalar.addi c0_i32_94 v207
  let c1_i32_96 : BitVec 32 := 1#32
  ⟨c0_i32_94, v208, c1_i32_96⟩
def k0_mult4 (i : grid0.Coords) (k0_t3 : Fin (k0_t3_loop i).trips) : BitVec 32 :=
  let c0_i32_94 : BitVec 32 := 0#32
  let c1_i32_96 : BitVec 32 := 1#32
  let arg7 : BitVec 32 := Scf.iv c0_i32_94 c1_i32_96 k0_t3
  let c512_i32_98 : BitVec 32 := 512#32
  let v222 : BitVec 32 := Scalar.muli arg7 c512_i32_98
  v222
def k0_off16 (i : grid0.Coords) (k0_t3 : Fin (k0_t3_loop i).trips) : Fin 3 → Nat :=
  let c0_99 : Index := 0#32
  let c0_i32_94 : BitVec 32 := 0#32
  let c1_i32_96 : BitVec 32 := 1#32
  let arg7 : BitVec 32 := Scf.iv c0_i32_94 c1_i32_96 k0_t3
  let c512_i32_98 : BitVec 32 := 512#32
  let v222 : BitVec 32 := Scalar.muli arg7 c512_i32_98
  let v223 : BitVec 32 := v222
  let v224 : Index := Scalar.indexCast v223
  let c0_100 : Index := 0#32
  ![0, v224.toNat, 0]
def k0_off17 (i : grid0.Coords) (k0_t3 : Fin (k0_t3_loop i).trips) (c0_i32_110 : BitVec 32) : Fin 4 → Nat :=
  let c0_111 : Index := 0#32
  let c0_i32_94 : BitVec 32 := 0#32
  let c1_i32_96 : BitVec 32 := 1#32
  let arg7 : BitVec 32 := Scf.iv c0_i32_94 c1_i32_96 k0_t3
  let c2_i32_109 : BitVec 32 := 2#32
  let v261 : BitVec 32 := Scalar.muli arg7 c2_i32_109
  let v262 : BitVec 32 := Scalar.addi v261 c0_i32_110
  let v263 : Index := Scalar.indexCast v262
  let c0_112 : Index := 0#32
  let c0_113 : Index := 0#32
  ![0, v263.toNat, 0, 0]
def k0_off18 (i : grid0.Coords) (k0_t3 : Fin (k0_t3_loop i).trips) (c0_i32_124 : BitVec 32) : Fin 4 → Nat :=
  let c0_125 : Index := 0#32
  let c0_i32_94 : BitVec 32 := 0#32
  let c1_i32_96 : BitVec 32 := 1#32
  let arg7 : BitVec 32 := Scf.iv c0_i32_94 c1_i32_96 k0_t3
  let c2_i32_123 : BitVec 32 := 2#32
  let v289 : BitVec 32 := Scalar.muli arg7 c2_i32_123
  let v290 : BitVec 32 := Scalar.addi v289 c0_i32_124
  let v291 : Index := Scalar.indexCast v290
  let c64_126 : Index := 64#32
  let c0_127 : Index := 0#32
  ![0, v291.toNat, 64, 0]
def k0_off19 (i : grid0.Coords) (k0_t3 : Fin (k0_t3_loop i).trips) (c0_i32_138 : BitVec 32) : Fin 4 → Nat :=
  let c0_139 : Index := 0#32
  let c0_i32_94 : BitVec 32 := 0#32
  let c1_i32_96 : BitVec 32 := 1#32
  let arg7 : BitVec 32 := Scf.iv c0_i32_94 c1_i32_96 k0_t3
  let c2_i32_137 : BitVec 32 := 2#32
  let v317 : BitVec 32 := Scalar.muli arg7 c2_i32_137
  let v318 : BitVec 32 := Scalar.addi v317 c0_i32_138
  let v319 : Index := Scalar.indexCast v318
  let c128_140 : Index := 128#32
  let c0_141 : Index := 0#32
  ![0, v319.toNat, 128, 0]
def k0_off20 (i : grid0.Coords) (k0_t3 : Fin (k0_t3_loop i).trips) (c0_i32_152 : BitVec 32) : Fin 4 → Nat :=
  let c0_153 : Index := 0#32
  let c0_i32_94 : BitVec 32 := 0#32
  let c1_i32_96 : BitVec 32 := 1#32
  let arg7 : BitVec 32 := Scf.iv c0_i32_94 c1_i32_96 k0_t3
  let c2_i32_151 : BitVec 32 := 2#32
  let v345 : BitVec 32 := Scalar.muli arg7 c2_i32_151
  let v346 : BitVec 32 := Scalar.addi v345 c0_i32_152
  let v347 : Index := Scalar.indexCast v346
  let c192_154 : Index := 192#32
  let c0_155 : Index := 0#32
  ![0, v347.toNat, 192, 0]
@[reducible] def k0_t4_loop (i : grid0.Coords) : Scf.Loop 32 :=
  let c0_i32_94 : BitVec 32 := 0#32
  let arg2 : BitVec 32 := BitVec.ofNat 32 (i 2).val
  let v204 : BitVec 32 := Scalar.subi arg2 c0_i32_94
  let c1_i32_95 : BitVec 32 := 1#32
  let v206 : BitVec 32 := Scalar.divsi v204 c1_i32_95
  let v207 : BitVec 32 := Scalar.muli v206 c1_i32_95
  let v208 : BitVec 32 := Scalar.addi c0_i32_94 v207
  let v205 : BitVec 32 := Scalar.addi c0_i32_94 v204
  let c1_i32_97 : BitVec 32 := 1#32
  ⟨v208, v205, c1_i32_97⟩
def k0_mult5 (i : grid0.Coords) (k0_t4 : Fin (k0_t4_loop i).trips) : BitVec 32 :=
  let c0_i32_94 : BitVec 32 := 0#32
  let arg2 : BitVec 32 := BitVec.ofNat 32 (i 2).val
  let v204 : BitVec 32 := Scalar.subi arg2 c0_i32_94
  let c1_i32_95 : BitVec 32 := 1#32
  let v206 : BitVec 32 := Scalar.divsi v204 c1_i32_95
  let v207 : BitVec 32 := Scalar.muli v206 c1_i32_95
  let v208 : BitVec 32 := Scalar.addi c0_i32_94 v207
  let c1_i32_97 : BitVec 32 := 1#32
  let arg7 : BitVec 32 := Scf.iv v208 c1_i32_97 k0_t4
  let c512_i32_98 : BitVec 32 := 512#32
  let v222 : BitVec 32 := Scalar.muli arg7 c512_i32_98
  v222
def k0_off21 (i : grid0.Coords) (k0_t4 : Fin (k0_t4_loop i).trips) : Fin 3 → Nat :=
  let c0_99 : Index := 0#32
  let c0_i32_94 : BitVec 32 := 0#32
  let arg2 : BitVec 32 := BitVec.ofNat 32 (i 2).val
  let v204 : BitVec 32 := Scalar.subi arg2 c0_i32_94
  let c1_i32_95 : BitVec 32 := 1#32
  let v206 : BitVec 32 := Scalar.divsi v204 c1_i32_95
  let v207 : BitVec 32 := Scalar.muli v206 c1_i32_95
  let v208 : BitVec 32 := Scalar.addi c0_i32_94 v207
  let c1_i32_97 : BitVec 32 := 1#32
  let arg7 : BitVec 32 := Scf.iv v208 c1_i32_97 k0_t4
  let c512_i32_98 : BitVec 32 := 512#32
  let v222 : BitVec 32 := Scalar.muli arg7 c512_i32_98
  let v223 : BitVec 32 := v222
  let v224 : Index := Scalar.indexCast v223
  let c0_100 : Index := 0#32
  ![0, v224.toNat, 0]
def k0_off22 (i : grid0.Coords) (k0_t4 : Fin (k0_t4_loop i).trips) (c0_i32_110 : BitVec 32) : Fin 4 → Nat :=
  let c0_111 : Index := 0#32
  let c0_i32_94 : BitVec 32 := 0#32
  let arg2 : BitVec 32 := BitVec.ofNat 32 (i 2).val
  let v204 : BitVec 32 := Scalar.subi arg2 c0_i32_94
  let c1_i32_95 : BitVec 32 := 1#32
  let v206 : BitVec 32 := Scalar.divsi v204 c1_i32_95
  let v207 : BitVec 32 := Scalar.muli v206 c1_i32_95
  let v208 : BitVec 32 := Scalar.addi c0_i32_94 v207
  let c1_i32_97 : BitVec 32 := 1#32
  let arg7 : BitVec 32 := Scf.iv v208 c1_i32_97 k0_t4
  let c2_i32_109 : BitVec 32 := 2#32
  let v261 : BitVec 32 := Scalar.muli arg7 c2_i32_109
  let v262 : BitVec 32 := Scalar.addi v261 c0_i32_110
  let v263 : Index := Scalar.indexCast v262
  let c0_112 : Index := 0#32
  let c0_113 : Index := 0#32
  ![0, v263.toNat, 0, 0]
def k0_off23 (i : grid0.Coords) (k0_t4 : Fin (k0_t4_loop i).trips) (c0_i32_124 : BitVec 32) : Fin 4 → Nat :=
  let c0_125 : Index := 0#32
  let c0_i32_94 : BitVec 32 := 0#32
  let arg2 : BitVec 32 := BitVec.ofNat 32 (i 2).val
  let v204 : BitVec 32 := Scalar.subi arg2 c0_i32_94
  let c1_i32_95 : BitVec 32 := 1#32
  let v206 : BitVec 32 := Scalar.divsi v204 c1_i32_95
  let v207 : BitVec 32 := Scalar.muli v206 c1_i32_95
  let v208 : BitVec 32 := Scalar.addi c0_i32_94 v207
  let c1_i32_97 : BitVec 32 := 1#32
  let arg7 : BitVec 32 := Scf.iv v208 c1_i32_97 k0_t4
  let c2_i32_123 : BitVec 32 := 2#32
  let v289 : BitVec 32 := Scalar.muli arg7 c2_i32_123
  let v290 : BitVec 32 := Scalar.addi v289 c0_i32_124
  let v291 : Index := Scalar.indexCast v290
  let c64_126 : Index := 64#32
  let c0_127 : Index := 0#32
  ![0, v291.toNat, 64, 0]
def k0_off24 (i : grid0.Coords) (k0_t4 : Fin (k0_t4_loop i).trips) (c0_i32_138 : BitVec 32) : Fin 4 → Nat :=
  let c0_139 : Index := 0#32
  let c0_i32_94 : BitVec 32 := 0#32
  let arg2 : BitVec 32 := BitVec.ofNat 32 (i 2).val
  let v204 : BitVec 32 := Scalar.subi arg2 c0_i32_94
  let c1_i32_95 : BitVec 32 := 1#32
  let v206 : BitVec 32 := Scalar.divsi v204 c1_i32_95
  let v207 : BitVec 32 := Scalar.muli v206 c1_i32_95
  let v208 : BitVec 32 := Scalar.addi c0_i32_94 v207
  let c1_i32_97 : BitVec 32 := 1#32
  let arg7 : BitVec 32 := Scf.iv v208 c1_i32_97 k0_t4
  let c2_i32_137 : BitVec 32 := 2#32
  let v317 : BitVec 32 := Scalar.muli arg7 c2_i32_137
  let v318 : BitVec 32 := Scalar.addi v317 c0_i32_138
  let v319 : Index := Scalar.indexCast v318
  let c128_140 : Index := 128#32
  let c0_141 : Index := 0#32
  ![0, v319.toNat, 128, 0]
def k0_off25 (i : grid0.Coords) (k0_t4 : Fin (k0_t4_loop i).trips) (c0_i32_152 : BitVec 32) : Fin 4 → Nat :=
  let c0_153 : Index := 0#32
  let c0_i32_94 : BitVec 32 := 0#32
  let arg2 : BitVec 32 := BitVec.ofNat 32 (i 2).val
  let v204 : BitVec 32 := Scalar.subi arg2 c0_i32_94
  let c1_i32_95 : BitVec 32 := 1#32
  let v206 : BitVec 32 := Scalar.divsi v204 c1_i32_95
  let v207 : BitVec 32 := Scalar.muli v206 c1_i32_95
  let v208 : BitVec 32 := Scalar.addi c0_i32_94 v207
  let c1_i32_97 : BitVec 32 := 1#32
  let arg7 : BitVec 32 := Scf.iv v208 c1_i32_97 k0_t4
  let c2_i32_151 : BitVec 32 := 2#32
  let v345 : BitVec 32 := Scalar.muli arg7 c2_i32_151
  let v346 : BitVec 32 := Scalar.addi v345 c0_i32_152
  let v347 : Index := Scalar.indexCast v346
  let c192_154 : Index := 192#32
  let c0_155 : Index := 0#32
  ![0, v347.toNat, 192, 0]
def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, arg1.toNat, c0_i32_0.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat, arg1.toNat]

abbrev stage0_0 : Fin 2 → Memref sig .tc .vmem S1x512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x4096x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S1x16x256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x512x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]
-- ==== KernelIdeal.lean ====
variable {F : FTy → Type} [FloatOps F] [Named F]
def κ : String → Option EReal := fun
  | "mask" => some ⊥
  | _ => none
-- ==== ReferenceIdeal.lean ====
abbrev S65536x2048 : Shape := ⟨2, ![65536, 2048]⟩
abbrev S256x1024x256 : Shape := ⟨3, ![256, 1024, 256]⟩
abbrev S16x4096x16x128 : Shape := ⟨4, ![16, 4096, 16, 128]⟩
abbrev S16x16x4096x128 : Shape := ⟨4, ![16, 16, 4096, 128]⟩
abbrev S16x16x16x64x256 : Shape := ⟨5, ![16, 16, 16, 64, 256]⟩
abbrev S16x16x16x256x64 : Shape := ⟨5, ![16, 16, 16, 256, 64]⟩
abbrev S16x16x4096x64 : Shape := ⟨4, ![16, 16, 4096, 64]⟩
abbrev S16x16x4096x4096 : Shape := ⟨4, ![16, 16, 4096, 4096]⟩
abbrev S_ : Shape := ⟨0, ![]⟩
abbrev S4096 : Shape := ⟨1, ![4096]⟩
abbrev S1x4096 : Shape := ⟨2, ![1, 4096]⟩
abbrev S4096x1 : Shape := ⟨2, ![4096, 1]⟩
abbrev S4096x4096 : Shape := ⟨2, ![4096, 4096]⟩
abbrev S16x16x4096 : Shape := ⟨3, ![16, 16, 4096]⟩
abbrev S16x16x4096x1 : Shape := ⟨4, ![16, 16, 4096, 1]⟩
abbrev S16x4096x16x64 : Shape := ⟨4, ![16, 4096, 16, 64]⟩
abbrev S16x4096x1024 : Shape := ⟨3, ![16, 4096, 1024]⟩

abbrev nBuf : Space → Nat
  | .hbm => 49
  | .vmem => 0
  | .smem => 0
  | _ => 0

abbrev bufTy : (tb : Table) → Fin (tcTables nBuf tb) → BufTy
  | .hbm, ⟨0, _⟩ => ⟨S65536x2048, .bf16⟩
  | .hbm, ⟨1, _⟩ => ⟨S65536x2048, .bf16⟩
  | .hbm, ⟨2, _⟩ => ⟨S256x1024x256, .bf16⟩
  | .hbm, ⟨3, _⟩ => ⟨S65536x2048, .f32⟩
  | .hbm, ⟨4, _⟩ => ⟨S16x4096x16x128, .f32⟩
  | .hbm, ⟨5, _⟩ => ⟨S16x16x4096x128, .f32⟩
  | .hbm, ⟨6, _⟩ => ⟨S65536x2048, .f32⟩
  | .hbm, ⟨7, _⟩ => ⟨S16x4096x16x128, .f32⟩
  | .hbm, ⟨8, _⟩ => ⟨S16x16x4096x128, .f32⟩
  | .hbm, ⟨9, _⟩ => ⟨S256x1024x256, .f32⟩
  | .hbm, ⟨10, _⟩ => ⟨S16x16x16x64x256, .f32⟩
  | .hbm, ⟨11, _⟩ => ⟨S16x16x16x256x64, .f32⟩
  | .hbm, ⟨12, _⟩ => ⟨S16x16x4096x64, .f32⟩
  | .hbm, ⟨13, _⟩ => ⟨S16x16x4096x4096, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S16x16x4096x4096, .f32⟩
  | .hbm, ⟨18, _⟩ => ⟨S16x16x4096x4096, .f32⟩
  | .hbm, ⟨19, _⟩ => ⟨S4096, .i32⟩
  | .hbm, ⟨20, _⟩ => ⟨S1x4096, .i32⟩
  | .hbm, ⟨21, _⟩ => ⟨S4096, .i32⟩
  | .hbm, ⟨22, _⟩ => ⟨S4096x1, .i32⟩
  | .hbm, ⟨23, _⟩ => ⟨S4096x4096, .i32⟩
  | .hbm, ⟨24, _⟩ => ⟨S4096x4096, .i32⟩
  | .hbm, ⟨25, _⟩ => ⟨S4096x4096, .i1⟩
  | .hbm, ⟨26, _⟩ => ⟨S_, .f32⟩
  | .hbm, ⟨27, _⟩ => ⟨S_, .f32⟩
  | .hbm, ⟨28, _⟩ => ⟨S16x16x4096x4096, .i1⟩
  | .hbm, ⟨29, _⟩ => ⟨S16x16x4096x4096, .f32⟩
  | .hbm, ⟨30, _⟩ => ⟨S16x16x4096x4096, .f32⟩
  | .hbm, ⟨31, _⟩ => ⟨S_, .f32⟩
  | .hbm, ⟨32, _⟩ => ⟨S16x16x4096, .f32⟩
  | .hbm, ⟨33, _⟩ => ⟨S_, .f32⟩
  | .hbm, ⟨34, _⟩ => ⟨S16x16x4096, .f32⟩
  | .hbm, ⟨35, _⟩ => ⟨S16x16x4096, .f32⟩
  | .hbm, ⟨36, _⟩ => ⟨S16x16x4096x1, .f32⟩
  | .hbm, ⟨37, _⟩ => ⟨S16x16x4096x4096, .f32⟩
  | .hbm, ⟨38, _⟩ => ⟨S16x16x4096x4096, .f32⟩
  | .hbm, ⟨39, _⟩ => ⟨S16x16x4096x4096, .f32⟩
  | .hbm, ⟨40, _⟩ => ⟨S_, .f32⟩
  | .hbm, ⟨41, _⟩ => ⟨S16x16x4096, .f32⟩
  | .hbm, ⟨42, _⟩ => ⟨S16x16x4096x1, .f32⟩
  | .hbm, ⟨43, _⟩ => ⟨S16x16x4096x4096, .f32⟩
  | .hbm, ⟨44, _⟩ => ⟨S16x16x4096x4096, .f32⟩
  | .hbm, ⟨45, _⟩ => ⟨S16x16x4096x64, .f32⟩
  | .hbm, ⟨46, _⟩ => ⟨S16x4096x16x64, .f32⟩
  | .hbm, ⟨47, _⟩ => ⟨S16x4096x1024, .f32⟩
  | .hbm, ⟨48, _⟩ => ⟨S16x4096x1024, .bf16⟩
  | _, _ => ⟨S65536x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_cst : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_cst_0 : Ref sig .tc := ⟨.hbm, 26, rfl⟩
abbrev main_call0_v0 : Ref sig .tc := ⟨.hbm, 27, rfl⟩
abbrev main_call0_v1 : Ref sig .tc := ⟨.hbm, 28, rfl⟩
abbrev main_call0_v2 : Ref sig .tc := ⟨.hbm, 29, rfl⟩
abbrev main_v22 : Ref sig .tc := ⟨.hbm, 30, rfl⟩
abbrev main_cst_1 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_cst_3 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩

abbrev nD : Nat := 1
abbrev τ : Topo := Topo.v7x

variable {F : FTy → Type} [FloatOps F]
-- ==== Kernel2.lean ====
abbrev S65536x1024 : Shape := ⟨2, ![65536, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S1x1024 : Shape := ⟨2, ![1, 1024]⟩
abbrev S1024x1 : Shape := ⟨2, ![1024, 1]⟩

abbrev nBuf : Space → Nat
  | .hbm => 8
  | .vmem => 13
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S1024, .f32⟩
  | .hbm, ⟨4, _⟩ => ⟨S1024x4096, .bf16⟩
  | .hbm, ⟨5, _⟩ => ⟨S4096x1024, .bf16⟩
  | .hbm, ⟨6, _⟩ => ⟨S1x1024, .f32⟩
  | .hbm, ⟨7, _⟩ => ⟨S65536x1024, .f32⟩
  | .local _ .vmem, ⟨0, _⟩ => ⟨S1024x1024, .f32⟩
  | .local _ .vmem, ⟨1, _⟩ => ⟨S1024x1024, .f32⟩
  | .local _ .vmem, ⟨2, _⟩ => ⟨S1024x1024, .bf16⟩
  | .local _ .vmem, ⟨3, _⟩ => ⟨S1024x1024, .bf16⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1024x1024, .bf16⟩
  | .local _ .vmem, ⟨10, _⟩ => ⟨S1024x1024, .f32⟩
  | .local _ .vmem, ⟨11, _⟩ => ⟨S1024x1024, .f32⟩
  | .local _ .vmem, ⟨12, _⟩ => ⟨S1024x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![64, 4], ![false, false]⟩

def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg1 : BitVec 32 := BitVec.ofNat 32 (i 1).val
  let c0_i32_1 : BitVec 32 := 0#32
  let v3 : BitVec 1 := Scalar.cmpi .sgt arg1 c0_i32_1
  let v4 : BitVec 32 := Scalar.extui v3
  let c0_i32_2 : BitVec 32 := 0#32
  let v5 : BitVec 1 := Scalar.cmpi .ne v4 c0_i32_2
  v5

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1024x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== Reference2Ideal.lean ====
abbrev S65536x1024 : Shape := ⟨2, ![65536, 1024]⟩
abbrev S1024x1024 : Shape := ⟨2, ![1024, 1024]⟩
abbrev S1024 : Shape := ⟨1, ![1024]⟩
abbrev S1024x4096 : Shape := ⟨2, ![1024, 4096]⟩
abbrev S4096x1024 : Shape := ⟨2, ![4096, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x4096 : Shape := ⟨2, ![65536, 4096]⟩

abbrev nBuf : Space → Nat
  | .hbm => 35
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S65536x1024, .bf16⟩
  | .hbm, ⟨2, _⟩ => ⟨S1024x1024, .bf16⟩
  | .hbm, ⟨3, _⟩ => ⟨S1024, .f32⟩
  | .hbm, ⟨4, _⟩ => ⟨S1024x4096, .bf16⟩
  | .hbm, ⟨5, _⟩ => ⟨S4096x1024, .bf16⟩
  | .hbm, ⟨6, _⟩ => ⟨S65536x1024, .f32⟩
  | .hbm, ⟨7, _⟩ => ⟨S1024x1024, .f32⟩
  | .hbm, ⟨8, _⟩ => ⟨S65536x1024, .f32⟩
  | .hbm, ⟨9, _⟩ => ⟨S65536x1024, .f32⟩
  | .hbm, ⟨10, _⟩ => ⟨S65536x1024, .f32⟩
  | .hbm, ⟨11, _⟩ => ⟨S_, .f32⟩
  | .hbm, ⟨12, _⟩ => ⟨S65536, .f32⟩
  | .hbm, ⟨13, _⟩ => ⟨S65536x1, .f32⟩
  | .hbm, ⟨14, _⟩ => ⟨S_, .f32⟩
  | .hbm, ⟨15, _⟩ => ⟨S65536x1, .f32⟩
  | .hbm, ⟨16, _⟩ => ⟨S65536x1, .f32⟩
  | .hbm, ⟨17, _⟩ => ⟨S_, .f32⟩
  | .hbm, ⟨18, _⟩ => ⟨S65536x1, .f32⟩
  | .hbm, ⟨19, _⟩ => ⟨S65536x1, .f32⟩
  | .hbm, ⟨20, _⟩ => ⟨S65536x1, .f32⟩
  | .hbm, ⟨21, _⟩ => ⟨S65536x1024, .f32⟩
  | .hbm, ⟨22, _⟩ => ⟨S65536x1024, .f32⟩
  | .hbm, ⟨23, _⟩ => ⟨S1x1024, .f32⟩
  | .hbm, ⟨24, _⟩ => ⟨S65536x1024, .f32⟩
  | .hbm, ⟨25, _⟩ => ⟨S65536x1024, .f32⟩
  | .hbm, ⟨26, _⟩ => ⟨S1024x4096, .f32⟩
  | .hbm, ⟨27, _⟩ => ⟨S65536x4096, .f32⟩
  | .hbm, ⟨28, _⟩ => ⟨S_, .f32⟩
  | .hbm, ⟨29, _⟩ => ⟨S65536x4096, .f32⟩
  | .hbm, ⟨30, _⟩ => ⟨S65536x4096, .f32⟩
  | .hbm, ⟨31, _⟩ => ⟨S65536x4096, .f32⟩
  | .hbm, ⟨32, _⟩ => ⟨S4096x1024, .f32⟩
  | .hbm, ⟨33, _⟩ => ⟨S65536x1024, .f32⟩
  | .hbm, ⟨34, _⟩ => ⟨S65536x1024, .f32⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_call0_cst : Ref sig .tc := ⟨.hbm, 28, rfl⟩
abbrev main_call0_v0 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩

abbrev nD : Nat := 1
abbrev τ : Topo := Topo.v7x

variable {F : FTy → Type} [FloatOps F]
-- ==== Kernel3.lean ====
abbrev S65536x1024 : Shape := ⟨2, ![65536, 1024]⟩
abbrev S1024 : Shape := ⟨1, ![1024]⟩
abbrev S1024x3072 : Shape := ⟨2, ![1024, 3072]⟩
abbrev S2x1024 : Shape := ⟨2, ![2, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x1024 : Shape := ⟨2, ![1, 1024]⟩
abbrev S65536x3072 : Shape := ⟨2, ![65536, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩

abbrev nBuf : Space → Nat
  | .hbm => 52
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .bf16⟩
  | .hbm, ⟨3, _⟩ => ⟨S2x1024, .f32⟩
  | .hbm, ⟨4, _⟩ => ⟨S256, .i32⟩
  | .hbm, ⟨5, _⟩ => ⟨S256x1, .i32⟩
  | .hbm, ⟨6, _⟩ => ⟨S_, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S1x256, .i32⟩
  | .hbm, ⟨25, _⟩ => ⟨S_, .i32⟩
  | .hbm, ⟨26, _⟩ => ⟨S_, .i32⟩
  | .hbm, ⟨27, _⟩ => ⟨S1x256, .i32⟩
  | .hbm, ⟨28, _⟩ => ⟨S1x256, .i32⟩
  | .hbm, ⟨29, _⟩ => ⟨S1x256, .i32⟩
  | .hbm, ⟨30, _⟩ => ⟨S_, .i32⟩
  | .hbm, ⟨31, _⟩ => ⟨S1x256, .i32⟩
  | .hbm, ⟨32, _⟩ => ⟨S1x256, .i1⟩
  | .hbm, ⟨33, _⟩ => ⟨S1x256, .i32⟩
  | .hbm, ⟨34, _⟩ => ⟨S1x256, .i32⟩
  | .hbm, ⟨35, _⟩ => ⟨S_, .i32⟩
  | .hbm, ⟨36, _⟩ => ⟨S1x256, .i32⟩
  | .hbm, ⟨37, _⟩ => ⟨S1x256, .i1⟩
  | .hbm, ⟨38, _⟩ => ⟨S1x256, .i1⟩
  | .hbm, ⟨39, _⟩ => ⟨S_, .i32⟩
  | .hbm, ⟨40, _⟩ => ⟨S1x256, .i32⟩
  | .hbm, ⟨41, _⟩ => ⟨S1x256, .i32⟩
  | .hbm, ⟨42, _⟩ => ⟨S1x256, .i32⟩
  | .hbm, ⟨43, _⟩ => ⟨S256x256, .i32⟩
  | .hbm, ⟨44, _⟩ => ⟨S256x256, .i32⟩
  | .hbm, ⟨45, _⟩ => ⟨S256x256, .i1⟩
  | .hbm, ⟨46, _⟩ => ⟨S256x256, .bf16⟩
  | .hbm, ⟨47, _⟩ => ⟨S_, .f32⟩
  | .hbm, ⟨48, _⟩ => ⟨S2x1024, .f32⟩
  | .hbm, ⟨49, _⟩ => ⟨S2x1024, .f32⟩
  | .hbm, ⟨50, _⟩ => ⟨S1x1024, .f32⟩
  | .hbm, ⟨51, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S2x1024, .f32⟩
  | .local _ .vmem, ⟨5, _⟩ => ⟨S256x256, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_cst : Ref sig .tc := ⟨.hbm, 47, rfl⟩
abbrev main_v9 : Ref sig .tc := ⟨.hbm, 48, rfl⟩
abbrev main_v10 : Ref sig .tc := ⟨.hbm, 49, rfl⟩
abbrev main_v11 : Ref sig .tc := ⟨.hbm, 50, rfl⟩
abbrev main_v12 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference3Ideal.lean ====
abbrev S65536x1024 : Shape := ⟨2, ![65536, 1024]⟩
abbrev S1024 : Shape := ⟨1, ![1024]⟩
abbrev S1024x3072 : Shape := ⟨2, ![1024, 3072]⟩
abbrev S2x1024 : Shape := ⟨2, ![2, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S65536x3x16x64 : Shape := ⟨4, ![65536, 3, 16, 64]⟩
abbrev S65536x3x16 : Shape := ⟨3, ![65536, 3, 16]⟩
abbrev S65536x3x16x1 : Shape := ⟨4, ![65536, 3, 16, 1]⟩
abbrev S65536x1x16x64 : Shape := ⟨4, ![65536, 1, 16, 64]⟩
abbrev S65536x16x64 : Shape := ⟨3, ![65536, 16, 64]⟩

abbrev nBuf : Space → Nat
  | .hbm => 57
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .bf16⟩
  | .hbm, ⟨3, _⟩ => ⟨S2x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1024x3072, .f32⟩
  | .hbm, ⟨21, _⟩ => ⟨S65536x3072, .f32⟩
  | .hbm, ⟨22, _⟩ => ⟨S65536x3x16x64, .f32⟩
  | .hbm, ⟨23, _⟩ => ⟨S65536x3x16x64, .f32⟩
  | .hbm, ⟨24, _⟩ => ⟨S_, .f32⟩
  | .hbm, ⟨25, _⟩ => ⟨S65536x3x16, .f32⟩
  | .hbm, ⟨26, _⟩ => ⟨S65536x3x16x1, .f32⟩
  | .hbm, ⟨27, _⟩ => ⟨S_, .f32⟩
  | .hbm, ⟨28, _⟩ => ⟨S65536x3x16x1, .f32⟩
  | .hbm, ⟨29, _⟩ => ⟨S65536x3x16x1, .f32⟩
  | .hbm, ⟨30, _⟩ => ⟨S_, .f32⟩
  | .hbm, ⟨31, _⟩ => ⟨S65536x3x16x1, .f32⟩
  | .hbm, ⟨32, _⟩ => ⟨S65536x3x16x1, .f32⟩
  | .hbm, ⟨33, _⟩ => ⟨S65536x3x16x1, .f32⟩
  | .hbm, ⟨34, _⟩ => ⟨S65536x3x16x64, .f32⟩
  | .hbm, ⟨35, _⟩ => ⟨S65536x3x16x64, .f32⟩
  | .hbm, ⟨36, _⟩ => ⟨S65536x1x16x64, .f32⟩
  | .hbm, ⟨37, _⟩ => ⟨S65536x16x64, .f32⟩
  | .hbm, ⟨38, _⟩ => ⟨S65536x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S65536x1x16x64, .f32⟩
  | .hbm, ⟨45, _⟩ => ⟨S65536x16x64, .f32⟩
  | .hbm, ⟨46, _⟩ => ⟨S65536x1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S65536x1x16x64, .f32⟩
  | .hbm, ⟨53, _⟩ => ⟨S65536x16x64, .f32⟩
  | .hbm, ⟨54, _⟩ => ⟨S65536x1024, .f32⟩
  | .hbm, ⟨55, _⟩ => ⟨S65536x3072, .f32⟩
  | .hbm, ⟨56, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Kernel4.lean ====
abbrev S65536x1024 : Shape := ⟨2, ![65536, 1024]⟩
abbrev S1024 : Shape := ⟨1, ![1024]⟩
abbrev S1024x3072 : Shape := ⟨2, ![1024, 3072]⟩
abbrev S2x1024 : Shape := ⟨2, ![2, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x1024 : Shape := ⟨2, ![1, 1024]⟩
abbrev S65536x3072 : Shape := ⟨2, ![65536, 3072]⟩
abbrev S512x1024 : Shape := ⟨2, ![512, 1024]⟩
abbrev S512x3072 : Shape := ⟨2, ![512, 3072]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩

abbrev nBuf : Space → Nat
  | .hbm => 49
  | .vmem => 9
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .bf16⟩
  | .hbm, ⟨3, _⟩ => ⟨S2x1024, .f32⟩
  | .hbm, ⟨4, _⟩ => ⟨S256, .i32⟩
  | .hbm, ⟨5, _⟩ => ⟨S256x1, .i32⟩
  | .hbm, ⟨6, _⟩ => ⟨S_, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S1x256, .i32⟩
  | .hbm, ⟨25, _⟩ => ⟨S_, .i32⟩
  | .hbm, ⟨26, _⟩ => ⟨S_, .i32⟩
  | .hbm, ⟨27, _⟩ => ⟨S1x256, .i32⟩
  | .hbm, ⟨28, _⟩ => ⟨S1x256, .i32⟩
  | .hbm, ⟨29, _⟩ => ⟨S1x256, .i32⟩
  | .hbm, ⟨30, _⟩ => ⟨S_, .i32⟩
  | .hbm, ⟨31, _⟩ => ⟨S1x256, .i32⟩
  | .hbm, ⟨32, _⟩ => ⟨S1x256, .i1⟩
  | .hbm, ⟨33, _⟩ => ⟨S1x256, .i32⟩
  | .hbm, ⟨34, _⟩ => ⟨S1x256, .i32⟩
  | .hbm, ⟨35, _⟩ => ⟨S_, .i32⟩
  | .hbm, ⟨36, _⟩ => ⟨S1x256, .i32⟩
  | .hbm, ⟨37, _⟩ => ⟨S1x256, .i1⟩
  | .hbm, ⟨38, _⟩ => ⟨S1x256, .i1⟩
  | .hbm, ⟨39, _⟩ => ⟨S_, .i32⟩
  | .hbm, ⟨40, _⟩ => ⟨S1x256, .i32⟩
  | .hbm, ⟨41, _⟩ => ⟨S1x256, .i32⟩
  | .hbm, ⟨42, _⟩ => ⟨S1x256, .i32⟩
  | .hbm, ⟨43, _⟩ => ⟨S256x256, .i32⟩
  | .hbm, ⟨44, _⟩ => ⟨S256x256, .i32⟩
  | .hbm, ⟨45, _⟩ => ⟨S256x256, .i1⟩
  | .hbm, ⟨46, _⟩ => ⟨S256x256, .bf16⟩
  | .hbm, ⟨47, _⟩ => ⟨S1x1024, .f32⟩
  | .hbm, ⟨48, _⟩ => ⟨S65536x3072, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S2x1024, .f32⟩
  | .local _ .vmem, ⟨5, _⟩ => ⟨S256x256, .bf16⟩
  | .local _ .vmem, ⟨6, _⟩ => ⟨S512x3072, .bf16⟩
  | .local _ .vmem, ⟨7, _⟩ => ⟨S512x3072, .bf16⟩
  | .local _ .vmem, ⟨8, _⟩ => ⟨S512x1024, .bf16⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x3072 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel4Ideal.lean ====
variable {F : FTy → Type} [FloatOps F] [Named F]
def κ : String → Option EReal := fun
  | "root" => some ((Real.sqrt 128 : ℝ) : EReal)
  | _ => none
-- ==== Reference4Ideal.lean ====
abbrev S65536x1024 : Shape := ⟨2, ![65536, 1024]⟩
abbrev S1024 : Shape := ⟨1, ![1024]⟩
abbrev S1024x3072 : Shape := ⟨2, ![1024, 3072]⟩
abbrev S2x1024 : Shape := ⟨2, ![2, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S65536x3x8x128 : Shape := ⟨4, ![65536, 3, 8, 128]⟩
abbrev S65536x3x8 : Shape := ⟨3, ![65536, 3, 8]⟩
abbrev S65536x3x8x1 : Shape := ⟨4, ![65536, 3, 8, 1]⟩
abbrev S65536x1x8x128 : Shape := ⟨4, ![65536, 1, 8, 128]⟩
abbrev S65536x8x128 : Shape := ⟨3, ![65536, 8, 128]⟩

abbrev nBuf : Space → Nat
  | .hbm => 57
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .bf16⟩
  | .hbm, ⟨3, _⟩ => ⟨S2x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1024x3072, .f32⟩
  | .hbm, ⟨21, _⟩ => ⟨S65536x3072, .f32⟩
  | .hbm, ⟨22, _⟩ => ⟨S65536x3x8x128, .f32⟩
  | .hbm, ⟨23, _⟩ => ⟨S65536x3x8x128, .f32⟩
  | .hbm, ⟨24, _⟩ => ⟨S_, .f32⟩
  | .hbm, ⟨25, _⟩ => ⟨S65536x3x8, .f32⟩
  | .hbm, ⟨26, _⟩ => ⟨S65536x3x8x1, .f32⟩
  | .hbm, ⟨27, _⟩ => ⟨S_, .f32⟩
  | .hbm, ⟨28, _⟩ => ⟨S65536x3x8x1, .f32⟩
  | .hbm, ⟨29, _⟩ => ⟨S65536x3x8x1, .f32⟩
  | .hbm, ⟨30, _⟩ => ⟨S_, .f32⟩
  | .hbm, ⟨31, _⟩ => ⟨S65536x3x8x1, .f32⟩
  | .hbm, ⟨32, _⟩ => ⟨S65536x3x8x1, .f32⟩
  | .hbm, ⟨33, _⟩ => ⟨S65536x3x8x1, .f32⟩
  | .hbm, ⟨34, _⟩ => ⟨S65536x3x8x128, .f32⟩
  | .hbm, ⟨35, _⟩ => ⟨S65536x3x8x128, .f32⟩
  | .hbm, ⟨36, _⟩ => ⟨S65536x1x8x128, .f32⟩
  | .hbm, ⟨37, _⟩ => ⟨S65536x8x128, .f32⟩
  | .hbm, ⟨38, _⟩ => ⟨S65536x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S65536x1x8x128, .f32⟩
  | .hbm, ⟨45, _⟩ => ⟨S65536x8x128, .f32⟩
  | .hbm, ⟨46, _⟩ => ⟨S65536x1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S65536x1x8x128, .f32⟩
  | .hbm, ⟨53, _⟩ => ⟨S65536x8x128, .f32⟩
  | .hbm, ⟨54, _⟩ => ⟨S65536x1024, .f32⟩
  | .hbm, ⟨55, _⟩ => ⟨S65536x3072, .f32⟩
  | .hbm, ⟨56, _⟩ => ⟨S65536x3072, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩

abbrev nD : Nat := 1
abbrev τ : Topo := Topo.v7x

variable {F : FTy → Type} [FloatOps F]
-- ==== Kernel5.lean ====
abbrev S65536x1024 : Shape := ⟨2, ![65536, 1024]⟩
abbrev S1024 : Shape := ⟨1, ![1024]⟩
abbrev S1024x3072 : Shape := ⟨2, ![1024, 3072]⟩
abbrev S2x1024 : Shape := ⟨2, ![2, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x1024 : Shape := ⟨2, ![1, 1024]⟩
abbrev S16384x12288 : Shape := ⟨2, ![16384, 12288]⟩
abbrev S512x1024 : Shape := ⟨2, ![512, 1024]⟩
abbrev S128x12288 : Shape := ⟨2, ![128, 12288]⟩
abbrev S24x512x128 : Shape := ⟨3, ![24, 512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩
abbrev S1x128x128 : Shape := ⟨3, ![1, 128, 128]⟩
abbrev S128x128 : Shape := ⟨2, ![128, 128]⟩

abbrev nBuf : Space → Nat
  | .hbm => 49
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .bf16⟩
  | .hbm, ⟨3, _⟩ => ⟨S2x1024, .f32⟩
  | .hbm, ⟨4, _⟩ => ⟨S256, .i32⟩
  | .hbm, ⟨5, _⟩ => ⟨S256x1, .i32⟩
  | .hbm, ⟨6, _⟩ => ⟨S_, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S1x256, .i32⟩
  | .hbm, ⟨25, _⟩ => ⟨S_, .i32⟩
  | .hbm, ⟨26, _⟩ => ⟨S_, .i32⟩
  | .hbm, ⟨27, _⟩ => ⟨S1x256, .i32⟩
  | .hbm, ⟨28, _⟩ => ⟨S1x256, .i32⟩
  | .hbm, ⟨29, _⟩ => ⟨S1x256, .i32⟩
  | .hbm, ⟨30, _⟩ => ⟨S_, .i32⟩
  | .hbm, ⟨31, _⟩ => ⟨S1x256, .i32⟩
  | .hbm, ⟨32, _⟩ => ⟨S1x256, .i1⟩
  | .hbm, ⟨33, _⟩ => ⟨S1x256, .i32⟩
  | .hbm, ⟨34, _⟩ => ⟨S1x256, .i32⟩
  | .hbm, ⟨35, _⟩ => ⟨S_, .i32⟩
  | .hbm, ⟨36, _⟩ => ⟨S1x256, .i32⟩
  | .hbm, ⟨37, _⟩ => ⟨S1x256, .i1⟩
  | .hbm, ⟨38, _⟩ => ⟨S1x256, .i1⟩
  | .hbm, ⟨39, _⟩ => ⟨S_, .i32⟩
  | .hbm, ⟨40, _⟩ => ⟨S1x256, .i32⟩
  | .hbm, ⟨41, _⟩ => ⟨S1x256, .i32⟩
  | .hbm, ⟨42, _⟩ => ⟨S1x256, .i32⟩
  | .hbm, ⟨43, _⟩ => ⟨S256x256, .i32⟩
  | .hbm, ⟨44, _⟩ => ⟨S256x256, .i32⟩
  | .hbm, ⟨45, _⟩ => ⟨S256x256, .i1⟩
  | .hbm, ⟨46, _⟩ => ⟨S256x256, .bf16⟩
  | .hbm, ⟨47, _⟩ => ⟨S1x1024, .f32⟩
  | .hbm, ⟨48, _⟩ => ⟨S16384x12288, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S2x1024, .f32⟩
  | .local _ .vmem, ⟨5, _⟩ => ⟨S256x256, .bf16⟩
  | .local _ .vmem, ⟨6, _⟩ => ⟨S128x12288, .bf16⟩
  | .local _ .vmem, ⟨7, _⟩ => ⟨S128x12288, .bf16⟩
  | .local _ .vmem, ⟨8, _⟩ => ⟨S512x1024, .bf16⟩
  | .local _ .vmem, ⟨9, _⟩ => ⟨S24x512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x12288 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel5Ideal.lean ====
variable {F : FTy → Type} [FloatOps F] [Named F]
def κ : String → Option EReal := fun
  | "root" => some ((Real.sqrt 128 : ℝ) : EReal)
  | _ => none
-- ==== Reference5Ideal.lean ====
abbrev S65536x1024 : Shape := ⟨2, ![65536, 1024]⟩
abbrev S1024 : Shape := ⟨1, ![1024]⟩
abbrev S1024x3072 : Shape := ⟨2, ![1024, 3072]⟩
abbrev S2x1024 : Shape := ⟨2, ![2, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S65536x3x8x128 : Shape := ⟨4, ![65536, 3, 8, 128]⟩
abbrev S65536x3x8 : Shape := ⟨3, ![65536, 3, 8]⟩
abbrev S65536x3x8x1 : Shape := ⟨4, ![65536, 3, 8, 1]⟩
abbrev S65536x1x8x128 : Shape := ⟨4, ![65536, 1, 8, 128]⟩
abbrev S65536x8x128 : Shape := ⟨3, ![65536, 8, 128]⟩
abbrev S16384x12288 : Shape := ⟨2, ![16384, 12288]⟩

abbrev nBuf : Space → Nat
  | .hbm => 58
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .bf16⟩
  | .hbm, ⟨3, _⟩ => ⟨S2x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1024x3072, .f32⟩
  | .hbm, ⟨21, _⟩ => ⟨S65536x3072, .f32⟩
  | .hbm, ⟨22, _⟩ => ⟨S65536x3x8x128, .f32⟩
  | .hbm, ⟨23, _⟩ => ⟨S65536x3x8x128, .f32⟩
  | .hbm, ⟨24, _⟩ => ⟨S_, .f32⟩
  | .hbm, ⟨25, _⟩ => ⟨S65536x3x8, .f32⟩
  | .hbm, ⟨26, _⟩ => ⟨S65536x3x8x1, .f32⟩
  | .hbm, ⟨27, _⟩ => ⟨S_, .f32⟩
  | .hbm, ⟨28, _⟩ => ⟨S65536x3x8x1, .f32⟩
  | .hbm, ⟨29, _⟩ => ⟨S65536x3x8x1, .f32⟩
  | .hbm, ⟨30, _⟩ => ⟨S_, .f32⟩
  | .hbm, ⟨31, _⟩ => ⟨S65536x3x8x1, .f32⟩
  | .hbm, ⟨32, _⟩ => ⟨S65536x3x8x1, .f32⟩
  | .hbm, ⟨33, _⟩ => ⟨S65536x3x8x1, .f32⟩
  | .hbm, ⟨34, _⟩ => ⟨S65536x3x8x128, .f32⟩
  | .hbm, ⟨35, _⟩ => ⟨S65536x3x8x128, .f32⟩
  | .hbm, ⟨36, _⟩ => ⟨S65536x1x8x128, .f32⟩
  | .hbm, ⟨37, _⟩ => ⟨S65536x8x128, .f32⟩
  | .hbm, ⟨38, _⟩ => ⟨S65536x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S65536x1x8x128, .f32⟩
  | .hbm, ⟨45, _⟩ => ⟨S65536x8x128, .f32⟩
  | .hbm, ⟨46, _⟩ => ⟨S65536x1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S65536x1x8x128, .f32⟩
  | .hbm, ⟨53, _⟩ => ⟨S65536x8x128, .f32⟩
  | .hbm, ⟨54, _⟩ => ⟨S65536x1024, .f32⟩
  | .hbm, ⟨55, _⟩ => ⟨S65536x3072, .f32⟩
  | .hbm, ⟨56, _⟩ => ⟨S65536x3072, .bf16⟩
  | .hbm, ⟨57, _⟩ => ⟨S16384x12288, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel6.lean ====
abbrev S65536x1024 : Shape := ⟨2, ![65536, 1024]⟩
abbrev S1024 : Shape := ⟨1, ![1024]⟩
abbrev S1024x3072 : Shape := ⟨2, ![1024, 3072]⟩
abbrev S2x1024 : Shape := ⟨2, ![2, 1024]⟩
abbrev S256 : Shape := ⟨1, ![256]⟩
abbrev S256x1 : Shape := ⟨2, ![256, 1]⟩
abbrev S_ : Shape := ⟨0, ![]⟩
abbrev S1x256 : Shape := ⟨2, ![1, 256]⟩
abbrev S256x256 : Shape := ⟨2, ![256, 256]⟩
abbrev S1x1024 : Shape := ⟨2, ![1, 1024]⟩
abbrev S4096x49152 : Shape := ⟨2, ![4096, 49152]⟩
abbrev S512x1024 : Shape := ⟨2, ![512, 1024]⟩
abbrev S32x49152 : Shape := ⟨2, ![32, 49152]⟩
abbrev S24x512x128 : Shape := ⟨3, ![24, 512, 128]⟩
abbrev S512 : Shape := ⟨1, ![512]⟩
abbrev S512x1 : Shape := ⟨2, ![512, 1]⟩
abbrev S1024x256 : Shape := ⟨2, ![1024, 256]⟩
abbrev S512x256 : Shape := ⟨2, ![512, 256]⟩
abbrev S512x128 : Shape := ⟨2, ![512, 128]⟩
abbrev S1x512x128 : Shape := ⟨3, ![1, 512, 128]⟩
abbrev S1x32x128 : Shape := ⟨3, ![1, 32, 128]⟩
abbrev S32x128 : Shape := ⟨2, ![32, 128]⟩

abbrev nBuf : Space → Nat
  | .hbm => 49
  | .vmem => 10
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .bf16⟩
  | .hbm, ⟨3, _⟩ => ⟨S2x1024, .f32⟩
  | .hbm, ⟨4, _⟩ => ⟨S256, .i32⟩
  | .hbm, ⟨5, _⟩ => ⟨S256x1, .i32⟩
  | .hbm, ⟨6, _⟩ => ⟨S_, .i32⟩
  | .hbm, ⟨7, _⟩ => ⟨S_, .i32⟩
  | .hbm, ⟨8, _⟩ => ⟨S256x1, .i32⟩
  | .hbm, ⟨9, _⟩ => ⟨S256x1, .i32⟩
  | .hbm, ⟨10, _⟩ => ⟨S256x1, .i32⟩
  | .hbm, ⟨11, _⟩ => ⟨S_, .i32⟩
  | .hbm, ⟨12, _⟩ => ⟨S256x1, .i32⟩
  | .hbm, ⟨13, _⟩ => ⟨S256x1, .i1⟩
  | .hbm, ⟨14, _⟩ => ⟨S256x1, .i32⟩
  | .hbm, ⟨15, _⟩ => ⟨S256x1, .i32⟩
  | .hbm, ⟨16, _⟩ => ⟨S_, .i32⟩
  | .hbm, ⟨17, _⟩ => ⟨S256x1, .i32⟩
  | .hbm, ⟨18, _⟩ => ⟨S256x1, .i1⟩
  | .hbm, ⟨19, _⟩ => ⟨S256x1, .i1⟩
  | .hbm, ⟨20, _⟩ => ⟨S_, .i32⟩
  | .hbm, ⟨21, _⟩ => ⟨S256x1, .i32⟩
  | .hbm, ⟨22, _⟩ => ⟨S256x1, .i32⟩
  | .hbm, ⟨23, _⟩ => ⟨S256x1, .i32⟩
  | .hbm, ⟨24, _⟩ => ⟨S1x256, .i32⟩
  | .hbm, ⟨25, _⟩ => ⟨S_, .i32⟩
  | .hbm, ⟨26, _⟩ => ⟨S_, .i32⟩
  | .hbm, ⟨27, _⟩ => ⟨S1x256, .i32⟩
  | .hbm, ⟨28, _⟩ => ⟨S1x256, .i32⟩
  | .hbm, ⟨29, _⟩ => ⟨S1x256, .i32⟩
  | .hbm, ⟨30, _⟩ => ⟨S_, .i32⟩
  | .hbm, ⟨31, _⟩ => ⟨S1x256, .i32⟩
  | .hbm, ⟨32, _⟩ => ⟨S1x256, .i1⟩
  | .hbm, ⟨33, _⟩ => ⟨S1x256, .i32⟩
  | .hbm, ⟨34, _⟩ => ⟨S1x256, .i32⟩
  | .hbm, ⟨35, _⟩ => ⟨S_, .i32⟩
  | .hbm, ⟨36, _⟩ => ⟨S1x256, .i32⟩
  | .hbm, ⟨37, _⟩ => ⟨S1x256, .i1⟩
  | .hbm, ⟨38, _⟩ => ⟨S1x256, .i1⟩
  | .hbm, ⟨39, _⟩ => ⟨S_, .i32⟩
  | .hbm, ⟨40, _⟩ => ⟨S1x256, .i32⟩
  | .hbm, ⟨41, _⟩ => ⟨S1x256, .i32⟩
  | .hbm, ⟨42, _⟩ => ⟨S1x256, .i32⟩
  | .hbm, ⟨43, _⟩ => ⟨S256x256, .i32⟩
  | .hbm, ⟨44, _⟩ => ⟨S256x256, .i32⟩
  | .hbm, ⟨45, _⟩ => ⟨S256x256, .i1⟩
  | .hbm, ⟨46, _⟩ => ⟨S256x256, .bf16⟩
  | .hbm, ⟨47, _⟩ => ⟨S1x1024, .f32⟩
  | .hbm, ⟨48, _⟩ => ⟨S4096x49152, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x3072, .bf16⟩
  | .local _ .vmem, ⟨4, _⟩ => ⟨S2x1024, .f32⟩
  | .local _ .vmem, ⟨5, _⟩ => ⟨S256x256, .bf16⟩
  | .local _ .vmem, ⟨6, _⟩ => ⟨S32x49152, .bf16⟩
  | .local _ .vmem, ⟨7, _⟩ => ⟨S32x49152, .bf16⟩
  | .local _ .vmem, ⟨8, _⟩ => ⟨S512x1024, .bf16⟩
  | .local _ .vmem, ⟨9, _⟩ => ⟨S24x512x128, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_c : Ref sig .tc := ⟨.hbm, 6, rfl⟩
abbrev main_call0_v0 : Ref sig .tc := ⟨.hbm, 7, rfl⟩
abbrev main_call0_v1 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_v6 : Ref sig .tc := ⟨.hbm, 13, rfl⟩
abbrev main_call0_v7 : Ref sig .tc := ⟨.hbm, 14, rfl⟩
abbrev main_call0_v8 : Ref sig .tc := ⟨.hbm, 15, rfl⟩
abbrev main_call0_c : Ref sig .tc := ⟨.hbm, 16, rfl⟩
abbrev main_call0_v9 : Ref sig .tc := ⟨.hbm, 17, rfl⟩
abbrev main_call0_v10 : Ref sig .tc := ⟨.hbm, 18, rfl⟩
abbrev main_call0_v11 : Ref sig .tc := ⟨.hbm, 19, rfl⟩
abbrev main_call0_c_0 : Ref sig .tc := ⟨.hbm, 20, rfl⟩
abbrev main_call0_v12 : Ref sig .tc := ⟨.hbm, 21, rfl⟩
abbrev main_call0_v13 : Ref sig .tc := ⟨.hbm, 22, rfl⟩
abbrev main_v2 : Ref sig .tc := ⟨.hbm, 23, rfl⟩
abbrev main_v3 : Ref sig .tc := ⟨.hbm, 24, rfl⟩
abbrev main_c_0 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_call1_v5 : Ref sig .tc := ⟨.hbm, 31, rfl⟩
abbrev main_call1_v6 : Ref sig .tc := ⟨.hbm, 32, rfl⟩
abbrev main_call1_v7 : Ref sig .tc := ⟨.hbm, 33, rfl⟩
abbrev main_call1_v8 : Ref sig .tc := ⟨.hbm, 34, rfl⟩
abbrev main_call1_c : Ref sig .tc := ⟨.hbm, 35, rfl⟩
abbrev main_call1_v9 : Ref sig .tc := ⟨.hbm, 36, rfl⟩
abbrev main_call1_v10 : Ref sig .tc := ⟨.hbm, 37, rfl⟩
abbrev main_call1_v11 : Ref sig .tc := ⟨.hbm, 38, rfl⟩
abbrev main_call1_c_0 : Ref sig .tc := ⟨.hbm, 39, rfl⟩
abbrev main_call1_v12 : Ref sig .tc := ⟨.hbm, 40, rfl⟩
abbrev main_call1_v13 : Ref sig .tc := ⟨.hbm, 41, rfl⟩
abbrev main_v4 : Ref sig .tc := ⟨.hbm, 42, rfl⟩
abbrev main_v5 : Ref sig .tc := ⟨.hbm, 43, rfl⟩
abbrev main_v6 : Ref sig .tc := ⟨.hbm, 44, rfl⟩
abbrev main_v7 : Ref sig .tc := ⟨.hbm, 45, rfl⟩
abbrev main_v8 : Ref sig .tc := ⟨.hbm, 46, rfl⟩
abbrev main_v9 : Ref sig .tc := ⟨.hbm, 47, rfl⟩
abbrev main_v10 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x3072 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S32x49152 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Kernel6Ideal.lean ====
variable {F : FTy → Type} [FloatOps F] [Named F]
def κ : String → Option EReal := fun
  | "root" => some ((Real.sqrt 128 : ℝ) : EReal)
  | _ => none
-- ==== Reference6Ideal.lean ====
abbrev S65536x1024 : Shape := ⟨2, ![65536, 1024]⟩
abbrev S1024 : Shape := ⟨1, ![1024]⟩
abbrev S1024x3072 : Shape := ⟨2, ![1024, 3072]⟩
abbrev S2x1024 : Shape := ⟨2, ![2, 1024]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x3072 : Shape := ⟨2, ![65536, 3072]⟩
abbrev S65536x3x8x128 : Shape := ⟨4, ![65536, 3, 8, 128]⟩
abbrev S65536x3x8 : Shape := ⟨3, ![65536, 3, 8]⟩
abbrev S65536x3x8x1 : Shape := ⟨4, ![65536, 3, 8, 1]⟩
abbrev S65536x1x8x128 : Shape := ⟨4, ![65536, 1, 8, 128]⟩
abbrev S65536x8x128 : Shape := ⟨3, ![65536, 8, 128]⟩
abbrev S4096x49152 : Shape := ⟨2, ![4096, 49152]⟩

abbrev nBuf : Space → Nat
  | .hbm => 58
  | .vmem => 0
  | .smem => 0
  | _ => 0

abbrev bufTy : (tb : Table) → Fin (tcTables nBuf tb) → BufTy
  | .hbm, ⟨0, _⟩ => ⟨S65536x1024, .f32⟩
  | .hbm, ⟨1, _⟩ => ⟨S1024, .f32⟩
  | .hbm, ⟨2, _⟩ => ⟨S1024x3072, .bf16⟩
  | .hbm, ⟨3, _⟩ => ⟨S2x1024, .f32⟩
  | .hbm, ⟨4, _⟩ => ⟨S65536x1024, .f32⟩
  | .hbm, ⟨5, _⟩ => ⟨S_, .f32⟩
  | .hbm, ⟨6, _⟩ => ⟨S65536, .f32⟩
  | .hbm, ⟨7, _⟩ => ⟨S65536x1, .f32⟩
  | .hbm, ⟨8, _⟩ => ⟨S_, .f32⟩
  | .hbm, ⟨9, _⟩ => ⟨S65536x1, .f32⟩
  | .hbm, ⟨10, _⟩ => ⟨S65536x1, .f32⟩
  | .hbm, ⟨11, _⟩ => ⟨S_, .f32⟩
  | .hbm, ⟨12, _⟩ => ⟨S65536x1, .f32⟩
  | .hbm, ⟨13, _⟩ => ⟨S65536x1, .f32⟩
  | .hbm, ⟨14, _⟩ => ⟨S65536x1, .f32⟩
  | .hbm, ⟨15, _⟩ => ⟨S65536x1024, .f32⟩
  | .hbm, ⟨16, _⟩ => ⟨S65536x1024, .f32⟩
  | .hbm, ⟨17, _⟩ => ⟨S1x1024, .f32⟩
  | .hbm, ⟨18, _⟩ => ⟨S65536x1024, .f32⟩
  | .hbm, ⟨19, _⟩ => ⟨S65536x1024, .f32⟩
  | .hbm, ⟨20, _⟩ => ⟨S1024x3072, .f32⟩
  | .hbm, ⟨21, _⟩ => ⟨S65536x3072, .f32⟩
  | .hbm, ⟨22, _⟩ => ⟨S65536x3x8x128, .f32⟩
  | .hbm, ⟨23, _⟩ => ⟨S65536x3x8x128, .f32⟩
  | .hbm, ⟨24, _⟩ => ⟨S_, .f32⟩
  | .hbm, ⟨25, _⟩ => ⟨S65536x3x8, .f32⟩
  | .hbm, ⟨26, _⟩ => ⟨S65536x3x8x1, .f32⟩
  | .hbm, ⟨27, _⟩ => ⟨S_, .f32⟩
  | .hbm, ⟨28, _⟩ => ⟨S65536x3x8x1, .f32⟩
  | .hbm, ⟨29, _⟩ => ⟨S65536x3x8x1, .f32⟩
  | .hbm, ⟨30, _⟩ => ⟨S_, .f32⟩
  | .hbm, ⟨31, _⟩ => ⟨S65536x3x8x1, .f32⟩
  | .hbm, ⟨32, _⟩ => ⟨S65536x3x8x1, .f32⟩
  | .hbm, ⟨33, _⟩ => ⟨S65536x3x8x1, .f32⟩
  | .hbm, ⟨34, _⟩ => ⟨S65536x3x8x128, .f32⟩
  | .hbm, ⟨35, _⟩ => ⟨S65536x3x8x128, .f32⟩
  | .hbm, ⟨36, _⟩ => ⟨S65536x1x8x128, .f32⟩
  | .hbm, ⟨37, _⟩ => ⟨S65536x8x128, .f32⟩
  | .hbm, ⟨38, _⟩ => ⟨S65536x1024, .f32⟩
  | .hbm, ⟨39, _⟩ => ⟨S1x1024, .f32⟩
  | .hbm, ⟨40, _⟩ => ⟨S1024, .f32⟩
  | .hbm, ⟨41, _⟩ => ⟨S1x1024, .f32⟩
  | .hbm, ⟨42, _⟩ => ⟨S65536x1024, .f32⟩
  | .hbm, ⟨43, _⟩ => ⟨S65536x1024, .f32⟩
  | .hbm, ⟨44, _⟩ => ⟨S65536x1x8x128, .f32⟩
  | .hbm, ⟨45, _⟩ => ⟨S65536x8x128, .f32⟩
  | .hbm, ⟨46, _⟩ => ⟨S65536x1024, .f32⟩
  | .hbm, ⟨47, _⟩ => ⟨S1x1024, .f32⟩
  | .hbm, ⟨48, _⟩ => ⟨S1024, .f32⟩
  | .hbm, ⟨49, _⟩ => ⟨S1x1024, .f32⟩
  | .hbm, ⟨50, _⟩ => ⟨S65536x1024, .f32⟩
  | .hbm, ⟨51, _⟩ => ⟨S65536x1024, .f32⟩
  | .hbm, ⟨52, _⟩ => ⟨S65536x1x8x128, .f32⟩
  | .hbm, ⟨53, _⟩ => ⟨S65536x8x128, .f32⟩
  | .hbm, ⟨54, _⟩ => ⟨S65536x1024, .f32⟩
  | .hbm, ⟨55, _⟩ => ⟨S65536x3072, .f32⟩
  | .hbm, ⟨56, _⟩ => ⟨S65536x3072, .bf16⟩
  | .hbm, ⟨57, _⟩ => ⟨S4096x49152, .bf16⟩
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩

abbrev nD : Nat := 1
abbrev τ : Topo := Topo.v7x

variable {F : FTy → Type} [FloatOps F]
-- ==== Kernel7.lean ====
abbrev S65536x1024 : Shape := ⟨2, ![65536, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S96 : Shape := ⟨1, ![96]⟩
abbrev S1024x640 : Shape := ⟨2, ![1024, 640]⟩
abbrev S_ : Shape := ⟨0, ![]⟩
abbrev S1024x64 : Shape := ⟨2, ![1024, 64]⟩
abbrev S1024x32 : Shape := ⟨2, ![1024, 32]⟩
abbrev S1024x768 : Shape := ⟨2, ![1024, 768]⟩
abbrev S384x16x96 : Shape := ⟨3, ![384, 16, 96]⟩
abbrev S384x16x128 : Shape := ⟨3, ![384, 16, 128]⟩
abbrev S384x2048 : Shape := ⟨2, ![384, 2048]⟩
abbrev S256x16x128 : Shape := ⟨3, ![256, 16, 128]⟩
abbrev S256x16x64 : Shape := ⟨3, ![256, 16, 64]⟩
abbrev S256x1024 : Shape := ⟨2, ![256, 1024]⟩
abbrev S32 : Shape := ⟨1, ![32]⟩
abbrev S128 : Shape := ⟨1, ![128]⟩
abbrev S1x128 : Shape := ⟨2, ![1, 128]⟩
abbrev S2x128 : Shape := ⟨2, ![2, 128]⟩
abbrev S1x256 : Shape := ⟨2, ![1, 256]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S4096x64 : Shape := ⟨2, ![4096, 64]⟩
abbrev S4096x32 : Shape := ⟨2, ![4096, 32]⟩
abbrev S4096x128 : Shape := ⟨2, ![4096, 128]⟩
abbrev S1x4096x1x128 : Shape := ⟨4, ![1, 4096, 1, 128]⟩
abbrev S1x4096x2x128 : Shape := ⟨4, ![1, 4096, 2, 128]⟩
abbrev S4096x256 : Shape := ⟨2, ![4096, 256]⟩
abbrev S256x1 : Shape := ⟨2, ![256, 1]⟩
abbrev S256x256 : Shape := ⟨2, ![256, 256]⟩
abbrev S1x1024 : Shape := ⟨2, ![1, 1024]⟩
abbrev S1x384 : Shape := ⟨2, ![1, 384]⟩
abbrev S65536x2048 : Shape := ⟨2, ![65536, 2048]⟩
abbrev S256x1024x256 : Shape := ⟨3, ![256, 1024, 256]⟩
abbrev S512x1024 : Shape := ⟨2, ![512, 1024]⟩
abbrev S512x256 : Shape := ⟨2, ![512, 256]⟩
abbrev S512x2048 : Shape := ⟨2, ![512, 2048]⟩
abbrev S2x1024x256 : Shape := ⟨3, ![2, 1024, 256]⟩
abbrev S512 : Shape := ⟨1, ![512]⟩
abbrev S512x1 : Shape := ⟨2, ![512, 1]⟩
abbrev S512x768 : Shape := ⟨2, ![512, 768]⟩
abbrev S512x384 : Shape := ⟨2, ![512, 384]⟩
abbrev S512x128 : Shape := ⟨2, ![512, 128]⟩
abbrev S1024x256 : Shape := ⟨2, ![1024, 256]⟩
abbrev S1x1024x256 : Shape := ⟨3, ![1, 1024, 256]⟩

abbrev nBuf : Space → Nat
  | .hbm => 143
  | .vmem => 26
  | .smem => 0
  | _ => 0

abbrev hbmTy0_0 (i : Nat) : BufTy := match i % 128 with
  | 0 => ⟨S65536x1024, .f32⟩
  | 1 => ⟨S1024, .f32⟩
  | 2 => ⟨S1024x672, .f32⟩
  | 3 => ⟨S384, .f32⟩
  | 4 => ⟨S256, .f32⟩
  | 5 => ⟨S384x1536, .f32⟩
  | 6 => ⟨S256x2048, .f32⟩
  | 7 => ⟨S96, .f32⟩
  | 8 => ⟨S96, .f32⟩
  | 9 => ⟨S1024x640, .f32⟩
  | 10 => ⟨S_, .f32⟩
  | 11 => ⟨S1024x64, .f32⟩
  | 12 => ⟨S1024x32, .f32⟩
  | 13 => ⟨S_, .f32⟩
  | 14 => ⟨S1024x32, .f32⟩
  | 15 => ⟨S1024x768, .f32⟩
  | 16 => ⟨S1024x768, .bf16⟩
  | 17 => ⟨S384x16x96, .f32⟩
  | 18 => ⟨S_, .i32⟩
  | 19 => ⟨S_, .f32⟩
  | 20 => ⟨S384x16x128, .f32⟩
  | 21 => ⟨S384x2048, .f32⟩
  | 22 => ⟨S384x2048, .bf16⟩
  | 23 => ⟨S256x16x128, .f32⟩
  | 24 => ⟨S256x16x64, .f32⟩
  | 25 => ⟨S_, .i32⟩
  | 26 => ⟨S_, .f32⟩
  | 27 => ⟨S256x16x128, .f32⟩
  | 28 => ⟨S256x2048, .f32⟩
  | 29 => ⟨S256x2048, .bf16⟩
  | 30 => ⟨S256x16x128, .f32⟩
  | 31 => ⟨S256x16x64, .f32⟩
  | 32 => ⟨S256x1024, .f32⟩
  | 33 => ⟨S256x1024, .bf16⟩
  | 34 => ⟨S_, .f32⟩
  | 35 => ⟨S32, .f32⟩
  | 36 => ⟨S128, .f32⟩
  | 37 => ⟨S_, .f32⟩
  | 38 => ⟨S128, .f32⟩
  | 39 => ⟨S128, .f32⟩
  | 40 => ⟨S1x128, .f32⟩
  | 41 => ⟨S2x128, .f32⟩
  | 42 => ⟨S256, .f32⟩
  | 43 => ⟨S1x256, .f32⟩
  | 44 => ⟨S128, .f32⟩
  | 45 => ⟨S1x128, .f32⟩
  | 46 => ⟨S2x128, .f32⟩
  | 47 => ⟨S256, .f32⟩
  | 48 => ⟨S1x256, .f32⟩
  | 49 => ⟨S16, .f32⟩
  | 50 => ⟨S16, .f32⟩
  | 51 => ⟨S_, .f32⟩
  | 52 => ⟨S16, .f32⟩
  | 53 => ⟨S16, .f32⟩
  | 54 => ⟨S_, .f32⟩
  | 55 => ⟨S16, .f32⟩
  | 56 => ⟨S16, .f32⟩
  | 57 => ⟨S4096, .f32⟩
  | 58 => ⟨S4096x1, .f32⟩
  | 59 => ⟨S1x16, .f32⟩
  | 60 => ⟨S4096x16, .f32⟩
  | 61 => ⟨S4096x16, .f32⟩
  | 62 => ⟨S4096x16, .f32⟩
  | 63 => ⟨S_, .f32⟩
  | 64 => ⟨S4096x16, .f32⟩
  | 65 => ⟨S_, .f32⟩
  | 66 => ⟨S4096x64, .f32⟩
  | 67 => ⟨S4096x16, .f32⟩
  | 68 => ⟨S4096x16, .f32⟩
  | 69 => ⟨S_, .f32⟩
  | 70 => ⟨S4096x32, .f32⟩
  | 71 => ⟨S4096x128, .f32⟩
  | 72 => ⟨S_, .f32⟩
  | 73 => ⟨S4096x64, .f32⟩
  | 74 => ⟨S4096x16, .f32⟩
  | 75 => ⟨S_, .f32⟩
  | 76 => ⟨S4096x32, .f32⟩
  | 77 => ⟨S4096x128, .f32⟩
  | 78 => ⟨S_, .f32⟩
  | 79 => ⟨S4096x64, .f32⟩
  | 80 => ⟨S4096x16, .f32⟩
  | 81 => ⟨S4096x16, .f32⟩
  | 82 => ⟨S_, .f32⟩
  | 83 => ⟨S4096x32, .f32⟩
  | 84 => ⟨S4096x128, .f32⟩
  | 85 => ⟨S1x4096x1x128, .f32⟩
  | 86 => ⟨S1x4096x2x128, .f32⟩
  | 87 => ⟨S4096x256, .f32⟩
  | 88 => ⟨S1x4096x1x128, .f32⟩
  | 89 => ⟨S1x4096x2x128, .f32⟩
  | 90 => ⟨S4096x256, .f32⟩
  | 91 => ⟨S1x4096x1x128, .f32⟩
  | 92 => ⟨S1x4096x2x128, .f32⟩
  | 93 => ⟨S4096x256, .f32⟩
  | 94 => ⟨S256, .i32⟩
  | 95 => ⟨S256x1, .i32⟩
  | 96 => ⟨S_, .i32⟩
  | 97 => ⟨S_, .i32⟩
  | 98 => ⟨S256x1, .i32⟩
  | 99 => ⟨S256x1, .i32⟩
  | 100 => ⟨S256x1, .i32⟩
  | 101 => ⟨S_, .i32⟩
  | 102 => ⟨S256x1, .i32⟩
  | 103 => ⟨S256x1, .i1⟩
  | 104 => ⟨S256x1, .i32⟩
  | 105 => ⟨S256x1, .i32⟩
  | 106 => ⟨S_, .i32⟩
  | 107 => ⟨S256x1, .i32⟩
  | 108 => ⟨S256x1, .i1⟩
  | 109 => ⟨S256x1, .i1⟩
  | 110 => ⟨S_, .i32⟩
  | 111 => ⟨S256x1, .i32⟩
  | 112 => ⟨S256x1, .i32⟩
  | 113 => ⟨S256x1, .i32⟩
  | 114 => ⟨S1x256, .i32⟩
  | 115 => ⟨S_, .i32⟩
  | 116 => ⟨S_, .i32⟩
  | 117 => ⟨S1x256, .i32⟩
  | 118 => ⟨S1x256, .i32⟩
  | 119 => ⟨S1x256, .i32⟩
  | 120 => ⟨S_, .i32⟩
  | 121 => ⟨S1x256, .i32⟩
  | 122 => ⟨S1x256, .i1⟩
  | 123 => ⟨S1x256, .i32⟩
  | 124 => ⟨S1x256, .i32⟩
  | 125 => ⟨S_, .i32⟩
  | 126 => ⟨S1x256, .i32⟩
  | 127 => ⟨S1x256, .i1⟩
  | _ => ⟨S65536x1024, .f32⟩

abbrev hbmTy0_1 (i : Nat) : BufTy := match i % 128 with
  | 0 => ⟨S1x256, .i1⟩
  | 1 => ⟨S_, .i32⟩
  | 2 => ⟨S1x256, .i32⟩
  | 3 => ⟨S1x256, .i32⟩
  | 4 => ⟨S1x256, .i32⟩
  | 5 => ⟨S256x256, .i32⟩
  | 6 => ⟨S256x256, .i32⟩
  | 7 => ⟨S256x256, .i1⟩
  | 8 => ⟨S256x256, .bf16⟩
  | 9 => ⟨S1x1024, .f32⟩
  | 10 => ⟨S1x384, .f32⟩
  | 11 => ⟨S1x256, .f32⟩
  | 12 => ⟨S65536x2048, .bf16⟩
  | 13 => ⟨S65536x2048, .bf16⟩
  | 14 => ⟨S256x1024x256, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1024x768, .bf16⟩
  | .local _ .vmem, ⟨4, _⟩ => ⟨S1x384, .f32⟩
  | .local _ .vmem, ⟨5, _⟩ => ⟨S1x256, .f32⟩
  | .local _ .vmem, ⟨6, _⟩ => ⟨S384x2048, .bf16⟩
  | .local _ .vmem, ⟨7, _⟩ => ⟨S256x2048, .bf16⟩
  | .local _ .vmem, ⟨8, _⟩ => ⟨S256x1024, .bf16⟩
  | .local _ .vmem, ⟨9, _⟩ => ⟨S1x256, .f32⟩
  | .local _ .vmem, ⟨10, _⟩ => ⟨S1x256, .f32⟩
  | .local _ .vmem, ⟨11, _⟩ => ⟨S512x256, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S512x256, .f32⟩
  | .local _ .vmem, ⟨17, _⟩ => ⟨S256x256, .bf16⟩
  | .local _ .vmem, ⟨18, _⟩ => ⟨S512x2048, .bf16⟩
  | .local _ .vmem, ⟨19, _⟩ => ⟨S512x2048, .bf16⟩
  | .local _ .vmem, ⟨20, _⟩ => ⟨S512x2048, .bf16⟩
  | .local _ .vmem, ⟨21, _⟩ => ⟨S512x2048, .bf16⟩
  | .local _ .vmem, ⟨22, _⟩ => ⟨S2x1024x256, .bf16⟩
  | .local _ .vmem, ⟨23, _⟩ => ⟨S2x1024x256, .bf16⟩
  | .local _ .vmem, ⟨24, _⟩ => ⟨S512x2048, .f32⟩
  | .local _ .vmem, ⟨25, _⟩ => ⟨S512x2048, .f32⟩
  | _, _ => ⟨S65536x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c : Ref sig .tc := ⟨.hbm, 18, rfl⟩
abbrev main_call0_v0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_c_1 : Ref sig .tc := ⟨.hbm, 25, rfl⟩
abbrev main_call1_v0 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_4 : Ref sig .tc := ⟨.hbm, 51, rfl⟩
abbrev main_v34 : Ref sig .tc := ⟨.hbm, 52, rfl⟩
abbrev main_v35 : Ref sig .tc := ⟨.hbm, 53, rfl⟩
abbrev main_cst_5 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_cst_6 : Ref sig .tc := ⟨.hbm, 63, rfl⟩
abbrev main_v44 : Ref sig .tc := ⟨.hbm, 64, rfl⟩
abbrev main_cst_7 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_8 : Ref sig .tc := ⟨.hbm, 69, rfl⟩
abbrev main_v48 : Ref sig .tc := ⟨.hbm, 70, rfl⟩
abbrev main_v49 : Ref sig .tc := ⟨.hbm, 71, rfl⟩
abbrev main_cst_9 : Ref sig .tc := ⟨.hbm, 72, rfl⟩
abbrev main_v50 : Ref sig .tc := ⟨.hbm, 73, rfl⟩
abbrev main_v51 : Ref sig .tc := ⟨.hbm, 74, rfl⟩
abbrev main_cst_10 : Ref sig .tc := ⟨.hbm, 75, rfl⟩
abbrev main_v52 : Ref sig .tc := ⟨.hbm, 76, rfl⟩
abbrev main_v53 : Ref sig .tc := ⟨.hbm, 77, rfl⟩
abbrev main_cst_11 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_cst_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_v69 : Ref sig .tc := ⟨.hbm, 95, rfl⟩
abbrev main_c_13 : Ref sig .tc := ⟨.hbm, 96, rfl⟩
abbrev main_call2_v0 : Ref sig .tc := ⟨.hbm, 97, rfl⟩
abbrev main_call2_v1 : Ref sig .tc := ⟨.hbm, 98, rfl⟩
abbrev main_call2_v2 : Ref sig .tc := ⟨.hbm, 99, rfl⟩
abbrev main_call2_v3 : Ref sig .tc := ⟨.hbm, 100, rfl⟩
abbrev main_call2_v4 : Ref sig .tc := ⟨.hbm, 101, rfl⟩
abbrev main_call2_v5 : Ref sig .tc := ⟨.hbm, 102, rfl⟩
abbrev main_call2_v6 : Ref sig .tc := ⟨.hbm, 103, rfl⟩
abbrev main_call2_v7 : Ref sig .tc := ⟨.hbm, 104, rfl⟩
abbrev main_call2_v8 : Ref sig .tc := ⟨.hbm, 105, rfl⟩
abbrev main_call2_c : Ref sig .tc := ⟨.hbm, 106, rfl⟩
abbrev main_call2_v9 : Ref sig .tc := ⟨.hbm, 107, rfl⟩
abbrev main_call2_v10 : Ref sig .tc := ⟨.hbm, 108, rfl⟩
abbrev main_call2_v11 : Ref sig .tc := ⟨.hbm, 109, rfl⟩
abbrev main_call2_c_0 : Ref sig .tc := ⟨.hbm, 110, rfl⟩
abbrev main_call2_v12 : Ref sig .tc := ⟨.hbm, 111, rfl⟩
abbrev main_call2_v13 : Ref sig .tc := ⟨.hbm, 112, rfl⟩
abbrev main_v70 : Ref sig .tc := ⟨.hbm, 113, rfl⟩
abbrev main_v71 : Ref sig .tc := ⟨.hbm, 114, rfl⟩
abbrev main_c_14 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_call3_v3 : Ref sig .tc := ⟨.hbm, 119, rfl⟩
abbrev main_call3_v4 : Ref sig .tc := ⟨.hbm, 120, rfl⟩
abbrev main_call3_v5 : Ref sig .tc := ⟨.hbm, 121, rfl⟩
abbrev main_call3_v6 : Ref sig .tc := ⟨.hbm, 122, rfl⟩
abbrev main_call3_v7 : Ref sig .tc := ⟨.hbm, 123, rfl⟩
abbrev main_call3_v8 : Ref sig .tc := ⟨.hbm, 124, rfl⟩
abbrev main_call3_c : Ref sig .tc := ⟨.hbm, 125, rfl⟩
abbrev main_call3_v9 : Ref sig .tc := ⟨.hbm, 126, rfl⟩
abbrev main_call3_v10 : Ref sig .tc := ⟨.hbm, 127, rfl⟩
abbrev main_call3_v11 : Ref sig .tc := ⟨.hbm, 128, rfl⟩
abbrev main_call3_c_0 : Ref sig .tc := ⟨.hbm, 129, rfl⟩
abbrev main_call3_v12 : Ref sig .tc := ⟨.hbm, 130, rfl⟩
abbrev main_call3_v13 : Ref sig .tc := ⟨.hbm, 131, rfl⟩
abbrev main_v72 : Ref sig .tc := ⟨.hbm, 132, rfl⟩
abbrev main_v73 : Ref sig .tc := ⟨.hbm, 133, rfl⟩
abbrev main_v74 : Ref sig .tc := ⟨.hbm, 134, rfl⟩
abbrev main_v75 : Ref sig .tc := ⟨.hbm, 135, rfl⟩
abbrev main_v76 : Ref sig .tc := ⟨.hbm, 136, rfl⟩
abbrev main_v77 : Ref sig .tc := ⟨.hbm, 137, rfl⟩
abbrev main_v78 : Ref sig .tc := ⟨.hbm, 138, rfl⟩
abbrev main_v79 : Ref sig .tc := ⟨.hbm, 139, rfl⟩
abbrev main_v80_0 : Ref sig .tc := ⟨.hbm, 140, rfl⟩
abbrev main_v80_1 : Ref sig .tc := ⟨.hbm, 141, rfl⟩
abbrev main_v80_2 : Ref sig .tc := ⟨.hbm, 142, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_stg10_0 : Ref sig .tc := ⟨.vmem, 11, rfl⟩
abbrev cc0_stg10_1 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg14_0 : Ref sig .tc := ⟨.vmem, 18, rfl⟩
abbrev cc0_stg14_1 : Ref sig .tc := ⟨.vmem, 19, rfl⟩
abbrev cc0_stg15_0 : Ref sig .tc := ⟨.vmem, 20, rfl⟩
abbrev cc0_stg15_1 : Ref sig .tc := ⟨.vmem, 21, rfl⟩
abbrev cc0_stg16_0 : Ref sig .tc := ⟨.vmem, 22, rfl⟩
abbrev cc0_stg16_1 : Ref sig .tc := ⟨.vmem, 23, rfl⟩
abbrev cc0_scratch0 : Ref sig .tc := ⟨.vmem, 24, rfl⟩
abbrev cc0_scratch1 : Ref sig .tc := ⟨.vmem, 25, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem8_0 : DmaSem sig := 9
abbrev cc0_sem9_0 : DmaSem sig := 10
abbrev cc0_sem10_0 : DmaSem sig := 11
abbrev cc0_sem10_1 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem14_0 : DmaSem sig := 18
abbrev cc0_sem14_1 : DmaSem sig := 19
abbrev cc0_sem15_0 : DmaSem sig := 20
abbrev cc0_sem15_1 : DmaSem sig := 21
abbrev cc0_sem16_0 : DmaSem sig := 22
abbrev cc0_sem16_1 : DmaSem sig := 23

abbrev nD : Nat := 1
abbrev τ : Topo := Topo.v7x

variable {F : FTy → Type} [FloatOps F]

abbrev grid0 : Pipeline.Grid := ⟨1, ![128], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_11 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_12 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x768 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x384 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S384x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S512x256 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S256x256 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x2048 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x2048 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S2x1024x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]
-- ==== Kernel7Ideal.lean ====
variable {F : FTy → Type} [FloatOps F] [Named F]
def κ : String → Option EReal := fun
  | "eps" => some ((26388279 * 274877906944⁻¹ : ℝ) : EReal)
  | "root" => some ((Real.sqrt 96 : ℝ) : EReal)
  | _ => none
-- ==== Reference7Ideal.lean ====
abbrev S65536x1024 : Shape := ⟨2, ![65536, 1024]⟩
abbrev S1024 : Shape := ⟨1, ![1024]⟩
abbrev S1024x672 : Shape := ⟨2, ![1024, 672]⟩
abbrev S384 : Shape := ⟨1, ![384]⟩
abbrev S256 : Shape := ⟨1, ![256]⟩
abbrev S384x1536 : Shape := ⟨2, ![384, 1536]⟩
abbrev S256x2048 : Shape := ⟨2, ![256, 2048]⟩
abbrev S96 : Shape := ⟨1, ![96]⟩
abbrev S_ : Shape := ⟨0, ![]⟩
abbrev S65536 : Shape := ⟨1, ![65536]⟩
abbrev S65536x1 : Shape := ⟨2, ![65536, 1]⟩
abbrev S1x1024 : Shape := ⟨2, ![1, 1024]⟩
abbrev S65536x672 : Shape := ⟨2, ![65536, 672]⟩
abbrev S65536x384 : Shape := ⟨2, ![65536, 384]⟩
abbrev S65536x256 : Shape := ⟨2, ![65536, 256]⟩
abbrev S65536x32 : Shape := ⟨2, ![65536, 32]⟩
abbrev S1x384 : Shape := ⟨2, ![1, 384]⟩
abbrev S65536x1536 : Shape := ⟨2, ![65536, 1536]⟩
abbrev S65536x16x96 : Shape := ⟨3, ![65536, 16, 96]⟩
abbrev S1x256 : Shape := ⟨2, ![1, 256]⟩
abbrev S65536x2048 : Shape := ⟨2, ![65536, 2048]⟩
abbrev S65536x16x128 : Shape := ⟨3, ![65536, 16, 128]⟩
abbrev S65536x1x32 : Shape := ⟨3, ![65536, 1, 32]⟩
abbrev S65536x16x32 : Shape := ⟨3, ![65536, 16, 32]⟩
abbrev S65536x16x64 : Shape := ⟨3, ![65536, 16, 64]⟩
abbrev S65536x16 : Shape := ⟨2, ![65536, 16]⟩
abbrev S65536x16x1 : Shape := ⟨3, ![65536, 16, 1]⟩
abbrev S1x1x96 : Shape := ⟨3, ![1, 1, 96]⟩
abbrev S16 : Shape := ⟨1, ![16]⟩
abbrev S4096 : Shape := ⟨1, ![4096]⟩
abbrev S4096x1 : Shape := ⟨2, ![4096, 1]⟩
abbrev S1x16 : Shape := ⟨2, ![1, 16]⟩
abbrev S4096x16 : Shape := ⟨2, ![4096, 16]⟩
abbrev S1x4096x1x16 : Shape := ⟨4, ![1, 4096, 1, 16]⟩
abbrev S16x4096x16x96 : Shape := ⟨4, ![16, 4096, 16, 96]⟩
abbrev S16x4096x16x16 : Shape := ⟨4, ![16, 4096, 16, 16]⟩
abbrev S16x4096x16x64 : Shape := ⟨4, ![16, 4096, 16, 64]⟩
abbrev S16x4096x16x32 : Shape := ⟨4, ![16, 4096, 16, 32]⟩
abbrev S16x4096x16x128 : Shape := ⟨4, ![16, 4096, 16, 128]⟩
abbrev S256x256x1024 : Shape := ⟨3, ![256, 256, 1024]⟩
abbrev S256x1024x256 : Shape := ⟨3, ![256, 1024, 256]⟩

abbrev nBuf : Space → Nat
  | .hbm => 186
  | .vmem => 0
  | .smem => 0
  | _ => 0

abbrev hbmTy0_0 (i : Nat) : BufTy := match i % 128 with
  | 0 => ⟨S65536x1024, .f32⟩
  | 1 => ⟨S1024, .f32⟩
  | 2 => ⟨S1024x672, .f32⟩
  | 3 => ⟨S384, .f32⟩
  | 4 => ⟨S256, .f32⟩
  | 5 => ⟨S384x1536, .f32⟩
  | 6 => ⟨S256x2048, .f32⟩
  | 7 => ⟨S96, .f32⟩
  | 8 => ⟨S96, .f32⟩
  | 9 => ⟨S65536x1024, .f32⟩
  | 10 => ⟨S_, .f32⟩
  | 11 => ⟨S65536, .f32⟩
  | 12 => ⟨S65536x1, .f32⟩
  | 13 => ⟨S_, .f32⟩
  | 14 => ⟨S65536x1, .f32⟩
  | 15 => ⟨S65536x1, .f32⟩
  | 16 => ⟨S_, .f32⟩
  | 17 => ⟨S65536x1, .f32⟩
  | 18 => ⟨S65536x1, .f32⟩
  | 19 => ⟨S65536x1, .f32⟩
  | 20 => ⟨S65536x1024, .f32⟩
  | 21 => ⟨S65536x1024, .f32⟩
  | 22 => ⟨S1x1024, .f32⟩
  | 23 => ⟨S65536x1024, .f32⟩
  | 24 => ⟨S65536x1024, .f32⟩
  | 25 => ⟨S65536x672, .f32⟩
  | 26 => ⟨S65536x384, .f32⟩
  | 27 => ⟨S65536x256, .f32⟩
  | 28 => ⟨S65536x32, .f32⟩
  | 29 => ⟨S65536x384, .f32⟩
  | 30 => ⟨S_, .f32⟩
  | 31 => ⟨S65536, .f32⟩
  | 32 => ⟨S65536x1, .f32⟩
  | 33 => ⟨S_, .f32⟩
  | 34 => ⟨S65536x1, .f32⟩
  | 35 => ⟨S65536x1, .f32⟩
  | 36 => ⟨S_, .f32⟩
  | 37 => ⟨S65536x1, .f32⟩
  | 38 => ⟨S65536x1, .f32⟩
  | 39 => ⟨S65536x1, .f32⟩
  | 40 => ⟨S65536x384, .f32⟩
  | 41 => ⟨S65536x384, .f32⟩
  | 42 => ⟨S1x384, .f32⟩
  | 43 => ⟨S65536x384, .f32⟩
  | 44 => ⟨S65536x384, .f32⟩
  | 45 => ⟨S65536x1536, .f32⟩
  | 46 => ⟨S65536x16x96, .f32⟩
  | 47 => ⟨S65536x256, .f32⟩
  | 48 => ⟨S_, .f32⟩
  | 49 => ⟨S65536, .f32⟩
  | 50 => ⟨S65536x1, .f32⟩
  | 51 => ⟨S_, .f32⟩
  | 52 => ⟨S65536x1, .f32⟩
  | 53 => ⟨S65536x1, .f32⟩
  | 54 => ⟨S_, .f32⟩
  | 55 => ⟨S65536x1, .f32⟩
  | 56 => ⟨S65536x1, .f32⟩
  | 57 => ⟨S65536x1, .f32⟩
  | 58 => ⟨S65536x256, .f32⟩
  | 59 => ⟨S65536x256, .f32⟩
  | 60 => ⟨S1x256, .f32⟩
  | 61 => ⟨S65536x256, .f32⟩
  | 62 => ⟨S65536x256, .f32⟩
  | 63 => ⟨S65536x2048, .f32⟩
  | 64 => ⟨S65536x16x128, .f32⟩
  | 65 => ⟨S65536x1x32, .f32⟩
  | 66 => ⟨S65536x16x32, .f32⟩
  | 67 => ⟨S65536x16x64, .f32⟩
  | 68 => ⟨S65536x16x96, .f32⟩
  | 69 => ⟨S_, .f32⟩
  | 70 => ⟨S96, .f32⟩
  | 71 => ⟨S96, .f32⟩
  | 72 => ⟨S_, .f32⟩
  | 73 => ⟨S_, .f32⟩
  | 74 => ⟨S96, .f32⟩
  | 75 => ⟨S96, .f32⟩
  | 76 => ⟨S65536x16x96, .f32⟩
  | 77 => ⟨S_, .f32⟩
  | 78 => ⟨S65536x16, .f32⟩
  | 79 => ⟨S65536x16x1, .f32⟩
  | 80 => ⟨S_, .f32⟩
  | 81 => ⟨S65536x16x1, .f32⟩
  | 82 => ⟨S65536x16x1, .f32⟩
  | 83 => ⟨S_, .f32⟩
  | 84 => ⟨S65536x16x1, .f32⟩
  | 85 => ⟨S65536x16x1, .f32⟩
  | 86 => ⟨S65536x16x1, .f32⟩
  | 87 => ⟨S65536x16x96, .f32⟩
  | 88 => ⟨S65536x16x96, .f32⟩
  | 89 => ⟨S1x1x96, .f32⟩
  | 90 => ⟨S65536x16x96, .f32⟩
  | 91 => ⟨S65536x16x96, .f32⟩
  | 92 => ⟨S16, .f32⟩
  | 93 => ⟨S16, .f32⟩
  | 94 => ⟨S_, .f32⟩
  | 95 => ⟨S16, .f32⟩
  | 96 => ⟨S16, .f32⟩
  | 97 => ⟨S_, .f32⟩
  | 98 => ⟨S16, .f32⟩
  | 99 => ⟨S16, .f32⟩
  | 100 => ⟨S4096, .f32⟩
  | 101 => ⟨S4096x1, .f32⟩
  | 102 => ⟨S1x16, .f32⟩
  | 103 => ⟨S4096x16, .f32⟩
  | 104 => ⟨S4096x16, .f32⟩
  | 105 => ⟨S4096x16, .f32⟩
  | 106 => ⟨S4096x16, .f32⟩
  | 107 => ⟨S1x4096x1x16, .f32⟩
  | 108 => ⟨S4096x16, .f32⟩
  | 109 => ⟨S1x4096x1x16, .f32⟩
  | 110 => ⟨S16x4096x16x96, .f32⟩
  | 111 => ⟨S16x4096x16x16, .f32⟩
  | 112 => ⟨S16x4096x16x16, .f32⟩
  | 113 => ⟨S16x4096x16x64, .f32⟩
  | 114 => ⟨S16x4096x16x16, .f32⟩
  | 115 => ⟨S16x4096x16x16, .f32⟩
  | 116 => ⟨S16x4096x16x16, .f32⟩
  | 117 => ⟨S16x4096x16x16, .f32⟩
  | 118 => ⟨S16x4096x16x16, .f32⟩
  | 119 => ⟨S16x4096x16x16, .f32⟩
  | 120 => ⟨S16x4096x16x16, .f32⟩
  | 121 => ⟨S16x4096x16x16, .f32⟩
  | 122 => ⟨S16x4096x16x16, .f32⟩
  | 123 => ⟨S16x4096x16x16, .f32⟩
  | 124 => ⟨S_, .f32⟩
  | 125 => ⟨S16x4096x16x32, .f32⟩
  | 126 => ⟨S16x4096x16x128, .f32⟩
  | 127 => ⟨S65536x2048, .f32⟩
  | _ => ⟨S65536x1024, .f32⟩

abbrev hbmTy0_1 (i : Nat) : BufTy := match i % 128 with
  | 0 => ⟨S65536x2048, .bf16⟩
  | 1 => ⟨S65536x16x96, .f32⟩
  | 2 => ⟨S_, .f32⟩
  | 3 => ⟨S65536x16, .f32⟩
  | 4 => ⟨S65536x16x1, .f32⟩
  | 5 => ⟨S_, .f32⟩
  | 6 => ⟨S65536x16x1, .f32⟩
  | 7 => ⟨S65536x16x1, .f32⟩
  | 8 => ⟨S_, .f32⟩
  | 9 => ⟨S65536x16x1, .f32⟩
  | 10 => ⟨S65536x16x1, .f32⟩
  | 11 => ⟨S65536x16x1, .f32⟩
  | 12 => ⟨S65536x16x96, .f32⟩
  | 13 => ⟨S65536x16x96, .f32⟩
  | 14 => ⟨S1x1x96, .f32⟩
  | 15 => ⟨S65536x16x96, .f32⟩
  | 16 => ⟨S65536x16x96, .f32⟩
  | 17 => ⟨S16, .f32⟩
  | 18 => ⟨S16, .f32⟩
  | 19 => ⟨S_, .f32⟩
  | 20 => ⟨S16, .f32⟩
  | 21 => ⟨S16, .f32⟩
  | 22 => ⟨S_, .f32⟩
  | 23 => ⟨S16, .f32⟩
  | 24 => ⟨S16, .f32⟩
  | 25 => ⟨S4096, .f32⟩
  | 26 => ⟨S4096x1, .f32⟩
  | 27 => ⟨S1x16, .f32⟩
  | 28 => ⟨S4096x16, .f32⟩
  | 29 => ⟨S4096x16, .f32⟩
  | 30 => ⟨S4096x16, .f32⟩
  | 31 => ⟨S4096x16, .f32⟩
  | 32 => ⟨S1x4096x1x16, .f32⟩
  | 33 => ⟨S4096x16, .f32⟩
  | 34 => ⟨S1x4096x1x16, .f32⟩
  | 35 => ⟨S16x4096x16x96, .f32⟩
  | 36 => ⟨S16x4096x16x16, .f32⟩
  | 37 => ⟨S16x4096x16x16, .f32⟩
  | 38 => ⟨S16x4096x16x64, .f32⟩
  | 39 => ⟨S16x4096x16x16, .f32⟩
  | 40 => ⟨S16x4096x16x16, .f32⟩
  | 41 => ⟨S16x4096x16x16, .f32⟩
  | 42 => ⟨S16x4096x16x16, .f32⟩
  | 43 => ⟨S16x4096x16x16, .f32⟩
  | 44 => ⟨S16x4096x16x16, .f32⟩
  | 45 => ⟨S16x4096x16x16, .f32⟩
  | 46 => ⟨S16x4096x16x16, .f32⟩
  | 47 => ⟨S16x4096x16x16, .f32⟩
  | 48 => ⟨S16x4096x16x16, .f32⟩
  | 49 => ⟨S_, .f32⟩
  | 50 => ⟨S16x4096x16x32, .f32⟩
  | 51 => ⟨S16x4096x16x128, .f32⟩
  | 52 => ⟨S65536x2048, .f32⟩
  | 53 => ⟨S65536x2048, .bf16⟩
  | 54 => ⟨S65536x16x64, .f32⟩
  | 55 => ⟨S256x256x1024, .f32⟩
  | 56 => ⟨S256x1024x256, .f32⟩
  | 57 => ⟨S256x1024x256, .bf16⟩
  | _ => ⟨S65536x1024, .f32⟩

abbrev hbmTy (i : Nat) : BufTy := match i / 128 with
  | 0 => hbmTy0_0 i
  | 1 => hbmTy0_1 i
  | _ => ⟨S65536x1024, .f32⟩

abbrev bufTy : (tb : Table) → Fin (tcTables nBuf tb) → BufTy
  | .hbm, ⟨i, _⟩ => hbmTy i
  | _, _ => ⟨S65536x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_cst : Ref sig .tc := ⟨.hbm, 10, rfl⟩
abbrev main_v1 : Ref sig .tc := ⟨.hbm, 11, rfl⟩
abbrev main_v2 : Ref sig .tc := ⟨.hbm, 12, rfl⟩
abbrev main_cst_0 : Ref sig .tc := ⟨.hbm, 13, rfl⟩
abbrev main_v3 : Ref sig .tc := ⟨.hbm, 14, rfl⟩
abbrev main_v4 : Ref sig .tc := ⟨.hbm, 15, rfl⟩
abbrev main_cst_1 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_2 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_cst_5 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_cst_7 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_cst_8 : Ref sig .tc := ⟨.hbm, 69, rfl⟩
abbrev main_v51 : Ref sig .tc := ⟨.hbm, 70, rfl⟩
abbrev main_v52 : Ref sig .tc := ⟨.hbm, 71, rfl⟩
abbrev main_cst_9 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_cst_10 : Ref sig .tc := ⟨.hbm, 77, rfl⟩
abbrev main_v57 : Ref sig .tc := ⟨.hbm, 78, rfl⟩
abbrev main_v58 : Ref sig .tc := ⟨.hbm, 79, rfl⟩
abbrev main_cst_11 : Ref sig .tc := ⟨.hbm, 80, rfl⟩
abbrev main_v59 : Ref sig .tc := ⟨.hbm, 81, rfl⟩
abbrev main_v60 : Ref sig .tc := ⟨.hbm, 82, rfl⟩
abbrev main_cst_12 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_v69 : Ref sig .tc := ⟨.hbm, 92, rfl⟩
abbrev main_v70 : Ref sig .tc := ⟨.hbm, 93, rfl⟩
abbrev main_cst_13 : Ref sig .tc := ⟨.hbm, 94, rfl⟩
abbrev main_v71 : Ref sig .tc := ⟨.hbm, 95, rfl⟩
abbrev main_v72 : Ref sig .tc := ⟨.hbm, 96, rfl⟩
abbrev main_cst_14 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_v76 : Ref sig .tc := ⟨.hbm, 101, rfl⟩
abbrev main_v77 : Ref sig .tc := ⟨.hbm, 102, rfl⟩
abbrev main_v78 : Ref sig .tc := ⟨.hbm, 103, rfl⟩
abbrev main_v79 : Ref sig .tc := ⟨.hbm, 104, rfl⟩
abbrev main_v80 : Ref sig .tc := ⟨.hbm, 105, rfl⟩
abbrev main_v81 : Ref sig .tc := ⟨.hbm, 106, rfl⟩
abbrev main_v82 : Ref sig .tc := ⟨.hbm, 107, rfl⟩
abbrev main_v83 : Ref sig .tc := ⟨.hbm, 108, rfl⟩
abbrev main_v84 : Ref sig .tc := ⟨.hbm, 109, rfl⟩
abbrev main_v85 : Ref sig .tc := ⟨.hbm, 110, rfl⟩
abbrev main_v86 : Ref sig .tc := ⟨.hbm, 111, rfl⟩
abbrev main_v87 : Ref sig .tc := ⟨.hbm, 112, rfl⟩
abbrev main_v88 : Ref sig .tc := ⟨.hbm, 113, rfl⟩
abbrev main_v89 : Ref sig .tc := ⟨.hbm, 114, rfl⟩
abbrev main_v90 : Ref sig .tc := ⟨.hbm, 115, rfl⟩
abbrev main_v91 : Ref sig .tc := ⟨.hbm, 116, rfl⟩
abbrev main_v92 : Ref sig .tc := ⟨.hbm, 117, rfl⟩
abbrev main_v93 : Ref sig .tc := ⟨.hbm, 118, rfl⟩
abbrev main_v94 : Ref sig .tc := ⟨.hbm, 119, rfl⟩
abbrev main_v95 : Ref sig .tc := ⟨.hbm, 120, rfl⟩
abbrev main_v96 : Ref sig .tc := ⟨.hbm, 121, rfl⟩
abbrev main_v97 : Ref sig .tc := ⟨.hbm, 122, rfl⟩
abbrev main_v98 : Ref sig .tc := ⟨.hbm, 123, rfl⟩
abbrev main_cst_15 : Ref sig .tc := ⟨.hbm, 124, rfl⟩
abbrev main_v99 : Ref sig .tc := ⟨.hbm, 125, rfl⟩
abbrev main_v100 : Ref sig .tc := ⟨.hbm, 126, rfl⟩
abbrev main_v101 : Ref sig .tc := ⟨.hbm, 127, rfl⟩
abbrev main_v102 : Ref sig .tc := ⟨.hbm, 128, rfl⟩
abbrev main_v103 : Ref sig .tc := ⟨.hbm, 129, rfl⟩
abbrev main_cst_16 : Ref sig .tc := ⟨.hbm, 130, rfl⟩
abbrev main_v104 : Ref sig .tc := ⟨.hbm, 131, rfl⟩
abbrev main_v105 : Ref sig .tc := ⟨.hbm, 132, rfl⟩
abbrev main_cst_17 : Ref sig .tc := ⟨.hbm, 133, rfl⟩
abbrev main_v106 : Ref sig .tc := ⟨.hbm, 134, rfl⟩
abbrev main_v107 : Ref sig .tc := ⟨.hbm, 135, rfl⟩
abbrev main_cst_18 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_cst_19 : Ref sig .tc := ⟨.hbm, 147, rfl⟩
abbrev main_v118 : Ref sig .tc := ⟨.hbm, 148, rfl⟩
abbrev main_v119 : Ref sig .tc := ⟨.hbm, 149, rfl⟩
abbrev main_cst_20 : Ref sig .tc := ⟨.hbm, 150, rfl⟩
abbrev main_v120 : Ref sig .tc := ⟨.hbm, 151, rfl⟩
abbrev main_v121 : Ref sig .tc := ⟨.hbm, 152, rfl⟩
abbrev main_v122 : Ref sig .tc := ⟨.hbm, 153, rfl⟩
abbrev main_v123 : Ref sig .tc := ⟨.hbm, 154, rfl⟩
abbrev main_v124 : Ref sig .tc := ⟨.hbm, 155, rfl⟩
abbrev main_v125 : Ref sig .tc := ⟨.hbm, 156, rfl⟩
abbrev main_v126 : Ref sig .tc := ⟨.hbm, 157, rfl⟩
abbrev main_v127 : Ref sig .tc := ⟨.hbm, 158, rfl⟩
abbrev main_v128 : Ref sig .tc := ⟨.hbm, 159, rfl⟩
abbrev main_v129 : Ref sig .tc := ⟨.hbm, 160, rfl⟩
abbrev main_v130 : Ref sig .tc := ⟨.hbm, 161, rfl⟩
abbrev main_v131 : Ref sig .tc := ⟨.hbm, 162, rfl⟩
abbrev main_v132 : Ref sig .tc := ⟨.hbm, 163, rfl⟩
abbrev main_v133 : Ref sig .tc := ⟨.hbm, 164, rfl⟩
abbrev main_v134 : Ref sig .tc := ⟨.hbm, 165, rfl⟩
abbrev main_v135 : Ref sig .tc := ⟨.hbm, 166, rfl⟩
abbrev main_v136 : Ref sig .tc := ⟨.hbm, 167, rfl⟩
abbrev main_v137 : Ref sig .tc := ⟨.hbm, 168, rfl⟩
abbrev main_v138 : Ref sig .tc := ⟨.hbm, 169, rfl⟩
abbrev main_v139 : Ref sig .tc := ⟨.hbm, 170, rfl⟩
abbrev main_v140 : Ref sig .tc := ⟨.hbm, 171, rfl⟩
abbrev main_v141 : Ref sig .tc := ⟨.hbm, 172, rfl⟩
abbrev main_v142 : Ref sig .tc := ⟨.hbm, 173, rfl⟩
abbrev main_v143 : Ref sig .tc := ⟨.hbm, 174, rfl⟩
abbrev main_v144 : Ref sig .tc := ⟨.hbm, 175, rfl⟩
abbrev main_v145 : Ref sig .tc := ⟨.hbm, 176, rfl⟩
abbrev main_cst_21 : Ref sig .tc := ⟨.hbm, 177, rfl⟩
abbrev main_v146 : Ref sig .tc := ⟨.hbm, 178, rfl⟩
abbrev main_v147 : Ref sig .tc := ⟨.hbm, 179, rfl⟩
abbrev main_v148 : Ref sig .tc := ⟨.hbm, 180, rfl⟩
abbrev main_v149 : Ref sig .tc := ⟨.hbm, 181, rfl⟩
abbrev main_v150 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩

abbrev nD : Nat := 1
abbrev τ : Topo := Topo.v7x

variable {F : FTy → Type} [FloatOps F]
-- ==== Proof.RunIdeal.lean ====
/- The body of the attention call, run once on any staging memrefs. What the kernel stores is the
   witness of a subtype, found by the run: the quotient of the state the cheap loop leaves where its
   denominators stay in range, else the quotient of the state the exact loop leaves. -/
module

public import proofs.«01_k».proof.Proof.Gen.KernelIdeal.Frame
public import proofs.«01_k».proof.Proof.Gen.KernelIdeal.Loops
public import Idealize.ShloMosaic.Lib.Ring
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-- The value a one-bit word picks. -/
def pick {α : Type} (c : BitVec 1) (a b : α) : α := if c = 1#1 then a else b
theorem pick_pos {α : Type} {c : BitVec 1} {a b : α} (h : c = 1#1) : pick c a b = a := if_pos h
theorem pick_neg {α : Type} {c : BitVec 1} {a b : α} (h : ¬ c = 1#1) : pick c a b = b := if_neg h

set_option maxHeartbeats 4000000 in
/-- The stored pieces with the triple: the inputs' buffers come back as they were, the output's with
    the pieces written. -/
noncomputable def bodyRun (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x16x256x256 .bf16) (harg5 : arg5.IsWhole) (arg6 : Memref sig .tc .vmem S1x512x256 .bf16) (harg6 : arg6.IsWhole)
    (x0 : Vec F S1x512x512 .bf16) (x1 : Vec F S1x4096x512 .bf16) (x2 : Vec F S1x16x256x256 .bf16) :
    { V : FVec F S512x256 .bf16 //
      ∀ (E : Set ℕ) (K : PUnit → sProp 𝕄),
        iprop(owns (c : Thread nD τ) arg3 fullShare x0 ∗ owns (c : Thread nD τ) arg4 fullShare x1 ∗ owns (c : Thread nD τ) arg5 fullShare x2 ∗ (∃ d, owns (c : Thread nD τ) arg6 fullShare d)
            ∗ (iprop(owns (c : Thread nD τ) arg3 fullShare x0 ∗ owns (c : Thread nD τ) arg4 fullShare x1 ∗ owns (c : Thread nD τ) arg5 fullShare x2 ∗ (∃ f, arg6.view.loc (c : Thread nD τ) ↦[arg6.view.set]{fullShare} arg6.view.writes (Elt F) f [⟨Rect.unit (s := S1x512x256) ![0, 0, 0] S1x512x256.size inb_S1x512x256_S1x512x256_0_0_0, k0_pay7 V⟩])) -∗ K ⟨⟩))
          ⊢ wp frame (wpE (defs₀ (F := F)) Variants.none c none) E (cc0_mla_attention i arg3 harg3 arg4 harg4 arg5 harg5 arg6 harg6) K } := by
  refine ⟨pick ?c ?a ?b, fun E K => ?run⟩
  rotate_left 3
  simp only [cc0_mla_attention_eq_skeleton]; unfold cc0_mla_attention_skel
  simp only [k0_part13_eq_skeleton, k0_part14_eq_skeleton, k0_part15_eq_skeleton, k0_part16_eq_skeleton, k0_part17_eq_skeleton]
  unfold owns
  iintro ⟨⟨%f0, %hf0, H0⟩, ⟨%f1, %hf1, H1⟩, ⟨%f2, %hf2, H2⟩, ⟨%d3, %f3, -, H3⟩, Hk⟩
  obtain rfl := harg3.eq_unread hf0; obtain rfl := harg4.eq_unread hf1; obtain rfl := harg5.eq_unread hf2
  sl_exec
  case c => exact Scalar.cmpi .ne (Scalar.extui (Scalar.cmpf .olt (bodyRun.sl.r_34 c i arg3 harg3 arg4 harg4 arg5 harg5 arg6 harg6 x0 x1 x2) (FloatOps.ofBits FTy.f32 0x5F800000#32)) : BitVec 32) 0#32
  split
  · rename_i hcond
    rw [pick_pos hcond]
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3
  · rename_i hcond
    rw [pick_neg hcond]
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    iexists _; iexact H3

end Cert.KernelIdeal.Body

end
-- ==== Proof.FrameIdeal.lean ====
/- The frame of the attention call: the pipeline's proof data (each input window's buffer at its block,
   the output's at what the body stores), the body's triple at every grid point, the run of the whole
   program and the frame with every semaphore counter at zero. The set-up follows the form of a
   generated frame certificate. -/
module

public import proofs.«01_k».proof.Proof.RunIdeal
public import Idealize.ShloMosaic.Lib.Pipeline.FrameBody
public import Idealize.ShloMosaic.Lib.Claim

@[expose] public section

set_option maxRecDepth 16384

noncomputable section

namespace Cert.KernelIdeal.Body

open Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- One staging buffer of output window 3, through which its contents are stated (`View.read_writes_of_cover`: the
    choice does not matter). -/
abbrev VO0_3 : View sig .tc .vmem S1x512x256 .bf16 := (Memref.whole cc0_stg3_0 : Memref sig .tc .vmem S1x512x256 .bf16).view
/-- Each window's current staging memref at point `t`, spelled as the pipeline passes it (`bodyAt0`), and its wholeness. -/
abbrev ms0_0 (t : Fin cfg0.N) : Memref sig .tc .vmem S1x512x512 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x4096x512 .bf16 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x16x256x256 .bf16 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x512x256 .bf16 := win0_3.stage (cfg0.slots t 3)
abbrev hs0_3 (t : Fin cfg0.N) : (ms0_3 t).IsWhole := hstage0_3 ((cfg0.slots t 3).cast nbuf0_3)

variable (m : (ℓ : Loc nD τ sig) → Buf (Elt F) ℓ) (ρ : Dev nD → PrngReg)
/-- The body's one store, as a list of pieces. -/
def piece (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x16x256x256 .bf16) (harg5 : arg5.IsWhole) (arg6 : Memref sig .tc .vmem S1x512x256 .bf16) (harg6 : arg6.IsWhole)
    (x0 : Vec F S1x512x512 .bf16) (x1 : Vec F S1x4096x512 .bf16) (x2 : Vec F S1x16x256x256 .bf16) :
    List (View.Piece (Elt F) S1x512x256 .bf16) :=
  [⟨Rect.unit (s := S1x512x256) ![0, 0, 0] S1x512x256.size inb_S1x512x256_S1x512x256_0_0_0, k0_pay7 (bodyRun c i arg3 harg3 arg4 harg4 arg5 harg5 arg6 harg6 x0 x1 x2).1⟩]

/-- It covers the output's block. -/
theorem cover (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x16x256x256 .bf16) (harg5 : arg5.IsWhole) (arg6 : Memref sig .tc .vmem S1x512x256 .bf16) (harg6 : arg6.IsWhole)
    (x0 : Vec F S1x512x512 .bf16) (x1 : Vec F S1x4096x512 .bf16) (x2 : Vec F S1x16x256x256 .bf16) (y : S1x512x256.Idx) :
    ∃ pc ∈ piece c i arg3 harg3 arg4 harg4 arg5 harg5 arg6 harg6 x0 x1 x2, y ∈ pc.1.set :=
  View.cover_of_tiledL (piece c i arg3 harg3 arg4 harg4 arg5 harg5 arg6 harg6 x0 x1 x2) S1x512x256.size (by sl_kernel_rfl) y

/-- What the body leaves in the output's staging buffer. -/
def out0 (c : Dev nD) (i : grid0.Coords) (arg3 : Memref sig .tc .vmem S1x512x512 .bf16) (harg3 : arg3.IsWhole) (arg4 : Memref sig .tc .vmem S1x4096x512 .bf16) (harg4 : arg4.IsWhole) (arg5 : Memref sig .tc .vmem S1x16x256x256 .bf16) (harg5 : arg5.IsWhole) (arg6 : Memref sig .tc .vmem S1x512x256 .bf16) (harg6 : arg6.IsWhole)
    (x0 : Vec F S1x512x512 .bf16) (x1 : Vec F S1x4096x512 .bf16) (x2 : Vec F S1x16x256x256 .bf16) : Vec F S1x512x256 .bf16 :=
  VO0_3.read (Elt F) (VO0_3.writes (Elt F) VO0_3.junk (piece c i arg3 harg3 arg4 harg4 arg5 harg5 arg6 harg6 x0 x1 x2))

/-! ## What the outputs hold after each point -/

/-- What the outputs' staging buffers hold after the body at point `t`: the run's contents at
    the point's memrefs and input blocks. -/
def outsAt0 (c : Dev nD) (t : Fin cfg0.N) : Vec F S1x512x256 .bf16 :=
  out0 c (grid0.coords t) (ms0_0 t) (hs0_0 t) (ms0_1 t) (hs0_1 t) (ms0_2 t) (hs0_2 t) (ms0_3 t) (hs0_3 t) (iblk m c 0 t) (iblk m c 1 t) (iblk m c 2 t)

/-! ## The pipeline's proof data -/

/-- The proof data of the one pipeline on core `c`: the arrays as the region finds them (`V`); after the body at
    point `t` each input's buffer at its block and the outputs' at `outsAt0`; the invariant the class's
    (Lib/Pipeline/Frame.lean `ΦA`: the scoped rest and the generator register); nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => (outsAt0 m c t)
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = (outsAt0 m c t) := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t))

/-- The body at any point: the inputs' memrefs hold their blocks (`before0_W`); so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).Φ t.succ = (dats m 0 c).Φ t.castSucc from rfl,
    show (dats m 0 c).owesAt () t.succ = (dats m 0 c).owesAt () t.castSucc from rfl,
    after0_0, after0_1, after0_2, after0_3]
  unfold outsAt0
  unfold out0
  iintro ⟨HΦ, Ho, ⟨%d0, H0⟩, ⟨%d1, H1⟩, ⟨%d2, H2⟩, ⟨%d3, H3⟩⟩
  iapply ((bodyRun c (grid0.coords t) _ _ _ _ _ _ _ _ (iblk m c 0 t) (iblk m c 1 t) (iblk m c 2 t)).2 Set.univ _)
  isplitl [H0]; · iexact H0
  isplitl [H1]; · iexact H1
  isplitl [H2]; · iexact H2
  isplitl [H3]; · iexists _; iexact H3
  iintro ⟨H0, H1, H2, ⟨%e3, H3⟩⟩
  isplitl [HΦ]; · iexact HΦ
  isplitl [Ho]; · iexact Ho
  isplitl [H0]; · iexact H0
  isplitl [H1]; · iexact H1
  isplitl [H2]; · iexact H2
  unfold owns; iexists _; isplitr
  swap; · iexact H3
  ipureintro; exact View.read_writes_of_cover _ _ _ _ _ (cover c _ _ _ _ _ _ _ _ _ _ _ _)

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- THE FRAME, with the counters. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

end Cert.KernelIdeal.Body

end
-- ==== Proof.MlpBody.lean ====
/-
  The MLP call's body, read as values: what its two cases leave in the output's buffer and in the scratch.

  The first point of a row block forms the residual stream after the mixer's output projection (`k0_pay2`), its
  normalised copy (`k0_pay3`, kept in the scratch), and adds the first quarter of the hidden units (`k0_pay4`); each
  later point adds one more quarter to what the point before left (`k0_pay1`).
-/
module

public import proofs.«01_k».proof.Defs
public import proofs.«01_k».proof.Proof.Gen.Kernel2Ideal.Value
public import Idealize.ShloMosaic.Lib.Pipeline.Value
public import Idealize.ShloMosaic.Lib.Tactic

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

variable {F : FTy → Type} [FloatOps F]

/-- The all-zero offsets of a whole-buffer access. -/
theorem hz : (![0, 0] : Fin 2 → Nat) = fun _ => 0 := funext fun a => by fin_cases a <;> rfl

section Cases

variable (c : Dev nD) (i : grid0.Coords)
  (arg2 : Memref sig .tc .vmem S1024x1024 .f32) (harg2 : arg2.IsWhole)
  (arg3 : Memref sig .tc .vmem S1024x1024 .bf16) (harg3 : arg3.IsWhole)
  (arg4 : Memref sig .tc .vmem S1024x1024 .bf16) (harg4 : arg4.IsWhole)
  (arg5 : Memref sig .tc .vmem S1x1024 .f32) (harg5 : arg5.IsWhole)
  (arg6 : Memref sig .tc .vmem S1024x1024 .bf16) (harg6 : arg6.IsWhole)
  (arg7 : Memref sig .tc .vmem S1024x1024 .bf16) (harg7 : arg7.IsWhole)
  (arg8 : Memref sig .tc .vmem S1024x1024 .f32) (harg8 : arg8.IsWhole)
  (arg9 : Memref sig .tc .vmem S1024x1024 .bf16) (harg9 : arg9.IsWhole)
  (x0 : Vec F S1024x1024 .f32) (x1 x2 : Vec F S1024x1024 .bf16) (x3 : Vec F S1x1024 .f32)
  (x4 x5 : Vec F S1024x1024 .bf16)

/-- A first point leaves in the output the residual stream plus the first quarter of the hidden units. -/
theorem out_A (hc0 : cond0_0 i) (hc1 : ¬cond0_1 i) :
    out0_A_6 c i arg2 harg2 arg3 harg3 arg4 harg4 arg5 harg5 arg6 harg6 arg7 harg7 arg8 harg8 arg9 harg9 hc0 hc1
      x0 x1 x2 x3 x4 x5 = k0_pay4 x0 x1 x2 (k0_pay3 x0 x1 x2 x3) x4 x5 := by
  unfold out0_A_6
  rw [View.read_writes_eq_canon _ _ _ (cover0_A_6 c i arg2 harg2 arg3 harg3 arg4 harg4 arg5 harg5 arg6 harg6
    arg7 harg7 arg8 harg8 arg9 harg9 hc0 hc1 x0 x1 x2 x3 x4 x5)]
  unfold kernelRun0_A
  dsimp only
  sl_unfold_words
  simp only [View.canon_unit_zero (S := S1024x1024) hz, View.readCov_unit_zero (S := S1024x1024) _ hz,
    View.readAt_eq_ld, harg2.read_unread, harg3.read_unread, harg4.read_unread, harg5.read_unread,
    harg6.read_unread, harg7.read_unread, View.ld_unit_zero (S := S1024x1024) hz,
    View.ld_unit_zero (S := S1x1024) hz]

/-- A first point leaves the normalised rows in the scratch. -/
theorem sout_A (hc0 : cond0_0 i) (hc1 : ¬cond0_1 i) :
    sout0_A_0 c i arg2 harg2 arg3 harg3 arg4 harg4 arg5 harg5 arg6 harg6 arg7 harg7 arg8 harg8 arg9 harg9 hc0 hc1
      x0 x1 x2 x3 x4 x5 = k0_pay3 x0 x1 x2 x3 := by
  unfold sout0_A_0
  rw [View.read_writes_eq_canon _ _ _ (scover0_A_0 c i arg2 harg2 arg3 harg3 arg4 harg4 arg5 harg5 arg6 harg6
    arg7 harg7 arg8 harg8 arg9 harg9 hc0 hc1 x0 x1 x2 x3 x4 x5)]
  unfold kernelRun0_A
  dsimp only
  sl_unfold_words
  simp only [View.canon_unit_zero (S := S1024x1024) hz, View.readCov_unit_zero (S := S1024x1024) _ hz,
    View.readAt_eq_ld, harg2.read_unread, harg3.read_unread, harg4.read_unread, harg5.read_unread,
    View.ld_unit_zero (S := S1024x1024) hz, View.ld_unit_zero (S := S1x1024) hz]

/-- A later point adds its quarter of the hidden units to what the point before left. -/
theorem out_B (hc0 : ¬cond0_0 i) (hc1 : cond0_1 i) (xo : Vec F S1024x1024 .f32) (xs : Vec F S1024x1024 .bf16) :
    out0_B_6 c i arg2 harg2 arg3 harg3 arg4 harg4 arg5 harg5 arg6 harg6 arg7 harg7 arg8 harg8 arg9 harg9 hc0 hc1
      x0 x1 x2 x3 x4 x5 xo xs = k0_pay1 xo xs x4 x5 := by
  unfold out0_B_6
  rw [View.read_writes_eq_canon _ _ _ (cover0_B_6 c i arg2 harg2 arg3 harg3 arg4 harg4 arg5 harg5 arg6 harg6
    arg7 harg7 arg8 harg8 arg9 harg9 hc0 hc1 x0 x1 x2 x3 x4 x5 xo xs)]
  unfold kernelRun0_B
  dsimp only
  sl_unfold_words
  simp only [View.canon_unit_zero (S := S1024x1024) hz, View.readAt_eq_ld, harg6.read_unread, harg7.read_unread,
    harg8.read_unread, harg9.read_unread, View.ld_unit_zero (S := S1024x1024) hz]

end Cases

end Cert.Kernel2Ideal.Mlp

end
-- ==== Proof.MlpMath.lean ====
/-
  The MLP half of a layer over the extended reals, as one formula per element, and the reference's composed term read
  as that formula.
-/
module

public import proofs.«01_k».proof.Defs
public import proofs.«01_k».proof.Proof.Gen.Reference2Ideal.Run
public import Idealize.ShloMosaic.Lib.Pointwise

@[expose] public section

set_option maxRecDepth 16384

noncomputable section

namespace Cert.MlpMath

open Idealize.ShloMosaic Idealize.ShloMosaic.TcCoe Cert.Reference2Ideal Cert.Reference2Ideal.Gen

variable (H : Vec Ideal S65536x1024 .f32) (O : Vec Ideal S65536x1024 .bf16) (W : Vec Ideal S1024x1024 .bf16)
  (G : Vec Ideal S1024 .f32) (U : Vec Ideal S1024x4096 .bf16) (D : Vec Ideal S4096x1024 .bf16)

/-- The residual stream of row `R` after the mixer's output projection, column `k`. -/
def resid (R : Fin 65536) (k : Fin 1024) : EReal := H (ix2 R k) + ∑ x, O (ix2 R x) * W (ix2 x k)

/-- The row's normalised copy: divided by its root mean square (plus the small constant), times the gains. -/
def normed (R : Fin 65536) (k : Fin 1024) : EReal :=
  resid H O W R k * Ideal.rsqrt (Ideal.div (∑ x, resid H O W R x * resid H O W R x) (Ideal.ofBits FTy.f32 1149239296#32)
    + Ideal.ofBits FTy.f32 897988541#32) * G (ix1 k)

/-- Hidden unit `f` of row `R`: the squared positive part of the up projection. -/
def hidden (R : Fin 65536) (f : Fin 4096) : EReal :=
  max (∑ x, normed H O W G R x * U (ix2 x f)) 0 * max (∑ x, normed H O W G R x * U (ix2 x f)) 0

/-- The result: the residual stream plus the down projection of all hidden units. -/
def result (R : Fin 65536) (k : Fin 1024) : EReal :=
  resid H O W R k + ∑ f, hidden H O W G U R f * D (ix2 f k)

/-! ## The reference's operations, in three stages -/

/-- The reference's residual stream. -/
def refResid : FVec Ideal S65536x1024 .f32 :=
  addf H (Host.dotGeneral dot_S65536x1024_S1024x1024_S65536x1024_1_0_0_1_n_n none (extf .f32 O bitsLt_bf16_f32) (extf .f32 W bitsLt_bf16_f32))

/-- The reference's normalisation of a residual stream. -/
def refNormed (h : FVec Ideal S65536x1024 .f32) : FVec Ideal S65536x1024 .f32 :=
  mulf (mulf h (broadcastInDim S65536x1024 ![0, 1] bcast_S65536x1_S65536x1024_0_1 (Host.rsqrt (addf (Host.divf (broadcastInDim S65536x1 ![0] bcast_S65536_S65536x1_0 (Host.reduceAdd (mulf h h) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 G))

/-- The reference's positive part of the up projection. -/
def refRelu (n : FVec Ideal S65536x1024 .f32) : FVec Ideal S65536x4096 .f32 :=
  maximumf (Host.dotGeneral dot_S65536x1024_S1024x4096_S65536x4096_1_0_0_1_n_n none n (extf .f32 U bitsLt_bf16_f32)) (broadcastInDim S65536x4096 ![] bcast_S_S65536x4096 (constant S_ .f32 0x00000000#32))

/-- The reference's result. -/
def refOut : FVec Ideal S65536x1024 .f32 :=
  addf (refResid H O W) (Host.dotGeneral dot_S65536x4096_S4096x1024_S65536x1024_1_0_0_1_n_n none (mulf (refRelu U (refNormed G (refResid H O W))) (refRelu U (refNormed G (refResid H O W)))) (extf .f32 D bitsLt_bf16_f32))

theorem refResid_at (R : Fin 65536) (k : Fin 1024) : refResid H O W (ix2 R k) = resid H O W R k := by
  pointwise [refResid, resid]

theorem refNormed_at (R : Fin 65536) (k : Fin 1024) :
    refNormed G (refResid H O W) (ix2 R k) = normed H O W G R k := by
  pointwise [refNormed, normed]
  simp only [refResid_at]

theorem refRelu_at (R : Fin 65536) (f : Fin 4096) :
    refRelu U (refNormed G (refResid H O W)) (ix2 R f) = max (∑ x, normed H O W G R x * U (ix2 x f)) 0 := by
  pointwise [refRelu]
  simp only [refNormed_at]

/-- The reference computes the formula. -/
theorem refOut_at (R : Fin 65536) (k : Fin 1024) : refOut H O W G U D (ix2 R k) = result H O W G U D R k := by
  pointwise [refOut, result, hidden]
  simp only [refResid_at, refRelu_at]

end Cert.MlpMath

end
-- ==== Proof.MlpValue.lean ====
/-
  The MLP call's result array over the extended reals: at every element, the formula of `MlpMath`.
-/
module

public import proofs.«01_k».proof.Proof.MlpBody
public import proofs.«01_k».proof.Proof.MlpMath
public import Idealize.ShloMosaic.Lib.Pointwise

@[expose] public section

set_option maxRecDepth 16384

noncomputable section

namespace Cert.Kernel2Ideal.Mlp

open Cert.Kernel2Ideal Cert.Kernel2Ideal.Gen Idealize.ShloMosaic Idealize.ShloMosaic.TcCoe Idealize.SL.Sem

/-! ## The payloads at an index -/

theorem pay2_at (x0 : Vec Ideal S1024x1024 .f32) (x1 x2 : Vec Ideal S1024x1024 .bf16) (r k : Fin 1024) :
    k0_pay2 x0 x1 x2 (ix2 r k) = x0 (ix2 r k) + ∑ x, x1 (ix2 r x) * x2 (ix2 x k) := by
  pointwise [k0_pay2]

theorem pay3_at (x0 : Vec Ideal S1024x1024 .f32) (x1 x2 : Vec Ideal S1024x1024 .bf16) (x3 : Vec Ideal S1x1024 .f32)
    (r k : Fin 1024) :
    k0_pay3 x0 x1 x2 x3 (ix2 r k) = k0_pay2 x0 x1 x2 (ix2 r k) * Ideal.rsqrt (Ideal.div
      (∑ x, k0_pay2 x0 x1 x2 (ix2 r x) * k0_pay2 x0 x1 x2 (ix2 r x)) (Ideal.ofBits FTy.f32 1149239296#32)
      + Ideal.ofBits FTy.f32 897988541#32) * x3 (ix2 0 k) := by
  pointwise [k0_pay3]

/-- A quarter's contribution: 1024 hidden units of row `r` through the down projection. -/
def part (n x4 x5 : Vec Ideal S1024x1024 .bf16) (r k : Fin 1024) : EReal :=
  ∑ x, max (∑ y, n (ix2 r y) * x4 (ix2 y x)) 0 * max (∑ y, n (ix2 r y) * x4 (ix2 y x)) 0 * x5 (ix2 x k)

theorem pay4_at (x0 : Vec Ideal S1024x1024 .f32) (x1 x2 n x4 x5 : Vec Ideal S1024x1024 .bf16) (r k : Fin 1024) :
    k0_pay4 x0 x1 x2 n x4 x5 (ix2 r k) = k0_pay2 x0 x1 x2 (ix2 r k) + part n x4 x5 r k := by
  pointwise [k0_pay4, part]

theorem pay1_at (v : Vec Ideal S1024x1024 .f32) (n x4 x5 : Vec Ideal S1024x1024 .bf16) (r k : Fin 1024) :
    k0_pay1 v n x4 x5 (ix2 r k) = v (ix2 r k) + part n x4 x5 r k := by
  pointwise [k0_pay1, part]

/-! ## The blocks at an index -/

variable (m : (ℓ : Loc nD τ sig) → Buf (Elt Ideal) ℓ) (c : Dev nD)

/-- The printed index maps, decided over the grid: point `t` is row block `t / 4`, quarter `t % 4`. -/
theorem maps : ∀ t : Fin cfg0.N,
    win0_0.index t (0 : Fin 2) = t.val / 4 ∧ win0_0.index t (1 : Fin 2) = 0
    ∧ win0_1.index t (0 : Fin 2) = t.val / 4 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = t.val % 4
    ∧ win0_5.index t (0 : Fin 2) = t.val % 4 ∧ win0_5.index t (1 : Fin 2) = 0 :=
  (by decide +kernel : ∀ t : Fin grid0.N, _)

theorem N_eq : cfg0.N = 256 := N_0

/-- Row `r` of point `t`'s row block, as a row of the array. -/
def row (t : Fin cfg0.N) (r : Fin 1024) : Fin 65536 :=
  ⟨t.val / 4 * 1024 + r.val, by have h := lt_of_lt_of_eq t.isLt N_eq; omega⟩

/-- Unit `f` of point `t`'s quarter, as one of the 4096 hidden units. -/
def unit (t : Fin cfg0.N) (f : Fin 1024) : Fin 4096 :=
  ⟨t.val % 4 * 1024 + f.val, by omega⟩

theorem blk0_at (t : Fin cfg0.N) (r k : Fin 1024) :
    (iblk m c 0 t : Vec Ideal S1024x1024 .f32) (ix2 r k) = m ((c : Thread nD τ).loc main_arg0) (ix2 (row t r) k) := by
  obtain ⟨e0, e1, -⟩ := maps t
  unfold iblk
  rw [View.read_apply]
  show V m c main_arg0 _ = _
  rw [V_main_arg0]
  congr 1
  funext a; apply Fin.ext
  match a with
  | ⟨0, _⟩ => show win0_0.index t (0 : Fin 2) * 1024 + 1 * r.val = t.val / 4 * 1024 + r.val; omega
  | ⟨1, _⟩ => show win0_0.index t (1 : Fin 2) * 1024 + 1 * k.val = k.val; omega

theorem blk1_at (t : Fin cfg0.N) (r k : Fin 1024) :
    (iblk m c 1 t : Vec Ideal S1024x1024 .bf16) (ix2 r k) = m ((c : Thread nD τ).loc main_arg1) (ix2 (row t r) k) := by
  obtain ⟨-, -, e0, e1, -⟩ := maps t
  unfold iblk
  rw [View.read_apply]
  show V m c main_arg1 _ = _
  rw [V_main_arg1]
  congr 1
  funext a; apply Fin.ext
  match a with
  | ⟨0, _⟩ => show win0_1.index t (0 : Fin 2) * 1024 + 1 * r.val = t.val / 4 * 1024 + r.val; omega
  | ⟨1, _⟩ => show win0_1.index t (1 : Fin 2) * 1024 + 1 * k.val = k.val; omega

theorem blk2_at (t : Fin cfg0.N) (r k : Fin 1024) :
    (iblk m c 2 t : Vec Ideal S1024x1024 .bf16) (ix2 r k) = m ((c : Thread nD τ).loc main_arg2) (ix2 r k) := by
  obtain ⟨-, -, -, -, e0, e1, -⟩ := maps t
  unfold iblk
  rw [View.read_apply]
  show V m c main_arg2 _ = _
  rw [V_main_arg2]
  congr 1
  funext a; apply Fin.ext
  match a with
  | ⟨0, _⟩ => show win0_2.index t (0 : Fin 2) * 1024 + 1 * r.val = r.val; omega
  | ⟨1, _⟩ => show win0_2.index t (1 : Fin 2) * 1024 + 1 * k.val = k.val; omega

/-- The gains, laid out as one row before the call. -/
theorem V_gain (k : Fin 1024) : V m c main_v0 (ix2 0 k) = m ((c : Thread nD τ).loc main_arg3) (ix1 k) := by
  have h : V m c main_v0 = shapeCast S1x1024 (m ((c : Thread nD τ).loc main_arg3) : Vec Ideal S1024 .f32)
      (show S1024.ShapeCasts S1x1024 by decide) := by
    simp only [V, hostOps0]; after_results; rfl
  rw [h]
  pointwise

theorem blk3_at (t : Fin cfg0.N) (k : Fin 1024) :
    (iblk m c 3 t : Vec Ideal S1x1024 .f32) (ix2 0 k) = m ((c : Thread nD τ).loc main_arg3) (ix1 k) := by
  obtain ⟨-, -, -, -, -, -, e0, e1, -⟩ := maps t
  rw [← V_gain m c k]
  unfold iblk
  rw [View.read_apply]
  show V m c main_v0 _ = _
  congr 1
  funext a; apply Fin.ext
  match a with
  | ⟨0, _⟩ => show win0_3.index t (0 : Fin 2) * 1 + 1 * 0 = 0; omega
  | ⟨1, _⟩ => show win0_3.index t (1 : Fin 2) * 1024 + 1 * k.val = k.val; omega

theorem blk4_at (t : Fin cfg0.N) (k f : Fin 1024) :
    (iblk m c 4 t : Vec Ideal S1024x1024 .bf16) (ix2 k f) = m ((c : Thread nD τ).loc main_arg4) (ix2 k (unit t f)) := by
  obtain ⟨-, -, -, -, -, -, -, -, e0, e1, -⟩ := maps t
  unfold iblk
  rw [View.read_apply]
  show V m c main_arg4 _ = _
  rw [V_main_arg4]
  congr 1
  funext a; apply Fin.ext
  match a with
  | ⟨0, _⟩ => show win0_4.index t (0 : Fin 2) * 1024 + 1 * k.val = k.val; omega
  | ⟨1, _⟩ => show win0_4.index t (1 : Fin 2) * 1024 + 1 * f.val = t.val % 4 * 1024 + f.val; omega

theorem blk5_at (t : Fin cfg0.N) (f k : Fin 1024) :
    (iblk m c 5 t : Vec Ideal S1024x1024 .bf16) (ix2 f k) = m ((c : Thread nD τ).loc main_arg5) (ix2 (unit t f) k) := by
  obtain ⟨-, -, -, -, -, -, -, -, -, -, e0, e1⟩ := maps t
  unfold iblk
  rw [View.read_apply]
  show V m c main_arg5 _ = _
  rw [V_main_arg5]
  congr 1
  funext a; apply Fin.ext
  match a with
  | ⟨0, _⟩ => show win0_5.index t (0 : Fin 2) * 1024 + 1 * f.val = t.val % 4 * 1024 + f.val; omega
  | ⟨1, _⟩ => show win0_5.index t (1 : Fin 2) * 1024 + 1 * k.val = k.val; omega

/-! ## The array's formula, at this launch's arguments -/

/-- The residual stream at this launch's arguments. -/
abbrev residM := MlpMath.resid (m ((c : Thread nD τ).loc main_arg0)) (m ((c : Thread nD τ).loc main_arg1))
  (m ((c : Thread nD τ).loc main_arg2))
/-- Its normalised copy. -/
abbrev normedM := MlpMath.normed (m ((c : Thread nD τ).loc main_arg0)) (m ((c : Thread nD τ).loc main_arg1))
  (m ((c : Thread nD τ).loc main_arg2)) (m ((c : Thread nD τ).loc main_arg3))
/-- The hidden units. -/
abbrev hiddenM := MlpMath.hidden (m ((c : Thread nD τ).loc main_arg0)) (m ((c : Thread nD τ).loc main_arg1))
  (m ((c : Thread nD τ).loc main_arg2)) (m ((c : Thread nD τ).loc main_arg3)) (m ((c : Thread nD τ).loc main_arg4))
/-- The result. -/
abbrev resultM := MlpMath.result (m ((c : Thread nD τ).loc main_arg0)) (m ((c : Thread nD τ).loc main_arg1))
  (m ((c : Thread nD τ).loc main_arg2)) (m ((c : Thread nD τ).loc main_arg3)) (m ((c : Thread nD τ).loc main_arg4))
  (m ((c : Thread nD τ).loc main_arg5))

theorem resid_blk (t : Fin cfg0.N) (r k : Fin 1024) :
    k0_pay2 (iblk m c 0 t : Vec Ideal S1024x1024 .f32) (iblk m c 1 t) (iblk m c 2 t) (ix2 r k) = residM m c (row t r) k := by
  rw [pay2_at, blk0_at]
  simp only [blk1_at, blk2_at]
  rfl

theorem normed_blk (t : Fin cfg0.N) (r k : Fin 1024) :
    k0_pay3 (iblk m c 0 t : Vec Ideal S1024x1024 .f32) (iblk m c 1 t) (iblk m c 2 t) (iblk m c 3 t) (ix2 r k)
      = normedM m c (row t r) k := by
  rw [pay3_at, blk3_at]
  simp only [resid_blk]
  rfl

/-- The contribution of point `t`'s quarter, when the scratch holds the normalised rows of its row block. -/
theorem part_blk (t : Fin cfg0.N) (n : Vec Ideal S1024x1024 .bf16) (r k : Fin 1024)
    (hn : ∀ y, n (ix2 r y) = normedM m c (row t r) y) :
    part n (iblk m c 4 t) (iblk m c 5 t) r k
      = ∑ f : Fin 1024, hiddenM m c (row t r) (unit t f) * m ((c : Thread nD τ).loc main_arg5) (ix2 (unit t f) k) := by
  unfold part
  refine Finset.sum_congr rfl fun f _ => ?_
  simp only [hn, blk4_at]
  rw [blk5_at]
  rfl

/-! ## The fold over a row block's four points -/

/-- Point `4 b + q`. -/
def pt (b : Fin 64) (q : Fin 4) : Fin cfg0.N := ⟨4 * b.val + q.val, by rw [N_eq]; omega⟩

theorem row_pt (b : Fin 64) (q : Fin 4) (r : Fin 1024) : row (pt b q) r = row (pt b 0) r := by
  apply Fin.ext
  show (4 * b.val + q.val) / 4 * 1024 + r.val = (4 * b.val + 0) / 4 * 1024 + r.val
  omega

/-- What quarter `q` adds to element `(r, k)` of row block `b`. -/
def quarter (b : Fin 64) (r k : Fin 1024) (q : Fin 4) : EReal :=
  ∑ f : Fin 1024, hiddenM m c (row (pt b 0) r) (unit (pt b q) f) * m ((c : Thread nD τ).loc main_arg5) (ix2 (unit (pt b q) f) k)

theorem fold0 (b : Fin 64) (r : Fin 1024) :
    (∀ k, (outsAt0 m c (pt b 0).val (pt b 0).isLt).1 (ix2 r k) = residM m c (row (pt b 0) r) k + quarter m c b r k 0)
    ∧ ∀ k, (outsAt0 m c (pt b 0).val (pt b 0).isLt).2 (ix2 r k) = normedM m c (row (pt b 0) r) k := by
  rw [outsAt0_A m c (pt b 0) (by show (4 * b.val + 0) % 4 = 0; omega) (by show ¬1 ≤ (4 * b.val + 0) % 4; omega)]
  dsimp only
  rw [out_A, sout_A]
  refine ⟨fun k => ?_, fun k => normed_blk m c (pt b 0) r k⟩
  rw [pay4_at, resid_blk, part_blk m c (pt b 0) _ r k (fun y => normed_blk m c (pt b 0) r y)]
  rfl

theorem fold_succ (b : Fin 64) (r : Fin 1024) (q q' : Fin 4) (hq : q'.val = q.val + 1) (s : Fin 1024 → EReal)
    (h : (∀ k, (outsAt0 m c (pt b q).val (pt b q).isLt).1 (ix2 r k) = s k)
      ∧ ∀ k, (outsAt0 m c (pt b q).val (pt b q).isLt).2 (ix2 r k) = normedM m c (row (pt b 0) r) k) :
    (∀ k, (outsAt0 m c (pt b q').val (pt b q').isLt).1 (ix2 r k) = s k + quarter m c b r k q')
    ∧ ∀ k, (outsAt0 m c (pt b q').val (pt b q').isLt).2 (ix2 r k) = normedM m c (row (pt b 0) r) k := by
  have e : outsAt0 m c ((pt b q').val - 1) (Nat.lt_of_le_of_lt (Nat.sub_le _ _) (pt b q').isLt)
      = outsAt0 m c (pt b q).val (pt b q).isLt := by
    have : (pt b q').val - 1 = (pt b q).val := by
      show 4 * b.val + q'.val - 1 = 4 * b.val + q.val; omega
    congr 1
  rw [outsAt0_B m c (pt b q') (by show ¬(4 * b.val + q'.val) % 4 = 0; omega)
    (by show 1 ≤ (4 * b.val + q'.val) % 4; omega)]
  dsimp only
  rw [out_B, e]
  refine ⟨fun k => ?_, h.2⟩
  rw [pay1_at, h.1, part_blk m c (pt b q') _ r k (fun y => by rw [h.2, row_pt b q']), row_pt b q']
  rfl

/-- After a row block's last point the output's buffer holds the formula's rows. -/
theorem fold_last (b : Fin 64) (r k : Fin 1024) :
    (outsAt0 m c (pt b 3).val (pt b 3).isLt).1 (ix2 r k) = resultM m c (row (pt b 0) r) k := by
  have h := fold_succ m c b r 2 3 rfl _ (fold_succ m c b r 1 2 rfl _ (fold_succ m c b r 0 1 rfl _ (fold0 m c b r)))
  rw [h.1 k]
  unfold resultM MlpMath.result
  rw [Fin.sum_univ_tiles 4 1024 rfl, Fin.sum_univ_four, add_assoc, add_assoc, add_assoc]
  have hu : ∀ q : Fin 4, quarter m c b r k q = ∑ t : Fin 1024, hiddenM m c (row (pt b 0) r) ⟨q.val * 1024 + t.val, by omega⟩
      * m ((c : Thread nD τ).loc main_arg5) (ix2 ⟨q.val * 1024 + t.val, by omega⟩ k) := fun q => by
    unfold quarter
    refine Finset.sum_congr rfl fun f _ => ?_
    have : unit (pt b q) f = ⟨q.val * 1024 + f.val, by omega⟩ := by
      apply Fin.ext
      show (4 * b.val + q.val) % 4 * 1024 + f.val = q.val * 1024 + f.val
      omega
    rw [this]
  rw [hu, hu, hu, hu, add_assoc, add_assoc]

/-- The result array, element by element. -/
theorem G6_at (R : Fin 65536) (k : Fin 1024) :
    Value.G6 m c (ix2 R k) = resultM m c R k := by
  have hR := R.isLt
  have hk := k.isLt
  have hp : Value.pt6Of (ix2 R k) = (pt ⟨R.val / 1024, by omega⟩ 3).val := by
    show 4 * (1 * (R.val / 1024 - 0) + 1 * (k.val / 1024 - 0)) + 3 = 4 * (R.val / 1024) + 3
    omega
  unfold Value.G6
  rw [dif_pos (by rw [hp]; exact (pt _ 3).isLt), Value.fold0_congr m c _ _ (pt ⟨R.val / 1024, by omega⟩ 3).val
    (by have := (pt ⟨R.val / 1024, by omega⟩ 3).isLt; omega) hp, ← Value.outsAt0_sweep m c _ (pt _ 3).isLt]
  have hl : Value.loc6Of (ix2 R k) = ix2 (⟨R.val % 1024, Nat.mod_lt _ (by decide)⟩ : Fin 1024) k := by
    funext a; apply Fin.ext
    match a with
    | ⟨0, _⟩ => rfl
    | ⟨1, _⟩ => show k.val % 1024 = k.val; omega
  rw [hl, fold_last]
  congr 1
  apply Fin.ext
  show (4 * (R.val / 1024) + 0) / 4 * 1024 + R.val % 1024 = R.val
  omega

end Cert.Kernel2Ideal.Mlp

end
-- ==== Proof.MlpClaim.lean ====
/-
  The MLP half's claims: its frames, and the equality with the reference over the extended reals.
-/
module

public import proofs.«01_k».proof.Proof.MlpValue
public import proofs.«01_k».proof.Proof.Gen.Kernel2.Frame
public import Idealize.ShloMosaic.Lib.Quiescent

@[expose] public section

set_option maxRecDepth 16384

noncomputable section

namespace Cert.MlpClaim

open Idealize.ShloMosaic Idealize.ShloMosaic.TcCoe Idealize.SL.Sem

/-- The reference ends, with its arguments unchanged and no counters left. -/
theorem frame_ref : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Kernel and reference end with the same array. -/
theorem value : Cert.algebraic_Kernel2Ideal_Reference2Ideal := by
  intro m ρ m' ρ' _ hag
  refine ⟨fun c => Cert.Kernel2Ideal.Value.G6 m c, Cert.Kernel2Ideal.Value.run (F := Ideal) m ρ, ?_⟩
  refine (θ_run Cert.Reference2Ideal.defs _ _).mono (fun r h c => ⟨(h c).1.trans ?_, (h c).2⟩)
    (Cert.Reference2Ideal.Value.run (F := Ideal) m' ρ')
  obtain ⟨e0, e1, e2, e3, e4, e5⟩ := hag c
  rw [e0, e1, e2, e3, e4, e5]
  funext i
  rw [← ix2_eta (n0 := 65536) (n1 := 1024) i]
  refine Eq.trans ?_ (Cert.Kernel2Ideal.Mlp.G6_at m c (i 0) (i 1)).symm
  exact MlpMath.refOut_at _ _ _ _ _ _ (i 0) (i 1)

end Cert.MlpClaim

end
-- ==== Proof.Softmax.lean ====
module

public import Idealize.ShloMosaic.Lib.Pointwise

@[expose] public section

noncomputable section

/-! # A softmax summed tile by tile, over the extended reals

One query's attention over the keys: the scores are reals, or `⊥` where a key is masked, and the values are any extended
reals. A key of score `σ` weighs `2^σ`, a masked one `0`. The running state after some keys is, up to one positive
factor `2^(-μ)` that both share, the sum `W` of the weights and the sums `A` of the values by their weights. The lemmas
here say that a step of the running computation keeps this, whatever real `μ` the step takes as its reference, and that
the quotient at the end no longer depends on `μ`. -/

namespace Cert.Softmax

open Idealize.ShloMosaic

/-- The score `s` is a real `σ` and `w = 2^σ`, or it is `⊥` and `w = 0`. -/
def Weighs (s : EReal) (w : ℝ) : Prop :=
  (s = ⊥ ∧ w = 0) ∨ ∃ σ : ℝ, s = (σ : EReal) ∧ w = (2 : ℝ) ^ σ

theorem Weighs.nonneg {s : EReal} {w : ℝ} (h : Weighs s w) : 0 ≤ w := by
  rcases h with ⟨_, rfl⟩ | ⟨σ, _, rfl⟩
  · exact le_rfl
  · exact Real.rpow_nonneg (by norm_num) _

theorem Weighs.lt_top {s : EReal} {w : ℝ} (h : Weighs s w) : s < ⊤ := by
  rcases h with ⟨rfl, _⟩ | ⟨σ, rfl, _⟩
  · exact bot_lt_top
  · exact EReal.coe_lt_top _

theorem Weighs.ne_bot {s : EReal} {w : ℝ} (h : Weighs s w) (hw : 0 < w) : s ≠ ⊥ := by
  rcases h with ⟨_, rfl⟩ | ⟨σ, rfl, _⟩
  · exact absurd hw (lt_irrefl _)
  · exact EReal.coe_ne_bot _

/-- A weight relative to a real reference `μ`. -/
theorem Weighs.exp2_sub {s : EReal} {w : ℝ} (h : Weighs s w) (μ : ℝ) :
    Ideal.exp2 (s - (μ : EReal)) = (((2 : ℝ) ^ (-μ) * w : ℝ) : EReal) := by
  rcases h with ⟨rfl, rfl⟩ | ⟨σ, rfl, rfl⟩
  · simp
  · rw [← EReal.coe_sub, Ideal.exp2_coe, ← Real.rpow_add (by norm_num : (0 : ℝ) < 2)]
    congr 2; ring

/-- The natural exponential of the score times `log 2`, relative to a real reference. -/
theorem Weighs.exp_sub {s : EReal} {w : ℝ} (h : Weighs s w) (μ : ℝ) :
    Ideal.exp (s * ((Real.log 2 : ℝ) : EReal) - (μ : EReal)) = ((Real.exp (-μ) * w : ℝ) : EReal) := by
  rcases h with ⟨rfl, rfl⟩ | ⟨σ, rfl, rfl⟩
  · rw [EReal.bot_mul_coe_of_pos (Real.log_pos (by norm_num))]; simp
  · rw [← EReal.coe_mul, ← EReal.coe_sub, Ideal.exp_coe, Real.rpow_def_of_pos (by norm_num), ← Real.exp_add]
    congr 2; ring

/-- A real factor that is not negative goes into a sum of extended reals. -/
theorem coe_mul_sum {ι : Type} (s : Finset ι) {c : ℝ} (hc : 0 ≤ c) (f : ι → EReal) :
    (c : EReal) * ∑ i ∈ s, f i = ∑ i ∈ s, (c : EReal) * f i := by
  classical
  induction s using Finset.induction_on with
  | empty => simp
  | insert a t ha ih =>
    rw [Finset.sum_insert ha, Finset.sum_insert ha, EReal.left_distrib_of_nonneg_of_ne_top (EReal.coe_nonneg.2 hc) (EReal.coe_ne_top _), ih]

theorem coe_sum {ι : Type} (s : Finset ι) (f : ι → ℝ) : ((∑ i ∈ s, f i : ℝ) : EReal) = ∑ i ∈ s, (f i : EReal) := by
  classical
  induction s using Finset.induction_on with
  | empty => simp
  | insert a t ha ih => rw [Finset.sum_insert ha, Finset.sum_insert ha, EReal.coe_add, ih]

/-- The largest of finitely many scores, at least one of which is not masked, is a real. -/
theorem fold_max_real {n : ℕ} (s : Fin n → EReal) (ht : ∀ j, s j < ⊤) (hb : ∃ j, s j ≠ ⊥) :
    ∃ μ : ℝ, Finset.univ.fold max ⊥ s = (μ : EReal) := by
  obtain ⟨j, hj⟩ := hb
  have h1 : Finset.univ.fold max ⊥ s < ⊤ := Finset.fold_max_lt _ |>.2 ⟨bot_lt_top, fun x _ => ht x⟩
  have h2 : s j ≤ Finset.univ.fold max ⊥ s := Finset.le_fold_max _ |>.2 (.inr ⟨j, Finset.mem_univ _, le_rfl⟩)
  have h3 : Finset.univ.fold max ⊥ s ≠ ⊥ := fun h => hj (le_bot_iff.1 (h ▸ h2))
  exact ⟨_, (EReal.coe_toReal h1.ne h3).symm⟩

/-- The largest of finitely many scores, all perhaps masked, and a real is a real. -/
theorem max_fold_real {n : ℕ} (s : Fin n → EReal) (ht : ∀ j, s j < ⊤) (μ : ℝ) :
    ∃ μ' : ℝ, max (μ : EReal) (Finset.univ.fold max ⊥ s) = (μ' : EReal) := by
  have h1 : Finset.univ.fold max ⊥ s < ⊤ := Finset.fold_max_lt _ |>.2 ⟨bot_lt_top, fun x _ => ht x⟩
  have h2 : max (μ : EReal) (Finset.univ.fold max ⊥ s) < ⊤ := max_lt (EReal.coe_lt_top _) h1
  have h3 : max (μ : EReal) (Finset.univ.fold max ⊥ s) ≠ ⊥ :=
    fun h => EReal.coe_ne_bot μ (le_bot_iff.1 (h ▸ le_max_left _ _))
  exact ⟨_, (EReal.coe_toReal h2.ne h3).symm⟩

/-- Key `k` of a tile's first half of 256, and of its second. -/
abbrev lo (k : Fin 256) : Fin 512 := ⟨k.val, by omega⟩
abbrev hi (k : Fin 256) : Fin 512 := ⟨256 + k.val, by omega⟩

/-- The products of a tile's values and weights, added up half by half: as the tile is computed. -/
def halves (v p : Fin 512 → EReal) : EReal :=
  0 + (∑ k, v (lo k) * p (lo k)) + ∑ k, v (hi k) * p (hi k)

theorem halves_eq (v p : Fin 512 → EReal) : halves v p = ∑ j, v j * p j := by
  rw [halves, zero_add, Fin.sum_univ_two_halves 256 256 rfl]

/-- One step of the running softmax for one query: `s` the tile's scores, `v` its values, from `m l a` to `m' l' a'`. -/
structure Step (s : Fin 512 → EReal) (v : Fin 64 → Fin 512 → EReal) (m l : EReal) (a : Fin 64 → EReal)
    (m' l' : EReal) (a' : Fin 64 → EReal) : Prop where
  max_eq : m' = max m (Finset.univ.fold max ⊥ s)
  sum_eq : l' = Ideal.exp2 (m - m') * l + ∑ j, Ideal.exp2 (s j - m')
  acc_eq : ∀ d, a' d = Ideal.exp2 (m - m') * a d + halves (v d) (fun j => Ideal.exp2 (s j - m'))

/-- One step at a fixed reference `m`. -/
structure FixedStep (s : Fin 512 → EReal) (v : Fin 64 → Fin 512 → EReal) (m l : EReal) (a : Fin 64 → EReal)
    (l' : EReal) (a' : Fin 64 → EReal) : Prop where
  sum_eq : l' = l + ∑ j, Ideal.exp2 (s j - m)
  acc_eq : ∀ d, a' d = a d + halves (v d) (fun j => Ideal.exp2 (s j - m))

/-- The running state: relative to the real reference `μ`, `l` is the weights' sum `W` and `a` the weighted sums `A`. -/
structure State (W : ℝ) (A : Fin 64 → EReal) (μ : ℝ) (m l : EReal) (a : Fin 64 → EReal) : Prop where
  max_eq : m = (μ : EReal)
  sum_eq : l = (((2 : ℝ) ^ (-μ) * W : ℝ) : EReal)
  acc_eq : ∀ d, a d = (((2 : ℝ) ^ (-μ) : ℝ) : EReal) * A d

section
variable {s : Fin 512 → EReal} {w : Fin 512 → ℝ} {v : Fin 64 → Fin 512 → EReal}

theorem two_pos (x : ℝ) : (0 : ℝ) < (2 : ℝ) ^ x := Real.rpow_pos_of_pos (by norm_num) _

theorem sum_tile (hs : ∀ j, Weighs (s j) (w j)) (μ : ℝ) :
    ∑ j, Ideal.exp2 (s j - (μ : EReal)) = (((2 : ℝ) ^ (-μ) * ∑ j, w j : ℝ) : EReal) := by
  rw [Finset.mul_sum, coe_sum]; exact Finset.sum_congr rfl fun j _ => (hs j).exp2_sub μ

theorem acc_tile (hs : ∀ j, Weighs (s j) (w j)) (μ : ℝ) (d : Fin 64) :
    halves (v d) (fun j => Ideal.exp2 (s j - (μ : EReal)))
      = (((2 : ℝ) ^ (-μ) : ℝ) : EReal) * ∑ j, v d j * (w j : EReal) := by
  rw [halves_eq, coe_mul_sum _ (two_pos _).le]
  refine Finset.sum_congr rfl fun j _ => ?_
  rw [(hs j).exp2_sub μ, EReal.coe_mul, mul_left_comm]

/-- The first step, from the state before any key, leaves the sums of its own tile. -/
theorem Step.first {m' l' : EReal} {a' : Fin 64 → EReal} (hs : ∀ j, Weighs (s j) (w j)) (hw : ∃ j, 0 < w j)
    (h : Step s v ⊥ 0 (fun _ => 0) m' l' a') :
    ∃ μ : ℝ, State (∑ j, w j) (fun d => ∑ j, v d j * (w j : EReal)) μ m' l' a' := by
  obtain ⟨j, hj⟩ := hw
  obtain ⟨μ, hμ⟩ := fold_max_real s (fun j => (hs j).lt_top) ⟨j, (hs j).ne_bot hj⟩
  have hm : m' = (μ : EReal) := by rw [h.max_eq, hμ]; exact max_eq_right bot_le
  refine ⟨μ, hm, ?_, fun d => ?_⟩
  · rw [h.sum_eq, hm, sum_tile hs, mul_zero, zero_add]
  · rw [h.acc_eq, hm, acc_tile hs, mul_zero, zero_add]

/-- A further step adds its tile's sums. -/
theorem Step.next {m l m' l' : EReal} {a a' : Fin 64 → EReal} {W : ℝ} {A : Fin 64 → EReal} {μ : ℝ}
    (hs : ∀ j, Weighs (s j) (w j)) (hst : State W A μ m l a) (h : Step s v m l a m' l' a') :
    ∃ μ' : ℝ, State (W + ∑ j, w j) (fun d => A d + ∑ j, v d j * (w j : EReal)) μ' m' l' a' := by
  obtain ⟨μ', hμ⟩ := max_fold_real s (fun j => (hs j).lt_top) μ
  have hm : m' = (μ' : EReal) := by rw [h.max_eq, hst.max_eq, hμ]
  have hc : Ideal.exp2 (m - m') = (((2 : ℝ) ^ (μ - μ') : ℝ) : EReal) := by
    rw [hst.max_eq, hm, ← EReal.coe_sub, Ideal.exp2_coe]; rfl
  have hp : (2 : ℝ) ^ (μ - μ') * (2 : ℝ) ^ (-μ) = (2 : ℝ) ^ (-μ') := by
    rw [← Real.rpow_add (by norm_num : (0 : ℝ) < 2)]; congr 1; ring
  refine ⟨μ', hm, ?_, fun d => ?_⟩
  · rw [h.sum_eq, hc, hst.sum_eq, hm, sum_tile hs, ← EReal.coe_mul, ← EReal.coe_add, ← mul_assoc, hp, mul_add]
  · rw [h.acc_eq, hc, hst.acc_eq, hm, acc_tile hs, ← mul_assoc, ← EReal.coe_mul, hp,
      EReal.left_distrib_of_nonneg_of_ne_top (EReal.coe_nonneg.2 (two_pos _).le) (EReal.coe_ne_top _)]

/-- So does a step at the reference that the state has. -/
theorem FixedStep.next {m l l' : EReal} {a a' : Fin 64 → EReal} {W : ℝ} {A : Fin 64 → EReal} {μ : ℝ}
    (hs : ∀ j, Weighs (s j) (w j)) (hst : State W A μ m l a) (h : FixedStep s v m l a l' a') :
    State (W + ∑ j, w j) (fun d => A d + ∑ j, v d j * (w j : EReal)) μ m l' a' := by
  refine ⟨hst.max_eq, ?_, fun d => ?_⟩
  · rw [h.sum_eq, hst.sum_eq, hst.max_eq, sum_tile hs, ← EReal.coe_add, mul_add]
  · rw [h.acc_eq, hst.acc_eq, hst.max_eq, acc_tile hs, EReal.left_distrib_of_nonneg_of_ne_top (EReal.coe_nonneg.2 (two_pos _).le) (EReal.coe_ne_top _)]

end

theorem div_coe {x : EReal} {y : ℝ} (hy : 0 < y) : Ideal.div x (y : EReal) = ((y⁻¹ : ℝ) : EReal) * x := by
  have h : (y : EReal) ≠ 0 := by exact_mod_cast hy.ne'
  rw [Ideal.div, if_neg h, mul_comm, EReal.coe_inv]

/-- At the end the reference cancels: the quotient is the weighted sum over the weights' sum. -/
theorem State.div {W : ℝ} {A : Fin 64 → EReal} {μ : ℝ} {m l : EReal} {a : Fin 64 → EReal} (h : State W A μ m l a)
    (hW : 0 < W) (d : Fin 64) : Ideal.div (a d) l = ((W⁻¹ : ℝ) : EReal) * A d := by
  rw [h.sum_eq, h.acc_eq, div_coe (mul_pos (two_pos _) hW), ← mul_assoc, ← EReal.coe_mul, mul_inv_rev, mul_assoc,
    inv_mul_cancel₀ (two_pos _).ne', mul_one]

/-- The plain softmax: every key's exponential, divided by their sum, times its value, added up. -/
theorem plain {n : ℕ} {s : Fin n → EReal} {w : Fin n → ℝ} (hs : ∀ j, Weighs (s j) (w j)) (v : Fin n → EReal)
    (hW : 0 < ∑ j, w j) (μ : ℝ) :
    ∑ j, Ideal.div (Ideal.exp (s j * ((Real.log 2 : ℝ) : EReal) - (μ : EReal)))
        (∑ i, Ideal.exp (s i * ((Real.log 2 : ℝ) : EReal) - (μ : EReal))) * v j
      = (((∑ j, w j)⁻¹ : ℝ) : EReal) * ∑ j, v j * (w j : EReal) := by
  have hL : ∑ i, Ideal.exp (s i * ((Real.log 2 : ℝ) : EReal) - (μ : EReal))
      = ((Real.exp (-μ) * ∑ i, w i : ℝ) : EReal) := by
    rw [Finset.mul_sum, coe_sum]; exact Finset.sum_congr rfl fun j _ => (hs j).exp_sub μ
  rw [hL, coe_mul_sum _ (inv_pos.2 hW).le]
  refine Finset.sum_congr rfl fun j _ => ?_
  rw [div_coe (mul_pos (Real.exp_pos _) hW), (hs j).exp_sub μ, ← EReal.coe_mul, mul_inv_rev, mul_assoc,
    inv_mul_cancel_left₀ (Real.exp_pos _).ne', EReal.coe_mul, mul_assoc, mul_comm (w j : EReal)]

/-! ## Constants and comparisons that the programs write as words -/

theorem bot_word : Ideal.ofBits FTy.f32 4286578688#32 = ⊥ := by simp [Ideal.ofBits, Ideal.ieee]

theorem top_word : Ideal.ofBits FTy.f32 2139095040#32 = ⊤ := by simp [Ideal.ofBits, Ideal.ieee]

theorem two_word : Ideal.ofBits FTy.f32 1073741824#32 = ((2 : ℝ) : EReal) := by
  simp [Ideal.ofBits, Ideal.ieee]
  rw [← EReal.coe_mul]
  congr 1; norm_num

theorem toInt_small {n : ℕ} (h : n < 2 ^ 31) : (BitVec.ofNat 32 n).toInt = n := by
  have h1 : (BitVec.ofNat 32 n).toNat = n := by rw [BitVec.toNat_ofNat]; omega
  rw [BitVec.toInt_eq_toNat_of_lt (by rw [h1]; omega), h1]

theorem sle_words {a b : ℕ} (ha : a < 2 ^ 31) (hb : b < 2 ^ 31) :
    IntOp.cmpi .sle (BitVec.ofNat 32 a) (BitVec.ofNat 32 b) = if a ≤ b then 1#1 else 0#1 := by
  show BitVec.ofBool (decide ((BitVec.ofNat 32 a).toInt ≤ (BitVec.ofNat 32 b).toInt)) = _
  rw [toInt_small ha, toInt_small hb]
  by_cases h : a ≤ b
  · rw [if_pos h, decide_eq_true (by exact_mod_cast h)]; rfl
  · rw [if_neg h, decide_eq_false (by exact_mod_cast h)]; rfl

theorem select_if {p : Prop} [Decidable p] {α : Type} (a b : α) :
    Scalar.select (if p then 1#1 else 0#1) a b = if p then a else b := by
  by_cases h : p
  · rw [if_pos h, if_pos h]; rfl
  · rw [if_neg h, if_neg h]; rfl

end Cert.Softmax

end
-- ==== Proof.AttnTile.lean ====
/-
  One key tile of the attention seen by one query row of one head: the scores of its 512 keys, and the values, stored
  transposed in two halves of 256 columns.
-/
module

public import proofs.«01_k».proof.KernelIdeal
public import proofs.«01_k».proof.Proof.Softmax
public import Idealize.ShloMosaic.Lib.Pointwise

@[expose] public section

set_option maxRecDepth 16384

noncomputable section

namespace Cert.AttnTile

open Idealize.ShloMosaic Idealize.ShloMosaic.TcCoe Cert.KernelIdeal

/-- The lanes of the four heads of a block. -/
def e0 (d : Fin 128) : Fin 512 := ⟨d.val, by omega⟩
def e1 (d : Fin 128) : Fin 512 := ⟨128 + d.val, by omega⟩
def e2 (d : Fin 128) : Fin 512 := ⟨256 + d.val, by omega⟩
def e3 (d : Fin 128) : Fin 512 := ⟨384 + d.val, by omega⟩

/-- The score of key `j` of the tile for query row `r`. -/
def tileS (K : Vec Ideal S1x512x512 .bf16) (v : FVec Ideal S512x128 .bf16) (e : Fin 128 → Fin 512) (r j : Fin 512) : EReal :=
  ∑ d : Fin 128, K (ix3 0 j (e d)) * v (ix2 r d)

/-- Feature `d` of key `j`'s value, from the two halves of the tile. -/
def tileV (Va Vb : Vec Ideal S1x1x64x256 .bf16) (d : Fin 64) (j : Fin 512) : EReal :=
  if h : j.val < 256 then Va (ix4 0 0 d ⟨j.val, h⟩) else Vb (ix4 0 0 d ⟨j.val - 256, by omega⟩)

/-- The weighted sum over a tile as the two half products. -/
theorem halves_tile (Va Vb : Vec Ideal S1x1x64x256 .bf16) (d : Fin 64) (p : Fin 512 → EReal) :
    Softmax.halves (tileV Va Vb d) p
      = (∑ x, Va (ix4 0 0 d x) * p (Softmax.lo x)) + ∑ x, Vb (ix4 0 0 d x) * p (Softmax.hi x) := by
  have hlo : ∀ x : Fin 256, tileV Va Vb d (Softmax.lo x) = Va (ix4 0 0 d x) := fun x => dif_pos x.isLt
  have hhi : ∀ x : Fin 256, tileV Va Vb d (Softmax.hi x) = Vb (ix4 0 0 d x) := fun x => by
    have h : ¬ (Softmax.hi x).val < 256 := by show ¬ 256 + x.val < 256; omega
    refine (dif_neg h).trans (congrArg Vb ?_)
    congr 1
    exact Fin.ext (show 256 + x.val - 256 = x.val by omega)
  simp only [Softmax.halves, hlo, hhi, zero_add]

end Cert.AttnTile
-- ==== Proof.AttnDiag.lean ====
/-
  The diagonal key tile, read at one query row: from the empty running state to the first one, the keys after the
  query masked out (`Softmax.Step`).
-/
module

public import proofs.«01_k».proof.Proof.RunIdeal
public import proofs.«01_k».proof.Proof.AttnTile
public import Idealize.ShloMosaic.Lib.Pointwise

@[expose] public section

set_option maxRecDepth 16384

noncomputable section

namespace Cert.AttnDiag

open Idealize.ShloMosaic Idealize.ShloMosaic.TcCoe Cert.KernelIdeal Cert.KernelIdeal.Gen Cert.KernelIdeal.Body
  Cert.AttnTile

section Payloads

variable (v8 v9 : IVec S512x512 32) (m0 l0 : FVec Ideal S1x512 .f32) (a0 : FVec Ideal S64x512 .f32)
  (va vb : Vec Ideal S1x1x64x256 .bf16) (z : FVec Ideal S512x512 .f32) (q : FVec Ideal S512x128 .bf16)
  (ks : FVec Ideal S512x512 .bf16) (r : Fin 512)

/-- Head 0 over any masked scores. -/
theorem pay0 : Softmax.Step (fun j => k0_pay110 v8 v9 z (ix2 j r)) (tileV va vb) (m0 (ix2 0 r)) (l0 (ix2 0 r))
    (fun d => a0 (ix2 d r)) (k0_pay114 v8 v9 m0 z (ix2 0 r))
    (k0_pay123 l0 (k0_pay118 v8 v9 m0 z) (k0_pay122 v8 v9 m0 z) (ix2 0 r))
    (fun d => k0_pay124 a0 (k0_pay118 v8 v9 m0 z) (k0_pay122 v8 v9 m0 z) va vb (ix2 d r)) where
  max_eq := by
    pointwise [k0_pay114]
    rw [Softmax.bot_word]
  sum_eq := by
    pointwise [k0_pay118, k0_pay122, k0_pay123, k0_pay124]
    rfl
  acc_eq := fun d => by
    rw [halves_tile]
    pointwise [k0_pay118, k0_pay122, k0_pay123, k0_pay124]
    rfl

/-- Head 1 over any masked scores. -/
theorem pay1 : Softmax.Step (fun j => k0_pay111 q v8 v9 ks (ix2 j r)) (tileV va vb) (m0 (ix2 0 r)) (l0 (ix2 0 r))
    (fun d => a0 (ix2 d r)) (k0_pay115 q v8 v9 m0 ks (ix2 0 r))
    (k0_pay127 l0 (k0_pay119 q v8 v9 m0 ks) (k0_pay125 m0 (k0_pay115 q v8 v9 m0 ks)) (ix2 0 r))
    (fun d => k0_pay128 a0 (k0_pay119 q v8 v9 m0 ks) (k0_pay125 m0 (k0_pay115 q v8 v9 m0 ks)) (k0_pay126 (k0_pay119 q v8 v9 m0 ks) va) vb (ix2 d r)) where
  max_eq := by
    pointwise [k0_pay115]
    rw [Softmax.bot_word]
  sum_eq := by
    pointwise [k0_pay119, k0_pay125, k0_pay127, k0_pay128, k0_pay126]
    rfl
  acc_eq := fun d => by
    rw [halves_tile]
    pointwise [k0_pay119, k0_pay125, k0_pay127, k0_pay128, k0_pay126]
    rfl

/-- Head 2 over any masked scores. -/
theorem pay2 : Softmax.Step (fun j => k0_pay112 q v8 v9 ks (ix2 j r)) (tileV va vb) (m0 (ix2 0 r)) (l0 (ix2 0 r))
    (fun d => a0 (ix2 d r)) (k0_pay116 q v8 v9 m0 ks (ix2 0 r))
    (k0_pay130 m0 l0 (k0_pay116 q v8 v9 m0 ks) (k0_pay120 q v8 v9 m0 ks) (ix2 0 r))
    (fun d => k0_pay131 m0 a0 (k0_pay116 q v8 v9 m0 ks) (k0_pay120 q v8 v9 m0 ks) va vb (ix2 d r)) where
  max_eq := by
    pointwise [k0_pay116]
    rw [Softmax.bot_word]
  sum_eq := by
    pointwise [k0_pay120, k0_pay129, k0_pay130, k0_pay131]
    rfl
  acc_eq := fun d => by
    rw [halves_tile]
    pointwise [k0_pay120, k0_pay129, k0_pay130, k0_pay131]
    rfl

/-- Head 3 over any masked scores. -/
theorem pay3 : Softmax.Step (fun j => k0_pay113 q v8 v9 ks (ix2 j r)) (tileV va vb) (m0 (ix2 0 r)) (l0 (ix2 0 r))
    (fun d => a0 (ix2 d r)) (k0_pay117 q v8 v9 m0 ks (ix2 0 r))
    (k0_pay134 l0 (k0_pay121 q v8 v9 m0 ks) (k0_pay132 m0 (k0_pay117 q v8 v9 m0 ks)) (ix2 0 r))
    (fun d => k0_pay135 a0 (k0_pay121 q v8 v9 m0 ks) (k0_pay132 m0 (k0_pay117 q v8 v9 m0 ks)) va vb (ix2 d r)) where
  max_eq := by
    pointwise [k0_pay117]
    rw [Softmax.bot_word]
  sum_eq := by
    pointwise [k0_pay121, k0_pay132, k0_pay133, k0_pay134, k0_pay135]
    rfl
  acc_eq := fun d => by
    rw [halves_tile]
    pointwise [k0_pay121, k0_pay132, k0_pay133, k0_pay134, k0_pay135]
    rfl

/-- The masked scores: those of the keys up to the query. -/
theorem mask0 (q0 : Vec Ideal S1x512x128 .bf16) (K : Vec Ideal S1x512x512 .bf16) (j r : Fin 512) :
    k0_pay110 bodyRun.sl.v8 bodyRun.sl.v9 (k0_pay109 q0 K) (ix2 j r)
      = if j.val ≤ r.val then tileS K (k0_pay92 q0) e0 r j else ⊥ := by
  pointwise [k0_pay110, k0_pay109, k0_pay108, bodyRun.sl.v8, bodyRun.sl.v9, tileS]
  rw [Softmax.sle_words (by omega) (by omega), Softmax.select_if]
  rfl

theorem mask1 (q : FVec Ideal S512x128 .bf16) (K : Vec Ideal S1x512x512 .bf16) (j r : Fin 512) :
    k0_pay111 q bodyRun.sl.v8 bodyRun.sl.v9 (k0_pay108 K) (ix2 j r)
      = if j.val ≤ r.val then tileS K q e1 r j else ⊥ := by
  pointwise [k0_pay111, k0_pay108, bodyRun.sl.v8, bodyRun.sl.v9, tileS]
  rw [Softmax.sle_words (by omega) (by omega), Softmax.select_if]
  rfl

theorem mask2 (q : FVec Ideal S512x128 .bf16) (K : Vec Ideal S1x512x512 .bf16) (j r : Fin 512) :
    k0_pay112 q bodyRun.sl.v8 bodyRun.sl.v9 (k0_pay108 K) (ix2 j r)
      = if j.val ≤ r.val then tileS K q e2 r j else ⊥ := by
  pointwise [k0_pay112, k0_pay108, bodyRun.sl.v8, bodyRun.sl.v9, tileS]
  rw [Softmax.sle_words (by omega) (by omega), Softmax.select_if]
  rfl

theorem mask3 (q : FVec Ideal S512x128 .bf16) (K : Vec Ideal S1x512x512 .bf16) (j r : Fin 512) :
    k0_pay113 q bodyRun.sl.v8 bodyRun.sl.v9 (k0_pay108 K) (ix2 j r)
      = if j.val ≤ r.val then tileS K q e3 r j else ⊥ := by
  pointwise [k0_pay113, k0_pay108, bodyRun.sl.v8, bodyRun.sl.v9, tileS]
  rw [Softmax.sle_words (by omega) (by omega), Softmax.select_if]
  rfl

end Payloads

variable (c : Dev nD) (i : grid0.Coords) (arg3 : Memref sig .tc .vmem S1x512x512 .bf16)
  (harg3 : arg3.IsWhole) (arg4 : Memref sig .tc .vmem S1x4096x512 .bf16) (harg4 : arg4.IsWhole)
  (arg5 : Memref sig .tc .vmem S1x16x256x256 .bf16) (harg5 : arg5.IsWhole)
  (x0 : Vec Ideal S1x512x512 .bf16) (x1 : Vec Ideal S1x4096x512 .bf16) (x2 : Vec Ideal S1x16x256x256 .bf16) (r : Fin 512)

/-- The key rows of the diagonal tile. -/
abbrev keys : Vec Ideal S1x512x512 .bf16 := arg4.view.readAt (Elt Ideal)
  (Rect.unit (s := S1x4096x512) (k0_off1 i) S1x512x512.size (k0_off1_inb i)).toLoadRect (harg4.unread x1)

/-- The two halves of head 0's values of the diagonal tile. -/
abbrev vals0a : Vec Ideal S1x1x64x256 .bf16 := arg5.view.readAt (Elt Ideal)
  (Rect.unit (s := S1x16x256x256) (k0_off2 i 0#32) S1x1x64x256.size (k0_off2_inb i 0)).toLoadRect (harg5.unread x2)
abbrev vals0b : Vec Ideal S1x1x64x256 .bf16 := arg5.view.readAt (Elt Ideal)
  (Rect.unit (s := S1x16x256x256) (k0_off2 i 1#32) S1x1x64x256.size (k0_off2_inb i 1)).toLoadRect (harg5.unread x2)

/-- The two halves of head 1's values of the diagonal tile. -/
abbrev vals1a : Vec Ideal S1x1x64x256 .bf16 := arg5.view.readAt (Elt Ideal)
  (Rect.unit (s := S1x16x256x256) (k0_off3 i 0#32) S1x1x64x256.size (k0_off3_inb i 0)).toLoadRect (harg5.unread x2)
abbrev vals1b : Vec Ideal S1x1x64x256 .bf16 := arg5.view.readAt (Elt Ideal)
  (Rect.unit (s := S1x16x256x256) (k0_off3 i 1#32) S1x1x64x256.size (k0_off3_inb i 1)).toLoadRect (harg5.unread x2)

/-- The two halves of head 2's values of the diagonal tile. -/
abbrev vals2a : Vec Ideal S1x1x64x256 .bf16 := arg5.view.readAt (Elt Ideal)
  (Rect.unit (s := S1x16x256x256) (k0_off4 i 0#32) S1x1x64x256.size (k0_off4_inb i 0)).toLoadRect (harg5.unread x2)
abbrev vals2b : Vec Ideal S1x1x64x256 .bf16 := arg5.view.readAt (Elt Ideal)
  (Rect.unit (s := S1x16x256x256) (k0_off4 i 1#32) S1x1x64x256.size (k0_off4_inb i 1)).toLoadRect (harg5.unread x2)

/-- The two halves of head 3's values of the diagonal tile. -/
abbrev vals3a : Vec Ideal S1x1x64x256 .bf16 := arg5.view.readAt (Elt Ideal)
  (Rect.unit (s := S1x16x256x256) (k0_off5 i 0#32) S1x1x64x256.size (k0_off5_inb i 0)).toLoadRect (harg5.unread x2)
abbrev vals3b : Vec Ideal S1x1x64x256 .bf16 := arg5.view.readAt (Elt Ideal)
  (Rect.unit (s := S1x16x256x256) (k0_off5 i 1#32) S1x1x64x256.size (k0_off5_inb i 1)).toLoadRect (harg5.unread x2)

theorem init96 (r : Fin 512) : k0_pay96 (F := Ideal) (ix2 0 r) = ⊥ := by
  pointwise [k0_pay96]
  rfl

theorem init97 (r : Fin 512) : k0_pay97 (F := Ideal) (ix2 0 r) = 0 := by
  pointwise [k0_pay97]

theorem init98 (d : Fin 64) (r : Fin 512) : k0_pay98 (F := Ideal) (ix2 d r) = 0 := by
  pointwise [k0_pay98]

/-- Head 0's first state. -/
theorem step0 : Softmax.Step
    (fun j => if j.val ≤ r.val then tileS (keys i arg4 harg4 x1) (bodyRun.sl.r c arg3 harg3 x0) e0 r j else ⊥)
    (tileV (vals0a i arg5 harg5 x2) (vals0b i arg5 harg5 x2)) ⊥ 0 (fun _ => 0)
    (bodyRun.sl.r_6 c i arg3 harg3 arg4 harg4 x0 x1 (ix2 0 r)) (bodyRun.sl.r_15 c i arg3 harg3 arg4 harg4 x0 x1 (ix2 0 r))
    (fun d => bodyRun.sl.r_16 c i arg3 harg3 arg4 harg4 arg5 harg5 x0 x1 x2 (ix2 d r)) := by
  have h := pay0 bodyRun.sl.v8 bodyRun.sl.v9 k0_pay96 k0_pay97 k0_pay98 (vals0a i arg5 harg5 x2) (vals0b i arg5 harg5 x2) (k0_pay109 (arg3.view.readAt (Elt Ideal) (Rect.unit (s := S1x512x512) ![0, 0, 0] S1x512x128.size
    inb_S1x512x512_S1x512x128_0_0_0).toLoadRect (harg3.unread x0)) (keys i arg4 harg4 x1)) r
  simp only [mask0, init96, init97, init98] at h
  exact h

theorem init99 (r : Fin 512) : k0_pay99 (F := Ideal) (ix2 0 r) = ⊥ := by
  pointwise [k0_pay99]
  rfl

theorem init100 (r : Fin 512) : k0_pay100 (F := Ideal) (ix2 0 r) = 0 := by
  pointwise [k0_pay100]

theorem init101 (d : Fin 64) (r : Fin 512) : k0_pay101 (F := Ideal) (ix2 d r) = 0 := by
  pointwise [k0_pay101]

/-- Head 1's first state. -/
theorem step1 : Softmax.Step
    (fun j => if j.val ≤ r.val then tileS (keys i arg4 harg4 x1) (bodyRun.sl.r_1 c arg3 harg3 x0) e1 r j else ⊥)
    (tileV (vals1a i arg5 harg5 x2) (vals1b i arg5 harg5 x2)) ⊥ 0 (fun _ => 0)
    (bodyRun.sl.r_7 c i arg3 harg3 arg4 harg4 x0 x1 (ix2 0 r)) (bodyRun.sl.r_19 c i arg3 harg3 arg4 harg4 x0 x1 (ix2 0 r))
    (fun d => bodyRun.sl.r_20 c i arg3 harg3 arg4 harg4 arg5 harg5 x0 x1 x2 (ix2 d r)) := by
  have h := pay1 bodyRun.sl.v8 bodyRun.sl.v9 k0_pay99 k0_pay100 k0_pay101 (vals1a i arg5 harg5 x2) (vals1b i arg5 harg5 x2) (bodyRun.sl.r_1 c arg3 harg3 x0) (k0_pay108 (keys i arg4 harg4 x1)) r
  simp only [mask1, init99, init100, init101] at h
  exact h

theorem init102 (r : Fin 512) : k0_pay102 (F := Ideal) (ix2 0 r) = ⊥ := by
  pointwise [k0_pay102]
  rfl

theorem init103 (r : Fin 512) : k0_pay103 (F := Ideal) (ix2 0 r) = 0 := by
  pointwise [k0_pay103]

theorem init104 (d : Fin 64) (r : Fin 512) : k0_pay104 (F := Ideal) (ix2 d r) = 0 := by
  pointwise [k0_pay104]

/-- Head 2's first state. -/
theorem step2 : Softmax.Step
    (fun j => if j.val ≤ r.val then tileS (keys i arg4 harg4 x1) (bodyRun.sl.r_2 c arg3 harg3 x0) e2 r j else ⊥)
    (tileV (vals2a i arg5 harg5 x2) (vals2b i arg5 harg5 x2)) ⊥ 0 (fun _ => 0)
    (bodyRun.sl.r_8 c i arg3 harg3 arg4 harg4 x0 x1 (ix2 0 r)) (bodyRun.sl.r_21 c i arg3 harg3 arg4 harg4 x0 x1 (ix2 0 r))
    (fun d => bodyRun.sl.r_22 c i arg3 harg3 arg4 harg4 arg5 harg5 x0 x1 x2 (ix2 d r)) := by
  have h := pay2 bodyRun.sl.v8 bodyRun.sl.v9 k0_pay102 k0_pay103 k0_pay104 (vals2a i arg5 harg5 x2) (vals2b i arg5 harg5 x2) (bodyRun.sl.r_2 c arg3 harg3 x0) (k0_pay108 (keys i arg4 harg4 x1)) r
  simp only [mask2, init102, init103, init104] at h
  exact h

theorem init105 (r : Fin 512) : k0_pay105 (F := Ideal) (ix2 0 r) = ⊥ := by
  pointwise [k0_pay105]
  rfl

theorem init106 (r : Fin 512) : k0_pay106 (F := Ideal) (ix2 0 r) = 0 := by
  pointwise [k0_pay106]

theorem init107 (d : Fin 64) (r : Fin 512) : k0_pay107 (F := Ideal) (ix2 d r) = 0 := by
  pointwise [k0_pay107]

/-- Head 3's first state. -/
theorem step3 : Softmax.Step
    (fun j => if j.val ≤ r.val then tileS (keys i arg4 harg4 x1) (bodyRun.sl.r_3 c arg3 harg3 x0) e3 r j else ⊥)
    (tileV (vals3a i arg5 harg5 x2) (vals3b i arg5 harg5 x2)) ⊥ 0 (fun _ => 0)
    (bodyRun.sl.r_9 c i arg3 harg3 arg4 harg4 x0 x1 (ix2 0 r)) (bodyRun.sl.r_24 c i arg3 harg3 arg4 harg4 x0 x1 (ix2 0 r))
    (fun d => bodyRun.sl.r_25 c i arg3 harg3 arg4 harg4 arg5 harg5 x0 x1 x2 (ix2 d r)) := by
  have h := pay3 bodyRun.sl.v8 bodyRun.sl.v9 k0_pay105 k0_pay106 k0_pay107 (vals3a i arg5 harg5 x2) (vals3b i arg5 harg5 x2) (bodyRun.sl.r_3 c arg3 harg3 x0) (k0_pay108 (keys i arg4 harg4 x1)) r
  simp only [mask3, init105, init106, init107] at h
  exact h

end Cert.AttnDiag
-- ==== Proof.AttnSlow.lean ====
/-
  One trip of each loop over earlier key tiles, read at one query row: the running maximum, denominator and
  numerators of each head after the trip, from those before it (`Softmax.Step`; with the maximum held,
  `Softmax.FixedStep`).
-/
module

public import proofs.«01_k».proof.Proof.RunIdeal
public import proofs.«01_k».proof.Proof.AttnTile
public import Idealize.ShloMosaic.Lib.Pointwise

@[expose] public section

set_option maxRecDepth 16384

noncomputable section

namespace Cert.AttnSlow

open Idealize.ShloMosaic Idealize.ShloMosaic.TcCoe Cert.KernelIdeal Cert.KernelIdeal.Gen Cert.AttnTile

variable (𝒱 : Variants) (c : Dev nD) (bd : Option 𝒱.V) (i : grid0.Coords) (arg3 : Memref sig .tc .vmem S1x512x512 .bf16)
  (harg3 : arg3.IsWhole) (arg4 : Memref sig .tc .vmem S1x4096x512 .bf16) (harg4 : arg4.IsWhole)
  (arg5 : Memref sig .tc .vmem S1x16x256x256 .bf16) (harg5 : arg5.IsWhole)
  (arg6 : Memref sig .tc .vmem S1x512x256 .bf16) (harg6 : arg6.IsWhole) (v1 v3 v5 v7 : FVec Ideal S512x128 .bf16)
  (X4 : BufTy.Contents (Elt Ideal) arg4.view.ty) (X5 : BufTy.Contents (Elt Ideal) arg5.view.ty)
  (k : Fin (k0_t3_loop i).trips) (r : Fin 512)
  (acc : FVec Ideal S1x512 .f32 × FVec Ideal S1x512 .f32 × FVec Ideal S64x512 .f32 × FVec Ideal S1x512 .f32 × FVec Ideal S1x512 .f32 × FVec Ideal S64x512 .f32 × FVec Ideal S1x512 .f32 × FVec Ideal S1x512 .f32 × FVec Ideal S64x512 .f32 × FVec Ideal S1x512 .f32 × FVec Ideal S1x512 .f32 × FVec Ideal S64x512 .f32)

/-- The key rows the trip loads. -/
abbrev keys : Vec Ideal S1x512x512 .bf16 := arg4.view.readAt (Elt Ideal)
  (Rect.unit (s := S1x4096x512) (k0_off16 i k) S1x512x512.size (k0_off16_inb i k)).toLoadRect X4

/-- The two halves of head 0's values the trip loads. -/
abbrev vals0a : Vec Ideal S1x1x64x256 .bf16 := arg5.view.readAt (Elt Ideal)
  (Rect.unit (s := S1x16x256x256) (k0_off17 i k 0#32) S1x1x64x256.size (k0_off17_inb i k 0)).toLoadRect X5
abbrev vals0b : Vec Ideal S1x1x64x256 .bf16 := arg5.view.readAt (Elt Ideal)
  (Rect.unit (s := S1x16x256x256) (k0_off17 i k 1#32) S1x1x64x256.size (k0_off17_inb i k 1)).toLoadRect X5

/-- The two halves of head 1's values the trip loads. -/
abbrev vals1a : Vec Ideal S1x1x64x256 .bf16 := arg5.view.readAt (Elt Ideal)
  (Rect.unit (s := S1x16x256x256) (k0_off18 i k 0#32) S1x1x64x256.size (k0_off18_inb i k 0)).toLoadRect X5
abbrev vals1b : Vec Ideal S1x1x64x256 .bf16 := arg5.view.readAt (Elt Ideal)
  (Rect.unit (s := S1x16x256x256) (k0_off18 i k 1#32) S1x1x64x256.size (k0_off18_inb i k 1)).toLoadRect X5

/-- The two halves of head 2's values the trip loads. -/
abbrev vals2a : Vec Ideal S1x1x64x256 .bf16 := arg5.view.readAt (Elt Ideal)
  (Rect.unit (s := S1x16x256x256) (k0_off19 i k 0#32) S1x1x64x256.size (k0_off19_inb i k 0)).toLoadRect X5
abbrev vals2b : Vec Ideal S1x1x64x256 .bf16 := arg5.view.readAt (Elt Ideal)
  (Rect.unit (s := S1x16x256x256) (k0_off19 i k 1#32) S1x1x64x256.size (k0_off19_inb i k 1)).toLoadRect X5

/-- The two halves of head 3's values the trip loads. -/
abbrev vals3a : Vec Ideal S1x1x64x256 .bf16 := arg5.view.readAt (Elt Ideal)
  (Rect.unit (s := S1x16x256x256) (k0_off20 i k 0#32) S1x1x64x256.size (k0_off20_inb i k 0)).toLoadRect X5
abbrev vals3b : Vec Ideal S1x1x64x256 .bf16 := arg5.view.readAt (Elt Ideal)
  (Rect.unit (s := S1x16x256x256) (k0_off20 i k 1#32) S1x1x64x256.size (k0_off20_inb i k 1)).toLoadRect X5

/-- What the trip yields. -/
abbrev trip := tripR_k0_t3 (F := Ideal) 𝒱 c bd i arg3 harg3 arg4 harg4 arg5 harg5 arg6 harg6 v1 v3 v5 v7 X4 X5 k acc

/-- Head 0's step. -/
theorem step0 : Softmax.Step (tileS (keys i arg4 X4 k) v1 e0 r) (tileV (vals0a i arg5 X5 k) (vals0b i arg5 X5 k)) (acc.1 (ix2 0 r)) (acc.2.1 (ix2 0 r))
    (fun d => acc.2.2.1 (ix2 d r)) ((trip 𝒱 c bd i arg3 harg3 arg4 harg4 arg5 harg5 arg6 harg6 v1 v3 v5 v7 X4 X5 k acc).1 (ix2 0 r)) ((trip 𝒱 c bd i arg3 harg3 arg4 harg4 arg5 harg5 arg6 harg6 v1 v3 v5 v7 X4 X5 k acc).2.1 (ix2 0 r))
    (fun d => (trip 𝒱 c bd i arg3 harg3 arg4 harg4 arg5 harg5 arg6 harg6 v1 v3 v5 v7 X4 X5 k acc).2.2.1 (ix2 d r)) where
  max_eq := by
    unfold trip tripR_k0_t3 trip_k0_t3
    dsimp only
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v237, trip_k0_t3.sl.v238, trip_k0_t3.sl.v239, trip_k0_t3.sl.v240, trip_k0_t3.sl.v241, trip_k0_t3.sl.v242, trip_k0_t3.sl.v243, trip_k0_t3.sl.v244, trip_k0_t3.sl.v245, trip_k0_t3.sl.v246, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344]
    rw [Softmax.bot_word]
    rfl
  sum_eq := by
    unfold trip tripR_k0_t3 trip_k0_t3
    dsimp only
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v238, trip_k0_t3.sl.v239, trip_k0_t3.sl.v241, trip_k0_t3.sl.v242, trip_k0_t3.sl.v244, trip_k0_t3.sl.v245, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344, k0_pay2, k0_pay3]
    rfl
  acc_eq := fun d => by
    unfold trip tripR_k0_t3 trip_k0_t3
    dsimp only
    rw [halves_tile]
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v238, trip_k0_t3.sl.v239, trip_k0_t3.sl.v241, trip_k0_t3.sl.v242, trip_k0_t3.sl.v244, trip_k0_t3.sl.v245, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344, k0_pay2, k0_pay3]
    rfl

/-- Head 1's step. -/
theorem step1 : Softmax.Step (tileS (keys i arg4 X4 k) v3 e1 r) (tileV (vals1a i arg5 X5 k) (vals1b i arg5 X5 k)) (acc.2.2.2.1 (ix2 0 r)) (acc.2.2.2.2.1 (ix2 0 r))
    (fun d => acc.2.2.2.2.2.1 (ix2 d r)) ((trip 𝒱 c bd i arg3 harg3 arg4 harg4 arg5 harg5 arg6 harg6 v1 v3 v5 v7 X4 X5 k acc).2.2.2.1 (ix2 0 r)) ((trip 𝒱 c bd i arg3 harg3 arg4 harg4 arg5 harg5 arg6 harg6 v1 v3 v5 v7 X4 X5 k acc).2.2.2.2.1 (ix2 0 r))
    (fun d => (trip 𝒱 c bd i arg3 harg3 arg4 harg4 arg5 harg5 arg6 harg6 v1 v3 v5 v7 X4 X5 k acc).2.2.2.2.2.1 (ix2 d r)) where
  max_eq := by
    unfold trip tripR_k0_t3 trip_k0_t3
    dsimp only
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v237, trip_k0_t3.sl.v238, trip_k0_t3.sl.v239, trip_k0_t3.sl.v240, trip_k0_t3.sl.v241, trip_k0_t3.sl.v242, trip_k0_t3.sl.v243, trip_k0_t3.sl.v244, trip_k0_t3.sl.v245, trip_k0_t3.sl.v246, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344]
    rw [Softmax.bot_word]
    rfl
  sum_eq := by
    unfold trip tripR_k0_t3 trip_k0_t3
    dsimp only
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v238, trip_k0_t3.sl.v239, trip_k0_t3.sl.v241, trip_k0_t3.sl.v242, trip_k0_t3.sl.v244, trip_k0_t3.sl.v245, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344, k0_pay2, k0_pay3]
    rfl
  acc_eq := fun d => by
    unfold trip tripR_k0_t3 trip_k0_t3
    dsimp only
    rw [halves_tile]
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v238, trip_k0_t3.sl.v239, trip_k0_t3.sl.v241, trip_k0_t3.sl.v242, trip_k0_t3.sl.v244, trip_k0_t3.sl.v245, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344, k0_pay2, k0_pay3]
    rfl

/-- Head 2's step. -/
theorem step2 : Softmax.Step (tileS (keys i arg4 X4 k) v5 e2 r) (tileV (vals2a i arg5 X5 k) (vals2b i arg5 X5 k)) (acc.2.2.2.2.2.2.1 (ix2 0 r)) (acc.2.2.2.2.2.2.2.1 (ix2 0 r))
    (fun d => acc.2.2.2.2.2.2.2.2.1 (ix2 d r)) ((trip 𝒱 c bd i arg3 harg3 arg4 harg4 arg5 harg5 arg6 harg6 v1 v3 v5 v7 X4 X5 k acc).2.2.2.2.2.2.1 (ix2 0 r)) ((trip 𝒱 c bd i arg3 harg3 arg4 harg4 arg5 harg5 arg6 harg6 v1 v3 v5 v7 X4 X5 k acc).2.2.2.2.2.2.2.1 (ix2 0 r))
    (fun d => (trip 𝒱 c bd i arg3 harg3 arg4 harg4 arg5 harg5 arg6 harg6 v1 v3 v5 v7 X4 X5 k acc).2.2.2.2.2.2.2.2.1 (ix2 d r)) where
  max_eq := by
    unfold trip tripR_k0_t3 trip_k0_t3
    dsimp only
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v237, trip_k0_t3.sl.v238, trip_k0_t3.sl.v239, trip_k0_t3.sl.v240, trip_k0_t3.sl.v241, trip_k0_t3.sl.v242, trip_k0_t3.sl.v243, trip_k0_t3.sl.v244, trip_k0_t3.sl.v245, trip_k0_t3.sl.v246, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344]
    rw [Softmax.bot_word]
    rfl
  sum_eq := by
    unfold trip tripR_k0_t3 trip_k0_t3
    dsimp only
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v238, trip_k0_t3.sl.v239, trip_k0_t3.sl.v241, trip_k0_t3.sl.v242, trip_k0_t3.sl.v244, trip_k0_t3.sl.v245, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344, k0_pay2, k0_pay3]
    rfl
  acc_eq := fun d => by
    unfold trip tripR_k0_t3 trip_k0_t3
    dsimp only
    rw [halves_tile]
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v238, trip_k0_t3.sl.v239, trip_k0_t3.sl.v241, trip_k0_t3.sl.v242, trip_k0_t3.sl.v244, trip_k0_t3.sl.v245, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344, k0_pay2, k0_pay3]
    rfl

/-- Head 3's step. -/
theorem step3 : Softmax.Step (tileS (keys i arg4 X4 k) v7 e3 r) (tileV (vals3a i arg5 X5 k) (vals3b i arg5 X5 k)) (acc.2.2.2.2.2.2.2.2.2.1 (ix2 0 r)) (acc.2.2.2.2.2.2.2.2.2.2.1 (ix2 0 r))
    (fun d => acc.2.2.2.2.2.2.2.2.2.2.2 (ix2 d r)) ((trip 𝒱 c bd i arg3 harg3 arg4 harg4 arg5 harg5 arg6 harg6 v1 v3 v5 v7 X4 X5 k acc).2.2.2.2.2.2.2.2.2.1 (ix2 0 r)) ((trip 𝒱 c bd i arg3 harg3 arg4 harg4 arg5 harg5 arg6 harg6 v1 v3 v5 v7 X4 X5 k acc).2.2.2.2.2.2.2.2.2.2.1 (ix2 0 r))
    (fun d => (trip 𝒱 c bd i arg3 harg3 arg4 harg4 arg5 harg5 arg6 harg6 v1 v3 v5 v7 X4 X5 k acc).2.2.2.2.2.2.2.2.2.2.2 (ix2 d r)) where
  max_eq := by
    unfold trip tripR_k0_t3 trip_k0_t3
    dsimp only
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v237, trip_k0_t3.sl.v238, trip_k0_t3.sl.v239, trip_k0_t3.sl.v240, trip_k0_t3.sl.v241, trip_k0_t3.sl.v242, trip_k0_t3.sl.v243, trip_k0_t3.sl.v244, trip_k0_t3.sl.v245, trip_k0_t3.sl.v246, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344]
    rw [Softmax.bot_word]
    rfl
  sum_eq := by
    unfold trip tripR_k0_t3 trip_k0_t3
    dsimp only
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v238, trip_k0_t3.sl.v239, trip_k0_t3.sl.v241, trip_k0_t3.sl.v242, trip_k0_t3.sl.v244, trip_k0_t3.sl.v245, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344, k0_pay2, k0_pay3]
    rfl
  acc_eq := fun d => by
    unfold trip tripR_k0_t3 trip_k0_t3
    dsimp only
    rw [halves_tile]
    pointwise [trip_k0_t3.sl.arg7, trip_k0_t3.sl.cst_101, trip_k0_t3.sl.cst_105, trip_k0_t3.sl.cst_114, trip_k0_t3.sl.cst_115, trip_k0_t3.sl.cst_122, trip_k0_t3.sl.r, trip_k0_t3.sl.v222, trip_k0_t3.sl.v224, trip_k0_t3.sl.v226, trip_k0_t3.sl.v227, trip_k0_t3.sl.v228, trip_k0_t3.sl.v229, trip_k0_t3.sl.v230, trip_k0_t3.sl.v231, trip_k0_t3.sl.v232, trip_k0_t3.sl.v233, trip_k0_t3.sl.v234, trip_k0_t3.sl.v235, trip_k0_t3.sl.v236, trip_k0_t3.sl.v238, trip_k0_t3.sl.v239, trip_k0_t3.sl.v241, trip_k0_t3.sl.v242, trip_k0_t3.sl.v244, trip_k0_t3.sl.v245, trip_k0_t3.sl.v247, trip_k0_t3.sl.v248, trip_k0_t3.sl.v249, trip_k0_t3.sl.v250, trip_k0_t3.sl.v251, trip_k0_t3.sl.v252, trip_k0_t3.sl.v253, trip_k0_t3.sl.v254, trip_k0_t3.sl.v255, trip_k0_t3.sl.v256, trip_k0_t3.sl.v257, trip_k0_t3.sl.v258, trip_k0_t3.sl.v259, trip_k0_t3.sl.v260, trip_k0_t3.sl.v261, trip_k0_t3.sl.v262, trip_k0_t3.sl.v263, trip_k0_t3.sl.v265, trip_k0_t3.sl.v266, trip_k0_t3.sl.v267, trip_k0_t3.sl.v268, trip_k0_t3.sl.v269, trip_k0_t3.sl.v270, trip_k0_t3.sl.v272, trip_k0_t3.sl.v273, trip_k0_t3.sl.v275, trip_k0_t3.sl.v276, trip_k0_t3.sl.v277, trip_k0_t3.sl.v278, trip_k0_t3.sl.v279, trip_k0_t3.sl.v280, trip_k0_t3.sl.v281, trip_k0_t3.sl.v282, trip_k0_t3.sl.v283, trip_k0_t3.sl.v284, trip_k0_t3.sl.v285, trip_k0_t3.sl.v286, trip_k0_t3.sl.v287, trip_k0_t3.sl.v288, trip_k0_t3.sl.v293, trip_k0_t3.sl.v294, trip_k0_t3.sl.v295, trip_k0_t3.sl.v296, trip_k0_t3.sl.v298, trip_k0_t3.sl.v303, trip_k0_t3.sl.v304, trip_k0_t3.sl.v305, trip_k0_t3.sl.v306, trip_k0_t3.sl.v307, trip_k0_t3.sl.v308, trip_k0_t3.sl.v309, trip_k0_t3.sl.v310, trip_k0_t3.sl.v311, trip_k0_t3.sl.v312, trip_k0_t3.sl.v313, trip_k0_t3.sl.v314, trip_k0_t3.sl.v315, trip_k0_t3.sl.v316, trip_k0_t3.sl.v321, trip_k0_t3.sl.v322, trip_k0_t3.sl.v323, trip_k0_t3.sl.v324, trip_k0_t3.sl.v326, trip_k0_t3.sl.v331, trip_k0_t3.sl.v332, trip_k0_t3.sl.v333, trip_k0_t3.sl.v334, trip_k0_t3.sl.v335, trip_k0_t3.sl.v336, trip_k0_t3.sl.v337, trip_k0_t3.sl.v338, trip_k0_t3.sl.v339, trip_k0_t3.sl.v340, trip_k0_t3.sl.v341, trip_k0_t3.sl.v342, trip_k0_t3.sl.v343, trip_k0_t3.sl.v344, k0_pay2, k0_pay3]
    rfl

end Cert.AttnSlow
-- ==== Proof.AttnFast.lean ====
/-
  One trip of each loop over earlier key tiles, read at one query row: the running maximum, denominator and
  numerators of each head after the trip, from those before it (`Softmax.Step`; with the maximum held,
  `Softmax.FixedStep`).
-/
module

public import proofs.«01_k».proof.Proof.RunIdeal
public import proofs.«01_k».proof.Proof.AttnTile
public import Idealize.ShloMosaic.Lib.Pointwise

@[expose] public section

set_option maxRecDepth 16384

noncomputable section

namespace Cert.AttnFast

open Idealize.ShloMosaic Idealize.ShloMosaic.TcCoe Cert.KernelIdeal Cert.KernelIdeal.Gen Cert.AttnTile

variable (𝒱 : Variants) (c : Dev nD) (bd : Option 𝒱.V) (i : grid0.Coords) (arg3 : Memref sig .tc .vmem S1x512x512 .bf16)
  (harg3 : arg3.IsWhole) (arg4 : Memref sig .tc .vmem S1x4096x512 .bf16) (harg4 : arg4.IsWhole)
  (arg5 : Memref sig .tc .vmem S1x16x256x256 .bf16) (harg5 : arg5.IsWhole)
  (arg6 : Memref sig .tc .vmem S1x512x256 .bf16) (harg6 : arg6.IsWhole) (v1 v3 v5 v7 : FVec Ideal S512x128 .bf16)
  (X4 : BufTy.Contents (Elt Ideal) arg4.view.ty) (X5 : BufTy.Contents (Elt Ideal) arg5.view.ty)
  (k : Fin (k0_t1_loop i).trips) (r : Fin 512)
  (acc : FVec Ideal S1x512 .f32 × FVec Ideal S64x512 .f32 × FVec Ideal S1x512 .f32 × FVec Ideal S64x512 .f32 × FVec Ideal S1x512 .f32 × FVec Ideal S64x512 .f32 × FVec Ideal S1x512 .f32 × FVec Ideal S64x512 .f32)
  (arg2 : BitVec 32) (v20 : FVec Ideal S1x512 .f32) (v21 : FVec Ideal S64x512 .f32) (v49 v52 v55 v58 : FVec Ideal S1x512 .f32) (v70 : FVec Ideal S512x512 .f32) (v95 : FVec Ideal S1x512 .f32) (v98 : FVec Ideal S64x512 .f32) (v123 : FVec Ideal S1x512 .f32) (v126 : FVec Ideal S64x512 .f32) (v151 : FVec Ideal S1x512 .f32) (v154 : FVec Ideal S64x512 .f32) (v155 : FVec Ideal S1x512 .f32)

/-- The key rows the trip loads. -/
abbrev keys : Vec Ideal S1x512x512 .bf16 := arg4.view.readAt (Elt Ideal)
  (Rect.unit (s := S1x4096x512) (k0_off6 i k) S1x512x512.size (k0_off6_inb i k)).toLoadRect X4

/-- The two halves of head 0's values the trip loads. -/
abbrev vals0a : Vec Ideal S1x1x64x256 .bf16 := arg5.view.readAt (Elt Ideal)
  (Rect.unit (s := S1x16x256x256) (k0_off7 i k 0#32) S1x1x64x256.size (k0_off7_inb i k 0)).toLoadRect X5
abbrev vals0b : Vec Ideal S1x1x64x256 .bf16 := arg5.view.readAt (Elt Ideal)
  (Rect.unit (s := S1x16x256x256) (k0_off7 i k 1#32) S1x1x64x256.size (k0_off7_inb i k 1)).toLoadRect X5

/-- The two halves of head 1's values the trip loads. -/
abbrev vals1a : Vec Ideal S1x1x64x256 .bf16 := arg5.view.readAt (Elt Ideal)
  (Rect.unit (s := S1x16x256x256) (k0_off8 i k 0#32) S1x1x64x256.size (k0_off8_inb i k 0)).toLoadRect X5
abbrev vals1b : Vec Ideal S1x1x64x256 .bf16 := arg5.view.readAt (Elt Ideal)
  (Rect.unit (s := S1x16x256x256) (k0_off8 i k 1#32) S1x1x64x256.size (k0_off8_inb i k 1)).toLoadRect X5

/-- The two halves of head 2's values the trip loads. -/
abbrev vals2a : Vec Ideal S1x1x64x256 .bf16 := arg5.view.readAt (Elt Ideal)
  (Rect.unit (s := S1x16x256x256) (k0_off9 i k 0#32) S1x1x64x256.size (k0_off9_inb i k 0)).toLoadRect X5
abbrev vals2b : Vec Ideal S1x1x64x256 .bf16 := arg5.view.readAt (Elt Ideal)
  (Rect.unit (s := S1x16x256x256) (k0_off9 i k 1#32) S1x1x64x256.size (k0_off9_inb i k 1)).toLoadRect X5

/-- The two halves of head 3's values the trip loads. -/
abbrev vals3a : Vec Ideal S1x1x64x256 .bf16 := arg5.view.readAt (Elt Ideal)
  (Rect.unit (s := S1x16x256x256) (k0_off10 i k 0#32) S1x1x64x256.size (k0_off10_inb i k 0)).toLoadRect X5
abbrev vals3b : Vec Ideal S1x1x64x256 .bf16 := arg5.view.readAt (Elt Ideal)
  (Rect.unit (s := S1x16x256x256) (k0_off10 i k 1#32) S1x1x64x256.size (k0_off10_inb i k 1)).toLoadRect X5

/-- What the trip yields. -/
abbrev trip := tripR_k0_t1 (F := Ideal) 𝒱 c bd i arg3 harg3 arg4 harg4 arg5 harg5 arg6 harg6 arg2 v1 v3 v5 v7 v20 v21 v49 v52 v55 v58 v70 v95 v98 v123 v126 v151 v154 v155 X4 X5 k acc

/-- Head 0's step. -/
theorem step0 : Softmax.FixedStep (tileS (keys i arg4 X4 k) v1 e0 r) (tileV (vals0a i arg5 X5 k) (vals0b i arg5 X5 k)) (v49 (ix2 0 r)) (acc.1 (ix2 0 r))
    (fun d => acc.2.1 (ix2 d r)) ((trip 𝒱 c bd i arg3 harg3 arg4 harg4 arg5 harg5 arg6 harg6 v1 v3 v5 v7 X4 X5 k acc arg2 v20 v21 v49 v52 v55 v58 v70 v95 v98 v123 v126 v151 v154 v155).1 (ix2 0 r))
    (fun d => (trip 𝒱 c bd i arg3 harg3 arg4 harg4 arg5 harg5 arg6 harg6 v1 v3 v5 v7 X4 X5 k acc arg2 v20 v21 v49 v52 v55 v58 v70 v95 v98 v123 v126 v151 v154 v155).2.1 (ix2 d r)) where
  sum_eq := by
    unfold trip tripR_k0_t1 trip_k0_t1
    dsimp only
    pointwise [trip_k0_t1.sl.arg7, trip_k0_t1.sl.cst_106, trip_k0_t1.sl.cst_107, trip_k0_t1.sl.cst_114, trip_k0_t1.sl.cst_97, trip_k0_t1.sl.v204, trip_k0_t1.sl.v206, trip_k0_t1.sl.v208, trip_k0_t1.sl.v209, trip_k0_t1.sl.v210, trip_k0_t1.sl.v211, trip_k0_t1.sl.v212, trip_k0_t1.sl.v213, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v222, trip_k0_t1.sl.v223, trip_k0_t1.sl.v224, trip_k0_t1.sl.v225, trip_k0_t1.sl.v226, trip_k0_t1.sl.v227, trip_k0_t1.sl.v228, trip_k0_t1.sl.v229, trip_k0_t1.sl.v230, trip_k0_t1.sl.v231, trip_k0_t1.sl.v233, trip_k0_t1.sl.v234, trip_k0_t1.sl.v235, trip_k0_t1.sl.v236, trip_k0_t1.sl.v237, trip_k0_t1.sl.v238, trip_k0_t1.sl.v240, trip_k0_t1.sl.v241, trip_k0_t1.sl.v243, trip_k0_t1.sl.v244, trip_k0_t1.sl.v245, trip_k0_t1.sl.v246, trip_k0_t1.sl.v247, trip_k0_t1.sl.v248, trip_k0_t1.sl.v249, trip_k0_t1.sl.v250, trip_k0_t1.sl.v251, trip_k0_t1.sl.v256, trip_k0_t1.sl.v257, trip_k0_t1.sl.v258, trip_k0_t1.sl.v259, trip_k0_t1.sl.v261, trip_k0_t1.sl.v266, trip_k0_t1.sl.v267, trip_k0_t1.sl.v268, trip_k0_t1.sl.v269, trip_k0_t1.sl.v270, trip_k0_t1.sl.v271, trip_k0_t1.sl.v272, trip_k0_t1.sl.v273, trip_k0_t1.sl.v274, trip_k0_t1.sl.v279, trip_k0_t1.sl.v280, trip_k0_t1.sl.v281, trip_k0_t1.sl.v282, trip_k0_t1.sl.v284, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v302, trip_k0_t1.sl.v303, trip_k0_t1.sl.v304, trip_k0_t1.sl.v305, trip_k0_t1.sl.v307, trip_k0_t1.sl.v312, trip_k0_t1.sl.v313, trip_k0_t1.sl.v314, trip_k0_t1.sl.v315, trip_k0_t1.sl.v316, trip_k0_t1.sl.v317, trip_k0_t1.sl.v318, trip_k0_t1.sl.v319, k0_pay136]
    rfl
  acc_eq := fun d => by
    unfold trip tripR_k0_t1 trip_k0_t1
    dsimp only
    rw [halves_tile]
    pointwise [trip_k0_t1.sl.arg7, trip_k0_t1.sl.cst_106, trip_k0_t1.sl.cst_107, trip_k0_t1.sl.cst_114, trip_k0_t1.sl.cst_97, trip_k0_t1.sl.v204, trip_k0_t1.sl.v206, trip_k0_t1.sl.v208, trip_k0_t1.sl.v209, trip_k0_t1.sl.v210, trip_k0_t1.sl.v211, trip_k0_t1.sl.v212, trip_k0_t1.sl.v213, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v222, trip_k0_t1.sl.v223, trip_k0_t1.sl.v224, trip_k0_t1.sl.v225, trip_k0_t1.sl.v226, trip_k0_t1.sl.v227, trip_k0_t1.sl.v228, trip_k0_t1.sl.v229, trip_k0_t1.sl.v230, trip_k0_t1.sl.v231, trip_k0_t1.sl.v233, trip_k0_t1.sl.v234, trip_k0_t1.sl.v235, trip_k0_t1.sl.v236, trip_k0_t1.sl.v237, trip_k0_t1.sl.v238, trip_k0_t1.sl.v240, trip_k0_t1.sl.v241, trip_k0_t1.sl.v243, trip_k0_t1.sl.v244, trip_k0_t1.sl.v245, trip_k0_t1.sl.v246, trip_k0_t1.sl.v247, trip_k0_t1.sl.v248, trip_k0_t1.sl.v249, trip_k0_t1.sl.v250, trip_k0_t1.sl.v251, trip_k0_t1.sl.v256, trip_k0_t1.sl.v257, trip_k0_t1.sl.v258, trip_k0_t1.sl.v259, trip_k0_t1.sl.v261, trip_k0_t1.sl.v266, trip_k0_t1.sl.v267, trip_k0_t1.sl.v268, trip_k0_t1.sl.v269, trip_k0_t1.sl.v270, trip_k0_t1.sl.v271, trip_k0_t1.sl.v272, trip_k0_t1.sl.v273, trip_k0_t1.sl.v274, trip_k0_t1.sl.v279, trip_k0_t1.sl.v280, trip_k0_t1.sl.v281, trip_k0_t1.sl.v282, trip_k0_t1.sl.v284, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v302, trip_k0_t1.sl.v303, trip_k0_t1.sl.v304, trip_k0_t1.sl.v305, trip_k0_t1.sl.v307, trip_k0_t1.sl.v312, trip_k0_t1.sl.v313, trip_k0_t1.sl.v314, trip_k0_t1.sl.v315, trip_k0_t1.sl.v316, trip_k0_t1.sl.v317, trip_k0_t1.sl.v318, trip_k0_t1.sl.v319, k0_pay136]
    rfl

/-- Head 1's step. -/
theorem step1 : Softmax.FixedStep (tileS (keys i arg4 X4 k) v3 e1 r) (tileV (vals1a i arg5 X5 k) (vals1b i arg5 X5 k)) (v52 (ix2 0 r)) (acc.2.2.1 (ix2 0 r))
    (fun d => acc.2.2.2.1 (ix2 d r)) ((trip 𝒱 c bd i arg3 harg3 arg4 harg4 arg5 harg5 arg6 harg6 v1 v3 v5 v7 X4 X5 k acc arg2 v20 v21 v49 v52 v55 v58 v70 v95 v98 v123 v126 v151 v154 v155).2.2.1 (ix2 0 r))
    (fun d => (trip 𝒱 c bd i arg3 harg3 arg4 harg4 arg5 harg5 arg6 harg6 v1 v3 v5 v7 X4 X5 k acc arg2 v20 v21 v49 v52 v55 v58 v70 v95 v98 v123 v126 v151 v154 v155).2.2.2.1 (ix2 d r)) where
  sum_eq := by
    unfold trip tripR_k0_t1 trip_k0_t1
    dsimp only
    pointwise [trip_k0_t1.sl.arg7, trip_k0_t1.sl.cst_106, trip_k0_t1.sl.cst_107, trip_k0_t1.sl.cst_114, trip_k0_t1.sl.cst_97, trip_k0_t1.sl.v204, trip_k0_t1.sl.v206, trip_k0_t1.sl.v208, trip_k0_t1.sl.v209, trip_k0_t1.sl.v210, trip_k0_t1.sl.v211, trip_k0_t1.sl.v212, trip_k0_t1.sl.v213, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v222, trip_k0_t1.sl.v223, trip_k0_t1.sl.v224, trip_k0_t1.sl.v225, trip_k0_t1.sl.v226, trip_k0_t1.sl.v227, trip_k0_t1.sl.v228, trip_k0_t1.sl.v229, trip_k0_t1.sl.v230, trip_k0_t1.sl.v231, trip_k0_t1.sl.v233, trip_k0_t1.sl.v234, trip_k0_t1.sl.v235, trip_k0_t1.sl.v236, trip_k0_t1.sl.v237, trip_k0_t1.sl.v238, trip_k0_t1.sl.v240, trip_k0_t1.sl.v241, trip_k0_t1.sl.v243, trip_k0_t1.sl.v244, trip_k0_t1.sl.v245, trip_k0_t1.sl.v246, trip_k0_t1.sl.v247, trip_k0_t1.sl.v248, trip_k0_t1.sl.v249, trip_k0_t1.sl.v250, trip_k0_t1.sl.v251, trip_k0_t1.sl.v256, trip_k0_t1.sl.v257, trip_k0_t1.sl.v258, trip_k0_t1.sl.v259, trip_k0_t1.sl.v261, trip_k0_t1.sl.v266, trip_k0_t1.sl.v267, trip_k0_t1.sl.v268, trip_k0_t1.sl.v269, trip_k0_t1.sl.v270, trip_k0_t1.sl.v271, trip_k0_t1.sl.v272, trip_k0_t1.sl.v273, trip_k0_t1.sl.v274, trip_k0_t1.sl.v279, trip_k0_t1.sl.v280, trip_k0_t1.sl.v281, trip_k0_t1.sl.v282, trip_k0_t1.sl.v284, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v302, trip_k0_t1.sl.v303, trip_k0_t1.sl.v304, trip_k0_t1.sl.v305, trip_k0_t1.sl.v307, trip_k0_t1.sl.v312, trip_k0_t1.sl.v313, trip_k0_t1.sl.v314, trip_k0_t1.sl.v315, trip_k0_t1.sl.v316, trip_k0_t1.sl.v317, trip_k0_t1.sl.v318, trip_k0_t1.sl.v319, k0_pay136]
    rfl
  acc_eq := fun d => by
    unfold trip tripR_k0_t1 trip_k0_t1
    dsimp only
    rw [halves_tile]
    pointwise [trip_k0_t1.sl.arg7, trip_k0_t1.sl.cst_106, trip_k0_t1.sl.cst_107, trip_k0_t1.sl.cst_114, trip_k0_t1.sl.cst_97, trip_k0_t1.sl.v204, trip_k0_t1.sl.v206, trip_k0_t1.sl.v208, trip_k0_t1.sl.v209, trip_k0_t1.sl.v210, trip_k0_t1.sl.v211, trip_k0_t1.sl.v212, trip_k0_t1.sl.v213, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v222, trip_k0_t1.sl.v223, trip_k0_t1.sl.v224, trip_k0_t1.sl.v225, trip_k0_t1.sl.v226, trip_k0_t1.sl.v227, trip_k0_t1.sl.v228, trip_k0_t1.sl.v229, trip_k0_t1.sl.v230, trip_k0_t1.sl.v231, trip_k0_t1.sl.v233, trip_k0_t1.sl.v234, trip_k0_t1.sl.v235, trip_k0_t1.sl.v236, trip_k0_t1.sl.v237, trip_k0_t1.sl.v238, trip_k0_t1.sl.v240, trip_k0_t1.sl.v241, trip_k0_t1.sl.v243, trip_k0_t1.sl.v244, trip_k0_t1.sl.v245, trip_k0_t1.sl.v246, trip_k0_t1.sl.v247, trip_k0_t1.sl.v248, trip_k0_t1.sl.v249, trip_k0_t1.sl.v250, trip_k0_t1.sl.v251, trip_k0_t1.sl.v256, trip_k0_t1.sl.v257, trip_k0_t1.sl.v258, trip_k0_t1.sl.v259, trip_k0_t1.sl.v261, trip_k0_t1.sl.v266, trip_k0_t1.sl.v267, trip_k0_t1.sl.v268, trip_k0_t1.sl.v269, trip_k0_t1.sl.v270, trip_k0_t1.sl.v271, trip_k0_t1.sl.v272, trip_k0_t1.sl.v273, trip_k0_t1.sl.v274, trip_k0_t1.sl.v279, trip_k0_t1.sl.v280, trip_k0_t1.sl.v281, trip_k0_t1.sl.v282, trip_k0_t1.sl.v284, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v302, trip_k0_t1.sl.v303, trip_k0_t1.sl.v304, trip_k0_t1.sl.v305, trip_k0_t1.sl.v307, trip_k0_t1.sl.v312, trip_k0_t1.sl.v313, trip_k0_t1.sl.v314, trip_k0_t1.sl.v315, trip_k0_t1.sl.v316, trip_k0_t1.sl.v317, trip_k0_t1.sl.v318, trip_k0_t1.sl.v319, k0_pay136]
    rfl

/-- Head 2's step. -/
theorem step2 : Softmax.FixedStep (tileS (keys i arg4 X4 k) v5 e2 r) (tileV (vals2a i arg5 X5 k) (vals2b i arg5 X5 k)) (v55 (ix2 0 r)) (acc.2.2.2.2.1 (ix2 0 r))
    (fun d => acc.2.2.2.2.2.1 (ix2 d r)) ((trip 𝒱 c bd i arg3 harg3 arg4 harg4 arg5 harg5 arg6 harg6 v1 v3 v5 v7 X4 X5 k acc arg2 v20 v21 v49 v52 v55 v58 v70 v95 v98 v123 v126 v151 v154 v155).2.2.2.2.1 (ix2 0 r))
    (fun d => (trip 𝒱 c bd i arg3 harg3 arg4 harg4 arg5 harg5 arg6 harg6 v1 v3 v5 v7 X4 X5 k acc arg2 v20 v21 v49 v52 v55 v58 v70 v95 v98 v123 v126 v151 v154 v155).2.2.2.2.2.1 (ix2 d r)) where
  sum_eq := by
    unfold trip tripR_k0_t1 trip_k0_t1
    dsimp only
    pointwise [trip_k0_t1.sl.arg7, trip_k0_t1.sl.cst_106, trip_k0_t1.sl.cst_107, trip_k0_t1.sl.cst_114, trip_k0_t1.sl.cst_97, trip_k0_t1.sl.v204, trip_k0_t1.sl.v206, trip_k0_t1.sl.v208, trip_k0_t1.sl.v209, trip_k0_t1.sl.v210, trip_k0_t1.sl.v211, trip_k0_t1.sl.v212, trip_k0_t1.sl.v213, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v222, trip_k0_t1.sl.v223, trip_k0_t1.sl.v224, trip_k0_t1.sl.v225, trip_k0_t1.sl.v226, trip_k0_t1.sl.v227, trip_k0_t1.sl.v228, trip_k0_t1.sl.v229, trip_k0_t1.sl.v230, trip_k0_t1.sl.v231, trip_k0_t1.sl.v233, trip_k0_t1.sl.v234, trip_k0_t1.sl.v235, trip_k0_t1.sl.v236, trip_k0_t1.sl.v237, trip_k0_t1.sl.v238, trip_k0_t1.sl.v240, trip_k0_t1.sl.v241, trip_k0_t1.sl.v243, trip_k0_t1.sl.v244, trip_k0_t1.sl.v245, trip_k0_t1.sl.v246, trip_k0_t1.sl.v247, trip_k0_t1.sl.v248, trip_k0_t1.sl.v249, trip_k0_t1.sl.v250, trip_k0_t1.sl.v251, trip_k0_t1.sl.v256, trip_k0_t1.sl.v257, trip_k0_t1.sl.v258, trip_k0_t1.sl.v259, trip_k0_t1.sl.v261, trip_k0_t1.sl.v266, trip_k0_t1.sl.v267, trip_k0_t1.sl.v268, trip_k0_t1.sl.v269, trip_k0_t1.sl.v270, trip_k0_t1.sl.v271, trip_k0_t1.sl.v272, trip_k0_t1.sl.v273, trip_k0_t1.sl.v274, trip_k0_t1.sl.v279, trip_k0_t1.sl.v280, trip_k0_t1.sl.v281, trip_k0_t1.sl.v282, trip_k0_t1.sl.v284, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v302, trip_k0_t1.sl.v303, trip_k0_t1.sl.v304, trip_k0_t1.sl.v305, trip_k0_t1.sl.v307, trip_k0_t1.sl.v312, trip_k0_t1.sl.v313, trip_k0_t1.sl.v314, trip_k0_t1.sl.v315, trip_k0_t1.sl.v316, trip_k0_t1.sl.v317, trip_k0_t1.sl.v318, trip_k0_t1.sl.v319, k0_pay136]
    rfl
  acc_eq := fun d => by
    unfold trip tripR_k0_t1 trip_k0_t1
    dsimp only
    rw [halves_tile]
    pointwise [trip_k0_t1.sl.arg7, trip_k0_t1.sl.cst_106, trip_k0_t1.sl.cst_107, trip_k0_t1.sl.cst_114, trip_k0_t1.sl.cst_97, trip_k0_t1.sl.v204, trip_k0_t1.sl.v206, trip_k0_t1.sl.v208, trip_k0_t1.sl.v209, trip_k0_t1.sl.v210, trip_k0_t1.sl.v211, trip_k0_t1.sl.v212, trip_k0_t1.sl.v213, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v222, trip_k0_t1.sl.v223, trip_k0_t1.sl.v224, trip_k0_t1.sl.v225, trip_k0_t1.sl.v226, trip_k0_t1.sl.v227, trip_k0_t1.sl.v228, trip_k0_t1.sl.v229, trip_k0_t1.sl.v230, trip_k0_t1.sl.v231, trip_k0_t1.sl.v233, trip_k0_t1.sl.v234, trip_k0_t1.sl.v235, trip_k0_t1.sl.v236, trip_k0_t1.sl.v237, trip_k0_t1.sl.v238, trip_k0_t1.sl.v240, trip_k0_t1.sl.v241, trip_k0_t1.sl.v243, trip_k0_t1.sl.v244, trip_k0_t1.sl.v245, trip_k0_t1.sl.v246, trip_k0_t1.sl.v247, trip_k0_t1.sl.v248, trip_k0_t1.sl.v249, trip_k0_t1.sl.v250, trip_k0_t1.sl.v251, trip_k0_t1.sl.v256, trip_k0_t1.sl.v257, trip_k0_t1.sl.v258, trip_k0_t1.sl.v259, trip_k0_t1.sl.v261, trip_k0_t1.sl.v266, trip_k0_t1.sl.v267, trip_k0_t1.sl.v268, trip_k0_t1.sl.v269, trip_k0_t1.sl.v270, trip_k0_t1.sl.v271, trip_k0_t1.sl.v272, trip_k0_t1.sl.v273, trip_k0_t1.sl.v274, trip_k0_t1.sl.v279, trip_k0_t1.sl.v280, trip_k0_t1.sl.v281, trip_k0_t1.sl.v282, trip_k0_t1.sl.v284, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v302, trip_k0_t1.sl.v303, trip_k0_t1.sl.v304, trip_k0_t1.sl.v305, trip_k0_t1.sl.v307, trip_k0_t1.sl.v312, trip_k0_t1.sl.v313, trip_k0_t1.sl.v314, trip_k0_t1.sl.v315, trip_k0_t1.sl.v316, trip_k0_t1.sl.v317, trip_k0_t1.sl.v318, trip_k0_t1.sl.v319, k0_pay136]
    rfl

/-- Head 3's step. -/
theorem step3 : Softmax.FixedStep (tileS (keys i arg4 X4 k) v7 e3 r) (tileV (vals3a i arg5 X5 k) (vals3b i arg5 X5 k)) (v58 (ix2 0 r)) (acc.2.2.2.2.2.2.1 (ix2 0 r))
    (fun d => acc.2.2.2.2.2.2.2 (ix2 d r)) ((trip 𝒱 c bd i arg3 harg3 arg4 harg4 arg5 harg5 arg6 harg6 v1 v3 v5 v7 X4 X5 k acc arg2 v20 v21 v49 v52 v55 v58 v70 v95 v98 v123 v126 v151 v154 v155).2.2.2.2.2.2.1 (ix2 0 r))
    (fun d => (trip 𝒱 c bd i arg3 harg3 arg4 harg4 arg5 harg5 arg6 harg6 v1 v3 v5 v7 X4 X5 k acc arg2 v20 v21 v49 v52 v55 v58 v70 v95 v98 v123 v126 v151 v154 v155).2.2.2.2.2.2.2 (ix2 d r)) where
  sum_eq := by
    unfold trip tripR_k0_t1 trip_k0_t1
    dsimp only
    pointwise [trip_k0_t1.sl.arg7, trip_k0_t1.sl.cst_106, trip_k0_t1.sl.cst_107, trip_k0_t1.sl.cst_114, trip_k0_t1.sl.cst_97, trip_k0_t1.sl.v204, trip_k0_t1.sl.v206, trip_k0_t1.sl.v208, trip_k0_t1.sl.v209, trip_k0_t1.sl.v210, trip_k0_t1.sl.v211, trip_k0_t1.sl.v212, trip_k0_t1.sl.v213, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v222, trip_k0_t1.sl.v223, trip_k0_t1.sl.v224, trip_k0_t1.sl.v225, trip_k0_t1.sl.v226, trip_k0_t1.sl.v227, trip_k0_t1.sl.v228, trip_k0_t1.sl.v229, trip_k0_t1.sl.v230, trip_k0_t1.sl.v231, trip_k0_t1.sl.v233, trip_k0_t1.sl.v234, trip_k0_t1.sl.v235, trip_k0_t1.sl.v236, trip_k0_t1.sl.v237, trip_k0_t1.sl.v238, trip_k0_t1.sl.v240, trip_k0_t1.sl.v241, trip_k0_t1.sl.v243, trip_k0_t1.sl.v244, trip_k0_t1.sl.v245, trip_k0_t1.sl.v246, trip_k0_t1.sl.v247, trip_k0_t1.sl.v248, trip_k0_t1.sl.v249, trip_k0_t1.sl.v250, trip_k0_t1.sl.v251, trip_k0_t1.sl.v256, trip_k0_t1.sl.v257, trip_k0_t1.sl.v258, trip_k0_t1.sl.v259, trip_k0_t1.sl.v261, trip_k0_t1.sl.v266, trip_k0_t1.sl.v267, trip_k0_t1.sl.v268, trip_k0_t1.sl.v269, trip_k0_t1.sl.v270, trip_k0_t1.sl.v271, trip_k0_t1.sl.v272, trip_k0_t1.sl.v273, trip_k0_t1.sl.v274, trip_k0_t1.sl.v279, trip_k0_t1.sl.v280, trip_k0_t1.sl.v281, trip_k0_t1.sl.v282, trip_k0_t1.sl.v284, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v302, trip_k0_t1.sl.v303, trip_k0_t1.sl.v304, trip_k0_t1.sl.v305, trip_k0_t1.sl.v307, trip_k0_t1.sl.v312, trip_k0_t1.sl.v313, trip_k0_t1.sl.v314, trip_k0_t1.sl.v315, trip_k0_t1.sl.v316, trip_k0_t1.sl.v317, trip_k0_t1.sl.v318, trip_k0_t1.sl.v319, k0_pay136]
    rfl
  acc_eq := fun d => by
    unfold trip tripR_k0_t1 trip_k0_t1
    dsimp only
    rw [halves_tile]
    pointwise [trip_k0_t1.sl.arg7, trip_k0_t1.sl.cst_106, trip_k0_t1.sl.cst_107, trip_k0_t1.sl.cst_114, trip_k0_t1.sl.cst_97, trip_k0_t1.sl.v204, trip_k0_t1.sl.v206, trip_k0_t1.sl.v208, trip_k0_t1.sl.v209, trip_k0_t1.sl.v210, trip_k0_t1.sl.v211, trip_k0_t1.sl.v212, trip_k0_t1.sl.v213, trip_k0_t1.sl.v214, trip_k0_t1.sl.v215, trip_k0_t1.sl.v216, trip_k0_t1.sl.v217, trip_k0_t1.sl.v218, trip_k0_t1.sl.v219, trip_k0_t1.sl.v220, trip_k0_t1.sl.v221, trip_k0_t1.sl.v222, trip_k0_t1.sl.v223, trip_k0_t1.sl.v224, trip_k0_t1.sl.v225, trip_k0_t1.sl.v226, trip_k0_t1.sl.v227, trip_k0_t1.sl.v228, trip_k0_t1.sl.v229, trip_k0_t1.sl.v230, trip_k0_t1.sl.v231, trip_k0_t1.sl.v233, trip_k0_t1.sl.v234, trip_k0_t1.sl.v235, trip_k0_t1.sl.v236, trip_k0_t1.sl.v237, trip_k0_t1.sl.v238, trip_k0_t1.sl.v240, trip_k0_t1.sl.v241, trip_k0_t1.sl.v243, trip_k0_t1.sl.v244, trip_k0_t1.sl.v245, trip_k0_t1.sl.v246, trip_k0_t1.sl.v247, trip_k0_t1.sl.v248, trip_k0_t1.sl.v249, trip_k0_t1.sl.v250, trip_k0_t1.sl.v251, trip_k0_t1.sl.v256, trip_k0_t1.sl.v257, trip_k0_t1.sl.v258, trip_k0_t1.sl.v259, trip_k0_t1.sl.v261, trip_k0_t1.sl.v266, trip_k0_t1.sl.v267, trip_k0_t1.sl.v268, trip_k0_t1.sl.v269, trip_k0_t1.sl.v270, trip_k0_t1.sl.v271, trip_k0_t1.sl.v272, trip_k0_t1.sl.v273, trip_k0_t1.sl.v274, trip_k0_t1.sl.v279, trip_k0_t1.sl.v280, trip_k0_t1.sl.v281, trip_k0_t1.sl.v282, trip_k0_t1.sl.v284, trip_k0_t1.sl.v289, trip_k0_t1.sl.v290, trip_k0_t1.sl.v291, trip_k0_t1.sl.v292, trip_k0_t1.sl.v293, trip_k0_t1.sl.v294, trip_k0_t1.sl.v295, trip_k0_t1.sl.v296, trip_k0_t1.sl.v297, trip_k0_t1.sl.v302, trip_k0_t1.sl.v303, trip_k0_t1.sl.v304, trip_k0_t1.sl.v305, trip_k0_t1.sl.v307, trip_k0_t1.sl.v312, trip_k0_t1.sl.v313, trip_k0_t1.sl.v314, trip_k0_t1.sl.v315, trip_k0_t1.sl.v316, trip_k0_t1.sl.v317, trip_k0_t1.sl.v318, trip_k0_t1.sl.v319, k0_pay136]
    rfl

end Cert.AttnFast
-- ==== Proof.AttnLoad.lean ====
/-
  The tiles the attention loads, as parts of its three blocks: key tile `n` is rows `512·n …` of the key block, value
  tile `n` the columns `512·n …` of one head's rows of the value block, and the query slices are the heads' lanes.
-/
module

public import proofs.«01_k».proof.Proof.AttnDiag
public import proofs.«01_k».proof.Proof.AttnSlow
public import proofs.«01_k».proof.Proof.AttnFast

@[expose] public section

set_option maxRecDepth 16384

noncomputable section

namespace Cert.AttnLoad

open Idealize.ShloMosaic Idealize.ShloMosaic.TcCoe Cert.KernelIdeal Cert.KernelIdeal.Gen Cert.KernelIdeal.Body
  Cert.AttnTile

/-- Lane `d` of head `h`. -/
def lane (h : Fin 4) (d : Fin 128) : Fin 512 := ⟨128 * h.val + d.val, by omega⟩

/-- Row `J` of the key block. -/
def rowK (J : ℕ) : Fin 4096 := ⟨J % 4096, Nat.mod_lt _ (by norm_num)⟩

/-- The score of key `J` for query row `r`, both in head `h`. -/
def keyS (x0 : Vec Ideal S1x512x512 .bf16) (x1 : Vec Ideal S1x4096x512 .bf16) (h : Fin 4) (r : Fin 512) (J : ℕ) : EReal :=
  ∑ d, x1 (ix3 0 (rowK J) (lane h d)) * x0 (ix3 0 r (lane h d))

/-- Feature `d` of head `h`'s value of key `J`. -/
def valV (x2 : Vec Ideal S1x16x256x256 .bf16) (h : Fin 4) (d : Fin 64) (J : ℕ) : EReal :=
  x2 (ix4 0 ⟨J / 256 % 16, Nat.mod_lt _ (by norm_num)⟩ ⟨64 * h.val + d.val, by omega⟩
    ⟨J % 256, Nat.mod_lt _ (by norm_num)⟩)

theorem e0_eq : e0 = lane 0 := funext fun d => Fin.ext (by show d.val = 128 * 0 + d.val; omega)
theorem e1_eq : e1 = lane 1 := funext fun d => Fin.ext (by show 128 + d.val = 128 * 1 + d.val; omega)
theorem e2_eq : e2 = lane 2 := funext fun d => Fin.ext (by show 256 + d.val = 128 * 2 + d.val; omega)
theorem e3_eq : e3 = lane 3 := funext fun d => Fin.ext (by show 384 + d.val = 128 * 3 + d.val; omega)

section Loads
variable (arg4 : Memref sig .tc .vmem S1x4096x512 .bf16) (harg4 : arg4.IsWhole)
  (arg5 : Memref sig .tc .vmem S1x16x256x256 .bf16) (harg5 : arg5.IsWhole)
  (x0 : Vec Ideal S1x512x512 .bf16) (x1 : Vec Ideal S1x4096x512 .bf16) (x2 : Vec Ideal S1x16x256x256 .bf16)

/-- A key tile at an index. -/
theorem load_keys (off : Fin 3 → ℕ) (n : ℕ) (h : off = ![0, 512 * n, 0])
    (inb : ∀ a, off a + S1x512x512.size a ≤ S1x4096x512.size a) (j e : Fin 512) :
    arg4.view.readAt (Elt Ideal) (Rect.unit (s := S1x4096x512) off S1x512x512.size inb).toLoadRect (harg4.unread x1) (ix3 0 j e)
      = x1 (ix3 0 (rowK (512 * n + j.val)) e) := by
  subst h
  have hn : 512 * n + 512 ≤ 4096 := inb 1
  simp only [View.readAt_eq_ld, harg4.read_unread]
  pointwise
  refine congrArg x1 ((ix3_inj _ _ _ _ _ _).2 ⟨?_, ?_, ?_⟩)
  · rfl
  · exact Fin.ext (show 512 * n + j.val = (512 * n + j.val) % 4096 by omega)
  · rfl

/-- A value tile at an index. -/
theorem load_vals (off : Fin 4 → ℕ) (m b : ℕ) (h : off = ![0, m, b, 0])
    (inb : ∀ a, off a + S1x1x64x256.size a ≤ S1x16x256x256.size a) (d : Fin 64) (x : Fin 256) :
    arg5.view.readAt (Elt Ideal) (Rect.unit (s := S1x16x256x256) off S1x1x64x256.size inb).toLoadRect (harg5.unread x2)
        (ix4 0 0 d x)
      = x2 (ix4 0 ⟨m % 16, Nat.mod_lt _ (by norm_num)⟩ ⟨(b + d.val) % 256, Nat.mod_lt _ (by norm_num)⟩ x) := by
  subst h
  have hm : m + 1 ≤ 16 := inb 1
  have hb : b + 64 ≤ 256 := inb 2
  simp only [View.readAt_eq_ld, harg5.read_unread]
  pointwise
  refine congrArg x2 ((ix4_inj _ _ _ _ _ _ _ _).2 ⟨?_, ?_, ?_, ?_⟩)
  · rfl
  · exact Fin.ext (show m + 0 = m % 16 by omega)
  · exact Fin.ext (show b + d.val = (b + d.val) % 256 by omega)
  · rfl

/-- The scores of a loaded key tile, against a query slice that is head `h`'s. -/
theorem tileS_load (off : Fin 3 → ℕ) (n : ℕ) (hoff : off = ![0, 512 * n, 0])
    (inb : ∀ a, off a + S1x512x512.size a ≤ S1x4096x512.size a) (h : Fin 4) (q : FVec Ideal S512x128 .bf16) (r : Fin 512)
    (hq : ∀ d, q (ix2 r d) = x0 (ix3 0 r (lane h d))) (j : Fin 512) :
    tileS (arg4.view.readAt (Elt Ideal) (Rect.unit (s := S1x4096x512) off S1x512x512.size inb).toLoadRect (harg4.unread x1))
        q (lane h) r j
      = keyS x0 x1 h r (512 * n + j.val) := by
  unfold tileS keyS
  refine Finset.sum_congr rfl fun d _ => ?_
  rw [load_keys arg4 harg4 x1 off n hoff inb, hq]

/-- The values of a loaded tile. -/
theorem tileV_load (offa offb : Fin 4 → ℕ) (n : ℕ) (h : Fin 4) (ha : offa = ![0, 2 * n + 0, 64 * h.val, 0])
    (hb : offb = ![0, 2 * n + 1, 64 * h.val, 0]) (ina : ∀ a, offa a + S1x1x64x256.size a ≤ S1x16x256x256.size a)
    (inb : ∀ a, offb a + S1x1x64x256.size a ≤ S1x16x256x256.size a) (d : Fin 64) (j : Fin 512) :
    tileV (arg5.view.readAt (Elt Ideal) (Rect.unit (s := S1x16x256x256) offa S1x1x64x256.size ina).toLoadRect (harg5.unread x2))
        (arg5.view.readAt (Elt Ideal) (Rect.unit (s := S1x16x256x256) offb S1x1x64x256.size inb).toLoadRect (harg5.unread x2)) d j
      = valV x2 h d (512 * n + j.val) := by
  have hh := h.isLt
  unfold tileV valV
  split
  · rename_i hj
    rw [load_vals arg5 harg5 x2 offa _ _ ha ina]
    refine congrArg x2 ((ix4_inj _ _ _ _ _ _ _ _).2 ⟨rfl, ?_, ?_, ?_⟩)
    · exact Fin.ext (show (2 * n + 0) % 16 = (512 * n + j.val) / 256 % 16 by omega)
    · exact Fin.ext (show (64 * h.val + d.val) % 256 = 64 * h.val + d.val by omega)
    · exact Fin.ext (show j.val = (512 * n + j.val) % 256 by omega)
  · rename_i hj
    rw [load_vals arg5 harg5 x2 offb _ _ hb inb]
    refine congrArg x2 ((ix4_inj _ _ _ _ _ _ _ _).2 ⟨rfl, ?_, ?_, ?_⟩)
    · exact Fin.ext (show (2 * n + 1) % 16 = (512 * n + j.val) / 256 % 16 by omega)
    · exact Fin.ext (show (64 * h.val + d.val) % 256 = 64 * h.val + d.val by omega)
    · exact Fin.ext (show j.val - 256 = (512 * n + j.val) % 256 by omega)

end Loads

section Queries
variable (c : Dev nD) (arg3 : Memref sig .tc .vmem S1x512x512 .bf16) (harg3 : arg3.IsWhole)
  (x0 : Vec Ideal S1x512x512 .bf16) (r : Fin 512) (d : Fin 128)

/-- The query slices. -/
theorem query0 : bodyRun.sl.r c arg3 harg3 x0 (ix2 r d) = x0 (ix3 0 r (lane 0 d)) := by
  unfold bodyRun.sl.r
  simp only [View.readAt_eq_ld, harg3.read_unread]
  pointwise [k0_pay92]
  exact congrArg x0 ((ix3_inj _ _ _ _ _ _).2 ⟨rfl, rfl, Fin.ext (show d.val = 128 * 0 + d.val by omega)⟩)
theorem query1 : bodyRun.sl.r_1 c arg3 harg3 x0 (ix2 r d) = x0 (ix3 0 r (lane 1 d)) := by
  unfold bodyRun.sl.r_1
  simp only [View.readAt_eq_ld, harg3.read_unread]
  pointwise [k0_pay93]
  exact congrArg x0 ((ix3_inj _ _ _ _ _ _).2 ⟨rfl, rfl, Fin.ext (show 128 + d.val = 128 * 1 + d.val by omega)⟩)
theorem query2 : bodyRun.sl.r_2 c arg3 harg3 x0 (ix2 r d) = x0 (ix3 0 r (lane 2 d)) := by
  unfold bodyRun.sl.r_2
  simp only [View.readAt_eq_ld, harg3.read_unread]
  pointwise [k0_pay94]
  exact congrArg x0 ((ix3_inj _ _ _ _ _ _).2 ⟨rfl, rfl, Fin.ext (show 256 + d.val = 128 * 2 + d.val by omega)⟩)
theorem query3 : bodyRun.sl.r_3 c arg3 harg3 x0 (ix2 r d) = x0 (ix3 0 r (lane 3 d)) := by
  unfold bodyRun.sl.r_3
  simp only [View.readAt_eq_ld, harg3.read_unread]
  pointwise [k0_pay95]
  exact congrArg x0 ((ix3_inj _ _ _ _ _ _).2 ⟨rfl, rfl, Fin.ext (show 384 + d.val = 128 * 3 + d.val by omega)⟩)

end Queries
end Cert.AttnLoad
-- ==== Proof.AttnSteps.lean ====
/-
  Every step of the attention over the blocks: the tiles are the rows of the key block and the columns of the value
  block, the weights' arithmetic is `Softmax`'s.
-/
module

public import proofs.«01_k».proof.Proof.AttnLoad

@[expose] public section

set_option maxRecDepth 16384

noncomputable section

namespace Cert.AttnSteps

open Idealize.ShloMosaic Idealize.ShloMosaic.TcCoe Cert.KernelIdeal Cert.KernelIdeal.Gen Cert.KernelIdeal.Body
  Cert.AttnTile Cert.AttnLoad

/-- The trips of both main loops are the earlier tiles, and the remainder loops make none. -/
theorem trips1 (i : grid0.Coords) : (k0_t1_loop i).trips = (i 2).val := by
  have h_c0 : Affine.IsInt 0#32 (0) := Affine.ofNat _ (by omega)
  have r_i2 : (i 2).val < 8 := (i 2).isLt
  have h_arg2 : Affine.IsInt (BitVec.ofNat 32 (i 2).val) (((i 2).val : Int)) := Affine.ofNat _ (by omega)
  have h_1 : Affine.IsInt _ (((i 2).val : Int)) := Affine.subi h_arg2 h_c0 (by omega)
  have h_one : Affine.IsInt 1#32 (1) := Affine.ofNat _ (by omega)
  have h_2 : Affine.IsInt _ (((i 2).val : Int)) := Affine.divsi h_1 h_one (by omega)
  have h_3 : Affine.IsInt _ (((i 2).val : Int)) := Affine.muli h_2 h_one (by omega)
  have h_4 : Affine.IsInt _ (((i 2).val : Int)) := Affine.addi h_c0 h_3 (by omega)
  exact Affine.trips_eq h_c0 h_4 h_one _ (by omega)
theorem trips3 (i : grid0.Coords) : (k0_t3_loop i).trips = (i 2).val := trips1 i
theorem trips2 (i : grid0.Coords) : (k0_t2_loop i).trips = 0 := Nat.le_zero.1 (k0_t2_abs i).2.1
theorem trips4 (i : grid0.Coords) : (k0_t4_loop i).trips = 0 := Nat.le_zero.1 (k0_t4_abs i).2.1

variable (c : Dev nD) (i : grid0.Coords) (arg3 : Memref sig .tc .vmem S1x512x512 .bf16)
  (harg3 : arg3.IsWhole) (arg4 : Memref sig .tc .vmem S1x4096x512 .bf16) (harg4 : arg4.IsWhole)
  (arg5 : Memref sig .tc .vmem S1x16x256x256 .bf16) (harg5 : arg5.IsWhole)
  (arg6 : Memref sig .tc .vmem S1x512x256 .bf16) (harg6 : arg6.IsWhole)
  (x0 : Vec Ideal S1x512x512 .bf16) (x1 : Vec Ideal S1x4096x512 .bf16) (x2 : Vec Ideal S1x16x256x256 .bf16) (r : Fin 512)

/-- The exact loop's state before trip `n`. -/
abbrev slow (n : ℕ) := st_k0_t3 (F := Ideal) Variants.none c none i arg3 harg3 arg4 harg4 arg5 harg5 arg6 harg6
  (bodyRun.sl.r c arg3 harg3 x0) (bodyRun.sl.r_1 c arg3 harg3 x0) (bodyRun.sl.r_2 c arg3 harg3 x0) (bodyRun.sl.r_3 c arg3 harg3 x0) (harg4.unread x1) (harg5.unread x2)
  (bodyRun.sl.r_6 c i arg3 harg3 arg4 harg4 x0 x1, bodyRun.sl.r_15 c i arg3 harg3 arg4 harg4 x0 x1, bodyRun.sl.r_16 c i arg3 harg3 arg4 harg4 arg5 harg5 x0 x1 x2, bodyRun.sl.r_7 c i arg3 harg3 arg4 harg4 x0 x1, bodyRun.sl.r_19 c i arg3 harg3 arg4 harg4 x0 x1, bodyRun.sl.r_20 c i arg3 harg3 arg4 harg4 arg5 harg5 x0 x1 x2, bodyRun.sl.r_8 c i arg3 harg3 arg4 harg4 x0 x1, bodyRun.sl.r_21 c i arg3 harg3 arg4 harg4 x0 x1, bodyRun.sl.r_22 c i arg3 harg3 arg4 harg4 arg5 harg5 x0 x1 x2, bodyRun.sl.r_9 c i arg3 harg3 arg4 harg4 x0 x1, bodyRun.sl.r_24 c i arg3 harg3 arg4 harg4 x0 x1, bodyRun.sl.r_25 c i arg3 harg3 arg4 harg4 arg5 harg5 x0 x1 x2) n
/-- The cheap loop's state before trip `n`. -/
abbrev fast (n : ℕ) := st_k0_t1 (F := Ideal) Variants.none c none i arg3 harg3 arg4 harg4 arg5 harg5 arg6 harg6
  (BitVec.ofNat 32 (i 2).val) (bodyRun.sl.r c arg3 harg3 x0) (bodyRun.sl.r_1 c arg3 harg3 x0) (bodyRun.sl.r_2 c arg3 harg3 x0) (bodyRun.sl.r_3 c arg3 harg3 x0) k0_pay106 k0_pay107 (bodyRun.sl.r_6 c i arg3 harg3 arg4 harg4 x0 x1) (bodyRun.sl.r_7 c i arg3 harg3 arg4 harg4 x0 x1) (bodyRun.sl.r_8 c i arg3 harg3 arg4 harg4 x0 x1) (bodyRun.sl.r_9 c i arg3 harg3 arg4 harg4 x0 x1) (bodyRun.sl.r_13 c i arg3 harg3 arg4 harg4 x0 x1) (bodyRun.sl.r_15 c i arg3 harg3 arg4 harg4 x0 x1) (bodyRun.sl.r_16 c i arg3 harg3 arg4 harg4 arg5 harg5 x0 x1 x2) (bodyRun.sl.r_19 c i arg3 harg3 arg4 harg4 x0 x1) (bodyRun.sl.r_20 c i arg3 harg3 arg4 harg4 arg5 harg5 x0 x1 x2) (bodyRun.sl.r_21 c i arg3 harg3 arg4 harg4 x0 x1) (bodyRun.sl.r_22 c i arg3 harg3 arg4 harg4 arg5 harg5 x0 x1 x2) (bodyRun.sl.r_23 c i arg3 harg3 arg4 harg4 x0 x1) (harg4.unread x1) (harg5.unread x2)
  (bodyRun.sl.r_15 c i arg3 harg3 arg4 harg4 x0 x1, bodyRun.sl.r_16 c i arg3 harg3 arg4 harg4 arg5 harg5 x0 x1 x2, bodyRun.sl.r_19 c i arg3 harg3 arg4 harg4 x0 x1, bodyRun.sl.r_20 c i arg3 harg3 arg4 harg4 arg5 harg5 x0 x1 x2, bodyRun.sl.r_21 c i arg3 harg3 arg4 harg4 x0 x1, bodyRun.sl.r_22 c i arg3 harg3 arg4 harg4 arg5 harg5 x0 x1 x2, bodyRun.sl.r_24 c i arg3 harg3 arg4 harg4 x0 x1, bodyRun.sl.r_25 c i arg3 harg3 arg4 harg4 arg5 harg5 x0 x1 x2) n

/-- Head 0. -/
theorem diag0 : Softmax.Step
    (fun j => if j.val ≤ r.val then keyS x0 x1 0 r (512 * (i 2).val + j.val) else ⊥)
    (fun d j => valV x2 0 d (512 * (i 2).val + j.val)) ⊥ 0 (fun _ => 0)
    ((slow c i arg3 harg3 arg4 harg4 arg5 harg5 arg6 harg6 x0 x1 x2 0).1 (ix2 0 r)) ((slow c i arg3 harg3 arg4 harg4 arg5 harg5 arg6 harg6 x0 x1 x2 0).2.1 (ix2 0 r))
    (fun d => (slow c i arg3 harg3 arg4 harg4 arg5 harg5 arg6 harg6 x0 x1 x2 0).2.2.1 (ix2 d r)) := by
  have h := AttnDiag.step0 c i arg3 harg3 arg4 harg4 arg5 harg5 x0 x1 x2 r
  rw [e0_eq] at h
  have hs : ∀ j : Fin 512, _ := fun j => tileS_load arg4 harg4 x0 x1 _ _ (k0_off1_eq i) (k0_off1_inb i) 0 (bodyRun.sl.r c arg3 harg3 x0) r (query0 c arg3 harg3 x0 r) j
  have hv : ∀ (d : Fin 64) (j : Fin 512), _ := fun d j => tileV_load arg5 harg5 x2 _ _ _ 0 (k0_off2_eq i 0) (k0_off2_eq i 1) (k0_off2_inb i 0) (k0_off2_inb i 1) d j
  have e1 : (fun j : Fin 512 => if j.val ≤ r.val then tileS (AttnDiag.keys i arg4 harg4 x1) (bodyRun.sl.r c arg3 harg3 x0) (lane 0) r j else ⊥)
      = fun j => if j.val ≤ r.val then keyS x0 x1 0 r (512 * (i 2).val + j.val) else ⊥ := funext fun j => by rw [hs j]
  have e2 : tileV (AttnDiag.vals0a i arg5 harg5 x2) (AttnDiag.vals0b i arg5 harg5 x2)
      = fun d j => valV x2 0 d (512 * (i 2).val + j.val) := funext fun d => funext fun j => hv d j
  rw [e1, e2] at h
  exact h

theorem slow0 (n : ℕ) (hn : n < (k0_t3_loop i).trips) : Softmax.Step
    (fun j => keyS x0 x1 0 r (512 * n + j.val)) (fun d j => valV x2 0 d (512 * n + j.val))
    ((slow c i arg3 harg3 arg4 harg4 arg5 harg5 arg6 harg6 x0 x1 x2 n).1 (ix2 0 r)) ((slow c i arg3 harg3 arg4 harg4 arg5 harg5 arg6 harg6 x0 x1 x2 n).2.1 (ix2 0 r)) (fun d => (slow c i arg3 harg3 arg4 harg4 arg5 harg5 arg6 harg6 x0 x1 x2 n).2.2.1 (ix2 d r))
    ((slow c i arg3 harg3 arg4 harg4 arg5 harg5 arg6 harg6 x0 x1 x2 (n + 1)).1 (ix2 0 r)) ((slow c i arg3 harg3 arg4 harg4 arg5 harg5 arg6 harg6 x0 x1 x2 (n + 1)).2.1 (ix2 0 r)) (fun d => (slow c i arg3 harg3 arg4 harg4 arg5 harg5 arg6 harg6 x0 x1 x2 (n + 1)).2.2.1 (ix2 d r)) := by
  have h := AttnSlow.step0 Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) ⟨n, hn⟩ r (slow c i arg3 harg3 arg4 harg4 arg5 harg5 arg6 harg6 x0 x1 x2 n)
  rw [e0_eq] at h
  have hs : ∀ j : Fin 512, _ := fun j => tileS_load arg4 harg4 x0 x1 _ _ (k0_off16_eq i (⟨n, hn⟩ : Fin (k0_t3_loop i).trips)) (k0_off16_inb i (⟨n, hn⟩ : Fin (k0_t3_loop i).trips)) 0 (bodyRun.sl.r c arg3 harg3 x0) r (query0 c arg3 harg3 x0 r) j
  have hv : ∀ (d : Fin 64) (j : Fin 512), _ := fun d j => tileV_load arg5 harg5 x2 _ _ _ 0 (k0_off17_eq i (⟨n, hn⟩ : Fin (k0_t3_loop i).trips) 0) (k0_off17_eq i (⟨n, hn⟩ : Fin (k0_t3_loop i).trips) 1) (k0_off17_inb i (⟨n, hn⟩ : Fin (k0_t3_loop i).trips) 0) (k0_off17_inb i (⟨n, hn⟩ : Fin (k0_t3_loop i).trips) 1) d j
  have e1 : tileS (AttnSlow.keys i arg4 (harg4.unread x1) ⟨n, hn⟩) (bodyRun.sl.r c arg3 harg3 x0) (lane 0) r
      = fun j => keyS x0 x1 0 r (512 * n + j.val) := funext fun j => hs j
  have e2 : tileV (AttnSlow.vals0a i arg5 (harg5.unread x2) ⟨n, hn⟩) (AttnSlow.vals0b i arg5 (harg5.unread x2) ⟨n, hn⟩)
      = fun d j => valV x2 0 d (512 * n + j.val) := funext fun d => funext fun j => hv d j
  have e3 := st_k0_t3_succ (F := Ideal) Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) (bodyRun.sl.r_6 c i arg3 harg3 arg4 harg4 x0 x1, bodyRun.sl.r_15 c i arg3 harg3 arg4 harg4 x0 x1, bodyRun.sl.r_16 c i arg3 harg3 arg4 harg4 arg5 harg5 x0 x1 x2, bodyRun.sl.r_7 c i arg3 harg3 arg4 harg4 x0 x1, bodyRun.sl.r_19 c i arg3 harg3 arg4 harg4 x0 x1, bodyRun.sl.r_20 c i arg3 harg3 arg4 harg4 arg5 harg5 x0 x1 x2, bodyRun.sl.r_8 c i arg3 harg3 arg4 harg4 x0 x1, bodyRun.sl.r_21 c i arg3 harg3 arg4 harg4 x0 x1, bodyRun.sl.r_22 c i arg3 harg3 arg4 harg4 arg5 harg5 x0 x1 x2, bodyRun.sl.r_9 c i arg3 harg3 arg4 harg4 x0 x1, bodyRun.sl.r_24 c i arg3 harg3 arg4 harg4 x0 x1, bodyRun.sl.r_25 c i arg3 harg3 arg4 harg4 arg5 harg5 x0 x1 x2) ⟨n, hn⟩
  rw [e1, e2] at h
  unfold slow
  rw [show n + 1 = (⟨n, hn⟩ : Fin (k0_t3_loop i).trips).val + 1 from rfl, e3]
  exact h

theorem fast0 (n : ℕ) (hn : n < (k0_t1_loop i).trips) : Softmax.FixedStep
    (fun j => keyS x0 x1 0 r (512 * n + j.val)) (fun d j => valV x2 0 d (512 * n + j.val))
    ((bodyRun.sl.r_6 c i arg3 harg3 arg4 harg4 x0 x1) (ix2 0 r)) ((fast c i arg3 harg3 arg4 harg4 arg5 harg5 arg6 harg6 x0 x1 x2 n).1 (ix2 0 r)) (fun d => (fast c i arg3 harg3 arg4 harg4 arg5 harg5 arg6 harg6 x0 x1 x2 n).2.1 (ix2 d r))
    ((fast c i arg3 harg3 arg4 harg4 arg5 harg5 arg6 harg6 x0 x1 x2 (n + 1)).1 (ix2 0 r)) (fun d => (fast c i arg3 harg3 arg4 harg4 arg5 harg5 arg6 harg6 x0 x1 x2 (n + 1)).2.1 (ix2 d r)) := by
  have h := AttnFast.step0 Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) ⟨n, hn⟩ r (fast c i arg3 harg3 arg4 harg4 arg5 harg5 arg6 harg6 x0 x1 x2 n) (BitVec.ofNat 32 (i 2).val)  k0_pay106 k0_pay107 (bodyRun.sl.r_6 c i arg3 harg3 arg4 harg4 x0 x1) (bodyRun.sl.r_7 c i arg3 harg3 arg4 harg4 x0 x1) (bodyRun.sl.r_8 c i arg3 harg3 arg4 harg4 x0 x1) (bodyRun.sl.r_9 c i arg3 harg3 arg4 harg4 x0 x1) (bodyRun.sl.r_13 c i arg3 harg3 arg4 harg4 x0 x1) (bodyRun.sl.r_15 c i arg3 harg3 arg4 harg4 x0 x1) (bodyRun.sl.r_16 c i arg3 harg3 arg4 harg4 arg5 harg5 x0 x1 x2) (bodyRun.sl.r_19 c i arg3 harg3 arg4 harg4 x0 x1) (bodyRun.sl.r_20 c i arg3 harg3 arg4 harg4 arg5 harg5 x0 x1 x2) (bodyRun.sl.r_21 c i arg3 harg3 arg4 harg4 x0 x1) (bodyRun.sl.r_22 c i arg3 harg3 arg4 harg4 arg5 harg5 x0 x1 x2) (bodyRun.sl.r_23 c i arg3 harg3 arg4 harg4 x0 x1)
  rw [e0_eq] at h
  have hs : ∀ j : Fin 512, _ := fun j => tileS_load arg4 harg4 x0 x1 _ _ (k0_off6_eq i (⟨n, hn⟩ : Fin (k0_t1_loop i).trips)) (k0_off6_inb i (⟨n, hn⟩ : Fin (k0_t1_loop i).trips)) 0 (bodyRun.sl.r c arg3 harg3 x0) r (query0 c arg3 harg3 x0 r) j
  have hv : ∀ (d : Fin 64) (j : Fin 512), _ := fun d j => tileV_load arg5 harg5 x2 _ _ _ 0 (k0_off7_eq i (⟨n, hn⟩ : Fin (k0_t1_loop i).trips) 0) (k0_off7_eq i (⟨n, hn⟩ : Fin (k0_t1_loop i).trips) 1) (k0_off7_inb i (⟨n, hn⟩ : Fin (k0_t1_loop i).trips) 0) (k0_off7_inb i (⟨n, hn⟩ : Fin (k0_t1_loop i).trips) 1) d j
  have e1 : tileS (AttnFast.keys i arg4 (harg4.unread x1) ⟨n, hn⟩) (bodyRun.sl.r c arg3 harg3 x0) (lane 0) r
      = fun j => keyS x0 x1 0 r (512 * n + j.val) := funext fun j => hs j
  have e2 : tileV (AttnFast.vals0a i arg5 (harg5.unread x2) ⟨n, hn⟩) (AttnFast.vals0b i arg5 (harg5.unread x2) ⟨n, hn⟩)
      = fun d j => valV x2 0 d (512 * n + j.val) := funext fun d => funext fun j => hv d j
  have e3 := st_k0_t1_succ (F := Ideal) Variants.none c none i arg3 harg3 arg4 harg4 arg5 harg5 arg6 harg6 (BitVec.ofNat 32 (i 2).val) (bodyRun.sl.r c arg3 harg3 x0) (bodyRun.sl.r_1 c arg3 harg3 x0) (bodyRun.sl.r_2 c arg3 harg3 x0) (bodyRun.sl.r_3 c arg3 harg3 x0) k0_pay106 k0_pay107 (bodyRun.sl.r_6 c i arg3 harg3 arg4 harg4 x0 x1) (bodyRun.sl.r_7 c i arg3 harg3 arg4 harg4 x0 x1) (bodyRun.sl.r_8 c i arg3 harg3 arg4 harg4 x0 x1) (bodyRun.sl.r_9 c i arg3 harg3 arg4 harg4 x0 x1) (bodyRun.sl.r_13 c i arg3 harg3 arg4 harg4 x0 x1) (bodyRun.sl.r_15 c i arg3 harg3 arg4 harg4 x0 x1) (bodyRun.sl.r_16 c i arg3 harg3 arg4 harg4 arg5 harg5 x0 x1 x2) (bodyRun.sl.r_19 c i arg3 harg3 arg4 harg4 x0 x1) (bodyRun.sl.r_20 c i arg3 harg3 arg4 harg4 arg5 harg5 x0 x1 x2) (bodyRun.sl.r_21 c i arg3 harg3 arg4 harg4 x0 x1) (bodyRun.sl.r_22 c i arg3 harg3 arg4 harg4 arg5 harg5 x0 x1 x2) (bodyRun.sl.r_23 c i arg3 harg3 arg4 harg4 x0 x1) (harg4.unread x1) (harg5.unread x2) (bodyRun.sl.r_15 c i arg3 harg3 arg4 harg4 x0 x1, bodyRun.sl.r_16 c i arg3 harg3 arg4 harg4 arg5 harg5 x0 x1 x2, bodyRun.sl.r_19 c i arg3 harg3 arg4 harg4 x0 x1, bodyRun.sl.r_20 c i arg3 harg3 arg4 harg4 arg5 harg5 x0 x1 x2, bodyRun.sl.r_21 c i arg3 harg3 arg4 harg4 x0 x1, bodyRun.sl.r_22 c i arg3 harg3 arg4 harg4 arg5 harg5 x0 x1 x2, bodyRun.sl.r_24 c i arg3 harg3 arg4 harg4 x0 x1, bodyRun.sl.r_25 c i arg3 harg3 arg4 harg4 arg5 harg5 x0 x1 x2) ⟨n, hn⟩
  rw [e1, e2] at h
  unfold fast
  rw [show n + 1 = (⟨n, hn⟩ : Fin (k0_t1_loop i).trips).val + 1 from rfl, e3]
  exact h

/-- Head 1. -/
theorem diag1 : Softmax.Step
    (fun j => if j.val ≤ r.val then keyS x0 x1 1 r (512 * (i 2).val + j.val) else ⊥)
    (fun d j => valV x2 1 d (512 * (i 2).val + j.val)) ⊥ 0 (fun _ => 0)
    ((slow c i arg3 harg3 arg4 harg4 arg5 harg5 arg6 harg6 x0 x1 x2 0).2.2.2.1 (ix2 0 r)) ((slow c i arg3 harg3 arg4 harg4 arg5 harg5 arg6 harg6 x0 x1 x2 0).2.2.2.2.1 (ix2 0 r))
    (fun d => (slow c i arg3 harg3 arg4 harg4 arg5 harg5 arg6 harg6 x0 x1 x2 0).2.2.2.2.2.1 (ix2 d r)) := by
  have h := AttnDiag.step1 c i arg3 harg3 arg4 harg4 arg5 harg5 x0 x1 x2 r
  rw [e1_eq] at h
  have hs : ∀ j : Fin 512, _ := fun j => tileS_load arg4 harg4 x0 x1 _ _ (k0_off1_eq i) (k0_off1_inb i) 1 (bodyRun.sl.r_1 c arg3 harg3 x0) r (query1 c arg3 harg3 x0 r) j
  have hv : ∀ (d : Fin 64) (j : Fin 512), _ := fun d j => tileV_load arg5 harg5 x2 _ _ _ 1 (k0_off3_eq i 0) (k0_off3_eq i 1) (k0_off3_inb i 0) (k0_off3_inb i 1) d j
  have e1 : (fun j : Fin 512 => if j.val ≤ r.val then tileS (AttnDiag.keys i arg4 harg4 x1) (bodyRun.sl.r_1 c arg3 harg3 x0) (lane 1) r j else ⊥)
      = fun j => if j.val ≤ r.val then keyS x0 x1 1 r (512 * (i 2).val + j.val) else ⊥ := funext fun j => by rw [hs j]
  have e2 : tileV (AttnDiag.vals1a i arg5 harg5 x2) (AttnDiag.vals1b i arg5 harg5 x2)
      = fun d j => valV x2 1 d (512 * (i 2).val + j.val) := funext fun d => funext fun j => hv d j
  rw [e1, e2] at h
  exact h

theorem slow1 (n : ℕ) (hn : n < (k0_t3_loop i).trips) : Softmax.Step
    (fun j => keyS x0 x1 1 r (512 * n + j.val)) (fun d j => valV x2 1 d (512 * n + j.val))
    ((slow c i arg3 harg3 arg4 harg4 arg5 harg5 arg6 harg6 x0 x1 x2 n).2.2.2.1 (ix2 0 r)) ((slow c i arg3 harg3 arg4 harg4 arg5 harg5 arg6 harg6 x0 x1 x2 n).2.2.2.2.1 (ix2 0 r)) (fun d => (slow c i arg3 harg3 arg4 harg4 arg5 harg5 arg6 harg6 x0 x1 x2 n).2.2.2.2.2.1 (ix2 d r))
    ((slow c i arg3 harg3 arg4 harg4 arg5 harg5 arg6 harg6 x0 x1 x2 (n + 1)).2.2.2.1 (ix2 0 r)) ((slow c i arg3 harg3 arg4 harg4 arg5 harg5 arg6 harg6 x0 x1 x2 (n + 1)).2.2.2.2.1 (ix2 0 r)) (fun d => (slow c i arg3 harg3 arg4 harg4 arg5 harg5 arg6 harg6 x0 x1 x2 (n + 1)).2.2.2.2.2.1 (ix2 d r)) := by
  have h := AttnSlow.step1 Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) ⟨n, hn⟩ r (slow c i arg3 harg3 arg4 harg4 arg5 harg5 arg6 harg6 x0 x1 x2 n)
  rw [e1_eq] at h
  have hs : ∀ j : Fin 512, _ := fun j => tileS_load arg4 harg4 x0 x1 _ _ (k0_off16_eq i (⟨n, hn⟩ : Fin (k0_t3_loop i).trips)) (k0_off16_inb i (⟨n, hn⟩ : Fin (k0_t3_loop i).trips)) 1 (bodyRun.sl.r_1 c arg3 harg3 x0) r (query1 c arg3 harg3 x0 r) j
  have hv : ∀ (d : Fin 64) (j : Fin 512), _ := fun d j => tileV_load arg5 harg5 x2 _ _ _ 1 (k0_off18_eq i (⟨n, hn⟩ : Fin (k0_t3_loop i).trips) 0) (k0_off18_eq i (⟨n, hn⟩ : Fin (k0_t3_loop i).trips) 1) (k0_off18_inb i (⟨n, hn⟩ : Fin (k0_t3_loop i).trips) 0) (k0_off18_inb i (⟨n, hn⟩ : Fin (k0_t3_loop i).trips) 1) d j
  have e1 : tileS (AttnSlow.keys i arg4 (harg4.unread x1) ⟨n, hn⟩) (bodyRun.sl.r_1 c arg3 harg3 x0) (lane 1) r
      = fun j => keyS x0 x1 1 r (512 * n + j.val) := funext fun j => hs j
  have e2 : tileV (AttnSlow.vals1a i arg5 (harg5.unread x2) ⟨n, hn⟩) (AttnSlow.vals1b i arg5 (harg5.unread x2) ⟨n, hn⟩)
      = fun d j => valV x2 1 d (512 * n + j.val) := funext fun d => funext fun j => hv d j
  have e3 := st_k0_t3_succ (F := Ideal) Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) (bodyRun.sl.r_6 c i arg3 harg3 arg4 harg4 x0 x1, bodyRun.sl.r_15 c i arg3 harg3 arg4 harg4 x0 x1, bodyRun.sl.r_16 c i arg3 harg3 arg4 harg4 arg5 harg5 x0 x1 x2, bodyRun.sl.r_7 c i arg3 harg3 arg4 harg4 x0 x1, bodyRun.sl.r_19 c i arg3 harg3 arg4 harg4 x0 x1, bodyRun.sl.r_20 c i arg3 harg3 arg4 harg4 arg5 harg5 x0 x1 x2, bodyRun.sl.r_8 c i arg3 harg3 arg4 harg4 x0 x1, bodyRun.sl.r_21 c i arg3 harg3 arg4 harg4 x0 x1, bodyRun.sl.r_22 c i arg3 harg3 arg4 harg4 arg5 harg5 x0 x1 x2, bodyRun.sl.r_9 c i arg3 harg3 arg4 harg4 x0 x1, bodyRun.sl.r_24 c i arg3 harg3 arg4 harg4 x0 x1, bodyRun.sl.r_25 c i arg3 harg3 arg4 harg4 arg5 harg5 x0 x1 x2) ⟨n, hn⟩
  rw [e1, e2] at h
  unfold slow
  rw [show n + 1 = (⟨n, hn⟩ : Fin (k0_t3_loop i).trips).val + 1 from rfl, e3]
  exact h

theorem fast1 (n : ℕ) (hn : n < (k0_t1_loop i).trips) : Softmax.FixedStep
    (fun j => keyS x0 x1 1 r (512 * n + j.val)) (fun d j => valV x2 1 d (512 * n + j.val))
    ((bodyRun.sl.r_7 c i arg3 harg3 arg4 harg4 x0 x1) (ix2 0 r)) ((fast c i arg3 harg3 arg4 harg4 arg5 harg5 arg6 harg6 x0 x1 x2 n).2.2.1 (ix2 0 r)) (fun d => (fast c i arg3 harg3 arg4 harg4 arg5 harg5 arg6 harg6 x0 x1 x2 n).2.2.2.1 (ix2 d r))
    ((fast c i arg3 harg3 arg4 harg4 arg5 harg5 arg6 harg6 x0 x1 x2 (n + 1)).2.2.1 (ix2 0 r)) (fun d => (fast c i arg3 harg3 arg4 harg4 arg5 harg5 arg6 harg6 x0 x1 x2 (n + 1)).2.2.2.1 (ix2 d r)) := by
  have h := AttnFast.step1 Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) ⟨n, hn⟩ r (fast c i arg3 harg3 arg4 harg4 arg5 harg5 arg6 harg6 x0 x1 x2 n) (BitVec.ofNat 32 (i 2).val)  k0_pay106 k0_pay107 (bodyRun.sl.r_6 c i arg3 harg3 arg4 harg4 x0 x1) (bodyRun.sl.r_7 c i arg3 harg3 arg4 harg4 x0 x1) (bodyRun.sl.r_8 c i arg3 harg3 arg4 harg4 x0 x1) (bodyRun.sl.r_9 c i arg3 harg3 arg4 harg4 x0 x1) (bodyRun.sl.r_13 c i arg3 harg3 arg4 harg4 x0 x1) (bodyRun.sl.r_15 c i arg3 harg3 arg4 harg4 x0 x1) (bodyRun.sl.r_16 c i arg3 harg3 arg4 harg4 arg5 harg5 x0 x1 x2) (bodyRun.sl.r_19 c i arg3 harg3 arg4 harg4 x0 x1) (bodyRun.sl.r_20 c i arg3 harg3 arg4 harg4 arg5 harg5 x0 x1 x2) (bodyRun.sl.r_21 c i arg3 harg3 arg4 harg4 x0 x1) (bodyRun.sl.r_22 c i arg3 harg3 arg4 harg4 arg5 harg5 x0 x1 x2) (bodyRun.sl.r_23 c i arg3 harg3 arg4 harg4 x0 x1)
  rw [e1_eq] at h
  have hs : ∀ j : Fin 512, _ := fun j => tileS_load arg4 harg4 x0 x1 _ _ (k0_off6_eq i (⟨n, hn⟩ : Fin (k0_t1_loop i).trips)) (k0_off6_inb i (⟨n, hn⟩ : Fin (k0_t1_loop i).trips)) 1 (bodyRun.sl.r_1 c arg3 harg3 x0) r (query1 c arg3 harg3 x0 r) j
  have hv : ∀ (d : Fin 64) (j : Fin 512), _ := fun d j => tileV_load arg5 harg5 x2 _ _ _ 1 (k0_off8_eq i (⟨n, hn⟩ : Fin (k0_t1_loop i).trips) 0) (k0_off8_eq i (⟨n, hn⟩ : Fin (k0_t1_loop i).trips) 1) (k0_off8_inb i (⟨n, hn⟩ : Fin (k0_t1_loop i).trips) 0) (k0_off8_inb i (⟨n, hn⟩ : Fin (k0_t1_loop i).trips) 1) d j
  have e1 : tileS (AttnFast.keys i arg4 (harg4.unread x1) ⟨n, hn⟩) (bodyRun.sl.r_1 c arg3 harg3 x0) (lane 1) r
      = fun j => keyS x0 x1 1 r (512 * n + j.val) := funext fun j => hs j
  have e2 : tileV (AttnFast.vals1a i arg5 (harg5.unread x2) ⟨n, hn⟩) (AttnFast.vals1b i arg5 (harg5.unread x2) ⟨n, hn⟩)
      = fun d j => valV x2 1 d (512 * n + j.val) := funext fun d => funext fun j => hv d j
  have e3 := st_k0_t1_succ (F := Ideal) Variants.none c none i arg3 harg3 arg4 harg4 arg5 harg5 arg6 harg6 (BitVec.ofNat 32 (i 2).val) (bodyRun.sl.r c arg3 harg3 x0) (bodyRun.sl.r_1 c arg3 harg3 x0) (bodyRun.sl.r_2 c arg3 harg3 x0) (bodyRun.sl.r_3 c arg3 harg3 x0) k0_pay106 k0_pay107 (bodyRun.sl.r_6 c i arg3 harg3 arg4 harg4 x0 x1) (bodyRun.sl.r_7 c i arg3 harg3 arg4 harg4 x0 x1) (bodyRun.sl.r_8 c i arg3 harg3 arg4 harg4 x0 x1) (bodyRun.sl.r_9 c i arg3 harg3 arg4 harg4 x0 x1) (bodyRun.sl.r_13 c i arg3 harg3 arg4 harg4 x0 x1) (bodyRun.sl.r_15 c i arg3 harg3 arg4 harg4 x0 x1) (bodyRun.sl.r_16 c i arg3 harg3 arg4 harg4 arg5 harg5 x0 x1 x2) (bodyRun.sl.r_19 c i arg3 harg3 arg4 harg4 x0 x1) (bodyRun.sl.r_20 c i arg3 harg3 arg4 harg4 arg5 harg5 x0 x1 x2) (bodyRun.sl.r_21 c i arg3 harg3 arg4 harg4 x0 x1) (bodyRun.sl.r_22 c i arg3 harg3 arg4 harg4 arg5 harg5 x0 x1 x2) (bodyRun.sl.r_23 c i arg3 harg3 arg4 harg4 x0 x1) (harg4.unread x1) (harg5.unread x2) (bodyRun.sl.r_15 c i arg3 harg3 arg4 harg4 x0 x1, bodyRun.sl.r_16 c i arg3 harg3 arg4 harg4 arg5 harg5 x0 x1 x2, bodyRun.sl.r_19 c i arg3 harg3 arg4 harg4 x0 x1, bodyRun.sl.r_20 c i arg3 harg3 arg4 harg4 arg5 harg5 x0 x1 x2, bodyRun.sl.r_21 c i arg3 harg3 arg4 harg4 x0 x1, bodyRun.sl.r_22 c i arg3 harg3 arg4 harg4 arg5 harg5 x0 x1 x2, bodyRun.sl.r_24 c i arg3 harg3 arg4 harg4 x0 x1, bodyRun.sl.r_25 c i arg3 harg3 arg4 harg4 arg5 harg5 x0 x1 x2) ⟨n, hn⟩
  rw [e1, e2] at h
  unfold fast
  rw [show n + 1 = (⟨n, hn⟩ : Fin (k0_t1_loop i).trips).val + 1 from rfl, e3]
  exact h

/-- Head 2. -/
theorem diag2 : Softmax.Step
    (fun j => if j.val ≤ r.val then keyS x0 x1 2 r (512 * (i 2).val + j.val) else ⊥)
    (fun d j => valV x2 2 d (512 * (i 2).val + j.val)) ⊥ 0 (fun _ => 0)
    ((slow c i arg3 harg3 arg4 harg4 arg5 harg5 arg6 harg6 x0 x1 x2 0).2.2.2.2.2.2.1 (ix2 0 r)) ((slow c i arg3 harg3 arg4 harg4 arg5 harg5 arg6 harg6 x0 x1 x2 0).2.2.2.2.2.2.2.1 (ix2 0 r))
    (fun d => (slow c i arg3 harg3 arg4 harg4 arg5 harg5 arg6 harg6 x0 x1 x2 0).2.2.2.2.2.2.2.2.1 (ix2 d r)) := by
  have h := AttnDiag.step2 c i arg3 harg3 arg4 harg4 arg5 harg5 x0 x1 x2 r
  rw [e2_eq] at h
  have hs : ∀ j : Fin 512, _ := fun j => tileS_load arg4 harg4 x0 x1 _ _ (k0_off1_eq i) (k0_off1_inb i) 2 (bodyRun.sl.r_2 c arg3 harg3 x0) r (query2 c arg3 harg3 x0 r) j
  have hv : ∀ (d : Fin 64) (j : Fin 512), _ := fun d j => tileV_load arg5 harg5 x2 _ _ _ 2 (k0_off4_eq i 0) (k0_off4_eq i 1) (k0_off4_inb i 0) (k0_off4_inb i 1) d j
  have e1 : (fun j : Fin 512 => if j.val ≤ r.val then tileS (AttnDiag.keys i arg4 harg4 x1) (bodyRun.sl.r_2 c arg3 harg3 x0) (lane 2) r j else ⊥)
      = fun j => if j.val ≤ r.val then keyS x0 x1 2 r (512 * (i 2).val + j.val) else ⊥ := funext fun j => by rw [hs j]
  have e2 : tileV (AttnDiag.vals2a i arg5 harg5 x2) (AttnDiag.vals2b i arg5 harg5 x2)
      = fun d j => valV x2 2 d (512 * (i 2).val + j.val) := funext fun d => funext fun j => hv d j
  rw [e1, e2] at h
  exact h

theorem slow2 (n : ℕ) (hn : n < (k0_t3_loop i).trips) : Softmax.Step
    (fun j => keyS x0 x1 2 r (512 * n + j.val)) (fun d j => valV x2 2 d (512 * n + j.val))
    ((slow c i arg3 harg3 arg4 harg4 arg5 harg5 arg6 harg6 x0 x1 x2 n).2.2.2.2.2.2.1 (ix2 0 r)) ((slow c i arg3 harg3 arg4 harg4 arg5 harg5 arg6 harg6 x0 x1 x2 n).2.2.2.2.2.2.2.1 (ix2 0 r)) (fun d => (slow c i arg3 harg3 arg4 harg4 arg5 harg5 arg6 harg6 x0 x1 x2 n).2.2.2.2.2.2.2.2.1 (ix2 d r))
    ((slow c i arg3 harg3 arg4 harg4 arg5 harg5 arg6 harg6 x0 x1 x2 (n + 1)).2.2.2.2.2.2.1 (ix2 0 r)) ((slow c i arg3 harg3 arg4 harg4 arg5 harg5 arg6 harg6 x0 x1 x2 (n + 1)).2.2.2.2.2.2.2.1 (ix2 0 r)) (fun d => (slow c i arg3 harg3 arg4 harg4 arg5 harg5 arg6 harg6 x0 x1 x2 (n + 1)).2.2.2.2.2.2.2.2.1 (ix2 d r)) := by
  have h := AttnSlow.step2 Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) ⟨n, hn⟩ r (slow c i arg3 harg3 arg4 harg4 arg5 harg5 arg6 harg6 x0 x1 x2 n)
  rw [e2_eq] at h
  have hs : ∀ j : Fin 512, _ := fun j => tileS_load arg4 harg4 x0 x1 _ _ (k0_off16_eq i (⟨n, hn⟩ : Fin (k0_t3_loop i).trips)) (k0_off16_inb i (⟨n, hn⟩ : Fin (k0_t3_loop i).trips)) 2 (bodyRun.sl.r_2 c arg3 harg3 x0) r (query2 c arg3 harg3 x0 r) j
  have hv : ∀ (d : Fin 64) (j : Fin 512), _ := fun d j => tileV_load arg5 harg5 x2 _ _ _ 2 (k0_off19_eq i (⟨n, hn⟩ : Fin (k0_t3_loop i).trips) 0) (k0_off19_eq i (⟨n, hn⟩ : Fin (k0_t3_loop i).trips) 1) (k0_off19_inb i (⟨n, hn⟩ : Fin (k0_t3_loop i).trips) 0) (k0_off19_inb i (⟨n, hn⟩ : Fin (k0_t3_loop i).trips) 1) d j
  have e1 : tileS (AttnSlow.keys i arg4 (harg4.unread x1) ⟨n, hn⟩) (bodyRun.sl.r_2 c arg3 harg3 x0) (lane 2) r
      = fun j => keyS x0 x1 2 r (512 * n + j.val) := funext fun j => hs j
  have e2 : tileV (AttnSlow.vals2a i arg5 (harg5.unread x2) ⟨n, hn⟩) (AttnSlow.vals2b i arg5 (harg5.unread x2) ⟨n, hn⟩)
      = fun d j => valV x2 2 d (512 * n + j.val) := funext fun d => funext fun j => hv d j
  have e3 := st_k0_t3_succ (F := Ideal) Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) (bodyRun.sl.r_6 c i arg3 harg3 arg4 harg4 x0 x1, bodyRun.sl.r_15 c i arg3 harg3 arg4 harg4 x0 x1, bodyRun.sl.r_16 c i arg3 harg3 arg4 harg4 arg5 harg5 x0 x1 x2, bodyRun.sl.r_7 c i arg3 harg3 arg4 harg4 x0 x1, bodyRun.sl.r_19 c i arg3 harg3 arg4 harg4 x0 x1, bodyRun.sl.r_20 c i arg3 harg3 arg4 harg4 arg5 harg5 x0 x1 x2, bodyRun.sl.r_8 c i arg3 harg3 arg4 harg4 x0 x1, bodyRun.sl.r_21 c i arg3 harg3 arg4 harg4 x0 x1, bodyRun.sl.r_22 c i arg3 harg3 arg4 harg4 arg5 harg5 x0 x1 x2, bodyRun.sl.r_9 c i arg3 harg3 arg4 harg4 x0 x1, bodyRun.sl.r_24 c i arg3 harg3 arg4 harg4 x0 x1, bodyRun.sl.r_25 c i arg3 harg3 arg4 harg4 arg5 harg5 x0 x1 x2) ⟨n, hn⟩
  rw [e1, e2] at h
  unfold slow
  rw [show n + 1 = (⟨n, hn⟩ : Fin (k0_t3_loop i).trips).val + 1 from rfl, e3]
  exact h

theorem fast2 (n : ℕ) (hn : n < (k0_t1_loop i).trips) : Softmax.FixedStep
    (fun j => keyS x0 x1 2 r (512 * n + j.val)) (fun d j => valV x2 2 d (512 * n + j.val))
    ((bodyRun.sl.r_8 c i arg3 harg3 arg4 harg4 x0 x1) (ix2 0 r)) ((fast c i arg3 harg3 arg4 harg4 arg5 harg5 arg6 harg6 x0 x1 x2 n).2.2.2.2.1 (ix2 0 r)) (fun d => (fast c i arg3 harg3 arg4 harg4 arg5 harg5 arg6 harg6 x0 x1 x2 n).2.2.2.2.2.1 (ix2 d r))
    ((fast c i arg3 harg3 arg4 harg4 arg5 harg5 arg6 harg6 x0 x1 x2 (n + 1)).2.2.2.2.1 (ix2 0 r)) (fun d => (fast c i arg3 harg3 arg4 harg4 arg5 harg5 arg6 harg6 x0 x1 x2 (n + 1)).2.2.2.2.2.1 (ix2 d r)) := by
  have h := AttnFast.step2 Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) ⟨n, hn⟩ r (fast c i arg3 harg3 arg4 harg4 arg5 harg5 arg6 harg6 x0 x1 x2 n) (BitVec.ofNat 32 (i 2).val)  k0_pay106 k0_pay107 (bodyRun.sl.r_6 c i arg3 harg3 arg4 harg4 x0 x1) (bodyRun.sl.r_7 c i arg3 harg3 arg4 harg4 x0 x1) (bodyRun.sl.r_8 c i arg3 harg3 arg4 harg4 x0 x1) (bodyRun.sl.r_9 c i arg3 harg3 arg4 harg4 x0 x1) (bodyRun.sl.r_13 c i arg3 harg3 arg4 harg4 x0 x1) (bodyRun.sl.r_15 c i arg3 harg3 arg4 harg4 x0 x1) (bodyRun.sl.r_16 c i arg3 harg3 arg4 harg4 arg5 harg5 x0 x1 x2) (bodyRun.sl.r_19 c i arg3 harg3 arg4 harg4 x0 x1) (bodyRun.sl.r_20 c i arg3 harg3 arg4 harg4 arg5 harg5 x0 x1 x2) (bodyRun.sl.r_21 c i arg3 harg3 arg4 harg4 x0 x1) (bodyRun.sl.r_22 c i arg3 harg3 arg4 harg4 arg5 harg5 x0 x1 x2) (bodyRun.sl.r_23 c i arg3 harg3 arg4 harg4 x0 x1)
  rw [e2_eq] at h
  have hs : ∀ j : Fin 512, _ := fun j => tileS_load arg4 harg4 x0 x1 _ _ (k0_off6_eq i (⟨n, hn⟩ : Fin (k0_t1_loop i).trips)) (k0_off6_inb i (⟨n, hn⟩ : Fin (k0_t1_loop i).trips)) 2 (bodyRun.sl.r_2 c arg3 harg3 x0) r (query2 c arg3 harg3 x0 r) j
  have hv : ∀ (d : Fin 64) (j : Fin 512), _ := fun d j => tileV_load arg5 harg5 x2 _ _ _ 2 (k0_off9_eq i (⟨n, hn⟩ : Fin (k0_t1_loop i).trips) 0) (k0_off9_eq i (⟨n, hn⟩ : Fin (k0_t1_loop i).trips) 1) (k0_off9_inb i (⟨n, hn⟩ : Fin (k0_t1_loop i).trips) 0) (k0_off9_inb i (⟨n, hn⟩ : Fin (k0_t1_loop i).trips) 1) d j
  have e1 : tileS (AttnFast.keys i arg4 (harg4.unread x1) ⟨n, hn⟩) (bodyRun.sl.r_2 c arg3 harg3 x0) (lane 2) r
      = fun j => keyS x0 x1 2 r (512 * n + j.val) := funext fun j => hs j
  have e2 : tileV (AttnFast.vals2a i arg5 (harg5.unread x2) ⟨n, hn⟩) (AttnFast.vals2b i arg5 (harg5.unread x2) ⟨n, hn⟩)
      = fun d j => valV x2 2 d (512 * n + j.val) := funext fun d => funext fun j => hv d j
  have e3 := st_k0_t1_succ (F := Ideal) Variants.none c none i arg3 harg3 arg4 harg4 arg5 harg5 arg6 harg6 (BitVec.ofNat 32 (i 2).val) (bodyRun.sl.r c arg3 harg3 x0) (bodyRun.sl.r_1 c arg3 harg3 x0) (bodyRun.sl.r_2 c arg3 harg3 x0) (bodyRun.sl.r_3 c arg3 harg3 x0) k0_pay106 k0_pay107 (bodyRun.sl.r_6 c i arg3 harg3 arg4 harg4 x0 x1) (bodyRun.sl.r_7 c i arg3 harg3 arg4 harg4 x0 x1) (bodyRun.sl.r_8 c i arg3 harg3 arg4 harg4 x0 x1) (bodyRun.sl.r_9 c i arg3 harg3 arg4 harg4 x0 x1) (bodyRun.sl.r_13 c i arg3 harg3 arg4 harg4 x0 x1) (bodyRun.sl.r_15 c i arg3 harg3 arg4 harg4 x0 x1) (bodyRun.sl.r_16 c i arg3 harg3 arg4 harg4 arg5 harg5 x0 x1 x2) (bodyRun.sl.r_19 c i arg3 harg3 arg4 harg4 x0 x1) (bodyRun.sl.r_20 c i arg3 harg3 arg4 harg4 arg5 harg5 x0 x1 x2) (bodyRun.sl.r_21 c i arg3 harg3 arg4 harg4 x0 x1) (bodyRun.sl.r_22 c i arg3 harg3 arg4 harg4 arg5 harg5 x0 x1 x2) (bodyRun.sl.r_23 c i arg3 harg3 arg4 harg4 x0 x1) (harg4.unread x1) (harg5.unread x2) (bodyRun.sl.r_15 c i arg3 harg3 arg4 harg4 x0 x1, bodyRun.sl.r_16 c i arg3 harg3 arg4 harg4 arg5 harg5 x0 x1 x2, bodyRun.sl.r_19 c i arg3 harg3 arg4 harg4 x0 x1, bodyRun.sl.r_20 c i arg3 harg3 arg4 harg4 arg5 harg5 x0 x1 x2, bodyRun.sl.r_21 c i arg3 harg3 arg4 harg4 x0 x1, bodyRun.sl.r_22 c i arg3 harg3 arg4 harg4 arg5 harg5 x0 x1 x2, bodyRun.sl.r_24 c i arg3 harg3 arg4 harg4 x0 x1, bodyRun.sl.r_25 c i arg3 harg3 arg4 harg4 arg5 harg5 x0 x1 x2) ⟨n, hn⟩
  rw [e1, e2] at h
  unfold fast
  rw [show n + 1 = (⟨n, hn⟩ : Fin (k0_t1_loop i).trips).val + 1 from rfl, e3]
  exact h

/-- Head 3. -/
theorem diag3 : Softmax.Step
    (fun j => if j.val ≤ r.val then keyS x0 x1 3 r (512 * (i 2).val + j.val) else ⊥)
    (fun d j => valV x2 3 d (512 * (i 2).val + j.val)) ⊥ 0 (fun _ => 0)
    ((slow c i arg3 harg3 arg4 harg4 arg5 harg5 arg6 harg6 x0 x1 x2 0).2.2.2.2.2.2.2.2.2.1 (ix2 0 r)) ((slow c i arg3 harg3 arg4 harg4 arg5 harg5 arg6 harg6 x0 x1 x2 0).2.2.2.2.2.2.2.2.2.2.1 (ix2 0 r))
    (fun d => (slow c i arg3 harg3 arg4 harg4 arg5 harg5 arg6 harg6 x0 x1 x2 0).2.2.2.2.2.2.2.2.2.2.2 (ix2 d r)) := by
  have h := AttnDiag.step3 c i arg3 harg3 arg4 harg4 arg5 harg5 x0 x1 x2 r
  rw [e3_eq] at h
  have hs : ∀ j : Fin 512, _ := fun j => tileS_load arg4 harg4 x0 x1 _ _ (k0_off1_eq i) (k0_off1_inb i) 3 (bodyRun.sl.r_3 c arg3 harg3 x0) r (query3 c arg3 harg3 x0 r) j
  have hv : ∀ (d : Fin 64) (j : Fin 512), _ := fun d j => tileV_load arg5 harg5 x2 _ _ _ 3 (k0_off5_eq i 0) (k0_off5_eq i 1) (k0_off5_inb i 0) (k0_off5_inb i 1) d j
  have e1 : (fun j : Fin 512 => if j.val ≤ r.val then tileS (AttnDiag.keys i arg4 harg4 x1) (bodyRun.sl.r_3 c arg3 harg3 x0) (lane 3) r j else ⊥)
      = fun j => if j.val ≤ r.val then keyS x0 x1 3 r (512 * (i 2).val + j.val) else ⊥ := funext fun j => by rw [hs j]
  have e2 : tileV (AttnDiag.vals3a i arg5 harg5 x2) (AttnDiag.vals3b i arg5 harg5 x2)
      = fun d j => valV x2 3 d (512 * (i 2).val + j.val) := funext fun d => funext fun j => hv d j
  rw [e1, e2] at h
  exact h

theorem slow3 (n : ℕ) (hn : n < (k0_t3_loop i).trips) : Softmax.Step
    (fun j => keyS x0 x1 3 r (512 * n + j.val)) (fun d j => valV x2 3 d (512 * n + j.val))
    ((slow c i arg3 harg3 arg4 harg4 arg5 harg5 arg6 harg6 x0 x1 x2 n).2.2.2.2.2.2.2.2.2.1 (ix2 0 r)) ((slow c i arg3 harg3 arg4 harg4 arg5 harg5 arg6 harg6 x0 x1 x2 n).2.2.2.2.2.2.2.2.2.2.1 (ix2 0 r)) (fun d => (slow c i arg3 harg3 arg4 harg4 arg5 harg5 arg6 harg6 x0 x1 x2 n).2.2.2.2.2.2.2.2.2.2.2 (ix2 d r))
    ((slow c i arg3 harg3 arg4 harg4 arg5 harg5 arg6 harg6 x0 x1 x2 (n + 1)).2.2.2.2.2.2.2.2.2.1 (ix2 0 r)) ((slow c i arg3 harg3 arg4 harg4 arg5 harg5 arg6 harg6 x0 x1 x2 (n + 1)).2.2.2.2.2.2.2.2.2.2.1 (ix2 0 r)) (fun d => (slow c i arg3 harg3 arg4 harg4 arg5 harg5 arg6 harg6 x0 x1 x2 (n + 1)).2.2.2.2.2.2.2.2.2.2.2 (ix2 d r)) := by
  have h := AttnSlow.step3 Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) ⟨n, hn⟩ r (slow c i arg3 harg3 arg4 harg4 arg5 harg5 arg6 harg6 x0 x1 x2 n)
  rw [e3_eq] at h
  have hs : ∀ j : Fin 512, _ := fun j => tileS_load arg4 harg4 x0 x1 _ _ (k0_off16_eq i (⟨n, hn⟩ : Fin (k0_t3_loop i).trips)) (k0_off16_inb i (⟨n, hn⟩ : Fin (k0_t3_loop i).trips)) 3 (bodyRun.sl.r_3 c arg3 harg3 x0) r (query3 c arg3 harg3 x0 r) j
  have hv : ∀ (d : Fin 64) (j : Fin 512), _ := fun d j => tileV_load arg5 harg5 x2 _ _ _ 3 (k0_off20_eq i (⟨n, hn⟩ : Fin (k0_t3_loop i).trips) 0) (k0_off20_eq i (⟨n, hn⟩ : Fin (k0_t3_loop i).trips) 1) (k0_off20_inb i (⟨n, hn⟩ : Fin (k0_t3_loop i).trips) 0) (k0_off20_inb i (⟨n, hn⟩ : Fin (k0_t3_loop i).trips) 1) d j
  have e1 : tileS (AttnSlow.keys i arg4 (harg4.unread x1) ⟨n, hn⟩) (bodyRun.sl.r_3 c arg3 harg3 x0) (lane 3) r
      = fun j => keyS x0 x1 3 r (512 * n + j.val) := funext fun j => hs j
  have e2 : tileV (AttnSlow.vals3a i arg5 (harg5.unread x2) ⟨n, hn⟩) (AttnSlow.vals3b i arg5 (harg5.unread x2) ⟨n, hn⟩)
      = fun d j => valV x2 3 d (512 * n + j.val) := funext fun d => funext fun j => hv d j
  have e3 := st_k0_t3_succ (F := Ideal) Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) (bodyRun.sl.r_6 c i arg3 harg3 arg4 harg4 x0 x1, bodyRun.sl.r_15 c i arg3 harg3 arg4 harg4 x0 x1, bodyRun.sl.r_16 c i arg3 harg3 arg4 harg4 arg5 harg5 x0 x1 x2, bodyRun.sl.r_7 c i arg3 harg3 arg4 harg4 x0 x1, bodyRun.sl.r_19 c i arg3 harg3 arg4 harg4 x0 x1, bodyRun.sl.r_20 c i arg3 harg3 arg4 harg4 arg5 harg5 x0 x1 x2, bodyRun.sl.r_8 c i arg3 harg3 arg4 harg4 x0 x1, bodyRun.sl.r_21 c i arg3 harg3 arg4 harg4 x0 x1, bodyRun.sl.r_22 c i arg3 harg3 arg4 harg4 arg5 harg5 x0 x1 x2, bodyRun.sl.r_9 c i arg3 harg3 arg4 harg4 x0 x1, bodyRun.sl.r_24 c i arg3 harg3 arg4 harg4 x0 x1, bodyRun.sl.r_25 c i arg3 harg3 arg4 harg4 arg5 harg5 x0 x1 x2) ⟨n, hn⟩
  rw [e1, e2] at h
  unfold slow
  rw [show n + 1 = (⟨n, hn⟩ : Fin (k0_t3_loop i).trips).val + 1 from rfl, e3]
  exact h

theorem fast3 (n : ℕ) (hn : n < (k0_t1_loop i).trips) : Softmax.FixedStep
    (fun j => keyS x0 x1 3 r (512 * n + j.val)) (fun d j => valV x2 3 d (512 * n + j.val))
    ((bodyRun.sl.r_9 c i arg3 harg3 arg4 harg4 x0 x1) (ix2 0 r)) ((fast c i arg3 harg3 arg4 harg4 arg5 harg5 arg6 harg6 x0 x1 x2 n).2.2.2.2.2.2.1 (ix2 0 r)) (fun d => (fast c i arg3 harg3 arg4 harg4 arg5 harg5 arg6 harg6 x0 x1 x2 n).2.2.2.2.2.2.2 (ix2 d r))
    ((fast c i arg3 harg3 arg4 harg4 arg5 harg5 arg6 harg6 x0 x1 x2 (n + 1)).2.2.2.2.2.2.1 (ix2 0 r)) (fun d => (fast c i arg3 harg3 arg4 harg4 arg5 harg5 arg6 harg6 x0 x1 x2 (n + 1)).2.2.2.2.2.2.2 (ix2 d r)) := by
  have h := AttnFast.step3 Variants.none c none i arg3 harg3 arg4 harg4 arg5 harg5 arg6 harg6 (bodyRun.sl.r c arg3 harg3 x0) (bodyRun.sl.r_1 c arg3 harg3 x0) (bodyRun.sl.r_2 c arg3 harg3 x0) (bodyRun.sl.r_3 c arg3 harg3 x0) (harg4.unread x1) (harg5.unread x2) ⟨n, hn⟩ r (fast c i arg3 harg3 arg4 harg4 arg5 harg5 arg6 harg6 x0 x1 x2 n) (BitVec.ofNat 32 (i 2).val)  k0_pay106 k0_pay107 (bodyRun.sl.r_6 c i arg3 harg3 arg4 harg4 x0 x1) (bodyRun.sl.r_7 c i arg3 harg3 arg4 harg4 x0 x1) (bodyRun.sl.r_8 c i arg3 harg3 arg4 harg4 x0 x1) (bodyRun.sl.r_9 c i arg3 harg3 arg4 harg4 x0 x1) (bodyRun.sl.r_13 c i arg3 harg3 arg4 harg4 x0 x1) (bodyRun.sl.r_15 c i arg3 harg3 arg4 harg4 x0 x1) (bodyRun.sl.r_16 c i arg3 harg3 arg4 harg4 arg5 harg5 x0 x1 x2) (bodyRun.sl.r_19 c i arg3 harg3 arg4 harg4 x0 x1) (bodyRun.sl.r_20 c i arg3 harg3 arg4 harg4 arg5 harg5 x0 x1 x2) (bodyRun.sl.r_21 c i arg3 harg3 arg4 harg4 x0 x1) (bodyRun.sl.r_22 c i arg3 harg3 arg4 harg4 arg5 harg5 x0 x1 x2) (bodyRun.sl.r_23 c i arg3 harg3 arg4 harg4 x0 x1)
  rw [e3_eq] at h
  have hs : ∀ j : Fin 512, _ := fun j => tileS_load arg4 harg4 x0 x1 _ _ (k0_off6_eq i (⟨n, hn⟩ : Fin (k0_t1_loop i).trips)) (k0_off6_inb i (⟨n, hn⟩ : Fin (k0_t1_loop i).trips)) 3 (bodyRun.sl.r_3 c arg3 harg3 x0) r (query3 c arg3 harg3 x0 r) j
  have hv : ∀ (d : Fin 64) (j : Fin 512), _ := fun d j => tileV_load arg5 harg5 x2 _ _ _ 3 (k0_off10_eq i (⟨n, hn⟩ : Fin (k0_t1_loop i).trips) 0) (k0_off10_eq i (⟨n, hn⟩ : Fin (k0_t1_loop i).trips) 1) (k0_off10_inb i (⟨n, hn⟩ : Fin (k0_t1_loop i).trips) 0) (k0_off10_inb i (⟨n, hn⟩ : Fin (k0_t1_loop i).trips) 1) d j
  have e1 : tileS (AttnFast.keys i arg4 (harg4.unread x1) ⟨n, hn⟩) (bodyRun.sl.r_3 c arg3 harg3 x0) (lane 3) r
      = fun j => keyS x0 x1 3 r (512 * n + j.val) := funext fun j => hs j
  have e2 : tileV (AttnFast.vals3a i arg5 (harg5.unread x2) ⟨n, hn⟩) (AttnFast.vals3b i arg5 (harg5.unread x2) ⟨n, hn⟩)
      = fun d j => valV x2 3 d (512 * n + j.val) := funext fun d => funext fun j => hv d j
  have e3 := st_k0_t1_succ (F := Ideal) Variants.none c none i arg3 harg3 arg4 harg4 arg5 harg5 arg6 harg6 (BitVec.ofNat 32 (i 2).val) (bodyRun.sl.r c arg3 harg3 x0) (bodyRun.sl.r_1 c arg3 harg3 x0) (bodyRun.sl.r_2 c arg3 harg3 x0) (bodyRun.sl.r_3 c arg3 harg3 x0) k0_pay106 k0_pay107 (bodyRun.sl.r_6 c i arg3 harg3 arg4 harg4 x0 x1) (bodyRun.sl.r_7 c i arg3 harg3 arg4 harg4 x0 x1) (bodyRun.sl.r_8 c i arg3 harg3 arg4 harg4 x0 x1) (bodyRun.sl.r_9 c i arg3 harg3 arg4 harg4 x0 x1) (bodyRun.sl.r_13 c i arg3 harg3 arg4 harg4 x0 x1) (bodyRun.sl.r_15 c i arg3 harg3 arg4 harg4 x0 x1) (bodyRun.sl.r_16 c i arg3 harg3 arg4 harg4 arg5 harg5 x0 x1 x2) (bodyRun.sl.r_19 c i arg3 harg3 arg4 harg4 x0 x1) (bodyRun.sl.r_20 c i arg3 harg3 arg4 harg4 arg5 harg5 x0 x1 x2) (bodyRun.sl.r_21 c i arg3 harg3 arg4 harg4 x0 x1) (bodyRun.sl.r_22 c i arg3 harg3 arg4 harg4 arg5 harg5 x0 x1 x2) (bodyRun.sl.r_23 c i arg3 harg3 arg4 harg4 x0 x1) (harg4.unread x1) (harg5.unread x2) (bodyRun.sl.r_15 c i arg3 harg3 arg4 harg4 x0 x1, bodyRun.sl.r_16 c i arg3 harg3 arg4 harg4 arg5 harg5 x0 x1 x2, bodyRun.sl.r_19 c i arg3 harg3 arg4 harg4 x0 x1, bodyRun.sl.r_20 c i arg3 harg3 arg4 harg4 arg5 harg5 x0 x1 x2, bodyRun.sl.r_21 c i arg3 harg3 arg4 harg4 x0 x1, bodyRun.sl.r_22 c i arg3 harg3 arg4 harg4 arg5 harg5 x0 x1 x2, bodyRun.sl.r_24 c i arg3 harg3 arg4 harg4 x0 x1, bodyRun.sl.r_25 c i arg3 harg3 arg4 harg4 arg5 harg5 x0 x1 x2) ⟨n, hn⟩
  rw [e1, e2] at h
  unfold fast
  rw [show n + 1 = (⟨n, hn⟩ : Fin (k0_t1_loop i).trips).val + 1 from rfl, e3]
  exact h

end Cert.AttnSteps
-- ==== Proof.AttnState.lean ====
/-
  The running state after all tiles of one query row: the sums over every key up to the query, whatever the order in
  which the tiles came and whichever loop ran.
-/
module

public import proofs.«01_k».proof.Proof.AttnSteps

@[expose] public section

set_option maxRecDepth 16384

noncomputable section

namespace Cert.AttnState

open Idealize.ShloMosaic Cert.Softmax

/-- The weight of key `J` for the query in place `X`: two to the score up to the query, nothing after it. -/
def wt (σ : ℕ → EReal) (X J : ℕ) : ℝ := if J ≤ X then (2 : ℝ) ^ (σ J).toReal else 0

theorem wt_pos (σ : ℕ → EReal) {X J : ℕ} (h : J ≤ X) : 0 < wt σ X J := by
  rw [wt, if_pos h]; exact Real.rpow_pos_of_pos (by norm_num) _

theorem wt_nonneg (σ : ℕ → EReal) (X J : ℕ) : 0 ≤ wt σ X J := by
  by_cases h : J ≤ X
  · exact (wt_pos σ h).le
  · rw [wt, if_neg h]

/-- A real score weighs its power of two, a masked one nothing. -/
theorem weighs_masked {σ : ℕ → EReal} {X J : ℕ} (hσ : ∃ x : ℝ, σ J = (x : EReal)) :
    Weighs (if J ≤ X then σ J else ⊥) (wt σ X J) := by
  obtain ⟨x, hx⟩ := hσ
  by_cases h : J ≤ X
  · rw [if_pos h, wt, if_pos h, hx]
    exact Or.inr ⟨x, rfl, by rw [EReal.toReal_coe]⟩
  · rw [if_neg h, wt, if_neg h]
    exact Or.inl ⟨rfl, rfl⟩

theorem weighs_plain {σ : ℕ → EReal} {X J : ℕ} (hσ : ∃ x : ℝ, σ J = (x : EReal)) (h : J ≤ X) :
    Weighs (σ J) (wt σ X J) := by
  have := weighs_masked (X := X) hσ
  rwa [if_pos h] at this

/-- One tile's weights, and its weighted values. -/
def tileW (σ : ℕ → EReal) (X T : ℕ) : ℝ := ∑ j : Fin 512, wt σ X (512 * T + j.val)
def tileA (σ : ℕ → EReal) (v : Fin 64 → ℕ → EReal) (X : ℕ) (d : Fin 64) (T : ℕ) : EReal :=
  ∑ j : Fin 512, v d (512 * T + j.val) * (wt σ X (512 * T + j.val) : EReal)

section Loops
variable (σ : ℕ → EReal) (v : Fin 64 → ℕ → EReal) (i r : ℕ) (hr : r < 512) (hσ : ∀ J, ∃ x : ℝ, σ J = (x : EReal))
include hr hσ

/-- After the diagonal tile. -/
theorem first {m l : EReal} {a : Fin 64 → EReal}
    (h : Step (fun j : Fin 512 => if j.val ≤ r then σ (512 * i + j.val) else ⊥) (fun d j => v d (512 * i + j.val)) ⊥ 0
      (fun _ => 0) m l a) :
    ∃ μ : ℝ, State (tileW σ (512 * i + r) i) (fun d => tileA σ v (512 * i + r) d i) μ m l a := by
  refine Step.first (w := fun j => wt σ (512 * i + r) (512 * i + j.val)) (fun j => ?_)
    ⟨⟨0, by norm_num⟩, wt_pos σ (show 512 * i + 0 ≤ 512 * i + r by omega)⟩ h
  have := weighs_masked (X := 512 * i + r) (hσ (512 * i + j.val))
  rwa [show (if 512 * i + j.val ≤ 512 * i + r then σ (512 * i + j.val) else ⊥)
    = if j.val ≤ r then σ (512 * i + j.val) else ⊥ from if_congr (by omega) rfl rfl] at this

/-- After `n` trips of the exact loop. -/
theorem slow (m l : ℕ → EReal) (a : ℕ → Fin 64 → EReal)
    (h0 : ∃ μ : ℝ, State (tileW σ (512 * i + r) i) (fun d => tileA σ v (512 * i + r) d i) μ (m 0) (l 0) (a 0))
    (hs : ∀ n < i, Step (fun j : Fin 512 => σ (512 * n + j.val)) (fun d j => v d (512 * n + j.val))
      (m n) (l n) (a n) (m (n + 1)) (l (n + 1)) (a (n + 1))) :
    ∀ n ≤ i, ∃ μ : ℝ, State (tileW σ (512 * i + r) i + ∑ T ∈ Finset.range n, tileW σ (512 * i + r) T)
      (fun d => tileA σ v (512 * i + r) d i + ∑ T ∈ Finset.range n, tileA σ v (512 * i + r) d T) μ (m n) (l n) (a n) := by
  intro n
  induction n with
  | zero => intro _; simpa using h0
  | succ n ih =>
    intro hn
    obtain ⟨μ, hμ⟩ := ih (by omega)
    have := Step.next (w := fun j : Fin 512 => wt σ (512 * i + r) (512 * n + j.val))
      (fun j => weighs_plain (hσ _) (by omega)) hμ (hs n (by omega))
    simp only [Finset.sum_range_succ, ← add_assoc]
    exact this

/-- After `n` trips of the cheap loop. -/
theorem fast (m : EReal) (l : ℕ → EReal) (a : ℕ → Fin 64 → EReal)
    (h0 : ∃ μ : ℝ, State (tileW σ (512 * i + r) i) (fun d => tileA σ v (512 * i + r) d i) μ m (l 0) (a 0))
    (hs : ∀ n < i, FixedStep (fun j : Fin 512 => σ (512 * n + j.val)) (fun d j => v d (512 * n + j.val))
      m (l n) (a n) (l (n + 1)) (a (n + 1))) :
    ∀ n ≤ i, ∃ μ : ℝ, State (tileW σ (512 * i + r) i + ∑ T ∈ Finset.range n, tileW σ (512 * i + r) T)
      (fun d => tileA σ v (512 * i + r) d i + ∑ T ∈ Finset.range n, tileA σ v (512 * i + r) d T) μ m (l n) (a n) := by
  intro n
  induction n with
  | zero => intro _; simpa using h0
  | succ n ih =>
    intro hn
    obtain ⟨μ, hμ⟩ := ih (by omega)
    refine ⟨μ, ?_⟩
    have := FixedStep.next (w := fun j : Fin 512 => wt σ (512 * i + r) (512 * n + j.val))
      (fun j => weighs_plain (hσ _) (by omega)) hμ (hs n (by omega))
    simp only [Finset.sum_range_succ, ← add_assoc]
    exact this

end Loops

/-- All keys are the tile of the query and the tiles before it; the later ones weigh nothing. -/
theorem sum_tiles {M : Type} [AddCommMonoid M] (f : ℕ → M) (i : ℕ) (hi : i < 8) (h0 : ∀ J, 512 * (i + 1) ≤ J → f J = 0) :
    ∑ J : Fin 4096, f J.val
      = (∑ j : Fin 512, f (512 * i + j.val)) + ∑ T ∈ Finset.range i, ∑ j : Fin 512, f (512 * T + j.val) := by
  rw [Fin.sum_univ_eq_sum_range (fun J => f J) 4096, ← Finset.sum_range_add_sum_Ico (n := 4096) (m := 512 * (i + 1)) f (by omega),
    Finset.sum_eq_zero (s := Finset.Ico _ _) (fun J hJ => h0 J (Finset.mem_Ico.1 hJ).1), add_zero]
  have key : ∀ n : ℕ, ∑ J ∈ Finset.range (512 * n), f J = ∑ T ∈ Finset.range n, ∑ j : Fin 512, f (512 * T + j.val) := by
    intro n
    induction n with
    | zero => simp
    | succ n ih =>
      rw [show 512 * (n + 1) = 512 * n + 512 by omega, Finset.sum_range_add, ih,
        Finset.sum_range_succ (fun T => ∑ j : Fin 512, f (512 * T + j.val)) n, ← Fin.sum_univ_eq_sum_range (fun j => f (512 * n + j)) 512]
  rw [key, Finset.sum_range_succ, add_comm]

theorem total_W (σ : ℕ → EReal) (i r : ℕ) (hi : i < 8) (hr : r < 512) :
    tileW σ (512 * i + r) i + ∑ T ∈ Finset.range i, tileW σ (512 * i + r) T = ∑ J : Fin 4096, wt σ (512 * i + r) J.val :=
  (sum_tiles (fun J => wt σ (512 * i + r) J) i hi fun J hJ => if_neg (by omega)).symm

theorem total_A (σ : ℕ → EReal) (v : Fin 64 → ℕ → EReal) (d : Fin 64) (i r : ℕ) (hi : i < 8) (hr : r < 512) :
    tileA σ v (512 * i + r) d i + ∑ T ∈ Finset.range i, tileA σ v (512 * i + r) d T
      = ∑ J : Fin 4096, v d J.val * (wt σ (512 * i + r) J.val : EReal) :=
  (sum_tiles (fun J => v d J * (wt σ (512 * i + r) J : EReal)) i hi fun J hJ => by
    show v d J * (wt σ (512 * i + r) J : EReal) = 0
    rw [show wt σ (512 * i + r) J = 0 from if_neg (by omega), EReal.coe_zero, mul_zero]).symm

theorem total_pos (σ : ℕ → EReal) (X : ℕ) : 0 < ∑ J : Fin 4096, wt σ X J.val :=
  Finset.sum_pos' (fun J _ => wt_nonneg σ X J.val) ⟨⟨0, by norm_num⟩, Finset.mem_univ _, wt_pos σ (Nat.zero_le _)⟩

/-- The attention of one query row: the values of the keys, weighted, over the sum of the weights. -/
def attn (σ : ℕ → EReal) (v : ℕ → EReal) (X : ℕ) : EReal :=
  (((∑ J : Fin 4096, wt σ X J.val)⁻¹ : ℝ) : EReal) * ∑ J : Fin 4096, v J.val * (wt σ X J.val : EReal)

/-- What the quotient of a final state is. -/
theorem final (σ : ℕ → EReal) (v : Fin 64 → ℕ → EReal) (i r : ℕ) (hi : i < 8) (hr : r < 512) {m l : EReal}
    {a : Fin 64 → EReal}
    (h : ∃ μ : ℝ, State (tileW σ (512 * i + r) i + ∑ T ∈ Finset.range i, tileW σ (512 * i + r) T)
      (fun d => tileA σ v (512 * i + r) d i + ∑ T ∈ Finset.range i, tileA σ v (512 * i + r) d T) μ m l a) (d : Fin 64) :
    Ideal.div (a d) l = attn σ (v d) (512 * i + r) := by
  obtain ⟨μ, hμ⟩ := h
  have hW := total_W σ i r hi hr
  rw [hμ.div (by rw [hW]; exact total_pos σ _) d, hW, total_A σ v d i r hi hr]
  rfl

end Cert.AttnState
-- ==== Proof.AttnOut.lean ====
/-
  What the body stores, read at an index: whichever loop's state is taken, each head's quotient is the weighted sum of
  the values over the sum of the weights.
-/
module

public import proofs.«01_k».proof.Proof.AttnState

@[expose] public section

set_option maxRecDepth 16384

noncomputable section

namespace Cert.AttnOut

open Idealize.ShloMosaic Idealize.ShloMosaic.TcCoe Cert.KernelIdeal Cert.KernelIdeal.Gen Cert.KernelIdeal.Body
  Cert.AttnTile Cert.AttnLoad Cert.AttnSteps Cert.AttnState

variable (c : Dev nD) (i : grid0.Coords) (arg3 : Memref sig .tc .vmem S1x512x512 .bf16)
  (harg3 : arg3.IsWhole) (arg4 : Memref sig .tc .vmem S1x4096x512 .bf16) (harg4 : arg4.IsWhole)
  (arg5 : Memref sig .tc .vmem S1x16x256x256 .bf16) (harg5 : arg5.IsWhole)
  (arg6 : Memref sig .tc .vmem S1x512x256 .bf16) (harg6 : arg6.IsWhole)
  (x0 : Vec Ideal S1x512x512 .bf16) (x1 : Vec Ideal S1x4096x512 .bf16) (x2 : Vec Ideal S1x16x256x256 .bf16) (r : Fin 512)

/-- The run's value: the quotient of one of the two loops' final states, their remainder loops being empty. -/
theorem run_fst : ∃ b : BitVec 1, (bodyRun (F := Ideal) c i arg3 harg3 arg4 harg4 arg5 harg5 arg6 harg6 x0 x1 x2).1
    = pick b (k0_pay1 (fast c i arg3 harg3 arg4 harg4 arg5 harg5 arg6 harg6 x0 x1 x2 (i 2).val).1
        (fast c i arg3 harg3 arg4 harg4 arg5 harg5 arg6 harg6 x0 x1 x2 (i 2).val).2.1
        (fast c i arg3 harg3 arg4 harg4 arg5 harg5 arg6 harg6 x0 x1 x2 (i 2).val).2.2.1
        (fast c i arg3 harg3 arg4 harg4 arg5 harg5 arg6 harg6 x0 x1 x2 (i 2).val).2.2.2.1
        (fast c i arg3 harg3 arg4 harg4 arg5 harg5 arg6 harg6 x0 x1 x2 (i 2).val).2.2.2.2.1
        (fast c i arg3 harg3 arg4 harg4 arg5 harg5 arg6 harg6 x0 x1 x2 (i 2).val).2.2.2.2.2.1
        (fast c i arg3 harg3 arg4 harg4 arg5 harg5 arg6 harg6 x0 x1 x2 (i 2).val).2.2.2.2.2.2.1
        (fast c i arg3 harg3 arg4 harg4 arg5 harg5 arg6 harg6 x0 x1 x2 (i 2).val).2.2.2.2.2.2.2)
      (k0_pay6 (slow c i arg3 harg3 arg4 harg4 arg5 harg5 arg6 harg6 x0 x1 x2 (i 2).val).2.1
        (slow c i arg3 harg3 arg4 harg4 arg5 harg5 arg6 harg6 x0 x1 x2 (i 2).val).2.2.1
        (slow c i arg3 harg3 arg4 harg4 arg5 harg5 arg6 harg6 x0 x1 x2 (i 2).val).2.2.2.2.1
        (slow c i arg3 harg3 arg4 harg4 arg5 harg5 arg6 harg6 x0 x1 x2 (i 2).val).2.2.2.2.2.1
        (slow c i arg3 harg3 arg4 harg4 arg5 harg5 arg6 harg6 x0 x1 x2 (i 2).val).2.2.2.2.2.2.2.1
        (slow c i arg3 harg3 arg4 harg4 arg5 harg5 arg6 harg6 x0 x1 x2 (i 2).val).2.2.2.2.2.2.2.2.1
        (slow c i arg3 harg3 arg4 harg4 arg5 harg5 arg6 harg6 x0 x1 x2 (i 2).val).2.2.2.2.2.2.2.2.2.2.1
        (slow c i arg3 harg3 arg4 harg4 arg5 harg5 arg6 harg6 x0 x1 x2 (i 2).val).2.2.2.2.2.2.2.2.2.2.2) := by
  have z1 : Scf.trips (k0_t1_loop i).lb (k0_t1_loop i).ub (k0_t1_loop i).st = (i 2).val := trips1 i
  have z2 : Scf.trips (k0_t2_loop i).lb (k0_t2_loop i).ub (k0_t2_loop i).st = 0 := trips2 i
  have z3 : Scf.trips (k0_t3_loop i).lb (k0_t3_loop i).ub (k0_t3_loop i).st = (i 2).val := trips3 i
  have z4 : Scf.trips (k0_t4_loop i).lb (k0_t4_loop i).ub (k0_t4_loop i).st = 0 := trips4 i
  unfold bodyRun
  dsimp only
  refine ⟨_, congrArg₂ (pick _) ?_ ?_⟩
  · unfold bodyRun.sl.r_26 bodyRun.sl.r_27 bodyRun.sl.r_28 bodyRun.sl.r_29 bodyRun.sl.r_30 bodyRun.sl.r_31 bodyRun.sl.r_32 bodyRun.sl.r_33
    rw [z2, st_k0_t2_zero, z1]
    rfl
  · rw [z4, st_k0_t4_zero, z3]

theorem fast_at0 (l0 : FVec Ideal S1x512 .f32) (a0 : FVec Ideal S64x512 .f32) (l1 : FVec Ideal S1x512 .f32)
    (a1 : FVec Ideal S64x512 .f32) (l2 : FVec Ideal S1x512 .f32) (a2 : FVec Ideal S64x512 .f32) (l3 : FVec Ideal S1x512 .f32)
    (a3 : FVec Ideal S64x512 .f32) (d : Fin 64) :
    k0_pay7 (k0_pay1 l0 a0 l1 a1 l2 a2 l3 a3) (ix3 0 r ⟨64 * 0 + d.val, by omega⟩)
      = Ideal.div (a0 (ix2 d r)) (l0 (ix2 0 r)) := by
  rw [show (⟨64 * 0 + d.val, by omega⟩ : Fin 256) = ⟨d.val, by omega⟩ from Fin.ext (by show 64 * 0 + d.val = d.val; omega)]
  pointwise [k0_pay7, k0_pay1]

theorem fast_at1 (l0 : FVec Ideal S1x512 .f32) (a0 : FVec Ideal S64x512 .f32) (l1 : FVec Ideal S1x512 .f32)
    (a1 : FVec Ideal S64x512 .f32) (l2 : FVec Ideal S1x512 .f32) (a2 : FVec Ideal S64x512 .f32) (l3 : FVec Ideal S1x512 .f32)
    (a3 : FVec Ideal S64x512 .f32) (d : Fin 64) :
    k0_pay7 (k0_pay1 l0 a0 l1 a1 l2 a2 l3 a3) (ix3 0 r ⟨64 * 1 + d.val, by omega⟩)
      = Ideal.div (a1 (ix2 d r)) (l1 (ix2 0 r)) := by
  rw [show (⟨64 * 1 + d.val, by omega⟩ : Fin 256) = ⟨64 + d.val, by omega⟩ from Fin.ext (by show 64 * 1 + d.val = 64 + d.val; omega)]
  pointwise [k0_pay7, k0_pay1]

theorem fast_at2 (l0 : FVec Ideal S1x512 .f32) (a0 : FVec Ideal S64x512 .f32) (l1 : FVec Ideal S1x512 .f32)
    (a1 : FVec Ideal S64x512 .f32) (l2 : FVec Ideal S1x512 .f32) (a2 : FVec Ideal S64x512 .f32) (l3 : FVec Ideal S1x512 .f32)
    (a3 : FVec Ideal S64x512 .f32) (d : Fin 64) :
    k0_pay7 (k0_pay1 l0 a0 l1 a1 l2 a2 l3 a3) (ix3 0 r ⟨64 * 2 + d.val, by omega⟩)
      = Ideal.div (a2 (ix2 d r)) (l2 (ix2 0 r)) := by
  rw [show (⟨64 * 2 + d.val, by omega⟩ : Fin 256) = ⟨128 + d.val, by omega⟩ from Fin.ext (by show 64 * 2 + d.val = 128 + d.val; omega)]
  pointwise [k0_pay7, k0_pay1]
  rw [dif_neg (by omega), dif_neg (by omega), dif_pos (by omega)]
  exact congrArg (fun x => Ideal.div (a2 (ix2 x r)) (l2 (ix2 0 r))) (Fin.ext (by show 128 + d.val - 64 - 64 = d.val; omega))

theorem fast_at3 (l0 : FVec Ideal S1x512 .f32) (a0 : FVec Ideal S64x512 .f32) (l1 : FVec Ideal S1x512 .f32)
    (a1 : FVec Ideal S64x512 .f32) (l2 : FVec Ideal S1x512 .f32) (a2 : FVec Ideal S64x512 .f32) (l3 : FVec Ideal S1x512 .f32)
    (a3 : FVec Ideal S64x512 .f32) (d : Fin 64) :
    k0_pay7 (k0_pay1 l0 a0 l1 a1 l2 a2 l3 a3) (ix3 0 r ⟨64 * 3 + d.val, by omega⟩)
      = Ideal.div (a3 (ix2 d r)) (l3 (ix2 0 r)) := by
  rw [show (⟨64 * 3 + d.val, by omega⟩ : Fin 256) = ⟨192 + d.val, by omega⟩ from Fin.ext (by show 64 * 3 + d.val = 192 + d.val; omega)]
  pointwise [k0_pay7, k0_pay1]
  rw [dif_neg (by omega), dif_neg (by omega), dif_neg (by omega)]
  exact congrArg (fun x => Ideal.div (a3 (ix2 x r)) (l3 (ix2 0 r))) (Fin.ext (by show 192 + d.val - 64 - 64 - 64 = d.val; omega))

theorem slow_at0 (l0 : FVec Ideal S1x512 .f32) (a0 : FVec Ideal S64x512 .f32) (l1 : FVec Ideal S1x512 .f32)
    (a1 : FVec Ideal S64x512 .f32) (l2 : FVec Ideal S1x512 .f32) (a2 : FVec Ideal S64x512 .f32) (l3 : FVec Ideal S1x512 .f32)
    (a3 : FVec Ideal S64x512 .f32) (d : Fin 64) :
    k0_pay7 (k0_pay6 l0 a0 l1 a1 l2 a2 l3 a3) (ix3 0 r ⟨64 * 0 + d.val, by omega⟩)
      = Ideal.div (a0 (ix2 d r)) (l0 (ix2 0 r)) := by
  rw [show (⟨64 * 0 + d.val, by omega⟩ : Fin 256) = ⟨d.val, by omega⟩ from Fin.ext (by show 64 * 0 + d.val = d.val; omega)]
  pointwise [k0_pay7, k0_pay6]

theorem slow_at1 (l0 : FVec Ideal S1x512 .f32) (a0 : FVec Ideal S64x512 .f32) (l1 : FVec Ideal S1x512 .f32)
    (a1 : FVec Ideal S64x512 .f32) (l2 : FVec Ideal S1x512 .f32) (a2 : FVec Ideal S64x512 .f32) (l3 : FVec Ideal S1x512 .f32)
    (a3 : FVec Ideal S64x512 .f32) (d : Fin 64) :
    k0_pay7 (k0_pay6 l0 a0 l1 a1 l2 a2 l3 a3) (ix3 0 r ⟨64 * 1 + d.val, by omega⟩)
      = Ideal.div (a1 (ix2 d r)) (l1 (ix2 0 r)) := by
  rw [show (⟨64 * 1 + d.val, by omega⟩ : Fin 256) = ⟨64 + d.val, by omega⟩ from Fin.ext (by show 64 * 1 + d.val = 64 + d.val; omega)]
  pointwise [k0_pay7, k0_pay6]

theorem slow_at2 (l0 : FVec Ideal S1x512 .f32) (a0 : FVec Ideal S64x512 .f32) (l1 : FVec Ideal S1x512 .f32)
    (a1 : FVec Ideal S64x512 .f32) (l2 : FVec Ideal S1x512 .f32) (a2 : FVec Ideal S64x512 .f32) (l3 : FVec Ideal S1x512 .f32)
    (a3 : FVec Ideal S64x512 .f32) (d : Fin 64) :
    k0_pay7 (k0_pay6 l0 a0 l1 a1 l2 a2 l3 a3) (ix3 0 r ⟨64 * 2 + d.val, by omega⟩)
      = Ideal.div (a2 (ix2 d r)) (l2 (ix2 0 r)) := by
  rw [show (⟨64 * 2 + d.val, by omega⟩ : Fin 256) = ⟨128 + d.val, by omega⟩ from Fin.ext (by show 64 * 2 + d.val = 128 + d.val; omega)]
  pointwise [k0_pay7, k0_pay6]
  rw [dif_neg (by omega), dif_neg (by omega), dif_pos (by omega)]
  exact congrArg (fun x => Ideal.div (a2 (ix2 x r)) (l2 (ix2 0 r))) (Fin.ext (by show 128 + d.val - 64 - 64 = d.val; omega))

theorem slow_at3 (l0 : FVec Ideal S1x512 .f32) (a0 : FVec Ideal S64x512 .f32) (l1 : FVec Ideal S1x512 .f32)
    (a1 : FVec Ideal S64x512 .f32) (l2 : FVec Ideal S1x512 .f32) (a2 : FVec Ideal S64x512 .f32) (l3 : FVec Ideal S1x512 .f32)
    (a3 : FVec Ideal S64x512 .f32) (d : Fin 64) :
    k0_pay7 (k0_pay6 l0 a0 l1 a1 l2 a2 l3 a3) (ix3 0 r ⟨64 * 3 + d.val, by omega⟩)
      = Ideal.div (a3 (ix2 d r)) (l3 (ix2 0 r)) := by
  rw [show (⟨64 * 3 + d.val, by omega⟩ : Fin 256) = ⟨192 + d.val, by omega⟩ from Fin.ext (by show 64 * 3 + d.val = 192 + d.val; omega)]
  pointwise [k0_pay7, k0_pay6]
  rw [dif_neg (by omega), dif_neg (by omega), dif_neg (by omega)]
  exact congrArg (fun x => Ideal.div (a3 (ix2 x r)) (l3 (ix2 0 r))) (Fin.ext (by show 192 + d.val - 64 - 64 - 64 = d.val; omega))

theorem out0 (hσ : ∀ J, ∃ x : ℝ, keyS x0 x1 0 r J = (x : EReal)) (d : Fin 64) :
    k0_pay7 (bodyRun (F := Ideal) c i arg3 harg3 arg4 harg4 arg5 harg5 arg6 harg6 x0 x1 x2).1
        (ix3 0 r ⟨64 * 0 + d.val, by omega⟩)
      = attn (keyS x0 x1 0 r) (valV x2 0 d) (512 * (i 2).val + r.val) := by
  have h0 := first (keyS x0 x1 0 r) (valV x2 0) (i 2).val r.val r.isLt hσ (diag0 c i arg3 harg3 arg4 harg4 arg5 harg5 arg6 harg6 x0 x1 x2 r)
  obtain ⟨b, hb⟩ := run_fst c i arg3 harg3 arg4 harg4 arg5 harg5 arg6 harg6 x0 x1 x2
  rw [hb]
  by_cases hc : b = 1#1
  · rw [pick_pos hc, fast_at0]
    refine final (keyS x0 x1 0 r) (valV x2 0) (i 2).val r.val (i 2).isLt r.isLt
      (m := (slow c i arg3 harg3 arg4 harg4 arg5 harg5 arg6 harg6 x0 x1 x2 0).1 (ix2 0 r)) (a := fun d => (fast c i arg3 harg3 arg4 harg4 arg5 harg5 arg6 harg6 x0 x1 x2 (i 2).val).2.1 (ix2 d r)) ?_ d
    exact AttnState.fast (keyS x0 x1 0 r) (valV x2 0) (i 2).val r.val r.isLt hσ _
      (fun n => (fast c i arg3 harg3 arg4 harg4 arg5 harg5 arg6 harg6 x0 x1 x2 n).1 (ix2 0 r)) (fun n d => (fast c i arg3 harg3 arg4 harg4 arg5 harg5 arg6 harg6 x0 x1 x2 n).2.1 (ix2 d r)) h0
      (fun n hn => fast0 c i arg3 harg3 arg4 harg4 arg5 harg5 arg6 harg6 x0 x1 x2 r n (by rw [trips1]; exact hn)) _ le_rfl
  · rw [pick_neg hc, slow_at0]
    refine final (keyS x0 x1 0 r) (valV x2 0) (i 2).val r.val (i 2).isLt r.isLt
      (m := (slow c i arg3 harg3 arg4 harg4 arg5 harg5 arg6 harg6 x0 x1 x2 (i 2).val).1 (ix2 0 r)) (a := fun d => (slow c i arg3 harg3 arg4 harg4 arg5 harg5 arg6 harg6 x0 x1 x2 (i 2).val).2.2.1 (ix2 d r)) ?_ d
    exact AttnState.slow (keyS x0 x1 0 r) (valV x2 0) (i 2).val r.val r.isLt hσ
      (fun n => (slow c i arg3 harg3 arg4 harg4 arg5 harg5 arg6 harg6 x0 x1 x2 n).1 (ix2 0 r)) (fun n => (slow c i arg3 harg3 arg4 harg4 arg5 harg5 arg6 harg6 x0 x1 x2 n).2.1 (ix2 0 r)) (fun n d => (slow c i arg3 harg3 arg4 harg4 arg5 harg5 arg6 harg6 x0 x1 x2 n).2.2.1 (ix2 d r)) h0
      (fun n hn => slow0 c i arg3 harg3 arg4 harg4 arg5 harg5 arg6 harg6 x0 x1 x2 r n (by rw [trips3]; exact hn)) _ le_rfl

theorem out1 (hσ : ∀ J, ∃ x : ℝ, keyS x0 x1 1 r J = (x : EReal)) (d : Fin 64) :
    k0_pay7 (bodyRun (F := Ideal) c i arg3 harg3 arg4 harg4 arg5 harg5 arg6 harg6 x0 x1 x2).1
        (ix3 0 r ⟨64 * 1 + d.val, by omega⟩)
      = attn (keyS x0 x1 1 r) (valV x2 1 d) (512 * (i 2).val + r.val) := by
  have h0 := first (keyS x0 x1 1 r) (valV x2 1) (i 2).val r.val r.isLt hσ (diag1 c i arg3 harg3 arg4 harg4 arg5 harg5 arg6 harg6 x0 x1 x2 r)
  obtain ⟨b, hb⟩ := run_fst c i arg3 harg3 arg4 harg4 arg5 harg5 arg6 harg6 x0 x1 x2
  rw [hb]
  by_cases hc : b = 1#1
  · rw [pick_pos hc, fast_at1]
    refine final (keyS x0 x1 1 r) (valV x2 1) (i 2).val r.val (i 2).isLt r.isLt
      (m := (slow c i arg3 harg3 arg4 harg4 arg5 harg5 arg6 harg6 x0 x1 x2 0).2.2.2.1 (ix2 0 r)) (a := fun d => (fast c i arg3 harg3 arg4 harg4 arg5 harg5 arg6 harg6 x0 x1 x2 (i 2).val).2.2.2.1 (ix2 d r)) ?_ d
    exact AttnState.fast (keyS x0 x1 1 r) (valV x2 1) (i 2).val r.val r.isLt hσ _
      (fun n => (fast c i arg3 harg3 arg4 harg4 arg5 harg5 arg6 harg6 x0 x1 x2 n).2.2.1 (ix2 0 r)) (fun n d => (fast c i arg3 harg3 arg4 harg4 arg5 harg5 arg6 harg6 x0 x1 x2 n).2.2.2.1 (ix2 d r)) h0
      (fun n hn => fast1 c i arg3 harg3 arg4 harg4 arg5 harg5 arg6 harg6 x0 x1 x2 r n (by rw [trips1]; exact hn)) _ le_rfl
  · rw [pick_neg hc, slow_at1]
    refine final (keyS x0 x1 1 r) (valV x2 1) (i 2).val r.val (i 2).isLt r.isLt
      (m := (slow c i arg3 harg3 arg4 harg4 arg5 harg5 arg6 harg6 x0 x1 x2 (i 2).val).2.2.2.1 (ix2 0 r)) (a := fun d => (slow c i arg3 harg3 arg4 harg4 arg5 harg5 arg6 harg6 x0 x1 x2 (i 2).val).2.2.2.2.2.1 (ix2 d r)) ?_ d
    exact AttnState.slow (keyS x0 x1 1 r) (valV x2 1) (i 2).val r.val r.isLt hσ
      (fun n => (slow c i arg3 harg3 arg4 harg4 arg5 harg5 arg6 harg6 x0 x1 x2 n).2.2.2.1 (ix2 0 r)) (fun n => (slow c i arg3 harg3 arg4 harg4 arg5 harg5 arg6 harg6 x0 x1 x2 n).2.2.2.2.1 (ix2 0 r)) (fun n d => (slow c i arg3 harg3 arg4 harg4 arg5 harg5 arg6 harg6 x0 x1 x2 n).2.2.2.2.2.1 (ix2 d r)) h0
      (fun n hn => slow1 c i arg3 harg3 arg4 harg4 arg5 harg5 arg6 harg6 x0 x1 x2 r n (by rw [trips3]; exact hn)) _ le_rfl

theorem out2 (hσ : ∀ J, ∃ x : ℝ, keyS x0 x1 2 r J = (x : EReal)) (d : Fin 64) :
    k0_pay7 (bodyRun (F := Ideal) c i arg3 harg3 arg4 harg4 arg5 harg5 arg6 harg6 x0 x1 x2).1
        (ix3 0 r ⟨64 * 2 + d.val, by omega⟩)
      = attn (keyS x0 x1 2 r) (valV x2 2 d) (512 * (i 2).val + r.val) := by
  have h0 := first (keyS x0 x1 2 r) (valV x2 2) (i 2).val r.val r.isLt hσ (diag2 c i arg3 harg3 arg4 harg4 arg5 harg5 arg6 harg6 x0 x1 x2 r)
  obtain ⟨b, hb⟩ := run_fst c i arg3 harg3 arg4 harg4 arg5 harg5 arg6 harg6 x0 x1 x2
  rw [hb]
  by_cases hc : b = 1#1
  · rw [pick_pos hc, fast_at2]
    refine final (keyS x0 x1 2 r) (valV x2 2) (i 2).val r.val (i 2).isLt r.isLt
      (m := (slow c i arg3 harg3 arg4 harg4 arg5 harg5 arg6 harg6 x0 x1 x2 0).2.2.2.2.2.2.1 (ix2 0 r)) (a := fun d => (fast c i arg3 harg3 arg4 harg4 arg5 harg5 arg6 harg6 x0 x1 x2 (i 2).val).2.2.2.2.2.1 (ix2 d r)) ?_ d
    exact AttnState.fast (keyS x0 x1 2 r) (valV x2 2) (i 2).val r.val r.isLt hσ _
      (fun n => (fast c i arg3 harg3 arg4 harg4 arg5 harg5 arg6 harg6 x0 x1 x2 n).2.2.2.2.1 (ix2 0 r)) (fun n d => (fast c i arg3 harg3 arg4 harg4 arg5 harg5 arg6 harg6 x0 x1 x2 n).2.2.2.2.2.1 (ix2 d r)) h0
      (fun n hn => fast2 c i arg3 harg3 arg4 harg4 arg5 harg5 arg6 harg6 x0 x1 x2 r n (by rw [trips1]; exact hn)) _ le_rfl
  · rw [pick_neg hc, slow_at2]
    refine final (keyS x0 x1 2 r) (valV x2 2) (i 2).val r.val (i 2).isLt r.isLt
      (m := (slow c i arg3 harg3 arg4 harg4 arg5 harg5 arg6 harg6 x0 x1 x2 (i 2).val).2.2.2.2.2.2.1 (ix2 0 r)) (a := fun d => (slow c i arg3 harg3 arg4 harg4 arg5 harg5 arg6 harg6 x0 x1 x2 (i 2).val).2.2.2.2.2.2.2.2.1 (ix2 d r)) ?_ d
    exact AttnState.slow (keyS x0 x1 2 r) (valV x2 2) (i 2).val r.val r.isLt hσ
      (fun n => (slow c i arg3 harg3 arg4 harg4 arg5 harg5 arg6 harg6 x0 x1 x2 n).2.2.2.2.2.2.1 (ix2 0 r)) (fun n => (slow c i arg3 harg3 arg4 harg4 arg5 harg5 arg6 harg6 x0 x1 x2 n).2.2.2.2.2.2.2.1 (ix2 0 r)) (fun n d => (slow c i arg3 harg3 arg4 harg4 arg5 harg5 arg6 harg6 x0 x1 x2 n).2.2.2.2.2.2.2.2.1 (ix2 d r)) h0
      (fun n hn => slow2 c i arg3 harg3 arg4 harg4 arg5 harg5 arg6 harg6 x0 x1 x2 r n (by rw [trips3]; exact hn)) _ le_rfl

theorem out3 (hσ : ∀ J, ∃ x : ℝ, keyS x0 x1 3 r J = (x : EReal)) (d : Fin 64) :
    k0_pay7 (bodyRun (F := Ideal) c i arg3 harg3 arg4 harg4 arg5 harg5 arg6 harg6 x0 x1 x2).1
        (ix3 0 r ⟨64 * 3 + d.val, by omega⟩)
      = attn (keyS x0 x1 3 r) (valV x2 3 d) (512 * (i 2).val + r.val) := by
  have h0 := first (keyS x0 x1 3 r) (valV x2 3) (i 2).val r.val r.isLt hσ (diag3 c i arg3 harg3 arg4 harg4 arg5 harg5 arg6 harg6 x0 x1 x2 r)
  obtain ⟨b, hb⟩ := run_fst c i arg3 harg3 arg4 harg4 arg5 harg5 arg6 harg6 x0 x1 x2
  rw [hb]
  by_cases hc : b = 1#1
  · rw [pick_pos hc, fast_at3]
    refine final (keyS x0 x1 3 r) (valV x2 3) (i 2).val r.val (i 2).isLt r.isLt
      (m := (slow c i arg3 harg3 arg4 harg4 arg5 harg5 arg6 harg6 x0 x1 x2 0).2.2.2.2.2.2.2.2.2.1 (ix2 0 r)) (a := fun d => (fast c i arg3 harg3 arg4 harg4 arg5 harg5 arg6 harg6 x0 x1 x2 (i 2).val).2.2.2.2.2.2.2 (ix2 d r)) ?_ d
    exact AttnState.fast (keyS x0 x1 3 r) (valV x2 3) (i 2).val r.val r.isLt hσ _
      (fun n => (fast c i arg3 harg3 arg4 harg4 arg5 harg5 arg6 harg6 x0 x1 x2 n).2.2.2.2.2.2.1 (ix2 0 r)) (fun n d => (fast c i arg3 harg3 arg4 harg4 arg5 harg5 arg6 harg6 x0 x1 x2 n).2.2.2.2.2.2.2 (ix2 d r)) h0
      (fun n hn => fast3 c i arg3 harg3 arg4 harg4 arg5 harg5 arg6 harg6 x0 x1 x2 r n (by rw [trips1]; exact hn)) _ le_rfl
  · rw [pick_neg hc, slow_at3]
    refine final (keyS x0 x1 3 r) (valV x2 3) (i 2).val r.val (i 2).isLt r.isLt
      (m := (slow c i arg3 harg3 arg4 harg4 arg5 harg5 arg6 harg6 x0 x1 x2 (i 2).val).2.2.2.2.2.2.2.2.2.1 (ix2 0 r)) (a := fun d => (slow c i arg3 harg3 arg4 harg4 arg5 harg5 arg6 harg6 x0 x1 x2 (i 2).val).2.2.2.2.2.2.2.2.2.2.2 (ix2 d r)) ?_ d
    exact AttnState.slow (keyS x0 x1 3 r) (valV x2 3) (i 2).val r.val r.isLt hσ
      (fun n => (slow c i arg3 harg3 arg4 harg4 arg5 harg5 arg6 harg6 x0 x1 x2 n).2.2.2.2.2.2.2.2.2.1 (ix2 0 r)) (fun n => (slow c i arg3 harg3 arg4 harg4 arg5 harg5 arg6 harg6 x0 x1 x2 n).2.2.2.2.2.2.2.2.2.2.1 (ix2 0 r)) (fun n d => (slow c i arg3 harg3 arg4 harg4 arg5 harg5 arg6 harg6 x0 x1 x2 n).2.2.2.2.2.2.2.2.2.2.2 (ix2 d r)) h0
      (fun n hn => slow3 c i arg3 harg3 arg4 harg4 arg5 harg5 arg6 harg6 x0 x1 x2 r n (by rw [trips3]; exact hn)) _ le_rfl

/-- All heads. -/
theorem out_at (h : Fin 4) (hσ : ∀ J, ∃ x : ℝ, keyS x0 x1 h r J = (x : EReal)) (d : Fin 64) :
    k0_pay7 (bodyRun (F := Ideal) c i arg3 harg3 arg4 harg4 arg5 harg5 arg6 harg6 x0 x1 x2).1
        (ix3 0 r ⟨64 * h.val + d.val, by omega⟩)
      = attn (keyS x0 x1 h r) (valV x2 h d) (512 * (i 2).val + r.val) := by
  match h, hσ with
  | 0, hσ => exact out0 c i arg3 harg3 arg4 harg4 arg5 harg5 arg6 harg6 x0 x1 x2 r hσ d
  | 1, hσ => exact out1 c i arg3 harg3 arg4 harg4 arg5 harg5 arg6 harg6 x0 x1 x2 r hσ d
  | 2, hσ => exact out2 c i arg3 harg3 arg4 harg4 arg5 harg5 arg6 harg6 x0 x1 x2 r hσ d
  | 3, hσ => exact out3 c i arg3 harg3 arg4 harg4 arg5 harg5 arg6 harg6 x0 x1 x2 r hσ d

end Cert.AttnOut
-- ==== Proof.AttnRef.lean ====
/-
  The attention's reference at an index: for batch `b`, head `h`, query `Q` and value column `d`, the plain softmax of
  the causal scores, times the values.
-/
module

public import proofs.«01_k».proof.Defs
public import proofs.«01_k».proof.Proof.Gen.ReferenceIdeal.Run
public import proofs.«01_k».proof.Proof.Softmax

@[expose] public section

set_option maxRecDepth 16384

noncomputable section

namespace Cert.AttnRef

open Idealize.ShloMosaic Idealize.ShloMosaic.TcCoe Cert.ReferenceIdeal Cert.ReferenceIdeal.Gen

variable (Q K : Vec Ideal S65536x2048 .bf16) (V : Vec Ideal S256x1024x256 .bf16)

/-- Row `4096 b + x` of a packed array, and column `128 h + e` of it: one token, one head's feature. -/
abbrev row (b : Fin 16) (x : Fin 4096) : Fin 65536 := ⟨4096 * b.val + x.val, by omega⟩
abbrev col (h : Fin 16) (e : Fin 128) : Fin 2048 := ⟨128 * h.val + e.val, by omega⟩

/-- Query against key, before the mask. -/
def score (b h : Fin 16) (x j : Fin 4096) : EReal :=
  ∑ e, Q (ix2 (row b x) (col h e)) * K (ix2 (row b j) (col h e))

/-- Value column `d` of key `j`: the values are stored by tiles of 256 keys, transposed. -/
def val (b h : Fin 16) (j : Fin 4096) (d : Fin 64) : EReal :=
  V (ix3 (⟨16 * b.val + j.val / 256, by omega⟩ : Fin 256) (⟨64 * h.val + d.val, by omega⟩ : Fin 1024)
    (⟨j.val % 256, by omega⟩ : Fin 256))

/-! ## The reference's operations, in stages -/

def refHeads (A : Vec Ideal S65536x2048 .bf16) : FVec Ideal S16x16x4096x128 .f32 :=
  transpose S16x16x4096x128 [0, 2, 1, 3] (shapeCast S16x4096x16x128 (extf .f32 A bitsLt_bf16_f32) shapeCasts_S65536x2048_S16x4096x16x128) transposes_S16x4096x16x128_S16x16x4096x128_0_2_1_3

def refVals : FVec Ideal S16x16x4096x64 .f32 :=
  shapeCast S16x16x4096x64 (transpose S16x16x16x256x64 [0, 2, 1, 4, 3] (shapeCast S16x16x16x64x256 (extf .f32 V bitsLt_bf16_f32) shapeCasts_S256x1024x256_S16x16x16x64x256) transposes_S16x16x16x64x256_S16x16x16x256x64_0_2_1_4_3) shapeCasts_S16x16x16x256x64_S16x16x4096x64

def refMask : IVec S4096x4096 1 :=
  cmpi .sle (broadcastInDim S4096x4096 ![0, 1] bcast_S1x4096_S4096x4096_0_1 (broadcastInDim S1x4096 ![1] bcast_S4096_S1x4096_1 (iotaInDim S4096 32 0))) (broadcastInDim S4096x4096 ![0, 1] bcast_S4096x1_S4096x4096_0_1 (broadcastInDim S4096x1 ![0] bcast_S4096_S4096x1_0 (iotaInDim S4096 32 0)))

def refScores : FVec Ideal S16x16x4096x4096 .f32 :=
  mulf (Host.dotGeneral dot_S16x16x4096x128_S16x16x4096x128_S16x16x4096x4096_3_3_2_2_01_01 none (refHeads Q) (refHeads K)) (broadcastInDim S16x16x4096x4096 ![] bcast_S_S16x16x4096x4096 (id (Host.log (constant S_ .f32 0x40000000#32))))

def refMasked (z : FVec Ideal S16x16x4096x4096 .f32) : FVec Ideal S16x16x4096x4096 .f32 :=
  select (broadcastInDim S16x16x4096x4096 ![2, 3] bcast_S4096x4096_S16x16x4096x4096_2_3 refMask) z (broadcastInDim S16x16x4096x4096 ![] bcast_S_S16x16x4096x4096 (id (constant S_ .f32 0xFF800000#32)))

def refMax (z : FVec Ideal S16x16x4096x4096 .f32) : FVec Ideal S16x16x4096 .f32 :=
  maximumf (broadcastInDim S16x16x4096 ![] bcast_S_S16x16x4096 (constant S_ .f32 0xFF800000#32)) (Host.reduce FloatOps.maximumf z (constant S_ .f32 0xFF800000#32) reducesTo_S16x16x4096x4096_S16x16x4096_d3 h_S_)

def refExp (z : FVec Ideal S16x16x4096x4096 .f32) : FVec Ideal S16x16x4096x4096 .f32 :=
  Host.exp (subf z (broadcastInDim S16x16x4096x4096 ![0, 1, 2, 3] bcast_S16x16x4096x1_S16x16x4096x4096_0_1_2_3 (broadcastInDim S16x16x4096x1 ![0, 1, 2] bcast_S16x16x4096_S16x16x4096x1_0_1_2 (refMax z))))

def refProb (p : FVec Ideal S16x16x4096x4096 .f32) : FVec Ideal S16x16x4096x4096 .f32 :=
  Host.divf p (broadcastInDim S16x16x4096x4096 ![0, 1, 2, 3] bcast_S16x16x4096x1_S16x16x4096x4096_0_1_2_3 (broadcastInDim S16x16x4096x1 ![0, 1, 2] bcast_S16x16x4096_S16x16x4096x1_0_1_2 (Host.reduceAdd p (constant S_ .f32 0x00000000#32) reducesTo_S16x16x4096x4096_S16x16x4096_d3 h_S_)))

def refOut : FVec Ideal S16x4096x1024 .bf16 :=
  truncf .bf16 (shapeCast S16x4096x1024 (transpose S16x4096x16x64 [0, 2, 1, 3] (Host.dotGeneral dot_S16x16x4096x4096_S16x16x4096x64_S16x16x4096x64_3_2_2_3_01_01 none (refProb (refExp (refMasked (refScores Q K)))) (refVals V)) transposes_S16x16x4096x64_S16x4096x16x64_0_2_1_3) shapeCasts_S16x4096x16x64_S16x4096x1024) bitsLt_bf16_f32

/-- The run's result is these stages. -/
theorem res_eq (m : (ℓ : Loc nD τ sig) → Buf (Elt Ideal) ℓ) (c : Dev nD) :
    Cert.ReferenceIdeal.Value.res_out0 m c
      = refOut (m ((c.tc : Thread nD τ).loc main_arg0)) (m ((c.tc : Thread nD τ).loc main_arg1))
          (m ((c.tc : Thread nD τ).loc main_arg2)) := rfl

/-- A maximum along the last of four axes, at an index. -/
theorem hostMax_at {n0 n1 n2 n3 : ℕ} (h : (⟨4, ![n0, n1, n2, n3]⟩ : Shape).ReducesTo [3] ⟨3, ![n0, n1, n2]⟩)
    (hs : 0 < S_.numel) (v : FVec Ideal ⟨4, ![n0, n1, n2, n3]⟩ .f32) (init : FVec Ideal S_ .f32)
    (a : Fin n0) (b : Fin n1) (c : Fin n2) :
    Host.reduce FloatOps.maximumf v init h hs (ix3 a b c)
      = Finset.univ.fold max (init ix0) fun k => v (ix4 a b c k) := by
  pointwise
  rw [show Shape.Idx.first hs = ix0 from funext fun i => i.elim0]

theorem refHeads_at (A : Vec Ideal S65536x2048 .bf16) (b h : Fin 16) (x : Fin 4096) (e : Fin 128) :
    refHeads A (ix4 b h x e) = A (ix2 (row b x) (col h e)) := by
  pointwise [refHeads]
  congr 2 <;> exact Fin.ext (by simp only [row, col]; omega)

theorem refVals_at (b h : Fin 16) (j : Fin 4096) (d : Fin 64) : refVals V (ix4 b h j d) = val V b h j d := by
  pointwise [refVals, val]
  congr 2 <;> exact Fin.ext (by simp only []; omega)

theorem refMask_at (x j : Fin 4096) : refMask (ix2 x j) = if j ≤ x then 1#1 else 0#1 := by
  pointwise [refMask]
  rw [Softmax.sle_words (by omega) (by omega)]; rfl

theorem refScores_at (b h : Fin 16) (x j : Fin 4096) :
    refScores Q K (ix4 b h x j) = score Q K b h x j * ((Real.log 2 : ℝ) : EReal) := by
  pointwise [refScores]
  simp only [refHeads_at]
  have h : id (Host.log (F := Ideal) (constant S_ FTy.f32 1073741824#32)) ix0 = ((Real.log 2 : ℝ) : EReal) := by
    show Ideal.log (Ideal.ofBits FTy.f32 1073741824#32) = _
    rw [Softmax.two_word, Ideal.log_coe, if_neg (by norm_num)]
  rw [h]; rfl

theorem refMasked_at (z : FVec Ideal S16x16x4096x4096 .f32) (b h : Fin 16) (x j : Fin 4096) :
    refMasked z (ix4 b h x j) = if j ≤ x then z (ix4 b h x j) else ⊥ := by
  pointwise [refMasked]
  rw [refMask_at, Softmax.select_if]
  show (if j ≤ x then _ else Ideal.ofBits FTy.f32 4286578688#32) = _
  rw [Softmax.bot_word]

theorem refMax_at (z : FVec Ideal S16x16x4096x4096 .f32) (b h : Fin 16) (x : Fin 4096) :
    refMax z (ix3 b h x) = max ⊥ (Finset.univ.fold max ⊥ fun k => z (ix4 b h x k)) := by
  rw [refMax, maximumf_apply, hostMax_at]
  pointwise
  rw [Softmax.bot_word]

theorem refExp_at (z : FVec Ideal S16x16x4096x4096 .f32) (b h : Fin 16) (x j : Fin 4096) :
    refExp z (ix4 b h x j)
      = Ideal.exp (z (ix4 b h x j) - max ⊥ (Finset.univ.fold max ⊥ fun k => z (ix4 b h x k))) := by
  pointwise [refExp]
  rw [refMax_at]

theorem refProb_at (p : FVec Ideal S16x16x4096x4096 .f32) (b h : Fin 16) (x j : Fin 4096) :
    refProb p (ix4 b h x j) = Ideal.div (p (ix4 b h x j)) (∑ k, p (ix4 b h x k)) := by
  pointwise [refProb]

theorem refOut_at (b h : Fin 16) (x : Fin 4096) (d : Fin 64) :
    refOut Q K V (ix3 b x (⟨64 * h.val + d.val, by omega⟩ : Fin 1024))
      = ∑ j, refProb (refExp (refMasked (refScores Q K))) (ix4 b h x j) * val V b h j d := by
  pointwise [refOut]
  simp only [refVals_at]

end Cert.AttnRef

end
-- ==== Proof.AttnBlocks.lean ====
/-
  The attention's three input blocks at a grid point, as parts of the arguments: point `t` is batch `t / 32`, head group
  `t / 8 % 4` and query block `t % 8`. The call's operands are the arguments laid out anew.
-/
module

public import proofs.«01_k».proof.Proof.AttnOut
public import proofs.«01_k».proof.Proof.AttnRef
public import Idealize.ShloMosaic.Lib.Pointwise

@[expose] public section

set_option maxRecDepth 16384

noncomputable section

namespace Cert.AttnBlocks

open Cert.KernelIdeal Cert.KernelIdeal.Gen Idealize.ShloMosaic Idealize.ShloMosaic.TcCoe Idealize.SL.Sem
open Cert.AttnLoad Cert.KernelIdeal.Body
open Cert.AttnRef (row col)

variable (m : (ℓ : Loc nD τ sig) → Buf (Elt Ideal) ℓ) (c : Dev nD)

/-- The printed index maps, decided over the grid. -/
theorem maps : ∀ t : Fin cfg0.N,
    (win0_0.index t (0 : Fin 3) = t.val / 32 ∧ win0_0.index t (1 : Fin 3) = t.val % 8 ∧ win0_0.index t (2 : Fin 3) = t.val / 8 % 4)
    ∧ (win0_1.index t (0 : Fin 3) = t.val / 32 ∧ win0_1.index t (1 : Fin 3) = 0 ∧ win0_1.index t (2 : Fin 3) = t.val / 8 % 4)
    ∧ (win0_2.index t (0 : Fin 4) = t.val / 32 ∧ win0_2.index t (1 : Fin 4) = 0 ∧ win0_2.index t (2 : Fin 4) = t.val / 8 % 4
      ∧ win0_2.index t (3 : Fin 4) = 0)
    ∧ (win0_3.index t (0 : Fin 3) = t.val / 32 ∧ win0_3.index t (1 : Fin 3) = t.val % 8 ∧ win0_3.index t (2 : Fin 3) = t.val / 8 % 4)
    ∧ (grid0.coords t 2).val = t.val % 8 :=
  (by decide +kernel : ∀ t : Fin grid0.N, _)

theorem N_eq : cfg0.N = 512 := N_0

/-- The batch of point `t`. -/
def batch (t : Fin cfg0.N) : Fin 16 := ⟨t.val / 32, by have h := lt_of_lt_of_eq t.isLt N_eq; omega⟩
/-- The global number of its head `h`. -/
def head (t : Fin cfg0.N) (h : Fin 4) : Fin 16 := ⟨4 * (t.val / 8 % 4) + h.val, by omega⟩
/-- The position of its query row `r`. -/
def pos (t : Fin cfg0.N) (r : Fin 512) : Fin 4096 := ⟨512 * (t.val % 8) + r.val, by omega⟩

/-! ## The operands -/

theorem tokens_at (A : Vec Ideal S65536x2048 .bf16) (b : Fin 16) (x : Fin 4096) (l : Fin 2048) :
    shapeCast S16x4096x2048 A shapeCasts_S65536x2048_S16x4096x2048 (ix3 b x l) = A (ix2 (row b x) l) := by
  pointwise
  refine congrArg A ((ix2_inj _ _ _ _).2 ⟨?_, ?_⟩)
  · exact Fin.ext (by simp only [row]; omega)
  · exact Fin.ext (by simp only [])

theorem values_at (A : Vec Ideal S256x1024x256 .bf16) (b s : Fin 16) (y : Fin 1024) (l : Fin 256) :
    shapeCast S16x16x1024x256 A shapeCasts_S256x1024x256_S16x16x1024x256 (ix4 b s y l)
      = A (ix3 ⟨16 * b.val + s.val, by omega⟩ y l) := by
  pointwise
  refine congrArg A ((ix3_inj _ _ _ _ _ _).2 ⟨?_, ?_, ?_⟩)
  · exact Fin.ext (by simp only []; omega)
  · exact Fin.ext (by simp only [])
  · exact Fin.ext (by simp only [])

theorem V_q (b : Fin 16) (x : Fin 4096) (l : Fin 2048) :
    V m c main_v0 (ix3 b x l) = m ((c : Thread nD τ).loc main_arg0) (ix2 (row b x) l) := by
  have h : V m c main_v0 = shapeCast S16x4096x2048 (m ((c : Thread nD τ).loc main_arg0) : Vec Ideal S65536x2048 .bf16)
      shapeCasts_S65536x2048_S16x4096x2048 := by
    simp only [V, hostOps0]; after_results; rfl
  rw [h]
  exact tokens_at _ b x l

theorem V_k (b : Fin 16) (x : Fin 4096) (l : Fin 2048) :
    V m c main_v1 (ix3 b x l) = m ((c : Thread nD τ).loc main_arg1) (ix2 (row b x) l) := by
  have h : V m c main_v1 = shapeCast S16x4096x2048 (m ((c : Thread nD τ).loc main_arg1) : Vec Ideal S65536x2048 .bf16)
      shapeCasts_S65536x2048_S16x4096x2048 := by
    simp only [V, hostOps0]; after_results; rfl
  rw [h]
  exact tokens_at _ b x l

theorem V_v (b s : Fin 16) (y : Fin 1024) (l : Fin 256) :
    V m c main_v2 (ix4 b s y l) = m ((c : Thread nD τ).loc main_arg2) (ix3 ⟨16 * b.val + s.val, by omega⟩ y l) := by
  have h : V m c main_v2 = shapeCast S16x16x1024x256 (m ((c : Thread nD τ).loc main_arg2) : Vec Ideal S256x1024x256 .bf16)
      shapeCasts_S256x1024x256_S16x16x1024x256 := by
    simp only [V, hostOps0]; after_results; rfl
  rw [h]
  exact values_at _ b s y l

/-! ## The blocks -/

theorem blk0_at (t : Fin cfg0.N) (h : Fin 4) (r : Fin 512) (e : Fin 128) :
    (iblk m c 0 t : Vec Ideal S1x512x512 .bf16) (ix3 0 r (lane h e))
      = m ((c : Thread nD τ).loc main_arg0) (ix2 (row (batch t) (pos t r)) (col (head t h) e)) := by
  obtain ⟨⟨e0, e1, e2⟩, -⟩ := maps t
  rw [← V_q m c (batch t) (pos t r) (col (head t h) e)]
  unfold iblk
  rw [View.read_apply]
  show V m c main_v0 _ = _
  congr 1
  funext a; apply Fin.ext
  match a with
  | ⟨0, _⟩ => show win0_0.index t (0 : Fin 3) * 1 + 1 * 0 = t.val / 32; omega
  | ⟨1, _⟩ => show win0_0.index t (1 : Fin 3) * 512 + 1 * r.val = 512 * (t.val % 8) + r.val; omega
  | ⟨2, _⟩ => show win0_0.index t (2 : Fin 3) * 512 + 1 * (128 * h.val + e.val) = 128 * (4 * (t.val / 8 % 4) + h.val) + e.val; omega

theorem blk1_at (t : Fin cfg0.N) (h : Fin 4) (j : Fin 4096) (e : Fin 128) :
    (iblk m c 1 t : Vec Ideal S1x4096x512 .bf16) (ix3 0 j (lane h e))
      = m ((c : Thread nD τ).loc main_arg1) (ix2 (row (batch t) j) (col (head t h) e)) := by
  obtain ⟨-, ⟨e0, e1, e2⟩, -⟩ := maps t
  rw [← V_k m c (batch t) j (col (head t h) e)]
  unfold iblk
  rw [View.read_apply]
  show V m c main_v1 _ = _
  congr 1
  funext a; apply Fin.ext
  match a with
  | ⟨0, _⟩ => show win0_1.index t (0 : Fin 3) * 1 + 1 * 0 = t.val / 32; omega
  | ⟨1, _⟩ => show win0_1.index t (1 : Fin 3) * 4096 + 1 * j.val = j.val; omega
  | ⟨2, _⟩ => show win0_1.index t (2 : Fin 3) * 512 + 1 * (128 * h.val + e.val) = 128 * (4 * (t.val / 8 % 4) + h.val) + e.val; omega

theorem blk2_at (t : Fin cfg0.N) (h : Fin 4) (s : Fin 16) (d : Fin 64) (l : Fin 256) :
    (iblk m c 2 t : Vec Ideal S1x16x256x256 .bf16) (ix4 0 s ⟨64 * h.val + d.val, by omega⟩ l)
      = m ((c : Thread nD τ).loc main_arg2) (ix3 ⟨16 * (batch t).val + s.val, by omega⟩ ⟨64 * (head t h).val + d.val, by omega⟩ l) := by
  obtain ⟨-, -, ⟨e0, e1, e2, e3⟩, -⟩ := maps t
  rw [← V_v m c (batch t) s ⟨64 * (head t h).val + d.val, by omega⟩ l]
  unfold iblk
  rw [View.read_apply]
  show V m c main_v2 _ = _
  congr 1
  funext a; apply Fin.ext
  match a with
  | ⟨0, _⟩ => show win0_2.index t (0 : Fin 4) * 1 + 1 * 0 = t.val / 32; omega
  | ⟨1, _⟩ => show win0_2.index t (1 : Fin 4) * 16 + 1 * s.val = s.val; omega
  | ⟨2, _⟩ => show win0_2.index t (2 : Fin 4) * 256 + 1 * (64 * h.val + d.val) = 64 * (4 * (t.val / 8 % 4) + h.val) + d.val; omega
  | ⟨3, _⟩ => show win0_2.index t (3 : Fin 4) * 256 + 1 * l.val = l.val; omega

/-! ## Scores and values -/

/-- The score of key `J` for the query at position `x`, both of head `h` in batch `b`. -/
def keyG (Q K : Vec Ideal S65536x2048 .bf16) (b h : Fin 16) (x : Fin 4096) (J : ℕ) : EReal :=
  ∑ e, K (ix2 (row b (rowK J)) (col h e)) * Q (ix2 (row b x) (col h e))

/-- Feature `d` of the value of key `J`. -/
def valG (V : Vec Ideal S256x1024x256 .bf16) (b h : Fin 16) (d : Fin 64) (J : ℕ) : EReal :=
  V (ix3 ⟨16 * b.val + J / 256 % 16, by omega⟩ ⟨64 * h.val + d.val, by omega⟩ ⟨J % 256, Nat.mod_lt _ (by norm_num)⟩)

theorem keyS_blk (t : Fin cfg0.N) (h : Fin 4) (r : Fin 512) :
    keyS (iblk m c 0 t) (iblk m c 1 t) h r
      = keyG (m ((c : Thread nD τ).loc main_arg0)) (m ((c : Thread nD τ).loc main_arg1)) (batch t) (head t h) (pos t r) := by
  funext J
  unfold keyS keyG
  refine Finset.sum_congr rfl fun e _ => ?_
  rw [blk0_at, blk1_at]

theorem valV_blk (t : Fin cfg0.N) (h : Fin 4) (d : Fin 64) :
    valV (iblk m c 2 t) h d = valG (m ((c : Thread nD τ).loc main_arg2)) (batch t) (head t h) d := by
  funext J
  unfold valV valG
  rw [blk2_at]

end Cert.AttnBlocks

end
-- ==== Proof.AttnValue.lean ====
/-
  The attention call's result array over the extended reals, when every score is a real number: at each element, the
  weighted mean of the values up to the query's own position, with weights the powers of two of the scores.
-/
module

public import proofs.«01_k».proof.Proof.AttnBlocks
public import proofs.«01_k».proof.Proof.FrameIdeal
public import Idealize.ShloMosaic.Lib.Pipeline.Value

@[expose] public section

set_option maxRecDepth 16384

noncomputable section

namespace Cert.AttnValue

open Cert.KernelIdeal Cert.KernelIdeal.Gen Idealize.ShloMosaic Idealize.ShloMosaic.TcCoe Idealize.SL.Sem
open Cert.AttnLoad Cert.AttnBlocks Cert.KernelIdeal.Body
open Idealize.ShloMosaic.Pipeline (Dat)

variable (m : (ℓ : Loc nD τ sig) → Buf (Elt Ideal) ℓ) (ρ : Dev nD → PrngReg) (c : Dev nD)

/-- The result at batch `b`, position `x`, column `o`: head `o / 64`, feature `o % 64`. -/
def at_ (Q K : Vec Ideal S65536x2048 .bf16) (V : Vec Ideal S256x1024x256 .bf16) (b : Fin 16) (x : Fin 4096) (o : Fin 1024) : EReal :=
  AttnState.attn (keyG Q K b ⟨o.val / 64, by omega⟩ x) (valG V b ⟨o.val / 64, by omega⟩ ⟨o.val % 64, Nat.mod_lt _ (by norm_num)⟩) x.val

/-- The result array. -/
def G (c : Dev nD) : Buf (Elt Ideal) ((c : Thread nD τ).loc main_v3) := fun i =>
  at_ (m ((c : Thread nD τ).loc main_arg0)) (m ((c : Thread nD τ).loc main_arg1)) (m ((c : Thread nD τ).loc main_arg2)) (i 0) (i 1) (i 2)

/-- What the body leaves in the output's buffer is what its store writes. -/
theorem out_eq (t : Fin cfg0.N) :
    outsAt0 m c t = k0_pay7 (bodyRun c (grid0.coords t) (ms0_0 t) (hs0_0 t) (ms0_1 t) (hs0_1 t) (ms0_2 t) (hs0_2 t)
      (ms0_3 t) (hs0_3 t) (iblk m c 0 t) (iblk m c 1 t) (iblk m c 2 t)).1 := by
  have hz : (![0, 0, 0] : Fin S1x512x256.rank → ℕ) = fun _ => 0 := by
    funext a; match a with | ⟨0, _⟩ => rfl | ⟨1, _⟩ => rfl | ⟨2, _⟩ => rfl
  unfold outsAt0 out0
  rw [View.read_writes_eq_canon _ _ _ (cover _ _ _ _ _ _ _ _ _ _ _ _ _)]
  unfold Body.piece
  simp only [View.canon_unit_zero (S := S1x512x256) hz]

/-- The body's result at point `t`, at row `r`, head `h`, feature `d` of its block. -/
theorem out_blk (hσ : ∀ b h x J, ∃ y : ℝ, keyG (m ((c : Thread nD τ).loc main_arg0)) (m ((c : Thread nD τ).loc main_arg1)) b h x J = (y : EReal))
    (t : Fin cfg0.N) (r : Fin 512) (h : Fin 4) (d : Fin 64) :
    outsAt0 m c t (ix3 0 r ⟨64 * h.val + d.val, by omega⟩)
      = AttnState.attn (keyG (m ((c : Thread nD τ).loc main_arg0)) (m ((c : Thread nD τ).loc main_arg1)) (batch t) (head t h) (pos t r))
          (valG (m ((c : Thread nD τ).loc main_arg2)) (batch t) (head t h) d) (pos t r).val := by
  rw [out_eq]
  refine (AttnOut.out_at c (grid0.coords t) (ms0_0 t) (hs0_0 t) (ms0_1 t) (hs0_1 t) (ms0_2 t) (hs0_2 t)
      (ms0_3 t) (hs0_3 t) (iblk m c 0 t) (iblk m c 1 t) (iblk m c 2 t) r h ?_ d).trans ?_
  · intro J
    rw [keyS_blk]
    exact hσ _ _ _ _
  · rw [keyS_blk, valV_blk, (maps t).2.2.2.2]
    rfl

/-- What a point writes back is its block of the result array. -/
theorem flushed_eq (hσ : ∀ b h x J, ∃ y : ℝ, keyG (m ((c : Thread nD τ).loc main_arg0)) (m ((c : Thread nD τ).loc main_arg1)) b h x J = (y : EReal))
    (t : Fin cfg0.N) : (dats m 0 c).flushed 3 t = ((cfg0.win 3).blk t).view.read (Elt Ideal) (G m c) := by
  show (cfg0.win 3).cut (grid0.coords t) ((dats m 0 c).after 3 t) = _
  rw [after0_3]
  obtain ⟨-, -, -, ⟨e0, e1, e2⟩, -⟩ := maps t
  funext y
  have hy0 : (y 0).val < 1 := (y 0).isLt
  have hy1 : (y 1).val < 512 := (y 1).isLt
  have hy2 : (y 2).val < 256 := (y 2).isLt
  have hb0 : (((cfg0.win 3).blk t).view.emb y 0).val = win0_3.index t (0 : Fin 3) * 1 + 1 * (y 0).val := rfl
  have hb1 : (((cfg0.win 3).blk t).view.emb y 1).val = win0_3.index t (1 : Fin 3) * 512 + 1 * (y 1).val := rfl
  have hb2 : (((cfg0.win 3).blk t).view.emb y 2).val = win0_3.index t (2 : Fin 3) * 256 + 1 * (y 2).val := rfl
  rw [View.read_apply]
  have hy : y = ix3 0 ⟨(y 1).val, hy1⟩ ⟨64 * ((y 2).val / 64) + (y 2).val % 64, by omega⟩ := by
    funext a; apply Fin.ext
    match a with
    | ⟨0, _⟩ => show (y 0).val = 0; omega
    | ⟨1, _⟩ => rfl
    | ⟨2, _⟩ => show (y 2).val = 64 * ((y 2).val / 64) + (y 2).val % 64; omega
  have hl : (cfg0.win 3).cut (grid0.coords t) (outsAt0 m c t) y = outsAt0 m c t y := rfl
  rw [hl]
  refine (congrArg (outsAt0 m c t) hy).trans ((out_blk m c hσ t ⟨(y 1).val, hy1⟩ ⟨(y 2).val / 64, by omega⟩
    ⟨(y 2).val % 64, Nat.mod_lt _ (by norm_num)⟩).trans ?_)
  have q0 : ((cfg0.win 3).blk t).view.emb y 0 = batch t := Fin.ext (by rw [hb0]; show _ = t.val / 32; omega)
  have q1 : ((cfg0.win 3).blk t).view.emb y 1 = pos t ⟨(y 1).val, hy1⟩ := Fin.ext (by rw [hb1]; show _ = 512 * (t.val % 8) + (y 1).val; omega)
  have q2 : (⟨(((cfg0.win 3).blk t).view.emb y 2).val / 64, by rw [hb2]; omega⟩ : Fin 16) = head t ⟨(y 2).val / 64, by omega⟩ :=
    Fin.ext (by show (((cfg0.win 3).blk t).view.emb y 2).val / 64 = 4 * (t.val / 8 % 4) + (y 2).val / 64; rw [hb2]; omega)
  have q3 : (⟨(((cfg0.win 3).blk t).view.emb y 2).val % 64, Nat.mod_lt _ (by norm_num)⟩ : Fin 64) = ⟨(y 2).val % 64, Nat.mod_lt _ (by norm_num)⟩ :=
    Fin.ext (by show (((cfg0.win 3).blk t).view.emb y 2).val % 64 = (y 2).val % 64; rw [hb2]; omega)
  show _ = AttnState.attn (keyG _ _ (((cfg0.win 3).blk t).view.emb y 0) ⟨(((cfg0.win 3).blk t).view.emb y 2).val / 64, _⟩ (((cfg0.win 3).blk t).view.emb y 1))
    (valG _ (((cfg0.win 3).blk t).view.emb y 0) ⟨(((cfg0.win 3).blk t).view.emb y 2).val / 64, _⟩ ⟨(((cfg0.win 3).blk t).view.emb y 2).val % 64, _⟩)
    (((cfg0.win 3).blk t).view.emb y 1).val
  rw [q0, q1, q2, q3]

/-- An index is in a point's block when each of its coordinates is. -/
theorem mem_blk (t : Fin cfg0.N) (i : S16x4096x1024.Idx) :
    i ∈ ((cfg0.win 3).blk t).view.set ↔ ∀ a : Fin 3, win0_3.index t a * S1x512x256.size a ≤ (i a).val
      ∧ (i a).val < win0_3.index t a * S1x512x256.size a + S1x512x256.size a := by
  show i ∈ ((View.whole main_v3).slice (win0_3.rect t)).set ↔ _
  rw [View.set_slice_whole, Rect.mem_set_unit]
  exact Iff.rfl

/-- The blocks tile the array. -/
theorem covered (i : S16x4096x1024.Idx) :
    ∃ t : Fin cfg0.N, (cfg0.win 3).flush t = true ∧ i ∈ ((cfg0.win 3).blk t).view.set := by
  have h0 : (i 0).val < 16 := (i 0).isLt
  have h1 : (i 1).val < 4096 := (i 1).isLt
  have h2 : (i 2).val < 1024 := (i 2).isLt
  refine ⟨⟨32 * (i 0).val + 8 * ((i 2).val / 256) + (i 1).val / 512, by rw [N_eq]; omega⟩, flush0_3 _, ?_⟩
  rw [mem_blk]
  obtain ⟨-, -, -, ⟨e0, e1, e2⟩, -⟩ := maps ⟨32 * (i 0).val + 8 * ((i 2).val / 256) + (i 1).val / 512, by rw [N_eq]; omega⟩
  intro a
  match a with
  | ⟨0, _⟩ => show win0_3.index _ (0 : Fin 3) * 1 ≤ (i 0).val ∧ (i 0).val < win0_3.index _ (0 : Fin 3) * 1 + 1; rw [e0]; dsimp only; omega
  | ⟨1, _⟩ => show win0_3.index _ (1 : Fin 3) * 512 ≤ (i 1).val ∧ (i 1).val < win0_3.index _ (1 : Fin 3) * 512 + 512; rw [e1]; dsimp only; omega
  | ⟨2, _⟩ => show win0_3.index _ (2 : Fin 3) * 256 ≤ (i 2).val ∧ (i 2).val < win0_3.index _ (2 : Fin 3) * 256 + 256; rw [e2]; dsimp only; omega

/-- The array after the run. -/
theorem final (hσ : ∀ b h x J, ∃ y : ℝ, keyG (m ((c : Thread nD τ).loc main_arg0)) (m ((c : Thread nD τ).loc main_arg1)) b h x J = (y : EReal)) :
    (dats m 0 c).arrAt 3 cfg0.N = G m c :=
  (dats m 0 c).arrAt_eq_of_cover 3 _ (fun t _ => flushed_eq m c hσ t) covered

theorem kept_main_arg0 (r : PUnit × MemSt nD τ sig (Elt Ideal)) (h : Pipeline.FramePost cfgs (dats m) 0 (V m) r) (c : Dev nD) :
    r.2.mem ((c : Thread nD τ).loc main_arg0) = m ((c : Thread nD τ).loc main_arg0) :=
  ((h c).2 main_arg0 (Pipeline.mem_restRefs_of main_arg0 (by decide) (by decide))).trans (V_main_arg0 m c)
theorem kept_main_arg1 (r : PUnit × MemSt nD τ sig (Elt Ideal)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)
theorem kept_main_arg2 (r : PUnit × MemSt nD τ sig (Elt Ideal)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- The run, read: the result array is `G`, and the arguments are as launched. -/
theorem run (hσ : ∀ (c : Dev nD) b h x J, ∃ y : ℝ,
      keyG (m ((c : Thread nD τ).loc main_arg0)) (m ((c : Thread nD τ).loc main_arg1)) b h x J = (y : EReal)) :
    θ_run defs (onTc (τ := τ) (main (F := Ideal))) ⟨m, fun _ => 0, ρ⟩ fun r => ∀ c : Dev nD,
      r.2.mem ((c : Thread nD τ).loc main_v3) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 3).trans (final m c (hσ c)), kept_main_arg0 m r h c, kept_main_arg1 m r h c,
    kept_main_arg2 m r h c⟩) (run_main m ρ)

end Cert.AttnValue

end
-- ==== Proof.AttnFinite.lean ====
/-
  The precondition: every entry of the queries and of the keys is a real number, so every score is.
-/
module

public import proofs.«01_k».proof.Defs
public import proofs.«01_k».proof.Proof.AttnBlocks
public import Idealize.ShloMosaic.Lib.ReduceAll
public import Idealize.ShloMosaic.Lib.Pointwise

@[expose] public section

set_option maxRecDepth 16384

noncomputable section

namespace Cert.AttnFinite

open Idealize.ShloMosaic Idealize.ShloMosaic.TcCoe

/-- The predicate's side conditions. -/
theorem facts : Cert.Pre_finite.Facts where
  bitsLt_bf16_f32 := by decide
  bcast_S_S65536x2048 := by decide
  reducesTo_S65536x2048_S_d0_1 := by decide
  h_S_ := by decide

/-- An extended real of magnitude below infinity is a real number. -/
theorem real_of_abs (x : EReal) (h : max x (-x) < ⊤) : ∃ y : ℝ, x = (y : EReal) := by
  induction x with
  | bot => simp at h
  | coe y => exact ⟨y, rfl⟩
  | top => simp at h

open Cert.Pre_finite

/-- The predicate's comparison at an index. -/
theorem cmp_at (h1 : FTy.bits .bf16 < FTy.bits .f32) (h2 : S_.BroadcastsInDim S65536x2048 (![] : Fin 0 → Fin S65536x2048.rank))
    (A : FVec Ideal S65536x2048 .bf16) (i : Fin 65536) (j : Fin 2048)
    (h : cmpf .olt (Host.absf (extf .f32 A h1)) (broadcastInDim S65536x2048 ![] h2 (constant S_ .f32 0x7F800000#32)) (ix2 i j) = 1#1) :
    ∃ y : ℝ, A (ix2 i j) = (y : EReal) := by
  apply real_of_abs
  revert h
  pointwise
  intro h
  rw [Softmax.top_word] at h
  by_contra hn
  rw [decide_eq_false (show ¬ FloatOps.absf (F := Ideal) (φ := .f32) (A (ix2 i j)) < ⊤ from hn)] at h
  exact absurd h (by decide)

/-- The predicate holds: the queries and the keys are real. -/
theorem real_of_pre [Cert.Pre_finite.Facts] (Q K : Vec Ideal S65536x2048 .bf16) (V : Vec Ideal S256x1024x256 .bf16)
    (h : Cert.Pre_finite.fn (F := Ideal) Q K V = fun _ => 1#1) :
    (∀ i j, ∃ y : ℝ, Q (ix2 i j) = (y : EReal)) ∧ ∀ i j, ∃ y : ℝ, K (ix2 i j) = (y : EReal) := by
  have andi_one (a b : BitVec 1) : IntOp.andi a b = 1#1 ↔ a = 1#1 ∧ b = 1#1 := by revert a b; decide
  have e := congrFun h ix0
  simp only [Cert.Pre_finite.fn] at e
  replace e := (andi_one _ _).1 e
  exact ⟨fun i j => cmp_at _ _ _ i j (Host.reduce_andi_all _ _ _ _ _ e.1 _), fun i j => cmp_at _ _ _ i j (Host.reduce_andi_all _ _ _ _ _ e.2 _)⟩

/-- So every score is real. -/
theorem scores_real (Q K : Vec Ideal S65536x2048 .bf16) (hQ : ∀ i j, ∃ y : ℝ, Q (ix2 i j) = (y : EReal))
    (hK : ∀ i j, ∃ y : ℝ, K (ix2 i j) = (y : EReal)) (b h : Fin 16) (x : Fin 4096) (J : ℕ) :
    ∃ y : ℝ, AttnBlocks.keyG Q K b h x J = (y : EReal) := by
  choose q hq using hQ
  choose k hk using hK
  refine ⟨∑ e, k (AttnRef.row b (AttnLoad.rowK J)) (AttnRef.col h e) * q (AttnRef.row b x) (AttnRef.col h e), ?_⟩
  unfold AttnBlocks.keyG
  rw [Softmax.coe_sum]
  refine Finset.sum_congr rfl fun e _ => ?_
  rw [hq, hk, EReal.coe_mul]

end Cert.AttnFinite

end
-- ==== Proof.AttnClaim.lean ====
/-
  The attention half's claims: the frames, and the equality with the reference over the extended reals when the queries
  and the keys are real.
-/
module

public import proofs.«01_k».proof.Defs
public import proofs.«01_k».proof.Proof.AttnValue
public import proofs.«01_k».proof.Proof.AttnFinite
public import proofs.«01_k».proof.Proof.AttnRef
public import Idealize.ShloMosaic.Lib.Quiescent

@[expose] public section

set_option maxRecDepth 16384

noncomputable section

namespace Cert.AttnClaim

open Idealize.ShloMosaic Idealize.ShloMosaic.TcCoe Idealize.SL.Sem
open Cert.AttnRef Cert.AttnBlocks
open Cert.ReferenceIdeal (S65536x2048 S256x1024x256)

variable (Q K : Vec Ideal S65536x2048 .bf16) (V : Vec Ideal S256x1024x256 .bf16)

/-- The reference's score is the kernel's, factors exchanged. -/
theorem score_eq (b h : Fin 16) (x j : Fin 4096) : score Q K b h x j = keyG Q K b h x j.val := by
  unfold score keyG
  refine Finset.sum_congr rfl fun e _ => ?_
  rw [mul_comm, show AttnLoad.rowK j.val = j from Fin.ext (Nat.mod_eq_of_lt j.isLt)]

/-- The reference's values are the kernel's. -/
theorem val_eq (b h : Fin 16) (j : Fin 4096) (d : Fin 64) : val V b h j d = valG V b h d j.val := by
  unfold val valG
  refine congrArg V ((ix3_inj _ _ _ _ _ _).2 ⟨Fin.ext ?_, rfl, rfl⟩)
  show 16 * b.val + j.val / 256 = 16 * b.val + j.val / 256 % 16
  omega

/-- The reference's result, when the scores are real: the weighted mean of the values. -/
theorem ref_at (b h : Fin 16) (x : Fin 4096) (d : Fin 64) (hσ : ∀ J, ∃ y : ℝ, keyG Q K b h x J = (y : EReal)) :
    refOut Q K V (ix3 b x (⟨64 * h.val + d.val, by omega⟩ : Fin 1024))
      = AttnState.attn (keyG Q K b h x) (valG V b h d) x.val := by
  have hz : ∀ j : Fin 4096, refMasked (refScores Q K) (ix4 b h x j)
      = (if j.val ≤ x.val then keyG Q K b h x j.val else ⊥) * ((Real.log 2 : ℝ) : EReal) := fun j => by
    rw [refMasked_at, refScores_at, score_eq]
    by_cases hj : j.val ≤ x.val
    · rw [if_pos hj, if_pos (show j ≤ x from hj)]
    · rw [if_neg hj, if_neg (show ¬ j ≤ x from hj), EReal.bot_mul_coe_of_pos (Real.log_pos (by norm_num))]
  have ht : ∀ j : Fin 4096, refMasked (refScores Q K) (ix4 b h x j) < ⊤ := fun j => by
    rw [hz]
    by_cases hj : j.val ≤ x.val
    · obtain ⟨y, hy⟩ := hσ j.val
      rw [if_pos hj, hy, ← EReal.coe_mul]; exact EReal.coe_lt_top _
    · rw [if_neg hj, EReal.bot_mul_coe_of_pos (Real.log_pos (by norm_num))]; exact bot_lt_top
  have hx : refMasked (refScores Q K) (ix4 b h x x) ≠ ⊥ := by
    obtain ⟨y, hy⟩ := hσ x.val
    rw [hz, if_pos le_rfl, hy, ← EReal.coe_mul]; exact EReal.coe_ne_bot _
  obtain ⟨μ, hμ⟩ : ∃ μ : ℝ, max ⊥ (Finset.univ.fold max ⊥ fun k => refMasked (refScores Q K) (ix4 b h x k)) = (μ : EReal) := by
    rw [max_eq_right bot_le]
    exact Softmax.fold_max_real _ ht ⟨x, hx⟩
  rw [refOut_at]
  simp only [refProb_at, refExp_at]
  simp only [hμ]
  simp only [hz, val_eq]
  have hs : ∀ j : Fin 4096, Softmax.Weighs (if j.val ≤ x.val then keyG Q K b h x j.val else ⊥)
      (AttnState.wt (keyG Q K b h x) x.val j.val) := fun j => AttnState.weighs_masked (hσ j.val)
  have p := Softmax.plain hs (fun j => valG V b h d j.val) (AttnState.total_pos (keyG Q K b h x) x.val) μ
  unfold AttnState.attn
  exact p

/-- The reference's result array is the kernel's. -/
theorem ref_eq (hQ : ∀ i j, ∃ y : ℝ, Q (ix2 i j) = (y : EReal)) (hK : ∀ i j, ∃ y : ℝ, K (ix2 i j) = (y : EReal))
    (b : Fin 16) (x : Fin 4096) (o : Fin 1024) : refOut Q K V (ix3 b x o) = AttnValue.at_ Q K V b x o := by
  have e : o = (⟨64 * (⟨o.val / 64, by omega⟩ : Fin 16).val + (⟨o.val % 64, Nat.mod_lt _ (by norm_num)⟩ : Fin 64).val, by
      show 64 * (o.val / 64) + o.val % 64 < 1024; omega⟩ : Fin 1024) :=
    Fin.ext (by show o.val = 64 * (o.val / 64) + o.val % 64; omega)
  refine (congrArg (fun z => refOut Q K V (ix3 b x z)) e).trans ?_
  exact ref_at Q K V b _ x _ fun J => AttnFinite.scores_real Q K hQ hK _ _ _ J

/-- The reference ends, with its arguments unchanged and no counters left. -/
theorem frame_ref : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- Kernel and reference end with the same array. -/
theorem value [Cert.Pre_finite.Facts] : Cert.algebraic_KernelIdeal_ReferenceIdeal_pre_finite := by
  intro m ρ m' ρ' hpre hag
  have hr := fun c => AttnFinite.real_of_pre _ _ _ (hpre c)
  refine ⟨fun c => AttnValue.G m c, AttnValue.run m ρ fun c b h x J =>
    AttnFinite.scores_real _ _ (hr c).1 (hr c).2 b h x J, ?_⟩
  refine (θ_run Cert.ReferenceIdeal.defs _ _).mono (fun r h c => ⟨(h c).1.trans ?_, (h c).2⟩)
    (Cert.ReferenceIdeal.Value.run (F := Ideal) m' ρ')
  obtain ⟨e0, e1, e2⟩ := hag c
  refine (res_eq m' c).trans ?_
  rw [e0, e1, e2]
  funext i
  rw [← ix3_eta (n0 := 16) (n1 := 4096) (n2 := 1024) i]
  exact ref_eq _ _ _ (hr c).1 (hr c).2 (i 0) (i 1) (i 2)

end Cert.AttnClaim

end
-- ==== Proof.ProjBody.lean ====
/-
  The projection call's body, read as values: one block of 512 rows is normalised, multiplied by the weights 256
  columns at a time, and the columns of queries and keys are normalised head by head; each product is stored as two
  halves of 128 columns.
-/
module

public import proofs.«01_k».proof.Defs
public import proofs.«01_k».proof.Proof.Gen.Kernel3Ideal.Value
public import Idealize.ShloMosaic.Lib.Pipeline.Value
public import Idealize.ShloMosaic.Lib.Tactic
public import Idealize.ShloMosaic.Lib.Pointwise

@[expose] public section

set_option maxRecDepth 16384

noncomputable section

namespace Cert.Kernel3Ideal.Proj

open Cert.Kernel3Ideal Cert.Kernel3Ideal.Gen Idealize.ShloMosaic Idealize.ShloMosaic.TcCoe Idealize.SL.Sem

/-- The all-zero offsets of a whole-buffer access. -/
theorem hz : (![0, 0] : Fin 2 → Nat) = fun _ => 0 := funext fun a => by fin_cases a <;> rfl

section Chunks

variable {F : FTy → Type} [FloatOps F]

/-- 256 columns of the product. -/
def prod (X : Vec F S512x1024 .bf16) (W : Vec F S1024x256 .bf16) : FVec F S512x256 .f32 :=
  matmul dot_S512x1024_S1024x256_S512x256_1_0_0_1_n_n none X W (constant S512x256 .f32 0x00000000#32)

/-- 256 columns normalised head by head, and scaled by their gains. -/
def headed (Y : FVec F S512x256 .f32) (E : Vec F S256x256 .bf16) (g : Vec F S1x256 .f32) : FVec F S512x256 .f32 :=
  mulf (mulf Y (rsqrt (addf
    (addf
      (matmul dot_S512x256_S256x256_S512x256_1_0_0_1_n_n none (truncf .bf16 (mulf Y Y) bitsLt_bf16_f32)
        (shapeCast S256x256 E shapeCasts_S256x256_S256x256) (constant S512x256 .f32 0x00000000#32))
      (matmul dot_S512x256_S256x256_S512x256_1_0_0_1_n_n none
        (truncf .bf16 (subf (mulf Y Y) (extf .f32 (truncf .bf16 (mulf Y Y) bitsLt_bf16_f32) bitsLt_bf16_f32)) bitsLt_bf16_f32)
        (shapeCast S256x256 E shapeCasts_S256x256_S256x256) (constant S512x256 .f32 0x00000000#32)))
    (broadcast S512x256 (Scalar.ofBits .f32 0x388637BD#32)))))
    (broadcastTo S512x256 (shapeCast S1x256 g shapeCasts_S1x256_S1x256) broadcasts_S1x256_S512x256)

/-- The first 128 of 256 columns. -/
def half0 (Z : FVec F S512x256 .f32) : FVec F S512x128 .bf16 :=
  truncf .bf16 (extractStridedSlice S512x128 ![0, 0] Z slices_S512x256_o0_0_S512x128) bitsLt_bf16_f32

/-- The last 128 of 256 columns. -/
def half1 (Z : FVec F S512x256 .f32) : FVec F S512x128 .bf16 :=
  truncf .bf16 (extractStridedSlice S512x128 ![0, 128] Z slices_S512x256_o0_128_S512x128) bitsLt_bf16_f32

end Chunks

section Entries

variable (x0 : Vec Ideal S512x1024 .f32) (x1 : Vec Ideal S1x1024 .f32) (X : Vec Ideal S512x1024 .bf16)
  (W : Vec Ideal S1024x3072 .bf16) (g : Vec Ideal S2x1024 .f32) (E : Vec Ideal S256x256 .bf16)

/-- One entry of the product. -/
def col (r : Fin 512) (q : Fin 3072) : EReal := ∑ k : Fin 1024, X (ix2 r k) * W (ix2 k q)

/-- One entry of the normalised columns: column `p` of the chunk at column `o`, its gain at row `a`, column `b + p`. -/
def hcol (o a b : Nat) (ho : o + 256 ≤ 3072) (ha : a < 2) (hb : b + 256 ≤ 1024) (r : Fin 512) (p : Fin 256) : EReal :=
  col X W r ⟨o + p.val, by omega⟩
    * Ideal.rsqrt ((∑ l : Fin 256, (col X W r ⟨o + l.val, by omega⟩ * col X W r ⟨o + l.val, by omega⟩) * E (ix2 l p))
      + (∑ l : Fin 256, (col X W r ⟨o + l.val, by omega⟩ * col X W r ⟨o + l.val, by omega⟩
          - col X W r ⟨o + l.val, by omega⟩ * col X W r ⟨o + l.val, by omega⟩) * E (ix2 l p))
      + FloatOps.ofBits (F := Ideal) .f32 0x388637BD#32)
    * g (ix2 ⟨a, ha⟩ ⟨b + p.val, by omega⟩)

theorem half0_at (Z : FVec Ideal S512x256 .f32) (r : Fin 512) (n : Fin 128) :
    half0 Z (ix2 r n) = Z (ix2 r ⟨n.val, by omega⟩) := by
  pointwise [half0]

theorem half1_at (Z : FVec Ideal S512x256 .f32) (r : Fin 512) (n : Fin 128) :
    half1 Z (ix2 r n) = Z (ix2 r ⟨128 + n.val, by omega⟩) := by
  pointwise [half1]

theorem ldW_at (o : Nat) (ho : o + 256 ≤ 3072)
    (inb : ∀ a, (![0, o] : Fin 2 → Nat) a + (![1024, 256] : Fin 2 → Nat) a ≤ S1024x3072.size a) (k : Fin 1024) (p : Fin 256) :
    View.ld W (Rect.unit ![0, o] ![1024, 256] inb) (ix2 k p) = W (ix2 k ⟨o + p.val, by omega⟩) := by
  refine congrArg W (funext fun a => Fin.ext ?_)
  match a with
  | ⟨0, _⟩ => show 0 + 1 * k.val = k.val; omega
  | ⟨1, _⟩ => show o + 1 * p.val = o + p.val; omega

theorem ldG_at (a b : Nat) (ha : a < 2) (hb : b + 256 ≤ 1024)
    (inb : ∀ e, (![a, b] : Fin 2 → Nat) e + (![1, 256] : Fin 2 → Nat) e ≤ S2x1024.size e) (p : Fin 256) :
    View.ld g (Rect.unit ![a, b] ![1, 256] inb) (ix2 0 p) = g (ix2 ⟨a, ha⟩ ⟨b + p.val, by omega⟩) := by
  refine congrArg g (funext fun e => Fin.ext ?_)
  match e with
  | ⟨0, _⟩ => show a + 1 * 0 = a; omega
  | ⟨1, _⟩ => show b + 1 * p.val = b + p.val; omega

theorem prod_at (V : Vec Ideal S1024x256 .bf16) (r : Fin 512) (p : Fin 256) :
    prod X V (ix2 r p) = ∑ k : Fin 1024, X (ix2 r k) * V (ix2 k p) := by
  pointwise [prod]

theorem headed_at (Y : FVec Ideal S512x256 .f32) (v : Vec Ideal S1x256 .f32) (r : Fin 512) (p : Fin 256) :
    headed Y E v (ix2 r p) = Y (ix2 r p)
      * Ideal.rsqrt ((∑ l : Fin 256, (Y (ix2 r l) * Y (ix2 r l)) * E (ix2 l p))
        + (∑ l : Fin 256, (Y (ix2 r l) * Y (ix2 r l) - Y (ix2 r l) * Y (ix2 r l)) * E (ix2 l p))
        + FloatOps.ofBits (F := Ideal) .f32 0x388637BD#32) * v (ix2 0 p) := by
  pointwise [headed]

theorem prod_ld (o : Nat) (ho : o + 256 ≤ 3072)
    (inb : ∀ a, (![0, o] : Fin 2 → Nat) a + (![1024, 256] : Fin 2 → Nat) a ≤ S1024x3072.size a) (r : Fin 512) (p : Fin 256) :
    prod X (View.ld W (Rect.unit ![0, o] ![1024, 256] inb)) (ix2 r p) = col X W r ⟨o + p.val, by omega⟩ := by
  rw [prod_at]
  exact Finset.sum_congr rfl fun k _ => congrArg (X (ix2 r k) * ·) (ldW_at W o ho inb k p)

theorem headed_ld (o a b : Nat) (ho : o + 256 ≤ 3072) (ha : a < 2) (hb : b + 256 ≤ 1024)
    (inb : ∀ a, (![0, o] : Fin 2 → Nat) a + (![1024, 256] : Fin 2 → Nat) a ≤ S1024x3072.size a)
    (inb' : ∀ e, (![a, b] : Fin 2 → Nat) e + (![1, 256] : Fin 2 → Nat) e ≤ S2x1024.size e) (r : Fin 512) (p : Fin 256) :
    headed (prod X (View.ld W (Rect.unit ![0, o] ![1024, 256] inb))) E (View.ld g (Rect.unit ![a, b] ![1, 256] inb')) (ix2 r p)
      = hcol X W g E o a b ho ha hb r p := by
  rw [headed_at, ldG_at g a b ha hb inb' p]
  simp only [prod_ld X W o ho inb]
  rfl

/-- The block the body leaves, entry by entry: the first 2048 columns normalised by heads, the rest the product. -/
def entry (r : Fin 512) (q : Fin 3072) : EReal :=
  if h : q.val < 2048 then
    hcol X W g E (q.val / 256 * 256) (q.val / 1024) (q.val / 256 * 256 % 1024) (by omega) (by omega) (by omega) r
      ⟨q.val % 256, by omega⟩
  else col X W r q

theorem hcol_congr {o a b o' a' b' : Nat} (h1 : o = o') (h2 : a = a') (h3 : b = b') (ho) (ha) (hb) (ho') (ha') (hb')
    (r : Fin 512) {p p' : Fin 256} (hp : p = p') :
    hcol X W g E o a b ho ha hb r p = hcol X W g E o' a' b' ho' ha' hb' r p' := by
  subst h1 h2 h3 hp; rfl

/-- The block at an index of a piece. -/
theorem emb_piece (s : Nat) (hs : s + 128 ≤ 3072)
    (inb : ∀ a, (![0, s] : Fin 2 → Nat) a + (![512, 128] : Fin 2 → Nat) a ≤ S512x3072.size a) (r : Fin 512) (n : Fin 128) :
    (Rect.unit (s := S512x3072) ![0, s] ![512, 128] inb).emb (ix2 r n) = ix2 r (⟨s + n.val, by omega⟩ : Fin 3072) := by
  refine funext fun a => Fin.ext ?_
  match a with
  | ⟨0, _⟩ => show 0 + 1 * r.val = r.val; omega
  | ⟨1, _⟩ => show s + 1 * n.val = s + n.val; omega

/-- The block as a function of its index. -/
def block : S512x3072.Idx → EReal := fun y => entry X W g E (y 0) (y 1)

theorem block_emb (s : Nat) (hs : s + 128 ≤ 3072)
    (inb : ∀ a, (![0, s] : Fin 2 → Nat) a + (![512, 128] : Fin 2 → Nat) a ≤ S512x3072.size a) (r : Fin 512) (n : Fin 128) :
    block X W g E ((Rect.unit (s := S512x3072) ![0, s] ![512, 128] inb).emb (ix2 r n))
      = entry X W g E r ⟨s + n.val, by omega⟩ := by
  rw [emb_piece s hs inb r n]; rfl

/-- A first half of normalised columns. -/
theorem piece_h0 (o a b : Nat) (hm : o % 256 = 0) (ha : a < 2) (hb : b + 256 ≤ 1024) (hab : o = 1024 * a + b)
    (inb : ∀ a, (![0, o] : Fin 2 → Nat) a + (![1024, 256] : Fin 2 → Nat) a ≤ S1024x3072.size a)
    (inb' : ∀ e, (![a, b] : Fin 2 → Nat) e + (![1, 256] : Fin 2 → Nat) e ≤ S2x1024.size e)
    (inb'' : ∀ a, (![0, o] : Fin 2 → Nat) a + (![512, 128] : Fin 2 → Nat) a ≤ S512x3072.size a) (x : S512x128.Idx) :
    half0 (headed (prod X (View.ld W (Rect.unit ![0, o] ![1024, 256] inb))) E (View.ld g (Rect.unit ![a, b] ![1, 256] inb'))) x
      = block X W g E ((Rect.unit (s := S512x3072) ![0, o] ![512, 128] inb'').emb x) := by
  obtain ⟨r, n, rfl⟩ : ∃ (r : Fin 512) (n : Fin 128), x = ix2 r n := ⟨x 0, x 1, (ix2_eta (n0 := 512) (n1 := 128) x).symm⟩
  rw [half0_at, headed_ld X W g E o a b (by omega) ha hb, block_emb X W g E o (by omega)]
  unfold entry
  have hn := n.isLt
  rw [dif_pos (show (⟨o + n.val, _⟩ : Fin 3072).val < 2048 by show o + n.val < 2048; omega)]
  exact hcol_congr X W g E (by show o = (o + n.val) / 256 * 256; omega) (by show a = (o + n.val) / 1024; omega)
    (by show b = (o + n.val) / 256 * 256 % 1024; omega) _ _ _ _ _ _ _
    (Fin.ext (by show n.val = (o + n.val) % 256; omega))

/-- A second half of normalised columns. -/
theorem piece_h1 (o a b s : Nat) (hm : o % 256 = 0) (ha : a < 2) (hb : b + 256 ≤ 1024) (hab : o = 1024 * a + b) (hs : s = o + 128)
    (inb : ∀ a, (![0, o] : Fin 2 → Nat) a + (![1024, 256] : Fin 2 → Nat) a ≤ S1024x3072.size a)
    (inb' : ∀ e, (![a, b] : Fin 2 → Nat) e + (![1, 256] : Fin 2 → Nat) e ≤ S2x1024.size e)
    (inb'' : ∀ a, (![0, s] : Fin 2 → Nat) a + (![512, 128] : Fin 2 → Nat) a ≤ S512x3072.size a) (x : S512x128.Idx) :
    half1 (headed (prod X (View.ld W (Rect.unit ![0, o] ![1024, 256] inb))) E (View.ld g (Rect.unit ![a, b] ![1, 256] inb'))) x
      = block X W g E ((Rect.unit (s := S512x3072) ![0, s] ![512, 128] inb'').emb x) := by
  obtain ⟨r, n, rfl⟩ : ∃ (r : Fin 512) (n : Fin 128), x = ix2 r n := ⟨x 0, x 1, (ix2_eta (n0 := 512) (n1 := 128) x).symm⟩
  rw [half1_at, headed_ld X W g E o a b (by omega) ha hb, block_emb X W g E s (by omega)]
  unfold entry
  have hn := n.isLt
  rw [dif_pos (show (⟨s + n.val, _⟩ : Fin 3072).val < 2048 by show s + n.val < 2048; omega)]
  exact hcol_congr X W g E (by show o = (s + n.val) / 256 * 256; omega) (by show a = (s + n.val) / 1024; omega)
    (by show b = (s + n.val) / 256 * 256 % 1024; omega) _ _ _ _ _ _ _
    (Fin.ext (by show 128 + n.val = (s + n.val) % 256; omega))

/-- A first half of columns of values. -/
theorem piece_v0 (o : Nat) (h1 : 2048 ≤ o) (h2 : o + 256 ≤ 3072)
    (inb : ∀ a, (![0, o] : Fin 2 → Nat) a + (![1024, 256] : Fin 2 → Nat) a ≤ S1024x3072.size a)
    (inb'' : ∀ a, (![0, o] : Fin 2 → Nat) a + (![512, 128] : Fin 2 → Nat) a ≤ S512x3072.size a) (x : S512x128.Idx) :
    half0 (prod X (View.ld W (Rect.unit ![0, o] ![1024, 256] inb))) x
      = block X W g E ((Rect.unit (s := S512x3072) ![0, o] ![512, 128] inb'').emb x) := by
  obtain ⟨r, n, rfl⟩ : ∃ (r : Fin 512) (n : Fin 128), x = ix2 r n := ⟨x 0, x 1, (ix2_eta (n0 := 512) (n1 := 128) x).symm⟩
  rw [half0_at, prod_ld X W o h2, block_emb X W g E o (by omega)]
  unfold entry
  rw [dif_neg (show ¬ (⟨o + n.val, _⟩ : Fin 3072).val < 2048 by show ¬ o + n.val < 2048; omega)]

/-- A second half of columns of values. -/
theorem piece_v1 (o s : Nat) (h1 : 2048 ≤ o) (h2 : o + 256 ≤ 3072) (hs : s = o + 128)
    (inb : ∀ a, (![0, o] : Fin 2 → Nat) a + (![1024, 256] : Fin 2 → Nat) a ≤ S1024x3072.size a)
    (inb'' : ∀ a, (![0, s] : Fin 2 → Nat) a + (![512, 128] : Fin 2 → Nat) a ≤ S512x3072.size a) (x : S512x128.Idx) :
    half1 (prod X (View.ld W (Rect.unit ![0, o] ![1024, 256] inb))) x
      = block X W g E ((Rect.unit (s := S512x3072) ![0, s] ![512, 128] inb'').emb x) := by
  obtain ⟨r, n, rfl⟩ : ∃ (r : Fin 512) (n : Fin 128), x = ix2 r n := ⟨x 0, x 1, (ix2_eta (n0 := 512) (n1 := 128) x).symm⟩
  rw [half1_at, prod_ld X W o h2, block_emb X W g E s (by omega)]
  unfold entry
  rw [dif_neg (show ¬ (⟨s + n.val, _⟩ : Fin 3072).val < 2048 by show ¬ s + n.val < 2048; omega)]
  exact congrArg (col X W _) (Fin.ext (by show o + (128 + n.val) = s + n.val; omega))

end Entries

section Out

variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S1024x3072 .bf16) (harg3 : arg3.IsWhole)
  (arg4 : Memref sig .tc .vmem S2x1024 .f32) (harg4 : arg4.IsWhole)
  (arg5 : Memref sig .tc .vmem S256x256 .bf16) (harg5 : arg5.IsWhole)
  (arg6 : Memref sig .tc .vmem S512x3072 .bf16) (harg6 : arg6.IsWhole)
  (arg7 : Memref sig .tc .vmem S512x1024 .bf16) (harg7 : arg7.IsWhole)
  (x0 : Vec Ideal S512x1024 .f32) (x1 : Vec Ideal S1x1024 .f32) (x2 : Vec Ideal S1024x3072 .bf16)
  (x3 : Vec Ideal S2x1024 .f32) (x4 : Vec Ideal S256x256 .bf16)

/-- Every piece the body stores is a piece of the one block. -/
theorem pieces : ∀ p ∈ (kernelRun0_A c i arg1 harg1 arg2 harg2 arg3 harg3 arg4 harg4 arg5 harg5 arg6 harg6 arg7 harg7
      x0 x1 x2 x3 x4).1, ∀ x : p.1.shape.Idx, p.2 x = block (k0_pay9 x0 x1) x2 x3 x4 (p.1.emb x) := by
  unfold kernelRun0_A
  dsimp only
  sl_unfold_words
  simp only [View.readCov_unit_zero (S := S512x1024) _ hz, View.readAt_eq_ld, harg1.read_unread, harg2.read_unread,
    harg3.read_unread, harg4.read_unread, harg5.read_unread, View.ld_unit_zero (S := S512x1024) hz,
    View.ld_unit_zero (S := S1x1024) hz, View.ld_unit_zero (S := S256x256) hz]
  generalize k0_pay9 x0 x1 = X
  simp only [List.forall_mem_cons]
  refine ⟨piece_v1 X x2 x3 x4 2816 2944 (by decide) (by decide) rfl _ _, ?_⟩
  refine ⟨piece_v0 X x2 x3 x4 2816 (by decide) (by decide) _ _, ?_⟩
  refine ⟨piece_v1 X x2 x3 x4 2560 2688 (by decide) (by decide) rfl _ _, ?_⟩
  refine ⟨piece_v0 X x2 x3 x4 2560 (by decide) (by decide) _ _, ?_⟩
  refine ⟨piece_v1 X x2 x3 x4 2304 2432 (by decide) (by decide) rfl _ _, ?_⟩
  refine ⟨piece_v0 X x2 x3 x4 2304 (by decide) (by decide) _ _, ?_⟩
  refine ⟨piece_v1 X x2 x3 x4 2048 2176 (by decide) (by decide) rfl _ _, ?_⟩
  refine ⟨piece_v0 X x2 x3 x4 2048 (by decide) (by decide) _ _, ?_⟩
  refine ⟨piece_h1 X x2 x3 x4 1792 1 768 1920 rfl (by decide) (by decide) rfl rfl _ _ _, ?_⟩
  refine ⟨piece_h0 X x2 x3 x4 1792 1 768 rfl (by decide) (by decide) rfl _ _ _, ?_⟩
  refine ⟨piece_h1 X x2 x3 x4 1536 1 512 1664 rfl (by decide) (by decide) rfl rfl _ _ _, ?_⟩
  refine ⟨piece_h0 X x2 x3 x4 1536 1 512 rfl (by decide) (by decide) rfl _ _ _, ?_⟩
  refine ⟨piece_h1 X x2 x3 x4 1280 1 256 1408 rfl (by decide) (by decide) rfl rfl _ _ _, ?_⟩
  refine ⟨piece_h0 X x2 x3 x4 1280 1 256 rfl (by decide) (by decide) rfl _ _ _, ?_⟩
  refine ⟨piece_h1 X x2 x3 x4 1024 1 0 1152 rfl (by decide) (by decide) rfl rfl _ _ _, ?_⟩
  refine ⟨piece_h0 X x2 x3 x4 1024 1 0 rfl (by decide) (by decide) rfl _ _ _, ?_⟩
  refine ⟨piece_h1 X x2 x3 x4 768 0 768 896 rfl (by decide) (by decide) rfl rfl _ _ _, ?_⟩
  refine ⟨piece_h0 X x2 x3 x4 768 0 768 rfl (by decide) (by decide) rfl _ _ _, ?_⟩
  refine ⟨piece_h1 X x2 x3 x4 512 0 512 640 rfl (by decide) (by decide) rfl rfl _ _ _, ?_⟩
  refine ⟨piece_h0 X x2 x3 x4 512 0 512 rfl (by decide) (by decide) rfl _ _ _, ?_⟩
  refine ⟨piece_h1 X x2 x3 x4 256 0 256 384 rfl (by decide) (by decide) rfl rfl _ _ _, ?_⟩
  refine ⟨piece_h0 X x2 x3 x4 256 0 256 rfl (by decide) (by decide) rfl _ _ _, ?_⟩
  refine ⟨piece_h1 X x2 x3 x4 0 0 0 128 rfl (by decide) (by decide) rfl rfl _ _ _, ?_⟩
  refine ⟨piece_h0 X x2 x3 x4 0 0 0 rfl (by decide) (by decide) rfl _ _ _, ?_⟩
  exact fun _ h => absurd h List.not_mem_nil

/-- The block the body leaves. -/
theorem out_eq : out0_A_5 c i arg1 harg1 arg2 harg2 arg3 harg3 arg4 harg4 arg5 harg5 arg6 harg6 arg7 harg7 x0 x1 x2 x3 x4
    = block (k0_pay9 x0 x1) x2 x3 x4 := by
  unfold out0_A_5
  rw [View.read_writes_eq_canon _ _ _ (cover0_A_5 c i arg1 harg1 arg2 harg2 arg3 harg3 arg4 harg4 arg5 harg5 arg6 harg6
    arg7 harg7 x0 x1 x2 x3 x4)]
  exact funext fun y => View.canon_apply_of_pieces _ _ (pieces c i arg1 harg1 arg2 harg2 arg3 harg3 arg4 harg4 arg5 harg5
    arg6 harg6 arg7 harg7 x0 x1 x2 x3 x4) y (cover0_A_5 c i arg1 harg1 arg2 harg2 arg3 harg3 arg4 harg4 arg5 harg5 arg6
    harg6 arg7 harg7 x0 x1 x2 x3 x4 y)

end Out

end Cert.Kernel3Ideal.Proj

end
-- ==== Proof.ProjSeg.lean ====
/-
  The matrix that sums squares head by head: the host builds it from the column numbers, each divided by the 64 columns of
  a head; entry `(l, p)` is one when columns `l` and `p` are of one head and zero otherwise.
-/
module

public import proofs.«01_k».proof.Proof.ProjBody
public import Idealize.ShloMosaic.Lib.Pointwise

@[expose] public section

set_option maxRecDepth 16384

noncomputable section

namespace Cert.Kernel3Ideal.Proj

open Cert.Kernel3Ideal Cert.Kernel3Ideal.Gen Idealize.ShloMosaic Idealize.ShloMosaic.TcCoe Idealize.SL.Sem

/-- Column numbers divided by 64, rounded down, as the host writes it. -/
def fdiv {S : Shape} (h : S_.BroadcastsInDim S (![] : Fin 0 → Fin S.rank)) (x : IVec S 32) : IVec S 32 :=
  select
    (andi (cmpi .ne (signi x) (broadcastInDim S ![] h (signi (constantI S_ 32 64#32))))
      (cmpi .ne (Host.remsi x (broadcastInDim S ![] h (constantI S_ 32 64#32))) (broadcastInDim S ![] h (constantI S_ 32 0#32))))
    (subi (Host.divsi x (broadcastInDim S ![] h (constantI S_ 32 64#32))) (broadcastInDim S ![] h (constantI S_ 32 1#32)))
    (Host.divsi x (broadcastInDim S ![] h (constantI S_ 32 64#32)))

/-- The same of one word. -/
def fword (x : BitVec 32) : BitVec 32 :=
  fdiv (S := S_) (by decide) (fun _ => x) ix0

theorem fdiv_at {S : Shape} (h : S_.BroadcastsInDim S (![] : Fin 0 → Fin S.rank)) (x : IVec S 32) (i : S.Idx) :
    fdiv h x i = fword (x i) := rfl

theorem fword_eq : ∀ i : Fin 256, fword (BitVec.ofNat 32 i.val) = BitVec.ofNat 32 (i.val / 64) := by
  decide +kernel

variable (m : (ℓ : Loc nD τ sig) → Buf (Elt Ideal) ℓ) (c : Dev nD)

theorem V_seg : V m c main_v8 = uitofp (F := Ideal) .bf16 (cmpi .eq
    (broadcastInDim S256x256 ![0, 1] bcast_S256x1_S256x256_0_1
      (fdiv bcast_S_S256x1 (broadcastInDim S256x1 ![0] bcast_S256_S256x1_0 (iotaInDim S256 32 0))))
    (broadcastInDim S256x256 ![0, 1] bcast_S1x256_S256x256_0_1
      (fdiv bcast_S_S1x256 (broadcastInDim S1x256 ![1] bcast_S256_S1x256_1 (iotaInDim S256 32 0))))) := by
  simp only [V, hostOps0, hostOps0_1, hostOps0_2, hostOps0_3, hostOps0_4, List.flatten_cons, List.flatten_nil,
    List.append_nil, List.cons_append, List.nil_append]
  after_results_simp
  rfl

theorem seg_at (l p : Fin 256) : (V m c main_v8 : Vec Ideal S256x256 .bf16) (ix2 l p) = if l.val / 64 = p.val / 64 then (1 : EReal) else (0 : EReal) := by
  rw [V_seg]
  have h : ∀ l p : Fin 256, cmpi .eq
      (broadcastInDim S256x256 ![0, 1] bcast_S256x1_S256x256_0_1
        (fdiv bcast_S_S256x1 (broadcastInDim S256x1 ![0] bcast_S256_S256x1_0 (iotaInDim S256 32 0))))
      (broadcastInDim S256x256 ![0, 1] bcast_S1x256_S256x256_0_1
        (fdiv bcast_S_S1x256 (broadcastInDim S1x256 ![1] bcast_S256_S1x256_1 (iotaInDim S256 32 0)))) (ix2 l p)
      = IntOp.cmpi .eq (fword (BitVec.ofNat 32 l.val)) (fword (BitVec.ofNat 32 p.val)) := fun l p => by
    show IntOp.cmpi .eq (fword _) (fword _) = _
    congr 2
  show FloatOps.uitofp (F := Ideal) .bf16 _ = _
  rw [h, fword_eq, fword_eq]
  by_cases hlp : l.val / 64 = p.val / 64
  · rw [if_pos hlp, hlp]
    have e : IntOp.cmpi .eq (BitVec.ofNat 32 (p.val / 64)) (BitVec.ofNat 32 (p.val / 64)) = 1#1 := by
      unfold IntOp.cmpi; simp
    rw [e]
    show ((_ : ℝ) : EReal) = 1
    simp
  · rw [if_neg hlp]
    have e : IntOp.cmpi .eq (BitVec.ofNat 32 (l.val / 64)) (BitVec.ofNat 32 (p.val / 64)) = 0#1 := by
      have hne : BitVec.ofNat 32 (l.val / 64) ≠ BitVec.ofNat 32 (p.val / 64) := fun he => hlp (by
        have := congrArg BitVec.toNat he
        simp only [BitVec.toNat_ofNat] at this
        omega)
      unfold IntOp.cmpi
      show BitVec.ofBool (BitVec.ofNat 32 (l.val / 64) == BitVec.ofNat 32 (p.val / 64)) = 0#1
      rw [beq_eq_false_iff_ne.mpr hne]; rfl
    rw [e]
    show ((_ : ℝ) : EReal) = 0
    simp

end Cert.Kernel3Ideal.Proj

end
-- ==== Proof.ProjMath.lean ====
/-
  The projection's mathematics over the extended reals: a normalised row is real as soon as its gains are, whatever the
  row; sums over the columns of one head, picked out by a matrix of zeros and ones; and the reciprocal root of a sum,
  scaled, as the reciprocal root of the mean.
-/
module

public import proofs.«01_k».proof.Proof.Softmax
public import Idealize.ShloMosaic.Lib.Pointwise

@[expose] public section

set_option maxRecDepth 16384

noncomputable section

namespace Cert.ProjMath

open Idealize.ShloMosaic

/-- The small constant, as a real. -/
def eps : ℝ := 8796093 * (2 ^ 43)⁻¹

theorem eps_pos : 0 < eps := by unfold eps; positivity

theorem eps_word : Ideal.ofBits FTy.f32 897988541#32 = (eps : EReal) := by
  simp [Ideal.ofBits, Ideal.ieee, eps]

theorem eps64_word : Ideal.ofBits FTy.f32 0x388637BD#32 = ((64 * eps : ℝ) : EReal) := by
  simp [Ideal.ofBits, Ideal.ieee]
  rw [← EReal.coe_mul, ← EReal.coe_mul]
  congr 1
  unfold eps; norm_num

theorem eps128_word : Ideal.ofBits FTy.f32 0x390637BD#32 = ((128 * eps : ℝ) : EReal) := by
  simp [Ideal.ofBits, Ideal.ieee]
  rw [← EReal.coe_mul, ← EReal.coe_mul]
  congr 1
  unfold eps; norm_num

theorem word_1024 : Ideal.ofBits FTy.f32 1149239296#32 = ((1024 : ℝ) : EReal) := by
  simp [Ideal.ofBits, Ideal.ieee]
  rw [← EReal.coe_mul]
  congr 1; norm_num

theorem word_64 : Ideal.ofBits FTy.f32 0x42800000#32 = ((64 : ℝ) : EReal) := by
  simp [Ideal.ofBits, Ideal.ieee]
  rw [← EReal.coe_mul]
  congr 1; norm_num

theorem word_128 : Ideal.ofBits FTy.f32 0x43000000#32 = ((128 : ℝ) : EReal) := by
  simp [Ideal.ofBits, Ideal.ieee]
  rw [← EReal.coe_mul]
  congr 1; norm_num

theorem word_8 : Ideal.ofBits FTy.f32 0x41000000#32 = ((8 : ℝ) : EReal) := by
  simp [Ideal.ofBits, Ideal.ieee]
  rw [← EReal.coe_mul]
  congr 1; norm_num

theorem rsqrt_coe {x : ℝ} (h : 0 < x) : Ideal.rsqrt (x : EReal) = (((Real.sqrt x)⁻¹ : ℝ) : EReal) := by
  show (if x < 0 then ⊥ else if x = 0 then ⊤ else (((Real.sqrt x)⁻¹ : ℝ) : EReal)) = _
  rw [if_neg (not_lt.2 h.le), if_neg h.ne']

/-- A square is not negative. -/
theorem sq_nonneg (x : EReal) : 0 ≤ x * x := by
  induction x with
  | bot => simp
  | coe y => exact_mod_cast mul_self_nonneg y
  | top => simp

/-- Dividing an entry by the root mean square of its row gives a real number: of real entries because the small constant
keeps the root positive, and next to an infinite entry because the reciprocal root is zero. -/
theorem normed_real {n : ℕ} (h : Fin n → EReal) (k : Fin n) (N e : ℝ) (hN : 0 < N) (he : 0 < e) :
    ∃ r : ℝ, h k * Ideal.rsqrt (Ideal.div (∑ x, h x * h x) (N : EReal) + (e : EReal)) = (r : EReal) := by
  by_cases hr : ∀ x, ∃ r : ℝ, h x = (r : EReal)
  · choose v hv using hr
    have hs : ∑ x, h x * h x = ((∑ x, v x * v x : ℝ) : EReal) := by
      rw [Softmax.coe_sum]
      exact Finset.sum_congr rfl fun x _ => by rw [hv, EReal.coe_mul]
    have h0 : 0 ≤ ∑ x, v x * v x := Finset.sum_nonneg fun x _ => mul_self_nonneg _
    rw [hs, Softmax.div_coe hN, ← EReal.coe_mul, ← EReal.coe_add, rsqrt_coe (by positivity), hv, ← EReal.coe_mul]
    exact ⟨_, rfl⟩
  · push Not at hr
    obtain ⟨x, hx⟩ := hr
    have hsq : h x * h x = ⊤ := by
      rcases hh : h x with _ | _ | y
      · rfl
      · rfl
      · exact absurd hh (hx y)
    have hs : ∑ x, h x * h x = ⊤ := top_le_iff.1 (hsq ▸ Finset.single_le_sum (f := fun x => h x * h x)
      (fun i _ => sq_nonneg (h i)) (Finset.mem_univ x))
    refine ⟨0, ?_⟩
    rw [hs, Softmax.div_coe hN, EReal.coe_mul_top_of_pos (by positivity), EReal.top_add_coe]
    show h k * 0 = 0
    exact mul_zero _

/-- A sum over `J` heads of `D` columns that a matrix of zeros and ones restricts to the head of column `p`. -/
theorem head_sum {n : ℕ} (J D : ℕ) (hn : J * D = n) (hD : 0 < D) (f : Fin n → EReal) (p : Fin n) :
    ∑ l : Fin n, f l * (if l.val / D = p.val / D then (1 : EReal) else 0)
      = ∑ d : Fin D, f ⟨p.val / D * D + d.val, by
        have h1 : p.val / D < J := (Nat.div_lt_iff_lt_mul hD).2 (by omega)
        have h2 := d.isLt
        calc p.val / D * D + d.val < p.val / D * D + D := by omega
          _ = (p.val / D + 1) * D := by rw [Nat.add_mul, Nat.one_mul]
          _ ≤ J * D := Nat.mul_le_mul_right _ (by omega)
          _ = n := hn⟩ := by
  have h1 : p.val / D < J := (Nat.div_lt_iff_lt_mul hD).2 (by rw [hn]; exact p.isLt)
  rw [Fin.sum_univ_tiles J D hn, Finset.sum_eq_single (⟨p.val / D, h1⟩ : Fin J)]
  · refine Finset.sum_congr rfl fun d _ => ?_
    rw [if_pos, mul_one]
    show (p.val / D * D + d.val) / D = p.val / D
    rw [Nat.add_comm, Nat.add_mul_div_right _ _ hD, Nat.div_eq_of_lt d.isLt, Nat.zero_add]
  · intro j _ hj
    refine Finset.sum_eq_zero fun d _ => ?_
    rw [if_neg, mul_zero]
    show ¬ (j.val * D + d.val) / D = p.val / D
    rw [Nat.add_comm, Nat.add_mul_div_right _ _ hD, Nat.div_eq_of_lt d.isLt, Nat.zero_add]
    exact fun h => hj (Fin.ext h)
  · exact fun h => absurd (Finset.mem_univ _) h

/-- The reciprocal root of a sum plus `n` small constants, times the root of `n`, is the reciprocal root of the mean plus
the small constant. -/
theorem rsqrt_scale {S n e : ℝ} (hS : 0 ≤ S) (hn : 0 < n) (he : 0 < e) :
    Ideal.rsqrt ((S : EReal) + ((n * e : ℝ) : EReal)) * ((Real.sqrt n : ℝ) : EReal)
      = Ideal.rsqrt (Ideal.div (S : EReal) (n : EReal) + (e : EReal)) := by
  have hp : 0 < n * e := mul_pos hn he
  rw [Softmax.div_coe hn, ← EReal.coe_mul, ← EReal.coe_add, ← EReal.coe_add, rsqrt_coe (by positivity),
    rsqrt_coe (by positivity), ← EReal.coe_mul]
  congr 1
  have e1 : S + n * e = n * (n⁻¹ * S + e) := by field_simp
  rw [e1, Real.sqrt_mul hn.le, mul_inv, mul_comm, ← mul_assoc, mul_inv_cancel₀ (Real.sqrt_pos.2 hn).ne', one_mul]

theorem sqrt_64 : Real.sqrt 64 = 8 := by
  rw [show (64 : ℝ) = 8 ^ 2 by norm_num]; exact Real.sqrt_sq (by norm_num)

end Cert.ProjMath

end
-- ==== Proof.ProjRef.lean ====
/-
  The projection over the extended reals, as one formula per element, and the reference's composed term read as that
  formula.
-/
module

public import proofs.«01_k».proof.Defs
public import proofs.«01_k».proof.Proof.Gen.Reference3Ideal.Run
public import Idealize.ShloMosaic.Lib.Pointwise

@[expose] public section

set_option maxRecDepth 16384

noncomputable section

namespace Cert.ProjRef

open Idealize.ShloMosaic Idealize.ShloMosaic.TcCoe Cert.Reference3Ideal Cert.Reference3Ideal.Gen

variable (H : Vec Ideal S65536x1024 .f32) (G : Vec Ideal S1024 .f32) (W : Vec Ideal S1024x3072 .bf16)
  (g : Vec Ideal S2x1024 .f32)

/-- Column `k` of row `R`, normalised: divided by the row's root mean square (plus the small constant), times its gain. -/
def xn (R : Fin 65536) (k : Fin 1024) : EReal :=
  H (ix2 R k) * Ideal.rsqrt (Ideal.div (∑ x, H (ix2 R x) * H (ix2 R x)) (Ideal.ofBits FTy.f32 1149239296#32)
    + Ideal.ofBits FTy.f32 897988541#32) * G (ix1 k)

/-- Column `q` of the product. -/
def y (R : Fin 65536) (q : Fin 3072) : EReal := ∑ k, xn H G R k * W (ix2 k q)

/-- Column `q` of the product, normalised over the 64 columns of its head. -/
def yn (R : Fin 65536) (q : Fin 3072) : EReal :=
  y H G W R q * Ideal.rsqrt (Ideal.div
    (∑ d : Fin 64, y H G W R ⟨q.val / 64 * 64 + d.val, by omega⟩ * y H G W R ⟨q.val / 64 * 64 + d.val, by omega⟩)
    (Ideal.ofBits FTy.f32 0x42800000#32) + Ideal.ofBits FTy.f32 897988541#32)

/-- The result: queries and keys normalised and scaled by their gains, values as they are. -/
def result (R : Fin 65536) (q : Fin 3072) : EReal :=
  if h : q.val < 2048 then yn H G W R q * g (ix2 ⟨q.val / 1024, by omega⟩ ⟨q.val % 1024, by omega⟩) else y H G W R q

/-! ## The reference's operations, in stages -/

/-- The reference's normalised rows. -/
def refX : FVec Ideal S65536x1024 .f32 :=
  mulf (mulf H (broadcastInDim S65536x1024 ![0, 1] bcast_S65536x1_S65536x1024_0_1 (Host.rsqrt (addf (Host.divf (broadcastInDim S65536x1 ![0] bcast_S65536_S65536x1_0 (Host.reduceAdd (mulf H H) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 G))

/-- The reference's product, cut into queries, keys and values and their heads. -/
def refY (X : FVec Ideal S65536x1024 .f32) : FVec Ideal S65536x3x16x64 .f32 :=
  shapeCast _ (Host.dotGeneral dot_S65536x1024_S1024x3072_S65536x3072_1_0_0_1_n_n none X (extf .f32 W bitsLt_bf16_f32)) shapeCasts_S65536x3072_S65536x3x16x64

/-- The reference's normalisation over heads. -/
def refN (Y : FVec Ideal S65536x3x16x64 .f32) : FVec Ideal S65536x3x16x64 .f32 :=
  mulf Y (broadcastInDim S65536x3x16x64 ![0, 1, 2, 3] bcast_S65536x3x16x1_S65536x3x16x64_0_1_2_3 (Host.rsqrt (addf (Host.divf (broadcastInDim S65536x3x16x1 ![0, 1, 2] bcast_S65536x3x16_S65536x3x16x1_0_1_2 (Host.reduceAdd (mulf Y Y) (constant S_ .f32 0x00000000#32) reducesTo_S65536x3x16x64_S65536x3x16_d3 h_S_)) (broadcastInDim S65536x3x16x1 ![] bcast_S_S65536x3x16x1 (constant S_ .f32 0x42800000#32))) (broadcastInDim S65536x3x16x1 ![] bcast_S_S65536x3x16x1 (constant S_ .f32 0x358637BD#32)))))

/-- The heads of the queries side by side, scaled by their gains. -/
def refQ (N : FVec Ideal S65536x3x16x64 .f32) : FVec Ideal S65536x1024 .f32 :=
  mulf (shapeCast _ (shapeCast _ (extractStridedSlice S65536x1x16x64 ![0, 0, 0, 0] N slices_S65536x3x16x64_S65536x1x16x64_0_0_0_0) shapeCasts_S65536x1x16x64_S65536x16x64) shapeCasts_S65536x16x64_S65536x1024) (broadcastInDim S65536x1024 ![0, 1] bcast_S1x1024_S65536x1024_0_1 (broadcastInDim S1x1024 ![1] bcast_S1024_S1x1024_1 (shapeCast _ (extractStridedSlice S1x1024 ![0, 0] g slices_S2x1024_S1x1024_0_0) shapeCasts_S1x1024_S1024)))

/-- The heads of the keys side by side, scaled by their gains. -/
def refK (N : FVec Ideal S65536x3x16x64 .f32) : FVec Ideal S65536x1024 .f32 :=
  mulf (shapeCast _ (shapeCast _ (extractStridedSlice S65536x1x16x64 ![0, 1, 0, 0] N slices_S65536x3x16x64_S65536x1x16x64_0_1_0_0) shapeCasts_S65536x1x16x64_S65536x16x64) shapeCasts_S65536x16x64_S65536x1024) (broadcastInDim S65536x1024 ![0, 1] bcast_S1x1024_S65536x1024_0_1 (broadcastInDim S1x1024 ![1] bcast_S1024_S1x1024_1 (shapeCast _ (extractStridedSlice S1x1024 ![1, 0] g slices_S2x1024_S1x1024_1_0) shapeCasts_S1x1024_S1024)))

/-- The heads of the values side by side. -/
def refV (Y : FVec Ideal S65536x3x16x64 .f32) : FVec Ideal S65536x1024 .f32 :=
  shapeCast _ (shapeCast _ (extractStridedSlice S65536x1x16x64 ![0, 2, 0, 0] Y slices_S65536x3x16x64_S65536x1x16x64_0_2_0_0) shapeCasts_S65536x1x16x64_S65536x16x64) shapeCasts_S65536x16x64_S65536x1024

/-- Queries, keys and values side by side. -/
def refCat (q k v : FVec Ideal S65536x1024 .f32) : FVec Ideal S65536x3072 .bf16 :=
  truncf .bf16 (concatenate S65536x3072 1 [⟨S65536x1024, (q : (⟨S65536x1024, .f32⟩ : BufTy).Contents (Elt Ideal))⟩, ⟨S65536x1024, (k : (⟨S65536x1024, .f32⟩ : BufTy).Contents (Elt Ideal))⟩, ⟨S65536x1024, (v : (⟨S65536x1024, .f32⟩ : BufTy).Contents (Elt Ideal))⟩] concatenates_S65536x1024_S65536x1024_S65536x1024_S65536x3072_d1 : FVec Ideal S65536x3072 .f32) bitsLt_bf16_f32

/-- The reference's result. -/
def refOut : FVec Ideal S65536x3072 .bf16 :=
  refCat (refQ g (refN (refY W (refX H G)))) (refK g (refN (refY W (refX H G)))) (refV (refY W (refX H G)))

theorem res_eq (m : (ℓ : Loc nD τ sig) → Buf (Elt Ideal) ℓ) (c : Dev nD) :
    Value.res_main_v46 m c = refOut (m ((c.tc : Thread nD τ).loc main_arg0)) (m ((c.tc : Thread nD τ).loc main_arg1))
      (m ((c.tc : Thread nD τ).loc main_arg2)) (m ((c.tc : Thread nD τ).loc main_arg3)) := rfl

theorem refX_at (R : Fin 65536) (k : Fin 1024) : refX H G (ix2 R k) = xn H G R k := by
  pointwise [refX, xn]

theorem refY_at (R : Fin 65536) (s : Fin 3) (h : Fin 16) (d : Fin 64) :
    refY W (refX H G) (ix4 R s h d) = y H G W R ⟨1024 * s.val + 64 * h.val + d.val, by omega⟩ := by
  pointwise [refY, y]
  refine Finset.sum_congr rfl fun k _ => ?_
  rw [refX_at]
  refine congrArg (fun q => xn H G R k * W (ix2 k q)) (Fin.ext ?_)
  show s.val * 1024 + h.val * 64 + d.val = 1024 * s.val + 64 * h.val + d.val
  omega

theorem refN_at (Y : FVec Ideal S65536x3x16x64 .f32) (R : Fin 65536) (s : Fin 3) (h : Fin 16) (d : Fin 64) :
    refN Y (ix4 R s h d) = Y (ix4 R s h d) * Ideal.rsqrt (Ideal.div (∑ e, Y (ix4 R s h e) * Y (ix4 R s h e))
      (Ideal.ofBits FTy.f32 0x42800000#32) + Ideal.ofBits FTy.f32 897988541#32) := by
  pointwise [refN]

theorem refQ_at (N : FVec Ideal S65536x3x16x64 .f32) (R : Fin 65536) (o : Fin 1024) :
    refQ g N (ix2 R o) = N (ix4 R 0 ⟨o.val / 64, by omega⟩ ⟨o.val % 64, by omega⟩) * g (ix2 0 o) := by
  pointwise [refQ]

theorem refK_at (N : FVec Ideal S65536x3x16x64 .f32) (R : Fin 65536) (o : Fin 1024) :
    refK g N (ix2 R o) = N (ix4 R 1 ⟨o.val / 64, by omega⟩ ⟨o.val % 64, by omega⟩) * g (ix2 1 o) := by
  pointwise [refK]

theorem refV_at (N : FVec Ideal S65536x3x16x64 .f32) (R : Fin 65536) (o : Fin 1024) :
    refV N (ix2 R o) = N (ix4 R 2 ⟨o.val / 64, by omega⟩ ⟨o.val % 64, by omega⟩) := by
  pointwise [refV]

theorem refCat_at (q k v : FVec Ideal S65536x1024 .f32) (R : Fin 65536) (o : Fin 3072) :
    refCat q k v (ix2 R o) = if h : o.val < 1024 then q (ix2 R ⟨o.val, h⟩)
      else if h' : o.val < 2048 then k (ix2 R ⟨o.val - 1024, by omega⟩) else v (ix2 R ⟨o.val - 2048, by omega⟩) := by
  pointwise [refCat]
  by_cases h : o.val < 1024
  · rw [dif_pos h, dif_pos h]
  · rw [dif_neg h, dif_neg h]
    by_cases h' : o.val < 2048
    · rw [dif_pos h', dif_pos (by omega)]
    · rw [dif_neg h', dif_neg (by omega)]
      rfl

/-- A head's normalised column, by the column's number. -/
theorem refN_col (R : Fin 65536) (s : Fin 3) (h : Fin 16) (d : Fin 64) (q : Fin 3072)
    (hq : q.val = 1024 * s.val + 64 * h.val + d.val) :
    refN (refY W (refX H G)) (ix4 R s h d) = yn H G W R q := by
  rw [refN_at]
  simp only [refY_at]
  unfold yn
  have e0 : (⟨1024 * s.val + 64 * h.val + d.val, by omega⟩ : Fin 3072) = q := Fin.ext hq.symm
  have e : ∀ x : Fin 64, (⟨1024 * s.val + 64 * h.val + x.val, by omega⟩ : Fin 3072)
      = ⟨q.val / 64 * 64 + x.val, by omega⟩ := fun x => Fin.ext (by
    show 1024 * s.val + 64 * h.val + x.val = q.val / 64 * 64 + x.val
    omega)
  simp only [e]
  rw [← e d, e0]

/-- The reference's result is the formula. -/
theorem refOut_at (R : Fin 65536) (q : Fin 3072) : refOut H G W g (ix2 R q) = result H G W g R q := by
  unfold refOut result
  rw [refCat_at]
  by_cases h : q.val < 1024
  · rw [dif_pos h, dif_pos (by omega), refQ_at,
      refN_col H G W R 0 _ _ q (by show q.val = 1024 * 0 + 64 * (q.val / 64) + q.val % 64; omega)]
    refine congrArg (fun i => yn H G W R q * g i) ((ix2_inj _ _ _ _).2 ⟨Fin.ext ?_, Fin.ext ?_⟩)
    · show 0 = q.val / 1024; omega
    · show q.val = q.val % 1024; omega
  · rw [dif_neg h]
    by_cases h' : q.val < 2048
    · rw [dif_pos h', dif_pos h', refK_at, refN_col H G W R 1 _ _ q (by
        show q.val = 1024 * 1 + 64 * ((q.val - 1024) / 64) + (q.val - 1024) % 64; omega)]
      refine congrArg (fun i => yn H G W R q * g i) ((ix2_inj _ _ _ _).2 ⟨Fin.ext ?_, Fin.ext ?_⟩)
      · show 1 = q.val / 1024; omega
      · show q.val - 1024 = q.val % 1024; omega
    · rw [dif_neg h', dif_neg h', refV_at, refY_at]
      refine congrArg (y H G W R) (Fin.ext ?_)
      show 1024 * 2 + 64 * ((q.val - 2048) / 64) + (q.val - 2048) % 64 = q.val
      omega

end Cert.ProjRef

end
-- ==== Proof.ProjValue.lean ====
/-
  The projection call's result array over the extended reals, when the norm's gains and the weights are real: at every
  element, the formula of `ProjRef`.
-/
module

public import proofs.«01_k».proof.Proof.ProjBody
public import proofs.«01_k».proof.Proof.ProjSeg
public import proofs.«01_k».proof.Proof.ProjMath
public import proofs.«01_k».proof.Proof.ProjRef
public import Idealize.ShloMosaic.Lib.Pointwise

@[expose] public section

set_option maxRecDepth 16384

noncomputable section

namespace Cert.Kernel3Ideal.Proj

open Cert.Kernel3Ideal Cert.Kernel3Ideal.Gen Idealize.ShloMosaic Idealize.ShloMosaic.TcCoe Idealize.SL.Sem

/-! ## One entry of a block -/

section Entry

variable (H : Vec Ideal S65536x1024 .f32) (G : Vec Ideal S1024 .f32) (W : Vec Ideal S1024x3072 .bf16)
  (g : Vec Ideal S2x1024 .f32)

/-- With real gains and weights, the product is real. -/
theorem y_real (hG : ∀ i, ∃ y : ℝ, G (ix1 i) = (y : EReal)) (hW : ∀ i j, ∃ y : ℝ, W (ix2 i j) = (y : EReal))
    (R : Fin 65536) (q : Fin 3072) : ∃ v : ℝ, ProjRef.y H G W R q = (v : EReal) := by
  have hx : ∀ k, ∃ v : ℝ, ProjRef.xn H G R k = (v : EReal) := fun k => by
    obtain ⟨a, ha⟩ := ProjMath.normed_real (fun x => H (ix2 R x)) k 1024 ProjMath.eps (by norm_num) ProjMath.eps_pos
    obtain ⟨b, hb⟩ := hG k
    refine ⟨a * b, ?_⟩
    unfold ProjRef.xn
    rw [ProjMath.word_1024, ProjMath.eps_word]
    refine (congrArg (· * G (ix1 k)) ha).trans ?_
    rw [hb, EReal.coe_mul]
  choose a ha using hx
  choose w hw using hW
  refine ⟨∑ k, a k * w k q, ?_⟩
  unfold ProjRef.y
  rw [Softmax.coe_sum]
  exact Finset.sum_congr rfl fun k _ => by rw [ha, hw, EReal.coe_mul]

/-- An entry of a block is the formula, when the block's inputs are the arrays' rows, the gains times eight, and the
matrix of heads. -/
theorem entry_eq (hG : ∀ i, ∃ y : ℝ, G (ix1 i) = (y : EReal)) (hW : ∀ i j, ∃ y : ℝ, W (ix2 i j) = (y : EReal))
    (X : Vec Ideal S512x1024 .bf16) (w : Vec Ideal S1024x3072 .bf16) (g8 : Vec Ideal S2x1024 .f32)
    (E : Vec Ideal S256x256 .bf16) (R : Fin 65536) (r : Fin 512)
    (hX : ∀ k, X (ix2 r k) = ProjRef.xn H G R k) (hw : ∀ k q, w (ix2 k q) = W (ix2 k q))
    (hg : ∀ a b, g8 (ix2 a b) = g (ix2 a b) * Ideal.ofBits FTy.f32 0x41000000#32)
    (hE : ∀ l p : Fin 256, E (ix2 l p) = if l.val / 64 = p.val / 64 then (1 : EReal) else (0 : EReal)) (q : Fin 3072) :
    entry X w g8 E r q = ProjRef.result H G W g R q := by
  have hc : ∀ q, col X w r q = ProjRef.y H G W R q := fun q => by
    unfold col ProjRef.y
    exact Finset.sum_congr rfl fun k _ => by rw [hX, hw]
  choose v hv using y_real H G W hG hW R
  unfold entry ProjRef.result
  by_cases h : q.val < 2048
  · rw [dif_pos h, dif_pos h]
    unfold hcol ProjRef.yn
    simp only [hc, hE, hg]
    have hq : (⟨q.val / 256 * 256 + q.val % 256, by omega⟩ : Fin 3072) = q := Fin.ext (by
      show q.val / 256 * 256 + q.val % 256 = q.val; omega)
    have hz : ∀ l : Fin 256, ProjRef.y H G W R ⟨q.val / 256 * 256 + l.val, by omega⟩ * ProjRef.y H G W R ⟨q.val / 256 * 256 + l.val, by omega⟩
        - ProjRef.y H G W R ⟨q.val / 256 * 256 + l.val, by omega⟩ * ProjRef.y H G W R ⟨q.val / 256 * 256 + l.val, by omega⟩ = 0 := fun l => by
      rw [hv, ← EReal.coe_mul, ← EReal.coe_sub, sub_self, EReal.coe_zero]
    have hs := ProjMath.head_sum 4 64 rfl (by decide) (fun l : Fin 256 =>
      ProjRef.y H G W R ⟨q.val / 256 * 256 + l.val, by omega⟩ * ProjRef.y H G W R ⟨q.val / 256 * 256 + l.val, by omega⟩)
      ⟨q.val % 256, by omega⟩
    have hd : ∀ d : Fin 64, (⟨q.val / 256 * 256 + (q.val % 256 / 64 * 64 + d.val), by omega⟩ : Fin 3072)
        = ⟨q.val / 64 * 64 + d.val, by omega⟩ := fun d => Fin.ext (by
      show q.val / 256 * 256 + (q.val % 256 / 64 * 64 + d.val) = q.val / 64 * 64 + d.val; omega)
    have hgi : (ix2 (⟨q.val / 1024, by omega⟩ : Fin 2) (⟨q.val / 256 * 256 % 1024 + q.val % 256, by omega⟩ : Fin 1024))
        = ix2 (⟨q.val / 1024, by omega⟩ : Fin 2) (⟨q.val % 1024, by omega⟩ : Fin 1024) :=
      (ix2_inj _ _ _ _).2 ⟨rfl, Fin.ext (by show q.val / 256 * 256 % 1024 + q.val % 256 = q.val % 1024; omega)⟩
    simp only [hz, zero_mul, Finset.sum_const_zero, add_zero]
    rw [hs, hq, hgi]
    simp only [hd]
    have hS : ∑ d : Fin 64, ProjRef.y H G W R ⟨q.val / 64 * 64 + d.val, by omega⟩ * ProjRef.y H G W R ⟨q.val / 64 * 64 + d.val, by omega⟩
        = ((∑ d : Fin 64, v ⟨q.val / 64 * 64 + d.val, by omega⟩ * v ⟨q.val / 64 * 64 + d.val, by omega⟩ : ℝ) : EReal) := by
      rw [Softmax.coe_sum]
      exact Finset.sum_congr rfl fun d _ => by rw [hv, EReal.coe_mul]
    have h0 : 0 ≤ ∑ d : Fin 64, v ⟨q.val / 64 * 64 + d.val, by omega⟩ * v ⟨q.val / 64 * 64 + d.val, by omega⟩ :=
      Finset.sum_nonneg fun d _ => mul_self_nonneg _
    rw [hS, ProjMath.word_64, ProjMath.eps_word, ← ProjMath.rsqrt_scale h0 (by norm_num) ProjMath.eps_pos, ProjMath.sqrt_64,
      ProjMath.word_8]
    have he : FloatOps.ofBits (F := Ideal) .f32 0x388637BD#32 = ((64 * ProjMath.eps : ℝ) : EReal) := ProjMath.eps64_word
    rw [he]
    generalize Ideal.rsqrt _ = u
    rw [mul_comm (g _), mul_assoc, mul_assoc, mul_assoc]
  · rw [dif_neg h, dif_neg h, hc]

end Entry

/-! ## The blocks at an index -/

theorem pay9_at (x0 : Vec Ideal S512x1024 .f32) (x1 : Vec Ideal S1x1024 .f32) (r : Fin 512) (k : Fin 1024) :
    k0_pay9 x0 x1 (ix2 r k) = x0 (ix2 r k) * Ideal.rsqrt (Ideal.div (∑ x, x0 (ix2 r x) * x0 (ix2 r x))
      (Ideal.ofBits FTy.f32 1149239296#32) + Ideal.ofBits FTy.f32 897988541#32) * x1 (ix2 0 k) := by
  pointwise [k0_pay9]

variable (m : (ℓ : Loc nD τ sig) → Buf (Elt Ideal) ℓ) (ρ : Dev nD → PrngReg) (c : Dev nD)

/-- The printed index maps, decided over the grid: point `t` is row block `t`. -/
theorem maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem N_eq : cfg0.N = 128 := N_0

/-- Row `r` of point `t`'s block, as a row of the array. -/
def row (t : Fin cfg0.N) (r : Fin 512) : Fin 65536 :=
  ⟨t.val * 512 + r.val, by have h := lt_of_lt_of_eq t.isLt N_eq; omega⟩

theorem blk0_at (t : Fin cfg0.N) (r : Fin 512) (k : Fin 1024) :
    (iblk m c 0 t : Vec Ideal S512x1024 .f32) (ix2 r k) = m ((c : Thread nD τ).loc main_arg0) (ix2 (row t r) k) := by
  obtain ⟨e0, e1, -⟩ := maps t
  unfold iblk
  rw [View.read_apply]
  show V m c main_arg0 _ = _
  rw [V_main_arg0]
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

/-- The norm's gains, laid out as one row before the call. -/
theorem V_gain (k : Fin 1024) : V m c main_v11 (ix2 0 k) = m ((c : Thread nD τ).loc main_arg1) (ix1 k) := by
  have h : V m c main_v11 = shapeCast S1x1024 (m ((c : Thread nD τ).loc main_arg1) : Vec Ideal S1024 .f32)
      shapeCasts_S1024_S1x1024 := by
    simp only [V, hostOps0, hostOps0_1, hostOps0_2, hostOps0_3, hostOps0_4, List.flatten_cons, List.flatten_nil,
      List.append_nil, List.cons_append, List.nil_append]
    after_results_simp
    rfl
  rw [h]
  pointwise

theorem blk1_at (t : Fin cfg0.N) (k : Fin 1024) :
    (iblk m c 1 t : Vec Ideal S1x1024 .f32) (ix2 0 k) = m ((c : Thread nD τ).loc main_arg1) (ix1 k) := by
  obtain ⟨-, -, e0, e1, -⟩ := maps t
  rw [← V_gain m c k]
  unfold iblk
  rw [View.read_apply]
  show V m c main_v11 _ = _
  congr 1
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem blk2_at (t : Fin cfg0.N) (k : Fin 1024) (q : Fin 3072) :
    (iblk m c 2 t : Vec Ideal S1024x3072 .bf16) (ix2 k q) = m ((c : Thread nD τ).loc main_arg2) (ix2 k q) := by
  obtain ⟨-, -, -, -, e0, e1, -⟩ := maps t
  unfold iblk
  rw [View.read_apply]
  show V m c main_arg2 _ = _
  rw [V_main_arg2]
  congr 1
  funext a; apply Fin.ext
  match a with
  | ⟨0, _⟩ => show win0_2.index t (0 : Fin 2) * 1024 + 1 * k.val = k.val; omega
  | ⟨1, _⟩ => show win0_2.index t (1 : Fin 2) * 3072 + 1 * q.val = q.val; omega

/-- A head gain times eight. -/
def gain8 (A : Vec Ideal S2x1024 .f32) (a : Fin 2) (b : Fin 1024) : EReal := A (ix2 a b) * Ideal.ofBits FTy.f32 0x41000000#32

/-- The head gains, multiplied by eight before the call. -/
theorem V_gains (a : Fin 2) (b : Fin 1024) : (V m c main_v10 : Vec Ideal S2x1024 .f32) (ix2 a b)
    = gain8 (m ((c : Thread nD τ).loc main_arg3)) a b := by
  have h : V m c main_v10 = mulf (F := Ideal) (m ((c : Thread nD τ).loc main_arg3) : FVec Ideal S2x1024 .f32)
      (broadcastInDim S2x1024 ![] bcast_S_S2x1024 (constant S_ .f32 0x41000000#32)) := by
    simp only [V, hostOps0, hostOps0_1, hostOps0_2, hostOps0_3, hostOps0_4, List.flatten_cons, List.flatten_nil,
      List.append_nil, List.cons_append, List.nil_append]
    after_results_simp
  rw [h]
  generalize (m ((c : Thread nD τ).loc main_arg3) : FVec Ideal S2x1024 .f32) = A
  pointwise [gain8]

theorem blk3_at (t : Fin cfg0.N) (a : Fin 2) (b : Fin 1024) :
    (iblk m c 3 t : Vec Ideal S2x1024 .f32) (ix2 a b)
      = gain8 (m ((c : Thread nD τ).loc main_arg3)) a b := by
  obtain ⟨-, -, -, -, -, -, e0, e1, -⟩ := maps t
  rw [← V_gains m c a b]
  unfold iblk
  rw [View.read_apply]
  show V m c main_v10 _ = _
  congr 1
  funext e; apply Fin.ext
  match e with
  | ⟨0, _⟩ => show win0_3.index t (0 : Fin 2) * 2 + 1 * a.val = a.val; omega
  | ⟨1, _⟩ => show win0_3.index t (1 : Fin 2) * 1024 + 1 * b.val = b.val; omega

theorem blk4_at (t : Fin cfg0.N) (l p : Fin 256) :
    (iblk m c 4 t : Vec Ideal S256x256 .bf16) (ix2 l p) = if l.val / 64 = p.val / 64 then (1 : EReal) else (0 : EReal) := by
  obtain ⟨-, -, -, -, -, -, -, -, e0, e1, -⟩ := maps t
  rw [← seg_at m c l p]
  unfold iblk
  rw [View.read_apply]
  show V m c main_v8 _ = _
  congr 1
  funext e; apply Fin.ext
  match e with
  | ⟨0, _⟩ => show win0_4.index t (0 : Fin 2) * 256 + 1 * l.val = l.val; omega
  | ⟨1, _⟩ => show win0_4.index t (1 : Fin 2) * 256 + 1 * p.val = p.val; omega

/-! ## The array -/

/-- The result array. -/
def G (c : Dev nD) : Buf (Elt Ideal) ((c : Thread nD τ).loc main_v12) := fun i =>
  ProjRef.result (m ((c : Thread nD τ).loc main_arg0)) (m ((c : Thread nD τ).loc main_arg1)) (m ((c : Thread nD τ).loc main_arg2))
    (m ((c : Thread nD τ).loc main_arg3)) (i 0) (i 1)

/-- The norm's gains and the weights are real. -/
def Real (c : Dev nD) : Prop :=
  (∀ i, ∃ y : ℝ, (m ((c : Thread nD τ).loc main_arg1) : Vec Ideal S1024 .f32) (ix1 i) = (y : EReal))
  ∧ ∀ i j, ∃ y : ℝ, (m ((c : Thread nD τ).loc main_arg2) : Vec Ideal S1024x3072 .bf16) (ix2 i j) = (y : EReal)

/-- What the body leaves at a point, element by element. -/
theorem out_at (hr : Real m c) (t : Fin cfg0.N) (r : Fin 512) (q : Fin 3072) :
    (outsAt0 m c t : Vec Ideal S512x3072 .bf16) (ix2 r q) = ProjRef.result (m ((c : Thread nD τ).loc main_arg0))
      (m ((c : Thread nD τ).loc main_arg1)) (m ((c : Thread nD τ).loc main_arg2)) (m ((c : Thread nD τ).loc main_arg3)) (row t r) q := by
  unfold outsAt0
  rw [out_eq]
  refine entry_eq _ _ _ _ hr.1 hr.2 _ _ _ _ (row t r) r (fun k => ?_) (fun k q => blk2_at m c t k q)
    (fun a b => blk3_at m c t a b) (fun l p => blk4_at m c t l p) q
  rw [pay9_at, blk1_at]
  simp only [blk0_at]
  rfl

/-- What a point writes back is its block of the result array. -/
theorem flushed_eq (hr : Real m c) (t : Fin cfg0.N) :
    (dats m 0 c).flushed 5 t = ((cfg0.win 5).blk t).view.read (Elt Ideal) (G m c) := by
  rw [Value.flushed5]
  obtain ⟨-, -, -, -, -, -, -, -, -, -, e0, e1⟩ := maps t
  funext y
  have hb0 : (((cfg0.win 5).blk t).view.emb y 0).val = win0_5.index t (0 : Fin 2) * 512 + 1 * (y 0).val := rfl
  have hb1 : (((cfg0.win 5).blk t).view.emb y 1).val = win0_5.index t (1 : Fin 2) * 3072 + 1 * (y 1).val := rfl
  rw [View.read_apply]
  have hl : (cfg0.win 5).cut (grid0.coords t) (outsAt0 m c t) y = outsAt0 m c t y := rfl
  rw [hl]
  refine (congrArg (outsAt0 m c t) (ix2_eta (n0 := 512) (n1 := 3072) y).symm).trans ((out_at m c hr t (y 0) (y 1)).trans ?_)
  have q0 : ((cfg0.win 5).blk t).view.emb y 0 = row t (y 0) := Fin.ext (by
    rw [hb0]; show _ = t.val * 512 + (y 0).val; omega)
  have q1 : ((cfg0.win 5).blk t).view.emb y 1 = y 1 := Fin.ext (by rw [hb1]; omega)
  show _ = ProjRef.result _ _ _ _ (((cfg0.win 5).blk t).view.emb y 0) (((cfg0.win 5).blk t).view.emb y 1)
  rw [q0, q1]

/-- An index is in a point's block when each of its coordinates is. -/
theorem mem_blk (t : Fin cfg0.N) (i : S65536x3072.Idx) :
    i ∈ ((cfg0.win 5).blk t).view.set ↔ ∀ a : Fin 2, win0_5.index t a * S512x3072.size a ≤ (i a).val
      ∧ (i a).val < win0_5.index t a * S512x3072.size a + S512x3072.size a := by
  show i ∈ ((View.whole main_v12).slice (win0_5.rect t)).set ↔ _
  rw [View.set_slice_whole, Rect.mem_set_unit]
  exact Iff.rfl

/-- The blocks tile the array. -/
theorem covered (i : S65536x3072.Idx) :
    ∃ t : Fin cfg0.N, (cfg0.win 5).flush t = true ∧ i ∈ ((cfg0.win 5).blk t).view.set := by
  have h0 : (i 0).val < 65536 := (i 0).isLt
  have h1 : (i 1).val < 3072 := (i 1).isLt
  refine ⟨⟨(i 0).val / 512, by rw [N_eq]; omega⟩, flush0_5 _, ?_⟩
  rw [mem_blk]
  obtain ⟨-, -, -, -, -, -, -, -, -, -, e0, e1⟩ := maps ⟨(i 0).val / 512, by rw [N_eq]; omega⟩
  intro a
  match a with
  | ⟨0, _⟩ => show win0_5.index _ (0 : Fin 2) * 512 ≤ (i 0).val ∧ (i 0).val < win0_5.index _ (0 : Fin 2) * 512 + 512; rw [e0]; dsimp only; omega
  | ⟨1, _⟩ => show win0_5.index _ (1 : Fin 2) * 3072 ≤ (i 1).val ∧ (i 1).val < win0_5.index _ (1 : Fin 2) * 3072 + 3072; rw [e1]; dsimp only; omega

/-- The array after the run. -/
theorem final (hr : Real m c) : (dats m 0 c).arrAt 5 cfg0.N = G m c :=
  (dats m 0 c).arrAt_eq_of_cover 5 _ (fun t _ => flushed_eq m c hr t) covered

/-- The run, read: the result array is `G`, and the arguments are as launched. -/
theorem run (hr : ∀ c, Real m c) :
    θ_run defs (onTc (τ := τ) (main (F := Ideal))) ⟨m, fun _ => 0, ρ⟩ fun r => ∀ c : Dev nD,
      r.2.mem ((c : Thread nD τ).loc main_v12) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c)), (h c).2⟩) (Value.run_blocks m ρ)

end Cert.Kernel3Ideal.Proj

end
-- ==== Proof.ProjFinite.lean ====
/-
  The projection's precondition: every gain of the norm and every weight is a real number.
-/
module

public import proofs.«01_k».proof.Defs
public import proofs.«01_k».proof.Proof.AttnFinite
public import Idealize.ShloMosaic.Lib.ReduceAll
public import Idealize.ShloMosaic.Lib.Pointwise

@[expose] public section

set_option maxRecDepth 16384

noncomputable section

namespace Cert.ProjFinite

open Idealize.ShloMosaic Idealize.ShloMosaic.TcCoe

/-- The predicate's side conditions. -/
theorem facts : Cert.Pre_finite3.Facts where
  bcast_S_S1024 := by decide
  reducesTo_S1024_S_d0 := by decide
  h_S_ := by decide
  bitsLt_bf16_f32 := by decide
  bcast_S_S1024x3072 := by decide
  reducesTo_S1024x3072_S_d0_1 := by decide

open Cert.Pre_finite3

/-- The gains' comparison at an index. -/
theorem gain_at (h2 : S_.BroadcastsInDim S1024 (![] : Fin 0 → Fin S1024.rank)) (A : FVec Ideal S1024 .f32) (i : Fin 1024)
    (h : cmpf .olt (Host.absf A) (broadcastInDim S1024 ![] h2 (constant S_ .f32 0x7F800000#32)) (ix1 i) = 1#1) :
    ∃ y : ℝ, A (ix1 i) = (y : EReal) := by
  apply AttnFinite.real_of_abs
  revert h
  pointwise
  intro h
  rw [Softmax.top_word] at h
  by_contra hn
  rw [decide_eq_false (show ¬ FloatOps.absf (F := Ideal) (φ := .f32) (A (ix1 i)) < ⊤ from hn)] at h
  exact absurd h (by decide)

/-- The weights' comparison at an index. -/
theorem weight_at (h1 : FTy.bits .bf16 < FTy.bits .f32) (h2 : S_.BroadcastsInDim S1024x3072 (![] : Fin 0 → Fin S1024x3072.rank))
    (A : FVec Ideal S1024x3072 .bf16) (i : Fin 1024) (j : Fin 3072)
    (h : cmpf .olt (Host.absf (extf .f32 A h1)) (broadcastInDim S1024x3072 ![] h2 (constant S_ .f32 0x7F800000#32)) (ix2 i j) = 1#1) :
    ∃ y : ℝ, A (ix2 i j) = (y : EReal) := by
  apply AttnFinite.real_of_abs
  revert h
  pointwise
  intro h
  rw [Softmax.top_word] at h
  by_contra hn
  rw [decide_eq_false (show ¬ FloatOps.absf (F := Ideal) (φ := .f32) (A (ix2 i j)) < ⊤ from hn)] at h
  exact absurd h (by decide)

/-- The predicate holds: the gains and the weights are real. -/
theorem real_of_pre [Cert.Pre_finite3.Facts] (H : Vec Ideal S65536x1024 .f32) (G : Vec Ideal S1024 .f32)
    (W : Vec Ideal S1024x3072 .bf16) (g : Vec Ideal S2x1024 .f32)
    (h : Cert.Pre_finite3.fn (F := Ideal) H G W g = fun _ => 1#1) :
    (∀ i, ∃ y : ℝ, G (ix1 i) = (y : EReal)) ∧ ∀ i j, ∃ y : ℝ, W (ix2 i j) = (y : EReal) := by
  have andi_one (a b : BitVec 1) : IntOp.andi a b = 1#1 ↔ a = 1#1 ∧ b = 1#1 := by revert a b; decide
  have e := congrFun h ix0
  simp only [Cert.Pre_finite3.fn] at e
  replace e := (andi_one _ _).1 e
  exact ⟨fun i => gain_at _ _ i (Host.reduce_andi_all _ _ _ _ _ e.1 _), fun i j => weight_at _ _ _ i j (Host.reduce_andi_all _ _ _ _ _ e.2 _)⟩

end Cert.ProjFinite

end
-- ==== Proof.ProjClaim.lean ====
/-
  The projection's claims: its frames, and the equality with the reference over the extended reals when the norm's gains
  and the weights are real.
-/
module

public import proofs.«01_k».proof.Defs
public import proofs.«01_k».proof.Proof.ProjValue
public import proofs.«01_k».proof.Proof.ProjFinite
public import proofs.«01_k».proof.Proof.ProjRef
public import Idealize.ShloMosaic.Lib.Quiescent

@[expose] public section

set_option maxRecDepth 16384

noncomputable section

namespace Cert.ProjClaim

open Idealize.ShloMosaic Idealize.ShloMosaic.TcCoe Idealize.SL.Sem

/-- The reference ends, with its arguments unchanged and no counters left. -/
theorem frame_ref : Cert.quiescent_Reference3Ideal := fun m ρ _ =>
  (θ_run Cert.Reference3Ideal.defs _ _).mono (fun r h => ⟨fun c => (h c).2, sem_eq_zero_of_no_sems (by decide) r.2⟩)
    (Cert.Reference3Ideal.Value.run (F := Ideal) m ρ)

/-- Kernel and reference end with the same array. -/
theorem value [Cert.Pre_finite3.Facts] : Cert.algebraic_Kernel3Ideal_Reference3Ideal_pre_finite3 := by
  intro m ρ m' ρ' hpre hag
  refine ⟨fun c => Cert.Kernel3Ideal.Proj.G m c, Cert.Kernel3Ideal.Proj.run m ρ fun c =>
    ProjFinite.real_of_pre _ _ _ _ (hpre c), ?_⟩
  refine (θ_run Cert.Reference3Ideal.defs _ _).mono (fun r h c => ⟨(h c).1.trans ?_, (h c).2⟩)
    (Cert.Reference3Ideal.Value.run (F := Ideal) m' ρ')
  obtain ⟨e0, e1, e2, e3⟩ := hag c
  refine (ProjRef.res_eq m' c).trans ?_
  rw [e0, e1, e2, e3]
  funext i
  rw [← ix2_eta (n0 := 65536) (n1 := 3072) i]
  exact ProjRef.refOut_at _ _ _ _ (i 0) (i 1)

end Cert.ProjClaim

end
-- ==== Proof.DilBody.lean ====
/-
  The body of the dilated layer's projection call (dilation one), read as values: one block of 512 rows is normalised, multiplied by the weights 256
  columns at a time, and the columns of queries and keys are normalised head by head; each product is stored as two
  halves of 128 columns.
-/
module

public import proofs.«01_k».proof.Defs
public import proofs.«01_k».proof.Proof.Gen.Kernel4Ideal.Value
public import Idealize.ShloMosaic.Lib.Pipeline.Value
public import Idealize.ShloMosaic.Lib.Tactic
public import Idealize.ShloMosaic.Lib.Pointwise

@[expose] public section

set_option maxRecDepth 16384

noncomputable section

namespace Cert.Kernel4Ideal.Dil

open Cert.Kernel4Ideal Cert.Kernel4Ideal.Gen Idealize.ShloMosaic Idealize.ShloMosaic.TcCoe Idealize.SL.Sem

/-- The all-zero offsets of a whole-buffer access. -/
theorem hz : (![0, 0] : Fin 2 → Nat) = fun _ => 0 := funext fun a => by fin_cases a <;> rfl

section Chunks

variable {F : FTy → Type} [FloatOps F] [Named F]

/-- 256 columns of the product. -/
def prod (X : Vec F S512x1024 .bf16) (W : Vec F S1024x256 .bf16) : FVec F S512x256 .f32 :=
  matmul dot_S512x1024_S1024x256_S512x256_1_0_0_1_n_n none X W (constant S512x256 .f32 0x00000000#32)

/-- 256 columns normalised head by head, and scaled by their gains. -/
def headed (Y : FVec F S512x256 .f32) (E : Vec F S256x256 .bf16) (g : Vec F S1x256 .f32) : FVec F S512x256 .f32 :=
  mulf (mulf Y (rsqrt (addf
    (addf
      (matmul dot_S512x256_S256x256_S512x256_1_0_0_1_n_n none (truncf .bf16 (mulf Y Y) bitsLt_bf16_f32)
        (shapeCast S256x256 E shapeCasts_S256x256_S256x256) (constant S512x256 .f32 0x00000000#32))
      (matmul dot_S512x256_S256x256_S512x256_1_0_0_1_n_n none
        (truncf .bf16 (subf (mulf Y Y) (extf .f32 (truncf .bf16 (mulf Y Y) bitsLt_bf16_f32) bitsLt_bf16_f32)) bitsLt_bf16_f32)
        (shapeCast S256x256 E shapeCasts_S256x256_S256x256) (constant S512x256 .f32 0x00000000#32)))
    (broadcast S512x256 (Scalar.ofBits .f32 0x390637BD#32)))))
    (broadcastTo S512x256 (mulf g (broadcast S1x256 (Named.named κ "root" 0x413504F3#32))) broadcasts_S1x256_S512x256)

/-- The first 128 of 256 columns. -/
def half0 (Z : FVec F S512x256 .f32) : FVec F S512x128 .bf16 :=
  truncf .bf16 (extractStridedSlice S512x128 ![0, 0] Z slices_S512x256_o0_0_S512x128) bitsLt_bf16_f32

/-- The last 128 of 256 columns. -/
def half1 (Z : FVec F S512x256 .f32) : FVec F S512x128 .bf16 :=
  truncf .bf16 (extractStridedSlice S512x128 ![0, 128] Z slices_S512x256_o0_128_S512x128) bitsLt_bf16_f32

end Chunks

section Entries

variable (x0 : Vec Ideal S512x1024 .f32) (x1 : Vec Ideal S1x1024 .f32) (X : Vec Ideal S512x1024 .bf16)
  (W : Vec Ideal S1024x3072 .bf16) (g : Vec Ideal S2x1024 .f32) (E : Vec Ideal S256x256 .bf16)

/-- One entry of the product. -/
def col (r : Fin 512) (q : Fin 3072) : EReal := ∑ k : Fin 1024, X (ix2 r k) * W (ix2 k q)

/-- One entry of the normalised columns: column `p` of the chunk at column `o`, its gain at row `a`, column `b + p`. -/
def hcol (o a b : Nat) (ho : o + 256 ≤ 3072) (ha : a < 2) (hb : b + 256 ≤ 1024) (r : Fin 512) (p : Fin 256) : EReal :=
  col X W r ⟨o + p.val, by omega⟩
    * Ideal.rsqrt ((∑ l : Fin 256, (col X W r ⟨o + l.val, by omega⟩ * col X W r ⟨o + l.val, by omega⟩) * E (ix2 l p))
      + (∑ l : Fin 256, (col X W r ⟨o + l.val, by omega⟩ * col X W r ⟨o + l.val, by omega⟩
          - col X W r ⟨o + l.val, by omega⟩ * col X W r ⟨o + l.val, by omega⟩) * E (ix2 l p))
      + FloatOps.ofBits (F := Ideal) .f32 0x390637BD#32)
    * (g (ix2 ⟨a, ha⟩ ⟨b + p.val, by omega⟩) * ((Real.sqrt 128 : ℝ) : EReal))

theorem half0_at (Z : FVec Ideal S512x256 .f32) (r : Fin 512) (n : Fin 128) :
    half0 Z (ix2 r n) = Z (ix2 r ⟨n.val, by omega⟩) := by
  pointwise [half0]

theorem half1_at (Z : FVec Ideal S512x256 .f32) (r : Fin 512) (n : Fin 128) :
    half1 Z (ix2 r n) = Z (ix2 r ⟨128 + n.val, by omega⟩) := by
  pointwise [half1]

theorem ldW_at (o : Nat) (ho : o + 256 ≤ 3072)
    (inb : ∀ a, (![0, o] : Fin 2 → Nat) a + (![1024, 256] : Fin 2 → Nat) a ≤ S1024x3072.size a) (k : Fin 1024) (p : Fin 256) :
    View.ld W (Rect.unit ![0, o] ![1024, 256] inb) (ix2 k p) = W (ix2 k ⟨o + p.val, by omega⟩) := by
  refine congrArg W (funext fun a => Fin.ext ?_)
  match a with
  | ⟨0, _⟩ => show 0 + 1 * k.val = k.val; omega
  | ⟨1, _⟩ => show o + 1 * p.val = o + p.val; omega

theorem ldG_at (a b : Nat) (ha : a < 2) (hb : b + 256 ≤ 1024)
    (inb : ∀ e, (![a, b] : Fin 2 → Nat) e + (![1, 256] : Fin 2 → Nat) e ≤ S2x1024.size e) (p : Fin 256) :
    View.ld g (Rect.unit ![a, b] ![1, 256] inb) (ix2 0 p) = g (ix2 ⟨a, ha⟩ ⟨b + p.val, by omega⟩) := by
  refine congrArg g (funext fun e => Fin.ext ?_)
  match e with
  | ⟨0, _⟩ => show a + 1 * 0 = a; omega
  | ⟨1, _⟩ => show b + 1 * p.val = b + p.val; omega

theorem prod_at (V : Vec Ideal S1024x256 .bf16) (r : Fin 512) (p : Fin 256) :
    prod X V (ix2 r p) = ∑ k : Fin 1024, X (ix2 r k) * V (ix2 k p) := by
  pointwise [prod]

/-- The gains' factor, by its name. -/
theorem root_eq : (Named.named κ "root" 0x413504F3#32 : Ideal .f32) = ((Real.sqrt 128 : ℝ) : EReal) := rfl

theorem headed_at (Y : FVec Ideal S512x256 .f32) (v : Vec Ideal S1x256 .f32) (r : Fin 512) (p : Fin 256) :
    headed Y E v (ix2 r p) = Y (ix2 r p)
      * Ideal.rsqrt ((∑ l : Fin 256, (Y (ix2 r l) * Y (ix2 r l)) * E (ix2 l p))
        + (∑ l : Fin 256, (Y (ix2 r l) * Y (ix2 r l) - Y (ix2 r l) * Y (ix2 r l)) * E (ix2 l p))
        + FloatOps.ofBits (F := Ideal) .f32 0x390637BD#32) * (v (ix2 0 p) * ((Real.sqrt 128 : ℝ) : EReal)) := by
  pointwise [headed]
  exact congrArg (fun w : EReal => _ * (v (ix2 0 p) * w)) root_eq

theorem prod_ld (o : Nat) (ho : o + 256 ≤ 3072)
    (inb : ∀ a, (![0, o] : Fin 2 → Nat) a + (![1024, 256] : Fin 2 → Nat) a ≤ S1024x3072.size a) (r : Fin 512) (p : Fin 256) :
    prod X (View.ld W (Rect.unit ![0, o] ![1024, 256] inb)) (ix2 r p) = col X W r ⟨o + p.val, by omega⟩ := by
  rw [prod_at]
  exact Finset.sum_congr rfl fun k _ => congrArg (X (ix2 r k) * ·) (ldW_at W o ho inb k p)

theorem headed_ld (o a b : Nat) (ho : o + 256 ≤ 3072) (ha : a < 2) (hb : b + 256 ≤ 1024)
    (inb : ∀ a, (![0, o] : Fin 2 → Nat) a + (![1024, 256] : Fin 2 → Nat) a ≤ S1024x3072.size a)
    (inb' : ∀ e, (![a, b] : Fin 2 → Nat) e + (![1, 256] : Fin 2 → Nat) e ≤ S2x1024.size e) (r : Fin 512) (p : Fin 256) :
    headed (prod X (View.ld W (Rect.unit ![0, o] ![1024, 256] inb))) E (View.ld g (Rect.unit ![a, b] ![1, 256] inb')) (ix2 r p)
      = hcol X W g E o a b ho ha hb r p := by
  rw [headed_at, ldG_at g a b ha hb inb' p]
  simp only [prod_ld X W o ho inb]
  rfl

/-- The block the body leaves, entry by entry: the first 2048 columns normalised by heads, the rest the product. -/
def entry (r : Fin 512) (q : Fin 3072) : EReal :=
  if h : q.val < 2048 then
    hcol X W g E (q.val / 256 * 256) (q.val / 1024) (q.val / 256 * 256 % 1024) (by omega) (by omega) (by omega) r
      ⟨q.val % 256, by omega⟩
  else col X W r q

theorem hcol_congr {o a b o' a' b' : Nat} (h1 : o = o') (h2 : a = a') (h3 : b = b') (ho) (ha) (hb) (ho') (ha') (hb')
    (r : Fin 512) {p p' : Fin 256} (hp : p = p') :
    hcol X W g E o a b ho ha hb r p = hcol X W g E o' a' b' ho' ha' hb' r p' := by
  subst h1 h2 h3 hp; rfl

/-- The block at an index of a piece. -/
theorem emb_piece (s : Nat) (hs : s + 128 ≤ 3072)
    (inb : ∀ a, (![0, s] : Fin 2 → Nat) a + (![512, 128] : Fin 2 → Nat) a ≤ S512x3072.size a) (r : Fin 512) (n : Fin 128) :
    (Rect.unit (s := S512x3072) ![0, s] ![512, 128] inb).emb (ix2 r n) = ix2 r (⟨s + n.val, by omega⟩ : Fin 3072) := by
  refine funext fun a => Fin.ext ?_
  match a with
  | ⟨0, _⟩ => show 0 + 1 * r.val = r.val; omega
  | ⟨1, _⟩ => show s + 1 * n.val = s + n.val; omega

/-- The block as a function of its index. -/
def block : S512x3072.Idx → EReal := fun y => entry X W g E (y 0) (y 1)

theorem block_emb (s : Nat) (hs : s + 128 ≤ 3072)
    (inb : ∀ a, (![0, s] : Fin 2 → Nat) a + (![512, 128] : Fin 2 → Nat) a ≤ S512x3072.size a) (r : Fin 512) (n : Fin 128) :
    block X W g E ((Rect.unit (s := S512x3072) ![0, s] ![512, 128] inb).emb (ix2 r n))
      = entry X W g E r ⟨s + n.val, by omega⟩ := by
  rw [emb_piece s hs inb r n]; rfl

/-- A first half of normalised columns. -/
theorem piece_h0 (o a b : Nat) (hm : o % 256 = 0) (ha : a < 2) (hb : b + 256 ≤ 1024) (hab : o = 1024 * a + b)
    (inb : ∀ a, (![0, o] : Fin 2 → Nat) a + (![1024, 256] : Fin 2 → Nat) a ≤ S1024x3072.size a)
    (inb' : ∀ e, (![a, b] : Fin 2 → Nat) e + (![1, 256] : Fin 2 → Nat) e ≤ S2x1024.size e)
    (inb'' : ∀ a, (![0, o] : Fin 2 → Nat) a + (![512, 128] : Fin 2 → Nat) a ≤ S512x3072.size a) (x : S512x128.Idx) :
    half0 (headed (prod X (View.ld W (Rect.unit ![0, o] ![1024, 256] inb))) E (View.ld g (Rect.unit ![a, b] ![1, 256] inb'))) x
      = block X W g E ((Rect.unit (s := S512x3072) ![0, o] ![512, 128] inb'').emb x) := by
  obtain ⟨r, n, rfl⟩ : ∃ (r : Fin 512) (n : Fin 128), x = ix2 r n := ⟨x 0, x 1, (ix2_eta (n0 := 512) (n1 := 128) x).symm⟩
  rw [half0_at, headed_ld X W g E o a b (by omega) ha hb, block_emb X W g E o (by omega)]
  unfold entry
  have hn := n.isLt
  rw [dif_pos (show (⟨o + n.val, _⟩ : Fin 3072).val < 2048 by show o + n.val < 2048; omega)]
  exact hcol_congr X W g E (by show o = (o + n.val) / 256 * 256; omega) (by show a = (o + n.val) / 1024; omega)
    (by show b = (o + n.val) / 256 * 256 % 1024; omega) _ _ _ _ _ _ _
    (Fin.ext (by show n.val = (o + n.val) % 256; omega))

/-- A second half of normalised columns. -/
theorem piece_h1 (o a b s : Nat) (hm : o % 256 = 0) (ha : a < 2) (hb : b + 256 ≤ 1024) (hab : o = 1024 * a + b) (hs : s = o + 128)
    (inb : ∀ a, (![0, o] : Fin 2 → Nat) a + (![1024, 256] : Fin 2 → Nat) a ≤ S1024x3072.size a)
    (inb' : ∀ e, (![a, b] : Fin 2 → Nat) e + (![1, 256] : Fin 2 → Nat) e ≤ S2x1024.size e)
    (inb'' : ∀ a, (![0, s] : Fin 2 → Nat) a + (![512, 128] : Fin 2 → Nat) a ≤ S512x3072.size a) (x : S512x128.Idx) :
    half1 (headed (prod X (View.ld W (Rect.unit ![0, o] ![1024, 256] inb))) E (View.ld g (Rect.unit ![a, b] ![1, 256] inb'))) x
      = block X W g E ((Rect.unit (s := S512x3072) ![0, s] ![512, 128] inb'').emb x) := by
  obtain ⟨r, n, rfl⟩ : ∃ (r : Fin 512) (n : Fin 128), x = ix2 r n := ⟨x 0, x 1, (ix2_eta (n0 := 512) (n1 := 128) x).symm⟩
  rw [half1_at, headed_ld X W g E o a b (by omega) ha hb, block_emb X W g E s (by omega)]
  unfold entry
  have hn := n.isLt
  rw [dif_pos (show (⟨s + n.val, _⟩ : Fin 3072).val < 2048 by show s + n.val < 2048; omega)]
  exact hcol_congr X W g E (by show o = (s + n.val) / 256 * 256; omega) (by show a = (s + n.val) / 1024; omega)
    (by show b = (s + n.val) / 256 * 256 % 1024; omega) _ _ _ _ _ _ _
    (Fin.ext (by show 128 + n.val = (s + n.val) % 256; omega))

/-- A first half of columns of values. -/
theorem piece_v0 (o : Nat) (h1 : 2048 ≤ o) (h2 : o + 256 ≤ 3072)
    (inb : ∀ a, (![0, o] : Fin 2 → Nat) a + (![1024, 256] : Fin 2 → Nat) a ≤ S1024x3072.size a)
    (inb'' : ∀ a, (![0, o] : Fin 2 → Nat) a + (![512, 128] : Fin 2 → Nat) a ≤ S512x3072.size a) (x : S512x128.Idx) :
    half0 (prod X (View.ld W (Rect.unit ![0, o] ![1024, 256] inb))) x
      = block X W g E ((Rect.unit (s := S512x3072) ![0, o] ![512, 128] inb'').emb x) := by
  obtain ⟨r, n, rfl⟩ : ∃ (r : Fin 512) (n : Fin 128), x = ix2 r n := ⟨x 0, x 1, (ix2_eta (n0 := 512) (n1 := 128) x).symm⟩
  rw [half0_at, prod_ld X W o h2, block_emb X W g E o (by omega)]
  unfold entry
  rw [dif_neg (show ¬ (⟨o + n.val, _⟩ : Fin 3072).val < 2048 by show ¬ o + n.val < 2048; omega)]

/-- A second half of columns of values. -/
theorem piece_v1 (o s : Nat) (h1 : 2048 ≤ o) (h2 : o + 256 ≤ 3072) (hs : s = o + 128)
    (inb : ∀ a, (![0, o] : Fin 2 → Nat) a + (![1024, 256] : Fin 2 → Nat) a ≤ S1024x3072.size a)
    (inb'' : ∀ a, (![0, s] : Fin 2 → Nat) a + (![512, 128] : Fin 2 → Nat) a ≤ S512x3072.size a) (x : S512x128.Idx) :
    half1 (prod X (View.ld W (Rect.unit ![0, o] ![1024, 256] inb))) x
      = block X W g E ((Rect.unit (s := S512x3072) ![0, s] ![512, 128] inb'').emb x) := by
  obtain ⟨r, n, rfl⟩ : ∃ (r : Fin 512) (n : Fin 128), x = ix2 r n := ⟨x 0, x 1, (ix2_eta (n0 := 512) (n1 := 128) x).symm⟩
  rw [half1_at, prod_ld X W o h2, block_emb X W g E s (by omega)]
  unfold entry
  rw [dif_neg (show ¬ (⟨s + n.val, _⟩ : Fin 3072).val < 2048 by show ¬ s + n.val < 2048; omega)]
  exact congrArg (col X W _) (Fin.ext (by show o + (128 + n.val) = s + n.val; omega))

end Entries

section Out

variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S1024x3072 .bf16) (harg3 : arg3.IsWhole)
  (arg4 : Memref sig .tc .vmem S2x1024 .f32) (harg4 : arg4.IsWhole)
  (arg5 : Memref sig .tc .vmem S256x256 .bf16) (harg5 : arg5.IsWhole)
  (arg6 : Memref sig .tc .vmem S512x3072 .bf16) (harg6 : arg6.IsWhole)
  (arg7 : Memref sig .tc .vmem S512x1024 .bf16) (harg7 : arg7.IsWhole)
  (x0 : Vec Ideal S512x1024 .f32) (x1 : Vec Ideal S1x1024 .f32) (x2 : Vec Ideal S1024x3072 .bf16)
  (x3 : Vec Ideal S2x1024 .f32) (x4 : Vec Ideal S256x256 .bf16)

/-- Every piece the body stores is a piece of the one block. -/
theorem pieces : ∀ p ∈ (kernelRun0_A c i arg1 harg1 arg2 harg2 arg3 harg3 arg4 harg4 arg5 harg5 arg6 harg6 arg7 harg7
      x0 x1 x2 x3 x4).1, ∀ x : p.1.shape.Idx, p.2 x = block (k0_pay2 x0 x1) x2 x3 x4 (p.1.emb x) := by
  unfold kernelRun0_A
  dsimp only
  sl_unfold_words
  simp only [View.readCov_unit_zero (S := S512x1024) _ hz, View.readAt_eq_ld, harg1.read_unread, harg2.read_unread,
    harg3.read_unread, harg4.read_unread, harg5.read_unread, View.ld_unit_zero (S := S512x1024) hz,
    View.ld_unit_zero (S := S1x1024) hz, View.ld_unit_zero (S := S256x256) hz]
  generalize k0_pay2 x0 x1 = X
  simp only [List.forall_mem_cons]
  refine ⟨piece_v1 X x2 x3 x4 2816 2944 (by decide) (by decide) rfl _ _, ?_⟩
  refine ⟨piece_v0 X x2 x3 x4 2816 (by decide) (by decide) _ _, ?_⟩
  refine ⟨piece_v1 X x2 x3 x4 2560 2688 (by decide) (by decide) rfl _ _, ?_⟩
  refine ⟨piece_v0 X x2 x3 x4 2560 (by decide) (by decide) _ _, ?_⟩
  refine ⟨piece_v1 X x2 x3 x4 2304 2432 (by decide) (by decide) rfl _ _, ?_⟩
  refine ⟨piece_v0 X x2 x3 x4 2304 (by decide) (by decide) _ _, ?_⟩
  refine ⟨piece_v1 X x2 x3 x4 2048 2176 (by decide) (by decide) rfl _ _, ?_⟩
  refine ⟨piece_v0 X x2 x3 x4 2048 (by decide) (by decide) _ _, ?_⟩
  refine ⟨piece_h1 X x2 x3 x4 1792 1 768 1920 rfl (by decide) (by decide) rfl rfl _ _ _, ?_⟩
  refine ⟨piece_h0 X x2 x3 x4 1792 1 768 rfl (by decide) (by decide) rfl _ _ _, ?_⟩
  refine ⟨piece_h1 X x2 x3 x4 1536 1 512 1664 rfl (by decide) (by decide) rfl rfl _ _ _, ?_⟩
  refine ⟨piece_h0 X x2 x3 x4 1536 1 512 rfl (by decide) (by decide) rfl _ _ _, ?_⟩
  refine ⟨piece_h1 X x2 x3 x4 1280 1 256 1408 rfl (by decide) (by decide) rfl rfl _ _ _, ?_⟩
  refine ⟨piece_h0 X x2 x3 x4 1280 1 256 rfl (by decide) (by decide) rfl _ _ _, ?_⟩
  refine ⟨piece_h1 X x2 x3 x4 1024 1 0 1152 rfl (by decide) (by decide) rfl rfl _ _ _, ?_⟩
  refine ⟨piece_h0 X x2 x3 x4 1024 1 0 rfl (by decide) (by decide) rfl _ _ _, ?_⟩
  refine ⟨piece_h1 X x2 x3 x4 768 0 768 896 rfl (by decide) (by decide) rfl rfl _ _ _, ?_⟩
  refine ⟨piece_h0 X x2 x3 x4 768 0 768 rfl (by decide) (by decide) rfl _ _ _, ?_⟩
  refine ⟨piece_h1 X x2 x3 x4 512 0 512 640 rfl (by decide) (by decide) rfl rfl _ _ _, ?_⟩
  refine ⟨piece_h0 X x2 x3 x4 512 0 512 rfl (by decide) (by decide) rfl _ _ _, ?_⟩
  refine ⟨piece_h1 X x2 x3 x4 256 0 256 384 rfl (by decide) (by decide) rfl rfl _ _ _, ?_⟩
  refine ⟨piece_h0 X x2 x3 x4 256 0 256 rfl (by decide) (by decide) rfl _ _ _, ?_⟩
  refine ⟨piece_h1 X x2 x3 x4 0 0 0 128 rfl (by decide) (by decide) rfl rfl _ _ _, ?_⟩
  refine ⟨piece_h0 X x2 x3 x4 0 0 0 rfl (by decide) (by decide) rfl _ _ _, ?_⟩
  exact fun _ h => absurd h List.not_mem_nil

/-- The block the body leaves. -/
theorem out_eq : out0_A_5 c i arg1 harg1 arg2 harg2 arg3 harg3 arg4 harg4 arg5 harg5 arg6 harg6 arg7 harg7 x0 x1 x2 x3 x4
    = block (k0_pay2 x0 x1) x2 x3 x4 := by
  unfold out0_A_5
  rw [View.read_writes_eq_canon _ _ _ (cover0_A_5 c i arg1 harg1 arg2 harg2 arg3 harg3 arg4 harg4 arg5 harg5 arg6 harg6
    arg7 harg7 x0 x1 x2 x3 x4)]
  exact funext fun y => View.canon_apply_of_pieces _ _ (pieces c i arg1 harg1 arg2 harg2 arg3 harg3 arg4 harg4 arg5 harg5
    arg6 harg6 arg7 harg7 x0 x1 x2 x3 x4) y (cover0_A_5 c i arg1 harg1 arg2 harg2 arg3 harg3 arg4 harg4 arg5 harg5 arg6
    harg6 arg7 harg7 x0 x1 x2 x3 x4 y)

end Out

end Cert.Kernel4Ideal.Dil

end
-- ==== Proof.DilSeg.lean ====
/-
  The matrix that sums squares head by head: the host builds it from the column numbers, each divided by the 128 columns of
  a head; entry `(l, p)` is one when columns `l` and `p` are of one head and zero otherwise.
-/
module

public import proofs.«01_k».proof.Proof.DilBody
public import Idealize.ShloMosaic.Lib.Pointwise

@[expose] public section

set_option maxRecDepth 16384

noncomputable section

namespace Cert.Kernel4Ideal.Dil

open Cert.Kernel4Ideal Cert.Kernel4Ideal.Gen Idealize.ShloMosaic Idealize.ShloMosaic.TcCoe Idealize.SL.Sem

/-- Column numbers divided by 128, rounded down, as the host writes it. -/
def fdiv {S : Shape} (h : S_.BroadcastsInDim S (![] : Fin 0 → Fin S.rank)) (x : IVec S 32) : IVec S 32 :=
  select
    (andi (cmpi .ne (signi x) (broadcastInDim S ![] h (signi (constantI S_ 32 128#32))))
      (cmpi .ne (Host.remsi x (broadcastInDim S ![] h (constantI S_ 32 128#32))) (broadcastInDim S ![] h (constantI S_ 32 0#32))))
    (subi (Host.divsi x (broadcastInDim S ![] h (constantI S_ 32 128#32))) (broadcastInDim S ![] h (constantI S_ 32 1#32)))
    (Host.divsi x (broadcastInDim S ![] h (constantI S_ 32 128#32)))

/-- The same of one word. -/
def fword (x : BitVec 32) : BitVec 32 :=
  fdiv (S := S_) (by decide) (fun _ => x) ix0

theorem fdiv_at {S : Shape} (h : S_.BroadcastsInDim S (![] : Fin 0 → Fin S.rank)) (x : IVec S 32) (i : S.Idx) :
    fdiv h x i = fword (x i) := rfl

theorem fword_eq : ∀ i : Fin 256, fword (BitVec.ofNat 32 i.val) = BitVec.ofNat 32 (i.val / 128) := by
  decide +kernel

/-- The matrix, as the host writes it. -/
def segs : Vec Ideal S256x256 .bf16 := uitofp (F := Ideal) .bf16 (cmpi .eq
    (broadcastInDim S256x256 ![0, 1] bcast_S256x1_S256x256_0_1
      (fdiv bcast_S_S256x1 (broadcastInDim S256x1 ![0] bcast_S256_S256x1_0 (iotaInDim S256 32 0))))
    (broadcastInDim S256x256 ![0, 1] bcast_S1x256_S256x256_0_1
      (fdiv bcast_S_S1x256 (broadcastInDim S1x256 ![1] bcast_S256_S1x256_1 (iotaInDim S256 32 0)))))

theorem segs_at (l p : Fin 256) : segs (ix2 l p) = if l.val / 128 = p.val / 128 then (1 : EReal) else (0 : EReal) := by
  unfold segs
  have h : ∀ l p : Fin 256, cmpi .eq
      (broadcastInDim S256x256 ![0, 1] bcast_S256x1_S256x256_0_1
        (fdiv bcast_S_S256x1 (broadcastInDim S256x1 ![0] bcast_S256_S256x1_0 (iotaInDim S256 32 0))))
      (broadcastInDim S256x256 ![0, 1] bcast_S1x256_S256x256_0_1
        (fdiv bcast_S_S1x256 (broadcastInDim S1x256 ![1] bcast_S256_S1x256_1 (iotaInDim S256 32 0)))) (ix2 l p)
      = IntOp.cmpi .eq (fword (BitVec.ofNat 32 l.val)) (fword (BitVec.ofNat 32 p.val)) := fun l p => by
    show IntOp.cmpi .eq (fword _) (fword _) = _
    congr 2
  show FloatOps.uitofp (F := Ideal) .bf16 _ = _
  rw [h, fword_eq, fword_eq]
  by_cases hlp : l.val / 128 = p.val / 128
  · rw [if_pos hlp, hlp]
    have e : IntOp.cmpi .eq (BitVec.ofNat 32 (p.val / 128)) (BitVec.ofNat 32 (p.val / 128)) = 1#1 := by
      unfold IntOp.cmpi; simp
    rw [e]
    show ((_ : ℝ) : EReal) = 1
    simp
  · rw [if_neg hlp]
    have e : IntOp.cmpi .eq (BitVec.ofNat 32 (l.val / 128)) (BitVec.ofNat 32 (p.val / 128)) = 0#1 := by
      have hne : BitVec.ofNat 32 (l.val / 128) ≠ BitVec.ofNat 32 (p.val / 128) := fun he => hlp (by
        have := congrArg BitVec.toNat he
        simp only [BitVec.toNat_ofNat] at this
        omega)
      unfold IntOp.cmpi
      show BitVec.ofBool (BitVec.ofNat 32 (l.val / 128) == BitVec.ofNat 32 (p.val / 128)) = 0#1
      rw [beq_eq_false_iff_ne.mpr hne]; rfl
    rw [e]
    show ((_ : ℝ) : EReal) = 0
    simp

variable (m : (ℓ : Loc nD τ sig) → Buf (Elt Ideal) ℓ) (c : Dev nD)

theorem V_seg : V m c main_v8 = segs := by
  simp only [V, hostOps0, hostOps0_1, hostOps0_2, hostOps0_3, hostOps0_4, List.flatten_cons, List.flatten_nil,
    List.append_nil, List.cons_append, List.nil_append]
  after_results_simp
  rfl

theorem seg_at (l p : Fin 256) : (V m c main_v8 : Vec Ideal S256x256 .bf16) (ix2 l p) = if l.val / 128 = p.val / 128 then (1 : EReal) else (0 : EReal) := by
  rw [V_seg]
  exact segs_at l p

end Cert.Kernel4Ideal.Dil

end
-- ==== Proof.DilRef.lean ====
/-
  The dilated layer's projection over the extended reals, as one formula per element, and the reference's composed term read as that
  formula.
-/
module

public import proofs.«01_k».proof.Defs
public import proofs.«01_k».proof.Proof.Gen.Reference4Ideal.Run
public import Idealize.ShloMosaic.Lib.Pointwise

@[expose] public section

set_option maxRecDepth 16384

noncomputable section

namespace Cert.DilRef

open Idealize.ShloMosaic Idealize.ShloMosaic.TcCoe Cert.Reference4Ideal Cert.Reference4Ideal.Gen

variable (H : Vec Ideal S65536x1024 .f32) (G : Vec Ideal S1024 .f32) (W : Vec Ideal S1024x3072 .bf16)
  (g : Vec Ideal S2x1024 .f32)

/-- Column `k` of row `R`, normalised: divided by the row's root mean square (plus the small constant), times its gain. -/
def xn (R : Fin 65536) (k : Fin 1024) : EReal :=
  H (ix2 R k) * Ideal.rsqrt (Ideal.div (∑ x, H (ix2 R x) * H (ix2 R x)) (Ideal.ofBits FTy.f32 1149239296#32)
    + Ideal.ofBits FTy.f32 897988541#32) * G (ix1 k)

/-- Column `q` of the product. -/
def y (R : Fin 65536) (q : Fin 3072) : EReal := ∑ k, xn H G R k * W (ix2 k q)

/-- Column `q` of the product, normalised over the 128 columns of its head. -/
def yn (R : Fin 65536) (q : Fin 3072) : EReal :=
  y H G W R q * Ideal.rsqrt (Ideal.div
    (∑ d : Fin 128, y H G W R ⟨q.val / 128 * 128 + d.val, by omega⟩ * y H G W R ⟨q.val / 128 * 128 + d.val, by omega⟩)
    (Ideal.ofBits FTy.f32 0x43000000#32) + Ideal.ofBits FTy.f32 897988541#32)

/-- The result: queries and keys normalised and scaled by their gains, values as they are. -/
def result (R : Fin 65536) (q : Fin 3072) : EReal :=
  if h : q.val < 2048 then yn H G W R q * g (ix2 ⟨q.val / 1024, by omega⟩ ⟨q.val % 1024, by omega⟩) else y H G W R q

/-! ## The reference's operations, in stages -/

/-- The reference's normalised rows. -/
def refX : FVec Ideal S65536x1024 .f32 :=
  mulf (mulf H (broadcastInDim S65536x1024 ![0, 1] bcast_S65536x1_S65536x1024_0_1 (Host.rsqrt (addf (Host.divf (broadcastInDim S65536x1 ![0] bcast_S65536_S65536x1_0 (Host.reduceAdd (mulf H H) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 G))

/-- The reference's product, cut into queries, keys and values and their heads. -/
def refY (X : FVec Ideal S65536x1024 .f32) : FVec Ideal S65536x3x8x128 .f32 :=
  shapeCast _ (Host.dotGeneral dot_S65536x1024_S1024x3072_S65536x3072_1_0_0_1_n_n none X (extf .f32 W bitsLt_bf16_f32)) shapeCasts_S65536x3072_S65536x3x8x128

/-- The reference's normalisation over heads. -/
def refN (Y : FVec Ideal S65536x3x8x128 .f32) : FVec Ideal S65536x3x8x128 .f32 :=
  mulf Y (broadcastInDim S65536x3x8x128 ![0, 1, 2, 3] bcast_S65536x3x8x1_S65536x3x8x128_0_1_2_3 (Host.rsqrt (addf (Host.divf (broadcastInDim S65536x3x8x1 ![0, 1, 2] bcast_S65536x3x8_S65536x3x8x1_0_1_2 (Host.reduceAdd (mulf Y Y) (constant S_ .f32 0x00000000#32) reducesTo_S65536x3x8x128_S65536x3x8_d3 h_S_)) (broadcastInDim S65536x3x8x1 ![] bcast_S_S65536x3x8x1 (constant S_ .f32 0x43000000#32))) (broadcastInDim S65536x3x8x1 ![] bcast_S_S65536x3x8x1 (constant S_ .f32 0x358637BD#32)))))

/-- The heads of the queries side by side, scaled by their gains. -/
def refQ (N : FVec Ideal S65536x3x8x128 .f32) : FVec Ideal S65536x1024 .f32 :=
  mulf (shapeCast _ (shapeCast _ (extractStridedSlice S65536x1x8x128 ![0, 0, 0, 0] N slices_S65536x3x8x128_S65536x1x8x128_0_0_0_0) shapeCasts_S65536x1x8x128_S65536x8x128) shapeCasts_S65536x8x128_S65536x1024) (broadcastInDim S65536x1024 ![0, 1] bcast_S1x1024_S65536x1024_0_1 (broadcastInDim S1x1024 ![1] bcast_S1024_S1x1024_1 (shapeCast _ (extractStridedSlice S1x1024 ![0, 0] g slices_S2x1024_S1x1024_0_0) shapeCasts_S1x1024_S1024)))

/-- The heads of the keys side by side, scaled by their gains. -/
def refK (N : FVec Ideal S65536x3x8x128 .f32) : FVec Ideal S65536x1024 .f32 :=
  mulf (shapeCast _ (shapeCast _ (extractStridedSlice S65536x1x8x128 ![0, 1, 0, 0] N slices_S65536x3x8x128_S65536x1x8x128_0_1_0_0) shapeCasts_S65536x1x8x128_S65536x8x128) shapeCasts_S65536x8x128_S65536x1024) (broadcastInDim S65536x1024 ![0, 1] bcast_S1x1024_S65536x1024_0_1 (broadcastInDim S1x1024 ![1] bcast_S1024_S1x1024_1 (shapeCast _ (extractStridedSlice S1x1024 ![1, 0] g slices_S2x1024_S1x1024_1_0) shapeCasts_S1x1024_S1024)))

/-- The heads of the values side by side. -/
def refV (Y : FVec Ideal S65536x3x8x128 .f32) : FVec Ideal S65536x1024 .f32 :=
  shapeCast _ (shapeCast _ (extractStridedSlice S65536x1x8x128 ![0, 2, 0, 0] Y slices_S65536x3x8x128_S65536x1x8x128_0_2_0_0) shapeCasts_S65536x1x8x128_S65536x8x128) shapeCasts_S65536x8x128_S65536x1024

/-- Queries, keys and values side by side. -/
def refCat (q k v : FVec Ideal S65536x1024 .f32) : FVec Ideal S65536x3072 .bf16 :=
  truncf .bf16 (concatenate S65536x3072 1 [⟨S65536x1024, (q : (⟨S65536x1024, .f32⟩ : BufTy).Contents (Elt Ideal))⟩, ⟨S65536x1024, (k : (⟨S65536x1024, .f32⟩ : BufTy).Contents (Elt Ideal))⟩, ⟨S65536x1024, (v : (⟨S65536x1024, .f32⟩ : BufTy).Contents (Elt Ideal))⟩] concatenates_S65536x1024_S65536x1024_S65536x1024_S65536x3072_d1 : FVec Ideal S65536x3072 .f32) bitsLt_bf16_f32

/-- The reference's result. -/
def refOut : FVec Ideal S65536x3072 .bf16 :=
  refCat (refQ g (refN (refY W (refX H G)))) (refK g (refN (refY W (refX H G)))) (refV (refY W (refX H G)))

theorem res_eq (m : (ℓ : Loc nD τ sig) → Buf (Elt Ideal) ℓ) (c : Dev nD) :
    Value.res_main_v46 m c = refOut (m ((c.tc : Thread nD τ).loc main_arg0)) (m ((c.tc : Thread nD τ).loc main_arg1))
      (m ((c.tc : Thread nD τ).loc main_arg2)) (m ((c.tc : Thread nD τ).loc main_arg3)) := rfl

theorem refX_at (R : Fin 65536) (k : Fin 1024) : refX H G (ix2 R k) = xn H G R k := by
  pointwise [refX, xn]

theorem refY_at (R : Fin 65536) (s : Fin 3) (h : Fin 8) (d : Fin 128) :
    refY W (refX H G) (ix4 R s h d) = y H G W R ⟨1024 * s.val + 128 * h.val + d.val, by omega⟩ := by
  pointwise [refY, y]
  refine Finset.sum_congr rfl fun k _ => ?_
  rw [refX_at]
  refine congrArg (fun q => xn H G R k * W (ix2 k q)) (Fin.ext ?_)
  show s.val * 1024 + h.val * 128 + d.val = 1024 * s.val + 128 * h.val + d.val
  omega

theorem refN_at (Y : FVec Ideal S65536x3x8x128 .f32) (R : Fin 65536) (s : Fin 3) (h : Fin 8) (d : Fin 128) :
    refN Y (ix4 R s h d) = Y (ix4 R s h d) * Ideal.rsqrt (Ideal.div (∑ e, Y (ix4 R s h e) * Y (ix4 R s h e))
      (Ideal.ofBits FTy.f32 0x43000000#32) + Ideal.ofBits FTy.f32 897988541#32) := by
  pointwise [refN]

theorem refQ_at (N : FVec Ideal S65536x3x8x128 .f32) (R : Fin 65536) (o : Fin 1024) :
    refQ g N (ix2 R o) = N (ix4 R 0 ⟨o.val / 128, by omega⟩ ⟨o.val % 128, by omega⟩) * g (ix2 0 o) := by
  pointwise [refQ]

theorem refK_at (N : FVec Ideal S65536x3x8x128 .f32) (R : Fin 65536) (o : Fin 1024) :
    refK g N (ix2 R o) = N (ix4 R 1 ⟨o.val / 128, by omega⟩ ⟨o.val % 128, by omega⟩) * g (ix2 1 o) := by
  pointwise [refK]

theorem refV_at (N : FVec Ideal S65536x3x8x128 .f32) (R : Fin 65536) (o : Fin 1024) :
    refV N (ix2 R o) = N (ix4 R 2 ⟨o.val / 128, by omega⟩ ⟨o.val % 128, by omega⟩) := by
  pointwise [refV]

theorem refCat_at (q k v : FVec Ideal S65536x1024 .f32) (R : Fin 65536) (o : Fin 3072) :
    refCat q k v (ix2 R o) = if h : o.val < 1024 then q (ix2 R ⟨o.val, h⟩)
      else if h' : o.val < 2048 then k (ix2 R ⟨o.val - 1024, by omega⟩) else v (ix2 R ⟨o.val - 2048, by omega⟩) := by
  pointwise [refCat]
  by_cases h : o.val < 1024
  · rw [dif_pos h, dif_pos h]
  · rw [dif_neg h, dif_neg h]
    by_cases h' : o.val < 2048
    · rw [dif_pos h', dif_pos (by omega)]
    · rw [dif_neg h', dif_neg (by omega)]
      rfl

/-- A head's normalised column, by the column's number. -/
theorem refN_col (R : Fin 65536) (s : Fin 3) (h : Fin 8) (d : Fin 128) (q : Fin 3072)
    (hq : q.val = 1024 * s.val + 128 * h.val + d.val) :
    refN (refY W (refX H G)) (ix4 R s h d) = yn H G W R q := by
  rw [refN_at]
  simp only [refY_at]
  unfold yn
  have e0 : (⟨1024 * s.val + 128 * h.val + d.val, by omega⟩ : Fin 3072) = q := Fin.ext hq.symm
  have e : ∀ x : Fin 128, (⟨1024 * s.val + 128 * h.val + x.val, by omega⟩ : Fin 3072)
      = ⟨q.val / 128 * 128 + x.val, by omega⟩ := fun x => Fin.ext (by
    show 1024 * s.val + 128 * h.val + x.val = q.val / 128 * 128 + x.val
    omega)
  simp only [e]
  rw [← e d, e0]

/-- The reference's result is the formula. -/
theorem refOut_at (R : Fin 65536) (q : Fin 3072) : refOut H G W g (ix2 R q) = result H G W g R q := by
  unfold refOut result
  rw [refCat_at]
  by_cases h : q.val < 1024
  · rw [dif_pos h, dif_pos (by omega), refQ_at,
      refN_col H G W R 0 _ _ q (by show q.val = 1024 * 0 + 128 * (q.val / 128) + q.val % 128; omega)]
    refine congrArg (fun i => yn H G W R q * g i) ((ix2_inj _ _ _ _).2 ⟨Fin.ext ?_, Fin.ext ?_⟩)
    · show 0 = q.val / 1024; omega
    · show q.val = q.val % 1024; omega
  · rw [dif_neg h]
    by_cases h' : q.val < 2048
    · rw [dif_pos h', dif_pos h', refK_at, refN_col H G W R 1 _ _ q (by
        show q.val = 1024 * 1 + 128 * ((q.val - 1024) / 128) + (q.val - 1024) % 128; omega)]
      refine congrArg (fun i => yn H G W R q * g i) ((ix2_inj _ _ _ _).2 ⟨Fin.ext ?_, Fin.ext ?_⟩)
      · show 1 = q.val / 1024; omega
      · show q.val - 1024 = q.val % 1024; omega
    · rw [dif_neg h', dif_neg h', refV_at, refY_at]
      refine congrArg (y H G W R) (Fin.ext ?_)
      show 1024 * 2 + 128 * ((q.val - 2048) / 128) + (q.val - 2048) % 128 = q.val
      omega

end Cert.DilRef

end
-- ==== Proof.DilValue.lean ====
/-
  The dilated layer's projection call (dilation one): its result array over the extended reals, when the norm's gains and the weights are real: at every
  element, the formula of `DilRef`.
-/
module

public import proofs.«01_k».proof.Proof.DilBody
public import proofs.«01_k».proof.Proof.DilSeg
public import proofs.«01_k».proof.Proof.ProjMath
public import proofs.«01_k».proof.Proof.DilRef
public import Idealize.ShloMosaic.Lib.Pointwise

@[expose] public section

set_option maxRecDepth 16384

noncomputable section

namespace Cert.Kernel4Ideal.Dil

open Cert.Kernel4Ideal Cert.Kernel4Ideal.Gen Idealize.ShloMosaic Idealize.ShloMosaic.TcCoe Idealize.SL.Sem

/-! ## One entry of a block -/

section Entry

variable (H : Vec Ideal S65536x1024 .f32) (G : Vec Ideal S1024 .f32) (W : Vec Ideal S1024x3072 .bf16)
  (g : Vec Ideal S2x1024 .f32)

/-- With real gains and weights, the product is real. -/
theorem y_real (hG : ∀ i, ∃ y : ℝ, G (ix1 i) = (y : EReal)) (hW : ∀ i j, ∃ y : ℝ, W (ix2 i j) = (y : EReal))
    (R : Fin 65536) (q : Fin 3072) : ∃ v : ℝ, DilRef.y H G W R q = (v : EReal) := by
  have hx : ∀ k, ∃ v : ℝ, DilRef.xn H G R k = (v : EReal) := fun k => by
    obtain ⟨a, ha⟩ := ProjMath.normed_real (fun x => H (ix2 R x)) k 1024 ProjMath.eps (by norm_num) ProjMath.eps_pos
    obtain ⟨b, hb⟩ := hG k
    refine ⟨a * b, ?_⟩
    unfold DilRef.xn
    rw [ProjMath.word_1024, ProjMath.eps_word]
    refine (congrArg (· * G (ix1 k)) ha).trans ?_
    rw [hb, EReal.coe_mul]
  choose a ha using hx
  choose w hw using hW
  refine ⟨∑ k, a k * w k q, ?_⟩
  unfold DilRef.y
  rw [Softmax.coe_sum]
  exact Finset.sum_congr rfl fun k _ => by rw [ha, hw, EReal.coe_mul]

/-- An entry of a block is the formula, when the block's inputs are the arrays' rows, the gains, and the matrix
of heads. -/
theorem entry_eq (hG : ∀ i, ∃ y : ℝ, G (ix1 i) = (y : EReal)) (hW : ∀ i j, ∃ y : ℝ, W (ix2 i j) = (y : EReal))
    (X : Vec Ideal S512x1024 .bf16) (w : Vec Ideal S1024x3072 .bf16) (g' : Vec Ideal S2x1024 .f32)
    (E : Vec Ideal S256x256 .bf16) (R : Fin 65536) (r : Fin 512)
    (hX : ∀ k, X (ix2 r k) = DilRef.xn H G R k) (hw : ∀ k q, w (ix2 k q) = W (ix2 k q))
    (hg : ∀ a b, g' (ix2 a b) = g (ix2 a b))
    (hE : ∀ l p : Fin 256, E (ix2 l p) = if l.val / 128 = p.val / 128 then (1 : EReal) else (0 : EReal)) (q : Fin 3072) :
    entry X w g' E r q = DilRef.result H G W g R q := by
  have hc : ∀ q, col X w r q = DilRef.y H G W R q := fun q => by
    unfold col DilRef.y
    exact Finset.sum_congr rfl fun k _ => by rw [hX, hw]
  choose v hv using y_real H G W hG hW R
  unfold entry DilRef.result
  by_cases h : q.val < 2048
  · rw [dif_pos h, dif_pos h]
    unfold hcol DilRef.yn
    simp only [hc, hE, hg]
    have hq : (⟨q.val / 256 * 256 + q.val % 256, by omega⟩ : Fin 3072) = q := Fin.ext (by
      show q.val / 256 * 256 + q.val % 256 = q.val; omega)
    have hz : ∀ l : Fin 256, DilRef.y H G W R ⟨q.val / 256 * 256 + l.val, by omega⟩ * DilRef.y H G W R ⟨q.val / 256 * 256 + l.val, by omega⟩
        - DilRef.y H G W R ⟨q.val / 256 * 256 + l.val, by omega⟩ * DilRef.y H G W R ⟨q.val / 256 * 256 + l.val, by omega⟩ = 0 := fun l => by
      rw [hv, ← EReal.coe_mul, ← EReal.coe_sub, sub_self, EReal.coe_zero]
    have hs := ProjMath.head_sum 2 128 rfl (by decide) (fun l : Fin 256 =>
      DilRef.y H G W R ⟨q.val / 256 * 256 + l.val, by omega⟩ * DilRef.y H G W R ⟨q.val / 256 * 256 + l.val, by omega⟩)
      ⟨q.val % 256, by omega⟩
    have hd : ∀ d : Fin 128, (⟨q.val / 256 * 256 + (q.val % 256 / 128 * 128 + d.val), by omega⟩ : Fin 3072)
        = ⟨q.val / 128 * 128 + d.val, by omega⟩ := fun d => Fin.ext (by
      show q.val / 256 * 256 + (q.val % 256 / 128 * 128 + d.val) = q.val / 128 * 128 + d.val; omega)
    have hgi : (ix2 (⟨q.val / 1024, by omega⟩ : Fin 2) (⟨q.val / 256 * 256 % 1024 + q.val % 256, by omega⟩ : Fin 1024))
        = ix2 (⟨q.val / 1024, by omega⟩ : Fin 2) (⟨q.val % 1024, by omega⟩ : Fin 1024) :=
      (ix2_inj _ _ _ _).2 ⟨rfl, Fin.ext (by show q.val / 256 * 256 % 1024 + q.val % 256 = q.val % 1024; omega)⟩
    simp only [hz, zero_mul, Finset.sum_const_zero, add_zero]
    rw [hs, hq, hgi]
    simp only [hd]
    have hS : ∑ d : Fin 128, DilRef.y H G W R ⟨q.val / 128 * 128 + d.val, by omega⟩ * DilRef.y H G W R ⟨q.val / 128 * 128 + d.val, by omega⟩
        = ((∑ d : Fin 128, v ⟨q.val / 128 * 128 + d.val, by omega⟩ * v ⟨q.val / 128 * 128 + d.val, by omega⟩ : ℝ) : EReal) := by
      rw [Softmax.coe_sum]
      exact Finset.sum_congr rfl fun d _ => by rw [hv, EReal.coe_mul]
    have h0 : 0 ≤ ∑ d : Fin 128, v ⟨q.val / 128 * 128 + d.val, by omega⟩ * v ⟨q.val / 128 * 128 + d.val, by omega⟩ :=
      Finset.sum_nonneg fun d _ => mul_self_nonneg _
    rw [hS, ProjMath.word_128, ProjMath.eps_word, ← ProjMath.rsqrt_scale h0 (by norm_num) ProjMath.eps_pos]
    have he : FloatOps.ofBits (F := Ideal) .f32 0x390637BD#32 = ((128 * ProjMath.eps : ℝ) : EReal) := ProjMath.eps128_word
    rw [he]
    generalize Ideal.rsqrt _ = u
    rw [mul_comm (g _), mul_assoc, mul_assoc, mul_assoc]
  · rw [dif_neg h, dif_neg h, hc]

end Entry

/-! ## The blocks at an index -/

theorem pay2_at (x0 : Vec Ideal S512x1024 .f32) (x1 : Vec Ideal S1x1024 .f32) (r : Fin 512) (k : Fin 1024) :
    k0_pay2 x0 x1 (ix2 r k) = x0 (ix2 r k) * Ideal.rsqrt (Ideal.div (∑ x, x0 (ix2 r x) * x0 (ix2 r x))
      (Ideal.ofBits FTy.f32 1149239296#32) + Ideal.ofBits FTy.f32 897988541#32) * x1 (ix2 0 k) := by
  pointwise [k0_pay2]

variable (m : (ℓ : Loc nD τ sig) → Buf (Elt Ideal) ℓ) (ρ : Dev nD → PrngReg) (c : Dev nD)

/-- The printed index maps, decided over the grid: point `t` is row block `t`. -/
theorem maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem N_eq : cfg0.N = 128 := N_0

/-- Row `r` of point `t`'s block, as a row of the array. -/
def row (t : Fin cfg0.N) (r : Fin 512) : Fin 65536 :=
  ⟨t.val * 512 + r.val, by have h := lt_of_lt_of_eq t.isLt N_eq; omega⟩

theorem blk0_at (t : Fin cfg0.N) (r : Fin 512) (k : Fin 1024) :
    (iblk m c 0 t : Vec Ideal S512x1024 .f32) (ix2 r k) = m ((c : Thread nD τ).loc main_arg0) (ix2 (row t r) k) := by
  obtain ⟨e0, e1, -⟩ := maps t
  unfold iblk
  rw [View.read_apply]
  show V m c main_arg0 _ = _
  rw [V_main_arg0]
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

/-- The norm's gains, laid out as one row before the call. -/
theorem V_gain (k : Fin 1024) : V m c main_v9 (ix2 0 k) = m ((c : Thread nD τ).loc main_arg1) (ix1 k) := by
  have h : V m c main_v9 = shapeCast S1x1024 (m ((c : Thread nD τ).loc main_arg1) : Vec Ideal S1024 .f32)
      shapeCasts_S1024_S1x1024 := by
    simp only [V, hostOps0, hostOps0_1, hostOps0_2, hostOps0_3, hostOps0_4, List.flatten_cons, List.flatten_nil,
      List.append_nil, List.cons_append, List.nil_append]
    after_results_simp
    rfl
  rw [h]
  pointwise

theorem blk1_at (t : Fin cfg0.N) (k : Fin 1024) :
    (iblk m c 1 t : Vec Ideal S1x1024 .f32) (ix2 0 k) = m ((c : Thread nD τ).loc main_arg1) (ix1 k) := by
  obtain ⟨-, -, e0, e1, -⟩ := maps t
  rw [← V_gain m c k]
  unfold iblk
  rw [View.read_apply]
  show V m c main_v9 _ = _
  congr 1
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem blk2_at (t : Fin cfg0.N) (k : Fin 1024) (q : Fin 3072) :
    (iblk m c 2 t : Vec Ideal S1024x3072 .bf16) (ix2 k q) = m ((c : Thread nD τ).loc main_arg2) (ix2 k q) := by
  obtain ⟨-, -, -, -, e0, e1, -⟩ := maps t
  unfold iblk
  rw [View.read_apply]
  show V m c main_arg2 _ = _
  rw [V_main_arg2]
  congr 1
  funext a; apply Fin.ext
  match a with
  | ⟨0, _⟩ => show win0_2.index t (0 : Fin 2) * 1024 + 1 * k.val = k.val; omega
  | ⟨1, _⟩ => show win0_2.index t (1 : Fin 2) * 3072 + 1 * q.val = q.val; omega

theorem blk3_at (t : Fin cfg0.N) (a : Fin 2) (b : Fin 1024) :
    (iblk m c 3 t : Vec Ideal S2x1024 .f32) (ix2 a b) = m ((c : Thread nD τ).loc main_arg3) (ix2 a b) := by
  obtain ⟨-, -, -, -, -, -, e0, e1, -⟩ := maps t
  unfold iblk
  rw [View.read_apply]
  show V m c main_arg3 _ = _
  rw [V_main_arg3]
  congr 1
  funext e; apply Fin.ext
  match e with
  | ⟨0, _⟩ => show win0_3.index t (0 : Fin 2) * 2 + 1 * a.val = a.val; omega
  | ⟨1, _⟩ => show win0_3.index t (1 : Fin 2) * 1024 + 1 * b.val = b.val; omega

theorem blk4_at (t : Fin cfg0.N) (l p : Fin 256) :
    (iblk m c 4 t : Vec Ideal S256x256 .bf16) (ix2 l p) = if l.val / 128 = p.val / 128 then (1 : EReal) else (0 : EReal) := by
  obtain ⟨-, -, -, -, -, -, -, -, e0, e1, -⟩ := maps t
  rw [← seg_at m c l p]
  unfold iblk
  rw [View.read_apply]
  show V m c main_v8 _ = _
  congr 1
  funext e; apply Fin.ext
  match e with
  | ⟨0, _⟩ => show win0_4.index t (0 : Fin 2) * 256 + 1 * l.val = l.val; omega
  | ⟨1, _⟩ => show win0_4.index t (1 : Fin 2) * 256 + 1 * p.val = p.val; omega

/-! ## The array -/

/-- The result array. -/
def G (c : Dev nD) : Buf (Elt Ideal) ((c : Thread nD τ).loc main_v10) := fun i =>
  DilRef.result (m ((c : Thread nD τ).loc main_arg0)) (m ((c : Thread nD τ).loc main_arg1)) (m ((c : Thread nD τ).loc main_arg2))
    (m ((c : Thread nD τ).loc main_arg3)) (i 0) (i 1)

/-- The norm's gains and the weights are real. -/
def Real (c : Dev nD) : Prop :=
  (∀ i, ∃ y : ℝ, (m ((c : Thread nD τ).loc main_arg1) : Vec Ideal S1024 .f32) (ix1 i) = (y : EReal))
  ∧ ∀ i j, ∃ y : ℝ, (m ((c : Thread nD τ).loc main_arg2) : Vec Ideal S1024x3072 .bf16) (ix2 i j) = (y : EReal)

/-- What the body leaves at a point, element by element. -/
theorem out_at (hr : Real m c) (t : Fin cfg0.N) (r : Fin 512) (q : Fin 3072) :
    (outsAt0 m c t : Vec Ideal S512x3072 .bf16) (ix2 r q) = DilRef.result (m ((c : Thread nD τ).loc main_arg0))
      (m ((c : Thread nD τ).loc main_arg1)) (m ((c : Thread nD τ).loc main_arg2)) (m ((c : Thread nD τ).loc main_arg3)) (row t r) q := by
  unfold outsAt0
  rw [out_eq]
  refine entry_eq _ _ _ _ hr.1 hr.2 _ _ _ _ (row t r) r (fun k => ?_) (fun k q => blk2_at m c t k q)
    (fun a b => blk3_at m c t a b) (fun l p => blk4_at m c t l p) q
  rw [pay2_at, blk1_at]
  simp only [blk0_at]
  rfl

/-- What a point writes back is its block of the result array. -/
theorem flushed_eq (hr : Real m c) (t : Fin cfg0.N) :
    (dats m 0 c).flushed 5 t = ((cfg0.win 5).blk t).view.read (Elt Ideal) (G m c) := by
  rw [Value.flushed5]
  obtain ⟨-, -, -, -, -, -, -, -, -, -, e0, e1⟩ := maps t
  funext y
  have hb0 : (((cfg0.win 5).blk t).view.emb y 0).val = win0_5.index t (0 : Fin 2) * 512 + 1 * (y 0).val := rfl
  have hb1 : (((cfg0.win 5).blk t).view.emb y 1).val = win0_5.index t (1 : Fin 2) * 3072 + 1 * (y 1).val := rfl
  rw [View.read_apply]
  have hl : (cfg0.win 5).cut (grid0.coords t) (outsAt0 m c t) y = outsAt0 m c t y := rfl
  rw [hl]
  refine (congrArg (outsAt0 m c t) (ix2_eta (n0 := 512) (n1 := 3072) y).symm).trans ((out_at m c hr t (y 0) (y 1)).trans ?_)
  have q0 : ((cfg0.win 5).blk t).view.emb y 0 = row t (y 0) := Fin.ext (by
    rw [hb0]; show _ = t.val * 512 + (y 0).val; omega)
  have q1 : ((cfg0.win 5).blk t).view.emb y 1 = y 1 := Fin.ext (by rw [hb1]; omega)
  show _ = DilRef.result _ _ _ _ (((cfg0.win 5).blk t).view.emb y 0) (((cfg0.win 5).blk t).view.emb y 1)
  rw [q0, q1]

/-- An index is in a point's block when each of its coordinates is. -/
theorem mem_blk (t : Fin cfg0.N) (i : S65536x3072.Idx) :
    i ∈ ((cfg0.win 5).blk t).view.set ↔ ∀ a : Fin 2, win0_5.index t a * S512x3072.size a ≤ (i a).val
      ∧ (i a).val < win0_5.index t a * S512x3072.size a + S512x3072.size a := by
  show i ∈ ((View.whole main_v10).slice (win0_5.rect t)).set ↔ _
  rw [View.set_slice_whole, Rect.mem_set_unit]
  exact Iff.rfl

/-- The blocks tile the array. -/
theorem covered (i : S65536x3072.Idx) :
    ∃ t : Fin cfg0.N, (cfg0.win 5).flush t = true ∧ i ∈ ((cfg0.win 5).blk t).view.set := by
  have h0 : (i 0).val < 65536 := (i 0).isLt
  have h1 : (i 1).val < 3072 := (i 1).isLt
  refine ⟨⟨(i 0).val / 512, by rw [N_eq]; omega⟩, flush0_5 _, ?_⟩
  rw [mem_blk]
  obtain ⟨-, -, -, -, -, -, -, -, -, -, e0, e1⟩ := maps ⟨(i 0).val / 512, by rw [N_eq]; omega⟩
  intro a
  match a with
  | ⟨0, _⟩ => show win0_5.index _ (0 : Fin 2) * 512 ≤ (i 0).val ∧ (i 0).val < win0_5.index _ (0 : Fin 2) * 512 + 512; rw [e0]; dsimp only; omega
  | ⟨1, _⟩ => show win0_5.index _ (1 : Fin 2) * 3072 ≤ (i 1).val ∧ (i 1).val < win0_5.index _ (1 : Fin 2) * 3072 + 3072; rw [e1]; dsimp only; omega

/-- The array after the run. -/
theorem final (hr : Real m c) : (dats m 0 c).arrAt 5 cfg0.N = G m c :=
  (dats m 0 c).arrAt_eq_of_cover 5 _ (fun t _ => flushed_eq m c hr t) covered

/-- The run, read: the result array is `G`, and the arguments are as launched. -/
theorem run (hr : ∀ c, Real m c) :
    θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c)), (h c).2⟩) (Value.run_blocks m ρ)

end Cert.Kernel4Ideal.Dil

end
-- ==== Proof.DilClaim.lean ====
/-
  The claims about the dilated layer's projection (dilation one): its frames, and the equality with the reference over the extended reals when the norm's gains
  and the weights are real.
-/
module

public import proofs.«01_k».proof.Defs
public import proofs.«01_k».proof.Proof.DilValue
public import proofs.«01_k».proof.Proof.ProjFinite
public import proofs.«01_k».proof.Proof.DilRef
public import Idealize.ShloMosaic.Lib.Quiescent

@[expose] public section

set_option maxRecDepth 16384

noncomputable section

namespace Cert.DilClaim

open Idealize.ShloMosaic Idealize.ShloMosaic.TcCoe Idealize.SL.Sem

/-- The reference ends, with its arguments unchanged and no counters left. -/
theorem frame_ref : Cert.quiescent_Reference4Ideal := fun m ρ _ =>
  (θ_run Cert.Reference4Ideal.defs _ _).mono (fun r h => ⟨fun c => (h c).2, sem_eq_zero_of_no_sems (by decide) r.2⟩)
    (Cert.Reference4Ideal.Value.run (F := Ideal) m ρ)

/-- Kernel and reference end with the same array. -/
theorem value [Cert.Pre_finite3.Facts] : Cert.algebraic_Kernel4Ideal_Reference4Ideal_pre_finite3 := by
  intro m ρ m' ρ' hpre hag
  refine ⟨fun c => Cert.Kernel4Ideal.Dil.G m c, Cert.Kernel4Ideal.Dil.run m ρ fun c =>
    ProjFinite.real_of_pre _ _ _ _ (hpre c), ?_⟩
  refine (θ_run Cert.Reference4Ideal.defs _ _).mono (fun r h c => ⟨(h c).1.trans ?_, (h c).2⟩)
    (Cert.Reference4Ideal.Value.run (F := Ideal) m' ρ')
  obtain ⟨e0, e1, e2, e3⟩ := hag c
  refine (DilRef.res_eq m' c).trans ?_
  rw [e0, e1, e2, e3]
  funext i
  rw [← ix2_eta (n0 := 65536) (n1 := 3072) i]
  exact DilRef.refOut_at _ _ _ _ (i 0) (i 1)

end Cert.DilClaim

end
-- ==== Proof.Dil4Scr.lean ====
/-
  The body of the dilated layer's projection call, dilation 4: what it leaves in the scratch of 24 slabs of 128
  columns, and what a read of the scratch gives.
-/
module

public import proofs.«01_k».proof.Defs
public import proofs.«01_k».proof.Proof.Gen.Kernel5Ideal.Value
public import proofs.«01_k».proof.Proof.DilBody
public import Idealize.ShloMosaic.Lib.Pipeline.Value
public import Idealize.ShloMosaic.Lib.Tactic
public import Idealize.ShloMosaic.Lib.Pointwise

@[expose] public section

set_option maxRecDepth 16384

noncomputable section

namespace Cert.Kernel5Ideal.Dil4

open Cert.Kernel5Ideal Cert.Kernel5Ideal.Gen Idealize.ShloMosaic Idealize.ShloMosaic.TcCoe Idealize.SL.Sem
open Cert.Kernel4Ideal.Dil (hz prod headed half0 half1 half0_at half1_at entry block piece_h0 piece_h1 piece_v0 piece_v1)

section Entries

variable (X : Vec Ideal S512x1024 .bf16) (W : Vec Ideal S1024x3072 .bf16) (g : Vec Ideal S2x1024 .f32)
  (E : Vec Ideal S256x256 .bf16)

/-- The first 128 of 256 columns, as one slab of the scratch. -/
def slab0 (Z : FVec Ideal S512x256 .f32) : FVec Ideal S1x512x128 .f32 :=
  shapeCast S1x512x128 (extractStridedSlice S512x128 ![0, 0] Z slices_S512x256_o0_0_S512x128) shapeCasts_S512x128_S1x512x128

/-- The last 128 of 256 columns, as one slab of the scratch. -/
def slab1 (Z : FVec Ideal S512x256 .f32) : FVec Ideal S1x512x128 .f32 :=
  shapeCast S1x512x128 (extractStridedSlice S512x128 ![0, 128] Z slices_S512x256_o0_128_S512x128) shapeCasts_S512x128_S1x512x128

theorem slab0_at (Z : FVec Ideal S512x256 .f32) (r : Fin 512) (n : Fin 128) :
    slab0 Z (ix3 0 r n) = half0 Z (ix2 r n) := by
  rw [half0_at]
  pointwise [slab0]

theorem slab1_at (Z : FVec Ideal S512x256 .f32) (r : Fin 512) (n : Fin 128) :
    slab1 Z (ix3 0 r n) = half1 Z (ix2 r n) := by
  rw [half1_at]
  pointwise [slab1]

/-- The scratch, entry by entry: slab `s` holds columns `128 s` to `128 s + 127`. -/
def scr : S24x512x128.Idx → EReal := fun y =>
  entry X W g E (y 1) ⟨(y 0).val * 128 + (y 2).val, by
    have h0 : (y 0).val < 24 := (y 0).isLt
    have h2 : (y 2).val < 128 := (y 2).isLt
    omega⟩

theorem emb_slab (s : Nat) (hs : s < 24)
    (inb : ∀ a, (![s, 0, 0] : Fin 3 → Nat) a + S1x512x128.size a ≤ S24x512x128.size a) (r : Fin 512) (n : Fin 128) :
    (Rect.unit (s := S24x512x128) ![s, 0, 0] S1x512x128.size inb).emb (ix3 0 r n) = ix3 ⟨s, hs⟩ r n := by
  refine funext fun a => Fin.ext ?_
  match a with
  | ⟨0, _⟩ => show s + 1 * 0 = s; omega
  | ⟨1, _⟩ => show 0 + 1 * r.val = r.val; omega
  | ⟨2, _⟩ => show 0 + 1 * n.val = n.val; omega

/-- A slab within the columns. -/
theorem inb_col (o : Nat) (ho : o + 128 ≤ 3072) :
    ∀ a, (![0, o] : Fin 2 → Nat) a + (![512, 128] : Fin 2 → Nat) a ≤ (⟨2, ![512, 3072]⟩ : Shape).size a := by
  intro a
  match a with
  | ⟨0, _⟩ => exact le_refl 512
  | ⟨1, _⟩ => exact ho

/-- The scratch at an index of a slab is the block at the slab's columns. -/
theorem scr_emb (s : Nat) (hs : s < 24)
    (inb : ∀ a, (![s, 0, 0] : Fin 3 → Nat) a + S1x512x128.size a ≤ S24x512x128.size a) (r : Fin 512) (n : Fin 128)
    (o : Nat) (ho : o + 128 ≤ 3072) (e : o = s * 128) :
    block X W g E ((Rect.unit (s := (⟨2, ![512, 3072]⟩ : Shape)) ![0, o] ![512, 128] (inb_col o ho)).emb (ix2 r n))
      = scr X W g E ((Rect.unit (s := S24x512x128) ![s, 0, 0] S1x512x128.size inb).emb (ix3 0 r n)) := by
  rw [emb_slab s hs inb r n, Cert.Kernel4Ideal.Dil.block_emb X W g E o ho (inb_col o ho) r n]
  exact congrArg (entry X W g E r) (Fin.ext (by show o + n.val = s * 128 + n.val; omega))

theorem slab_cases (x : S1x512x128.Idx) : ∃ (r : Fin 512) (n : Fin 128), x = ix3 (0 : Fin 1) r n :=
  ⟨x 1, x 2, ((ix3_eta (n0 := 1) (n1 := 512) (n2 := 128) x).symm).trans
    (congrArg (fun z : Fin 1 => ix3 z (x 1) (x 2)) (Subsingleton.elim _ _))⟩

theorem scr_h0 (s o a b : Nat) (hm : o % 256 = 0) (ha : a < 2) (hb : b + 256 ≤ 1024) (hab : o = 1024 * a + b) (e : o = s * 128)
    (inb : ∀ a, (![0, o] : Fin 2 → Nat) a + (![1024, 256] : Fin 2 → Nat) a ≤ S1024x3072.size a)
    (inb' : ∀ e, (![a, b] : Fin 2 → Nat) e + (![1, 256] : Fin 2 → Nat) e ≤ S2x1024.size e)
    (inb'' : ∀ a, (![s, 0, 0] : Fin 3 → Nat) a + S1x512x128.size a ≤ S24x512x128.size a) (x : S1x512x128.Idx) :
    slab0 (headed (prod X (View.ld W (Rect.unit ![0, o] ![1024, 256] inb))) E (View.ld g (Rect.unit ![a, b] ![1, 256] inb'))) x
      = scr X W g E ((Rect.unit (s := S24x512x128) ![s, 0, 0] S1x512x128.size inb'').emb x) := by
  obtain ⟨r, n, rfl⟩ := slab_cases x
  rw [slab0_at, piece_h0 X W g E o a b hm ha hb hab inb inb' (inb_col o (show o + 128 ≤ 3072 by omega)), scr_emb X W g E s (by omega) inb'' r n o (show o + 128 ≤ 3072 by omega) e]

theorem scr_h1 (s o a b : Nat) (hm : o % 256 = 0) (ha : a < 2) (hb : b + 256 ≤ 1024) (hab : o = 1024 * a + b)
    (e : o + 128 = s * 128)
    (inb : ∀ a, (![0, o] : Fin 2 → Nat) a + (![1024, 256] : Fin 2 → Nat) a ≤ S1024x3072.size a)
    (inb' : ∀ e, (![a, b] : Fin 2 → Nat) e + (![1, 256] : Fin 2 → Nat) e ≤ S2x1024.size e)
    (inb'' : ∀ a, (![s, 0, 0] : Fin 3 → Nat) a + S1x512x128.size a ≤ S24x512x128.size a) (x : S1x512x128.Idx) :
    slab1 (headed (prod X (View.ld W (Rect.unit ![0, o] ![1024, 256] inb))) E (View.ld g (Rect.unit ![a, b] ![1, 256] inb'))) x
      = scr X W g E ((Rect.unit (s := S24x512x128) ![s, 0, 0] S1x512x128.size inb'').emb x) := by
  obtain ⟨r, n, rfl⟩ := slab_cases x
  rw [slab1_at, piece_h1 X W g E o a b (o + 128) hm ha hb hab rfl inb inb' (inb_col (o + 128) (show o + 128 + 128 ≤ 3072 by omega)),
    scr_emb X W g E s (by omega) inb'' r n (o + 128) (show o + 128 + 128 ≤ 3072 by omega) e]

theorem scr_v0 (s o : Nat) (h1 : 2048 ≤ o) (h2 : o + 256 ≤ 3072) (e : o = s * 128)
    (inb : ∀ a, (![0, o] : Fin 2 → Nat) a + (![1024, 256] : Fin 2 → Nat) a ≤ S1024x3072.size a)
    (inb'' : ∀ a, (![s, 0, 0] : Fin 3 → Nat) a + S1x512x128.size a ≤ S24x512x128.size a) (x : S1x512x128.Idx) :
    slab0 (prod X (View.ld W (Rect.unit ![0, o] ![1024, 256] inb))) x
      = scr X W g E ((Rect.unit (s := S24x512x128) ![s, 0, 0] S1x512x128.size inb'').emb x) := by
  obtain ⟨r, n, rfl⟩ := slab_cases x
  rw [slab0_at, piece_v0 X W g E o h1 h2 inb (inb_col o (show o + 128 ≤ 3072 by omega)), scr_emb X W g E s (by omega) inb'' r n o (show o + 128 ≤ 3072 by omega) e]

theorem scr_v1 (s o : Nat) (h1 : 2048 ≤ o) (h2 : o + 256 ≤ 3072) (e : o + 128 = s * 128)
    (inb : ∀ a, (![0, o] : Fin 2 → Nat) a + (![1024, 256] : Fin 2 → Nat) a ≤ S1024x3072.size a)
    (inb'' : ∀ a, (![s, 0, 0] : Fin 3 → Nat) a + S1x512x128.size a ≤ S24x512x128.size a) (x : S1x512x128.Idx) :
    slab1 (prod X (View.ld W (Rect.unit ![0, o] ![1024, 256] inb))) x
      = scr X W g E ((Rect.unit (s := S24x512x128) ![s, 0, 0] S1x512x128.size inb'').emb x) := by
  obtain ⟨r, n, rfl⟩ := slab_cases x
  rw [slab1_at, piece_v1 X W g E o (o + 128) h1 h2 rfl inb (inb_col (o + 128) (show o + 128 + 128 ≤ 3072 by omega)),
    scr_emb X W g E s (by omega) inb'' r n (o + 128) (show o + 128 + 128 ≤ 3072 by omega) e]

/-- A list of slabs holding the scratch, one of each number, read anywhere. -/
theorem read_scr {sig : RefSig} {κ : Kind} {sp : Space} (v : View sig κ sp S24x512x128 .f32)
    (L : List (View.Piece (Elt Ideal) S24x512x128 .f32))
    (hp : ∀ p ∈ L, ∀ x : p.1.shape.Idx, p.2 x = scr X W g E (p.1.emb x))
    (hc : ∀ s : Fin 24, ∃ p ∈ L, ∀ (r : Fin 512) (n : Fin 128), ix3 s r n ∈ p.1.set)
    (B : LoadRect S24x512x128) (j : B.shape.Idx) : v.readCov L B j = scr X W g E (B.idx j) := by
  refine (congrFun (View.readCov_eq_canon' v L B) j).trans (View.canon_apply_of_pieces _ L hp _ ?_)
  obtain ⟨p, h, hm⟩ := hc ((B.idx j) 0)
  exact ⟨p, h, (ix3_eta (n0 := 24) (n1 := 512) (n2 := 128) (B.idx j)) ▸ hm ((B.idx j) 1) ((B.idx j) 2)⟩

/-- A slab within the scratch. -/
theorem inb_slab (s : Nat) (hs : s < 24) :
    ∀ a, (![s, 0, 0] : Fin 3 → Nat) a + S1x512x128.size a ≤ S24x512x128.size a := by
  intro a
  match a with
  | ⟨0, _⟩ => exact hs
  | ⟨1, _⟩ => exact le_refl 512
  | ⟨2, _⟩ => exact le_refl 128

theorem mem_slab (s : Nat) (hs : s < 24)
    (inb : ∀ a, (![s, 0, 0] : Fin 3 → Nat) a + S1x512x128.size a ≤ S24x512x128.size a) (r : Fin 512) (n : Fin 128) :
    ix3 (⟨s, hs⟩ : Fin 24) r n ∈ (Rect.unit (s := S24x512x128) ![s, 0, 0] S1x512x128.size inb).set := by
  rw [Rect.mem_set_unit]
  intro a
  match a with
  | ⟨0, _⟩ => exact ⟨le_refl s, Nat.lt_succ_self s⟩
  | ⟨1, _⟩ => exact ⟨Nat.zero_le _, lt_of_lt_of_eq r.isLt (Nat.zero_add 512).symm⟩
  | ⟨2, _⟩ => exact ⟨Nat.zero_le _, lt_of_lt_of_eq n.isLt (Nat.zero_add 128).symm⟩

end Entries

section Scratch

variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S1024x3072 .bf16) (harg3 : arg3.IsWhole)
  (arg4 : Memref sig .tc .vmem S2x1024 .f32) (harg4 : arg4.IsWhole)
  (arg5 : Memref sig .tc .vmem S256x256 .bf16) (harg5 : arg5.IsWhole)
  (arg6 : Memref sig .tc .vmem S128x12288 .bf16) (harg6 : arg6.IsWhole)
  (arg7 : Memref sig .tc .vmem S512x1024 .bf16) (harg7 : arg7.IsWhole)
  (arg8 : Memref sig .tc .vmem S24x512x128 .f32) (harg8 : arg8.IsWhole)
  (x0 : Vec Ideal S512x1024 .f32) (x1 : Vec Ideal S1x1024 .f32) (x2 : Vec Ideal S1024x3072 .bf16)
  (x3 : Vec Ideal S2x1024 .f32) (x4 : Vec Ideal S256x256 .bf16)

/-- Every slab the body stores is a slab of the one scratch. -/
theorem scr_pieces : ∀ p ∈ kernelRun0_A.sl.HS1_24 (F := Ideal) c arg1 harg1 arg2 harg2 arg3 harg3 arg4 harg4 arg5 harg5 arg7 x0 x1 x2 x3 x4,
    ∀ x : p.1.shape.Idx, p.2 x = scr (k0_pay3 x0 x1) x2 x3 x4 (p.1.emb x) := by
  unfold kernelRun0_A.sl.HS1_24
  sl_unfold_words
  simp only [View.readCov_unit_zero (S := S512x1024) _ hz, View.readAt_eq_ld, harg1.read_unread, harg2.read_unread,
    harg3.read_unread, harg4.read_unread, harg5.read_unread, View.ld_unit_zero (S := S512x1024) hz,
    View.ld_unit_zero (S := S1x1024) hz, View.ld_unit_zero (S := S256x256) hz]
  obtain ⟨X, hX⟩ : ∃ X, X = k0_pay3 x0 x1 := ⟨_, rfl⟩
  rw [← hX]
  unfold k0_pay3 at hX
  dsimp only at hX
  simp only [← hX]
  clear hX
  refine List.forall_mem_cons.2 ⟨scr_v1 X x2 x3 x4 23 2816 (by decide) (by decide) rfl _ (inb_slab 23 (by decide)), ?_⟩
  refine List.forall_mem_cons.2 ⟨scr_v0 X x2 x3 x4 22 2816 (by decide) (by decide) rfl _ (inb_slab 22 (by decide)), ?_⟩
  refine List.forall_mem_cons.2 ⟨scr_v1 X x2 x3 x4 21 2560 (by decide) (by decide) rfl _ (inb_slab 21 (by decide)), ?_⟩
  refine List.forall_mem_cons.2 ⟨scr_v0 X x2 x3 x4 20 2560 (by decide) (by decide) rfl _ (inb_slab 20 (by decide)), ?_⟩
  refine List.forall_mem_cons.2 ⟨scr_v1 X x2 x3 x4 19 2304 (by decide) (by decide) rfl _ (inb_slab 19 (by decide)), ?_⟩
  refine List.forall_mem_cons.2 ⟨scr_v0 X x2 x3 x4 18 2304 (by decide) (by decide) rfl _ (inb_slab 18 (by decide)), ?_⟩
  refine List.forall_mem_cons.2 ⟨scr_v1 X x2 x3 x4 17 2048 (by decide) (by decide) rfl _ (inb_slab 17 (by decide)), ?_⟩
  refine List.forall_mem_cons.2 ⟨scr_v0 X x2 x3 x4 16 2048 (by decide) (by decide) rfl _ (inb_slab 16 (by decide)), ?_⟩
  refine List.forall_mem_cons.2 ⟨scr_h1 X x2 x3 x4 15 1792 1 768 rfl (by decide) (by decide) rfl rfl _ _ (inb_slab 15 (by decide)), ?_⟩
  refine List.forall_mem_cons.2 ⟨scr_h0 X x2 x3 x4 14 1792 1 768 rfl (by decide) (by decide) rfl rfl _ _ (inb_slab 14 (by decide)), ?_⟩
  refine List.forall_mem_cons.2 ⟨scr_h1 X x2 x3 x4 13 1536 1 512 rfl (by decide) (by decide) rfl rfl _ _ (inb_slab 13 (by decide)), ?_⟩
  refine List.forall_mem_cons.2 ⟨scr_h0 X x2 x3 x4 12 1536 1 512 rfl (by decide) (by decide) rfl rfl _ _ (inb_slab 12 (by decide)), ?_⟩
  refine List.forall_mem_cons.2 ⟨scr_h1 X x2 x3 x4 11 1280 1 256 rfl (by decide) (by decide) rfl rfl _ _ (inb_slab 11 (by decide)), ?_⟩
  refine List.forall_mem_cons.2 ⟨scr_h0 X x2 x3 x4 10 1280 1 256 rfl (by decide) (by decide) rfl rfl _ _ (inb_slab 10 (by decide)), ?_⟩
  refine List.forall_mem_cons.2 ⟨scr_h1 X x2 x3 x4 9 1024 1 0 rfl (by decide) (by decide) rfl rfl _ _ (inb_slab 9 (by decide)), ?_⟩
  refine List.forall_mem_cons.2 ⟨scr_h0 X x2 x3 x4 8 1024 1 0 rfl (by decide) (by decide) rfl rfl _ _ (inb_slab 8 (by decide)), ?_⟩
  refine List.forall_mem_cons.2 ⟨scr_h1 X x2 x3 x4 7 768 0 768 rfl (by decide) (by decide) rfl rfl _ _ (inb_slab 7 (by decide)), ?_⟩
  refine List.forall_mem_cons.2 ⟨scr_h0 X x2 x3 x4 6 768 0 768 rfl (by decide) (by decide) rfl rfl _ _ (inb_slab 6 (by decide)), ?_⟩
  refine List.forall_mem_cons.2 ⟨scr_h1 X x2 x3 x4 5 512 0 512 rfl (by decide) (by decide) rfl rfl _ _ (inb_slab 5 (by decide)), ?_⟩
  refine List.forall_mem_cons.2 ⟨scr_h0 X x2 x3 x4 4 512 0 512 rfl (by decide) (by decide) rfl rfl _ _ (inb_slab 4 (by decide)), ?_⟩
  refine List.forall_mem_cons.2 ⟨scr_h1 X x2 x3 x4 3 256 0 256 rfl (by decide) (by decide) rfl rfl _ _ (inb_slab 3 (by decide)), ?_⟩
  refine List.forall_mem_cons.2 ⟨scr_h0 X x2 x3 x4 2 256 0 256 rfl (by decide) (by decide) rfl rfl _ _ (inb_slab 2 (by decide)), ?_⟩
  refine List.forall_mem_cons.2 ⟨scr_h1 X x2 x3 x4 1 0 0 0 rfl (by decide) (by decide) rfl rfl _ _ (inb_slab 1 (by decide)), ?_⟩
  refine List.forall_mem_cons.2 ⟨scr_h0 X x2 x3 x4 0 0 0 0 rfl (by decide) (by decide) rfl rfl _ _ (inb_slab 0 (by decide)), ?_⟩
  exact fun _ h => absurd h List.not_mem_nil

/-- Every slab is stored. -/
theorem scr_cover : ∀ s : Fin 24, ∃ p ∈ kernelRun0_A.sl.HS1_24 (F := Ideal) c arg1 harg1 arg2 harg2 arg3 harg3 arg4 harg4 arg5 harg5 arg7 x0 x1 x2 x3 x4,
    ∀ (r : Fin 512) (n : Fin 128), ix3 s r n ∈ p.1.set := fun s => match s with
  | ⟨0, _⟩ => ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), fun r n => mem_slab 0 (by decide) (inb_slab 0 (by decide)) r n⟩
  | ⟨1, _⟩ => ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), fun r n => mem_slab 1 (by decide) (inb_slab 1 (by decide)) r n⟩
  | ⟨2, _⟩ => ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), fun r n => mem_slab 2 (by decide) (inb_slab 2 (by decide)) r n⟩
  | ⟨3, _⟩ => ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), fun r n => mem_slab 3 (by decide) (inb_slab 3 (by decide)) r n⟩
  | ⟨4, _⟩ => ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), fun r n => mem_slab 4 (by decide) (inb_slab 4 (by decide)) r n⟩
  | ⟨5, _⟩ => ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), fun r n => mem_slab 5 (by decide) (inb_slab 5 (by decide)) r n⟩
  | ⟨6, _⟩ => ⟨_, .tail _ (.tail _ (.tail _ (.tail _ (.tail _ (.tail _ (.tail _ (.tail _ (.tail _ (.tail _ (.tail _ (.tail _ (.tail _ (.tail _ (.tail _ (.tail _ (.tail _ (.head _))))))))))))))))), fun r n => mem_slab 6 (by decide) (inb_slab 6 (by decide)) r n⟩
  | ⟨7, _⟩ => ⟨_, .tail _ (.tail _ (.tail _ (.tail _ (.tail _ (.tail _ (.tail _ (.tail _ (.tail _ (.tail _ (.tail _ (.tail _ (.tail _ (.tail _ (.tail _ (.tail _ (.head _)))))))))))))))), fun r n => mem_slab 7 (by decide) (inb_slab 7 (by decide)) r n⟩
  | ⟨8, _⟩ => ⟨_, .tail _ (.tail _ (.tail _ (.tail _ (.tail _ (.tail _ (.tail _ (.tail _ (.tail _ (.tail _ (.tail _ (.tail _ (.tail _ (.tail _ (.tail _ (.head _))))))))))))))), fun r n => mem_slab 8 (by decide) (inb_slab 8 (by decide)) r n⟩
  | ⟨9, _⟩ => ⟨_, .tail _ (.tail _ (.tail _ (.tail _ (.tail _ (.tail _ (.tail _ (.tail _ (.tail _ (.tail _ (.tail _ (.tail _ (.tail _ (.tail _ (.head _)))))))))))))), fun r n => mem_slab 9 (by decide) (inb_slab 9 (by decide)) r n⟩
  | ⟨10, _⟩ => ⟨_, .tail _ (.tail _ (.tail _ (.tail _ (.tail _ (.tail _ (.tail _ (.tail _ (.tail _ (.tail _ (.tail _ (.tail _ (.tail _ (.head _))))))))))))), fun r n => mem_slab 10 (by decide) (inb_slab 10 (by decide)) r n⟩
  | ⟨11, _⟩ => ⟨_, .tail _ (.tail _ (.tail _ (.tail _ (.tail _ (.tail _ (.tail _ (.tail _ (.tail _ (.tail _ (.tail _ (.tail _ (.head _)))))))))))), fun r n => mem_slab 11 (by decide) (inb_slab 11 (by decide)) r n⟩
  | ⟨12, _⟩ => ⟨_, .tail _ (.tail _ (.tail _ (.tail _ (.tail _ (.tail _ (.tail _ (.tail _ (.tail _ (.tail _ (.tail _ (.head _))))))))))), fun r n => mem_slab 12 (by decide) (inb_slab 12 (by decide)) r n⟩
  | ⟨13, _⟩ => ⟨_, .tail _ (.tail _ (.tail _ (.tail _ (.tail _ (.tail _ (.tail _ (.tail _ (.tail _ (.tail _ (.head _)))))))))), fun r n => mem_slab 13 (by decide) (inb_slab 13 (by decide)) r n⟩
  | ⟨14, _⟩ => ⟨_, .tail _ (.tail _ (.tail _ (.tail _ (.tail _ (.tail _ (.tail _ (.tail _ (.tail _ (.head _))))))))), fun r n => mem_slab 14 (by decide) (inb_slab 14 (by decide)) r n⟩
  | ⟨15, _⟩ => ⟨_, .tail _ (.tail _ (.tail _ (.tail _ (.tail _ (.tail _ (.tail _ (.tail _ (.head _)))))))), fun r n => mem_slab 15 (by decide) (inb_slab 15 (by decide)) r n⟩
  | ⟨16, _⟩ => ⟨_, .tail _ (.tail _ (.tail _ (.tail _ (.tail _ (.tail _ (.tail _ (.head _))))))), fun r n => mem_slab 16 (by decide) (inb_slab 16 (by decide)) r n⟩
  | ⟨17, _⟩ => ⟨_, .tail _ (.tail _ (.tail _ (.tail _ (.tail _ (.tail _ (.head _)))))), fun r n => mem_slab 17 (by decide) (inb_slab 17 (by decide)) r n⟩
  | ⟨18, _⟩ => ⟨_, .tail _ (.tail _ (.tail _ (.tail _ (.tail _ (.head _))))), fun r n => mem_slab 18 (by decide) (inb_slab 18 (by decide)) r n⟩
  | ⟨19, _⟩ => ⟨_, .tail _ (.tail _ (.tail _ (.tail _ (.head _)))), fun r n => mem_slab 19 (by decide) (inb_slab 19 (by decide)) r n⟩
  | ⟨20, _⟩ => ⟨_, .tail _ (.tail _ (.tail _ (.head _))), fun r n => mem_slab 20 (by decide) (inb_slab 20 (by decide)) r n⟩
  | ⟨21, _⟩ => ⟨_, .tail _ (.tail _ (.head _)), fun r n => mem_slab 21 (by decide) (inb_slab 21 (by decide)) r n⟩
  | ⟨22, _⟩ => ⟨_, .tail _ (.head _), fun r n => mem_slab 22 (by decide) (inb_slab 22 (by decide)) r n⟩
  | ⟨23, _⟩ => ⟨_, .head _, fun r n => mem_slab 23 (by decide) (inb_slab 23 (by decide)) r n⟩
  | ⟨_ + 24, h⟩ => absurd h (by omega)

/-- A read of the scratch. -/
theorem read_at {sig' : RefSig} {κ' : Kind} {sp' : Space} (v : View sig' κ' sp' S24x512x128 .f32)
    (B : LoadRect S24x512x128) (j : B.shape.Idx) :
    v.readCov (kernelRun0_A.sl.HS1_24 (F := Ideal) c arg1 harg1 arg2 harg2 arg3 harg3 arg4 harg4 arg5 harg5 arg7 x0 x1 x2 x3 x4) B j
      = scr (k0_pay3 x0 x1) x2 x3 x4 (B.idx j) :=
  read_scr _ x2 x3 x4 v _ (scr_pieces c arg1 harg1 arg2 harg2 arg3 harg3 arg4 harg4 arg5 harg5 arg7 x0 x1 x2 x3 x4) (scr_cover c arg1 harg1 arg2 harg2 arg3 harg3 arg4 harg4 arg5 harg5 arg7 x0 x1 x2 x3 x4) B j

end Scratch

end Cert.Kernel5Ideal.Dil4

end
-- ==== Proof.Dil4Body.lean ====
/-
  The body of the dilated layer's projection call, dilation 4: what it stores, entry by entry. Row `i` of the block it
  stores holds rows `4 i` to `4 i + 3` of the block it is given, one after the other, 3072 columns each.
-/
module

public import proofs.«01_k».proof.Defs
public import proofs.«01_k».proof.Proof.Gen.Kernel5Ideal.Value
public import proofs.«01_k».proof.Proof.Dil4Scr
public import Idealize.ShloMosaic.Lib.Pipeline.Value
public import Idealize.ShloMosaic.Lib.Tactic
public import Idealize.ShloMosaic.Lib.Pointwise

@[expose] public section

set_option maxRecDepth 16384

noncomputable section

namespace Cert.Kernel5Ideal.Dil4

open Cert.Kernel5Ideal Cert.Kernel5Ideal.Gen Idealize.ShloMosaic Idealize.ShloMosaic.TcCoe Idealize.SL.Sem
open Cert.Kernel4Ideal.Dil (hz prod headed half0 half1 half0_at half1_at entry block piece_h0 piece_h1 piece_v0 piece_v1)

section Entries

variable (X : Vec Ideal S512x1024 .bf16) (W : Vec Ideal S1024x3072 .bf16) (g : Vec Ideal S2x1024 .f32)
  (E : Vec Ideal S256x256 .bf16)

/-- The block the body stores: `4` rows side by side. -/
def wide : S128x12288.Idx → EReal := fun y =>
  entry X W g E ⟨(y 0).val * 4 + (y 1).val / 3072, by
    have h0 : (y 0).val < 128 := (y 0).isLt
    have h1 : (y 1).val < 12288 := (y 1).isLt
    omega⟩ ⟨(y 1).val % 3072, by omega⟩

/-- Rows of a slab, as they are stored. -/
def narrow (Z : FVec Ideal S1x128x128 .f32) : FVec Ideal S128x128 .bf16 :=
  truncf .bf16 (shapeCast S128x128 Z shapeCasts_S1x128x128_S128x128) bitsLt_bf16_f32

theorem narrow_at (Z : FVec Ideal S1x128x128 .f32) (i : Fin 128) (n : Fin 128) : narrow Z (ix2 i n) = Z (ix3 0 i n) := by
  pointwise [narrow]

/-- A column of pieces within the block. -/
theorem inb_out (o : Nat) (ho : o + 128 ≤ 12288) :
    ∀ a, (![0, o] : Fin 2 → Nat) a + (![128, 128] : Fin 2 → Nat) a ≤ S128x12288.size a := by
  intro a
  match a with
  | ⟨0, _⟩ => exact le_refl 128
  | ⟨1, _⟩ => exact ho

/-- Slab `s` of the scratch, every `4`th row from row `r`, is stored at column `o`. -/
theorem stored {sig : RefSig} {κ : Kind} {sp : Space} (v : View sig κ sp S24x512x128 .f32)
    (L : List (View.Piece (Elt Ideal) S24x512x128 .f32))
    (hL : ∀ (B : LoadRect S24x512x128) (j : B.shape.Idx), v.readCov L B j = scr X W g E (B.idx j))
    (s r o : Nat) (hs : s < 24) (e : o = (r * 3 + s / 8) * 1024 + s % 8 * 128)
    (inb : ∀ a, S1x128x128.size a = 0 ∨ (![s, r, 0] : Fin 3 → Nat) a + (![1, 4, 1] : Fin 3 → Nat) a * (S1x128x128.size a - 1)
      < S24x512x128.size a)
    (ho : o + 128 ≤ 12288) (x : S128x128.Idx) :
    narrow (v.readCov L { off := ![s, r, 0], size := S1x128x128.size, stride := ![1, 4, 1], inb := inb }) x
      = wide X W g E ((Rect.unit (s := S128x12288) ![0, o] ![128, 128] (inb_out o ho)).emb x) := by
  obtain ⟨i, n, rfl⟩ : ∃ (i : Fin 128) (n : Fin 128), x = ix2 i n := ⟨x 0, x 1, (ix2_eta (n0 := 128) (n1 := 128) x).symm⟩
  refine (narrow_at _ i n).trans ((hL _ _).trans ?_)
  have hi := i.isLt
  have hn := n.isLt
  refine congrArg₂ (entry X W g E) (Fin.ext ?_) (Fin.ext ?_)
  · show r + 4 * i.val = (0 + 1 * i.val) * 4 + (o + 1 * n.val) / 3072
    omega
  · show (s + 1 * 0) * 128 + (0 + 1 * n.val) = (o + 1 * n.val) % 3072
    omega

end Entries

section Out

variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S1024x3072 .bf16) (harg3 : arg3.IsWhole)
  (arg4 : Memref sig .tc .vmem S2x1024 .f32) (harg4 : arg4.IsWhole)
  (arg5 : Memref sig .tc .vmem S256x256 .bf16) (harg5 : arg5.IsWhole)
  (arg6 : Memref sig .tc .vmem S128x12288 .bf16) (harg6 : arg6.IsWhole)
  (arg7 : Memref sig .tc .vmem S512x1024 .bf16) (harg7 : arg7.IsWhole)
  (arg8 : Memref sig .tc .vmem S24x512x128 .f32) (harg8 : arg8.IsWhole)
  (x0 : Vec Ideal S512x1024 .f32) (x1 : Vec Ideal S1x1024 .f32) (x2 : Vec Ideal S1024x3072 .bf16)
  (x3 : Vec Ideal S2x1024 .f32) (x4 : Vec Ideal S256x256 .bf16)

/-- Every piece the body stores is a piece of the one block. -/
theorem pieces : ∀ p ∈ (kernelRun0_A c i arg1 harg1 arg2 harg2 arg3 harg3 arg4 harg4 arg5 harg5 arg6 harg6 arg7 harg7 arg8 harg8
      x0 x1 x2 x3 x4).1, ∀ x : p.1.shape.Idx, p.2 x = wide (k0_pay3 x0 x1) x2 x3 x4 (p.1.emb x) := by
  have hL : ∀ (B : LoadRect S24x512x128) (j : B.shape.Idx),
      arg8.view.readCov (kernelRun0_A.sl.HS1_24 (F := Ideal) c arg1 harg1 arg2 harg2 arg3 harg3 arg4 harg4 arg5 harg5 arg7 x0 x1 x2 x3 x4) B j
        = scr (k0_pay3 x0 x1) x2 x3 x4 (B.idx j) := fun B j => read_at c arg1 harg1 arg2 harg2 arg3 harg3 arg4 harg4 arg5 harg5 arg7 x0 x1 x2 x3 x4 arg8.view B j
  generalize k0_pay3 x0 x1 = X at hL ⊢
  unfold kernelRun0_A
  dsimp only
  have st := stored X x2 x3 x4 _ _ hL
  refine List.forall_mem_cons.2 ⟨st 23 3 12160 (by decide) rfl _ (by decide), ?_⟩
  refine List.forall_mem_cons.2 ⟨st 22 3 12032 (by decide) rfl _ (by decide), ?_⟩
  refine List.forall_mem_cons.2 ⟨st 21 3 11904 (by decide) rfl _ (by decide), ?_⟩
  refine List.forall_mem_cons.2 ⟨st 20 3 11776 (by decide) rfl _ (by decide), ?_⟩
  refine List.forall_mem_cons.2 ⟨st 19 3 11648 (by decide) rfl _ (by decide), ?_⟩
  refine List.forall_mem_cons.2 ⟨st 18 3 11520 (by decide) rfl _ (by decide), ?_⟩
  refine List.forall_mem_cons.2 ⟨st 17 3 11392 (by decide) rfl _ (by decide), ?_⟩
  refine List.forall_mem_cons.2 ⟨st 16 3 11264 (by decide) rfl _ (by decide), ?_⟩
  refine List.forall_mem_cons.2 ⟨st 23 2 9088 (by decide) rfl _ (by decide), ?_⟩
  refine List.forall_mem_cons.2 ⟨st 22 2 8960 (by decide) rfl _ (by decide), ?_⟩
  refine List.forall_mem_cons.2 ⟨st 21 2 8832 (by decide) rfl _ (by decide), ?_⟩
  refine List.forall_mem_cons.2 ⟨st 20 2 8704 (by decide) rfl _ (by decide), ?_⟩
  refine List.forall_mem_cons.2 ⟨st 19 2 8576 (by decide) rfl _ (by decide), ?_⟩
  refine List.forall_mem_cons.2 ⟨st 18 2 8448 (by decide) rfl _ (by decide), ?_⟩
  refine List.forall_mem_cons.2 ⟨st 17 2 8320 (by decide) rfl _ (by decide), ?_⟩
  refine List.forall_mem_cons.2 ⟨st 16 2 8192 (by decide) rfl _ (by decide), ?_⟩
  refine List.forall_mem_cons.2 ⟨st 23 1 6016 (by decide) rfl _ (by decide), ?_⟩
  refine List.forall_mem_cons.2 ⟨st 22 1 5888 (by decide) rfl _ (by decide), ?_⟩
  refine List.forall_mem_cons.2 ⟨st 21 1 5760 (by decide) rfl _ (by decide), ?_⟩
  refine List.forall_mem_cons.2 ⟨st 20 1 5632 (by decide) rfl _ (by decide), ?_⟩
  refine List.forall_mem_cons.2 ⟨st 19 1 5504 (by decide) rfl _ (by decide), ?_⟩
  refine List.forall_mem_cons.2 ⟨st 18 1 5376 (by decide) rfl _ (by decide), ?_⟩
  refine List.forall_mem_cons.2 ⟨st 17 1 5248 (by decide) rfl _ (by decide), ?_⟩
  refine List.forall_mem_cons.2 ⟨st 16 1 5120 (by decide) rfl _ (by decide), ?_⟩
  refine List.forall_mem_cons.2 ⟨st 23 0 2944 (by decide) rfl _ (by decide), ?_⟩
  refine List.forall_mem_cons.2 ⟨st 22 0 2816 (by decide) rfl _ (by decide), ?_⟩
  refine List.forall_mem_cons.2 ⟨st 21 0 2688 (by decide) rfl _ (by decide), ?_⟩
  refine List.forall_mem_cons.2 ⟨st 20 0 2560 (by decide) rfl _ (by decide), ?_⟩
  refine List.forall_mem_cons.2 ⟨st 19 0 2432 (by decide) rfl _ (by decide), ?_⟩
  refine List.forall_mem_cons.2 ⟨st 18 0 2304 (by decide) rfl _ (by decide), ?_⟩
  refine List.forall_mem_cons.2 ⟨st 17 0 2176 (by decide) rfl _ (by decide), ?_⟩
  refine List.forall_mem_cons.2 ⟨st 16 0 2048 (by decide) rfl _ (by decide), ?_⟩
  refine List.forall_mem_cons.2 ⟨st 15 3 11136 (by decide) rfl _ (by decide), ?_⟩
  refine List.forall_mem_cons.2 ⟨st 14 3 11008 (by decide) rfl _ (by decide), ?_⟩
  refine List.forall_mem_cons.2 ⟨st 13 3 10880 (by decide) rfl _ (by decide), ?_⟩
  refine List.forall_mem_cons.2 ⟨st 12 3 10752 (by decide) rfl _ (by decide), ?_⟩
  refine List.forall_mem_cons.2 ⟨st 11 3 10624 (by decide) rfl _ (by decide), ?_⟩
  refine List.forall_mem_cons.2 ⟨st 10 3 10496 (by decide) rfl _ (by decide), ?_⟩
  refine List.forall_mem_cons.2 ⟨st 9 3 10368 (by decide) rfl _ (by decide), ?_⟩
  refine List.forall_mem_cons.2 ⟨st 8 3 10240 (by decide) rfl _ (by decide), ?_⟩
  refine List.forall_mem_cons.2 ⟨st 15 2 8064 (by decide) rfl _ (by decide), ?_⟩
  refine List.forall_mem_cons.2 ⟨st 14 2 7936 (by decide) rfl _ (by decide), ?_⟩
  refine List.forall_mem_cons.2 ⟨st 13 2 7808 (by decide) rfl _ (by decide), ?_⟩
  refine List.forall_mem_cons.2 ⟨st 12 2 7680 (by decide) rfl _ (by decide), ?_⟩
  refine List.forall_mem_cons.2 ⟨st 11 2 7552 (by decide) rfl _ (by decide), ?_⟩
  refine List.forall_mem_cons.2 ⟨st 10 2 7424 (by decide) rfl _ (by decide), ?_⟩
  refine List.forall_mem_cons.2 ⟨st 9 2 7296 (by decide) rfl _ (by decide), ?_⟩
  refine List.forall_mem_cons.2 ⟨st 8 2 7168 (by decide) rfl _ (by decide), ?_⟩
  refine List.forall_mem_cons.2 ⟨st 15 1 4992 (by decide) rfl _ (by decide), ?_⟩
  refine List.forall_mem_cons.2 ⟨st 14 1 4864 (by decide) rfl _ (by decide), ?_⟩
  refine List.forall_mem_cons.2 ⟨st 13 1 4736 (by decide) rfl _ (by decide), ?_⟩
  refine List.forall_mem_cons.2 ⟨st 12 1 4608 (by decide) rfl _ (by decide), ?_⟩
  refine List.forall_mem_cons.2 ⟨st 11 1 4480 (by decide) rfl _ (by decide), ?_⟩
  refine List.forall_mem_cons.2 ⟨st 10 1 4352 (by decide) rfl _ (by decide), ?_⟩
  refine List.forall_mem_cons.2 ⟨st 9 1 4224 (by decide) rfl _ (by decide), ?_⟩
  refine List.forall_mem_cons.2 ⟨st 8 1 4096 (by decide) rfl _ (by decide), ?_⟩
  refine List.forall_mem_cons.2 ⟨st 15 0 1920 (by decide) rfl _ (by decide), ?_⟩
  refine List.forall_mem_cons.2 ⟨st 14 0 1792 (by decide) rfl _ (by decide), ?_⟩
  refine List.forall_mem_cons.2 ⟨st 13 0 1664 (by decide) rfl _ (by decide), ?_⟩
  refine List.forall_mem_cons.2 ⟨st 12 0 1536 (by decide) rfl _ (by decide), ?_⟩
  refine List.forall_mem_cons.2 ⟨st 11 0 1408 (by decide) rfl _ (by decide), ?_⟩
  refine List.forall_mem_cons.2 ⟨st 10 0 1280 (by decide) rfl _ (by decide), ?_⟩
  refine List.forall_mem_cons.2 ⟨st 9 0 1152 (by decide) rfl _ (by decide), ?_⟩
  refine List.forall_mem_cons.2 ⟨st 8 0 1024 (by decide) rfl _ (by decide), ?_⟩
  refine List.forall_mem_cons.2 ⟨st 7 3 10112 (by decide) rfl _ (by decide), ?_⟩
  refine List.forall_mem_cons.2 ⟨st 6 3 9984 (by decide) rfl _ (by decide), ?_⟩
  refine List.forall_mem_cons.2 ⟨st 5 3 9856 (by decide) rfl _ (by decide), ?_⟩
  refine List.forall_mem_cons.2 ⟨st 4 3 9728 (by decide) rfl _ (by decide), ?_⟩
  refine List.forall_mem_cons.2 ⟨st 3 3 9600 (by decide) rfl _ (by decide), ?_⟩
  refine List.forall_mem_cons.2 ⟨st 2 3 9472 (by decide) rfl _ (by decide), ?_⟩
  refine List.forall_mem_cons.2 ⟨st 1 3 9344 (by decide) rfl _ (by decide), ?_⟩
  refine List.forall_mem_cons.2 ⟨st 0 3 9216 (by decide) rfl _ (by decide), ?_⟩
  refine List.forall_mem_cons.2 ⟨st 7 2 7040 (by decide) rfl _ (by decide), ?_⟩
  refine List.forall_mem_cons.2 ⟨st 6 2 6912 (by decide) rfl _ (by decide), ?_⟩
  refine List.forall_mem_cons.2 ⟨st 5 2 6784 (by decide) rfl _ (by decide), ?_⟩
  refine List.forall_mem_cons.2 ⟨st 4 2 6656 (by decide) rfl _ (by decide), ?_⟩
  refine List.forall_mem_cons.2 ⟨st 3 2 6528 (by decide) rfl _ (by decide), ?_⟩
  refine List.forall_mem_cons.2 ⟨st 2 2 6400 (by decide) rfl _ (by decide), ?_⟩
  refine List.forall_mem_cons.2 ⟨st 1 2 6272 (by decide) rfl _ (by decide), ?_⟩
  refine List.forall_mem_cons.2 ⟨st 0 2 6144 (by decide) rfl _ (by decide), ?_⟩
  refine List.forall_mem_cons.2 ⟨st 7 1 3968 (by decide) rfl _ (by decide), ?_⟩
  refine List.forall_mem_cons.2 ⟨st 6 1 3840 (by decide) rfl _ (by decide), ?_⟩
  refine List.forall_mem_cons.2 ⟨st 5 1 3712 (by decide) rfl _ (by decide), ?_⟩
  refine List.forall_mem_cons.2 ⟨st 4 1 3584 (by decide) rfl _ (by decide), ?_⟩
  refine List.forall_mem_cons.2 ⟨st 3 1 3456 (by decide) rfl _ (by decide), ?_⟩
  refine List.forall_mem_cons.2 ⟨st 2 1 3328 (by decide) rfl _ (by decide), ?_⟩
  refine List.forall_mem_cons.2 ⟨st 1 1 3200 (by decide) rfl _ (by decide), ?_⟩
  refine List.forall_mem_cons.2 ⟨st 0 1 3072 (by decide) rfl _ (by decide), ?_⟩
  refine List.forall_mem_cons.2 ⟨st 7 0 896 (by decide) rfl _ (by decide), ?_⟩
  refine List.forall_mem_cons.2 ⟨st 6 0 768 (by decide) rfl _ (by decide), ?_⟩
  refine List.forall_mem_cons.2 ⟨st 5 0 640 (by decide) rfl _ (by decide), ?_⟩
  refine List.forall_mem_cons.2 ⟨st 4 0 512 (by decide) rfl _ (by decide), ?_⟩
  refine List.forall_mem_cons.2 ⟨st 3 0 384 (by decide) rfl _ (by decide), ?_⟩
  refine List.forall_mem_cons.2 ⟨st 2 0 256 (by decide) rfl _ (by decide), ?_⟩
  refine List.forall_mem_cons.2 ⟨st 1 0 128 (by decide) rfl _ (by decide), ?_⟩
  refine List.forall_mem_cons.2 ⟨st 0 0 0 (by decide) rfl _ (by decide), ?_⟩
  exact fun _ h => absurd h List.not_mem_nil

/-- The block the body leaves. -/
theorem out_eq : out0_A_5 c i arg1 harg1 arg2 harg2 arg3 harg3 arg4 harg4 arg5 harg5 arg6 harg6 arg7 harg7 arg8 harg8
      x0 x1 x2 x3 x4
    = wide (k0_pay3 x0 x1) x2 x3 x4 := by
  unfold out0_A_5
  rw [View.read_writes_eq_canon _ _ _ (cover0_A_5 c i arg1 harg1 arg2 harg2 arg3 harg3 arg4 harg4 arg5 harg5 arg6 harg6 arg7 harg7 arg8 harg8
      x0 x1 x2 x3 x4)]
  exact funext fun y => View.canon_apply_of_pieces _ _ (pieces c i arg1 harg1 arg2 harg2 arg3 harg3 arg4 harg4 arg5 harg5 arg6 harg6 arg7 harg7 arg8 harg8
      x0 x1 x2 x3 x4) y
    (cover0_A_5 c i arg1 harg1 arg2 harg2 arg3 harg3 arg4 harg4 arg5 harg5 arg6 harg6 arg7 harg7 arg8 harg8
      x0 x1 x2 x3 x4 y)

end Out

end Cert.Kernel5Ideal.Dil4

end
-- ==== Proof.Dil4Value.lean ====
/-
  The dilated layer's projection call, dilation 4: its result array over the extended reals, when the norm's gains and
  the weights are real: at every element, the formula of `DilRef`.
-/
module

public import proofs.«01_k».proof.Defs
public import proofs.«01_k».proof.Proof.Gen.Kernel5Ideal.Value
public import proofs.«01_k».proof.Proof.Dil4Body
public import proofs.«01_k».proof.Proof.DilSeg
public import proofs.«01_k».proof.Proof.DilValue
public import Idealize.ShloMosaic.Lib.Pipeline.Value
public import Idealize.ShloMosaic.Lib.Tactic
public import Idealize.ShloMosaic.Lib.Pointwise

@[expose] public section

set_option maxRecDepth 16384

noncomputable section

namespace Cert.Kernel5Ideal.Dil4

open Cert.Kernel5Ideal Cert.Kernel5Ideal.Gen Idealize.ShloMosaic Idealize.ShloMosaic.TcCoe Idealize.SL.Sem
open Cert.Kernel4Ideal.Dil (entry entry_eq)

/-! ## The blocks at an index -/

theorem pay_at (x0 : Vec Ideal S512x1024 .f32) (x1 : Vec Ideal S1x1024 .f32) (r : Fin 512) (k : Fin 1024) :
    k0_pay3 x0 x1 (ix2 r k) = x0 (ix2 r k) * Ideal.rsqrt (Ideal.div (∑ x, x0 (ix2 r x) * x0 (ix2 r x))
      (Ideal.ofBits FTy.f32 1149239296#32) + Ideal.ofBits FTy.f32 897988541#32) * x1 (ix2 0 k) := by
  pointwise [k0_pay3]

variable (m : (ℓ : Loc nD τ sig) → Buf (Elt Ideal) ℓ) (ρ : Dev nD → PrngReg) (c : Dev nD)

/-- The printed index maps, decided over the grid: point `t` is row block `t`. -/
theorem maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem N_eq : cfg0.N = 128 := N_0

/-- Row `r` of point `t`'s block, as a row of the array. -/
def row (t : Fin cfg0.N) (r : Fin 512) : Fin 65536 :=
  ⟨t.val * 512 + r.val, by have h := lt_of_lt_of_eq t.isLt N_eq; omega⟩

theorem blk0_at (t : Fin cfg0.N) (r : Fin 512) (k : Fin 1024) :
    (iblk m c 0 t : Vec Ideal S512x1024 .f32) (ix2 r k) = m ((c : Thread nD τ).loc main_arg0) (ix2 (row t r) k) := by
  obtain ⟨e0, e1, -⟩ := maps t
  unfold iblk
  rw [View.read_apply]
  show V m c main_arg0 _ = _
  rw [V_main_arg0]
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

/-- The norm's gains, laid out as one row before the call. -/
theorem V_gain (k : Fin 1024) : V m c main_v9 (ix2 0 k) = m ((c : Thread nD τ).loc main_arg1) (ix1 k) := by
  have h : V m c main_v9 = shapeCast S1x1024 (m ((c : Thread nD τ).loc main_arg1) : Vec Ideal S1024 .f32)
      shapeCasts_S1024_S1x1024 := by
    simp only [V, hostOps0, hostOps0_1, hostOps0_2, hostOps0_3, hostOps0_4, List.flatten_cons, List.flatten_nil,
      List.append_nil, List.cons_append, List.nil_append]
    after_results_simp
    rfl
  rw [h]
  pointwise

theorem blk1_at (t : Fin cfg0.N) (k : Fin 1024) :
    (iblk m c 1 t : Vec Ideal S1x1024 .f32) (ix2 0 k) = m ((c : Thread nD τ).loc main_arg1) (ix1 k) := by
  obtain ⟨-, -, e0, e1, -⟩ := maps t
  rw [← V_gain m c k]
  unfold iblk
  rw [View.read_apply]
  show V m c main_v9 _ = _
  congr 1
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem blk2_at (t : Fin cfg0.N) (k : Fin 1024) (q : Fin 3072) :
    (iblk m c 2 t : Vec Ideal S1024x3072 .bf16) (ix2 k q) = m ((c : Thread nD τ).loc main_arg2) (ix2 k q) := by
  obtain ⟨-, -, -, -, e0, e1, -⟩ := maps t
  unfold iblk
  rw [View.read_apply]
  show V m c main_arg2 _ = _
  rw [V_main_arg2]
  congr 1
  funext a; apply Fin.ext
  match a with
  | ⟨0, _⟩ => show win0_2.index t (0 : Fin 2) * 1024 + 1 * k.val = k.val; omega
  | ⟨1, _⟩ => show win0_2.index t (1 : Fin 2) * 3072 + 1 * q.val = q.val; omega

theorem blk3_at (t : Fin cfg0.N) (a : Fin 2) (b : Fin 1024) :
    (iblk m c 3 t : Vec Ideal S2x1024 .f32) (ix2 a b) = m ((c : Thread nD τ).loc main_arg3) (ix2 a b) := by
  obtain ⟨-, -, -, -, -, -, e0, e1, -⟩ := maps t
  unfold iblk
  rw [View.read_apply]
  show V m c main_arg3 _ = _
  rw [V_main_arg3]
  congr 1
  funext e; apply Fin.ext
  match e with
  | ⟨0, _⟩ => show win0_3.index t (0 : Fin 2) * 2 + 1 * a.val = a.val; omega
  | ⟨1, _⟩ => show win0_3.index t (1 : Fin 2) * 1024 + 1 * b.val = b.val; omega

/-- The matrix of heads, before the call. -/
theorem V_seg_at (l p : Fin 256) : (V m c main_v8 : Vec Ideal S256x256 .bf16) (ix2 l p)
    = if l.val / 128 = p.val / 128 then (1 : EReal) else (0 : EReal) := by
  have h : V m c main_v8 = Cert.Kernel4Ideal.Dil.segs := by
    simp only [V, hostOps0, hostOps0_1, hostOps0_2, hostOps0_3, hostOps0_4, List.flatten_cons, List.flatten_nil,
      List.append_nil, List.cons_append, List.nil_append]
    after_results_simp
    rfl
  rw [h]
  exact Cert.Kernel4Ideal.Dil.segs_at l p

theorem blk4_at (t : Fin cfg0.N) (l p : Fin 256) :
    (iblk m c 4 t : Vec Ideal S256x256 .bf16) (ix2 l p) = if l.val / 128 = p.val / 128 then (1 : EReal) else (0 : EReal) := by
  obtain ⟨-, -, -, -, -, -, -, -, e0, e1, -⟩ := maps t
  rw [← V_seg_at m c l p]
  unfold iblk
  rw [View.read_apply]
  show V m c main_v8 _ = _
  congr 1
  funext e; apply Fin.ext
  match e with
  | ⟨0, _⟩ => show win0_4.index t (0 : Fin 2) * 256 + 1 * l.val = l.val; omega
  | ⟨1, _⟩ => show win0_4.index t (1 : Fin 2) * 256 + 1 * p.val = p.val; omega

/-! ## The array -/

/-- The result at row `a`, column `q` of the array of `4` rows side by side. -/
def cell (a : Fin 16384) (q : Fin 12288) : EReal :=
  DilRef.result (m ((c : Thread nD τ).loc main_arg0)) (m ((c : Thread nD τ).loc main_arg1)) (m ((c : Thread nD τ).loc main_arg2))
    (m ((c : Thread nD τ).loc main_arg3)) ⟨a.val * 4 + q.val / 3072, by omega⟩ ⟨q.val % 3072, by omega⟩

/-- The result array. -/
def G (c : Dev nD) : Buf (Elt Ideal) ((c : Thread nD τ).loc main_v10) := fun i => cell m c (i 0) (i 1)

/-- Row `i` of point `t`'s block of the result, as a row of the array. -/
def wrow (t : Fin cfg0.N) (i : Fin 128) : Fin 16384 :=
  ⟨t.val * 128 + i.val, by have h := lt_of_lt_of_eq t.isLt N_eq; omega⟩

/-- The norm's gains and the weights are real. -/
def Real (c : Dev nD) : Prop :=
  (∀ i, ∃ y : ℝ, (m ((c : Thread nD τ).loc main_arg1) : Vec Ideal S1024 .f32) (ix1 i) = (y : EReal))
  ∧ ∀ i j, ∃ y : ℝ, (m ((c : Thread nD τ).loc main_arg2) : Vec Ideal S1024x3072 .bf16) (ix2 i j) = (y : EReal)

/-- What the body leaves at a point, element by element. -/
theorem out_at (hr : Real m c) (t : Fin cfg0.N) (i : Fin 128) (q : Fin 12288) :
    (outsAt0 m c t : Vec Ideal S128x12288 .bf16) (ix2 i q) = cell m c (wrow t i) q := by
  unfold outsAt0
  rw [out_eq]
  refine (entry_eq (m ((c : Thread nD τ).loc main_arg0)) _ _ _ hr.1 hr.2 _ _ _ _ (row t ⟨i.val * 4 + q.val / 3072, by omega⟩) ⟨i.val * 4 + q.val / 3072, by omega⟩
    (fun k => ?_) (fun k q => blk2_at m c t k q)
    (fun a b => blk3_at m c t a b) (fun l p => blk4_at m c t l p) ⟨q.val % 3072, by omega⟩).trans ?_
  · rw [pay_at, blk1_at]
    simp only [blk0_at]
    rfl
  · unfold cell
    refine congrArg (fun R => DilRef.result _ _ _ _ R _) (Fin.ext ?_)
    show t.val * 512 + (i.val * 4 + q.val / 3072) = (t.val * 128 + i.val) * 4 + q.val / 3072
    omega

/-- What a point writes back is its block of the result array. -/
theorem flushed_eq (hr : Real m c) (t : Fin cfg0.N) :
    (dats m 0 c).flushed 5 t = ((cfg0.win 5).blk t).view.read (Elt Ideal) (G m c) := by
  rw [Value.flushed5]
  obtain ⟨-, -, -, -, -, -, -, -, -, -, e0, e1⟩ := maps t
  funext y
  have hb0 : (((cfg0.win 5).blk t).view.emb y 0).val = win0_5.index t (0 : Fin 2) * 128 + 1 * (y 0).val := rfl
  have hb1 : (((cfg0.win 5).blk t).view.emb y 1).val = win0_5.index t (1 : Fin 2) * 12288 + 1 * (y 1).val := rfl
  rw [View.read_apply]
  have hl : (cfg0.win 5).cut (grid0.coords t) (outsAt0 m c t) y = outsAt0 m c t y := rfl
  rw [hl]
  refine (congrArg (outsAt0 m c t) (ix2_eta (n0 := 128) (n1 := 12288) y).symm).trans ((out_at m c hr t (y 0) (y 1)).trans ?_)
  have q0 : ((cfg0.win 5).blk t).view.emb y 0 = wrow t (y 0) := Fin.ext (by
    rw [hb0]; show _ = t.val * 128 + (y 0).val; omega)
  have q1 : ((cfg0.win 5).blk t).view.emb y 1 = y 1 := Fin.ext (by rw [hb1]; omega)
  show _ = cell m c (((cfg0.win 5).blk t).view.emb y 0) (((cfg0.win 5).blk t).view.emb y 1)
  rw [q0, q1]

/-- An index is in a point's block when each of its coordinates is. -/
theorem mem_blk (t : Fin cfg0.N) (i : S16384x12288.Idx) :
    i ∈ ((cfg0.win 5).blk t).view.set ↔ ∀ a : Fin 2, win0_5.index t a * S128x12288.size a ≤ (i a).val
      ∧ (i a).val < win0_5.index t a * S128x12288.size a + S128x12288.size a := by
  show i ∈ ((View.whole main_v10).slice (win0_5.rect t)).set ↔ _
  rw [View.set_slice_whole, Rect.mem_set_unit]
  exact Iff.rfl

/-- The blocks tile the array. -/
theorem covered (i : S16384x12288.Idx) :
    ∃ t : Fin cfg0.N, (cfg0.win 5).flush t = true ∧ i ∈ ((cfg0.win 5).blk t).view.set := by
  have h0 : (i 0).val < 16384 := (i 0).isLt
  have h1 : (i 1).val < 12288 := (i 1).isLt
  refine ⟨⟨(i 0).val / 128, by rw [N_eq]; omega⟩, flush0_5 _, ?_⟩
  rw [mem_blk]
  obtain ⟨-, -, -, -, -, -, -, -, -, -, e0, e1⟩ := maps ⟨(i 0).val / 128, by rw [N_eq]; omega⟩
  intro a
  match a with
  | ⟨0, _⟩ => show win0_5.index _ (0 : Fin 2) * 128 ≤ (i 0).val ∧ (i 0).val < win0_5.index _ (0 : Fin 2) * 128 + 128; rw [e0]; dsimp only; omega
  | ⟨1, _⟩ => show win0_5.index _ (1 : Fin 2) * 12288 ≤ (i 1).val ∧ (i 1).val < win0_5.index _ (1 : Fin 2) * 12288 + 12288; rw [e1]; dsimp only; omega

/-- The array after the run. -/
theorem final (hr : Real m c) : (dats m 0 c).arrAt 5 cfg0.N = G m c :=
  (dats m 0 c).arrAt_eq_of_cover 5 _ (fun t _ => flushed_eq m c hr t) covered

/-- The run, read: the result array is `G`, and the arguments are as launched. -/
theorem run (hr : ∀ c, Real m c) :
    θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c)), (h c).2⟩) (Value.run_blocks m ρ)

end Cert.Kernel5Ideal.Dil4

end
-- ==== Proof.Dil4Claim.lean ====
/-
  The claims about the dilated layer's projection (dilation 4): its frames, and the equality with the reference over the extended reals when the norm's gains
  and the weights are real.
-/
module

public import proofs.«01_k».proof.Defs
public import proofs.«01_k».proof.Proof.Dil4Value
public import proofs.«01_k».proof.Proof.ProjFinite
public import proofs.«01_k».proof.Proof.DilRef
public import proofs.«01_k».proof.Proof.Gen.Reference5Ideal.Run
public import Idealize.ShloMosaic.Lib.Pointwise
public import Idealize.ShloMosaic.Lib.Quiescent

@[expose] public section

set_option maxRecDepth 16384

noncomputable section

namespace Cert.Dil4Claim

open Idealize.ShloMosaic Idealize.ShloMosaic.TcCoe Idealize.SL.Sem

/-- The reference ends, with its arguments unchanged and no counters left. -/
theorem frame_ref : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The reference's result: the projection, `4` rows side by side. -/
def wideRef (H : Vec Ideal Cert.Reference5Ideal.S65536x1024 .f32) (G : Vec Ideal Cert.Reference5Ideal.S1024 .f32)
    (W : Vec Ideal Cert.Reference5Ideal.S1024x3072 .bf16) (g : Vec Ideal Cert.Reference5Ideal.S2x1024 .f32) :
    Vec Ideal Cert.Reference5Ideal.S16384x12288 .bf16 :=
  shapeCast _ (DilRef.refOut H G W g) Cert.Reference5Ideal.Facts₀.shapeCasts_S65536x3072_S16384x12288

theorem wideRef_at (H : Vec Ideal Cert.Reference5Ideal.S65536x1024 .f32) (G : Vec Ideal Cert.Reference5Ideal.S1024 .f32)
    (W : Vec Ideal Cert.Reference5Ideal.S1024x3072 .bf16) (g : Vec Ideal Cert.Reference5Ideal.S2x1024 .f32)
    (a : Fin 16384) (q : Fin 12288) : wideRef H G W g (ix2 a q)
      = DilRef.result H G W g ⟨a.val * 4 + q.val / 3072, by omega⟩ ⟨q.val % 3072, by omega⟩ := by
  rw [← DilRef.refOut_at]
  pointwise [wideRef]

theorem res_eq (m : (ℓ : Loc Cert.Reference5Ideal.nD Cert.Reference5Ideal.τ Cert.Reference5Ideal.sig) → Buf (Elt Ideal) ℓ)
    (c : Dev Cert.Reference5Ideal.nD) :
    Cert.Reference5Ideal.Value.res_main_v47 m c
      = wideRef (m ((c.tc : Thread Cert.Reference5Ideal.nD Cert.Reference5Ideal.τ).loc Cert.Reference5Ideal.main_arg0))
        (m ((c.tc : Thread Cert.Reference5Ideal.nD Cert.Reference5Ideal.τ).loc Cert.Reference5Ideal.main_arg1))
        (m ((c.tc : Thread Cert.Reference5Ideal.nD Cert.Reference5Ideal.τ).loc Cert.Reference5Ideal.main_arg2))
        (m ((c.tc : Thread Cert.Reference5Ideal.nD Cert.Reference5Ideal.τ).loc Cert.Reference5Ideal.main_arg3)) := rfl

/-- Kernel and reference end with the same array. -/
theorem value [Cert.Pre_finite3.Facts] : Cert.algebraic_Kernel5Ideal_Reference5Ideal_pre_finite3 := by
  intro m ρ m' ρ' hpre hag
  refine ⟨fun c => Cert.Kernel5Ideal.Dil4.G m c, Cert.Kernel5Ideal.Dil4.run m ρ fun c =>
    ProjFinite.real_of_pre _ _ _ _ (hpre c), ?_⟩
  refine (θ_run Cert.Reference5Ideal.defs _ _).mono (fun r h c => ⟨(h c).1.trans ?_, (h c).2⟩)
    (Cert.Reference5Ideal.Value.run (F := Ideal) m' ρ')
  obtain ⟨e0, e1, e2, e3⟩ := hag c
  refine (res_eq m' c).trans ?_
  rw [e0, e1, e2, e3]
  funext i
  rw [← ix2_eta (n0 := 16384) (n1 := 12288) i]
  exact wideRef_at _ _ _ _ (i 0) (i 1)

end Cert.Dil4Claim

end
-- ==== Proof.Dil16Scr.lean ====
/-
  The body of the dilated layer's projection call, dilation 16: what it leaves in the scratch of 24 slabs of 128
  columns, and what a read of the scratch gives.
-/
module

public import proofs.«01_k».proof.Defs
public import proofs.«01_k».proof.Proof.Gen.Kernel6Ideal.Value
public import proofs.«01_k».proof.Proof.Dil4Scr
public import Idealize.ShloMosaic.Lib.Pipeline.Value
public import Idealize.ShloMosaic.Lib.Tactic
public import Idealize.ShloMosaic.Lib.Pointwise

@[expose] public section

set_option maxRecDepth 16384

noncomputable section

namespace Cert.Kernel6Ideal.Dil16

open Cert.Kernel6Ideal Cert.Kernel6Ideal.Gen Idealize.ShloMosaic Idealize.ShloMosaic.TcCoe Idealize.SL.Sem
open Cert.Kernel4Ideal.Dil (hz prod headed half0 half1 half0_at half1_at entry block piece_h0 piece_h1 piece_v0 piece_v1)
open Cert.Kernel5Ideal.Dil4 (slab0 slab1 scr scr_h0 scr_h1 scr_v0 scr_v1 read_scr inb_slab mem_slab)

section Scratch

variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S1024x3072 .bf16) (harg3 : arg3.IsWhole)
  (arg4 : Memref sig .tc .vmem S2x1024 .f32) (harg4 : arg4.IsWhole)
  (arg5 : Memref sig .tc .vmem S256x256 .bf16) (harg5 : arg5.IsWhole)
  (arg6 : Memref sig .tc .vmem S32x49152 .bf16) (harg6 : arg6.IsWhole)
  (arg7 : Memref sig .tc .vmem S512x1024 .bf16) (harg7 : arg7.IsWhole)
  (arg8 : Memref sig .tc .vmem S24x512x128 .f32) (harg8 : arg8.IsWhole)
  (x0 : Vec Ideal S512x1024 .f32) (x1 : Vec Ideal S1x1024 .f32) (x2 : Vec Ideal S1024x3072 .bf16)
  (x3 : Vec Ideal S2x1024 .f32) (x4 : Vec Ideal S256x256 .bf16)

/-- Every slab the body stores is a slab of the one scratch. -/
theorem scr_pieces : ∀ p ∈ kernelRun0_A.sl.HS1_24 (F := Ideal) c arg1 harg1 arg2 harg2 arg3 harg3 arg4 harg4 arg5 harg5 arg7 x0 x1 x2 x3 x4,
    ∀ x : p.1.shape.Idx, p.2 x = scr (k0_pay2 x0 x1) x2 x3 x4 (p.1.emb x) := by
  unfold kernelRun0_A.sl.HS1_24
  sl_unfold_words
  simp only [View.readCov_unit_zero (S := S512x1024) _ hz, View.readAt_eq_ld, harg1.read_unread, harg2.read_unread,
    harg3.read_unread, harg4.read_unread, harg5.read_unread, View.ld_unit_zero (S := S512x1024) hz,
    View.ld_unit_zero (S := S1x1024) hz, View.ld_unit_zero (S := S256x256) hz]
  obtain ⟨X, hX⟩ : ∃ X, X = k0_pay2 x0 x1 := ⟨_, rfl⟩
  rw [← hX]
  unfold k0_pay2 at hX
  dsimp only at hX
  simp only [← hX]
  clear hX
  refine List.forall_mem_cons.2 ⟨scr_v1 X x2 x3 x4 23 2816 (by decide) (by decide) rfl _ (inb_slab 23 (by decide)), ?_⟩
  refine List.forall_mem_cons.2 ⟨scr_v0 X x2 x3 x4 22 2816 (by decide) (by decide) rfl _ (inb_slab 22 (by decide)), ?_⟩
  refine List.forall_mem_cons.2 ⟨scr_v1 X x2 x3 x4 21 2560 (by decide) (by decide) rfl _ (inb_slab 21 (by decide)), ?_⟩
  refine List.forall_mem_cons.2 ⟨scr_v0 X x2 x3 x4 20 2560 (by decide) (by decide) rfl _ (inb_slab 20 (by decide)), ?_⟩
  refine List.forall_mem_cons.2 ⟨scr_v1 X x2 x3 x4 19 2304 (by decide) (by decide) rfl _ (inb_slab 19 (by decide)), ?_⟩
  refine List.forall_mem_cons.2 ⟨scr_v0 X x2 x3 x4 18 2304 (by decide) (by decide) rfl _ (inb_slab 18 (by decide)), ?_⟩
  refine List.forall_mem_cons.2 ⟨scr_v1 X x2 x3 x4 17 2048 (by decide) (by decide) rfl _ (inb_slab 17 (by decide)), ?_⟩
  refine List.forall_mem_cons.2 ⟨scr_v0 X x2 x3 x4 16 2048 (by decide) (by decide) rfl _ (inb_slab 16 (by decide)), ?_⟩
  refine List.forall_mem_cons.2 ⟨scr_h1 X x2 x3 x4 15 1792 1 768 rfl (by decide) (by decide) rfl rfl _ _ (inb_slab 15 (by decide)), ?_⟩
  refine List.forall_mem_cons.2 ⟨scr_h0 X x2 x3 x4 14 1792 1 768 rfl (by decide) (by decide) rfl rfl _ _ (inb_slab 14 (by decide)), ?_⟩
  refine List.forall_mem_cons.2 ⟨scr_h1 X x2 x3 x4 13 1536 1 512 rfl (by decide) (by decide) rfl rfl _ _ (inb_slab 13 (by decide)), ?_⟩
  refine List.forall_mem_cons.2 ⟨scr_h0 X x2 x3 x4 12 1536 1 512 rfl (by decide) (by decide) rfl rfl _ _ (inb_slab 12 (by decide)), ?_⟩
  refine List.forall_mem_cons.2 ⟨scr_h1 X x2 x3 x4 11 1280 1 256 rfl (by decide) (by decide) rfl rfl _ _ (inb_slab 11 (by decide)), ?_⟩
  refine List.forall_mem_cons.2 ⟨scr_h0 X x2 x3 x4 10 1280 1 256 rfl (by decide) (by decide) rfl rfl _ _ (inb_slab 10 (by decide)), ?_⟩
  refine List.forall_mem_cons.2 ⟨scr_h1 X x2 x3 x4 9 1024 1 0 rfl (by decide) (by decide) rfl rfl _ _ (inb_slab 9 (by decide)), ?_⟩
  refine List.forall_mem_cons.2 ⟨scr_h0 X x2 x3 x4 8 1024 1 0 rfl (by decide) (by decide) rfl rfl _ _ (inb_slab 8 (by decide)), ?_⟩
  refine List.forall_mem_cons.2 ⟨scr_h1 X x2 x3 x4 7 768 0 768 rfl (by decide) (by decide) rfl rfl _ _ (inb_slab 7 (by decide)), ?_⟩
  refine List.forall_mem_cons.2 ⟨scr_h0 X x2 x3 x4 6 768 0 768 rfl (by decide) (by decide) rfl rfl _ _ (inb_slab 6 (by decide)), ?_⟩
  refine List.forall_mem_cons.2 ⟨scr_h1 X x2 x3 x4 5 512 0 512 rfl (by decide) (by decide) rfl rfl _ _ (inb_slab 5 (by decide)), ?_⟩
  refine List.forall_mem_cons.2 ⟨scr_h0 X x2 x3 x4 4 512 0 512 rfl (by decide) (by decide) rfl rfl _ _ (inb_slab 4 (by decide)), ?_⟩
  refine List.forall_mem_cons.2 ⟨scr_h1 X x2 x3 x4 3 256 0 256 rfl (by decide) (by decide) rfl rfl _ _ (inb_slab 3 (by decide)), ?_⟩
  refine List.forall_mem_cons.2 ⟨scr_h0 X x2 x3 x4 2 256 0 256 rfl (by decide) (by decide) rfl rfl _ _ (inb_slab 2 (by decide)), ?_⟩
  refine List.forall_mem_cons.2 ⟨scr_h1 X x2 x3 x4 1 0 0 0 rfl (by decide) (by decide) rfl rfl _ _ (inb_slab 1 (by decide)), ?_⟩
  refine List.forall_mem_cons.2 ⟨scr_h0 X x2 x3 x4 0 0 0 0 rfl (by decide) (by decide) rfl rfl _ _ (inb_slab 0 (by decide)), ?_⟩
  exact fun _ h => absurd h List.not_mem_nil

/-- Every slab is stored. -/
theorem scr_cover : ∀ s : Fin 24, ∃ p ∈ kernelRun0_A.sl.HS1_24 (F := Ideal) c arg1 harg1 arg2 harg2 arg3 harg3 arg4 harg4 arg5 harg5 arg7 x0 x1 x2 x3 x4,
    ∀ (r : Fin 512) (n : Fin 128), ix3 s r n ∈ p.1.set := fun s => match s with
  | ⟨0, _⟩ => ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))))), fun r n => mem_slab 0 (by decide) (inb_slab 0 (by decide)) r n⟩
  | ⟨1, _⟩ => ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))), fun r n => mem_slab 1 (by decide) (inb_slab 1 (by decide)) r n⟩
  | ⟨2, _⟩ => ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))), fun r n => mem_slab 2 (by decide) (inb_slab 2 (by decide)) r n⟩
  | ⟨3, _⟩ => ⟨_, .tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))), fun r n => mem_slab 3 (by decide) (inb_slab 3 (by decide)) r n⟩
  | ⟨4, _⟩ => ⟨_, .tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))), fun r n => mem_slab 4 (by decide) (inb_slab 4 (by decide)) r n⟩
  | ⟨5, _⟩ => ⟨_, .tail _ (.tail _ (.tail _ (.tail _ (.tail _ (.tail _ (.tail _ (.tail _ (.tail _ (.tail _ (.tail _ (.tail _ (.tail _ (.tail _ (.tail _ (.tail _ (.tail _ (.tail _ (.head _)))))))))))))))))), fun r n => mem_slab 5 (by decide) (inb_slab 5 (by decide)) r n⟩
  | ⟨6, _⟩ => ⟨_, .tail _ (.tail _ (.tail _ (.tail _ (.tail _ (.tail _ (.tail _ (.tail _ (.tail _ (.tail _ (.tail _ (.tail _ (.tail _ (.tail _ (.tail _ (.tail _ (.tail _ (.head _))))))))))))))))), fun r n => mem_slab 6 (by decide) (inb_slab 6 (by decide)) r n⟩
  | ⟨7, _⟩ => ⟨_, .tail _ (.tail _ (.tail _ (.tail _ (.tail _ (.tail _ (.tail _ (.tail _ (.tail _ (.tail _ (.tail _ (.tail _ (.tail _ (.tail _ (.tail _ (.tail _ (.head _)))))))))))))))), fun r n => mem_slab 7 (by decide) (inb_slab 7 (by decide)) r n⟩
  | ⟨8, _⟩ => ⟨_, .tail _ (.tail _ (.tail _ (.tail _ (.tail _ (.tail _ (.tail _ (.tail _ (.tail _ (.tail _ (.tail _ (.tail _ (.tail _ (.tail _ (.tail _ (.head _))))))))))))))), fun r n => mem_slab 8 (by decide) (inb_slab 8 (by decide)) r n⟩
  | ⟨9, _⟩ => ⟨_, .tail _ (.tail _ (.tail _ (.tail _ (.tail _ (.tail _ (.tail _ (.tail _ (.tail _ (.tail _ (.tail _ (.tail _ (.tail _ (.tail _ (.head _)))))))))))))), fun r n => mem_slab 9 (by decide) (inb_slab 9 (by decide)) r n⟩
  | ⟨10, _⟩ => ⟨_, .tail _ (.tail _ (.tail _ (.tail _ (.tail _ (.tail _ (.tail _ (.tail _ (.tail _ (.tail _ (.tail _ (.tail _ (.tail _ (.head _))))))))))))), fun r n => mem_slab 10 (by decide) (inb_slab 10 (by decide)) r n⟩
  | ⟨11, _⟩ => ⟨_, .tail _ (.tail _ (.tail _ (.tail _ (.tail _ (.tail _ (.tail _ (.tail _ (.tail _ (.tail _ (.tail _ (.tail _ (.head _)))))))))))), fun r n => mem_slab 11 (by decide) (inb_slab 11 (by decide)) r n⟩
  | ⟨12, _⟩ => ⟨_, .tail _ (.tail _ (.tail _ (.tail _ (.tail _ (.tail _ (.tail _ (.tail _ (.tail _ (.tail _ (.tail _ (.head _))))))))))), fun r n => mem_slab 12 (by decide) (inb_slab 12 (by decide)) r n⟩
  | ⟨13, _⟩ => ⟨_, .tail _ (.tail _ (.tail _ (.tail _ (.tail _ (.tail _ (.tail _ (.tail _ (.tail _ (.tail _ (.head _)))))))))), fun r n => mem_slab 13 (by decide) (inb_slab 13 (by decide)) r n⟩
  | ⟨14, _⟩ => ⟨_, .tail _ (.tail _ (.tail _ (.tail _ (.tail _ (.tail _ (.tail _ (.tail _ (.tail _ (.head _))))))))), fun r n => mem_slab 14 (by decide) (inb_slab 14 (by decide)) r n⟩
  | ⟨15, _⟩ => ⟨_, .tail _ (.tail _ (.tail _ (.tail _ (.tail _ (.tail _ (.tail _ (.tail _ (.head _)))))))), fun r n => mem_slab 15 (by decide) (inb_slab 15 (by decide)) r n⟩
  | ⟨16, _⟩ => ⟨_, .tail _ (.tail _ (.tail _ (.tail _ (.tail _ (.tail _ (.tail _ (.head _))))))), fun r n => mem_slab 16 (by decide) (inb_slab 16 (by decide)) r n⟩
  | ⟨17, _⟩ => ⟨_, .tail _ (.tail _ (.tail _ (.tail _ (.tail _ (.tail _ (.head _)))))), fun r n => mem_slab 17 (by decide) (inb_slab 17 (by decide)) r n⟩
  | ⟨18, _⟩ => ⟨_, .tail _ (.tail _ (.tail _ (.tail _ (.tail _ (.head _))))), fun r n => mem_slab 18 (by decide) (inb_slab 18 (by decide)) r n⟩
  | ⟨19, _⟩ => ⟨_, .tail _ (.tail _ (.tail _ (.tail _ (.head _)))), fun r n => mem_slab 19 (by decide) (inb_slab 19 (by decide)) r n⟩
  | ⟨20, _⟩ => ⟨_, .tail _ (.tail _ (.tail _ (.head _))), fun r n => mem_slab 20 (by decide) (inb_slab 20 (by decide)) r n⟩
  | ⟨21, _⟩ => ⟨_, .tail _ (.tail _ (.head _)), fun r n => mem_slab 21 (by decide) (inb_slab 21 (by decide)) r n⟩
  | ⟨22, _⟩ => ⟨_, .tail _ (.head _), fun r n => mem_slab 22 (by decide) (inb_slab 22 (by decide)) r n⟩
  | ⟨23, _⟩ => ⟨_, .head _, fun r n => mem_slab 23 (by decide) (inb_slab 23 (by decide)) r n⟩
  | ⟨_ + 24, h⟩ => absurd h (by omega)

/-- A read of the scratch. -/
theorem read_at {sig' : RefSig} {κ' : Kind} {sp' : Space} (v : View sig' κ' sp' S24x512x128 .f32)
    (B : LoadRect S24x512x128) (j : B.shape.Idx) :
    v.readCov (kernelRun0_A.sl.HS1_24 (F := Ideal) c arg1 harg1 arg2 harg2 arg3 harg3 arg4 harg4 arg5 harg5 arg7 x0 x1 x2 x3 x4) B j
      = scr (k0_pay2 x0 x1) x2 x3 x4 (B.idx j) :=
  read_scr _ x2 x3 x4 v _ (scr_pieces c arg1 harg1 arg2 harg2 arg3 harg3 arg4 harg4 arg5 harg5 arg7 x0 x1 x2 x3 x4) (scr_cover c arg1 harg1 arg2 harg2 arg3 harg3 arg4 harg4 arg5 harg5 arg7 x0 x1 x2 x3 x4) B j

end Scratch

end Cert.Kernel6Ideal.Dil16

end
-- ==== Proof.Dil16Body.lean ====
/-
  The body of the dilated layer's projection call, dilation 16: what it stores, entry by entry. Row `i` of the block it
  stores holds rows `16 i` to `16 i + 15` of the block it is given, one after the other, 3072 columns each.
-/
module

public import proofs.«01_k».proof.Defs
public import proofs.«01_k».proof.Proof.Gen.Kernel6Ideal.Value
public import proofs.«01_k».proof.Proof.Dil16Scr
public import Idealize.ShloMosaic.Lib.Pipeline.Value
public import Idealize.ShloMosaic.Lib.Tactic
public import Idealize.ShloMosaic.Lib.Pointwise

@[expose] public section

set_option maxRecDepth 16384

noncomputable section

namespace Cert.Kernel6Ideal.Dil16

open Cert.Kernel6Ideal Cert.Kernel6Ideal.Gen Idealize.ShloMosaic Idealize.ShloMosaic.TcCoe Idealize.SL.Sem
open Cert.Kernel4Ideal.Dil (hz prod headed half0 half1 half0_at half1_at entry block piece_h0 piece_h1 piece_v0 piece_v1)
open Cert.Kernel5Ideal.Dil4 (scr)

section Entries

variable (X : Vec Ideal S512x1024 .bf16) (W : Vec Ideal S1024x3072 .bf16) (g : Vec Ideal S2x1024 .f32)
  (E : Vec Ideal S256x256 .bf16)

/-- The block the body stores: `16` rows side by side. -/
def wide : S32x49152.Idx → EReal := fun y =>
  entry X W g E ⟨(y 0).val * 16 + (y 1).val / 3072, by
    have h0 : (y 0).val < 32 := (y 0).isLt
    have h1 : (y 1).val < 49152 := (y 1).isLt
    omega⟩ ⟨(y 1).val % 3072, by omega⟩

/-- Rows of a slab, as they are stored. -/
def narrow (Z : FVec Ideal S1x32x128 .f32) : FVec Ideal S32x128 .bf16 :=
  truncf .bf16 (shapeCast S32x128 Z shapeCasts_S1x32x128_S32x128) bitsLt_bf16_f32

theorem narrow_at (Z : FVec Ideal S1x32x128 .f32) (i : Fin 32) (n : Fin 128) : narrow Z (ix2 i n) = Z (ix3 0 i n) := by
  pointwise [narrow]

/-- A column of pieces within the block. -/
theorem inb_out (o : Nat) (ho : o + 128 ≤ 49152) :
    ∀ a, (![0, o] : Fin 2 → Nat) a + (![32, 128] : Fin 2 → Nat) a ≤ S32x49152.size a := by
  intro a
  match a with
  | ⟨0, _⟩ => exact le_refl 32
  | ⟨1, _⟩ => exact ho

/-- Slab `s` of the scratch, every `16`th row from row `r`, is stored at column `o`. -/
theorem stored {sig : RefSig} {κ : Kind} {sp : Space} (v : View sig κ sp S24x512x128 .f32)
    (L : List (View.Piece (Elt Ideal) S24x512x128 .f32))
    (hL : ∀ (B : LoadRect S24x512x128) (j : B.shape.Idx), v.readCov L B j = scr X W g E (B.idx j))
    (s r o : Nat) (hs : s < 24) (e : o = (r * 3 + s / 8) * 1024 + s % 8 * 128)
    (inb : ∀ a, S1x32x128.size a = 0 ∨ (![s, r, 0] : Fin 3 → Nat) a + (![1, 16, 1] : Fin 3 → Nat) a * (S1x32x128.size a - 1)
      < S24x512x128.size a)
    (ho : o + 128 ≤ 49152) (x : S32x128.Idx) :
    narrow (v.readCov L { off := ![s, r, 0], size := S1x32x128.size, stride := ![1, 16, 1], inb := inb }) x
      = wide X W g E ((Rect.unit (s := S32x49152) ![0, o] ![32, 128] (inb_out o ho)).emb x) := by
  obtain ⟨i, n, rfl⟩ : ∃ (i : Fin 32) (n : Fin 128), x = ix2 i n := ⟨x 0, x 1, (ix2_eta (n0 := 32) (n1 := 128) x).symm⟩
  refine (narrow_at _ i n).trans ((hL _ _).trans ?_)
  have hi := i.isLt
  have hn := n.isLt
  refine congrArg₂ (entry X W g E) (Fin.ext ?_) (Fin.ext ?_)
  · show r + 16 * i.val = (0 + 1 * i.val) * 16 + (o + 1 * n.val) / 3072
    omega
  · show (s + 1 * 0) * 128 + (0 + 1 * n.val) = (o + 1 * n.val) % 3072
    omega

end Entries

section Out

variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S1024x3072 .bf16) (harg3 : arg3.IsWhole)
  (arg4 : Memref sig .tc .vmem S2x1024 .f32) (harg4 : arg4.IsWhole)
  (arg5 : Memref sig .tc .vmem S256x256 .bf16) (harg5 : arg5.IsWhole)
  (arg6 : Memref sig .tc .vmem S32x49152 .bf16) (harg6 : arg6.IsWhole)
  (arg7 : Memref sig .tc .vmem S512x1024 .bf16) (harg7 : arg7.IsWhole)
  (arg8 : Memref sig .tc .vmem S24x512x128 .f32) (harg8 : arg8.IsWhole)
  (x0 : Vec Ideal S512x1024 .f32) (x1 : Vec Ideal S1x1024 .f32) (x2 : Vec Ideal S1024x3072 .bf16)
  (x3 : Vec Ideal S2x1024 .f32) (x4 : Vec Ideal S256x256 .bf16)

/-- Every piece the body stores is a piece of the one block. -/
theorem pieces : ∀ p ∈ (kernelRun0_A c i arg1 harg1 arg2 harg2 arg3 harg3 arg4 harg4 arg5 harg5 arg6 harg6 arg7 harg7 arg8 harg8
      x0 x1 x2 x3 x4).1, ∀ x : p.1.shape.Idx, p.2 x = wide (k0_pay2 x0 x1) x2 x3 x4 (p.1.emb x) := by
  have hL : ∀ (B : LoadRect S24x512x128) (j : B.shape.Idx),
      arg8.view.readCov (kernelRun0_A.sl.HS1_24 (F := Ideal) c arg1 harg1 arg2 harg2 arg3 harg3 arg4 harg4 arg5 harg5 arg7 x0 x1 x2 x3 x4) B j
        = scr (k0_pay2 x0 x1) x2 x3 x4 (B.idx j) := fun B j => read_at c arg1 harg1 arg2 harg2 arg3 harg3 arg4 harg4 arg5 harg5 arg7 x0 x1 x2 x3 x4 arg8.view B j
  generalize k0_pay2 x0 x1 = X at hL ⊢
  unfold kernelRun0_A
  dsimp only
  have st := stored X x2 x3 x4 _ _ hL
  refine List.forall_mem_cons.2 ⟨st 23 15 49024 (by decide) rfl _ (by decide), ?_⟩
  refine List.forall_mem_cons.2 ⟨st 22 15 48896 (by decide) rfl _ (by decide), ?_⟩
  refine List.forall_mem_cons.2 ⟨st 21 15 48768 (by decide) rfl _ (by decide), ?_⟩
  refine List.forall_mem_cons.2 ⟨st 20 15 48640 (by decide) rfl _ (by decide), ?_⟩
  refine List.forall_mem_cons.2 ⟨st 19 15 48512 (by decide) rfl _ (by decide), ?_⟩
  refine List.forall_mem_cons.2 ⟨st 18 15 48384 (by decide) rfl _ (by decide), ?_⟩
  refine List.forall_mem_cons.2 ⟨st 17 15 48256 (by decide) rfl _ (by decide), ?_⟩
  refine List.forall_mem_cons.2 ⟨st 16 15 48128 (by decide) rfl _ (by decide), ?_⟩
  refine List.forall_mem_cons.2 ⟨st 23 14 45952 (by decide) rfl _ (by decide), ?_⟩
  refine List.forall_mem_cons.2 ⟨st 22 14 45824 (by decide) rfl _ (by decide), ?_⟩
  refine List.forall_mem_cons.2 ⟨st 21 14 45696 (by decide) rfl _ (by decide), ?_⟩
  refine List.forall_mem_cons.2 ⟨st 20 14 45568 (by decide) rfl _ (by decide), ?_⟩
  refine List.forall_mem_cons.2 ⟨st 19 14 45440 (by decide) rfl _ (by decide), ?_⟩
  refine List.forall_mem_cons.2 ⟨st 18 14 45312 (by decide) rfl _ (by decide), ?_⟩
  refine List.forall_mem_cons.2 ⟨st 17 14 45184 (by decide) rfl _ (by decide), ?_⟩
  refine List.forall_mem_cons.2 ⟨st 16 14 45056 (by decide) rfl _ (by decide), ?_⟩
  refine List.forall_mem_cons.2 ⟨st 23 13 42880 (by decide) rfl _ (by decide), ?_⟩
  refine List.forall_mem_cons.2 ⟨st 22 13 42752 (by decide) rfl _ (by decide), ?_⟩
  refine List.forall_mem_cons.2 ⟨st 21 13 42624 (by decide) rfl _ (by decide), ?_⟩
  refine List.forall_mem_cons.2 ⟨st 20 13 42496 (by decide) rfl _ (by decide), ?_⟩
  refine List.forall_mem_cons.2 ⟨st 19 13 42368 (by decide) rfl _ (by decide), ?_⟩
  refine List.forall_mem_cons.2 ⟨st 18 13 42240 (by decide) rfl _ (by decide), ?_⟩
  refine List.forall_mem_cons.2 ⟨st 17 13 42112 (by decide) rfl _ (by decide), ?_⟩
  refine List.forall_mem_cons.2 ⟨st 16 13 41984 (by decide) rfl _ (by decide), ?_⟩
  refine List.forall_mem_cons.2 ⟨st 23 12 39808 (by decide) rfl _ (by decide), ?_⟩
  refine List.forall_mem_cons.2 ⟨st 22 12 39680 (by decide) rfl _ (by decide), ?_⟩
  refine List.forall_mem_cons.2 ⟨st 21 12 39552 (by decide) rfl _ (by decide), ?_⟩
  refine List.forall_mem_cons.2 ⟨st 20 12 39424 (by decide) rfl _ (by decide), ?_⟩
  refine List.forall_mem_cons.2 ⟨st 19 12 39296 (by decide) rfl _ (by decide), ?_⟩
  refine List.forall_mem_cons.2 ⟨st 18 12 39168 (by decide) rfl _ (by decide), ?_⟩
  refine List.forall_mem_cons.2 ⟨st 17 12 39040 (by decide) rfl _ (by decide), ?_⟩
  refine List.forall_mem_cons.2 ⟨st 16 12 38912 (by decide) rfl _ (by decide), ?_⟩
  refine List.forall_mem_cons.2 ⟨st 23 11 36736 (by decide) rfl _ (by decide), ?_⟩
  refine List.forall_mem_cons.2 ⟨st 22 11 36608 (by decide) rfl _ (by decide), ?_⟩
  refine List.forall_mem_cons.2 ⟨st 21 11 36480 (by decide) rfl _ (by decide), ?_⟩
  refine List.forall_mem_cons.2 ⟨st 20 11 36352 (by decide) rfl _ (by decide), ?_⟩
  refine List.forall_mem_cons.2 ⟨st 19 11 36224 (by decide) rfl _ (by decide), ?_⟩
  refine List.forall_mem_cons.2 ⟨st 18 11 36096 (by decide) rfl _ (by decide), ?_⟩
  refine List.forall_mem_cons.2 ⟨st 17 11 35968 (by decide) rfl _ (by decide), ?_⟩
  refine List.forall_mem_cons.2 ⟨st 16 11 35840 (by decide) rfl _ (by decide), ?_⟩
  refine List.forall_mem_cons.2 ⟨st 23 10 33664 (by decide) rfl _ (by decide), ?_⟩
  refine List.forall_mem_cons.2 ⟨st 22 10 33536 (by decide) rfl _ (by decide), ?_⟩
  refine List.forall_mem_cons.2 ⟨st 21 10 33408 (by decide) rfl _ (by decide), ?_⟩
  refine List.forall_mem_cons.2 ⟨st 20 10 33280 (by decide) rfl _ (by decide), ?_⟩
  refine List.forall_mem_cons.2 ⟨st 19 10 33152 (by decide) rfl _ (by decide), ?_⟩
  refine List.forall_mem_cons.2 ⟨st 18 10 33024 (by decide) rfl _ (by decide), ?_⟩
  refine List.forall_mem_cons.2 ⟨st 17 10 32896 (by decide) rfl _ (by decide), ?_⟩
  refine List.forall_mem_cons.2 ⟨st 16 10 32768 (by decide) rfl _ (by decide), ?_⟩
  refine List.forall_mem_cons.2 ⟨st 23 9 30592 (by decide) rfl _ (by decide), ?_⟩
  refine List.forall_mem_cons.2 ⟨st 22 9 30464 (by decide) rfl _ (by decide), ?_⟩
  refine List.forall_mem_cons.2 ⟨st 21 9 30336 (by decide) rfl _ (by decide), ?_⟩
  refine List.forall_mem_cons.2 ⟨st 20 9 30208 (by decide) rfl _ (by decide), ?_⟩
  refine List.forall_mem_cons.2 ⟨st 19 9 30080 (by decide) rfl _ (by decide), ?_⟩
  refine List.forall_mem_cons.2 ⟨st 18 9 29952 (by decide) rfl _ (by decide), ?_⟩
  refine List.forall_mem_cons.2 ⟨st 17 9 29824 (by decide) rfl _ (by decide), ?_⟩
  refine List.forall_mem_cons.2 ⟨st 16 9 29696 (by decide) rfl _ (by decide), ?_⟩
  refine List.forall_mem_cons.2 ⟨st 23 8 27520 (by decide) rfl _ (by decide), ?_⟩
  refine List.forall_mem_cons.2 ⟨st 22 8 27392 (by decide) rfl _ (by decide), ?_⟩
  refine List.forall_mem_cons.2 ⟨st 21 8 27264 (by decide) rfl _ (by decide), ?_⟩
  refine List.forall_mem_cons.2 ⟨st 20 8 27136 (by decide) rfl _ (by decide), ?_⟩
  refine List.forall_mem_cons.2 ⟨st 19 8 27008 (by decide) rfl _ (by decide), ?_⟩
  refine List.forall_mem_cons.2 ⟨st 18 8 26880 (by decide) rfl _ (by decide), ?_⟩
  refine List.forall_mem_cons.2 ⟨st 17 8 26752 (by decide) rfl _ (by decide), ?_⟩
  refine List.forall_mem_cons.2 ⟨st 16 8 26624 (by decide) rfl _ (by decide), ?_⟩
  refine List.forall_mem_cons.2 ⟨st 23 7 24448 (by decide) rfl _ (by decide), ?_⟩
  refine List.forall_mem_cons.2 ⟨st 22 7 24320 (by decide) rfl _ (by decide), ?_⟩
  refine List.forall_mem_cons.2 ⟨st 21 7 24192 (by decide) rfl _ (by decide), ?_⟩
  refine List.forall_mem_cons.2 ⟨st 20 7 24064 (by decide) rfl _ (by decide), ?_⟩
  refine List.forall_mem_cons.2 ⟨st 19 7 23936 (by decide) rfl _ (by decide), ?_⟩
  refine List.forall_mem_cons.2 ⟨st 18 7 23808 (by decide) rfl _ (by decide), ?_⟩
  refine List.forall_mem_cons.2 ⟨st 17 7 23680 (by decide) rfl _ (by decide), ?_⟩
  refine List.forall_mem_cons.2 ⟨st 16 7 23552 (by decide) rfl _ (by decide), ?_⟩
  refine List.forall_mem_cons.2 ⟨st 23 6 21376 (by decide) rfl _ (by decide), ?_⟩
  refine List.forall_mem_cons.2 ⟨st 22 6 21248 (by decide) rfl _ (by decide), ?_⟩
  refine List.forall_mem_cons.2 ⟨st 21 6 21120 (by decide) rfl _ (by decide), ?_⟩
  refine List.forall_mem_cons.2 ⟨st 20 6 20992 (by decide) rfl _ (by decide), ?_⟩
  refine List.forall_mem_cons.2 ⟨st 19 6 20864 (by decide) rfl _ (by decide), ?_⟩
  refine List.forall_mem_cons.2 ⟨st 18 6 20736 (by decide) rfl _ (by decide), ?_⟩
  refine List.forall_mem_cons.2 ⟨st 17 6 20608 (by decide) rfl _ (by decide), ?_⟩
  refine List.forall_mem_cons.2 ⟨st 16 6 20480 (by decide) rfl _ (by decide), ?_⟩
  refine List.forall_mem_cons.2 ⟨st 23 5 18304 (by decide) rfl _ (by decide), ?_⟩
  refine List.forall_mem_cons.2 ⟨st 22 5 18176 (by decide) rfl _ (by decide), ?_⟩
  refine List.forall_mem_cons.2 ⟨st 21 5 18048 (by decide) rfl _ (by decide), ?_⟩
  refine List.forall_mem_cons.2 ⟨st 20 5 17920 (by decide) rfl _ (by decide), ?_⟩
  refine List.forall_mem_cons.2 ⟨st 19 5 17792 (by decide) rfl _ (by decide), ?_⟩
  refine List.forall_mem_cons.2 ⟨st 18 5 17664 (by decide) rfl _ (by decide), ?_⟩
  refine List.forall_mem_cons.2 ⟨st 17 5 17536 (by decide) rfl _ (by decide), ?_⟩
  refine List.forall_mem_cons.2 ⟨st 16 5 17408 (by decide) rfl _ (by decide), ?_⟩
  refine List.forall_mem_cons.2 ⟨st 23 4 15232 (by decide) rfl _ (by decide), ?_⟩
  refine List.forall_mem_cons.2 ⟨st 22 4 15104 (by decide) rfl _ (by decide), ?_⟩
  refine List.forall_mem_cons.2 ⟨st 21 4 14976 (by decide) rfl _ (by decide), ?_⟩
  refine List.forall_mem_cons.2 ⟨st 20 4 14848 (by decide) rfl _ (by decide), ?_⟩
  refine List.forall_mem_cons.2 ⟨st 19 4 14720 (by decide) rfl _ (by decide), ?_⟩
  refine List.forall_mem_cons.2 ⟨st 18 4 14592 (by decide) rfl _ (by decide), ?_⟩
  refine List.forall_mem_cons.2 ⟨st 17 4 14464 (by decide) rfl _ (by decide), ?_⟩
  refine List.forall_mem_cons.2 ⟨st 16 4 14336 (by decide) rfl _ (by decide), ?_⟩
  refine List.forall_mem_cons.2 ⟨st 23 3 12160 (by decide) rfl _ (by decide), ?_⟩
  refine List.forall_mem_cons.2 ⟨st 22 3 12032 (by decide) rfl _ (by decide), ?_⟩
  refine List.forall_mem_cons.2 ⟨st 21 3 11904 (by decide) rfl _ (by decide), ?_⟩
  refine List.forall_mem_cons.2 ⟨st 20 3 11776 (by decide) rfl _ (by decide), ?_⟩
  refine List.forall_mem_cons.2 ⟨st 19 3 11648 (by decide) rfl _ (by decide), ?_⟩
  refine List.forall_mem_cons.2 ⟨st 18 3 11520 (by decide) rfl _ (by decide), ?_⟩
  refine List.forall_mem_cons.2 ⟨st 17 3 11392 (by decide) rfl _ (by decide), ?_⟩
  refine List.forall_mem_cons.2 ⟨st 16 3 11264 (by decide) rfl _ (by decide), ?_⟩
  refine List.forall_mem_cons.2 ⟨st 23 2 9088 (by decide) rfl _ (by decide), ?_⟩
  refine List.forall_mem_cons.2 ⟨st 22 2 8960 (by decide) rfl _ (by decide), ?_⟩
  refine List.forall_mem_cons.2 ⟨st 21 2 8832 (by decide) rfl _ (by decide), ?_⟩
  refine List.forall_mem_cons.2 ⟨st 20 2 8704 (by decide) rfl _ (by decide), ?_⟩
  refine List.forall_mem_cons.2 ⟨st 19 2 8576 (by decide) rfl _ (by decide), ?_⟩
  refine List.forall_mem_cons.2 ⟨st 18 2 8448 (by decide) rfl _ (by decide), ?_⟩
  refine List.forall_mem_cons.2 ⟨st 17 2 8320 (by decide) rfl _ (by decide), ?_⟩
  refine List.forall_mem_cons.2 ⟨st 16 2 8192 (by decide) rfl _ (by decide), ?_⟩
  refine List.forall_mem_cons.2 ⟨st 23 1 6016 (by decide) rfl _ (by decide), ?_⟩
  refine List.forall_mem_cons.2 ⟨st 22 1 5888 (by decide) rfl _ (by decide), ?_⟩
  refine List.forall_mem_cons.2 ⟨st 21 1 5760 (by decide) rfl _ (by decide), ?_⟩
  refine List.forall_mem_cons.2 ⟨st 20 1 5632 (by decide) rfl _ (by decide), ?_⟩
  refine List.forall_mem_cons.2 ⟨st 19 1 5504 (by decide) rfl _ (by decide), ?_⟩
  refine List.forall_mem_cons.2 ⟨st 18 1 5376 (by decide) rfl _ (by decide), ?_⟩
  refine List.forall_mem_cons.2 ⟨st 17 1 5248 (by decide) rfl _ (by decide), ?_⟩
  refine List.forall_mem_cons.2 ⟨st 16 1 5120 (by decide) rfl _ (by decide), ?_⟩
  refine List.forall_mem_cons.2 ⟨st 23 0 2944 (by decide) rfl _ (by decide), ?_⟩
  refine List.forall_mem_cons.2 ⟨st 22 0 2816 (by decide) rfl _ (by decide), ?_⟩
  refine List.forall_mem_cons.2 ⟨st 21 0 2688 (by decide) rfl _ (by decide), ?_⟩
  refine List.forall_mem_cons.2 ⟨st 20 0 2560 (by decide) rfl _ (by decide), ?_⟩
  refine List.forall_mem_cons.2 ⟨st 19 0 2432 (by decide) rfl _ (by decide), ?_⟩
  refine List.forall_mem_cons.2 ⟨st 18 0 2304 (by decide) rfl _ (by decide), ?_⟩
  refine List.forall_mem_cons.2 ⟨st 17 0 2176 (by decide) rfl _ (by decide), ?_⟩
  refine List.forall_mem_cons.2 ⟨st 16 0 2048 (by decide) rfl _ (by decide), ?_⟩
  refine List.forall_mem_cons.2 ⟨st 15 15 48000 (by decide) rfl _ (by decide), ?_⟩
  refine List.forall_mem_cons.2 ⟨st 14 15 47872 (by decide) rfl _ (by decide), ?_⟩
  refine List.forall_mem_cons.2 ⟨st 13 15 47744 (by decide) rfl _ (by decide), ?_⟩
  refine List.forall_mem_cons.2 ⟨st 12 15 47616 (by decide) rfl _ (by decide), ?_⟩
  refine List.forall_mem_cons.2 ⟨st 11 15 47488 (by decide) rfl _ (by decide), ?_⟩
  refine List.forall_mem_cons.2 ⟨st 10 15 47360 (by decide) rfl _ (by decide), ?_⟩
  refine List.forall_mem_cons.2 ⟨st 9 15 47232 (by decide) rfl _ (by decide), ?_⟩
  refine List.forall_mem_cons.2 ⟨st 8 15 47104 (by decide) rfl _ (by decide), ?_⟩
  refine List.forall_mem_cons.2 ⟨st 15 14 44928 (by decide) rfl _ (by decide), ?_⟩
  refine List.forall_mem_cons.2 ⟨st 14 14 44800 (by decide) rfl _ (by decide), ?_⟩
  refine List.forall_mem_cons.2 ⟨st 13 14 44672 (by decide) rfl _ (by decide), ?_⟩
  refine List.forall_mem_cons.2 ⟨st 12 14 44544 (by decide) rfl _ (by decide), ?_⟩
  refine List.forall_mem_cons.2 ⟨st 11 14 44416 (by decide) rfl _ (by decide), ?_⟩
  refine List.forall_mem_cons.2 ⟨st 10 14 44288 (by decide) rfl _ (by decide), ?_⟩
  refine List.forall_mem_cons.2 ⟨st 9 14 44160 (by decide) rfl _ (by decide), ?_⟩
  refine List.forall_mem_cons.2 ⟨st 8 14 44032 (by decide) rfl _ (by decide), ?_⟩
  refine List.forall_mem_cons.2 ⟨st 15 13 41856 (by decide) rfl _ (by decide), ?_⟩
  refine List.forall_mem_cons.2 ⟨st 14 13 41728 (by decide) rfl _ (by decide), ?_⟩
  refine List.forall_mem_cons.2 ⟨st 13 13 41600 (by decide) rfl _ (by decide), ?_⟩
  refine List.forall_mem_cons.2 ⟨st 12 13 41472 (by decide) rfl _ (by decide), ?_⟩
  refine List.forall_mem_cons.2 ⟨st 11 13 41344 (by decide) rfl _ (by decide), ?_⟩
  refine List.forall_mem_cons.2 ⟨st 10 13 41216 (by decide) rfl _ (by decide), ?_⟩
  refine List.forall_mem_cons.2 ⟨st 9 13 41088 (by decide) rfl _ (by decide), ?_⟩
  refine List.forall_mem_cons.2 ⟨st 8 13 40960 (by decide) rfl _ (by decide), ?_⟩
  refine List.forall_mem_cons.2 ⟨st 15 12 38784 (by decide) rfl _ (by decide), ?_⟩
  refine List.forall_mem_cons.2 ⟨st 14 12 38656 (by decide) rfl _ (by decide), ?_⟩
  refine List.forall_mem_cons.2 ⟨st 13 12 38528 (by decide) rfl _ (by decide), ?_⟩
  refine List.forall_mem_cons.2 ⟨st 12 12 38400 (by decide) rfl _ (by decide), ?_⟩
  refine List.forall_mem_cons.2 ⟨st 11 12 38272 (by decide) rfl _ (by decide), ?_⟩
  refine List.forall_mem_cons.2 ⟨st 10 12 38144 (by decide) rfl _ (by decide), ?_⟩
  refine List.forall_mem_cons.2 ⟨st 9 12 38016 (by decide) rfl _ (by decide), ?_⟩
  refine List.forall_mem_cons.2 ⟨st 8 12 37888 (by decide) rfl _ (by decide), ?_⟩
  refine List.forall_mem_cons.2 ⟨st 15 11 35712 (by decide) rfl _ (by decide), ?_⟩
  refine List.forall_mem_cons.2 ⟨st 14 11 35584 (by decide) rfl _ (by decide), ?_⟩
  refine List.forall_mem_cons.2 ⟨st 13 11 35456 (by decide) rfl _ (by decide), ?_⟩
  refine List.forall_mem_cons.2 ⟨st 12 11 35328 (by decide) rfl _ (by decide), ?_⟩
  refine List.forall_mem_cons.2 ⟨st 11 11 35200 (by decide) rfl _ (by decide), ?_⟩
  refine List.forall_mem_cons.2 ⟨st 10 11 35072 (by decide) rfl _ (by decide), ?_⟩
  refine List.forall_mem_cons.2 ⟨st 9 11 34944 (by decide) rfl _ (by decide), ?_⟩
  refine List.forall_mem_cons.2 ⟨st 8 11 34816 (by decide) rfl _ (by decide), ?_⟩
  refine List.forall_mem_cons.2 ⟨st 15 10 32640 (by decide) rfl _ (by decide), ?_⟩
  refine List.forall_mem_cons.2 ⟨st 14 10 32512 (by decide) rfl _ (by decide), ?_⟩
  refine List.forall_mem_cons.2 ⟨st 13 10 32384 (by decide) rfl _ (by decide), ?_⟩
  refine List.forall_mem_cons.2 ⟨st 12 10 32256 (by decide) rfl _ (by decide), ?_⟩
  refine List.forall_mem_cons.2 ⟨st 11 10 32128 (by decide) rfl _ (by decide), ?_⟩
  refine List.forall_mem_cons.2 ⟨st 10 10 32000 (by decide) rfl _ (by decide), ?_⟩
  refine List.forall_mem_cons.2 ⟨st 9 10 31872 (by decide) rfl _ (by decide), ?_⟩
  refine List.forall_mem_cons.2 ⟨st 8 10 31744 (by decide) rfl _ (by decide), ?_⟩
  refine List.forall_mem_cons.2 ⟨st 15 9 29568 (by decide) rfl _ (by decide), ?_⟩
  refine List.forall_mem_cons.2 ⟨st 14 9 29440 (by decide) rfl _ (by decide), ?_⟩
  refine List.forall_mem_cons.2 ⟨st 13 9 29312 (by decide) rfl _ (by decide), ?_⟩
  refine List.forall_mem_cons.2 ⟨st 12 9 29184 (by decide) rfl _ (by decide), ?_⟩
  refine List.forall_mem_cons.2 ⟨st 11 9 29056 (by decide) rfl _ (by decide), ?_⟩
  refine List.forall_mem_cons.2 ⟨st 10 9 28928 (by decide) rfl _ (by decide), ?_⟩
  refine List.forall_mem_cons.2 ⟨st 9 9 28800 (by decide) rfl _ (by decide), ?_⟩
  refine List.forall_mem_cons.2 ⟨st 8 9 28672 (by decide) rfl _ (by decide), ?_⟩
  refine List.forall_mem_cons.2 ⟨st 15 8 26496 (by decide) rfl _ (by decide), ?_⟩
  refine List.forall_mem_cons.2 ⟨st 14 8 26368 (by decide) rfl _ (by decide), ?_⟩
  refine List.forall_mem_cons.2 ⟨st 13 8 26240 (by decide) rfl _ (by decide), ?_⟩
  refine List.forall_mem_cons.2 ⟨st 12 8 26112 (by decide) rfl _ (by decide), ?_⟩
  refine List.forall_mem_cons.2 ⟨st 11 8 25984 (by decide) rfl _ (by decide), ?_⟩
  refine List.forall_mem_cons.2 ⟨st 10 8 25856 (by decide) rfl _ (by decide), ?_⟩
  refine List.forall_mem_cons.2 ⟨st 9 8 25728 (by decide) rfl _ (by decide), ?_⟩
  refine List.forall_mem_cons.2 ⟨st 8 8 25600 (by decide) rfl _ (by decide), ?_⟩
  refine List.forall_mem_cons.2 ⟨st 15 7 23424 (by decide) rfl _ (by decide), ?_⟩
  refine List.forall_mem_cons.2 ⟨st 14 7 23296 (by decide) rfl _ (by decide), ?_⟩
  refine List.forall_mem_cons.2 ⟨st 13 7 23168 (by decide) rfl _ (by decide), ?_⟩
  refine List.forall_mem_cons.2 ⟨st 12 7 23040 (by decide) rfl _ (by decide), ?_⟩
  refine List.forall_mem_cons.2 ⟨st 11 7 22912 (by decide) rfl _ (by decide), ?_⟩
  refine List.forall_mem_cons.2 ⟨st 10 7 22784 (by decide) rfl _ (by decide), ?_⟩
  refine List.forall_mem_cons.2 ⟨st 9 7 22656 (by decide) rfl _ (by decide), ?_⟩
  refine List.forall_mem_cons.2 ⟨st 8 7 22528 (by decide) rfl _ (by decide), ?_⟩
  refine List.forall_mem_cons.2 ⟨st 15 6 20352 (by decide) rfl _ (by decide), ?_⟩
  refine List.forall_mem_cons.2 ⟨st 14 6 20224 (by decide) rfl _ (by decide), ?_⟩
  refine List.forall_mem_cons.2 ⟨st 13 6 20096 (by decide) rfl _ (by decide), ?_⟩
  refine List.forall_mem_cons.2 ⟨st 12 6 19968 (by decide) rfl _ (by decide), ?_⟩
  refine List.forall_mem_cons.2 ⟨st 11 6 19840 (by decide) rfl _ (by decide), ?_⟩
  refine List.forall_mem_cons.2 ⟨st 10 6 19712 (by decide) rfl _ (by decide), ?_⟩
  refine List.forall_mem_cons.2 ⟨st 9 6 19584 (by decide) rfl _ (by decide), ?_⟩
  refine List.forall_mem_cons.2 ⟨st 8 6 19456 (by decide) rfl _ (by decide), ?_⟩
  refine List.forall_mem_cons.2 ⟨st 15 5 17280 (by decide) rfl _ (by decide), ?_⟩
  refine List.forall_mem_cons.2 ⟨st 14 5 17152 (by decide) rfl _ (by decide), ?_⟩
  refine List.forall_mem_cons.2 ⟨st 13 5 17024 (by decide) rfl _ (by decide), ?_⟩
  refine List.forall_mem_cons.2 ⟨st 12 5 16896 (by decide) rfl _ (by decide), ?_⟩
  refine List.forall_mem_cons.2 ⟨st 11 5 16768 (by decide) rfl _ (by decide), ?_⟩
  refine List.forall_mem_cons.2 ⟨st 10 5 16640 (by decide) rfl _ (by decide), ?_⟩
  refine List.forall_mem_cons.2 ⟨st 9 5 16512 (by decide) rfl _ (by decide), ?_⟩
  refine List.forall_mem_cons.2 ⟨st 8 5 16384 (by decide) rfl _ (by decide), ?_⟩
  refine List.forall_mem_cons.2 ⟨st 15 4 14208 (by decide) rfl _ (by decide), ?_⟩
  refine List.forall_mem_cons.2 ⟨st 14 4 14080 (by decide) rfl _ (by decide), ?_⟩
  refine List.forall_mem_cons.2 ⟨st 13 4 13952 (by decide) rfl _ (by decide), ?_⟩
  refine List.forall_mem_cons.2 ⟨st 12 4 13824 (by decide) rfl _ (by decide), ?_⟩
  refine List.forall_mem_cons.2 ⟨st 11 4 13696 (by decide) rfl _ (by decide), ?_⟩
  refine List.forall_mem_cons.2 ⟨st 10 4 13568 (by decide) rfl _ (by decide), ?_⟩
  refine List.forall_mem_cons.2 ⟨st 9 4 13440 (by decide) rfl _ (by decide), ?_⟩
  refine List.forall_mem_cons.2 ⟨st 8 4 13312 (by decide) rfl _ (by decide), ?_⟩
  refine List.forall_mem_cons.2 ⟨st 15 3 11136 (by decide) rfl _ (by decide), ?_⟩
  refine List.forall_mem_cons.2 ⟨st 14 3 11008 (by decide) rfl _ (by decide), ?_⟩
  refine List.forall_mem_cons.2 ⟨st 13 3 10880 (by decide) rfl _ (by decide), ?_⟩
  refine List.forall_mem_cons.2 ⟨st 12 3 10752 (by decide) rfl _ (by decide), ?_⟩
  refine List.forall_mem_cons.2 ⟨st 11 3 10624 (by decide) rfl _ (by decide), ?_⟩
  refine List.forall_mem_cons.2 ⟨st 10 3 10496 (by decide) rfl _ (by decide), ?_⟩
  refine List.forall_mem_cons.2 ⟨st 9 3 10368 (by decide) rfl _ (by decide), ?_⟩
  refine List.forall_mem_cons.2 ⟨st 8 3 10240 (by decide) rfl _ (by decide), ?_⟩
  refine List.forall_mem_cons.2 ⟨st 15 2 8064 (by decide) rfl _ (by decide), ?_⟩
  refine List.forall_mem_cons.2 ⟨st 14 2 7936 (by decide) rfl _ (by decide), ?_⟩
  refine List.forall_mem_cons.2 ⟨st 13 2 7808 (by decide) rfl _ (by decide), ?_⟩
  refine List.forall_mem_cons.2 ⟨st 12 2 7680 (by decide) rfl _ (by decide), ?_⟩
  refine List.forall_mem_cons.2 ⟨st 11 2 7552 (by decide) rfl _ (by decide), ?_⟩
  refine List.forall_mem_cons.2 ⟨st 10 2 7424 (by decide) rfl _ (by decide), ?_⟩
  refine List.forall_mem_cons.2 ⟨st 9 2 7296 (by decide) rfl _ (by decide), ?_⟩
  refine List.forall_mem_cons.2 ⟨st 8 2 7168 (by decide) rfl _ (by decide), ?_⟩
  refine List.forall_mem_cons.2 ⟨st 15 1 4992 (by decide) rfl _ (by decide), ?_⟩
  refine List.forall_mem_cons.2 ⟨st 14 1 4864 (by decide) rfl _ (by decide), ?_⟩
  refine List.forall_mem_cons.2 ⟨st 13 1 4736 (by decide) rfl _ (by decide), ?_⟩
  refine List.forall_mem_cons.2 ⟨st 12 1 4608 (by decide) rfl _ (by decide), ?_⟩
  refine List.forall_mem_cons.2 ⟨st 11 1 4480 (by decide) rfl _ (by decide), ?_⟩
  refine List.forall_mem_cons.2 ⟨st 10 1 4352 (by decide) rfl _ (by decide), ?_⟩
  refine List.forall_mem_cons.2 ⟨st 9 1 4224 (by decide) rfl _ (by decide), ?_⟩
  refine List.forall_mem_cons.2 ⟨st 8 1 4096 (by decide) rfl _ (by decide), ?_⟩
  refine List.forall_mem_cons.2 ⟨st 15 0 1920 (by decide) rfl _ (by decide), ?_⟩
  refine List.forall_mem_cons.2 ⟨st 14 0 1792 (by decide) rfl _ (by decide), ?_⟩
  refine List.forall_mem_cons.2 ⟨st 13 0 1664 (by decide) rfl _ (by decide), ?_⟩
  refine List.forall_mem_cons.2 ⟨st 12 0 1536 (by decide) rfl _ (by decide), ?_⟩
  refine List.forall_mem_cons.2 ⟨st 11 0 1408 (by decide) rfl _ (by decide), ?_⟩
  refine List.forall_mem_cons.2 ⟨st 10 0 1280 (by decide) rfl _ (by decide), ?_⟩
  refine List.forall_mem_cons.2 ⟨st 9 0 1152 (by decide) rfl _ (by decide), ?_⟩
  refine List.forall_mem_cons.2 ⟨st 8 0 1024 (by decide) rfl _ (by decide), ?_⟩
  refine List.forall_mem_cons.2 ⟨st 7 15 46976 (by decide) rfl _ (by decide), ?_⟩
  refine List.forall_mem_cons.2 ⟨st 6 15 46848 (by decide) rfl _ (by decide), ?_⟩
  refine List.forall_mem_cons.2 ⟨st 5 15 46720 (by decide) rfl _ (by decide), ?_⟩
  refine List.forall_mem_cons.2 ⟨st 4 15 46592 (by decide) rfl _ (by decide), ?_⟩
  refine List.forall_mem_cons.2 ⟨st 3 15 46464 (by decide) rfl _ (by decide), ?_⟩
  refine List.forall_mem_cons.2 ⟨st 2 15 46336 (by decide) rfl _ (by decide), ?_⟩
  refine List.forall_mem_cons.2 ⟨st 1 15 46208 (by decide) rfl _ (by decide), ?_⟩
  refine List.forall_mem_cons.2 ⟨st 0 15 46080 (by decide) rfl _ (by decide), ?_⟩
  refine List.forall_mem_cons.2 ⟨st 7 14 43904 (by decide) rfl _ (by decide), ?_⟩
  refine List.forall_mem_cons.2 ⟨st 6 14 43776 (by decide) rfl _ (by decide), ?_⟩
  refine List.forall_mem_cons.2 ⟨st 5 14 43648 (by decide) rfl _ (by decide), ?_⟩
  refine List.forall_mem_cons.2 ⟨st 4 14 43520 (by decide) rfl _ (by decide), ?_⟩
  refine List.forall_mem_cons.2 ⟨st 3 14 43392 (by decide) rfl _ (by decide), ?_⟩
  refine List.forall_mem_cons.2 ⟨st 2 14 43264 (by decide) rfl _ (by decide), ?_⟩
  refine List.forall_mem_cons.2 ⟨st 1 14 43136 (by decide) rfl _ (by decide), ?_⟩
  refine List.forall_mem_cons.2 ⟨st 0 14 43008 (by decide) rfl _ (by decide), ?_⟩
  refine List.forall_mem_cons.2 ⟨st 7 13 40832 (by decide) rfl _ (by decide), ?_⟩
  refine List.forall_mem_cons.2 ⟨st 6 13 40704 (by decide) rfl _ (by decide), ?_⟩
  refine List.forall_mem_cons.2 ⟨st 5 13 40576 (by decide) rfl _ (by decide), ?_⟩
  refine List.forall_mem_cons.2 ⟨st 4 13 40448 (by decide) rfl _ (by decide), ?_⟩
  refine List.forall_mem_cons.2 ⟨st 3 13 40320 (by decide) rfl _ (by decide), ?_⟩
  refine List.forall_mem_cons.2 ⟨st 2 13 40192 (by decide) rfl _ (by decide), ?_⟩
  refine List.forall_mem_cons.2 ⟨st 1 13 40064 (by decide) rfl _ (by decide), ?_⟩
  refine List.forall_mem_cons.2 ⟨st 0 13 39936 (by decide) rfl _ (by decide), ?_⟩
  refine List.forall_mem_cons.2 ⟨st 7 12 37760 (by decide) rfl _ (by decide), ?_⟩
  refine List.forall_mem_cons.2 ⟨st 6 12 37632 (by decide) rfl _ (by decide), ?_⟩
  refine List.forall_mem_cons.2 ⟨st 5 12 37504 (by decide) rfl _ (by decide), ?_⟩
  refine List.forall_mem_cons.2 ⟨st 4 12 37376 (by decide) rfl _ (by decide), ?_⟩
  refine List.forall_mem_cons.2 ⟨st 3 12 37248 (by decide) rfl _ (by decide), ?_⟩
  refine List.forall_mem_cons.2 ⟨st 2 12 37120 (by decide) rfl _ (by decide), ?_⟩
  refine List.forall_mem_cons.2 ⟨st 1 12 36992 (by decide) rfl _ (by decide), ?_⟩
  refine List.forall_mem_cons.2 ⟨st 0 12 36864 (by decide) rfl _ (by decide), ?_⟩
  refine List.forall_mem_cons.2 ⟨st 7 11 34688 (by decide) rfl _ (by decide), ?_⟩
  refine List.forall_mem_cons.2 ⟨st 6 11 34560 (by decide) rfl _ (by decide), ?_⟩
  refine List.forall_mem_cons.2 ⟨st 5 11 34432 (by decide) rfl _ (by decide), ?_⟩
  refine List.forall_mem_cons.2 ⟨st 4 11 34304 (by decide) rfl _ (by decide), ?_⟩
  refine List.forall_mem_cons.2 ⟨st 3 11 34176 (by decide) rfl _ (by decide), ?_⟩
  refine List.forall_mem_cons.2 ⟨st 2 11 34048 (by decide) rfl _ (by decide), ?_⟩
  refine List.forall_mem_cons.2 ⟨st 1 11 33920 (by decide) rfl _ (by decide), ?_⟩
  refine List.forall_mem_cons.2 ⟨st 0 11 33792 (by decide) rfl _ (by decide), ?_⟩
  refine List.forall_mem_cons.2 ⟨st 7 10 31616 (by decide) rfl _ (by decide), ?_⟩
  refine List.forall_mem_cons.2 ⟨st 6 10 31488 (by decide) rfl _ (by decide), ?_⟩
  refine List.forall_mem_cons.2 ⟨st 5 10 31360 (by decide) rfl _ (by decide), ?_⟩
  refine List.forall_mem_cons.2 ⟨st 4 10 31232 (by decide) rfl _ (by decide), ?_⟩
  refine List.forall_mem_cons.2 ⟨st 3 10 31104 (by decide) rfl _ (by decide), ?_⟩
  refine List.forall_mem_cons.2 ⟨st 2 10 30976 (by decide) rfl _ (by decide), ?_⟩
  refine List.forall_mem_cons.2 ⟨st 1 10 30848 (by decide) rfl _ (by decide), ?_⟩
  refine List.forall_mem_cons.2 ⟨st 0 10 30720 (by decide) rfl _ (by decide), ?_⟩
  refine List.forall_mem_cons.2 ⟨st 7 9 28544 (by decide) rfl _ (by decide), ?_⟩
  refine List.forall_mem_cons.2 ⟨st 6 9 28416 (by decide) rfl _ (by decide), ?_⟩
  refine List.forall_mem_cons.2 ⟨st 5 9 28288 (by decide) rfl _ (by decide), ?_⟩
  refine List.forall_mem_cons.2 ⟨st 4 9 28160 (by decide) rfl _ (by decide), ?_⟩
  refine List.forall_mem_cons.2 ⟨st 3 9 28032 (by decide) rfl _ (by decide), ?_⟩
  refine List.forall_mem_cons.2 ⟨st 2 9 27904 (by decide) rfl _ (by decide), ?_⟩
  refine List.forall_mem_cons.2 ⟨st 1 9 27776 (by decide) rfl _ (by decide), ?_⟩
  refine List.forall_mem_cons.2 ⟨st 0 9 27648 (by decide) rfl _ (by decide), ?_⟩
  refine List.forall_mem_cons.2 ⟨st 7 8 25472 (by decide) rfl _ (by decide), ?_⟩
  refine List.forall_mem_cons.2 ⟨st 6 8 25344 (by decide) rfl _ (by decide), ?_⟩
  refine List.forall_mem_cons.2 ⟨st 5 8 25216 (by decide) rfl _ (by decide), ?_⟩
  refine List.forall_mem_cons.2 ⟨st 4 8 25088 (by decide) rfl _ (by decide), ?_⟩
  refine List.forall_mem_cons.2 ⟨st 3 8 24960 (by decide) rfl _ (by decide), ?_⟩
  refine List.forall_mem_cons.2 ⟨st 2 8 24832 (by decide) rfl _ (by decide), ?_⟩
  refine List.forall_mem_cons.2 ⟨st 1 8 24704 (by decide) rfl _ (by decide), ?_⟩
  refine List.forall_mem_cons.2 ⟨st 0 8 24576 (by decide) rfl _ (by decide), ?_⟩
  refine List.forall_mem_cons.2 ⟨st 7 7 22400 (by decide) rfl _ (by decide), ?_⟩
  refine List.forall_mem_cons.2 ⟨st 6 7 22272 (by decide) rfl _ (by decide), ?_⟩
  refine List.forall_mem_cons.2 ⟨st 5 7 22144 (by decide) rfl _ (by decide), ?_⟩
  refine List.forall_mem_cons.2 ⟨st 4 7 22016 (by decide) rfl _ (by decide), ?_⟩
  refine List.forall_mem_cons.2 ⟨st 3 7 21888 (by decide) rfl _ (by decide), ?_⟩
  refine List.forall_mem_cons.2 ⟨st 2 7 21760 (by decide) rfl _ (by decide), ?_⟩
  refine List.forall_mem_cons.2 ⟨st 1 7 21632 (by decide) rfl _ (by decide), ?_⟩
  refine List.forall_mem_cons.2 ⟨st 0 7 21504 (by decide) rfl _ (by decide), ?_⟩
  refine List.forall_mem_cons.2 ⟨st 7 6 19328 (by decide) rfl _ (by decide), ?_⟩
  refine List.forall_mem_cons.2 ⟨st 6 6 19200 (by decide) rfl _ (by decide), ?_⟩
  refine List.forall_mem_cons.2 ⟨st 5 6 19072 (by decide) rfl _ (by decide), ?_⟩
  refine List.forall_mem_cons.2 ⟨st 4 6 18944 (by decide) rfl _ (by decide), ?_⟩
  refine List.forall_mem_cons.2 ⟨st 3 6 18816 (by decide) rfl _ (by decide), ?_⟩
  refine List.forall_mem_cons.2 ⟨st 2 6 18688 (by decide) rfl _ (by decide), ?_⟩
  refine List.forall_mem_cons.2 ⟨st 1 6 18560 (by decide) rfl _ (by decide), ?_⟩
  refine List.forall_mem_cons.2 ⟨st 0 6 18432 (by decide) rfl _ (by decide), ?_⟩
  refine List.forall_mem_cons.2 ⟨st 7 5 16256 (by decide) rfl _ (by decide), ?_⟩
  refine List.forall_mem_cons.2 ⟨st 6 5 16128 (by decide) rfl _ (by decide), ?_⟩
  refine List.forall_mem_cons.2 ⟨st 5 5 16000 (by decide) rfl _ (by decide), ?_⟩
  refine List.forall_mem_cons.2 ⟨st 4 5 15872 (by decide) rfl _ (by decide), ?_⟩
  refine List.forall_mem_cons.2 ⟨st 3 5 15744 (by decide) rfl _ (by decide), ?_⟩
  refine List.forall_mem_cons.2 ⟨st 2 5 15616 (by decide) rfl _ (by decide), ?_⟩
  refine List.forall_mem_cons.2 ⟨st 1 5 15488 (by decide) rfl _ (by decide), ?_⟩
  refine List.forall_mem_cons.2 ⟨st 0 5 15360 (by decide) rfl _ (by decide), ?_⟩
  refine List.forall_mem_cons.2 ⟨st 7 4 13184 (by decide) rfl _ (by decide), ?_⟩
  refine List.forall_mem_cons.2 ⟨st 6 4 13056 (by decide) rfl _ (by decide), ?_⟩
  refine List.forall_mem_cons.2 ⟨st 5 4 12928 (by decide) rfl _ (by decide), ?_⟩
  refine List.forall_mem_cons.2 ⟨st 4 4 12800 (by decide) rfl _ (by decide), ?_⟩
  refine List.forall_mem_cons.2 ⟨st 3 4 12672 (by decide) rfl _ (by decide), ?_⟩
  refine List.forall_mem_cons.2 ⟨st 2 4 12544 (by decide) rfl _ (by decide), ?_⟩
  refine List.forall_mem_cons.2 ⟨st 1 4 12416 (by decide) rfl _ (by decide), ?_⟩
  refine List.forall_mem_cons.2 ⟨st 0 4 12288 (by decide) rfl _ (by decide), ?_⟩
  refine List.forall_mem_cons.2 ⟨st 7 3 10112 (by decide) rfl _ (by decide), ?_⟩
  refine List.forall_mem_cons.2 ⟨st 6 3 9984 (by decide) rfl _ (by decide), ?_⟩
  refine List.forall_mem_cons.2 ⟨st 5 3 9856 (by decide) rfl _ (by decide), ?_⟩
  refine List.forall_mem_cons.2 ⟨st 4 3 9728 (by decide) rfl _ (by decide), ?_⟩
  refine List.forall_mem_cons.2 ⟨st 3 3 9600 (by decide) rfl _ (by decide), ?_⟩
  refine List.forall_mem_cons.2 ⟨st 2 3 9472 (by decide) rfl _ (by decide), ?_⟩
  refine List.forall_mem_cons.2 ⟨st 1 3 9344 (by decide) rfl _ (by decide), ?_⟩
  refine List.forall_mem_cons.2 ⟨st 0 3 9216 (by decide) rfl _ (by decide), ?_⟩
  refine List.forall_mem_cons.2 ⟨st 7 2 7040 (by decide) rfl _ (by decide), ?_⟩
  refine List.forall_mem_cons.2 ⟨st 6 2 6912 (by decide) rfl _ (by decide), ?_⟩
  refine List.forall_mem_cons.2 ⟨st 5 2 6784 (by decide) rfl _ (by decide), ?_⟩
  refine List.forall_mem_cons.2 ⟨st 4 2 6656 (by decide) rfl _ (by decide), ?_⟩
  refine List.forall_mem_cons.2 ⟨st 3 2 6528 (by decide) rfl _ (by decide), ?_⟩
  refine List.forall_mem_cons.2 ⟨st 2 2 6400 (by decide) rfl _ (by decide), ?_⟩
  refine List.forall_mem_cons.2 ⟨st 1 2 6272 (by decide) rfl _ (by decide), ?_⟩
  refine List.forall_mem_cons.2 ⟨st 0 2 6144 (by decide) rfl _ (by decide), ?_⟩
  refine List.forall_mem_cons.2 ⟨st 7 1 3968 (by decide) rfl _ (by decide), ?_⟩
  refine List.forall_mem_cons.2 ⟨st 6 1 3840 (by decide) rfl _ (by decide), ?_⟩
  refine List.forall_mem_cons.2 ⟨st 5 1 3712 (by decide) rfl _ (by decide), ?_⟩
  refine List.forall_mem_cons.2 ⟨st 4 1 3584 (by decide) rfl _ (by decide), ?_⟩
  refine List.forall_mem_cons.2 ⟨st 3 1 3456 (by decide) rfl _ (by decide), ?_⟩
  refine List.forall_mem_cons.2 ⟨st 2 1 3328 (by decide) rfl _ (by decide), ?_⟩
  refine List.forall_mem_cons.2 ⟨st 1 1 3200 (by decide) rfl _ (by decide), ?_⟩
  refine List.forall_mem_cons.2 ⟨st 0 1 3072 (by decide) rfl _ (by decide), ?_⟩
  refine List.forall_mem_cons.2 ⟨st 7 0 896 (by decide) rfl _ (by decide), ?_⟩
  refine List.forall_mem_cons.2 ⟨st 6 0 768 (by decide) rfl _ (by decide), ?_⟩
  refine List.forall_mem_cons.2 ⟨st 5 0 640 (by decide) rfl _ (by decide), ?_⟩
  refine List.forall_mem_cons.2 ⟨st 4 0 512 (by decide) rfl _ (by decide), ?_⟩
  refine List.forall_mem_cons.2 ⟨st 3 0 384 (by decide) rfl _ (by decide), ?_⟩
  refine List.forall_mem_cons.2 ⟨st 2 0 256 (by decide) rfl _ (by decide), ?_⟩
  refine List.forall_mem_cons.2 ⟨st 1 0 128 (by decide) rfl _ (by decide), ?_⟩
  refine List.forall_mem_cons.2 ⟨st 0 0 0 (by decide) rfl _ (by decide), ?_⟩
  exact fun _ h => absurd h List.not_mem_nil

/-- The block the body leaves. -/
theorem out_eq : out0_A_5 c i arg1 harg1 arg2 harg2 arg3 harg3 arg4 harg4 arg5 harg5 arg6 harg6 arg7 harg7 arg8 harg8
      x0 x1 x2 x3 x4
    = wide (k0_pay2 x0 x1) x2 x3 x4 := by
  unfold out0_A_5
  rw [View.read_writes_eq_canon _ _ _ (cover0_A_5 c i arg1 harg1 arg2 harg2 arg3 harg3 arg4 harg4 arg5 harg5 arg6 harg6 arg7 harg7 arg8 harg8
      x0 x1 x2 x3 x4)]
  exact funext fun y => View.canon_apply_of_pieces _ _ (pieces c i arg1 harg1 arg2 harg2 arg3 harg3 arg4 harg4 arg5 harg5 arg6 harg6 arg7 harg7 arg8 harg8
      x0 x1 x2 x3 x4) y
    (cover0_A_5 c i arg1 harg1 arg2 harg2 arg3 harg3 arg4 harg4 arg5 harg5 arg6 harg6 arg7 harg7 arg8 harg8
      x0 x1 x2 x3 x4 y)

end Out

end Cert.Kernel6Ideal.Dil16

end
-- ==== Proof.Dil16Value.lean ====
/-
  The dilated layer's projection call, dilation 16: its result array over the extended reals, when the norm's gains and
  the weights are real: at every element, the formula of `DilRef`.
-/
module

public import proofs.«01_k».proof.Defs
public import proofs.«01_k».proof.Proof.Gen.Kernel6Ideal.Value
public import proofs.«01_k».proof.Proof.Dil16Body
public import proofs.«01_k».proof.Proof.DilSeg
public import proofs.«01_k».proof.Proof.DilValue
public import Idealize.ShloMosaic.Lib.Pipeline.Value
public import Idealize.ShloMosaic.Lib.Tactic
public import Idealize.ShloMosaic.Lib.Pointwise

@[expose] public section

set_option maxRecDepth 16384

noncomputable section

namespace Cert.Kernel6Ideal.Dil16

open Cert.Kernel6Ideal Cert.Kernel6Ideal.Gen Idealize.ShloMosaic Idealize.ShloMosaic.TcCoe Idealize.SL.Sem
open Cert.Kernel4Ideal.Dil (entry entry_eq)

/-! ## The blocks at an index -/

theorem pay_at (x0 : Vec Ideal S512x1024 .f32) (x1 : Vec Ideal S1x1024 .f32) (r : Fin 512) (k : Fin 1024) :
    k0_pay2 x0 x1 (ix2 r k) = x0 (ix2 r k) * Ideal.rsqrt (Ideal.div (∑ x, x0 (ix2 r x) * x0 (ix2 r x))
      (Ideal.ofBits FTy.f32 1149239296#32) + Ideal.ofBits FTy.f32 897988541#32) * x1 (ix2 0 k) := by
  pointwise [k0_pay2]

variable (m : (ℓ : Loc nD τ sig) → Buf (Elt Ideal) ℓ) (ρ : Dev nD → PrngReg) (c : Dev nD)

/-- The printed index maps, decided over the grid: point `t` is row block `t`. -/
theorem maps : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0 :=
  (by decide +kernel : ∀ t : Fin grid0.N, _)

theorem N_eq : cfg0.N = 128 := N_0

/-- Row `r` of point `t`'s block, as a row of the array. -/
def row (t : Fin cfg0.N) (r : Fin 512) : Fin 65536 :=
  ⟨t.val * 512 + r.val, by have h := lt_of_lt_of_eq t.isLt N_eq; omega⟩

theorem blk0_at (t : Fin cfg0.N) (r : Fin 512) (k : Fin 1024) :
    (iblk m c 0 t : Vec Ideal S512x1024 .f32) (ix2 r k) = m ((c : Thread nD τ).loc main_arg0) (ix2 (row t r) k) := by
  obtain ⟨e0, e1, -⟩ := maps t
  unfold iblk
  rw [View.read_apply]
  show V m c main_arg0 _ = _
  rw [V_main_arg0]
  congr 1
  funext a; apply Fin.ext
  match a with
  | ⟨0, _⟩ => show win0_0.index t (0 : Fin 2) * 512 + 1 * r.val = t.val * 512 + r.val; omega
  | ⟨1, _⟩ => show win0_0.index t (1 : Fin 2) * 1024 + 1 * k.val = k.val; omega

/-- The norm's gains, laid out as one row before the call. -/
theorem V_gain (k : Fin 1024) : V m c main_v9 (ix2 0 k) = m ((c : Thread nD τ).loc main_arg1) (ix1 k) := by
  have h : V m c main_v9 = shapeCast S1x1024 (m ((c : Thread nD τ).loc main_arg1) : Vec Ideal S1024 .f32)
      shapeCasts_S1024_S1x1024 := by
    simp only [V, hostOps0, hostOps0_1, hostOps0_2, hostOps0_3, hostOps0_4, List.flatten_cons, List.flatten_nil,
      List.append_nil, List.cons_append, List.nil_append]
    after_results_simp
    rfl
  rw [h]
  pointwise

theorem blk1_at (t : Fin cfg0.N) (k : Fin 1024) :
    (iblk m c 1 t : Vec Ideal S1x1024 .f32) (ix2 0 k) = m ((c : Thread nD τ).loc main_arg1) (ix1 k) := by
  obtain ⟨-, -, e0, e1, -⟩ := maps t
  rw [← V_gain m c k]
  unfold iblk
  rw [View.read_apply]
  show V m c main_v9 _ = _
  congr 1
  funext a; apply Fin.ext
  match a with
  | ⟨0, _⟩ => show win0_1.index t (0 : Fin 2) * 1 + 1 * 0 = 0; omega
  | ⟨1, _⟩ => show win0_1.index t (1 : Fin 2) * 1024 + 1 * k.val = k.val; omega

theorem blk2_at (t : Fin cfg0.N) (k : Fin 1024) (q : Fin 3072) :
    (iblk m c 2 t : Vec Ideal S1024x3072 .bf16) (ix2 k q) = m ((c : Thread nD τ).loc main_arg2) (ix2 k q) := by
  obtain ⟨-, -, -, -, e0, e1, -⟩ := maps t
  unfold iblk
  rw [View.read_apply]
  show V m c main_arg2 _ = _
  rw [V_main_arg2]
  congr 1
  funext a; apply Fin.ext
  match a with
  | ⟨0, _⟩ => show win0_2.index t (0 : Fin 2) * 1024 + 1 * k.val = k.val; omega
  | ⟨1, _⟩ => show win0_2.index t (1 : Fin 2) * 3072 + 1 * q.val = q.val; omega

theorem blk3_at (t : Fin cfg0.N) (a : Fin 2) (b : Fin 1024) :
    (iblk m c 3 t : Vec Ideal S2x1024 .f32) (ix2 a b) = m ((c : Thread nD τ).loc main_arg3) (ix2 a b) := by
  obtain ⟨-, -, -, -, -, -, e0, e1, -⟩ := maps t
  unfold iblk
  rw [View.read_apply]
  show V m c main_arg3 _ = _
  rw [V_main_arg3]
  congr 1
  funext e; apply Fin.ext
  match e with
  | ⟨0, _⟩ => show win0_3.index t (0 : Fin 2) * 2 + 1 * a.val = a.val; omega
  | ⟨1, _⟩ => show win0_3.index t (1 : Fin 2) * 1024 + 1 * b.val = b.val; omega

/-- The matrix of heads, before the call. -/
theorem V_seg_at (l p : Fin 256) : (V m c main_v8 : Vec Ideal S256x256 .bf16) (ix2 l p)
    = if l.val / 128 = p.val / 128 then (1 : EReal) else (0 : EReal) := by
  have h : V m c main_v8 = Cert.Kernel4Ideal.Dil.segs := by
    simp only [V, hostOps0, hostOps0_1, hostOps0_2, hostOps0_3, hostOps0_4, List.flatten_cons, List.flatten_nil,
      List.append_nil, List.cons_append, List.nil_append]
    after_results_simp
    rfl
  rw [h]
  exact Cert.Kernel4Ideal.Dil.segs_at l p

theorem blk4_at (t : Fin cfg0.N) (l p : Fin 256) :
    (iblk m c 4 t : Vec Ideal S256x256 .bf16) (ix2 l p) = if l.val / 128 = p.val / 128 then (1 : EReal) else (0 : EReal) := by
  obtain ⟨-, -, -, -, -, -, -, -, e0, e1, -⟩ := maps t
  rw [← V_seg_at m c l p]
  unfold iblk
  rw [View.read_apply]
  show V m c main_v8 _ = _
  congr 1
  funext e; apply Fin.ext
  match e with
  | ⟨0, _⟩ => show win0_4.index t (0 : Fin 2) * 256 + 1 * l.val = l.val; omega
  | ⟨1, _⟩ => show win0_4.index t (1 : Fin 2) * 256 + 1 * p.val = p.val; omega

/-! ## The array -/

/-- The result at row `a`, column `q` of the array of `16` rows side by side. -/
def cell (a : Fin 4096) (q : Fin 49152) : EReal :=
  DilRef.result (m ((c : Thread nD τ).loc main_arg0)) (m ((c : Thread nD τ).loc main_arg1)) (m ((c : Thread nD τ).loc main_arg2))
    (m ((c : Thread nD τ).loc main_arg3)) ⟨a.val * 16 + q.val / 3072, by omega⟩ ⟨q.val % 3072, by omega⟩

/-- The result array. -/
def G (c : Dev nD) : Buf (Elt Ideal) ((c : Thread nD τ).loc main_v10) := fun i => cell m c (i 0) (i 1)

/-- Row `i` of point `t`'s block of the result, as a row of the array. -/
def wrow (t : Fin cfg0.N) (i : Fin 32) : Fin 4096 :=
  ⟨t.val * 32 + i.val, by have h := lt_of_lt_of_eq t.isLt N_eq; omega⟩

/-- The norm's gains and the weights are real. -/
def Real (c : Dev nD) : Prop :=
  (∀ i, ∃ y : ℝ, (m ((c : Thread nD τ).loc main_arg1) : Vec Ideal S1024 .f32) (ix1 i) = (y : EReal))
  ∧ ∀ i j, ∃ y : ℝ, (m ((c : Thread nD τ).loc main_arg2) : Vec Ideal S1024x3072 .bf16) (ix2 i j) = (y : EReal)

/-- What the body leaves at a point, element by element. -/
theorem out_at (hr : Real m c) (t : Fin cfg0.N) (i : Fin 32) (q : Fin 49152) :
    (outsAt0 m c t : Vec Ideal S32x49152 .bf16) (ix2 i q) = cell m c (wrow t i) q := by
  unfold outsAt0
  rw [out_eq]
  refine (entry_eq (m ((c : Thread nD τ).loc main_arg0)) _ _ _ hr.1 hr.2 _ _ _ _ (row t ⟨i.val * 16 + q.val / 3072, by omega⟩) ⟨i.val * 16 + q.val / 3072, by omega⟩
    (fun k => ?_) (fun k q => blk2_at m c t k q)
    (fun a b => blk3_at m c t a b) (fun l p => blk4_at m c t l p) ⟨q.val % 3072, by omega⟩).trans ?_
  · rw [pay_at, blk1_at]
    simp only [blk0_at]
    rfl
  · unfold cell
    refine congrArg (fun R => DilRef.result _ _ _ _ R _) (Fin.ext ?_)
    show t.val * 512 + (i.val * 16 + q.val / 3072) = (t.val * 32 + i.val) * 16 + q.val / 3072
    omega

/-- What a point writes back is its block of the result array. -/
theorem flushed_eq (hr : Real m c) (t : Fin cfg0.N) :
    (dats m 0 c).flushed 5 t = ((cfg0.win 5).blk t).view.read (Elt Ideal) (G m c) := by
  rw [Value.flushed5]
  obtain ⟨-, -, -, -, -, -, -, -, -, -, e0, e1⟩ := maps t
  funext y
  have hb0 : (((cfg0.win 5).blk t).view.emb y 0).val = win0_5.index t (0 : Fin 2) * 32 + 1 * (y 0).val := rfl
  have hb1 : (((cfg0.win 5).blk t).view.emb y 1).val = win0_5.index t (1 : Fin 2) * 49152 + 1 * (y 1).val := rfl
  rw [View.read_apply]
  have hl : (cfg0.win 5).cut (grid0.coords t) (outsAt0 m c t) y = outsAt0 m c t y := rfl
  rw [hl]
  refine (congrArg (outsAt0 m c t) (ix2_eta (n0 := 32) (n1 := 49152) y).symm).trans ((out_at m c hr t (y 0) (y 1)).trans ?_)
  have q0 : ((cfg0.win 5).blk t).view.emb y 0 = wrow t (y 0) := Fin.ext (by
    rw [hb0]; show _ = t.val * 32 + (y 0).val; omega)
  have q1 : ((cfg0.win 5).blk t).view.emb y 1 = y 1 := Fin.ext (by rw [hb1]; omega)
  show _ = cell m c (((cfg0.win 5).blk t).view.emb y 0) (((cfg0.win 5).blk t).view.emb y 1)
  rw [q0, q1]

/-- An index is in a point's block when each of its coordinates is. -/
theorem mem_blk (t : Fin cfg0.N) (i : S4096x49152.Idx) :
    i ∈ ((cfg0.win 5).blk t).view.set ↔ ∀ a : Fin 2, win0_5.index t a * S32x49152.size a ≤ (i a).val
      ∧ (i a).val < win0_5.index t a * S32x49152.size a + S32x49152.size a := by
  show i ∈ ((View.whole main_v10).slice (win0_5.rect t)).set ↔ _
  rw [View.set_slice_whole, Rect.mem_set_unit]
  exact Iff.rfl

/-- The blocks tile the array. -/
theorem covered (i : S4096x49152.Idx) :
    ∃ t : Fin cfg0.N, (cfg0.win 5).flush t = true ∧ i ∈ ((cfg0.win 5).blk t).view.set := by
  have h0 : (i 0).val < 4096 := (i 0).isLt
  have h1 : (i 1).val < 49152 := (i 1).isLt
  refine ⟨⟨(i 0).val / 32, by rw [N_eq]; omega⟩, flush0_5 _, ?_⟩
  rw [mem_blk]
  obtain ⟨-, -, -, -, -, -, -, -, -, -, e0, e1⟩ := maps ⟨(i 0).val / 32, by rw [N_eq]; omega⟩
  intro a
  match a with
  | ⟨0, _⟩ => show win0_5.index _ (0 : Fin 2) * 32 ≤ (i 0).val ∧ (i 0).val < win0_5.index _ (0 : Fin 2) * 32 + 32; rw [e0]; dsimp only; omega
  | ⟨1, _⟩ => show win0_5.index _ (1 : Fin 2) * 49152 ≤ (i 1).val ∧ (i 1).val < win0_5.index _ (1 : Fin 2) * 49152 + 49152; rw [e1]; dsimp only; omega

/-- The array after the run. -/
theorem final (hr : Real m c) : (dats m 0 c).arrAt 5 cfg0.N = G m c :=
  (dats m 0 c).arrAt_eq_of_cover 5 _ (fun t _ => flushed_eq m c hr t) covered

/-- The run, read: the result array is `G`, and the arguments are as launched. -/
theorem run (hr : ∀ c, Real m c) :
    θ_run defs (onTc (τ := τ) (main (F := Ideal))) ⟨m, fun _ => 0, ρ⟩ fun r => ∀ c : Dev nD,
      r.2.mem ((c : Thread nD τ).loc main_v10) = G m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c (hr c)), (h c).2⟩) (Value.run_blocks m ρ)

end Cert.Kernel6Ideal.Dil16

end
-- ==== Proof.Dil16Claim.lean ====
/-
  The claims about the dilated layer's projection (dilation 16): its frames, and the equality with the reference over the extended reals when the norm's gains
  and the weights are real.
-/
module

public import proofs.«01_k».proof.Defs
public import proofs.«01_k».proof.Proof.Dil16Value
public import proofs.«01_k».proof.Proof.ProjFinite
public import proofs.«01_k».proof.Proof.DilRef
public import proofs.«01_k».proof.Proof.Gen.Reference6Ideal.Run
public import Idealize.ShloMosaic.Lib.Pointwise
public import Idealize.ShloMosaic.Lib.Quiescent

@[expose] public section

set_option maxRecDepth 16384

noncomputable section

namespace Cert.Dil16Claim

open Idealize.ShloMosaic Idealize.ShloMosaic.TcCoe Idealize.SL.Sem

/-- The reference ends, with its arguments unchanged and no counters left. -/
theorem frame_ref : Cert.quiescent_Reference6Ideal := fun m ρ _ =>
  (θ_run Cert.Reference6Ideal.defs _ _).mono (fun r h => ⟨fun c => (h c).2, sem_eq_zero_of_no_sems (by decide) r.2⟩)
    (Cert.Reference6Ideal.Value.run (F := Ideal) m ρ)

/-- The reference's result: the projection, `16` rows side by side. -/
def wideRef (H : Vec Ideal Cert.Reference6Ideal.S65536x1024 .f32) (G : Vec Ideal Cert.Reference6Ideal.S1024 .f32)
    (W : Vec Ideal Cert.Reference6Ideal.S1024x3072 .bf16) (g : Vec Ideal Cert.Reference6Ideal.S2x1024 .f32) :
    Vec Ideal Cert.Reference6Ideal.S4096x49152 .bf16 :=
  shapeCast _ (DilRef.refOut H G W g) Cert.Reference6Ideal.Facts₀.shapeCasts_S65536x3072_S4096x49152

theorem wideRef_at (H : Vec Ideal Cert.Reference6Ideal.S65536x1024 .f32) (G : Vec Ideal Cert.Reference6Ideal.S1024 .f32)
    (W : Vec Ideal Cert.Reference6Ideal.S1024x3072 .bf16) (g : Vec Ideal Cert.Reference6Ideal.S2x1024 .f32)
    (a : Fin 4096) (q : Fin 49152) : wideRef H G W g (ix2 a q)
      = DilRef.result H G W g ⟨a.val * 16 + q.val / 3072, by omega⟩ ⟨q.val % 3072, by omega⟩ := by
  rw [← DilRef.refOut_at]
  pointwise [wideRef]

theorem res_eq (m : (ℓ : Loc Cert.Reference6Ideal.nD Cert.Reference6Ideal.τ Cert.Reference6Ideal.sig) → Buf (Elt Ideal) ℓ)
    (c : Dev Cert.Reference6Ideal.nD) :
    Cert.Reference6Ideal.Value.res_main_v47 m c
      = wideRef (m ((c.tc : Thread Cert.Reference6Ideal.nD Cert.Reference6Ideal.τ).loc Cert.Reference6Ideal.main_arg0))
        (m ((c.tc : Thread Cert.Reference6Ideal.nD Cert.Reference6Ideal.τ).loc Cert.Reference6Ideal.main_arg1))
        (m ((c.tc : Thread Cert.Reference6Ideal.nD Cert.Reference6Ideal.τ).loc Cert.Reference6Ideal.main_arg2))
        (m ((c.tc : Thread Cert.Reference6Ideal.nD Cert.Reference6Ideal.τ).loc Cert.Reference6Ideal.main_arg3)) := rfl

/-- Kernel and reference end with the same array. -/
theorem value [Cert.Pre_finite3.Facts] : Cert.algebraic_Kernel6Ideal_Reference6Ideal_pre_finite3 := by
  intro m ρ m' ρ' hpre hag
  refine ⟨fun c => Cert.Kernel6Ideal.Dil16.G m c, Cert.Kernel6Ideal.Dil16.run m ρ fun c =>
    ProjFinite.real_of_pre _ _ _ _ (hpre c), ?_⟩
  refine (θ_run Cert.Reference6Ideal.defs _ _).mono (fun r h c => ⟨(h c).1.trans ?_, (h c).2⟩)
    (Cert.Reference6Ideal.Value.run (F := Ideal) m' ρ')
  obtain ⟨e0, e1, e2, e3⟩ := hag c
  refine (res_eq m' c).trans ?_
  rw [e0, e1, e2, e3]
  funext i
  rw [← ix2_eta (n0 := 4096) (n1 := 49152) i]
  exact wideRef_at _ _ _ _ (i 0) (i 1)

end Cert.Dil16Claim

end
-- ==== Proof.MlaFinite.lean ====
/-
  The attention layer's projection's precondition: every gain of the three inner norms and every weight is a real number.
-/
module

public import proofs.«01_k».proof.Defs
public import proofs.«01_k».proof.Proof.AttnFinite
public import Idealize.ShloMosaic.Lib.ReduceAll
public import Idealize.ShloMosaic.Lib.Pointwise

@[expose] public section

set_option maxRecDepth 16384

noncomputable section

namespace Cert.MlaFinite

open Idealize.ShloMosaic Idealize.ShloMosaic.TcCoe

/-- The predicate's side conditions. -/
theorem facts : Cert.Pre_finite7.Facts := by
  constructor <;> decide

open Cert.Pre_finite7

/-- An array's comparison at an index. -/
theorem real_at {S : Shape} (h2 : S_.BroadcastsInDim S (![] : Fin 0 → Fin S.rank)) (A : FVec Ideal S .f32) (i : S.Idx)
    (h : cmpf .olt (Host.absf A) (broadcastInDim S ![] h2 (constant S_ .f32 0x7F800000#32)) i = 1#1) :
    ∃ y : ℝ, A i = (y : EReal) := by
  apply AttnFinite.real_of_abs
  have h' : BitVec.ofBool (decide (FloatOps.absf (F := Ideal) (φ := .f32) (A i) < Ideal.ofBits FTy.f32 0x7F800000#32)) = 1#1 := h
  rw [Softmax.top_word] at h'
  by_contra hn
  rw [decide_eq_false (show ¬ FloatOps.absf (F := Ideal) (φ := .f32) (A i) < ⊤ from hn)] at h'
  exact absurd h' (by decide)

/-- The predicate holds: the gains and the weights are real. -/
theorem real_of_pre [Cert.Pre_finite7.Facts] (A0 : FVec Ideal S65536x1024 .f32) (A1 : FVec Ideal S1024 .f32)
    (A2 : FVec Ideal S1024x672 .f32) (A3 : FVec Ideal S384 .f32) (A4 : FVec Ideal S256 .f32) (A5 : FVec Ideal S384x1536 .f32)
    (A6 : FVec Ideal S256x2048 .f32) (A7 A8 : FVec Ideal S96 .f32)
    (h : Cert.Pre_finite7.fn (F := Ideal) A0 A1 A2 A3 A4 A5 A6 A7 A8 = fun _ => 1#1) :
    (∀ i, ∃ y : ℝ, A1 i = (y : EReal)) ∧ (∀ i, ∃ y : ℝ, A2 i = (y : EReal)) ∧ (∀ i, ∃ y : ℝ, A3 i = (y : EReal))
    ∧ (∀ i, ∃ y : ℝ, A4 i = (y : EReal)) ∧ (∀ i, ∃ y : ℝ, A5 i = (y : EReal)) ∧ ∀ i, ∃ y : ℝ, A6 i = (y : EReal) := by
  have andi_one (a b : BitVec 1) : IntOp.andi a b = 1#1 ↔ a = 1#1 ∧ b = 1#1 := by revert a b; decide
  have e := congrFun h ix0
  simp only [Cert.Pre_finite7.fn, Cert.Pre_finite7.fn_part1] at e
  obtain ⟨e, h6⟩ := (andi_one _ _).1 e
  obtain ⟨e, h5⟩ := (andi_one _ _).1 e
  obtain ⟨e, h4⟩ := (andi_one _ _).1 e
  obtain ⟨e, h3⟩ := (andi_one _ _).1 e
  obtain ⟨h1, h2⟩ := (andi_one _ _).1 e
  exact ⟨fun i => real_at _ _ i (Host.reduce_andi_all _ _ _ _ _ h1 _), fun i => real_at _ _ i (Host.reduce_andi_all _ _ _ _ _ h2 _),
    fun i => real_at _ _ i (Host.reduce_andi_all _ _ _ _ _ h3 _), fun i => real_at _ _ i (Host.reduce_andi_all _ _ _ _ _ h4 _),
    fun i => real_at _ _ i (Host.reduce_andi_all _ _ _ _ _ h5 _), fun i => real_at _ _ i (Host.reduce_andi_all _ _ _ _ _ h6 _)⟩

end Cert.MlaFinite

end
-- ==== Proof.MlaBody.lean ====
/-
  The body of the attention layer's projection call, read as values: one block of 512 rows is normalised and multiplied
  into the latent vectors, those are multiplied into heads, and the heads of queries and keys are normalised and turned,
  256 columns (two heads) at a time; the values are stored transposed.
-/
module

public import proofs.«01_k».proof.Defs
public import proofs.«01_k».proof.Proof.Gen.Kernel7Ideal.Value
public import Idealize.ShloMosaic.Lib.Pipeline.Value
public import Idealize.ShloMosaic.Lib.Tactic
public import Idealize.ShloMosaic.Lib.Pointwise

@[expose] public section

set_option maxRecDepth 16384

noncomputable section

namespace Cert.Kernel7Ideal.Mla

open Cert.Kernel7Ideal Cert.Kernel7Ideal.Gen Idealize.ShloMosaic Idealize.ShloMosaic.TcCoe Idealize.SL.Sem

/-- The all-zero offsets of a whole-buffer access. -/
theorem hz : (![0, 0] : Fin 2 → Nat) = fun _ => 0 := funext fun a => by fin_cases a <;> rfl

section Chunks

variable {F : FTy → Type} [FloatOps F] [Named F]

/-- 256 columns normalised head by head, and scaled by their gains. -/
def normal (Y : FVec F S512x256 .f32) (g : FVec F S1x256 .f32) (E : Vec F S256x256 .bf16) : FVec F S512x256 .f32 :=
  mulf (mulf Y (rsqrt (addf
    (addf
      (matmul dot_S512x256_S256x256_S512x256_1_0_0_1_n_n none (truncf .bf16 (mulf Y Y) bitsLt_bf16_f32)
        (shapeCast S256x256 E shapeCasts_S256x256_S256x256) (constant S512x256 .f32 0x00000000#32))
      (matmul dot_S512x256_S256x256_S512x256_1_0_0_1_n_n none
        (truncf .bf16 (subf (mulf Y Y) (extf .f32 (truncf .bf16 (mulf Y Y) bitsLt_bf16_f32) bitsLt_bf16_f32)) bitsLt_bf16_f32)
        (shapeCast S256x256 E shapeCasts_S256x256_S256x256) (constant S512x256 .f32 0x00000000#32)))
    (broadcast S512x256 (Named.named κ "eps" 0x38C9539C#32)))))
    (broadcastTo S512x256 g broadcasts_S1x256_S512x256)

/-- The columns turned by the three tables. -/
def spun (Z C U D : FVec F S512x256 .f32) : FVec F S512x256 .bf16 :=
  truncf .bf16 (addf (addf (mulf Z (shapeCast S512x256 C shapeCasts_S512x256_S512x256))
    (mulf (dynamicRotate 1 16#32 none Z rotates_S512x256_d1) (shapeCast S512x256 U shapeCasts_S512x256_S512x256)))
    (mulf (dynamicRotate 1 240#32 none Z rotates_S512x256_d1) (shapeCast S512x256 D shapeCasts_S512x256_S512x256))) bitsLt_bf16_f32

/-- A chunk of the queries. -/
def chunkQ (Y : FVec F S512x256 .f32) (g : Vec F S1x256 .f32) (E : Vec F S256x256 .bf16) (C U D : Vec F S512x256 .f32) :
    FVec F S512x256 .bf16 :=
  spun (normal Y (shapeCast S1x256 g shapeCasts_S1x256_S1x256) E) C U D

/-- A chunk of the keys. -/
def chunkK (Y T : FVec F S512x256 .f32) (g : Vec F S1x256 .f32) (E : Vec F S256x256 .bf16) (C U D : Vec F S512x256 .f32) :
    FVec F S512x256 .bf16 :=
  spun (normal (addf Y T) (mulf (shapeCast S1x256 g shapeCasts_S1x256_S1x256)
    (broadcast S1x256 (Named.named κ "root" 0x411CC471#32))) E) C U D

end Chunks

/-- One entry of normalised columns. -/
def nent (y g : Fin 256 → EReal) (E : Vec Ideal S256x256 .bf16) (p : Fin 256) : EReal :=
  y p * Ideal.rsqrt ((∑ l : Fin 256, (y l * y l) * E (ix2 l p)) + (∑ l : Fin 256, (y l * y l - y l * y l) * E (ix2 l p))
    + ((26388279 * 274877906944⁻¹ : ℝ) : EReal)) * g p

/-- One entry of turned columns. -/
def tent (n C U D : Fin 256 → EReal) (p : Fin 256) : EReal :=
  n p * C p + n ⟨(p.val + 240) % 256, by omega⟩ * U p + n ⟨(p.val + 16) % 256, by omega⟩ * D p

section Entries

variable (Y T : FVec Ideal S512x256 .f32) (g : Vec Ideal S1x256 .f32) (E : Vec Ideal S256x256 .bf16)
  (C U D : Vec Ideal S512x256 .f32)

/-- The small constant, by its name. -/
theorem eps_eq : (Named.named κ "eps" 0x38C9539C#32 : Ideal .f32) = ((26388279 * 274877906944⁻¹ : ℝ) : EReal) := rfl

/-- The gains' factor, by its name. -/
theorem root_eq : (Named.named κ "root" 0x411CC471#32 : Ideal .f32) = ((Real.sqrt 96 : ℝ) : EReal) := rfl

theorem normal_at (v : FVec Ideal S1x256 .f32) (r : Fin 512) (p : Fin 256) :
    normal Y v E (ix2 r p) = nent (fun l => Y (ix2 r l)) (fun l => v (ix2 0 l)) E p := by
  pointwise [normal, nent]
  exact congrArg (fun w : EReal => Y (ix2 r p) * Ideal.rsqrt (_ + w) * v (ix2 0 p)) eps_eq

theorem spun_at (Z : FVec Ideal S512x256 .f32) (r : Fin 512) (p : Fin 256) :
    spun Z C U D (ix2 r p) = tent (fun l => Z (ix2 r l)) (fun l => C (ix2 r l)) (fun l => U (ix2 r l)) (fun l => D (ix2 r l)) p := by
  pointwise [spun, tent]
  have e1 : (⟨(p.val + 256 - 16) % 256, by omega⟩ : Fin 256) = ⟨(p.val + 240) % 256, by omega⟩ := Fin.ext (by
    show (p.val + 256 - 16) % 256 = (p.val + 240) % 256; omega)
  have e2 : (⟨(p.val + 256 - 240) % 256, by omega⟩ : Fin 256) = ⟨(p.val + 16) % 256, by omega⟩ := Fin.ext (by
    show (p.val + 256 - 240) % 256 = (p.val + 16) % 256; omega)
  rw [e1, e2]

theorem chunkQ_at (r : Fin 512) (p : Fin 256) :
    chunkQ Y g E C U D (ix2 r p) = tent (nent (fun l => Y (ix2 r l)) (fun l => g (ix2 0 l)) E)
      (fun l => C (ix2 r l)) (fun l => U (ix2 r l)) (fun l => D (ix2 r l)) p := by
  unfold chunkQ
  rw [spun_at]
  refine congrArg (fun n => tent n _ _ _ p) (funext fun l => ?_)
  rw [normal_at]
  refine congrArg (fun v => nent _ v E l) (funext fun l => ?_)
  pointwise []

theorem chunkK_at (r : Fin 512) (p : Fin 256) :
    chunkK Y T g E C U D (ix2 r p) = tent (nent (fun l => Y (ix2 r l) + T (ix2 r l)) (fun l => g (ix2 0 l) * ((Real.sqrt 96 : ℝ) : EReal)) E)
      (fun l => C (ix2 r l)) (fun l => U (ix2 r l)) (fun l => D (ix2 r l)) p := by
  unfold chunkK
  rw [spun_at]
  refine congrArg (fun n => tent n _ _ _ p) (funext fun l => ?_)
  rw [normal_at]
  refine congrArg (fun v => nent (fun l => Y (ix2 r l) + T (ix2 r l)) v E l) (funext fun l => ?_)
  pointwise []
  exact congrArg (fun w : EReal => g (ix2 0 l) * w) root_eq

end Entries

section Blocks

variable (Q : Vec Ideal S512x2048 .f32) (T : FVec Ideal S512x256 .f32) (V : FVec Ideal S512x1024 .f32) (g : Vec Ideal S1x256 .f32)
  (E : Vec Ideal S256x256 .bf16) (C U D : Vec Ideal S512x256 .f32)

/-- The block of queries, entry by entry. -/
def entQ (r : Fin 512) (o : Fin 2048) : EReal :=
  tent (nent (fun l => Q (ix2 r ⟨o.val / 256 * 256 + l.val, by omega⟩)) (fun l => g (ix2 0 l)) E)
      (fun l => C (ix2 r l)) (fun l => U (ix2 r l)) (fun l => D (ix2 r l)) ⟨o.val % 256, by omega⟩

/-- The block of keys, entry by entry. -/
def entK (r : Fin 512) (o : Fin 2048) : EReal :=
  tent (nent (fun l => Q (ix2 r ⟨o.val / 256 * 256 + l.val, by omega⟩) + T (ix2 r l)) (fun l => g (ix2 0 l) * ((Real.sqrt 96 : ℝ) : EReal)) E)
      (fun l => C (ix2 r l)) (fun l => U (ix2 r l)) (fun l => D (ix2 r l)) ⟨o.val % 256, by omega⟩

/-- The block of values, entry by entry. -/
def entV (b : Fin 2) (e : Fin 1024) (s : Fin 256) : EReal := V (ix2 ⟨256 * b.val + s.val, by omega⟩ e)

/-- The block of queries as a function of its index. -/
def blockQ : S512x2048.Idx → EReal := fun y => entQ Q g E C U D (y 0) (y 1)

/-- The block of keys as a function of its index. -/
def blockK : S512x2048.Idx → EReal := fun y => entK Q T g E C U D (y 0) (y 1)

/-- The block of values as a function of its index. -/
def blockV : S2x1024x256.Idx → EReal := fun y => entV V (y 0) (y 1) (y 2)

theorem emb_piece (o : Nat) (ho : o + 256 ≤ 2048)
    (inb : ∀ a, (![0, o] : Fin 2 → Nat) a + (![512, 256] : Fin 2 → Nat) a ≤ S512x2048.size a) (r : Fin 512) (n : Fin 256) :
    (Rect.unit (s := S512x2048) ![0, o] ![512, 256] inb).emb (ix2 r n) = ix2 r (⟨o + n.val, by omega⟩ : Fin 2048) := by
  refine funext fun a => Fin.ext ?_
  match a with
  | ⟨0, _⟩ => show 0 + 1 * r.val = r.val; omega
  | ⟨1, _⟩ => show o + 1 * n.val = o + n.val; omega

theorem ld_at (o : Nat) (ho : o + 256 ≤ 2048)
    (inb : ∀ a, (![0, o] : Fin 2 → Nat) a + (![512, 256] : Fin 2 → Nat) a ≤ S512x2048.size a) (r : Fin 512) (n : Fin 256) :
    View.ld Q (Rect.unit ![0, o] ![512, 256] inb) (ix2 r n) = Q (ix2 r ⟨o + n.val, by omega⟩) :=
  congrArg Q (emb_piece o ho inb r n)

/-- A part of a buffer written whole is that part of what was written. -/
theorem readCov_whole (v : View sig .tc .vmem S512x2048 .f32)
    (inb : ∀ a, (![0, 0] : Fin 2 → Nat) a + (![512, 2048] : Fin 2 → Nat) a ≤ S512x2048.size a) (w : Vec Ideal S512x2048 .f32) (B : Rect S512x2048) :
    v.readCov [(⟨Rect.unit ![0, 0] ![512, 2048] inb, w⟩ : View.Piece (Elt Ideal) S512x2048 .f32)] B.toLoadRect = View.ld w B := by
  rw [View.readCov_eq_canon']
  exact funext fun j => congrFun (View.canon_unit_zero (S := S512x2048) hz inb w) (B.idx j)

theorem piece_Q (o : Nat) (hm : o % 256 = 0) (ho : o + 256 ≤ 2048)
    (inb inb' : ∀ a, (![0, o] : Fin 2 → Nat) a + (![512, 256] : Fin 2 → Nat) a ≤ S512x2048.size a) (x : S512x256.Idx) :
    chunkQ (View.ld Q (Rect.unit ![0, o] ![512, 256] inb)) g E C U D x
      = blockQ Q g E C U D ((Rect.unit (s := S512x2048) ![0, o] ![512, 256] inb').emb x) := by
  obtain ⟨r, n, rfl⟩ : ∃ (r : Fin 512) (n : Fin 256), x = ix2 r n := ⟨x 0, x 1, (ix2_eta (n0 := 512) (n1 := 256) x).symm⟩
  rw [chunkQ_at, emb_piece o ho inb' r n]
  show _ = entQ Q g E C U D r ⟨o + n.val, _⟩
  unfold entQ
  have hn : (o + n.val) / 256 * 256 = o := by omega
  have hp : (⟨(o + n.val) % 256, by omega⟩ : Fin 256) = n := Fin.ext (by show (o + n.val) % 256 = n.val; omega)
  simp only [ld_at Q o ho inb, hn, hp]

theorem piece_K (o : Nat) (hm : o % 256 = 0) (ho : o + 256 ≤ 2048)
    (inb inb' : ∀ a, (![0, o] : Fin 2 → Nat) a + (![512, 256] : Fin 2 → Nat) a ≤ S512x2048.size a) (x : S512x256.Idx) :
    chunkK (View.ld Q (Rect.unit ![0, o] ![512, 256] inb)) T g E C U D x
      = blockK Q T g E C U D ((Rect.unit (s := S512x2048) ![0, o] ![512, 256] inb').emb x) := by
  obtain ⟨r, n, rfl⟩ : ∃ (r : Fin 512) (n : Fin 256), x = ix2 r n := ⟨x 0, x 1, (ix2_eta (n0 := 512) (n1 := 256) x).symm⟩
  rw [chunkK_at, emb_piece o ho inb' r n]
  show _ = entK Q T g E C U D r ⟨o + n.val, _⟩
  unfold entK
  have hn : (o + n.val) / 256 * 256 = o := by omega
  have hp : (⟨(o + n.val) % 256, by omega⟩ : Fin 256) = n := Fin.ext (by show (o + n.val) % 256 = n.val; omega)
  simp only [ld_at Q o ho inb, hn, hp]

/-- A slab of the values: 256 rows transposed. -/
def slab0 : FVec Ideal S1x1024x256 .bf16 :=
  shapeCast S1x1024x256 (truncf .bf16 (transpose S1024x256 [1, 0] (extractStridedSlice S256x1024 ![0, 0] V slices_S512x1024_o0_0_S256x1024) transposes_S256x1024_p1_0_S1024x256 : FVec Ideal S1024x256 .f32) bitsLt_bf16_f32 : FVec Ideal S1024x256 .bf16) shapeCasts_S1024x256_S1x1024x256

/-- The other slab. -/
def slab1 : FVec Ideal S1x1024x256 .bf16 :=
  shapeCast S1x1024x256 (truncf .bf16 (transpose S1024x256 [1, 0] (extractStridedSlice S256x1024 ![256, 0] V slices_S512x1024_o256_0_S256x1024) transposes_S256x1024_p1_0_S1024x256 : FVec Ideal S1024x256 .f32) bitsLt_bf16_f32 : FVec Ideal S1024x256 .bf16) shapeCasts_S1024x256_S1x1024x256

theorem slab0_at (z : Fin 1) (e : Fin 1024) (s : Fin 256) : slab0 V (ix3 z e s) = V (ix2 ⟨s.val, by omega⟩ e) := by
  pointwise [slab0]

theorem slab1_at (z : Fin 1) (e : Fin 1024) (s : Fin 256) : slab1 V (ix3 z e s) = V (ix2 ⟨256 + s.val, by omega⟩ e) := by
  pointwise [slab1]

theorem emb_slab (b : Nat) (hb : b < 2)
    (inb : ∀ a, (![b, 0, 0] : Fin 3 → Nat) a + (![1, 1024, 256] : Fin 3 → Nat) a ≤ S2x1024x256.size a) (z : Fin 1) (e : Fin 1024) (s : Fin 256) :
    (Rect.unit (s := S2x1024x256) ![b, 0, 0] ![1, 1024, 256] inb).emb (ix3 z e s) = ix3 (⟨b, hb⟩ : Fin 2) e s := by
  refine funext fun a => Fin.ext ?_
  match a with
  | ⟨0, _⟩ => show b + 1 * z.val = b; omega
  | ⟨1, _⟩ => show 0 + 1 * e.val = e.val; omega
  | ⟨2, _⟩ => show 0 + 1 * s.val = s.val; omega

theorem piece_V0 (inb : ∀ a, (![0, 0, 0] : Fin 3 → Nat) a + (![1, 1024, 256] : Fin 3 → Nat) a ≤ S2x1024x256.size a) (x : S1x1024x256.Idx) :
    slab0 V x = blockV V ((Rect.unit (s := S2x1024x256) ![0, 0, 0] ![1, 1024, 256] inb).emb x) := by
  obtain ⟨z, e, s, rfl⟩ : ∃ (z : Fin 1) (e : Fin 1024) (s : Fin 256), x = ix3 z e s := ⟨x 0, x 1, x 2, (ix3_eta (n0 := 1) (n1 := 1024) (n2 := 256) x).symm⟩
  rw [slab0_at, emb_slab 0 (by decide) inb z e s]
  show _ = entV V ⟨0, _⟩ e s
  exact congrArg V ((ix2_inj _ _ _ _).2 ⟨Fin.ext (by show s.val = 256 * 0 + s.val; omega), rfl⟩)

theorem piece_V1 (inb : ∀ a, (![1, 0, 0] : Fin 3 → Nat) a + (![1, 1024, 256] : Fin 3 → Nat) a ≤ S2x1024x256.size a) (x : S1x1024x256.Idx) :
    slab1 V x = blockV V ((Rect.unit (s := S2x1024x256) ![1, 0, 0] ![1, 1024, 256] inb).emb x) := by
  obtain ⟨z, e, s, rfl⟩ : ∃ (z : Fin 1) (e : Fin 1024) (s : Fin 256), x = ix3 z e s := ⟨x 0, x 1, x 2, (ix3_eta (n0 := 1) (n1 := 1024) (n2 := 256) x).symm⟩
  rw [slab1_at, emb_slab 1 (by decide) inb z e s]
  show _ = entV V ⟨1, _⟩ e s
  exact congrArg V ((ix2_inj _ _ _ _).2 ⟨Fin.ext (by show 256 + s.val = 256 * 1 + s.val; omega), rfl⟩)

end Blocks

section Out

variable (c : Dev nD) (i : grid0.Coords) (arg1 : Memref sig .tc .vmem S512x1024 .f32) (harg1 : arg1.IsWhole)
  (arg2 : Memref sig .tc .vmem S1x1024 .f32) (harg2 : arg2.IsWhole)
  (arg3 : Memref sig .tc .vmem S1024x768 .bf16) (harg3 : arg3.IsWhole)
  (arg4 : Memref sig .tc .vmem S1x384 .f32) (harg4 : arg4.IsWhole)
  (arg5 : Memref sig .tc .vmem S1x256 .f32) (harg5 : arg5.IsWhole)
  (arg6 : Memref sig .tc .vmem S384x2048 .bf16) (harg6 : arg6.IsWhole)
  (arg7 : Memref sig .tc .vmem S256x2048 .bf16) (harg7 : arg7.IsWhole)
  (arg8 : Memref sig .tc .vmem S256x1024 .bf16) (harg8 : arg8.IsWhole)
  (arg9 : Memref sig .tc .vmem S1x256 .f32) (harg9 : arg9.IsWhole)
  (arg10 : Memref sig .tc .vmem S1x256 .f32) (harg10 : arg10.IsWhole)
  (arg11 : Memref sig .tc .vmem S512x256 .f32) (harg11 : arg11.IsWhole)
  (arg12 : Memref sig .tc .vmem S512x256 .f32) (harg12 : arg12.IsWhole)
  (arg13 : Memref sig .tc .vmem S512x256 .f32) (harg13 : arg13.IsWhole)
  (arg14 : Memref sig .tc .vmem S256x256 .bf16) (harg14 : arg14.IsWhole)
  (arg15 : Memref sig .tc .vmem S512x2048 .bf16) (harg15 : arg15.IsWhole)
  (arg16 : Memref sig .tc .vmem S512x2048 .bf16) (harg16 : arg16.IsWhole)
  (arg17 : Memref sig .tc .vmem S2x1024x256 .bf16) (harg17 : arg17.IsWhole)
  (arg18 : Memref sig .tc .vmem S512x2048 .f32) (harg18 : arg18.IsWhole)
  (arg19 : Memref sig .tc .vmem S512x2048 .f32) (harg19 : arg19.IsWhole)
  (x0 : Vec Ideal S512x1024 .f32) (x1 : Vec Ideal S1x1024 .f32) (x2 : Vec Ideal S1024x768 .bf16) (x3 : Vec Ideal S1x384 .f32) (x4 : Vec Ideal S1x256 .f32) (x5 : Vec Ideal S384x2048 .bf16) (x6 : Vec Ideal S256x2048 .bf16) (x7 : Vec Ideal S256x1024 .bf16) (x8 : Vec Ideal S1x256 .f32) (x9 : Vec Ideal S1x256 .f32) (x10 : Vec Ideal S512x256 .f32) (x11 : Vec Ideal S512x256 .f32) (x12 : Vec Ideal S512x256 .f32) (x13 : Vec Ideal S256x256 .bf16)

/-- The latent vectors of the keys and values. -/
def latent : FVec Ideal S512x256 .bf16 := k0_pay6 (k0_pay3 x0 x1 x2) (k0_pay4 x4) (k0_pay5 x0 x1 x2)

/-- The heads of the queries. -/
def headsQ : FVec Ideal S512x2048 .f32 := k0_pay8 (k0_pay2 x0 x1 x2 x3) x5

/-- The heads of the keys. -/
def headsK : FVec Ideal S512x2048 .f32 := k0_pay9 (k0_pay3 x0 x1 x2) (k0_pay4 x4) (k0_pay5 x0 x1 x2) x6

/-- The heads of the values. -/
def headsV : FVec Ideal S512x1024 .f32 := k0_pay10 (k0_pay3 x0 x1 x2) (k0_pay4 x4) (k0_pay5 x0 x1 x2) x7

/-- The columns shared by the heads. -/
def shared : FVec Ideal S512x256 .f32 := k0_pay17 (k0_pay7 (k0_pay1 x0 x1 x2))

theorem piecesQ : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      x0 x1 x2 x3 x4 x5 x6 x7 x8 x9 x10 x11 x12 x13).1, ∀ x : p.1.shape.Idx, p.2 x = blockQ (headsQ x0 x1 x2 x3 x5) x8 x13 x10 x11 x12 (p.1.emb x) := by
  unfold kernelRun0_A
  dsimp only
  sl_unfold_words
  simp only [View.readAt_eq_ld, readCov_whole, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x1024) hz,
    View.ld_unit_zero (S := S1x1024) hz,
    View.ld_unit_zero (S := S1024x768) hz,
    View.ld_unit_zero (S := S1x384) hz,
    View.ld_unit_zero (S := S1x256) hz,
    View.ld_unit_zero (S := S384x2048) hz,
    View.ld_unit_zero (S := S256x2048) hz,
    View.ld_unit_zero (S := S256x1024) hz,
    View.ld_unit_zero (S := S512x256) hz,
    View.ld_unit_zero (S := S256x256) hz]
  unfold headsQ
  generalize k0_pay8 (k0_pay2 x0 x1 x2 x3) x5 = Q
  refine List.forall_mem_cons.2 ⟨piece_Q Q x8 x13 x10 x11 x12 1792 rfl (by decide) inb_S512x2048_S512x256_0_1792 inb_S512x2048_S512x256_0_1792, ?_⟩
  refine List.forall_mem_cons.2 ⟨piece_Q Q x8 x13 x10 x11 x12 1536 rfl (by decide) inb_S512x2048_S512x256_0_1536 inb_S512x2048_S512x256_0_1536, ?_⟩
  refine List.forall_mem_cons.2 ⟨piece_Q Q x8 x13 x10 x11 x12 1280 rfl (by decide) inb_S512x2048_S512x256_0_1280 inb_S512x2048_S512x256_0_1280, ?_⟩
  refine List.forall_mem_cons.2 ⟨piece_Q Q x8 x13 x10 x11 x12 1024 rfl (by decide) inb_S512x2048_S512x256_0_1024 inb_S512x2048_S512x256_0_1024, ?_⟩
  refine List.forall_mem_cons.2 ⟨piece_Q Q x8 x13 x10 x11 x12 768 rfl (by decide) inb_S512x2048_S512x256_0_768 inb_S512x2048_S512x256_0_768, ?_⟩
  refine List.forall_mem_cons.2 ⟨piece_Q Q x8 x13 x10 x11 x12 512 rfl (by decide) inb_S512x2048_S512x256_0_512 inb_S512x2048_S512x256_0_512, ?_⟩
  refine List.forall_mem_cons.2 ⟨piece_Q Q x8 x13 x10 x11 x12 256 rfl (by decide) inb_S512x2048_S512x256_0_256 inb_S512x2048_S512x256_0_256, ?_⟩
  refine List.forall_mem_cons.2 ⟨piece_Q Q x8 x13 x10 x11 x12 0 rfl (by decide) inb_S512x2048_S512x256_0_0 inb_S512x2048_S512x256_0_0, ?_⟩
  exact fun _ h => absurd h List.not_mem_nil

theorem piecesK : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      x0 x1 x2 x3 x4 x5 x6 x7 x8 x9 x10 x11 x12 x13).2.1, ∀ x : p.1.shape.Idx, p.2 x = blockK (headsK x0 x1 x2 x4 x6) (shared x0 x1 x2) x9 x13 x10 x11 x12 (p.1.emb x) := by
  unfold kernelRun0_A
  dsimp only
  sl_unfold_words
  simp only [View.readAt_eq_ld, readCov_whole, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x1024) hz,
    View.ld_unit_zero (S := S1x1024) hz,
    View.ld_unit_zero (S := S1024x768) hz,
    View.ld_unit_zero (S := S1x384) hz,
    View.ld_unit_zero (S := S1x256) hz,
    View.ld_unit_zero (S := S384x2048) hz,
    View.ld_unit_zero (S := S256x2048) hz,
    View.ld_unit_zero (S := S256x1024) hz,
    View.ld_unit_zero (S := S512x256) hz,
    View.ld_unit_zero (S := S256x256) hz]
  unfold headsK
  generalize k0_pay9 (k0_pay3 x0 x1 x2) (k0_pay4 x4) (k0_pay5 x0 x1 x2) x6 = Q
  refine List.forall_mem_cons.2 ⟨piece_K Q (shared x0 x1 x2) x9 x13 x10 x11 x12 1792 rfl (by decide) inb_S512x2048_S512x256_0_1792 inb_S512x2048_S512x256_0_1792, ?_⟩
  refine List.forall_mem_cons.2 ⟨piece_K Q (shared x0 x1 x2) x9 x13 x10 x11 x12 1536 rfl (by decide) inb_S512x2048_S512x256_0_1536 inb_S512x2048_S512x256_0_1536, ?_⟩
  refine List.forall_mem_cons.2 ⟨piece_K Q (shared x0 x1 x2) x9 x13 x10 x11 x12 1280 rfl (by decide) inb_S512x2048_S512x256_0_1280 inb_S512x2048_S512x256_0_1280, ?_⟩
  refine List.forall_mem_cons.2 ⟨piece_K Q (shared x0 x1 x2) x9 x13 x10 x11 x12 1024 rfl (by decide) inb_S512x2048_S512x256_0_1024 inb_S512x2048_S512x256_0_1024, ?_⟩
  refine List.forall_mem_cons.2 ⟨piece_K Q (shared x0 x1 x2) x9 x13 x10 x11 x12 768 rfl (by decide) inb_S512x2048_S512x256_0_768 inb_S512x2048_S512x256_0_768, ?_⟩
  refine List.forall_mem_cons.2 ⟨piece_K Q (shared x0 x1 x2) x9 x13 x10 x11 x12 512 rfl (by decide) inb_S512x2048_S512x256_0_512 inb_S512x2048_S512x256_0_512, ?_⟩
  refine List.forall_mem_cons.2 ⟨piece_K Q (shared x0 x1 x2) x9 x13 x10 x11 x12 256 rfl (by decide) inb_S512x2048_S512x256_0_256 inb_S512x2048_S512x256_0_256, ?_⟩
  refine List.forall_mem_cons.2 ⟨piece_K Q (shared x0 x1 x2) x9 x13 x10 x11 x12 0 rfl (by decide) inb_S512x2048_S512x256_0_0 inb_S512x2048_S512x256_0_0, ?_⟩
  exact fun _ h => absurd h List.not_mem_nil

theorem piecesV : ∀ p ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19
      x0 x1 x2 x3 x4 x5 x6 x7 x8 x9 x10 x11 x12 x13).2.2.1, ∀ x : p.1.shape.Idx, p.2 x = blockV (headsV x0 x1 x2 x4 x7) (p.1.emb x) := by
  unfold kernelRun0_A
  dsimp only
  sl_unfold_words
  simp only [View.readAt_eq_ld, readCov_whole, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread,
    View.ld_unit_zero (S := S512x1024) hz,
    View.ld_unit_zero (S := S1x1024) hz,
    View.ld_unit_zero (S := S1024x768) hz,
    View.ld_unit_zero (S := S1x384) hz,
    View.ld_unit_zero (S := S1x256) hz,
    View.ld_unit_zero (S := S384x2048) hz,
    View.ld_unit_zero (S := S256x2048) hz,
    View.ld_unit_zero (S := S256x1024) hz,
    View.ld_unit_zero (S := S512x256) hz,
    View.ld_unit_zero (S := S256x256) hz]
  refine List.forall_mem_cons.2 ⟨piece_V1 (headsV x0 x1 x2 x4 x7) inb_S2x1024x256_S1x1024x256_1_0_0, ?_⟩
  refine List.forall_mem_cons.2 ⟨piece_V0 (headsV x0 x1 x2 x4 x7) inb_S2x1024x256_S1x1024x256_0_0_0, ?_⟩
  exact fun _ h => absurd h List.not_mem_nil

theorem outQ_eq : out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13
    = blockQ (headsQ x0 x1 x2 x3 x5) x8 x13 x10 x11 x12 := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13)]
  exact funext fun y => View.canon_apply_of_pieces _ _ (piecesQ c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13) y
    (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 y)

theorem outK_eq : out0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13
    = blockK (headsK x0 x1 x2 x4 x6) (shared x0 x1 x2) x9 x13 x10 x11 x12 := by
  unfold out0_A_15
  rw [View.read_writes_eq_canon _ _ _ (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13)]
  exact funext fun y => View.canon_apply_of_pieces _ _ (piecesK c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13) y
    (cover0_A_15 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 y)

theorem outV_eq : out0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13
    = blockV (headsV x0 x1 x2 x4 x7) := by
  unfold out0_A_16
  rw [View.read_writes_eq_canon _ _ _ (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13)]
  exact funext fun y => View.canon_apply_of_pieces _ _ (piecesV c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13) y
    (cover0_A_16 c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 x0 x1 x2 x3 x4 x5 x6 x7 x8 x9 x10 x11 x12 x13 y)

end Out

end Cert.Kernel7Ideal.Mla

end
-- ==== Proof.MlaRef.lean ====
/-
  The attention layer's projection call over the extended reals, as one formula per element of each of its three results (queries,
  keys and values), and the reference's composed terms read as those formulas.
-/
module

public import proofs.«01_k».proof.Defs
public import proofs.«01_k».proof.Proof.Gen.Reference7Ideal.Run
public import Idealize.ShloMosaic.Lib.Pointwise

@[expose] public section

set_option maxRecDepth 16384

noncomputable section

namespace Cert.MlaRef

open Idealize.ShloMosaic Idealize.ShloMosaic.TcCoe Cert.Reference7Ideal Cert.Reference7Ideal.Gen

variable (H : Vec Ideal S65536x1024 .f32) (G : Vec Ideal S1024 .f32) (W : Vec Ideal S1024x672 .f32)
  (gq : Vec Ideal S384 .f32) (gk : Vec Ideal S256 .f32) (Wq : Vec Ideal S384x1536 .f32) (Wk : Vec Ideal S256x2048 .f32)
  (hq : Vec Ideal S96 .f32) (hk : Vec Ideal S96 .f32)

/-! ## The formulas -/

/-- Entry `k` of a vector divided by the vector's root mean square (plus the small constant); `w` is the vector's length as a word. -/
def unit {n : ℕ} (w : BitVec 32) (v : Fin n → EReal) (k : Fin n) : EReal :=
  v k * Ideal.rsqrt (Ideal.div (∑ x, v x * v x) (Ideal.ofBits FTy.f32 w) + Ideal.ofBits FTy.f32 897988541#32)

/-- Column `k` of row `R`, normalised. -/
def xn (R : Fin 65536) (k : Fin 1024) : EReal := unit 0x44800000#32 (fun x => H (ix2 R x)) k * G (ix1 k)

/-- Column `q` of the first product. -/
def c (R : Fin 65536) (q : Fin 672) : EReal := ∑ k, xn H G R k * W (ix2 k q)

/-- The queries' latent vector. -/
def cq (R : Fin 65536) (k : Fin 384) : EReal :=
  unit 0x43C00000#32 (fun x : Fin 384 => c H G W R ⟨x.val, by omega⟩) k * gq (ix1 k)

/-- The keys' and values' latent vector. -/
def ck (R : Fin 65536) (k : Fin 256) : EReal :=
  unit 0x43800000#32 (fun x : Fin 256 => c H G W R ⟨384 + x.val, by omega⟩) k * gk (ix1 k)

/-- A head of the queries before its normalisation. -/
def q (R : Fin 65536) (h : Fin 16) (d : Fin 96) : EReal := ∑ k, cq H G W gq R k * Wq (ix2 k ⟨96 * h.val + d.val, by omega⟩)

/-- A head of the keys and values together. -/
def kv (R : Fin 65536) (h : Fin 16) (d : Fin 128) : EReal := ∑ k, ck H G W gk R k * Wk (ix2 k ⟨128 * h.val + d.val, by omega⟩)

/-- A head of the keys before its normalisation: its own 64 columns, then the 32 columns shared by all heads. -/
def kh (R : Fin 65536) (h : Fin 16) (d : Fin 96) : EReal :=
  if hd : d.val < 64 then kv H G W gk Wk R h ⟨d.val, by omega⟩ else c H G W R ⟨640 + (d.val - 64), by omega⟩

/-- A head normalised, and scaled by its gains. -/
def headed (y g : Fin 96 → EReal) (d : Fin 96) : EReal := unit 0x42C00000#32 y d * g d

/-- The queries' gains: with the base-two factor, and divided by the root of the head's width. -/
def gain (d : Fin 96) : EReal :=
  Ideal.div (hq (ix1 d) * Ideal.ofBits FTy.f32 0x3FB8AA3B#32) (Ideal.sqrt (Ideal.ofBits FTy.f32 0x42C00000#32))

/-- The angles: position times frequency. -/
def angle : FVec Ideal S4096x16 .f32 :=
  mulf (broadcastInDim S4096x16 ![0, 1] bcast_S4096x1_S4096x16_0_1 (broadcastInDim S4096x1 ![0] bcast_S4096_S4096x1_0 (sitofp .f32 (iotaInDim S4096 32 0)))) (broadcastInDim S4096x16 ![0, 1] bcast_S1x16_S4096x16_0_1 (broadcastInDim S1x16 ![1] bcast_S16_S1x16_1 (Host.powf (broadcastInDim S16 ![] bcast_S_S16 (constant S_ .f32 0x461C4000#32)) (Host.divf (Host.negf (sitofp .f32 (iotaInDim S16 32 0))) (broadcastInDim S16 ![] bcast_S_S16 (constant S_ .f32 0x41800000#32))))))

/-- Their cosines. -/
def cosT : FVec Ideal S4096x16 .f32 := Host.cos angle

/-- Their sines. -/
def sinT : FVec Ideal S4096x16 .f32 := Host.sin angle

/-- A head rotated by its position's angles: 64 columns as they are, 16 pairs turned, 32 zeros. -/
def turn (y : Fin 96 → EReal) (s : Fin 4096) (l : Fin 128) : EReal :=
  if h0 : l.val < 64 then y ⟨l.val, by omega⟩
  else if h1 : l.val < 80 then
    y ⟨l.val, by omega⟩ * cosT (ix2 s ⟨l.val - 64, by omega⟩) - y ⟨l.val + 16, by omega⟩ * sinT (ix2 s ⟨l.val - 64, by omega⟩)
  else if h2 : l.val < 96 then
    y ⟨l.val, h2⟩ * cosT (ix2 s ⟨l.val - 80, by omega⟩) + y ⟨l.val - 16, by omega⟩ * sinT (ix2 s ⟨l.val - 80, by omega⟩)
  else 0

/-- The queries. -/
def queries (R : Fin 65536) (o : Fin 2048) : EReal :=
  turn (headed (q H G W gq Wq R ⟨o.val / 128, by omega⟩) (gain hq)) ⟨R.val % 4096, by omega⟩ ⟨o.val % 128, by omega⟩

/-- The keys. -/
def keys (R : Fin 65536) (o : Fin 2048) : EReal :=
  turn (headed (kh H G W gk Wk R ⟨o.val / 128, by omega⟩) (fun d => hk (ix1 d))) ⟨R.val % 4096, by omega⟩ ⟨o.val % 128, by omega⟩

/-- The values: block `b`, column `e` (64 to a head), position `s` within the block. -/
def values (b : Fin 256) (e : Fin 1024) (s : Fin 256) : EReal :=
  kv H G W gk Wk ⟨256 * b.val + s.val, by omega⟩ ⟨e.val / 64, by omega⟩ ⟨64 + e.val % 64, by omega⟩

/-! ## The reference's operations, in stages -/

/-- The normalised rows. -/
def refX : FVec Ideal S65536x1024 .f32 :=
  mulf (mulf H (broadcastInDim S65536x1024 ![0, 1] bcast_S65536x1_S65536x1024_0_1 (Host.rsqrt (addf (Host.divf (broadcastInDim S65536x1 ![0] bcast_S65536_S65536x1_0 (Host.reduceAdd (mulf H H) (constant S_ .f32 0x00000000#32) reducesTo_S65536x1024_S65536_d1 h_S_)) (broadcastInDim S65536x1 ![] bcast_S_S65536x1 (constant S_ .f32 0x44800000#32))) (broadcastInDim S65536x1 ![] bcast_S_S65536x1 (constant S_ .f32 0x358637BD#32)))))) (broadcastInDim S65536x1024 ![0, 1] bcast_S1x1024_S65536x1024_0_1 (broadcastInDim S1x1024 ![1] bcast_S1024_S1x1024_1 G))

/-- The first product. -/
def refC (X : FVec Ideal S65536x1024 .f32) : FVec Ideal S65536x672 .f32 :=
  Host.dotGeneral (φ₁ := .f32) (φ₂ := .f32) dot_S65536x1024_S1024x672_S65536x672_1_0_0_1_n_n none X W

/-- The queries' latent vectors. -/
def refLq (C : FVec Ideal S65536x672 .f32) : FVec Ideal S65536x384 .f32 :=
  let Z : FVec Ideal S65536x384 .f32 := extractStridedSlice S65536x384 ![0, 0] C slices_S65536x672_S65536x384_0_0
  mulf (mulf Z (broadcastInDim S65536x384 ![0, 1] bcast_S65536x1_S65536x384_0_1 (Host.rsqrt (addf (Host.divf (broadcastInDim S65536x1 ![0] bcast_S65536_S65536x1_0 (Host.reduceAdd (mulf Z Z) (constant S_ .f32 0x00000000#32) reducesTo_S65536x384_S65536_d1 h_S_)) (broadcastInDim S65536x1 ![] bcast_S_S65536x1 (constant S_ .f32 0x43C00000#32))) (broadcastInDim S65536x1 ![] bcast_S_S65536x1 (constant S_ .f32 0x358637BD#32)))))) (broadcastInDim S65536x384 ![0, 1] bcast_S1x384_S65536x384_0_1 (broadcastInDim S1x384 ![1] bcast_S384_S1x384_1 gq))

/-- The keys' and values' latent vectors. -/
def refLk (C : FVec Ideal S65536x672 .f32) : FVec Ideal S65536x256 .f32 :=
  let Z : FVec Ideal S65536x256 .f32 := extractStridedSlice S65536x256 ![0, 384] C slices_S65536x672_S65536x256_0_384
  mulf (mulf Z (broadcastInDim S65536x256 ![0, 1] bcast_S65536x1_S65536x256_0_1 (Host.rsqrt (addf (Host.divf (broadcastInDim S65536x1 ![0] bcast_S65536_S65536x1_0 (Host.reduceAdd (mulf Z Z) (constant S_ .f32 0x00000000#32) reducesTo_S65536x256_S65536_d1 h_S_)) (broadcastInDim S65536x1 ![] bcast_S_S65536x1 (constant S_ .f32 0x43800000#32))) (broadcastInDim S65536x1 ![] bcast_S_S65536x1 (constant S_ .f32 0x358637BD#32)))))) (broadcastInDim S65536x256 ![0, 1] bcast_S1x256_S65536x256_0_1 (broadcastInDim S1x256 ![1] bcast_S256_S1x256_1 gk))

/-- The heads of the queries. -/
def refQ (L : FVec Ideal S65536x384 .f32) : FVec Ideal S65536x16x96 .f32 :=
  shapeCast _ (Host.dotGeneral (φ₁ := .f32) (φ₂ := .f32) dot_S65536x384_S384x1536_S65536x1536_1_0_0_1_n_n none L Wq) shapeCasts_S65536x1536_S65536x16x96

/-- The heads of the keys and values. -/
def refKV (L : FVec Ideal S65536x256 .f32) : FVec Ideal S65536x16x128 .f32 :=
  shapeCast _ (Host.dotGeneral (φ₁ := .f32) (φ₂ := .f32) dot_S65536x256_S256x2048_S65536x2048_1_0_0_1_n_n none L Wk) shapeCasts_S65536x2048_S65536x16x128

/-- The heads of the keys, the shared columns repeated. -/
def refK (C : FVec Ideal S65536x672 .f32) (Y : FVec Ideal S65536x16x128 .f32) : FVec Ideal S65536x16x96 .f32 :=
  concatenate S65536x16x96 2 [⟨S65536x16x64, extractStridedSlice S65536x16x64 ![0, 0, 0] Y slices_S65536x16x128_S65536x16x64_0_0_0⟩, ⟨S65536x16x32, broadcastInDim S65536x16x32 ![0, 1, 2] bcast_S65536x1x32_S65536x16x32_0_1_2 (broadcastInDim S65536x1x32 ![0, 2] bcast_S65536x32_S65536x1x32_0_2 (extractStridedSlice S65536x32 ![0, 640] C slices_S65536x672_S65536x32_0_640))⟩] concatenates_S65536x16x64_S65536x16x32_S65536x16x96_d2

/-- The queries' gains. -/
def refG : FVec Ideal S96 .f32 :=
  Host.divf (mulf hq (broadcastInDim S96 ![] bcast_S_S96 (constant S_ .f32 0x3FB8AA3B#32))) (broadcastInDim S96 ![] bcast_S_S96 (Host.sqrt (constant S_ .f32 0x42C00000#32)))

/-- Heads normalised and scaled. -/
def refN (Y : FVec Ideal S65536x16x96 .f32) (g : FVec Ideal S96 .f32) : FVec Ideal S65536x16x96 .f32 :=
  mulf (mulf Y (broadcastInDim S65536x16x96 ![0, 1, 2] bcast_S65536x16x1_S65536x16x96_0_1_2 (Host.rsqrt (addf (Host.divf (broadcastInDim S65536x16x1 ![0, 1] bcast_S65536x16_S65536x16x1_0_1 (Host.reduceAdd (mulf Y Y) (constant S_ .f32 0x00000000#32) reducesTo_S65536x16x96_S65536x16_d2 h_S_)) (broadcastInDim S65536x16x1 ![] bcast_S_S65536x16x1 (constant S_ .f32 0x42C00000#32))) (broadcastInDim S65536x16x1 ![] bcast_S_S65536x16x1 (constant S_ .f32 0x358637BD#32)))))) (broadcastInDim S65536x16x96 ![0, 1, 2] bcast_S1x1x96_S65536x16x96_0_1_2 (broadcastInDim S1x1x96 ![2] bcast_S96_S1x1x96_2 g))

/-- One of the tables, laid out over sequences and heads. -/
def refT (T : FVec Ideal S4096x16 .f32) : FVec Ideal S16x4096x16x16 .f32 :=
  broadcastInDim S16x4096x16x16 ![0, 1, 2, 3] bcast_S1x4096x1x16_S16x4096x16x16_0_1_2_3 (broadcastInDim S1x4096x1x16 ![1, 3] bcast_S4096x16_S1x4096x1x16_1_3 T)

/-- The heads by sequence and position. -/
def refS (Y : FVec Ideal S65536x16x96 .f32) : FVec Ideal S16x4096x16x96 .f32 := shapeCast _ Y shapeCasts_S65536x16x96_S16x4096x16x96

/-- The first half of the turned columns. -/
def refA (Z : FVec Ideal S16x4096x16x96 .f32) : FVec Ideal S16x4096x16x16 .f32 := extractStridedSlice S16x4096x16x16 ![0, 0, 0, 64] Z slices_S16x4096x16x96_S16x4096x16x16_0_0_0_64

/-- The second half of the turned columns. -/
def refB (Z : FVec Ideal S16x4096x16x96 .f32) : FVec Ideal S16x4096x16x16 .f32 := extractStridedSlice S16x4096x16x16 ![0, 0, 0, 80] Z slices_S16x4096x16x96_S16x4096x16x16_0_0_0_80

/-- The four parts of the turned heads side by side. -/
def refJ (a : FVec Ideal S16x4096x16x64 .f32) (u v : FVec Ideal S16x4096x16x16 .f32) (z : FVec Ideal S16x4096x16x32 .f32) :
    FVec Ideal S16x4096x16x128 .f32 :=
  (concatenate S16x4096x16x128 3 [⟨S16x4096x16x64, (a : (⟨S16x4096x16x64, .f32⟩ : BufTy).Contents (Elt Ideal))⟩, ⟨S16x4096x16x16, (u : (⟨S16x4096x16x16, .f32⟩ : BufTy).Contents (Elt Ideal))⟩, ⟨S16x4096x16x16, (v : (⟨S16x4096x16x16, .f32⟩ : BufTy).Contents (Elt Ideal))⟩, ⟨S16x4096x16x32, (z : (⟨S16x4096x16x32, .f32⟩ : BufTy).Contents (Elt Ideal))⟩] concatenates_S16x4096x16x64_S16x4096x16x16_S16x4096x16x16_S16x4096x16x32_S16x4096x16x128_d3 : (⟨S16x4096x16x128, .f32⟩ : BufTy).Contents (Elt Ideal))

/-- Heads turned, and laid side by side. -/
def refR (Y : FVec Ideal S65536x16x96 .f32) : FVec Ideal S65536x2048 .bf16 :=
  truncf .bf16 (shapeCast S65536x2048 (refJ (extractStridedSlice S16x4096x16x64 ![0, 0, 0, 0] (refS Y) slices_S16x4096x16x96_S16x4096x16x64_0_0_0_0)
    (subf (mulf (refA (refS Y)) (refT cosT)) (mulf (refB (refS Y)) (refT sinT)))
    (addf (mulf (refB (refS Y)) (refT cosT)) (mulf (refA (refS Y)) (refT sinT)))
    (broadcastInDim S16x4096x16x32 ![] bcast_S_S16x4096x16x32 (constant S_ .f32 0x00000000#32))) shapeCasts_S16x4096x16x128_S65536x2048 : FVec Ideal S65536x2048 .f32) bitsLt_bf16_f32

/-- The values, cut into blocks of 256 positions, each transposed. -/
def refV (Y : FVec Ideal S65536x16x128 .f32) : FVec Ideal S256x1024x256 .bf16 :=
  truncf .bf16 (transpose S256x1024x256 [0, 2, 1] (shapeCast S256x256x1024 (extractStridedSlice S65536x16x64 ![0, 0, 64] Y slices_S65536x16x128_S65536x16x64_0_0_64) shapeCasts_S65536x16x64_S256x256x1024) transposes_S256x256x1024_S256x1024x256_0_2_1 : FVec Ideal S256x1024x256 .f32) bitsLt_bf16_f32

/-- The reference's queries. -/
def outQ : FVec Ideal S65536x2048 .bf16 := refR (refN (refQ Wq (refLq gq (refC W (refX H G)))) (refG hq))

/-- The reference's keys. -/
def outK : FVec Ideal S65536x2048 .bf16 :=
  refR (refN (refK (refC W (refX H G)) (refKV Wk (refLk gk (refC W (refX H G))))) hk)

/-- The reference's values. -/
def outV : FVec Ideal S256x1024x256 .bf16 := refV (refKV Wk (refLk gk (refC W (refX H G))))

theorem refX_at (R : Fin 65536) (k : Fin 1024) : refX H G (ix2 R k) = xn H G R k := by
  pointwise [refX, xn, unit]

theorem refC_at (R : Fin 65536) (k : Fin 672) : refC W (refX H G) (ix2 R k) = c H G W R k := by
  pointwise [refC, c]
  exact Finset.sum_congr rfl fun j _ => congrArg (· * W (ix2 j k)) (refX_at H G R j)

theorem refLq_at (C : FVec Ideal S65536x672 .f32) (R : Fin 65536) (k : Fin 384) :
    refLq gq C (ix2 R k) = unit 0x43C00000#32 (fun x : Fin 384 => C (ix2 R ⟨x.val, by omega⟩)) k * gq (ix1 k) := by
  pointwise [refLq, unit]

theorem refLk_at (C : FVec Ideal S65536x672 .f32) (R : Fin 65536) (k : Fin 256) :
    refLk gk C (ix2 R k) = unit 0x43800000#32 (fun x : Fin 256 => C (ix2 R ⟨384 + x.val, by omega⟩)) k * gk (ix1 k) := by
  pointwise [refLk, unit]

theorem refQ_at (L : FVec Ideal S65536x384 .f32) (R : Fin 65536) (h : Fin 16) (d : Fin 96) :
    refQ Wq L (ix3 R h d) = ∑ k, L (ix2 R k) * Wq (ix2 k ⟨96 * h.val + d.val, by omega⟩) := by
  pointwise [refQ]
  refine Finset.sum_congr rfl fun k _ => ?_
  refine congrArg (fun q => L (ix2 R k) * Wq (ix2 k q)) (Fin.ext ?_)
  show h.val * 96 + d.val = 96 * h.val + d.val
  omega

theorem refKV_at (L : FVec Ideal S65536x256 .f32) (R : Fin 65536) (h : Fin 16) (d : Fin 128) :
    refKV Wk L (ix3 R h d) = ∑ k, L (ix2 R k) * Wk (ix2 k ⟨128 * h.val + d.val, by omega⟩) := by
  pointwise [refKV]
  refine Finset.sum_congr rfl fun k _ => ?_
  refine congrArg (fun q => L (ix2 R k) * Wk (ix2 k q)) (Fin.ext ?_)
  show h.val * 128 + d.val = 128 * h.val + d.val
  omega

theorem refK_at (C : FVec Ideal S65536x672 .f32) (Y : FVec Ideal S65536x16x128 .f32) (R : Fin 65536) (h : Fin 16) (d : Fin 96) :
    refK C Y (ix3 R h d) = if hd : d.val < 64 then Y (ix3 R h ⟨d.val, by omega⟩) else C (ix2 R ⟨640 + (d.val - 64), by omega⟩) := by
  pointwise [refK]

theorem refG_at (d : Fin 96) : refG hq (ix1 d) = gain hq d := by
  pointwise [refG, gain]

theorem refN_at (Y : FVec Ideal S65536x16x96 .f32) (g : FVec Ideal S96 .f32) (R : Fin 65536) (h : Fin 16) (d : Fin 96) :
    refN Y g (ix3 R h d) = headed (fun x => Y (ix3 R h x)) (fun x => g (ix1 x)) d := by
  pointwise [refN, headed, unit]

theorem refT_at (T : FVec Ideal S4096x16 .f32) (b : Fin 16) (s : Fin 4096) (h d : Fin 16) : refT T (ix4 b s h d) = T (ix2 s d) := by
  pointwise [refT]

theorem refS_at (Y : FVec Ideal S65536x16x96 .f32) (R : Fin 65536) (h : Fin 16) (d : Fin 96) :
    refS Y (ix4 (⟨R.val / 4096, by omega⟩ : Fin 16) (⟨R.val % 4096, by omega⟩ : Fin 4096) h d) = Y (ix3 R h d) := by
  pointwise [refS]

theorem refA_at (Z : FVec Ideal S16x4096x16x96 .f32) (b : Fin 16) (s : Fin 4096) (h d : Fin 16) :
    refA Z (ix4 b s h d) = Z (ix4 b s h ⟨64 + d.val, by omega⟩) := by
  pointwise [refA]

theorem refB_at (Z : FVec Ideal S16x4096x16x96 .f32) (b : Fin 16) (s : Fin 4096) (h d : Fin 16) :
    refB Z (ix4 b s h d) = Z (ix4 b s h ⟨80 + d.val, by omega⟩) := by
  pointwise [refB]

theorem refV_at (Y : FVec Ideal S65536x16x128 .f32) (b : Fin 256) (e : Fin 1024) (s : Fin 256) :
    refV Y (ix3 b e s) = Y (ix3 ⟨256 * b.val + s.val, by omega⟩ ⟨e.val / 64, by omega⟩ ⟨64 + e.val % 64, by omega⟩) := by
  pointwise [refV]
  refine congrArg (fun r : Fin 65536 => Y (ix3 r (⟨e.val / 64, by omega⟩ : Fin 16) (⟨64 + e.val % 64, by omega⟩ : Fin 128))) (Fin.ext ?_)
  show b.val * 256 + s.val = 256 * b.val + s.val
  omega

theorem refJ_at (a : FVec Ideal S16x4096x16x64 .f32) (u v : FVec Ideal S16x4096x16x16 .f32) (z : FVec Ideal S16x4096x16x32 .f32)
    (b : Fin 16) (s : Fin 4096) (h : Fin 16) (l : Fin 128) :
    refJ a u v z (ix4 b s h l) = if h0 : l.val < 64 then a (ix4 b s h ⟨l.val, h0⟩)
      else if h1 : l.val < 80 then u (ix4 b s h ⟨l.val - 64, by omega⟩)
      else if h2 : l.val < 96 then v (ix4 b s h ⟨l.val - 80, by omega⟩) else z (ix4 b s h ⟨l.val - 96, by omega⟩) := by
  pointwise [refJ]
  by_cases h0 : l.val < 64
  · rw [dif_pos h0, dif_pos h0]
  · by_cases h1 : l.val < 80
    · rw [dif_neg h0, dif_pos (by omega), dif_neg h0, dif_pos h1]
    · by_cases h2 : l.val < 96
      · rw [dif_neg h0, dif_neg (by omega), dif_pos (by omega), dif_neg h0, dif_neg h1, dif_pos h2]
        exact congrArg (fun x => v (ix4 b s h x)) (Fin.ext (by show l.val - 64 - 16 = l.val - 80; omega))
      · rw [dif_neg h0, dif_neg (by omega), dif_neg (by omega), dif_neg h0, dif_neg h1, dif_neg h2]
        exact congrArg (fun x => z (ix4 b s h x)) (Fin.ext (by show l.val - 64 - 16 - 16 = l.val - 96; omega))

theorem refR_at (Y : FVec Ideal S65536x16x96 .f32) (R : Fin 65536) (o : Fin 2048) :
    refR Y (ix2 R o) = turn (fun d => Y (ix3 R ⟨o.val / 128, by omega⟩ d)) ⟨R.val % 4096, by omega⟩ ⟨o.val % 128, by omega⟩ := by
  pointwise [refR]
  rw [refJ_at]
  unfold turn
  by_cases h0 : o.val % 128 < 64
  · rw [dif_pos h0, dif_pos h0]
    pointwise []
    exact refS_at Y R ⟨o.val / 128, by omega⟩ ⟨o.val % 128, by omega⟩
  · by_cases h1 : o.val % 128 < 80
    · rw [dif_neg h0, dif_pos h1, dif_neg h0, dif_pos h1]
      pointwise []
      rw [refA_at, refB_at, refT_at, refT_at, refS_at, refS_at]
      have e1 : (⟨64 + (o.val % 128 - 64), by omega⟩ : Fin 96) = ⟨o.val % 128, by omega⟩ := Fin.ext (by show 64 + (o.val % 128 - 64) = o.val % 128; omega)
      have e2 : (⟨80 + (o.val % 128 - 64), by omega⟩ : Fin 96) = ⟨o.val % 128 + 16, by omega⟩ := Fin.ext (by show 80 + (o.val % 128 - 64) = o.val % 128 + 16; omega)
      rw [e1, e2]
    · by_cases h2 : o.val % 128 < 96
      · rw [dif_neg h0, dif_neg h1, dif_pos h2, dif_neg h0, dif_neg h1, dif_pos h2]
        pointwise []
        rw [refA_at, refB_at, refT_at, refT_at, refS_at, refS_at]
        have e1 : (⟨80 + (o.val % 128 - 80), by omega⟩ : Fin 96) = ⟨o.val % 128, by omega⟩ := Fin.ext (by show 80 + (o.val % 128 - 80) = o.val % 128; omega)
        have e2 : (⟨64 + (o.val % 128 - 80), by omega⟩ : Fin 96) = ⟨o.val % 128 - 16, by omega⟩ := Fin.ext (by show 64 + (o.val % 128 - 80) = o.val % 128 - 16; omega)
        rw [e1, e2]
      · rw [dif_neg h0, dif_neg h1, dif_neg h2, dif_neg h0, dif_neg h1, dif_neg h2]
        pointwise []

/-! ## The three results -/

theorem lq_at (R : Fin 65536) (k : Fin 384) : refLq gq (refC W (refX H G)) (ix2 R k) = cq H G W gq R k := by
  rw [refLq_at]
  simp only [refC_at]
  rfl

theorem lk_at (R : Fin 65536) (k : Fin 256) : refLk gk (refC W (refX H G)) (ix2 R k) = ck H G W gk R k := by
  rw [refLk_at]
  simp only [refC_at]
  rfl

theorem q_at (R : Fin 65536) (h : Fin 16) (d : Fin 96) :
    refQ Wq (refLq gq (refC W (refX H G))) (ix3 R h d) = q H G W gq Wq R h d := by
  rw [refQ_at]
  simp only [lq_at]
  rfl

theorem kv_at (R : Fin 65536) (h : Fin 16) (d : Fin 128) :
    refKV Wk (refLk gk (refC W (refX H G))) (ix3 R h d) = kv H G W gk Wk R h d := by
  rw [refKV_at]
  simp only [lk_at]
  rfl

theorem outQ_at (R : Fin 65536) (o : Fin 2048) : outQ H G W gq Wq hq (ix2 R o) = queries H G W gq Wq hq R o := by
  unfold outQ queries
  rw [refR_at]
  simp only [refN_at, q_at, refG_at]

theorem outK_at (R : Fin 65536) (o : Fin 2048) : outK H G W gk Wk hk (ix2 R o) = keys H G W gk Wk hk R o := by
  unfold outK keys
  rw [refR_at]
  simp only [refN_at, refK_at, kv_at, refC_at]
  rfl

theorem outV_at (b : Fin 256) (e : Fin 1024) (s : Fin 256) : outV H G W gk Wk (ix3 b e s) = values H G W gk Wk b e s := by
  unfold outV values
  rw [refV_at, kv_at]

/-! ## The reference's results are those stages -/

section Res

variable (m : (ℓ : Loc nD τ sig) → Buf (Elt Ideal) ℓ) (d : Dev nD)

theorem resQ_eq : Value.res_main_v102 m d = outQ (m ((d.tc : Thread nD τ).loc main_arg0)) (m ((d.tc : Thread nD τ).loc main_arg1))
    (m ((d.tc : Thread nD τ).loc main_arg2)) (m ((d.tc : Thread nD τ).loc main_arg3)) (m ((d.tc : Thread nD τ).loc main_arg5))
    (m ((d.tc : Thread nD τ).loc main_arg7)) := rfl

theorem resK_eq : Value.res_main_v149 m d = outK (m ((d.tc : Thread nD τ).loc main_arg0)) (m ((d.tc : Thread nD τ).loc main_arg1))
    (m ((d.tc : Thread nD τ).loc main_arg2)) (m ((d.tc : Thread nD τ).loc main_arg4)) (m ((d.tc : Thread nD τ).loc main_arg6))
    (m ((d.tc : Thread nD τ).loc main_arg8)) := rfl

end Res

end Cert.MlaRef

end
-- ==== Proof.MlaMath.lean ====
/-
  The mathematics of a head in the attention layer's projection: the kernel sums squares over 128 lanes of which the last 32
  are zero, takes the small constant 96 times and a gain times the root of 96, and turns by three tables; the result is the
  reference's head normalised by its mean square, and turned.
-/
module

public import proofs.«01_k».proof.Proof.MlaBody
public import proofs.«01_k».proof.Proof.MlaRef
public import proofs.«01_k».proof.Proof.ProjMath

@[expose] public section

set_option maxRecDepth 16384

noncomputable section

namespace Cert.MlaMath

open Idealize.ShloMosaic Idealize.ShloMosaic.TcCoe Cert.Kernel7Ideal.Mla

theorem word_96 : Ideal.ofBits FTy.f32 0x42C00000#32 = ((96 : ℝ) : EReal) := by
  simp [Ideal.ofBits, Ideal.ieee]
  rw [← EReal.coe_mul]
  congr 1; norm_num

theorem word_384 : Ideal.ofBits FTy.f32 0x43C00000#32 = ((384 : ℝ) : EReal) := by
  simp [Ideal.ofBits, Ideal.ieee]
  rw [← EReal.coe_mul]
  congr 1; norm_num

theorem word_256 : Ideal.ofBits FTy.f32 0x43800000#32 = ((256 : ℝ) : EReal) := by
  simp [Ideal.ofBits, Ideal.ieee]
  rw [← EReal.coe_mul]
  congr 1; norm_num

theorem eps_96 : ((26388279 * 274877906944⁻¹ : ℝ) : EReal) = ((96 * ProjMath.eps : ℝ) : EReal) := by
  congr 1
  unfold ProjMath.eps; norm_num

/-- A vector divided by its root mean square is real, whatever the vector. -/
theorem unit_real {n : ℕ} (w : BitVec 32) (N : ℝ) (hw : Ideal.ofBits FTy.f32 w = (N : EReal)) (hN : 0 < N) (v : Fin n → EReal)
    (k : Fin n) : ∃ r : ℝ, MlaRef.unit w v k = (r : EReal) := by
  unfold MlaRef.unit
  rw [hw, ProjMath.eps_word]
  exact ProjMath.normed_real v k N ProjMath.eps hN ProjMath.eps_pos

/-- Products of reals are real. -/
theorem mul_real {a b : EReal} (ha : ∃ r : ℝ, a = (r : EReal)) (hb : ∃ r : ℝ, b = (r : EReal)) : ∃ r : ℝ, a * b = (r : EReal) := by
  obtain ⟨x, rfl⟩ := ha
  obtain ⟨y, rfl⟩ := hb
  exact ⟨x * y, (EReal.coe_mul x y).symm⟩

/-- Sums of reals are real. -/
theorem sum_real {n : ℕ} {f : Fin n → EReal} (h : ∀ k, ∃ r : ℝ, f k = (r : EReal)) : ∃ r : ℝ, ∑ k, f k = (r : EReal) := by
  choose v hv using h
  exact ⟨∑ k, v k, by rw [Softmax.coe_sum]; exact Finset.sum_congr rfl fun k _ => hv k⟩

/-- The root of 96, times a quotient by it. -/
theorem root_div (x : EReal) :
    ((Real.sqrt 96 : ℝ) : EReal) * Ideal.div x (Ideal.sqrt (Ideal.ofBits FTy.f32 0x42C00000#32)) = x := by
  have h0 : (0 : ℝ) < Real.sqrt 96 := Real.sqrt_pos.2 (by norm_num)
  have hs : Ideal.sqrt (Ideal.ofBits FTy.f32 0x42C00000#32) = ((Real.sqrt 96 : ℝ) : EReal) := by
    rw [word_96]
    show (if (96 : ℝ) < 0 then ⊥ else ((Real.sqrt 96 : ℝ) : EReal)) = _
    rw [if_neg (by norm_num)]
  rw [hs, Softmax.div_coe h0, ← mul_assoc, ← EReal.coe_mul, mul_inv_cancel₀ h0.ne', EReal.coe_one, one_mul]

section Head

variable (E : Vec Ideal Cert.Kernel7Ideal.S256x256 .bf16)
  (hE : ∀ l p : Fin 256, E (ix2 l p) = if l.val / 128 = p.val / 128 then (1 : EReal) else (0 : EReal))

include hE in
/-- A normalised entry of two heads side by side, each padded with 32 zeros. -/
theorem nent_eq (Y g : Fin 256 → EReal) (y : Fin 2 → Fin 96 → EReal) (g' : Fin 96 → EReal)
    (hy : ∀ j d, ∃ r : ℝ, y j d = (r : EReal))
    (hY : ∀ l : Fin 256, Y l = if h : l.val % 128 < 96 then y ⟨l.val / 128, by omega⟩ ⟨l.val % 128, h⟩ else 0)
    (hg : ∀ l : Fin 256, ∀ h : l.val % 128 < 96, g l = ((Real.sqrt 96 : ℝ) : EReal) * g' ⟨l.val % 128, h⟩) (p : Fin 256) :
    nent Y g E p = if h : p.val % 128 < 96 then MlaRef.headed (y ⟨p.val / 128, by omega⟩) g' ⟨p.val % 128, h⟩ else 0 := by
  choose v hv using hy
  unfold nent
  by_cases h : p.val % 128 < 96
  · rw [dif_pos h]
    have hr : ∀ l, Y l * Y l - Y l * Y l = 0 := fun l => by
      rw [hY]
      by_cases hl : l.val % 128 < 96
      · rw [dif_pos hl, hv, ← EReal.coe_mul, ← EReal.coe_sub, sub_self, EReal.coe_zero]
      · rw [dif_neg hl, zero_mul, sub_zero]
    have hs := ProjMath.head_sum 2 128 rfl (by decide) (fun l : Fin 256 => Y l * Y l) p
    have hsum : ∑ d : Fin 128, Y ⟨p.val / 128 * 128 + d.val, by omega⟩ * Y ⟨p.val / 128 * 128 + d.val, by omega⟩
        = ∑ d : Fin 96, y ⟨p.val / 128, by omega⟩ d * y ⟨p.val / 128, by omega⟩ d := by
      rw [show (∑ d : Fin 128, Y ⟨p.val / 128 * 128 + d.val, by omega⟩ * Y ⟨p.val / 128 * 128 + d.val, by omega⟩)
        = ∑ d : Fin (96 + 32), Y ⟨p.val / 128 * 128 + d.val, by omega⟩ * Y ⟨p.val / 128 * 128 + d.val, by omega⟩ from rfl,
        Fin.sum_univ_add]
      have h2 : ∑ d : Fin 32, Y ⟨p.val / 128 * 128 + (Fin.natAdd 96 d).val, by have := d.isLt; simp only [Fin.val_natAdd]; omega⟩
          * Y ⟨p.val / 128 * 128 + (Fin.natAdd 96 d).val, by have := d.isLt; simp only [Fin.val_natAdd]; omega⟩ = 0 :=
        Finset.sum_eq_zero fun d _ => by
          rw [hY, dif_neg (by show ¬ (p.val / 128 * 128 + (96 + d.val)) % 128 < 96; omega), zero_mul]
      refine (congrArg (_ + ·) h2).trans ?_
      rw [add_zero]
      refine Finset.sum_congr rfl fun d _ => ?_
      have hd : Y ⟨p.val / 128 * 128 + (Fin.castAdd 32 d).val, by have := d.isLt; simp only [Fin.val_castAdd]; omega⟩ = y ⟨p.val / 128, by omega⟩ d := by
        have hlt : (p.val / 128 * 128 + d.val) % 128 < 96 := by omega
        rw [hY]
        refine (dif_pos hlt).trans ?_
        exact congrArg₂ y (Fin.ext (by show (p.val / 128 * 128 + d.val) / 128 = p.val / 128; omega)) (Fin.ext (by show (p.val / 128 * 128 + d.val) % 128 = d.val; omega))
      rw [hd]
    simp only [hr, zero_mul, Finset.sum_const_zero, add_zero, hE]
    rw [hs, hsum, hY p, dif_pos h, hg p h]
    unfold MlaRef.headed MlaRef.unit
    have hS : ∑ d : Fin 96, y ⟨p.val / 128, by omega⟩ d * y ⟨p.val / 128, by omega⟩ d
        = ((∑ d : Fin 96, v ⟨p.val / 128, by omega⟩ d * v ⟨p.val / 128, by omega⟩ d : ℝ) : EReal) := by
      rw [Softmax.coe_sum]
      exact Finset.sum_congr rfl fun d _ => by rw [hv, EReal.coe_mul]
    have h0 : 0 ≤ ∑ d : Fin 96, v ⟨p.val / 128, by omega⟩ d * v ⟨p.val / 128, by omega⟩ d :=
      Finset.sum_nonneg fun d _ => mul_self_nonneg _
    rw [hS, word_96, ProjMath.eps_word, ← ProjMath.rsqrt_scale h0 (by norm_num) ProjMath.eps_pos, eps_96]
    generalize Ideal.rsqrt _ = u
    rw [mul_assoc, mul_assoc, mul_assoc]
  · rw [dif_neg h, hY, dif_neg h, zero_mul, zero_mul]

/-- The tables at a lane, and two heads side by side: the entry turned. -/
theorem tent_eq (n C U D : Fin 256 → EReal) (z : Fin 2 → Fin 96 → EReal) (s : Fin 4096)
    (hn : ∀ l : Fin 256, n l = if h : l.val % 128 < 96 then z ⟨l.val / 128, by omega⟩ ⟨l.val % 128, h⟩ else 0)
    (hC : ∀ l : Fin 256, C l = if l.val % 128 < 64 then 1 else if h1 : l.val % 128 < 80 then MlaRef.cosT (ix2 s ⟨l.val % 128 - 64, by omega⟩)
      else if h2 : l.val % 128 < 96 then MlaRef.cosT (ix2 s ⟨l.val % 128 - 80, by omega⟩) else 0)
    (hU : ∀ l : Fin 256, U l = if l.val % 128 < 80 then 0
      else if h2 : l.val % 128 < 96 then MlaRef.sinT (ix2 s ⟨l.val % 128 - 80, by omega⟩) else 0)
    (hD : ∀ l : Fin 256, D l = if l.val % 128 < 64 then 0 else if h1 : l.val % 128 < 80 then -MlaRef.sinT (ix2 s ⟨l.val % 128 - 64, by omega⟩)
      else 0) (p : Fin 256) :
    tent n C U D p = MlaRef.turn (z ⟨p.val / 128, by omega⟩) s ⟨p.val % 128, by omega⟩ := by
  unfold tent MlaRef.turn
  have hp := p.isLt
  by_cases h0 : p.val % 128 < 64
  · rw [dif_pos h0, hC, if_pos h0, hU, if_pos (by omega), hD, if_pos h0, mul_one, mul_zero, mul_zero, add_zero, add_zero, hn,
      dif_pos (by omega)]
  · by_cases h1 : p.val % 128 < 80
    · have e : n ⟨(p.val + 16) % 256, by omega⟩ = z ⟨p.val / 128, by omega⟩ ⟨p.val % 128 + 16, by omega⟩ := by
        rw [hn]
        refine (dif_pos (show (p.val + 16) % 256 % 128 < 96 by omega)).trans ?_
        exact congrArg₂ z (Fin.ext (by show (p.val + 16) % 256 / 128 = p.val / 128; omega)) (Fin.ext (by show (p.val + 16) % 256 % 128 = p.val % 128 + 16; omega))
      rw [dif_neg h0, dif_pos h1, hC, if_neg h0, dif_pos h1, hU, if_pos h1, hD, if_neg h0, dif_pos h1, mul_zero, add_zero, e, hn,
        dif_pos (by omega), mul_neg, ← sub_eq_add_neg]
    · by_cases h2 : p.val % 128 < 96
      · have e : n ⟨(p.val + 240) % 256, by omega⟩ = z ⟨p.val / 128, by omega⟩ ⟨p.val % 128 - 16, by omega⟩ := by
          rw [hn]
          refine (dif_pos (show (p.val + 240) % 256 % 128 < 96 by omega)).trans ?_
          exact congrArg₂ z (Fin.ext (by show (p.val + 240) % 256 / 128 = p.val / 128; omega)) (Fin.ext (by show (p.val + 240) % 256 % 128 = p.val % 128 - 16; omega))
        rw [dif_neg h0, dif_neg h1, dif_pos h2, hC, if_neg h0, dif_neg h1, dif_pos h2, hU, if_neg h1, dif_pos h2, hD, if_neg h0,
          dif_neg h1, mul_zero, add_zero, e, hn, dif_pos h2]
      · rw [dif_neg h0, dif_neg h1, dif_neg h2, hC, if_neg h0, dif_neg h1, dif_neg h2, hU, if_neg h1, dif_neg h2, hD, if_neg h0,
          dif_neg h1, mul_zero, mul_zero, mul_zero, add_zero, add_zero]

end Head

end Cert.MlaMath

end
-- ==== Proof.MlaHost.lean ====
/-
  The arrays the host lays out for the latent attention's projection call, read at an index: weights padded to whole
  128-column heads, gains for two heads side by side, the rotation's tables, and the matrix that sums squares by head.
-/
module

public import proofs.«01_k».proof.Proof.MlaMath
public import proofs.«01_k».proof.Proof.DilSeg
public import Idealize.ShloMosaic.Lib.KernelVsHost
public import Idealize.ShloMosaic.Lib.Pointwise

@[expose] public section

set_option maxRecDepth 16384

noncomputable section

namespace Cert.Kernel7Ideal.Mla

open Cert.Kernel7Ideal Cert.Kernel7Ideal.Gen Idealize.ShloMosaic Idealize.ShloMosaic.TcCoe Idealize.SL.Sem

/-- The word of zero reads as zero. -/
theorem word_0 : Ideal.ofBits FTy.f32 0x00000000#32 = 0 := by simp [Ideal.ofBits, Ideal.ieee]

/-- The word of one reads as one. -/
theorem word_1 : Ideal.ofBits FTy.f32 0x3F800000#32 = 1 := by
  simp [Ideal.ofBits, Ideal.ieee]
  rw [← EReal.coe_mul, ← EReal.coe_one]
  congr 1; norm_num

/-- The padding value. -/
def padding : FVec Ideal S_ .f32 := sitofp .f32 (constantI S_ 32 0#32)

theorem padding_at (i : S_.Idx) : padding i = 0 := by
  show (((0#32 : BitVec 32).toInt : ℝ) : EReal) = 0
  simp

/-! ## The first product's weights -/

/-- The weights, with 64 and 32 zero columns put in. -/
def hostW (W : FVec Ideal S1024x672 .f32) : FVec Ideal S1024x768 .bf16 :=
  truncf .bf16 ((concatenate S1024x768 1 [⟨S1024x640, (extractStridedSlice S1024x640 ![0, 0] W slices_S1024x672_S1024x640_0_0 : (⟨S1024x640, .f32⟩ : BufTy).Contents (Elt Ideal))⟩, ⟨S1024x64, (broadcastInDim S1024x64 ![] bcast_S_S1024x64 (constant (F := Ideal) S_ .f32 0x00000000#32) : (⟨S1024x64, .f32⟩ : BufTy).Contents (Elt Ideal))⟩, ⟨S1024x32, (extractStridedSlice S1024x32 ![0, 640] W slices_S1024x672_S1024x32_0_640 : (⟨S1024x32, .f32⟩ : BufTy).Contents (Elt Ideal))⟩, ⟨S1024x32, (broadcastInDim S1024x32 ![] bcast_S_S1024x32 (constant (F := Ideal) S_ .f32 0x00000000#32) : (⟨S1024x32, .f32⟩ : BufTy).Contents (Elt Ideal))⟩] concatenates_S1024x640_S1024x64_S1024x32_S1024x32_S1024x768_d1 : (⟨S1024x768, .f32⟩ : BufTy).Contents (Elt Ideal)) : FVec Ideal S1024x768 .f32) bitsLt_bf16_f32

theorem hostW_at (W : FVec Ideal S1024x672 .f32) (k : Fin 1024) (q : Fin 768) :
    hostW W (ix2 k q) = if h0 : q.val < 640 then W (ix2 k ⟨q.val, by omega⟩)
      else if q.val < 704 then 0
      else if h2 : q.val < 736 then W (ix2 k ⟨q.val - 64, by omega⟩) else 0 := by
  pointwise [hostW]
  by_cases h0 : q.val < 640
  · rw [dif_pos h0, dif_pos h0]
  · by_cases h1 : q.val < 704
    · rw [dif_neg h0, dif_pos (by omega), dif_neg h0, if_pos h1]
    · by_cases h2 : q.val < 736
      · rw [dif_neg h0, dif_neg (by omega), dif_pos (by omega), dif_neg h0, if_neg h1, dif_pos h2]
        exact congrArg (fun x => W (ix2 k x)) (Fin.ext (by show 640 + (q.val - 640 - 64) = q.val - 64; omega))
      · rw [dif_neg h0, dif_neg (by omega), dif_neg (by omega), dif_neg h0, if_neg h1, dif_neg h2]

/-! ## The heads' weights -/

theorem padQ_at (x : FVec Ideal S384x16x96 .f32) (k : Fin 384) (h : Fin 16) (d : Fin 128) :
    pad S384x16x128 ![0, 0, 0] ![0, 0, 32] ![0, 0, 0] x padding pads_S384x16x96_S384x16x128_000_000_0320 h_S_ (ix3 k h d)
      = if hd : d.val < 96 then x (ix3 k h ⟨d.val, hd⟩) else 0 := by
  by_cases hd : d.val < 96
  · rw [dif_pos hd]
    refine pad_apply_of_inside _ _ _ x padding _ _ _ (ix3 k h ⟨d.val, hd⟩) fun a => ?_
    match a with
    | ⟨0, _⟩ => show k.val = 0 + k.val * (0 + 1); omega
    | ⟨1, _⟩ => show h.val = 0 + h.val * (0 + 1); omega
    | ⟨2, _⟩ => show d.val = 0 + d.val * (0 + 1); omega
  · rw [dif_neg hd]
    refine (pad_apply_of_not_inside _ _ _ x padding _ _ _ (2 : Fin 3) ?_).trans (padding_at _)
    intro hc
    have h3 : (d.val - 0) / (0 + 1) < 96 := hc.2.2
    omega

theorem padK_at (x : FVec Ideal S256x16x64 .f32) (k : Fin 256) (h : Fin 16) (d : Fin 128) :
    pad S256x16x128 ![0, 0, 0] ![0, 0, 64] ![0, 0, 0] x padding pads_S256x16x64_S256x16x128_000_000_0640 h_S_ (ix3 k h d)
      = if hd : d.val < 64 then x (ix3 k h ⟨d.val, hd⟩) else 0 := by
  by_cases hd : d.val < 64
  · rw [dif_pos hd]
    refine pad_apply_of_inside _ _ _ x padding _ _ _ (ix3 k h ⟨d.val, hd⟩) fun a => ?_
    match a with
    | ⟨0, _⟩ => show k.val = 0 + k.val * (0 + 1); omega
    | ⟨1, _⟩ => show h.val = 0 + h.val * (0 + 1); omega
    | ⟨2, _⟩ => show d.val = 0 + d.val * (0 + 1); omega
  · rw [dif_neg hd]
    refine (pad_apply_of_not_inside _ _ _ x padding _ _ _ (2 : Fin 3) ?_).trans (padding_at _)
    intro hc
    have h3 : (d.val - 0) / (0 + 1) < 64 := hc.2.2
    omega

/-- The queries' weights, each head padded to 128 columns. -/
def hostWq (w : FVec Ideal S384x1536 .f32) : FVec Ideal S384x2048 .bf16 :=
  truncf .bf16 (shapeCast S384x2048 (pad S384x16x128 ![0, 0, 0] ![0, 0, 32] ![0, 0, 0] (shapeCast S384x16x96 w shapeCasts_S384x1536_S384x16x96) padding pads_S384x16x96_S384x16x128_000_000_0320 h_S_) shapeCasts_S384x16x128_S384x2048 : FVec Ideal S384x2048 .f32) bitsLt_bf16_f32

theorem hostWq_at (w : FVec Ideal S384x1536 .f32) (k : Fin 384) (o : Fin 2048) :
    hostWq w (ix2 k o) = if h : o.val % 128 < 96 then w (ix2 k ⟨96 * (o.val / 128) + o.val % 128, by omega⟩) else 0 := by
  unfold hostWq
  generalize hy : shapeCast S384x16x96 w shapeCasts_S384x1536_S384x16x96 = y
  have e : (shapeCast S384x2048 (pad S384x16x128 ![0, 0, 0] ![0, 0, 32] ![0, 0, 0] y padding pads_S384x16x96_S384x16x128_000_000_0320 h_S_) shapeCasts_S384x16x128_S384x2048) (ix2 k o)
      = pad S384x16x128 ![0, 0, 0] ![0, 0, 32] ![0, 0, 0] y padding pads_S384x16x96_S384x16x128_000_000_0320 h_S_ (ix3 k ⟨o.val / 128, by omega⟩ ⟨o.val % 128, by omega⟩) := by
    generalize pad S384x16x128 ![0, 0, 0] ![0, 0, 32] ![0, 0, 0] y padding pads_S384x16x96_S384x16x128_000_000_0320 h_S_ = z
    pointwise
  refine Eq.trans (show _ = _ from rfl) (e.trans ?_)
  rw [padQ_at]
  by_cases h : o.val % 128 < 96
  · rw [dif_pos h, dif_pos h, ← hy]
    pointwise
    exact congrArg (fun q => w (ix2 k q)) (Fin.ext (by show o.val / 128 * 96 + o.val % 128 = 96 * (o.val / 128) + o.val % 128; omega))
  · rw [dif_neg h, dif_neg h]

/-- The keys' weights, each head's first 64 columns padded to 128. -/
def hostWk (w : FVec Ideal S256x2048 .f32) : FVec Ideal S256x2048 .bf16 :=
  truncf .bf16 (shapeCast S256x2048 (pad S256x16x128 ![0, 0, 0] ![0, 0, 64] ![0, 0, 0] (extractStridedSlice S256x16x64 ![0, 0, 0] (shapeCast S256x16x128 w shapeCasts_S256x2048_S256x16x128) slices_S256x16x128_S256x16x64_0_0_0) padding pads_S256x16x64_S256x16x128_000_000_0640 h_S_) shapeCasts_S256x16x128_S256x2048 : FVec Ideal S256x2048 .f32) bitsLt_bf16_f32

theorem hostWk_at (w : FVec Ideal S256x2048 .f32) (k : Fin 256) (o : Fin 2048) :
    hostWk w (ix2 k o) = if o.val % 128 < 64 then w (ix2 k ⟨128 * (o.val / 128) + o.val % 128, by omega⟩) else 0 := by
  unfold hostWk
  generalize hy : extractStridedSlice S256x16x64 ![0, 0, 0] (shapeCast S256x16x128 w shapeCasts_S256x2048_S256x16x128) slices_S256x16x128_S256x16x64_0_0_0 = y
  have e : (shapeCast S256x2048 (pad S256x16x128 ![0, 0, 0] ![0, 0, 64] ![0, 0, 0] y padding pads_S256x16x64_S256x16x128_000_000_0640 h_S_) shapeCasts_S256x16x128_S256x2048) (ix2 k o)
      = pad S256x16x128 ![0, 0, 0] ![0, 0, 64] ![0, 0, 0] y padding pads_S256x16x64_S256x16x128_000_000_0640 h_S_ (ix3 k ⟨o.val / 128, by omega⟩ ⟨o.val % 128, by omega⟩) := by
    generalize pad S256x16x128 ![0, 0, 0] ![0, 0, 64] ![0, 0, 0] y padding pads_S256x16x64_S256x16x128_000_000_0640 h_S_ = z
    pointwise
  refine Eq.trans (show _ = _ from rfl) (e.trans ?_)
  rw [padK_at]
  by_cases h : o.val % 128 < 64
  · rw [dif_pos h, if_pos h, ← hy]
    pointwise
    exact congrArg (fun q => w (ix2 k q)) (Fin.ext (by show o.val = 128 * (o.val / 128) + o.val % 128; omega))
  · rw [dif_neg h, if_neg h]

/-- The values' weights: each head's last 64 columns. -/
def hostWv (w : FVec Ideal S256x2048 .f32) : FVec Ideal S256x1024 .bf16 :=
  truncf .bf16 (shapeCast S256x1024 (extractStridedSlice S256x16x64 ![0, 0, 64] (shapeCast S256x16x128 w shapeCasts_S256x2048_S256x16x128) slices_S256x16x128_S256x16x64_0_0_64) shapeCasts_S256x16x64_S256x1024 : FVec Ideal S256x1024 .f32) bitsLt_bf16_f32

theorem hostWv_at (w : FVec Ideal S256x2048 .f32) (k : Fin 256) (e : Fin 1024) :
    hostWv w (ix2 k e) = w (ix2 k ⟨128 * (e.val / 64) + (64 + e.val % 64), by omega⟩) := by
  pointwise [hostWv]
  exact congrArg (fun q => w (ix2 k q)) (Fin.ext (by show e.val / 64 * 128 + (64 + e.val % 64) = 128 * (e.val / 64) + (64 + e.val % 64); omega))

/-! ## The heads' gains -/

/-- A head's gains followed by 32 zeros. -/
def gains (g : FVec Ideal S96 .f32) : FVec Ideal S128 .f32 :=
  concatenate S128 0 [⟨S96, g⟩, ⟨S32, broadcastInDim S32 ![] bcast_S_S32 (constant S_ .f32 0x00000000#32)⟩] concatenates_S96_S32_S128_d0

theorem gains_at (g : FVec Ideal S96 .f32) (d : Fin 128) : gains g (ix1 d) = if h : d.val < 96 then g (ix1 ⟨d.val, h⟩) else 0 := by
  pointwise [gains]

/-- Two heads' gains side by side. -/
def twice (y : FVec Ideal S128 .f32) : FVec Ideal S1x256 .f32 :=
  shapeCast S1x256 (shapeCast S256 (broadcastInDim S2x128 ![0, 1] bcast_S1x128_S2x128_0_1 (shapeCast S1x128 y shapeCasts_S128_S1x128)) shapeCasts_S2x128_S256) shapeCasts_S256_S1x256

theorem twice_at (y : FVec Ideal S128 .f32) (p : Fin 256) : twice y (ix2 0 p) = y (ix1 ⟨p.val % 128, by omega⟩) := by
  pointwise [twice]

/-- The queries' gains with the base-two factor. -/
def hostQg (g : FVec Ideal S96 .f32) : FVec Ideal S1x256 .f32 :=
  twice (mulf (gains g) (broadcastInDim S128 ![] bcast_S_S128 (constant S_ .f32 0x3FB8AA3B#32)))

theorem hostQg_at (g : FVec Ideal S96 .f32) (p : Fin 256) (h : p.val % 128 < 96) :
    hostQg g (ix2 0 p) = g (ix1 ⟨p.val % 128, h⟩) * Ideal.ofBits FTy.f32 0x3FB8AA3B#32 := by
  unfold hostQg
  rw [twice_at]
  pointwise
  rw [gains_at, dif_pos h]

/-- The keys' gains. -/
def hostKg (g : FVec Ideal S96 .f32) : FVec Ideal S1x256 .f32 := twice (gains g)

theorem hostKg_at (g : FVec Ideal S96 .f32) (p : Fin 256) (h : p.val % 128 < 96) :
    hostKg g (ix2 0 p) = g (ix1 ⟨p.val % 128, h⟩) := by
  unfold hostKg
  rw [twice_at, gains_at, dif_pos h]

/-! ## The rotation's tables -/

/-- Four parts side by side. -/
def parts (a : FVec Ideal S4096x64 .f32) (u v : FVec Ideal S4096x16 .f32) (z : FVec Ideal S4096x32 .f32) : FVec Ideal S4096x128 .f32 :=
  (concatenate S4096x128 1 [⟨S4096x64, (a : (⟨S4096x64, .f32⟩ : BufTy).Contents (Elt Ideal))⟩, ⟨S4096x16, (u : (⟨S4096x16, .f32⟩ : BufTy).Contents (Elt Ideal))⟩, ⟨S4096x16, (v : (⟨S4096x16, .f32⟩ : BufTy).Contents (Elt Ideal))⟩, ⟨S4096x32, (z : (⟨S4096x32, .f32⟩ : BufTy).Contents (Elt Ideal))⟩] concatenates_S4096x64_S4096x16_S4096x16_S4096x32_S4096x128_d1 : (⟨S4096x128, .f32⟩ : BufTy).Contents (Elt Ideal))

theorem parts_at (a : FVec Ideal S4096x64 .f32) (u v : FVec Ideal S4096x16 .f32) (z : FVec Ideal S4096x32 .f32) (s : Fin 4096) (l : Fin 128) :
    parts a u v z (ix2 s l) = if h0 : l.val < 64 then a (ix2 s ⟨l.val, h0⟩)
      else if h1 : l.val < 80 then u (ix2 s ⟨l.val - 64, by omega⟩)
      else if h2 : l.val < 96 then v (ix2 s ⟨l.val - 80, by omega⟩) else z (ix2 s ⟨l.val - 96, by omega⟩) := by
  pointwise [parts]
  by_cases h0 : l.val < 64
  · rw [dif_pos h0, dif_pos h0]
  · by_cases h1 : l.val < 80
    · rw [dif_neg h0, dif_pos (by omega), dif_neg h0, dif_pos h1]
    · by_cases h2 : l.val < 96
      · rw [dif_neg h0, dif_neg (by omega), dif_pos (by omega), dif_neg h0, dif_neg h1, dif_pos h2]
        exact congrArg (fun x => v (ix2 s x)) (Fin.ext (by show l.val - 64 - 16 = l.val - 80; omega))
      · rw [dif_neg h0, dif_neg (by omega), dif_neg (by omega), dif_neg h0, dif_neg h1, dif_neg h2]
        exact congrArg (fun x => z (ix2 s x)) (Fin.ext (by show l.val - 64 - 16 - 16 = l.val - 96; omega))

/-- A table for two heads. -/
def tiled (y : FVec Ideal S4096x128 .f32) : FVec Ideal S4096x256 .f32 :=
  shapeCast S4096x256 (broadcastInDim S1x4096x2x128 ![0, 1, 2, 3] bcast_S1x4096x1x128_S1x4096x2x128_0_1_2_3 (shapeCast S1x4096x1x128 y shapeCasts_S4096x128_S1x4096x1x128)) shapeCasts_S1x4096x2x128_S4096x256

theorem tiled_at (y : FVec Ideal S4096x128 .f32) (s : Fin 4096) (p : Fin 256) :
    tiled y (ix2 s p) = y (ix2 s ⟨p.val % 128, by omega⟩) := by
  pointwise [tiled]

/-- Zeros, 64 columns. -/
def zero64 : FVec Ideal S4096x64 .f32 := broadcastInDim S4096x64 ![] bcast_S_S4096x64 (constant S_ .f32 0x00000000#32)
/-- Ones, 64 columns. -/
def one64 : FVec Ideal S4096x64 .f32 := broadcastInDim S4096x64 ![] bcast_S_S4096x64 (constant S_ .f32 0x3F800000#32)
/-- Zeros, 16 columns. -/
def zero16 : FVec Ideal S4096x16 .f32 := broadcastInDim S4096x16 ![] bcast_S_S4096x16 (constant S_ .f32 0x00000000#32)
/-- Zeros, 32 columns. -/
def zero32 : FVec Ideal S4096x32 .f32 := broadcastInDim S4096x32 ![] bcast_S_S4096x32 (constant S_ .f32 0x00000000#32)

theorem zero64_at (i : S4096x64.Idx) : zero64 i = 0 := word_0
theorem one64_at (i : S4096x64.Idx) : one64 i = 1 := word_1
theorem zero16_at (i : S4096x16.Idx) : zero16 i = 0 := word_0
theorem zero32_at (i : S4096x32.Idx) : zero32 i = 0 := word_0

/-- The cosines' table. -/
def hostC : FVec Ideal S4096x256 .f32 := tiled (parts one64 MlaRef.cosT MlaRef.cosT zero32)
/-- The sines' table for a partner 16 columns before. -/
def hostU : FVec Ideal S4096x256 .f32 := tiled (parts zero64 zero16 MlaRef.sinT zero32)
/-- The sines' table for a partner 16 columns after. -/
def hostD : FVec Ideal S4096x256 .f32 := tiled (parts zero64 (Host.negf MlaRef.sinT) zero16 zero32)

theorem hostC_at (s : Fin 4096) (l : Fin 256) : hostC (ix2 s l)
    = if l.val % 128 < 64 then 1 else if h1 : l.val % 128 < 80 then MlaRef.cosT (ix2 s ⟨l.val % 128 - 64, by omega⟩)
      else if h2 : l.val % 128 < 96 then MlaRef.cosT (ix2 s ⟨l.val % 128 - 80, by omega⟩) else 0 := by
  unfold hostC
  rw [tiled_at, parts_at]
  simp only [one64_at, zero32_at]
  rfl

theorem hostU_at (s : Fin 4096) (l : Fin 256) : hostU (ix2 s l)
    = if l.val % 128 < 80 then 0
      else if h2 : l.val % 128 < 96 then MlaRef.sinT (ix2 s ⟨l.val % 128 - 80, by omega⟩) else 0 := by
  unfold hostU
  rw [tiled_at, parts_at]
  simp only [zero64_at, zero16_at, zero32_at]
  by_cases h0 : l.val % 128 < 64
  · rw [dif_pos h0, if_pos (by omega)]
  · by_cases h1 : l.val % 128 < 80
    · rw [dif_neg h0, dif_pos h1, if_pos h1]
    · rw [dif_neg h0, dif_neg h1, if_neg h1]

theorem hostD_at (s : Fin 4096) (l : Fin 256) : hostD (ix2 s l)
    = if l.val % 128 < 64 then 0 else if h1 : l.val % 128 < 80 then -MlaRef.sinT (ix2 s ⟨l.val % 128 - 64, by omega⟩)
      else 0 := by
  unfold hostD
  rw [tiled_at, parts_at]
  simp only [zero64_at, zero16_at, zero32_at]
  by_cases h0 : l.val % 128 < 64
  · rw [dif_pos h0, if_pos h0]
  · by_cases h1 : l.val % 128 < 80
    · rw [dif_neg h0, dif_pos h1, if_neg h0, dif_pos h1]
      rfl
    · rw [dif_neg h0, dif_neg h1, if_neg h0, dif_neg h1]
      simp

/-! ## The buffers -/

variable (m : (ℓ : Loc nD τ sig) → Buf (Elt Ideal) ℓ) (c : Dev nD)

theorem V_W : V m c main_v5 = hostW (m ((c : Thread nD τ).loc main_arg2)) := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem V_Wq : V m c main_v9 = hostWq (m ((c : Thread nD τ).loc main_arg5)) := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

theorem V_Wk : V m c main_v14 = hostWk (m ((c : Thread nD τ).loc main_arg6)) := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

theorem V_Wv : V m c main_v18 = hostWv (m ((c : Thread nD τ).loc main_arg6)) := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

theorem V_qg : V m c main_v26 = hostQg (m ((c : Thread nD τ).loc main_arg7)) := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

theorem V_kg : V m c main_v31 = hostKg (m ((c : Thread nD τ).loc main_arg8)) := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

theorem V_C : V m c main_v61 = hostC := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem V_U : V m c main_v64 = hostU := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem V_D : V m c main_v67 = hostD := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results
  rfl

theorem V_E : V m c main_v76 = Cert.Kernel4Ideal.Dil.segs := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

theorem V_G : V m c main_v77 = shapeCast S1x1024 (m ((c : Thread nD τ).loc main_arg1)) shapeCasts_S1024_S1x1024 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

theorem V_gq : V m c main_v78 = shapeCast S1x384 (m ((c : Thread nD τ).loc main_arg3)) shapeCasts_S384_S1x384 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

theorem V_gk : V m c main_v79 = shapeCast S1x256 (m ((c : Thread nD τ).loc main_arg4)) shapeCasts_S256_S1x256 := by
  simp only [V, hostOps0, hostOps0_1, hostOps0_2, hostOps0_3, hostOps0_4, hostOps0_5, hostOps0_6, hostOps0_7, hostOps0_8, List.flatten_cons,
    List.flatten_nil, List.append_nil, List.cons_append, List.nil_append]
  after_results_simp
  rfl

end Cert.Kernel7Ideal.Mla

end
-- ==== Proof.MlaRows.lean ====
/-
  One block of the latent attention's projection call, entry by entry: when the block's inputs are the arrays' rows and the
  arrays the host lays out, the entries are the formulas of `MlaRef`.
-/
module

public import proofs.«01_k».proof.Proof.MlaMath
public import proofs.«01_k».proof.Proof.MlaHost
public import Idealize.ShloMosaic.Lib.Pointwise

@[expose] public section

set_option maxRecDepth 16384

noncomputable section

namespace Cert.Kernel7Ideal.Mla

open Cert.Kernel7Ideal Cert.Kernel7Ideal.Gen Idealize.ShloMosaic Idealize.ShloMosaic.TcCoe Idealize.SL.Sem

/-! ## The body's payloads at an index -/

section Payloads

variable (x0 : Vec Ideal S512x1024 .f32) (x1 : Vec Ideal S1x1024 .f32) (x2 : Vec Ideal S1024x768 .bf16) (x3 : Vec Ideal S1x384 .f32)
  (x4 : Vec Ideal S1x256 .f32) (x5 : Vec Ideal S384x2048 .bf16) (x6 : Vec Ideal S256x2048 .bf16) (x7 : Vec Ideal S256x1024 .bf16)

theorem first_at (r : Fin 512) (q : Fin 768) : k0_pay1 x0 x1 x2 (ix2 r q)
    = ∑ k, (MlaRef.unit 0x44800000#32 (fun x : Fin 1024 => x0 (ix2 r x)) k * x1 (ix2 0 k)) * x2 (ix2 k q) := by
  pointwise [k0_pay1, MlaRef.unit]

theorem latentQ_at (r : Fin 512) (k : Fin 384) : k0_pay2 x0 x1 x2 x3 (ix2 r k)
    = MlaRef.unit 0x43C00000#32 (fun x : Fin 384 => k0_pay1 x0 x1 x2 (ix2 r ⟨x.val, by omega⟩)) k * x3 (ix2 0 k) := by
  pointwise [k0_pay2, MlaRef.unit]

theorem latent_at (r : Fin 512) (k : Fin 256) : latent x0 x1 x2 x4 (ix2 r k)
    = MlaRef.unit 0x43800000#32 (fun x : Fin 256 => k0_pay1 x0 x1 x2 (ix2 r ⟨384 + x.val, by omega⟩)) k * x4 (ix2 0 k) := by
  pointwise [latent, k0_pay6, k0_pay5, k0_pay4, k0_pay3, MlaRef.unit]

theorem headsQ_at (r : Fin 512) (o : Fin 2048) : headsQ x0 x1 x2 x3 x5 (ix2 r o)
    = ∑ k, k0_pay2 x0 x1 x2 x3 (ix2 r k) * x5 (ix2 k o) := by
  pointwise [headsQ, k0_pay8]

theorem headsK_at (r : Fin 512) (o : Fin 2048) : headsK x0 x1 x2 x4 x6 (ix2 r o)
    = ∑ k, latent x0 x1 x2 x4 (ix2 r k) * x6 (ix2 k o) := by
  unfold headsK latent
  generalize k0_pay3 x0 x1 x2 = a
  generalize k0_pay4 x4 = b
  generalize k0_pay5 x0 x1 x2 = d
  pointwise [k0_pay9]

theorem headsV_at (r : Fin 512) (o : Fin 1024) : headsV x0 x1 x2 x4 x7 (ix2 r o)
    = ∑ k, latent x0 x1 x2 x4 (ix2 r k) * x7 (ix2 k o) := by
  unfold headsV latent
  generalize k0_pay3 x0 x1 x2 = a
  generalize k0_pay4 x4 = b
  generalize k0_pay5 x0 x1 x2 = d
  pointwise [k0_pay10]

theorem shared_at (r : Fin 512) (l : Fin 256) : shared x0 x1 x2 (ix2 r l)
    = k0_pay1 x0 x1 x2 (ix2 r ⟨640 + l.val % 128, by omega⟩) := by
  unfold shared
  generalize k0_pay1 x0 x1 x2 = y
  pointwise [k0_pay17, k0_pay7]
  have hl := l.isLt
  by_cases h : l.val < 128
  · rw [dif_pos h]
    exact congrArg (fun q => y (ix2 r q)) (Fin.ext (by show 640 + l.val = 640 + l.val % 128; omega))
  · rw [dif_neg h]
    exact congrArg (fun q => y (ix2 r q)) (Fin.ext (by show 640 + (l.val - 128) = 640 + l.val % 128; omega))

end Payloads

/-! ## A block's rows -/

/-- A row's place in its sequence. -/
def place (R : Fin 65536) : Fin 4096 := ⟨R.val % 4096, by omega⟩

section Rows

variable (H : Vec Ideal S65536x1024 .f32) (G : Vec Ideal S1024 .f32) (W : Vec Ideal S1024x672 .f32)
  (gq : Vec Ideal S384 .f32) (gk : Vec Ideal S256 .f32) (Wq : Vec Ideal S384x1536 .f32) (Wk : Vec Ideal S256x2048 .f32)
  (hq : Vec Ideal S96 .f32) (hk : Vec Ideal S96 .f32)

/-- The arguments that the normalisation by a low part needs real. -/
structure Reals : Prop where
  G : ∀ i, ∃ y : ℝ, G (ix1 i) = (y : EReal)
  W : ∀ i j, ∃ y : ℝ, W (ix2 i j) = (y : EReal)
  gq : ∀ i, ∃ y : ℝ, gq (ix1 i) = (y : EReal)
  gk : ∀ i, ∃ y : ℝ, gk (ix1 i) = (y : EReal)
  Wq : ∀ i j, ∃ y : ℝ, Wq (ix2 i j) = (y : EReal)
  Wk : ∀ i j, ∃ y : ℝ, Wk (ix2 i j) = (y : EReal)

variable {G W gq gk Wq Wk}

theorem c_real (hr : Reals G W gq gk Wq Wk) (R : Fin 65536) (q : Fin 672) : ∃ y : ℝ, MlaRef.c H G W R q = (y : EReal) :=
  MlaMath.sum_real fun k => MlaMath.mul_real
    (MlaMath.mul_real (MlaMath.unit_real _ 1024 ProjMath.word_1024 (by norm_num) _ k) (hr.G k)) (hr.W k q)

theorem q_real (hr : Reals G W gq gk Wq Wk) (R : Fin 65536) (h : Fin 16) (d : Fin 96) :
    ∃ y : ℝ, MlaRef.q H G W gq Wq R h d = (y : EReal) :=
  MlaMath.sum_real fun k => MlaMath.mul_real
    (MlaMath.mul_real (MlaMath.unit_real _ 384 MlaMath.word_384 (by norm_num) _ k) (hr.gq k)) (hr.Wq k _)

theorem kv_real (hr : Reals G W gq gk Wq Wk) (R : Fin 65536) (h : Fin 16) (d : Fin 128) :
    ∃ y : ℝ, MlaRef.kv H G W gk Wk R h d = (y : EReal) :=
  MlaMath.sum_real fun k => MlaMath.mul_real
    (MlaMath.mul_real (MlaMath.unit_real _ 256 MlaMath.word_256 (by norm_num) _ k) (hr.gk k)) (hr.Wk k _)

theorem kh_real (hr : Reals G W gq gk Wq Wk) (R : Fin 65536) (h : Fin 16) (d : Fin 96) :
    ∃ y : ℝ, MlaRef.kh H G W gk Wk R h d = (y : EReal) := by
  unfold MlaRef.kh
  by_cases hd : d.val < 64
  · rw [dif_pos hd]; exact kv_real H hr R h _
  · rw [dif_neg hd]; exact c_real H hr R _

variable (G W gq gk Wq Wk)
variable (x0 : Vec Ideal S512x1024 .f32) (x1 : Vec Ideal S1x1024 .f32) (x2 : Vec Ideal S1024x768 .bf16) (x3 : Vec Ideal S1x384 .f32)
  (x4 : Vec Ideal S1x256 .f32) (x5 : Vec Ideal S384x2048 .bf16) (x6 : Vec Ideal S256x2048 .bf16) (x7 : Vec Ideal S256x1024 .bf16)

/-- The block's inputs: row `r` of the block is row `R` of the rows, and the rest are the arrays the host lays out. -/
structure Inputs (R : Fin 65536) (r : Fin 512) : Prop where
  x0 : ∀ k, x0 (ix2 r k) = H (ix2 R k)
  x1 : ∀ k, x1 (ix2 0 k) = G (ix1 k)
  x2 : ∀ k q, x2 (ix2 k q) = hostW W (ix2 k q)
  x3 : ∀ k, x3 (ix2 0 k) = gq (ix1 k)
  x4 : ∀ k, x4 (ix2 0 k) = gk (ix1 k)
  x5 : ∀ k o, x5 (ix2 k o) = hostWq Wq (ix2 k o)
  x6 : ∀ k o, x6 (ix2 k o) = hostWk Wk (ix2 k o)
  x7 : ∀ k e, x7 (ix2 k e) = hostWv Wk (ix2 k e)

variable {H G W gq gk Wq Wk x0 x1 x2 x3 x4 x5 x6 x7} {R : Fin 65536} {r : Fin 512}
  (hi : Inputs H G W gq gk Wq Wk x0 x1 x2 x3 x4 x5 x6 x7 R r)

include hi

/-- A column of the first product, in the padded layout. -/
theorem first_eq (q : Fin 768) : k0_pay1 x0 x1 x2 (ix2 r q) = if h0 : q.val < 640 then MlaRef.c H G W R ⟨q.val, by omega⟩
    else if q.val < 704 then 0 else if h2 : q.val < 736 then MlaRef.c H G W R ⟨q.val - 64, by omega⟩ else 0 := by
  rw [first_at]
  simp only [hi.x0, hi.x1, hi.x2, hostW_at]
  by_cases h0 : q.val < 640
  · simp only [dif_pos h0]; rfl
  · by_cases h1 : q.val < 704
    · simp only [dif_neg h0, if_pos h1, mul_zero, Finset.sum_const_zero]
    · by_cases h2 : q.val < 736
      · simp only [dif_neg h0, if_neg h1, dif_pos h2]; rfl
      · simp only [dif_neg h0, if_neg h1, dif_neg h2, mul_zero, Finset.sum_const_zero]

theorem latentQ_eq (k : Fin 384) : k0_pay2 x0 x1 x2 x3 (ix2 r k) = MlaRef.cq H G W gq R k := by
  rw [latentQ_at, hi.x3]
  have h : ∀ x : Fin 384, k0_pay1 x0 x1 x2 (ix2 r ⟨x.val, by omega⟩) = MlaRef.c H G W R ⟨x.val, by omega⟩ := fun x => by
    rw [first_eq hi]; exact dif_pos (by show x.val < 640; omega)
  simp only [h]
  rfl

theorem latent_eq (k : Fin 256) : latent x0 x1 x2 x4 (ix2 r k) = MlaRef.ck H G W gk R k := by
  rw [latent_at, hi.x4]
  have h : ∀ x : Fin 256, k0_pay1 x0 x1 x2 (ix2 r ⟨384 + x.val, by omega⟩) = MlaRef.c H G W R ⟨384 + x.val, by omega⟩ := fun x => by
    rw [first_eq hi]; exact dif_pos (by show 384 + x.val < 640; omega)
  simp only [h]
  rfl

theorem headsQ_eq (o : Fin 2048) : headsQ x0 x1 x2 x3 x5 (ix2 r o)
    = if h : o.val % 128 < 96 then MlaRef.q H G W gq Wq R ⟨o.val / 128, by omega⟩ ⟨o.val % 128, h⟩ else 0 := by
  rw [headsQ_at]
  simp only [latentQ_eq hi, hi.x5, hostWq_at]
  by_cases h : o.val % 128 < 96
  · simp only [dif_pos h]; rfl
  · simp only [dif_neg h, mul_zero, Finset.sum_const_zero]

theorem headsK_eq (o : Fin 2048) : headsK x0 x1 x2 x4 x6 (ix2 r o)
    = if o.val % 128 < 64 then MlaRef.kv H G W gk Wk R ⟨o.val / 128, by omega⟩ ⟨o.val % 128, by omega⟩ else 0 := by
  rw [headsK_at]
  simp only [latent_eq hi, hi.x6, hostWk_at]
  by_cases h : o.val % 128 < 64
  · simp only [if_pos h]; rfl
  · simp only [if_neg h, mul_zero, Finset.sum_const_zero]

theorem headsV_eq (e : Fin 1024) : headsV x0 x1 x2 x4 x7 (ix2 r e)
    = MlaRef.kv H G W gk Wk R ⟨e.val / 64, by omega⟩ ⟨64 + e.val % 64, by omega⟩ := by
  rw [headsV_at]
  simp only [latent_eq hi, hi.x7, hostWv_at]
  rfl

theorem keys_eq (o : Fin 2048) (l : Fin 256) (hl : l.val % 128 = o.val % 128) :
    headsK x0 x1 x2 x4 x6 (ix2 r o) + shared x0 x1 x2 (ix2 r l)
    = if h : o.val % 128 < 96 then MlaRef.kh H G W gk Wk R ⟨o.val / 128, by omega⟩ ⟨o.val % 128, h⟩ else 0 := by
  rw [headsK_eq hi, shared_at, first_eq hi, dif_neg (by show ¬ 640 + l.val % 128 < 640; omega)]
  unfold MlaRef.kh
  by_cases h0 : o.val % 128 < 64
  · rw [if_pos h0, dif_pos (show o.val % 128 < 96 by omega), if_pos (by show 640 + l.val % 128 < 704; omega), add_zero]
    refine Eq.trans ?_ (dif_pos h0).symm
    rfl
  · rw [if_neg h0, if_neg (by show ¬ 640 + l.val % 128 < 704; omega), zero_add]
    by_cases h1 : o.val % 128 < 96
    · rw [dif_pos (show 640 + l.val % 128 < 736 by omega), dif_pos h1]
      refine Eq.trans ?_ (dif_neg h0).symm
      exact congrArg (MlaRef.c H G W R) (Fin.ext (by show 640 + l.val % 128 - 64 = 640 + (o.val % 128 - 64); omega))
    · rw [dif_neg (show ¬ 640 + l.val % 128 < 736 by omega), dif_neg h1]

variable {hq hk} {x8 x9 : Vec Ideal S1x256 .f32} {x10 x11 x12 : Vec Ideal S512x256 .f32} {x13 : Vec Ideal S256x256 .bf16}
  (hr : Reals G W gq gk Wq Wk)
  (h10 : ∀ l, x10 (ix2 r l) = hostC (ix2 (place R) l))
  (h11 : ∀ l, x11 (ix2 r l) = hostU (ix2 (place R) l))
  (h12 : ∀ l, x12 (ix2 r l) = hostD (ix2 (place R) l))
  (h13 : ∀ l p : Fin 256, x13 (ix2 l p) = if l.val / 128 = p.val / 128 then (1 : EReal) else (0 : EReal))

include hr h10 h11 h12 h13

theorem entQ_eq (h8 : ∀ l, x8 (ix2 0 l) = hostQg hq (ix2 0 l)) (o : Fin 2048) :
    entQ (headsQ x0 x1 x2 x3 x5) x8 x13 x10 x11 x12 r o = MlaRef.queries H G W gq Wq hq R o := by
  unfold entQ MlaRef.queries
  have ho := o.isLt
  refine (MlaMath.tent_eq _ _ _ _ (fun j : Fin 2 => MlaRef.headed (MlaRef.q H G W gq Wq R ⟨2 * (o.val / 256) + j.val, by omega⟩) (MlaRef.gain hq))
    ⟨R.val % 4096, by omega⟩ (fun l => ?_) (fun l => ?_) (fun l => ?_) (fun l => ?_) _).trans ?_
  · refine MlaMath.nent_eq x13 h13 _ _ (fun j : Fin 2 => MlaRef.q H G W gq Wq R ⟨2 * (o.val / 256) + j.val, by omega⟩) (MlaRef.gain hq)
      (fun j d => q_real H hr R _ d) (fun l => ?_) (fun l h => ?_) l
    · rw [headsQ_eq hi]
      have e : (o.val / 256 * 256 + l.val) % 128 = l.val % 128 := by omega
      by_cases h : l.val % 128 < 96
      · rw [dif_pos h, dif_pos (show (o.val / 256 * 256 + l.val) % 128 < 96 by omega)]
        exact congrArg₂ (MlaRef.q H G W gq Wq R) (Fin.ext (by show (o.val / 256 * 256 + l.val) / 128 = 2 * (o.val / 256) + l.val / 128; omega)) (Fin.ext e)
      · rw [dif_neg h, dif_neg (show ¬ (o.val / 256 * 256 + l.val) % 128 < 96 by omega)]
    · show x8 (ix2 0 l) = _
      rw [h8, hostQg_at _ _ h]
      exact (MlaMath.root_div _).symm
  · exact (h10 l).trans (hostC_at _ l)
  · exact (h11 l).trans (hostU_at _ l)
  · exact (h12 l).trans (hostD_at _ l)
  · have e1 : (⟨2 * (o.val / 256) + o.val % 256 / 128, by omega⟩ : Fin 16) = ⟨o.val / 128, by omega⟩ := Fin.ext (by
      show 2 * (o.val / 256) + o.val % 256 / 128 = o.val / 128; omega)
    have e2 : (⟨o.val % 256 % 128, by omega⟩ : Fin 128) = ⟨o.val % 128, by omega⟩ := Fin.ext (by
      show o.val % 256 % 128 = o.val % 128; omega)
    exact congrArg₂ (fun h l => MlaRef.turn (MlaRef.headed (MlaRef.q H G W gq Wq R h) (MlaRef.gain hq)) ⟨R.val % 4096, by omega⟩ l) e1 e2

theorem entK_eq (h9 : ∀ l, x9 (ix2 0 l) = hostKg hk (ix2 0 l)) (o : Fin 2048) :
    entK (headsK x0 x1 x2 x4 x6) (shared x0 x1 x2) x9 x13 x10 x11 x12 r o = MlaRef.keys H G W gk Wk hk R o := by
  unfold entK MlaRef.keys
  have ho := o.isLt
  refine (MlaMath.tent_eq _ _ _ _ (fun j : Fin 2 => MlaRef.headed (MlaRef.kh H G W gk Wk R ⟨2 * (o.val / 256) + j.val, by omega⟩) (fun d => hk (ix1 d)))
    ⟨R.val % 4096, by omega⟩ (fun l => ?_) (fun l => ?_) (fun l => ?_) (fun l => ?_) _).trans ?_
  · refine MlaMath.nent_eq x13 h13 _ _ (fun j : Fin 2 => MlaRef.kh H G W gk Wk R ⟨2 * (o.val / 256) + j.val, by omega⟩) (fun d => hk (ix1 d))
      (fun j d => kh_real H hr R _ d) (fun l => ?_) (fun l h => ?_) l
    · have e : (o.val / 256 * 256 + l.val) % 128 = l.val % 128 := by omega
      refine (keys_eq hi ⟨o.val / 256 * 256 + l.val, by omega⟩ l e.symm).trans ?_
      by_cases h : l.val % 128 < 96
      · rw [dif_pos h, dif_pos (show (o.val / 256 * 256 + l.val) % 128 < 96 by omega)]
        exact congrArg₂ (MlaRef.kh H G W gk Wk R) (Fin.ext (by show (o.val / 256 * 256 + l.val) / 128 = 2 * (o.val / 256) + l.val / 128; omega)) (Fin.ext e)
      · rw [dif_neg h, dif_neg (show ¬ (o.val / 256 * 256 + l.val) % 128 < 96 by omega)]
    · show x9 (ix2 0 l) * _ = _
      rw [h9, hostKg_at _ _ h, mul_comm]
  · exact (h10 l).trans (hostC_at _ l)
  · exact (h11 l).trans (hostU_at _ l)
  · exact (h12 l).trans (hostD_at _ l)
  · have e1 : (⟨2 * (o.val / 256) + o.val % 256 / 128, by omega⟩ : Fin 16) = ⟨o.val / 128, by omega⟩ := Fin.ext (by
      show 2 * (o.val / 256) + o.val % 256 / 128 = o.val / 128; omega)
    have e2 : (⟨o.val % 256 % 128, by omega⟩ : Fin 128) = ⟨o.val % 128, by omega⟩ := Fin.ext (by
      show o.val % 256 % 128 = o.val % 128; omega)
    exact congrArg₂ (fun h l => MlaRef.turn (MlaRef.headed (MlaRef.kh H G W gk Wk R h) (fun d => hk (ix1 d))) ⟨R.val % 4096, by omega⟩ l) e1 e2

end Rows

end Cert.Kernel7Ideal.Mla

end
-- ==== Proof.MlaValue.lean ====
/-
  The latent attention's projection call: its three result arrays over the extended reals, when the gains and the weights before the
  heads' normalisations are real: at every element, the formulas of `MlaRef`.
-/
module

public import proofs.«01_k».proof.Proof.MlaRows
public import Idealize.ShloMosaic.Lib.Pointwise

@[expose] public section

set_option maxRecDepth 16384

noncomputable section

namespace Cert.Kernel7Ideal.Mla

open Cert.Kernel7Ideal Cert.Kernel7Ideal.Gen Idealize.ShloMosaic Idealize.ShloMosaic.TcCoe Idealize.SL.Sem

variable (m : (ℓ : Loc nD τ sig) → Buf (Elt Ideal) ℓ) (ρ : Dev nD → PrngReg) (c : Dev nD)

theorem N_eq : cfg0.N = 128 := N_0

/-- Row `r` of point `t`'s block, as a row of the array. -/
def row (t : Fin cfg0.N) (r : Fin 512) : Fin 65536 :=
  ⟨t.val * 512 + r.val, by have h := lt_of_lt_of_eq t.isLt N_eq; omega⟩

/-! ## The arguments and the input blocks -/

abbrev A0 := m ((c : Thread nD τ).loc main_arg0)
abbrev A1 := m ((c : Thread nD τ).loc main_arg1)
abbrev A2 := m ((c : Thread nD τ).loc main_arg2)
abbrev A3 := m ((c : Thread nD τ).loc main_arg3)
abbrev A4 := m ((c : Thread nD τ).loc main_arg4)
abbrev A5 := m ((c : Thread nD τ).loc main_arg5)
abbrev A6 := m ((c : Thread nD τ).loc main_arg6)
abbrev A7 := m ((c : Thread nD τ).loc main_arg7)
abbrev A8 := m ((c : Thread nD τ).loc main_arg8)

theorem map0 : ∀ t : Fin cfg0.N, win0_0.index t (0 : Fin 2) = t.val ∧ win0_0.index t (1 : Fin 2) = 0 :=
  (by decide +kernel : ∀ t : Fin grid0.N, _)

theorem blk0_at (t : Fin cfg0.N) (k : Fin 512) (q : Fin 1024) :
    (iblk m c 0 t : Vec Ideal S512x1024 .f32) (ix2 k q) = V m c main_arg0 (ix2 (row t k) q) := by
  obtain ⟨e0, e1⟩ := map0 t
  unfold iblk
  rw [View.read_apply]
  show V m c main_arg0 _ = _
  congr 1
  funext a; apply Fin.ext
  match a with
  | ⟨0, _⟩ => show win0_0.index t (0 : Fin 2) * 512 + 1 * k.val = t.val * 512 + k.val; omega
  | ⟨1, _⟩ => show win0_0.index t (1 : Fin 2) * 1024 + 1 * q.val = q.val; omega

theorem map1 : ∀ t : Fin cfg0.N, win0_1.index t (0 : Fin 2) = 0 ∧ win0_1.index t (1 : Fin 2) = 0 :=
  (by decide +kernel : ∀ t : Fin grid0.N, _)

theorem blk1_at (t : Fin cfg0.N) (k : Fin 1) (q : Fin 1024) :
    (iblk m c 1 t : Vec Ideal S1x1024 .f32) (ix2 k q) = V m c main_v77 (ix2 (k) q) := by
  obtain ⟨e0, e1⟩ := map1 t
  unfold iblk
  rw [View.read_apply]
  show V m c main_v77 _ = _
  congr 1
  funext a; apply Fin.ext
  match a with
  | ⟨0, _⟩ => show win0_1.index t (0 : Fin 2) * 1 + 1 * k.val = k.val; omega
  | ⟨1, _⟩ => show win0_1.index t (1 : Fin 2) * 1024 + 1 * q.val = q.val; omega

theorem map2 : ∀ t : Fin cfg0.N, win0_2.index t (0 : Fin 2) = 0 ∧ win0_2.index t (1 : Fin 2) = 0 :=
  (by decide +kernel : ∀ t : Fin grid0.N, _)

theorem blk2_at (t : Fin cfg0.N) (k : Fin 1024) (q : Fin 768) :
    (iblk m c 2 t : Vec Ideal S1024x768 .bf16) (ix2 k q) = V m c main_v5 (ix2 (k) q) := by
  obtain ⟨e0, e1⟩ := map2 t
  unfold iblk
  rw [View.read_apply]
  show V m c main_v5 _ = _
  congr 1
  funext a; apply Fin.ext
  match a with
  | ⟨0, _⟩ => show win0_2.index t (0 : Fin 2) * 1024 + 1 * k.val = k.val; omega
  | ⟨1, _⟩ => show win0_2.index t (1 : Fin 2) * 768 + 1 * q.val = q.val; omega

theorem map3 : ∀ t : Fin cfg0.N, win0_3.index t (0 : Fin 2) = 0 ∧ win0_3.index t (1 : Fin 2) = 0 :=
  (by decide +kernel : ∀ t : Fin grid0.N, _)

theorem blk3_at (t : Fin cfg0.N) (k : Fin 1) (q : Fin 384) :
    (iblk m c 3 t : Vec Ideal S1x384 .f32) (ix2 k q) = V m c main_v78 (ix2 (k) q) := by
  obtain ⟨e0, e1⟩ := map3 t
  unfold iblk
  rw [View.read_apply]
  show V m c main_v78 _ = _
  congr 1
  funext a; apply Fin.ext
  match a with
  | ⟨0, _⟩ => show win0_3.index t (0 : Fin 2) * 1 + 1 * k.val = k.val; omega
  | ⟨1, _⟩ => show win0_3.index t (1 : Fin 2) * 384 + 1 * q.val = q.val; omega

theorem map4 : ∀ t : Fin cfg0.N, win0_4.index t (0 : Fin 2) = 0 ∧ win0_4.index t (1 : Fin 2) = 0 :=
  (by decide +kernel : ∀ t : Fin grid0.N, _)

theorem blk4_at (t : Fin cfg0.N) (k : Fin 1) (q : Fin 256) :
    (iblk m c 4 t : Vec Ideal S1x256 .f32) (ix2 k q) = V m c main_v79 (ix2 (k) q) := by
  obtain ⟨e0, e1⟩ := map4 t
  unfold iblk
  rw [View.read_apply]
  show V m c main_v79 _ = _
  congr 1
  funext a; apply Fin.ext
  match a with
  | ⟨0, _⟩ => show win0_4.index t (0 : Fin 2) * 1 + 1 * k.val = k.val; omega
  | ⟨1, _⟩ => show win0_4.index t (1 : Fin 2) * 256 + 1 * q.val = q.val; omega

theorem map5 : ∀ t : Fin cfg0.N, win0_5.index t (0 : Fin 2) = 0 ∧ win0_5.index t (1 : Fin 2) = 0 :=
  (by decide +kernel : ∀ t : Fin grid0.N, _)

theorem blk5_at (t : Fin cfg0.N) (k : Fin 384) (q : Fin 2048) :
    (iblk m c 5 t : Vec Ideal S384x2048 .bf16) (ix2 k q) = V m c main_v9 (ix2 (k) q) := by
  obtain ⟨e0, e1⟩ := map5 t
  unfold iblk
  rw [View.read_apply]
  show V m c main_v9 _ = _
  congr 1
  funext a; apply Fin.ext
  match a with
  | ⟨0, _⟩ => show win0_5.index t (0 : Fin 2) * 384 + 1 * k.val = k.val; omega
  | ⟨1, _⟩ => show win0_5.index t (1 : Fin 2) * 2048 + 1 * q.val = q.val; omega

theorem map6 : ∀ t : Fin cfg0.N, win0_6.index t (0 : Fin 2) = 0 ∧ win0_6.index t (1 : Fin 2) = 0 :=
  (by decide +kernel : ∀ t : Fin grid0.N, _)

theorem blk6_at (t : Fin cfg0.N) (k : Fin 256) (q : Fin 2048) :
    (iblk m c 6 t : Vec Ideal S256x2048 .bf16) (ix2 k q) = V m c main_v14 (ix2 (k) q) := by
  obtain ⟨e0, e1⟩ := map6 t
  unfold iblk
  rw [View.read_apply]
  show V m c main_v14 _ = _
  congr 1
  funext a; apply Fin.ext
  match a with
  | ⟨0, _⟩ => show win0_6.index t (0 : Fin 2) * 256 + 1 * k.val = k.val; omega
  | ⟨1, _⟩ => show win0_6.index t (1 : Fin 2) * 2048 + 1 * q.val = q.val; omega

theorem map7 : ∀ t : Fin cfg0.N, win0_7.index t (0 : Fin 2) = 0 ∧ win0_7.index t (1 : Fin 2) = 0 :=
  (by decide +kernel : ∀ t : Fin grid0.N, _)

theorem blk7_at (t : Fin cfg0.N) (k : Fin 256) (q : Fin 1024) :
    (iblk m c 7 t : Vec Ideal S256x1024 .bf16) (ix2 k q) = V m c main_v18 (ix2 (k) q) := by
  obtain ⟨e0, e1⟩ := map7 t
  unfold iblk
  rw [View.read_apply]
  show V m c main_v18 _ = _
  congr 1
  funext a; apply Fin.ext
  match a with
  | ⟨0, _⟩ => show win0_7.index t (0 : Fin 2) * 256 + 1 * k.val = k.val; omega
  | ⟨1, _⟩ => show win0_7.index t (1 : Fin 2) * 1024 + 1 * q.val = q.val; omega

theorem map8 : ∀ t : Fin cfg0.N, win0_8.index t (0 : Fin 2) = 0 ∧ win0_8.index t (1 : Fin 2) = 0 :=
  (by decide +kernel : ∀ t : Fin grid0.N, _)

theorem blk8_at (t : Fin cfg0.N) (k : Fin 1) (q : Fin 256) :
    (iblk m c 8 t : Vec Ideal S1x256 .f32) (ix2 k q) = V m c main_v26 (ix2 (k) q) := by
  obtain ⟨e0, e1⟩ := map8 t
  unfold iblk
  rw [View.read_apply]
  show V m c main_v26 _ = _
  congr 1
  funext a; apply Fin.ext
  match a with
  | ⟨0, _⟩ => show win0_8.index t (0 : Fin 2) * 1 + 1 * k.val = k.val; omega
  | ⟨1, _⟩ => show win0_8.index t (1 : Fin 2) * 256 + 1 * q.val = q.val; omega

theorem map9 : ∀ t : Fin cfg0.N, win0_9.index t (0 : Fin 2) = 0 ∧ win0_9.index t (1 : Fin 2) = 0 :=
  (by decide +kernel : ∀ t : Fin grid0.N, _)

theorem blk9_at (t : Fin cfg0.N) (k : Fin 1) (q : Fin 256) :
    (iblk m c 9 t : Vec Ideal S1x256 .f32) (ix2 k q) = V m c main_v31 (ix2 (k) q) := by
  obtain ⟨e0, e1⟩ := map9 t
  unfold iblk
  rw [View.read_apply]
  show V m c main_v31 _ = _
  congr 1
  funext a; apply Fin.ext
  match a with
  | ⟨0, _⟩ => show win0_9.index t (0 : Fin 2) * 1 + 1 * k.val = k.val; omega
  | ⟨1, _⟩ => show win0_9.index t (1 : Fin 2) * 256 + 1 * q.val = q.val; omega

theorem map10 : ∀ t : Fin cfg0.N, win0_10.index t (0 : Fin 2) = t.val % 8 ∧ win0_10.index t (1 : Fin 2) = 0 :=
  (by decide +kernel : ∀ t : Fin grid0.N, _)

theorem blk10_at (t : Fin cfg0.N) (k : Fin 512) (q : Fin 256) :
    (iblk m c 10 t : Vec Ideal S512x256 .f32) (ix2 k q) = V m c main_v61 (ix2 ((⟨t.val % 8 * 512 + k.val, by omega⟩ : Fin 4096)) q) := by
  obtain ⟨e0, e1⟩ := map10 t
  unfold iblk
  rw [View.read_apply]
  show V m c main_v61 _ = _
  congr 1
  funext a; apply Fin.ext
  match a with
  | ⟨0, _⟩ => show win0_10.index t (0 : Fin 2) * 512 + 1 * k.val = t.val % 8 * 512 + k.val; omega
  | ⟨1, _⟩ => show win0_10.index t (1 : Fin 2) * 256 + 1 * q.val = q.val; omega

theorem map11 : ∀ t : Fin cfg0.N, win0_11.index t (0 : Fin 2) = t.val % 8 ∧ win0_11.index t (1 : Fin 2) = 0 :=
  (by decide +kernel : ∀ t : Fin grid0.N, _)

theorem blk11_at (t : Fin cfg0.N) (k : Fin 512) (q : Fin 256) :
    (iblk m c 11 t : Vec Ideal S512x256 .f32) (ix2 k q) = V m c main_v64 (ix2 ((⟨t.val % 8 * 512 + k.val, by omega⟩ : Fin 4096)) q) := by
  obtain ⟨e0, e1⟩ := map11 t
  unfold iblk
  rw [View.read_apply]
  show V m c main_v64 _ = _
  congr 1
  funext a; apply Fin.ext
  match a with
  | ⟨0, _⟩ => show win0_11.index t (0 : Fin 2) * 512 + 1 * k.val = t.val % 8 * 512 + k.val; omega
  | ⟨1, _⟩ => show win0_11.index t (1 : Fin 2) * 256 + 1 * q.val = q.val; omega

theorem map12 : ∀ t : Fin cfg0.N, win0_12.index t (0 : Fin 2) = t.val % 8 ∧ win0_12.index t (1 : Fin 2) = 0 :=
  (by decide +kernel : ∀ t : Fin grid0.N, _)

theorem blk12_at (t : Fin cfg0.N) (k : Fin 512) (q : Fin 256) :
    (iblk m c 12 t : Vec Ideal S512x256 .f32) (ix2 k q) = V m c main_v67 (ix2 ((⟨t.val % 8 * 512 + k.val, by omega⟩ : Fin 4096)) q) := by
  obtain ⟨e0, e1⟩ := map12 t
  unfold iblk
  rw [View.read_apply]
  show V m c main_v67 _ = _
  congr 1
  funext a; apply Fin.ext
  match a with
  | ⟨0, _⟩ => show win0_12.index t (0 : Fin 2) * 512 + 1 * k.val = t.val % 8 * 512 + k.val; omega
  | ⟨1, _⟩ => show win0_12.index t (1 : Fin 2) * 256 + 1 * q.val = q.val; omega

theorem map13 : ∀ t : Fin cfg0.N, win0_13.index t (0 : Fin 2) = 0 ∧ win0_13.index t (1 : Fin 2) = 0 :=
  (by decide +kernel : ∀ t : Fin grid0.N, _)

theorem blk13_at (t : Fin cfg0.N) (k : Fin 256) (q : Fin 256) :
    (iblk m c 13 t : Vec Ideal S256x256 .bf16) (ix2 k q) = V m c main_v76 (ix2 (k) q) := by
  obtain ⟨e0, e1⟩ := map13 t
  unfold iblk
  rw [View.read_apply]
  show V m c main_v76 _ = _
  congr 1
  funext a; apply Fin.ext
  match a with
  | ⟨0, _⟩ => show win0_13.index t (0 : Fin 2) * 256 + 1 * k.val = k.val; omega
  | ⟨1, _⟩ => show win0_13.index t (1 : Fin 2) * 256 + 1 * q.val = q.val; omega

/-- The gains and the weights before the heads' normalisations are real. -/
def Args (c : Dev nD) : Prop := Reals (A1 m c) (A2 m c) (A3 m c) (A4 m c) (A5 m c) (A6 m c)

theorem inputs (t : Fin cfg0.N) (r : Fin 512) : Inputs (A0 m c) (A1 m c) (A2 m c) (A3 m c) (A4 m c) (A5 m c) (A6 m c)
    (iblk m c 0 t) (iblk m c 1 t) (iblk m c 2 t) (iblk m c 3 t) (iblk m c 4 t) (iblk m c 5 t) (iblk m c 6 t) (iblk m c 7 t) (row t r) r where
  x0 k := (blk0_at m c t r k).trans (congrFun (V_main_arg0 m c) _)
  x1 k := by
    rw [blk1_at, V_G]
    pointwise
  x2 k q := (blk2_at m c t k q).trans (congrFun (V_W m c) _)
  x3 k := by
    rw [blk3_at, V_gq]
    pointwise
  x4 k := by
    rw [blk4_at, V_gk]
    pointwise
  x5 k q := (blk5_at m c t k q).trans (congrFun (V_Wq m c) _)
  x6 k q := (blk6_at m c t k q).trans (congrFun (V_Wk m c) _)
  x7 k q := (blk7_at m c t k q).trans (congrFun (V_Wv m c) _)

theorem row_mod (t : Fin cfg0.N) (r : Fin 512) :
    (⟨t.val % 8 * 512 + r.val, by omega⟩ : Fin 4096) = place (row t r) :=
  Fin.ext (by show t.val % 8 * 512 + r.val = (t.val * 512 + r.val) % 4096; omega)

theorem tableC (t : Fin cfg0.N) (r : Fin 512) (l : Fin 256) :
    (iblk m c 10 t : Vec Ideal S512x256 .f32) (ix2 r l) = hostC (ix2 (place (row t r)) l) := by
  rw [blk10_at, V_C, row_mod]

theorem tableU (t : Fin cfg0.N) (r : Fin 512) (l : Fin 256) :
    (iblk m c 11 t : Vec Ideal S512x256 .f32) (ix2 r l) = hostU (ix2 (place (row t r)) l) := by
  rw [blk11_at, V_U, row_mod]

theorem tableD (t : Fin cfg0.N) (r : Fin 512) (l : Fin 256) :
    (iblk m c 12 t : Vec Ideal S512x256 .f32) (ix2 r l) = hostD (ix2 (place (row t r)) l) := by
  rw [blk12_at, V_D, row_mod]

theorem heads (t : Fin cfg0.N) (l p : Fin 256) :
    (iblk m c 13 t : Vec Ideal S256x256 .bf16) (ix2 l p) = if l.val / 128 = p.val / 128 then (1 : EReal) else (0 : EReal) := by
  rw [blk13_at, V_E]
  exact Cert.Kernel4Ideal.Dil.segs_at l p

/-! ## What the body leaves at a point -/

theorem left14 (t : Fin cfg0.N) : (outsAt0 m c t).1 = blockQ (headsQ (iblk m c 0 t) (iblk m c 1 t) (iblk m c 2 t) (iblk m c 3 t) (iblk m c 5 t)) (iblk m c 8 t) (iblk m c 13 t) (iblk m c 10 t) (iblk m c 11 t) (iblk m c 12 t) := by
  unfold outsAt0
  dsimp only
  rw [outQ_eq]

theorem left15 (t : Fin cfg0.N) : (outsAt0 m c t).2.1 = blockK (headsK (iblk m c 0 t) (iblk m c 1 t) (iblk m c 2 t) (iblk m c 4 t) (iblk m c 6 t)) (shared (iblk m c 0 t) (iblk m c 1 t) (iblk m c 2 t)) (iblk m c 9 t) (iblk m c 13 t) (iblk m c 10 t) (iblk m c 11 t) (iblk m c 12 t) := by
  unfold outsAt0
  dsimp only
  rw [outK_eq]

theorem left16 (t : Fin cfg0.N) : (outsAt0 m c t).2.2 = blockV (headsV (iblk m c 0 t) (iblk m c 1 t) (iblk m c 2 t) (iblk m c 4 t) (iblk m c 7 t)) := by
  unfold outsAt0
  dsimp only
  rw [outV_eq]

/-- The queries. -/
def arrQ (c : Dev nD) : Buf (Elt Ideal) ((c : Thread nD τ).loc main_v80_0) := fun i =>
  MlaRef.queries (A0 m c) (A1 m c) (A2 m c) (A3 m c) (A5 m c) (A7 m c) (i 0) (i 1)

/-- The keys. -/
def arrK (c : Dev nD) : Buf (Elt Ideal) ((c : Thread nD τ).loc main_v80_1) := fun i =>
  MlaRef.keys (A0 m c) (A1 m c) (A2 m c) (A4 m c) (A6 m c) (A8 m c) (i 0) (i 1)

/-- The values. -/
def arrV (c : Dev nD) : Buf (Elt Ideal) ((c : Thread nD τ).loc main_v80_2) := fun i =>
  MlaRef.values (A0 m c) (A1 m c) (A2 m c) (A4 m c) (A6 m c) (i 0) (i 1) (i 2)

theorem out14_at (hr : Args m c) (t : Fin cfg0.N) (r : Fin 512) (o : Fin 2048) :
    ((outsAt0 m c t).1 : Vec Ideal S512x2048 .bf16) (ix2 r o)
      = MlaRef.queries (A0 m c) (A1 m c) (A2 m c) (A3 m c) (A5 m c) (A7 m c) (row t r) o := by
  rw [left14]
  exact entQ_eq (inputs m c t r) hr (fun l => tableC m c t r l) (fun l => tableU m c t r l) (fun l => tableD m c t r l)
    (fun l p => heads m c t l p) (fun l => (blk8_at m c t 0 l).trans (congrFun (V_qg m c) _)) o

theorem out15_at (hr : Args m c) (t : Fin cfg0.N) (r : Fin 512) (o : Fin 2048) :
    ((outsAt0 m c t).2.1 : Vec Ideal S512x2048 .bf16) (ix2 r o)
      = MlaRef.keys (A0 m c) (A1 m c) (A2 m c) (A4 m c) (A6 m c) (A8 m c) (row t r) o := by
  rw [left15]
  exact entK_eq (inputs m c t r) hr (fun l => tableC m c t r l) (fun l => tableU m c t r l) (fun l => tableD m c t r l)
    (fun l p => heads m c t l p) (fun l => (blk9_at m c t 0 l).trans (congrFun (V_kg m c) _)) o

theorem out16_at (t : Fin cfg0.N) (b : Fin 2) (e : Fin 1024) (s : Fin 256) :
    ((outsAt0 m c t).2.2 : Vec Ideal S2x1024x256 .bf16) (ix3 b e s)
      = MlaRef.values (A0 m c) (A1 m c) (A2 m c) (A4 m c) (A6 m c)
        ⟨t.val * 2 + b.val, by have h := lt_of_lt_of_eq t.isLt N_eq; omega⟩ e s := by
  rw [left16]
  refine (headsV_eq (inputs m c t ⟨256 * b.val + s.val, by omega⟩) e).trans ?_
  unfold MlaRef.values
  exact congrArg (fun R => MlaRef.kv (A0 m c) (A1 m c) (A2 m c) (A4 m c) (A6 m c) R ⟨e.val / 64, by omega⟩ ⟨64 + e.val % 64, by omega⟩)
    (Fin.ext (by show t.val * 512 + (256 * b.val + s.val) = 256 * (t.val * 2 + b.val) + s.val; omega))

/-! ## The arrays -/

theorem map14 : ∀ t : Fin cfg0.N, win0_14.index t (0 : Fin 2) = t.val ∧ win0_14.index t (1 : Fin 2) = 0 :=
  (by decide +kernel : ∀ t : Fin grid0.N, _)

/-- What a point writes back is its block of the array. -/
theorem flushed14_eq (hr : Args m c) (t : Fin cfg0.N) :
    (dats m 0 c).flushed 14 t = ((cfg0.win 14).blk t).view.read (Elt Ideal) (arrQ m c) := by
  rw [Value.flushed14]
  obtain ⟨e0, e1⟩ := map14 t
  funext y
  have hb0 : (((cfg0.win 14).blk t).view.emb y 0).val = win0_14.index t (0 : Fin 2) * 512 + 1 * (y 0).val := rfl
  have hb1 : (((cfg0.win 14).blk t).view.emb y 1).val = win0_14.index t (1 : Fin 2) * 2048 + 1 * (y 1).val := rfl
  rw [View.read_apply]
  have hl : (cfg0.win 14).cut (grid0.coords t) ((outsAt0 m c t).1) y = (outsAt0 m c t).1 y := rfl
  rw [hl]
  refine (congrArg ((outsAt0 m c t).1) (ix2_eta (n0 := 512) (n1 := 2048) y).symm).trans ((out14_at m c hr t (y 0) (y 1)).trans ?_)
  have q0 : ((cfg0.win 14).blk t).view.emb y 0 = row t (y 0) := Fin.ext (by
    rw [hb0]; show _ = t.val * 512 + (y 0).val; omega)
  have q1 : ((cfg0.win 14).blk t).view.emb y 1 = y 1 := Fin.ext (by rw [hb1]; omega)
  show _ = MlaRef.queries (A0 m c) (A1 m c) (A2 m c) (A3 m c) (A5 m c) (A7 m c) (((cfg0.win 14).blk t).view.emb y 0) (((cfg0.win 14).blk t).view.emb y 1)
  rw [q0, q1]

theorem mem14 (t : Fin cfg0.N) (i : S65536x2048.Idx) :
    i ∈ ((cfg0.win 14).blk t).view.set ↔ ∀ a : Fin 2, win0_14.index t a * S512x2048.size a ≤ (i a).val
      ∧ (i a).val < win0_14.index t a * S512x2048.size a + S512x2048.size a := by
  show i ∈ ((View.whole main_v80_0).slice (win0_14.rect t)).set ↔ _
  rw [View.set_slice_whole, Rect.mem_set_unit]
  exact Iff.rfl

/-- The blocks tile the array. -/
theorem covered14 (i : S65536x2048.Idx) :
    ∃ t : Fin cfg0.N, (cfg0.win 14).flush t = true ∧ i ∈ ((cfg0.win 14).blk t).view.set := by
  have h0 : (i 0).val < 65536 := (i 0).isLt
  have h1 : (i 1).val < 2048 := (i 1).isLt
  refine ⟨⟨(i 0).val / 512, by rw [N_eq]; omega⟩, flush0_14 _, ?_⟩
  rw [mem14]
  obtain ⟨e0, e1⟩ := map14 ⟨(i 0).val / 512, by rw [N_eq]; omega⟩
  intro a
  match a with
  | ⟨0, _⟩ => show win0_14.index _ (0 : Fin 2) * 512 ≤ (i 0).val ∧ (i 0).val < win0_14.index _ (0 : Fin 2) * 512 + 512; rw [e0]; dsimp only; omega
  | ⟨1, _⟩ => show win0_14.index _ (1 : Fin 2) * 2048 ≤ (i 1).val ∧ (i 1).val < win0_14.index _ (1 : Fin 2) * 2048 + 2048; rw [e1]; dsimp only; omega

/-- The array after the run. -/
theorem final14 (hr : Args m c) : (dats m 0 c).arrAt 14 cfg0.N = arrQ m c :=
  (dats m 0 c).arrAt_eq_of_cover 14 _ (fun t _ => flushed14_eq m c hr t) covered14

theorem map15 : ∀ t : Fin cfg0.N, win0_15.index t (0 : Fin 2) = t.val ∧ win0_15.index t (1 : Fin 2) = 0 :=
  (by decide +kernel : ∀ t : Fin grid0.N, _)

/-- What a point writes back is its block of the array. -/
theorem flushed15_eq (hr : Args m c) (t : Fin cfg0.N) :
    (dats m 0 c).flushed 15 t = ((cfg0.win 15).blk t).view.read (Elt Ideal) (arrK m c) := by
  rw [Value.flushed15]
  obtain ⟨e0, e1⟩ := map15 t
  funext y
  have hb0 : (((cfg0.win 15).blk t).view.emb y 0).val = win0_15.index t (0 : Fin 2) * 512 + 1 * (y 0).val := rfl
  have hb1 : (((cfg0.win 15).blk t).view.emb y 1).val = win0_15.index t (1 : Fin 2) * 2048 + 1 * (y 1).val := rfl
  rw [View.read_apply]
  have hl : (cfg0.win 15).cut (grid0.coords t) ((outsAt0 m c t).2.1) y = (outsAt0 m c t).2.1 y := rfl
  rw [hl]
  refine (congrArg ((outsAt0 m c t).2.1) (ix2_eta (n0 := 512) (n1 := 2048) y).symm).trans ((out15_at m c hr t (y 0) (y 1)).trans ?_)
  have q0 : ((cfg0.win 15).blk t).view.emb y 0 = row t (y 0) := Fin.ext (by
    rw [hb0]; show _ = t.val * 512 + (y 0).val; omega)
  have q1 : ((cfg0.win 15).blk t).view.emb y 1 = y 1 := Fin.ext (by rw [hb1]; omega)
  show _ = MlaRef.keys (A0 m c) (A1 m c) (A2 m c) (A4 m c) (A6 m c) (A8 m c) (((cfg0.win 15).blk t).view.emb y 0) (((cfg0.win 15).blk t).view.emb y 1)
  rw [q0, q1]

theorem mem15 (t : Fin cfg0.N) (i : S65536x2048.Idx) :
    i ∈ ((cfg0.win 15).blk t).view.set ↔ ∀ a : Fin 2, win0_15.index t a * S512x2048.size a ≤ (i a).val
      ∧ (i a).val < win0_15.index t a * S512x2048.size a + S512x2048.size a := by
  show i ∈ ((View.whole main_v80_1).slice (win0_15.rect t)).set ↔ _
  rw [View.set_slice_whole, Rect.mem_set_unit]
  exact Iff.rfl

/-- The blocks tile the array. -/
theorem covered15 (i : S65536x2048.Idx) :
    ∃ t : Fin cfg0.N, (cfg0.win 15).flush t = true ∧ i ∈ ((cfg0.win 15).blk t).view.set := by
  have h0 : (i 0).val < 65536 := (i 0).isLt
  have h1 : (i 1).val < 2048 := (i 1).isLt
  refine ⟨⟨(i 0).val / 512, by rw [N_eq]; omega⟩, flush0_15 _, ?_⟩
  rw [mem15]
  obtain ⟨e0, e1⟩ := map15 ⟨(i 0).val / 512, by rw [N_eq]; omega⟩
  intro a
  match a with
  | ⟨0, _⟩ => show win0_15.index _ (0 : Fin 2) * 512 ≤ (i 0).val ∧ (i 0).val < win0_15.index _ (0 : Fin 2) * 512 + 512; rw [e0]; dsimp only; omega
  | ⟨1, _⟩ => show win0_15.index _ (1 : Fin 2) * 2048 ≤ (i 1).val ∧ (i 1).val < win0_15.index _ (1 : Fin 2) * 2048 + 2048; rw [e1]; dsimp only; omega

/-- The array after the run. -/
theorem final15 (hr : Args m c) : (dats m 0 c).arrAt 15 cfg0.N = arrK m c :=
  (dats m 0 c).arrAt_eq_of_cover 15 _ (fun t _ => flushed15_eq m c hr t) covered15

theorem map16 : ∀ t : Fin cfg0.N, win0_16.index t (0 : Fin 3) = t.val ∧ win0_16.index t (1 : Fin 3) = 0 ∧ win0_16.index t (2 : Fin 3) = 0 :=
  (by decide +kernel : ∀ t : Fin grid0.N, _)

/-- What a point writes back is its block of the array. -/
theorem flushed16_eq (t : Fin cfg0.N) :
    (dats m 0 c).flushed 16 t = ((cfg0.win 16).blk t).view.read (Elt Ideal) (arrV m c) := by
  rw [Value.flushed16]
  obtain ⟨e0, e1, e2⟩ := map16 t
  funext y
  have hb0 : (((cfg0.win 16).blk t).view.emb y 0).val = win0_16.index t (0 : Fin 3) * 2 + 1 * (y 0).val := rfl
  have hb1 : (((cfg0.win 16).blk t).view.emb y 1).val = win0_16.index t (1 : Fin 3) * 1024 + 1 * (y 1).val := rfl
  have hb2 : (((cfg0.win 16).blk t).view.emb y 2).val = win0_16.index t (2 : Fin 3) * 256 + 1 * (y 2).val := rfl
  rw [View.read_apply]
  have hl : (cfg0.win 16).cut (grid0.coords t) ((outsAt0 m c t).2.2) y = (outsAt0 m c t).2.2 y := rfl
  rw [hl]
  refine (congrArg ((outsAt0 m c t).2.2) (ix3_eta (n0 := 2) (n1 := 1024) (n2 := 256) y).symm).trans ((out16_at m c t (y 0) (y 1) (y 2)).trans ?_)
  have q0 : ((cfg0.win 16).blk t).view.emb y 0 = (⟨t.val * 2 + (y 0).val, by
      have h := lt_of_lt_of_eq t.isLt N_eq; have h2 : (y 0).val < 2 := (y 0).isLt; omega⟩ : Fin 256) := Fin.ext (by
    rw [hb0]; show _ = t.val * 2 + (y 0).val; omega)
  have q1 : ((cfg0.win 16).blk t).view.emb y 1 = y 1 := Fin.ext (by rw [hb1]; omega)
  have q2 : ((cfg0.win 16).blk t).view.emb y 2 = y 2 := Fin.ext (by rw [hb2]; omega)
  show _ = MlaRef.values (A0 m c) (A1 m c) (A2 m c) (A4 m c) (A6 m c) (((cfg0.win 16).blk t).view.emb y 0) (((cfg0.win 16).blk t).view.emb y 1)
    (((cfg0.win 16).blk t).view.emb y 2)
  rw [q0, q1, q2]

theorem mem16 (t : Fin cfg0.N) (i : S256x1024x256.Idx) :
    i ∈ ((cfg0.win 16).blk t).view.set ↔ ∀ a : Fin 3, win0_16.index t a * S2x1024x256.size a ≤ (i a).val
      ∧ (i a).val < win0_16.index t a * S2x1024x256.size a + S2x1024x256.size a := by
  show i ∈ ((View.whole main_v80_2).slice (win0_16.rect t)).set ↔ _
  rw [View.set_slice_whole, Rect.mem_set_unit]
  exact Iff.rfl

/-- The blocks tile the array. -/
theorem covered16 (i : S256x1024x256.Idx) :
    ∃ t : Fin cfg0.N, (cfg0.win 16).flush t = true ∧ i ∈ ((cfg0.win 16).blk t).view.set := by
  have h0 : (i 0).val < 256 := (i 0).isLt
  have h1 : (i 1).val < 1024 := (i 1).isLt
  have h2 : (i 2).val < 256 := (i 2).isLt
  refine ⟨⟨(i 0).val / 2, by rw [N_eq]; omega⟩, flush0_16 _, ?_⟩
  rw [mem16]
  obtain ⟨e0, e1, e2⟩ := map16 ⟨(i 0).val / 2, by rw [N_eq]; omega⟩
  intro a
  match a with
  | ⟨0, _⟩ => show win0_16.index _ (0 : Fin 3) * 2 ≤ (i 0).val ∧ (i 0).val < win0_16.index _ (0 : Fin 3) * 2 + 2; rw [e0]; dsimp only; omega
  | ⟨1, _⟩ => show win0_16.index _ (1 : Fin 3) * 1024 ≤ (i 1).val ∧ (i 1).val < win0_16.index _ (1 : Fin 3) * 1024 + 1024; rw [e1]; dsimp only; omega
  | ⟨2, _⟩ => show win0_16.index _ (2 : Fin 3) * 256 ≤ (i 2).val ∧ (i 2).val < win0_16.index _ (2 : Fin 3) * 256 + 256; rw [e2]; dsimp only; omega

/-- The array after the run. -/
theorem final16 : (dats m 0 c).arrAt 16 cfg0.N = arrV m c :=
  (dats m 0 c).arrAt_eq_of_cover 16 _ (fun t _ => flushed16_eq m c t) covered16

/-- The run, read: the three result arrays, and the arguments as launched. -/
theorem run (hr : ∀ c, Args m c) :
    θ_run defs (onTc (τ := τ) (main (F := Ideal))) ⟨m, fun _ => 0, ρ⟩ fun r => ∀ c : Dev nD,
      r.2.mem ((c : Thread nD τ).loc main_v80_0) = arrQ m c
      ∧ r.2.mem ((c : Thread nD τ).loc main_v80_1) = arrK m c
      ∧ r.2.mem ((c : Thread nD τ).loc main_v80_2) = arrV m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8) :=
  (θ_run defs _ _).mono (fun _ h c => ⟨(h c).1.trans (final14 m c (hr c)), (h c).2.1.trans (final15 m c (hr c)),
    (h c).2.2.1.trans (final16 m c), (h c).2.2.2⟩) (Value.run_blocks m ρ)

end Cert.Kernel7Ideal.Mla

end
-- ==== Proof.MlaClaim.lean ====
/-
  The claims about the latent attention's projection: its frames, and the equality with the reference over the extended reals when the
  gains and the weights before the heads' normalisations are real.
-/
module

public import proofs.«01_k».proof.Defs
public import proofs.«01_k».proof.Proof.MlaValue
public import proofs.«01_k».proof.Proof.MlaFinite
public import proofs.«01_k».proof.Proof.MlaRef
public import Idealize.ShloMosaic.Lib.Quiescent

@[expose] public section

set_option maxRecDepth 16384

noncomputable section

namespace Cert.MlaClaim

open Idealize.ShloMosaic Idealize.ShloMosaic.TcCoe Idealize.SL.Sem

/-- The reference ends, with its arguments unchanged and no counters left. -/
theorem frame_ref : Cert.quiescent_Reference7Ideal := fun m ρ _ =>
  (θ_run Cert.Reference7Ideal.defs _ _).mono (fun r h => ⟨fun c => (h c).2.2.2, sem_eq_zero_of_no_sems (by decide) r.2⟩)
    (Cert.Reference7Ideal.Value.run (F := Ideal) m ρ)

/-- Kernel and reference end with the same three arrays. -/
theorem value [Cert.Pre_finite7.Facts] : Cert.algebraic_Kernel7Ideal_Reference7Ideal_pre_finite7 := by
  intro m ρ m' ρ' hpre hag
  refine ⟨fun c => Cert.Kernel7Ideal.Mla.arrQ m c, fun c => Cert.Kernel7Ideal.Mla.arrK m c, fun c => Cert.Kernel7Ideal.Mla.arrV m c,
    Cert.Kernel7Ideal.Mla.run m ρ fun c => ?_, ?_⟩
  · obtain ⟨h1, h2, h3, h4, h5, h6⟩ := MlaFinite.real_of_pre _ _ _ _ _ _ _ _ _ (hpre c)
    exact ⟨fun i => h1 _, fun i j => h2 _, fun i => h3 _, fun i => h4 _, fun i j => h5 _, fun i j => h6 _⟩
  · refine (θ_run Cert.Reference7Ideal.defs _ _).mono (fun r h c => ⟨(h c).1.trans ?_, (h c).2.1.trans ?_, (h c).2.2.1.trans ?_, (h c).2.2.2⟩)
      (Cert.Reference7Ideal.Value.run (F := Ideal) m' ρ')
    · obtain ⟨e0, e1, e2, e3, e4, e5, e6, e7, e8⟩ := hag c
      refine (MlaRef.resQ_eq m' c).trans ?_
      rw [e0, e1, e2, e3, e5, e7]
      funext i
      rw [← ix2_eta (n0 := 65536) (n1 := 2048) i]
      exact MlaRef.outQ_at _ _ _ _ _ _ (i 0) (i 1)
    · obtain ⟨e0, e1, e2, e3, e4, e5, e6, e7, e8⟩ := hag c
      refine (MlaRef.resK_eq m' c).trans ?_
      rw [e0, e1, e2, e4, e6, e8]
      funext i
      rw [← ix2_eta (n0 := 65536) (n1 := 2048) i]
      exact MlaRef.outK_at _ _ _ _ _ _ (i 0) (i 1)
    · obtain ⟨e0, e1, e2, e3, e4, e5, e6, e7, e8⟩ := hag c
      have hv : MlaRef.outV (m' ((c.tc : Thread Cert.Reference7Ideal.nD Cert.Reference7Ideal.τ).loc Cert.Reference7Ideal.main_arg0))
          (m' ((c.tc : Thread Cert.Reference7Ideal.nD Cert.Reference7Ideal.τ).loc Cert.Reference7Ideal.main_arg1))
          (m' ((c.tc : Thread Cert.Reference7Ideal.nD Cert.Reference7Ideal.τ).loc Cert.Reference7Ideal.main_arg2))
          (m' ((c.tc : Thread Cert.Reference7Ideal.nD Cert.Reference7Ideal.τ).loc Cert.Reference7Ideal.main_arg4))
          (m' ((c.tc : Thread Cert.Reference7Ideal.nD Cert.Reference7Ideal.τ).loc Cert.Reference7Ideal.main_arg6))
          = Cert.Kernel7Ideal.Mla.arrV m c := by
        rw [e0, e1, e2, e4, e6]
        funext i
        rw [← ix3_eta (n0 := 256) (n1 := 1024) (n2 := 256) i]
        exact MlaRef.outV_at _ _ _ _ _ (i 0) (i 1) (i 2)
      exact hv

end Cert.MlaClaim

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.FrameIdeal
public import proofs.«01_k».proof.Proof.FrameBits
public import proofs.«01_k».proof.Proof.MlpClaim
public import proofs.«01_k».proof.Proof.AttnClaim
public import proofs.«01_k».proof.Proof.ProjClaim
public import proofs.«01_k».proof.Proof.DilClaim
public import proofs.«01_k».proof.Proof.Dil4Claim
public import proofs.«01_k».proof.Proof.Dil16Claim
public import proofs.«01_k».proof.Proof.MlaFinite
public import proofs.«01_k».proof.Proof.MlaClaim
public import Idealize.ShloMosaic.Adequacy
public import Idealize.ShloMosaic.Init

@[expose] public section

noncomputable section

namespace Cert.Proof

open Idealize.ShloMosaic Idealize.SL.Sem Cert.Kernel

/-- The mask constant is named by the certificate's table. -/
theorem preserves : Cert.preserves_Kernel_KernelIdeal :=
  IdealRules.named_const.statement Cert.KernelIdeal.κ "mask" .f32 0xF149F2CA#32 ⊥ rfl

/-- The gains' factor is named by the certificate's table. -/
theorem preserves4 : Cert.preserves_Kernel4_Kernel4Ideal :=
  IdealRules.named_const.statement Cert.Kernel4Ideal.κ "root" .f32 0x413504F3#32 ((Real.sqrt 128 : ℝ) : EReal) rfl

/-- The gains' factor is named by the certificate's table. -/
theorem preserves5 : Cert.preserves_Kernel5_Kernel5Ideal :=
  IdealRules.named_const.statement Cert.Kernel5Ideal.κ "root" .f32 0x413504F3#32 ((Real.sqrt 128 : ℝ) : EReal) rfl

/-- The gains' factor is named by the certificate's table. -/
theorem preserves6 : Cert.preserves_Kernel6_Kernel6Ideal :=
  IdealRules.named_const.statement Cert.Kernel6Ideal.κ "root" .f32 0x413504F3#32 ((Real.sqrt 128 : ℝ) : EReal) rfl

/-- The normalisations' epsilon and the gains' factor are named by the certificate's table. -/
theorem preserves7 : Cert.preserves_Kernel7_Kernel7Ideal :=
  ⟨IdealRules.named_const.statement Cert.Kernel7Ideal.κ "eps" .f32 0x38C9539C#32 ((26388279 * 274877906944⁻¹ : ℝ) : EReal) rfl,
    IdealRules.named_const.statement Cert.Kernel7Ideal.κ "root" .f32 0x411CC471#32 ((Real.sqrt 96 : ℝ) : EReal) rfl⟩

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    AttnFinite.facts, ProjFinite.facts, MlaFinite.facts,
    fun m ρ _ => Cert.Kernel.Body.frame m ρ,
    fun m ρ _ => Cert.KernelIdeal.Body.frame m ρ,
    fun m ρ _ => Cert.KernelIdeal.Body.frame m ρ,
    AttnClaim.frame_ref,
    fun m ρ _ => AttnClaim.frame_ref m ρ trivial,
    fun m ρ _ => Cert.Kernel2.Gen.frame m ρ,
    fun m ρ _ => Cert.Kernel2Ideal.Gen.frame m ρ,
    MlpClaim.frame_ref,
    fun m ρ _ => Cert.Kernel3.Gen.frame m ρ,
    fun m ρ _ => Cert.Kernel3Ideal.Gen.frame m ρ,
    fun m ρ _ => Cert.Kernel3Ideal.Gen.frame m ρ,
    ProjClaim.frame_ref,
    fun m ρ _ => ProjClaim.frame_ref m ρ trivial,
    fun m ρ _ => Cert.Kernel4.Gen.frame m ρ,
    fun m ρ _ => Cert.Kernel4Ideal.Gen.frame m ρ,
    fun m ρ _ => Cert.Kernel4Ideal.Gen.frame m ρ,
    DilClaim.frame_ref,
    fun m ρ _ => DilClaim.frame_ref m ρ trivial,
    fun m ρ _ => Cert.Kernel5.Gen.frame m ρ,
    fun m ρ _ => Cert.Kernel5Ideal.Gen.frame m ρ,
    fun m ρ _ => Cert.Kernel5Ideal.Gen.frame m ρ,
    Dil4Claim.frame_ref,
    fun m ρ _ => Dil4Claim.frame_ref m ρ trivial,
    fun m ρ _ => Cert.Kernel6.Gen.frame m ρ,
    fun m ρ _ => Cert.Kernel6Ideal.Gen.frame m ρ,
    fun m ρ _ => Cert.Kernel6Ideal.Gen.frame m ρ,
    Dil16Claim.frame_ref,
    fun m ρ _ => Dil16Claim.frame_ref m ρ trivial,
    fun m ρ _ => Cert.Kernel7.Gen.frame m ρ,
    fun m ρ _ => Cert.Kernel7Ideal.Gen.frame m ρ,
    fun m ρ _ => Cert.Kernel7Ideal.Gen.frame m ρ,
    MlaClaim.frame_ref,
    fun m ρ _ => MlaClaim.frame_ref m ρ trivial,
    preserves,
    (letI := AttnFinite.facts; AttnClaim.value),
    trivial,
    MlpClaim.value,
    trivial,
    (letI := ProjFinite.facts; ProjClaim.value),
    preserves4,
    (letI := ProjFinite.facts; DilClaim.value),
    preserves5,
    (letI := ProjFinite.facts; Dil4Claim.value),
    preserves6,
    (letI := ProjFinite.facts; Dil16Claim.value),
    preserves7,
    (letI := MlaFinite.facts; MlaClaim.value)⟩

end Cert.Proof

end
